-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_real_qk [hPre_real_qk : Cert.Pre_real_qk.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_real_qk.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_real_qk [hPre_real_qk : Cert.Pre_real_qk.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_real_qk.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4 (m : (ℓ : Loc Cert.Reference4.nD Cert.Reference4.τ Cert.Reference4.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_real_qk [hKernel2Ideal : Cert.Kernel2Ideal.Facts] [hPre_real_qk : Cert.Pre_real_qk.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_real_qk m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_real_qk [hReference2Ideal : Cert.Reference2Ideal.Facts] [hPre_real_qk : Cert.Pre_real_qk.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_real_qk m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3)
      ∧ r.2.mem ((c.tc : Thread Cert.Reference3.nD Cert.Reference3.τ).loc Cert.Reference3.main_arg4) = m ((c.tc : Thread Cert.Reference3.nD Cert.Reference3.τ).loc Cert.Reference3.main_arg4)
      ∧ r.2.mem ((c.tc : Thread Cert.Reference3.nD Cert.Reference3.τ).loc Cert.Reference3.main_arg5) = m ((c.tc : Thread Cert.Reference3.nD Cert.Reference3.τ).loc Cert.Reference3.main_arg5)
      ∧ r.2.mem ((c.tc : Thread Cert.Reference3.nD Cert.Reference3.τ).loc Cert.Reference3.main_arg6) = m ((c.tc : Thread Cert.Reference3.nD Cert.Reference3.τ).loc Cert.Reference3.main_arg6)
      ∧ r.2.mem ((c.tc : Thread Cert.Reference3.nD Cert.Reference3.τ).loc Cert.Reference3.main_arg7) = m ((c.tc : Thread Cert.Reference3.nD Cert.Reference3.τ).loc Cert.Reference3.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4)
      ∧ r.2.mem ((c.tc : Thread Cert.Reference4.nD Cert.Reference4.τ).loc Cert.Reference4.main_arg5) = m ((c.tc : Thread Cert.Reference4.nD Cert.Reference4.τ).loc Cert.Reference4.main_arg5)
      ∧ r.2.mem ((c.tc : Thread Cert.Reference4.nD Cert.Reference4.τ).loc Cert.Reference4.main_arg6) = m ((c.tc : Thread Cert.Reference4.nD Cert.Reference4.τ).loc Cert.Reference4.main_arg6)
      ∧ r.2.mem ((c.tc : Thread Cert.Reference4.nD Cert.Reference4.τ).loc Cert.Reference4.main_arg7) = m ((c.tc : Thread Cert.Reference4.nD Cert.Reference4.τ).loc Cert.Reference4.main_arg7)
      ∧ r.2.mem ((c.tc : Thread Cert.Reference4.nD Cert.Reference4.τ).loc Cert.Reference4.main_arg8) = m ((c.tc : Thread Cert.Reference4.nD Cert.Reference4.τ).loc Cert.Reference4.main_arg8)
      ∧ r.2.mem ((c.tc : Thread Cert.Reference4.nD Cert.Reference4.τ).loc Cert.Reference4.main_arg9) = m ((c.tc : Thread Cert.Reference4.nD Cert.Reference4.τ).loc Cert.Reference4.main_arg9)
      ∧ r.2.mem ((c.tc : Thread Cert.Reference4.nD Cert.Reference4.τ).loc Cert.Reference4.main_arg10) = m ((c.tc : Thread Cert.Reference4.nD Cert.Reference4.τ).loc Cert.Reference4.main_arg10))
      ∧ r.2.sem = fun _ => 0)

def preserves_Kernel2_Kernel2Ideal : Prop :=
  True

def preserves_Reference2_Reference2Ideal : Prop :=
  True

def algebraic_Kernel2Ideal_Reference2Ideal_pre_real_qk [hKernel2Ideal : Cert.Kernel2Ideal.Facts] [hReference2Ideal : Cert.Reference2Ideal.Facts] [hPre_real_qk : Cert.Pre_real_qk.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_real_qk m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  IdealRules.named_const.Statement Cert.Kernel4Ideal.κ "scale_a" .f32 0x3E38AA3B#32 ((((Real.sqrt 64) * (Real.log 2))⁻¹ : ℝ) : EReal)
  ∧ IdealRules.named_const.Statement Cert.Kernel4Ideal.κ "scale_c" .f32 0x3E16C740#32 ((((Real.sqrt 96) * (Real.log 2))⁻¹ : ℝ) : EReal)
  ∧ IdealRules.named_const.Statement Cert.Kernel4Ideal.κ "inv_qk" .f32 0x3C2AAAAB#32 ((1 / 96 : ℝ) : EReal)

def preserves_Reference4_Reference4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v66_0)) (v1 : (c : Dev Cert.Kernel4Ideal.nD) → Buf (Elt Ideal) ((c.tc : Thread Cert.Kernel4Ideal.nD Cert.Kernel4Ideal.τ).loc Cert.Kernel4Ideal.main_v66_1)) (v2 : (c : Dev Cert.Kernel4Ideal.nD) → Buf (Elt Ideal) ((c.tc : Thread Cert.Kernel4Ideal.nD Cert.Kernel4Ideal.τ).loc Cert.Kernel4Ideal.main_v66_2)) (v3 : (c : Dev Cert.Kernel4Ideal.nD) → Buf (Elt Ideal) ((c.tc : Thread Cert.Kernel4Ideal.nD Cert.Kernel4Ideal.τ).loc Cert.Kernel4Ideal.main_v66_3)) (v4 : (c : Dev Cert.Kernel4Ideal.nD) → Buf (Elt Ideal) ((c.tc : Thread Cert.Kernel4Ideal.nD Cert.Kernel4Ideal.τ).loc Cert.Kernel4Ideal.main_v66_4)) (v5 : (c : Dev Cert.Kernel4Ideal.nD) → Buf (Elt Ideal) ((c.tc : Thread Cert.Kernel4Ideal.nD Cert.Kernel4Ideal.τ).loc Cert.Kernel4Ideal.main_v66_5)) (v6 : (c : Dev Cert.Kernel4Ideal.nD) → Buf (Elt Ideal) ((c.tc : Thread Cert.Kernel4Ideal.nD Cert.Kernel4Ideal.τ).loc Cert.Kernel4Ideal.main_v66_6)) (v7 : (c : Dev Cert.Kernel4Ideal.nD) → Buf (Elt Ideal) ((c.tc : Thread Cert.Kernel4Ideal.nD Cert.Kernel4Ideal.τ).loc Cert.Kernel4Ideal.main_v66_7)) (v8 : (c : Dev Cert.Kernel4Ideal.nD) → Buf (Elt Ideal) ((c.tc : Thread Cert.Kernel4Ideal.nD Cert.Kernel4Ideal.τ).loc Cert.Kernel4Ideal.main_v66_8)) (v9 : (c : Dev Cert.Kernel4Ideal.nD) → Buf (Elt Ideal) ((c.tc : Thread Cert.Kernel4Ideal.nD Cert.Kernel4Ideal.τ).loc Cert.Kernel4Ideal.main_v66_9)) (v10 : (c : Dev Cert.Kernel4Ideal.nD) → Buf (Elt Ideal) ((c.tc : Thread Cert.Kernel4Ideal.nD Cert.Kernel4Ideal.τ).loc Cert.Kernel4Ideal.main_v66_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v66_0) = v0 c
          ∧ r.2.mem ((c.tc : Thread Cert.Kernel4Ideal.nD Cert.Kernel4Ideal.τ).loc Cert.Kernel4Ideal.main_v66_1) = v1 c
          ∧ r.2.mem ((c.tc : Thread Cert.Kernel4Ideal.nD Cert.Kernel4Ideal.τ).loc Cert.Kernel4Ideal.main_v66_2) = v2 c
          ∧ r.2.mem ((c.tc : Thread Cert.Kernel4Ideal.nD Cert.Kernel4Ideal.τ).loc Cert.Kernel4Ideal.main_v66_3) = v3 c
          ∧ r.2.mem ((c.tc : Thread Cert.Kernel4Ideal.nD Cert.Kernel4Ideal.τ).loc Cert.Kernel4Ideal.main_v66_4) = v4 c
          ∧ r.2.mem ((c.tc : Thread Cert.Kernel4Ideal.nD Cert.Kernel4Ideal.τ).loc Cert.Kernel4Ideal.main_v66_5) = v5 c
          ∧ r.2.mem ((c.tc : Thread Cert.Kernel4Ideal.nD Cert.Kernel4Ideal.τ).loc Cert.Kernel4Ideal.main_v66_6) = v6 c
          ∧ r.2.mem ((c.tc : Thread Cert.Kernel4Ideal.nD Cert.Kernel4Ideal.τ).loc Cert.Kernel4Ideal.main_v66_7) = v7 c
          ∧ r.2.mem ((c.tc : Thread Cert.Kernel4Ideal.nD Cert.Kernel4Ideal.τ).loc Cert.Kernel4Ideal.main_v66_8) = v8 c
          ∧ r.2.mem ((c.tc : Thread Cert.Kernel4Ideal.nD Cert.Kernel4Ideal.τ).loc Cert.Kernel4Ideal.main_v66_9) = v9 c
          ∧ r.2.mem ((c.tc : Thread Cert.Kernel4Ideal.nD Cert.Kernel4Ideal.τ).loc Cert.Kernel4Ideal.main_v66_10) = v10 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v350) = v0 c
          ∧ r.2.mem ((c.tc : Thread Cert.Reference4Ideal.nD Cert.Reference4Ideal.τ).loc Cert.Reference4Ideal.main_v352) = v1 c
          ∧ r.2.mem ((c.tc : Thread Cert.Reference4Ideal.nD Cert.Reference4Ideal.τ).loc Cert.Reference4Ideal.main_v355) = v2 c
          ∧ r.2.mem ((c.tc : Thread Cert.Reference4Ideal.nD Cert.Reference4Ideal.τ).loc Cert.Reference4Ideal.main_v356) = v3 c
          ∧ r.2.mem ((c.tc : Thread Cert.Reference4Ideal.nD Cert.Reference4Ideal.τ).loc Cert.Reference4Ideal.main_v358) = v4 c
          ∧ r.2.mem ((c.tc : Thread Cert.Reference4Ideal.nD Cert.Reference4Ideal.τ).loc Cert.Reference4Ideal.main_v361) = v5 c
          ∧ r.2.mem ((c.tc : Thread Cert.Reference4Ideal.nD Cert.Reference4Ideal.τ).loc Cert.Reference4Ideal.main_v362) = v6 c
          ∧ r.2.mem ((c.tc : Thread Cert.Reference4Ideal.nD Cert.Reference4Ideal.τ).loc Cert.Reference4Ideal.main_v363) = v7 c
          ∧ r.2.mem ((c.tc : Thread Cert.Reference4Ideal.nD Cert.Reference4Ideal.τ).loc Cert.Reference4Ideal.main_v367) = v8 c
          ∧ r.2.mem ((c.tc : Thread Cert.Reference4Ideal.nD Cert.Reference4Ideal.τ).loc Cert.Reference4Ideal.main_v370) = v9 c
          ∧ r.2.mem ((c.tc : Thread Cert.Reference4Ideal.nD Cert.Reference4Ideal.τ).loc Cert.Reference4Ideal.main_v373) = v10 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts) (hKernel4 : Cert.Kernel4.Facts) (hKernel4Ideal : Cert.Kernel4Ideal.Facts) (hReference4Ideal : Cert.Reference4Ideal.Facts) (hReference4 : Cert.Reference4.Facts) (hPre_real_qk : Cert.Pre_real_qk.Facts),
    quiescent_Kernel (hKernel := hKernel)
    ∧ quiescent_Kernel2 (hKernel2 := hKernel2)
    ∧ quiescent_Kernel2Ideal (hKernel2Ideal := hKernel2Ideal)
    ∧ quiescent_Kernel2Ideal_pre_real_qk (hKernel2Ideal := hKernel2Ideal) (hPre_real_qk := hPre_real_qk)
    ∧ quiescent_Reference2Ideal (hReference2Ideal := hReference2Ideal)
    ∧ quiescent_Reference2Ideal_pre_real_qk (hReference2Ideal := hReference2Ideal) (hPre_real_qk := hPre_real_qk)
    ∧ quiescent_Reference2 (hReference2 := hReference2)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ quiescent_Kernel4 (hKernel4 := hKernel4)
    ∧ quiescent_Kernel4Ideal (hKernel4Ideal := hKernel4Ideal)
    ∧ quiescent_Reference4Ideal (hReference4Ideal := hReference4Ideal)
    ∧ quiescent_Reference4 (hReference4 := hReference4)
    ∧ preserves_Kernel2_Kernel2Ideal
    ∧ preserves_Reference2_Reference2Ideal
    ∧ algebraic_Kernel2Ideal_Reference2Ideal_pre_real_qk (hKernel2Ideal := hKernel2Ideal) (hReference2Ideal := hReference2Ideal) (hPre_real_qk := hPre_real_qk)
    ∧ preserves_Kernel3_Kernel3Ideal
    ∧ preserves_Reference3_Reference3Ideal
    ∧ algebraic_Kernel3Ideal_Reference3Ideal (hKernel3Ideal := hKernel3Ideal) (hReference3Ideal := hReference3Ideal)
    ∧ preserves_Kernel4_Kernel4Ideal
    ∧ preserves_Reference4_Reference4Ideal
    ∧ algebraic_Kernel4Ideal_Reference4Ideal (hKernel4Ideal := hKernel4Ideal) (hReference4Ideal := hReference4Ideal)
-- ==== Pre_real_qk.lean ====
abbrev S16x4096x6x96 : Shape := ⟨4, ![16, 4096, 6, 96]⟩
abbrev S16x4096x6x64 : Shape := ⟨4, ![16, 4096, 6, 64]⟩
abbrev S_ : Shape := ⟨0, ![]⟩

class Facts : Prop where
  bcast_S_S16x4096x6x96 : S_.BroadcastsInDim S16x4096x6x96 (![] : Fin 0 → Fin S16x4096x6x96.rank)

variable [Facts]

def fn {F : FTy → Type} [FloatOps F] (main_arg0 : FVec F S16x4096x6x96 .f32) (main_arg1 : FVec F S16x4096x6x96 .f32) (main_arg2 : FVec F S16x4096x6x64 .f32) : IVec S16x4096x6x96 1 :=
  let main_v0 : FVec F S16x4096x6x96 .f32 := Host.absf main_arg0
  let main_cst : FVec F S_ .f32 := constant S_ .f32 0x7F800000#32
  let main_v1 : FVec F S16x4096x6x96 .f32 := broadcastInDim S16x4096x6x96 ![] bcast_S_S16x4096x6x96 main_cst
  let main_v2 : IVec S16x4096x6x96 1 := cmpf .olt main_v0 main_v1
  let main_v3 : FVec F S16x4096x6x96 .f32 := Host.absf main_arg1
  let main_cst_0 : FVec F S_ .f32 := constant S_ .f32 0x7F800000#32
  let main_v4 : FVec F S16x4096x6x96 .f32 := broadcastInDim S16x4096x6x96 ![] bcast_S_S16x4096x6x96 main_cst_0
  let main_v5 : IVec S16x4096x6x96 1 := cmpf .olt main_v3 main_v4
  let main_v6 : IVec S16x4096x6x96 1 := andi main_v2 main_v5
  main_v6
-- ==== Kernel.lean ====
abbrev S16x256x4096 : Shape := ⟨3, ![16, 256, 4096]⟩
abbrev S16x8x4096 : Shape := ⟨3, ![16, 8, 4096]⟩
abbrev S16x4096x32 : Shape := ⟨3, ![16, 4096, 32]⟩
abbrev S16x384x4096 : Shape := ⟨3, ![16, 384, 4096]⟩
abbrev S16x4096x64 : Shape := ⟨3, ![16, 4096, 64]⟩
abbrev S16x64x4096 : Shape := ⟨3, ![16, 64, 4096]⟩
abbrev S16x4096x384 : Shape := ⟨3, ![16, 4096, 384]⟩
abbrev S1x256x512 : Shape := ⟨3, ![1, 256, 512]⟩
abbrev S1x8x512 : Shape := ⟨3, ![1, 8, 512]⟩
abbrev S1x4096x32 : Shape := ⟨3, ![1, 4096, 32]⟩
abbrev S1x384x512 : Shape := ⟨3, ![1, 384, 512]⟩
abbrev S1x4096x64 : Shape := ⟨3, ![1, 4096, 64]⟩
abbrev S1x64x4096 : Shape := ⟨3, ![1, 64, 4096]⟩
abbrev S1x512x384 : Shape := ⟨3, ![1, 512, 384]⟩
abbrev S4096x512 : Shape := ⟨2, ![4096, 512]⟩
abbrev S32x128x512 : Shape := ⟨3, ![32, 128, 512]⟩
abbrev S128x512 : Shape := ⟨2, ![128, 512]⟩
abbrev S384x512 : Shape := ⟨2, ![384, 512]⟩
abbrev S1x512 : Shape := ⟨2, ![1, 512]⟩
abbrev S1 : Shape := ⟨1, ![1]⟩
abbrev S1x128x32 : Shape := ⟨3, ![1, 128, 32]⟩
abbrev S128x32 : Shape := ⟨2, ![128, 32]⟩
abbrev S1x32x512 : Shape := ⟨3, ![1, 32, 512]⟩
abbrev S32x512 : Shape := ⟨2, ![32, 512]⟩
abbrev S1x1x512 : Shape := ⟨3, ![1, 1, 512]⟩
abbrev S128x384 : Shape := ⟨2, ![128, 384]⟩
abbrev S1x32x384 : Shape := ⟨3, ![1, 32, 384]⟩
abbrev S32x384 : Shape := ⟨2, ![32, 384]⟩
abbrev S1x1x384 : Shape := ⟨3, ![1, 1, 384]⟩
abbrev S1x384 : Shape := ⟨2, ![1, 384]⟩
abbrev S128x128 : Shape := ⟨2, ![128, 128]⟩
abbrev S128x256 : Shape := ⟨2, ![128, 256]⟩
abbrev S1x32x256 : Shape := ⟨3, ![1, 32, 256]⟩
abbrev S32x256 : Shape := ⟨2, ![32, 256]⟩
abbrev S1x1x256 : Shape := ⟨3, ![1, 1, 256]⟩
abbrev S1x256 : Shape := ⟨2, ![1, 256]⟩
abbrev S1x32x128 : Shape := ⟨3, ![1, 32, 128]⟩
abbrev S32x128 : Shape := ⟨2, ![32, 128]⟩
abbrev S1x1x128 : Shape := ⟨3, ![1, 1, 128]⟩
abbrev S1x128 : Shape := ⟨2, ![1, 128]⟩
abbrev S112x512 : Shape := ⟨2, ![112, 512]⟩
abbrev S1x112x512 : Shape := ⟨3, ![1, 112, 512]⟩
abbrev S8x128 : Shape := ⟨2, ![8, 128]⟩
abbrev S1x8x128 : Shape := ⟨3, ![1, 8, 128]⟩
abbrev S1x128x512 : Shape := ⟨3, ![1, 128, 512]⟩
abbrev S16x8x512 : Shape := ⟨3, ![16, 8, 512]⟩
abbrev S8x512 : Shape := ⟨2, ![8, 512]⟩
abbrev S512 : Shape := ⟨1, ![512]⟩
abbrev S1x1x1 : Shape := ⟨3, ![1, 1, 1]⟩
abbrev S512x512 : Shape := ⟨2, ![512, 512]⟩
abbrev S64x8x512 : Shape := ⟨3, ![64, 8, 512]⟩
abbrev S64x512 : Shape := ⟨2, ![64, 512]⟩
abbrev S1x512x64 : Shape := ⟨3, ![1, 512, 64]⟩
abbrev S512x64 : Shape := ⟨2, ![512, 64]⟩
abbrev S1x64x512 : Shape := ⟨3, ![1, 64, 512]⟩
abbrev S512x384 : Shape := ⟨2, ![512, 384]⟩

abbrev nBuf : Space → Nat
  | .hbm => 7
  | .vmem => 22
  | .smem => 1
  | _ => 0

abbrev bufTy : (tb : Table) → Fin (tcTables nBuf tb) → BufTy
  | .hbm, ⟨0, _⟩ => ⟨S16x256x4096, .bf16⟩
  | .hbm, ⟨1, _⟩ => ⟨S16x8x4096, .f32⟩
  | .hbm, ⟨2, _⟩ => ⟨S16x4096x32, .bf16⟩
  | .hbm, ⟨3, _⟩ => ⟨S16x384x4096, .bf16⟩
  | .hbm, ⟨4, _⟩ => ⟨S16x4096x64, .bf16⟩
  | .hbm, ⟨5, _⟩ => ⟨S16x64x4096, .bf16⟩
  | .hbm, ⟨6, _⟩ => ⟨S16x4096x384, .bf16⟩
  | .local _ .vmem, ⟨0, _⟩ => ⟨S1x256x512, .bf16⟩
  | .local _ .vmem, ⟨1, _⟩ => ⟨S1x256x512, .bf16⟩
  | .local _ .vmem, ⟨2, _⟩ => ⟨S1x8x512, .f32⟩
  | .local _ .vmem, ⟨3, _⟩ => ⟨S1x8x512, .f32⟩
  | .local _ .vmem, ⟨4, _⟩ => ⟨S1x4096x32, .bf16⟩
  | .local _ .vmem, ⟨5, _⟩ => ⟨S1x4096x32, .bf16⟩
  | .local _ .vmem, ⟨6, _⟩ => ⟨S1x384x512, .bf16⟩
  | .local _ .vmem, ⟨7, _⟩ => ⟨S1x384x512, .bf16⟩
  | .local _ .vmem, ⟨8, _⟩ => ⟨S1x4096x64, .bf16⟩
  | .local _ .vmem, ⟨9, _⟩ => ⟨S1x4096x64, .bf16⟩
  | .local _ .vmem, ⟨10, _⟩ => ⟨S1x64x4096, .bf16⟩
  | .local _ .vmem, ⟨11, _⟩ => ⟨S1x64x4096, .bf16⟩
  | .local _ .vmem, ⟨12, _⟩ => ⟨S1x512x384, .bf16⟩
  | .local _ .vmem, ⟨13, _⟩ => ⟨S1x512x384, .bf16⟩
  | .local _ .vmem, ⟨14, _⟩ => ⟨S4096x512, .i32⟩
  | .local _ .vmem, ⟨15, _⟩ => ⟨S32x128x512, .i32⟩
  | .local _ .vmem, ⟨16, _⟩ => ⟨S128x512, .i32⟩
  | .local _ .vmem, ⟨17, _⟩ => ⟨S4096x512, .f32⟩
  | .local _ .vmem, ⟨18, _⟩ => ⟨S4096x512, .f32⟩
  | .local _ .vmem, ⟨19, _⟩ => ⟨S384x512, .f32⟩
  | .local _ .vmem, ⟨20, _⟩ => ⟨S1x512, .i32⟩
  | .local _ .vmem, ⟨21, _⟩ => ⟨S1x512, .i32⟩
  | .local _ .smem, ⟨0, _⟩ => ⟨S1, .i32⟩
  | _, _ => ⟨S16x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![16, 8], ![false, false]⟩

@[reducible] def k0_t1_loop (i : grid0.Coords) : Scf.Loop 32 :=
  let c0_i32_0 : BitVec 32 := 0#32
  let arg1 : BitVec 32 := BitVec.ofNat 32 (i 1).val
  let v1 : BitVec 32 := Scalar.subi arg1 c0_i32_0
  let c1_i32_1 : BitVec 32 := 1#32
  let v3 : BitVec 32 := Scalar.divsi v1 c1_i32_1
  let v4 : BitVec 32 := Scalar.muli v3 c1_i32_1
  let v5 : BitVec 32 := Scalar.addi c0_i32_0 v4
  let c1_i32_2 : BitVec 32 := 1#32
  ⟨c0_i32_0, v5, c1_i32_2⟩
def k0_mult1 (i : grid0.Coords) (k0_t1 : Fin (k0_t1_loop i).trips) : BitVec 32 :=
  let c0_i32_0 : BitVec 32 := 0#32
  let c1_i32_2 : BitVec 32 := 1#32
  let arg18 : BitVec 32 := Scf.iv c0_i32_0 c1_i32_2 k0_t1
  let c512_i32_506 : BitVec 32 := 512#32
  let v960 : BitVec 32 := Scalar.muli arg18 c512_i32_506
  v960
def k0_mult2 (i : grid0.Coords) (k0_t1 : Fin (k0_t1_loop i).trips) : BitVec 32 :=
  let c0_i32_0 : BitVec 32 := 0#32
  let c1_i32_2 : BitVec 32 := 1#32
  let arg18 : BitVec 32 := Scf.iv c0_i32_0 c1_i32_2 k0_t1
  let c512_i32_506 : BitVec 32 := 512#32
  let v960 : BitVec 32 := Scalar.muli arg18 c512_i32_506
  let v961 : BitVec 32 := v960
  let c0_i32_507 : BitVec 32 := 0#32
  let v962 : BitVec 32 := Scalar.addi v961 c0_i32_507
  v962
def k0_off1 (i : grid0.Coords) (k0_t1 : Fin (k0_t1_loop i).trips) (c0_i32_507 : BitVec 32) : Fin 3 → Nat :=
  let c0_508 : Index := 0#32
  let c0_i32_0 : BitVec 32 := 0#32
  let c1_i32_2 : BitVec 32 := 1#32
  let arg18 : BitVec 32 := Scf.iv c0_i32_0 c1_i32_2 k0_t1
  let c512_i32_506 : BitVec 32 := 512#32
  let v960 : BitVec 32 := Scalar.muli arg18 c512_i32_506
  let v961 : BitVec 32 := v960
  let v962 : BitVec 32 := Scalar.addi v961 c0_i32_507
  let v963 : BitVec 32 := v962
  let v964 : Index := Scalar.indexCast v963
  let c0_509 : Index := 0#32
  ![0, v964.toNat, 0]
def k0_off2 (i : grid0.Coords) (k0_t1 : Fin (k0_t1_loop i).trips) (c0_i32_507 : BitVec 32) : Fin 2 → Nat :=
  let c0_i32_0 : BitVec 32 := 0#32
  let c1_i32_2 : BitVec 32 := 1#32
  let arg18 : BitVec 32 := Scf.iv c0_i32_0 c1_i32_2 k0_t1
  let c512_i32_506 : BitVec 32 := 512#32
  let v960 : BitVec 32 := Scalar.muli arg18 c512_i32_506
  let v961 : BitVec 32 := v960
  let v962 : BitVec 32 := Scalar.addi v961 c0_i32_507
  let v963 : BitVec 32 := v962
  let v1054 : Index := Scalar.indexCast v963
  let c0_577 : Index := 0#32
  ![v1054.toNat, 0]
def k0_mult3 (i : grid0.Coords) (k0_t1 : Fin (k0_t1_loop i).trips) : BitVec 32 :=
  let c0_i32_0 : BitVec 32 := 0#32
  let c1_i32_2 : BitVec 32 := 1#32
  let arg18 : BitVec 32 := Scf.iv c0_i32_0 c1_i32_2 k0_t1
  let c512_i32_506 : BitVec 32 := 512#32
  let v960 : BitVec 32 := Scalar.muli arg18 c512_i32_506
  let v961 : BitVec 32 := v960
  let c128_i32_578 : BitVec 32 := 128#32
  let v1058 : BitVec 32 := Scalar.addi v961 c128_i32_578
  v1058
def k0_mult4 (i : grid0.Coords) (k0_t1 : Fin (k0_t1_loop i).trips) : BitVec 32 :=
  let c0_i32_0 : BitVec 32 := 0#32
  let c1_i32_2 : BitVec 32 := 1#32
  let arg18 : BitVec 32 := Scf.iv c0_i32_0 c1_i32_2 k0_t1
  let c512_i32_506 : BitVec 32 := 512#32
  let v960 : BitVec 32 := Scalar.muli arg18 c512_i32_506
  let v961 : BitVec 32 := v960
  let c256_i32_649 : BitVec 32 := 256#32
  let v1154 : BitVec 32 := Scalar.addi v961 c256_i32_649
  v1154
def k0_mult5 (i : grid0.Coords) (k0_t1 : Fin (k0_t1_loop i).trips) : BitVec 32 :=
  let c0_i32_0 : BitVec 32 := 0#32
  let c1_i32_2 : BitVec 32 := 1#32
  let arg18 : BitVec 32 := Scf.iv c0_i32_0 c1_i32_2 k0_t1
  let c512_i32_506 : BitVec 32 := 512#32
  let v960 : BitVec 32 := Scalar.muli arg18 c512_i32_506
  let v961 : BitVec 32 := v960
  let c384_i32_720 : BitVec 32 := 384#32
  let v1250 : BitVec 32 := Scalar.addi v961 c384_i32_720
  v1250
@[reducible] def k0_t2_loop (i : grid0.Coords) : Scf.Loop 32 :=
  let c0_i32_0 : BitVec 32 := 0#32
  let arg1 : BitVec 32 := BitVec.ofNat 32 (i 1).val
  let v1 : BitVec 32 := Scalar.subi arg1 c0_i32_0
  let c1_i32_1 : BitVec 32 := 1#32
  let v3 : BitVec 32 := Scalar.divsi v1 c1_i32_1
  let v4 : BitVec 32 := Scalar.muli v3 c1_i32_1
  let v5 : BitVec 32 := Scalar.addi c0_i32_0 v4
  let v2 : BitVec 32 := Scalar.addi c0_i32_0 v1
  let c1_i32_3 : BitVec 32 := 1#32
  ⟨v5, v2, c1_i32_3⟩
def k0_mult6 (i : grid0.Coords) (k0_t2 : Fin (k0_t2_loop i).trips) : BitVec 32 :=
  let c0_i32_0 : BitVec 32 := 0#32
  let arg1 : BitVec 32 := BitVec.ofNat 32 (i 1).val
  let v1 : BitVec 32 := Scalar.subi arg1 c0_i32_0
  let c1_i32_1 : BitVec 32 := 1#32
  let v3 : BitVec 32 := Scalar.divsi v1 c1_i32_1
  let v4 : BitVec 32 := Scalar.muli v3 c1_i32_1
  let v5 : BitVec 32 := Scalar.addi c0_i32_0 v4
  let c1_i32_3 : BitVec 32 := 1#32
  let arg18 : BitVec 32 := Scf.iv v5 c1_i32_3 k0_t2
  let c512_i32_506 : BitVec 32 := 512#32
  let v960 : BitVec 32 := Scalar.muli arg18 c512_i32_506
  v960
def k0_mult7 (i : grid0.Coords) (k0_t2 : Fin (k0_t2_loop i).trips) : BitVec 32 :=
  let c0_i32_0 : BitVec 32 := 0#32
  let arg1 : BitVec 32 := BitVec.ofNat 32 (i 1).val
  let v1 : BitVec 32 := Scalar.subi arg1 c0_i32_0
  let c1_i32_1 : BitVec 32 := 1#32
  let v3 : BitVec 32 := Scalar.divsi v1 c1_i32_1
  let v4 : BitVec 32 := Scalar.muli v3 c1_i32_1
  let v5 : BitVec 32 := Scalar.addi c0_i32_0 v4
  let c1_i32_3 : BitVec 32 := 1#32
  let arg18 : BitVec 32 := Scf.iv v5 c1_i32_3 k0_t2
  let c512_i32_506 : BitVec 32 := 512#32
  let v960 : BitVec 32 := Scalar.muli arg18 c512_i32_506
  let v961 : BitVec 32 := v960
  let c0_i32_507 : BitVec 32 := 0#32
  let v962 : BitVec 32 := Scalar.addi v961 c0_i32_507
  v962
def k0_off3 (i : grid0.Coords) (k0_t2 : Fin (k0_t2_loop i).trips) (c0_i32_507 : BitVec 32) : Fin 3 → Nat :=
  let c0_508 : Index := 0#32
  let c0_i32_0 : BitVec 32 := 0#32
  let arg1 : BitVec 32 := BitVec.ofNat 32 (i 1).val
  let v1 : BitVec 32 := Scalar.subi arg1 c0_i32_0
  let c1_i32_1 : BitVec 32 := 1#32
  let v3 : BitVec 32 := Scalar.divsi v1 c1_i32_1
  let v4 : BitVec 32 := Scalar.muli v3 c1_i32_1
  let v5 : BitVec 32 := Scalar.addi c0_i32_0 v4
  let c1_i32_3 : BitVec 32 := 1#32
  let arg18 : BitVec 32 := Scf.iv v5 c1_i32_3 k0_t2
  let c512_i32_506 : BitVec 32 := 512#32
  let v960 : BitVec 32 := Scalar.muli arg18 c512_i32_506
  let v961 : BitVec 32 := v960
  let v962 : BitVec 32 := Scalar.addi v961 c0_i32_507
  let v963 : BitVec 32 := v962
  let v964 : Index := Scalar.indexCast v963
  let c0_509 : Index := 0#32
  ![0, v964.toNat, 0]
def k0_off4 (i : grid0.Coords) (k0_t2 : Fin (k0_t2_loop i).trips) (c0_i32_507 : BitVec 32) : Fin 2 → Nat :=
  let c0_i32_0 : BitVec 32 := 0#32
  let arg1 : BitVec 32 := BitVec.ofNat 32 (i 1).val
  let v1 : BitVec 32 := Scalar.subi arg1 c0_i32_0
  let c1_i32_1 : BitVec 32 := 1#32
  let v3 : BitVec 32 := Scalar.divsi v1 c1_i32_1
  let v4 : BitVec 32 := Scalar.muli v3 c1_i32_1
  let v5 : BitVec 32 := Scalar.addi c0_i32_0 v4
  let c1_i32_3 : BitVec 32 := 1#32
  let arg18 : BitVec 32 := Scf.iv v5 c1_i32_3 k0_t2
  let c512_i32_506 : BitVec 32 := 512#32
  let v960 : BitVec 32 := Scalar.muli arg18 c512_i32_506
  let v961 : BitVec 32 := v960
  let v962 : BitVec 32 := Scalar.addi v961 c0_i32_507
  let v963 : BitVec 32 := v962
  let v1054 : Index := Scalar.indexCast v963
  let c0_577 : Index := 0#32
  ![v1054.toNat, 0]
def k0_mult8 (i : grid0.Coords) (k0_t2 : Fin (k0_t2_loop i).trips) : BitVec 32 :=
  let c0_i32_0 : BitVec 32 := 0#32
  let arg1 : BitVec 32 := BitVec.ofNat 32 (i 1).val
  let v1 : BitVec 32 := Scalar.subi arg1 c0_i32_0
  let c1_i32_1 : BitVec 32 := 1#32
  let v3 : BitVec 32 := Scalar.divsi v1 c1_i32_1
  let v4 : BitVec 32 := Scalar.muli v3 c1_i32_1
  let v5 : BitVec 32 := Scalar.addi c0_i32_0 v4
  let c1_i32_3 : BitVec 32 := 1#32
  let arg18 : BitVec 32 := Scf.iv v5 c1_i32_3 k0_t2
  let c512_i32_506 : BitVec 32 := 512#32
  let v960 : BitVec 32 := Scalar.muli arg18 c512_i32_506
  let v961 : BitVec 32 := v960
  let c128_i32_578 : BitVec 32 := 128#32
  let v1058 : BitVec 32 := Scalar.addi v961 c128_i32_578
  v1058
def k0_mult9 (i : grid0.Coords) (k0_t2 : Fin (k0_t2_loop i).trips) : BitVec 32 :=
  let c0_i32_0 : BitVec 32 := 0#32
  let arg1 : BitVec 32 := BitVec.ofNat 32 (i 1).val
  let v1 : BitVec 32 := Scalar.subi arg1 c0_i32_0
  let c1_i32_1 : BitVec 32 := 1#32
  let v3 : BitVec 32 := Scalar.divsi v1 c1_i32_1
  let v4 : BitVec 32 := Scalar.muli v3 c1_i32_1
  let v5 : BitVec 32 := Scalar.addi c0_i32_0 v4
  let c1_i32_3 : BitVec 32 := 1#32
  let arg18 : BitVec 32 := Scf.iv v5 c1_i32_3 k0_t2
  let c512_i32_506 : BitVec 32 := 512#32
  let v960 : BitVec 32 := Scalar.muli arg18 c512_i32_506
  let v961 : BitVec 32 := v960
  let c256_i32_649 : BitVec 32 := 256#32
  let v1154 : BitVec 32 := Scalar.addi v961 c256_i32_649
  v1154
def k0_mult10 (i : grid0.Coords) (k0_t2 : Fin (k0_t2_loop i).trips) : BitVec 32 :=
  let c0_i32_0 : BitVec 32 := 0#32
  let arg1 : BitVec 32 := BitVec.ofNat 32 (i 1).val
  let v1 : BitVec 32 := Scalar.subi arg1 c0_i32_0
  let c1_i32_1 : BitVec 32 := 1#32
  let v3 : BitVec 32 := Scalar.divsi v1 c1_i32_1
  let v4 : BitVec 32 := Scalar.muli v3 c1_i32_1
  let v5 : BitVec 32 := Scalar.addi c0_i32_0 v4
  let c1_i32_3 : BitVec 32 := 1#32
  let arg18 : BitVec 32 := Scf.iv v5 c1_i32_3 k0_t2
  let c512_i32_506 : BitVec 32 := 512#32
  let v960 : BitVec 32 := Scalar.muli arg18 c512_i32_506
  let v961 : BitVec 32 := v960
  let c384_i32_720 : BitVec 32 := 384#32
  let v1250 : BitVec 32 := Scalar.addi v961 c384_i32_720
  v1250
def k0_mult11 (i : grid0.Coords) : BitVec 32 :=
  let arg1 : BitVec 32 := BitVec.ofNat 32 (i 1).val
  let c512_i32 : BitVec 32 := 512#32
  let v6 : BitVec 32 := Scalar.muli arg1 c512_i32
  v6
def k0_mult12 (i : grid0.Coords) : BitVec 32 :=
  let arg1 : BitVec 32 := BitVec.ofNat 32 (i 1).val
  let c512_i32 : BitVec 32 := 512#32
  let v6 : BitVec 32 := Scalar.muli arg1 c512_i32
  let v7 : BitVec 32 := v6
  let c0_i32_4 : BitVec 32 := 0#32
  let v8 : BitVec 32 := Scalar.addi v7 c0_i32_4
  v8
def k0_off5 (i : grid0.Coords) (c0_i32_4 : BitVec 32) : Fin 3 → Nat :=
  let c0 : Index := 0#32
  let arg1 : BitVec 32 := BitVec.ofNat 32 (i 1).val
  let c512_i32 : BitVec 32 := 512#32
  let v6 : BitVec 32 := Scalar.muli arg1 c512_i32
  let v7 : BitVec 32 := v6
  let v8 : BitVec 32 := Scalar.addi v7 c0_i32_4
  let v9 : BitVec 32 := v8
  let v10 : Index := Scalar.indexCast v9
  let c0_5 : Index := 0#32
  ![0, v10.toNat, 0]
def k0_off6 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let c0_i32_4 : BitVec 32 := 0#32
  let v8 : BitVec 32 := Scalar.addi v7 c0_i32_4
  let v9 : BitVec 32 := v8
  let v157 : Index := Scalar.indexCast v9
  let c0_71 : Index := 0#32
  ![v157.toNat, 0]
def k0_mult13 (i : grid0.Coords) : BitVec 32 :=
  let arg1 : BitVec 32 := BitVec.ofNat 32 (i 1).val
  let c512_i32 : BitVec 32 := 512#32
  let v6 : BitVec 32 := Scalar.muli arg1 c512_i32
  let v7 : BitVec 32 := v6
  let c128_i32 : BitVec 32 := 128#32
  let v161 : BitVec 32 := Scalar.addi v7 c128_i32
  v161
def k0_off7 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let c128_i32 : BitVec 32 := 128#32
  let v161 : BitVec 32 := Scalar.addi v7 c128_i32
  let v162 : BitVec 32 := v161
  let v311 : Index := Scalar.indexCast v162
  let c0_159 : Index := 0#32
  ![v311.toNat, 0]
def k0_off8 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let c128_i32 : BitVec 32 := 128#32
  let v161 : BitVec 32 := Scalar.addi v7 c128_i32
  let v162 : BitVec 32 := v161
  let v315 : Index := Scalar.indexCast v162
  let c128_160 : Index := 128#32
  ![v315.toNat, 128]
def k0_mult14 (i : grid0.Coords) : BitVec 32 :=
  let arg1 : BitVec 32 := BitVec.ofNat 32 (i 1).val
  let c512_i32 : BitVec 32 := 512#32
  let v6 : BitVec 32 := Scalar.muli arg1 c512_i32
  let v7 : BitVec 32 := v6
  let c256_i32 : BitVec 32 := 256#32
  let v319 : BitVec 32 := Scalar.addi v7 c256_i32
  v319
def k0_off9 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let c256_i32 : BitVec 32 := 256#32
  let v319 : BitVec 32 := Scalar.addi v7 c256_i32
  let v320 : BitVec 32 := v319
  let v469 : Index := Scalar.indexCast v320
  let c0_247 : Index := 0#32
  ![v469.toNat, 0]
def k0_off10 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let c256_i32 : BitVec 32 := 256#32
  let v319 : BitVec 32 := Scalar.addi v7 c256_i32
  let v320 : BitVec 32 := v319
  let v473 : Index := Scalar.indexCast v320
  let c256_248 : Index := 256#32
  ![v473.toNat, 256]
def k0_mult15 (i : grid0.Coords) : BitVec 32 :=
  let arg1 : BitVec 32 := BitVec.ofNat 32 (i 1).val
  let c512_i32 : BitVec 32 := 512#32
  let v6 : BitVec 32 := Scalar.muli arg1 c512_i32
  let v7 : BitVec 32 := v6
  let c384_i32 : BitVec 32 := 384#32
  let v477 : BitVec 32 := Scalar.addi v7 c384_i32
  v477
def k0_off11 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let c384_i32 : BitVec 32 := 384#32
  let v477 : BitVec 32 := Scalar.addi v7 c384_i32
  let v478 : BitVec 32 := v477
  let v627 : Index := Scalar.indexCast v478
  let c0_335 : Index := 0#32
  ![v627.toNat, 0]
def k0_off12 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let c384_i32 : BitVec 32 := 384#32
  let v477 : BitVec 32 := Scalar.addi v7 c384_i32
  let v478 : BitVec 32 := v477
  let v631 : Index := Scalar.indexCast v478
  let c384_336 : Index := 384#32
  ![v631.toNat, 384]
def k0_cond1 (i : grid0.Coords) : BitVec 1 :=
  let arg1 : BitVec 32 := BitVec.ofNat 32 (i 1).val
  let c0_i32_337 : BitVec 32 := 0#32
  let v635 : BitVec 1 := Scalar.cmpi .eq arg1 c0_i32_337
  let v636 : BitVec 32 := Scalar.extui v635
  let c0_i32_338 : BitVec 32 := 0#32
  let v637 : BitVec 1 := Scalar.cmpi .ne v636 c0_i32_338
  v637

@[reducible] def k0_t3_loop : Scf.Loop 32 :=
  let c0_i32_506 : BitVec 32 := 0#32
  let c32_i32 : BitVec 32 := 32#32
  let v960 : BitVec 32 := Scalar.addi c0_i32_506 c32_i32
  let c1_i32_507 : BitVec 32 := 1#32
  ⟨c0_i32_506, v960, c1_i32_507⟩
def k0_off13 (k0_t3 : Fin k0_t3_loop.trips) : Fin 3 → Nat :=
  let c0_i32_506 : BitVec 32 := 0#32
  let c1_i32_507 : BitVec 32 := 1#32
  let arg18 : BitVec 32 := Scf.iv c0_i32_506 c1_i32_507 k0_t3
  let v962 : Index := Scalar.indexCast arg18
  let c16 : Index := 16#32
  let c0_510 : Index := 0#32
  ![v962.toNat, 16, 0]
def k0_cond3 (i : grid0.Coords) : BitVec 1 :=
  let arg1 : BitVec 32 := BitVec.ofNat 32 (i 1).val
  let c1_i32 : BitVec 32 := 1#32
  let v0 : BitVec 32 := Scalar.addi arg1 c1_i32
  let c512_i32_342 : BitVec 32 := 512#32
  let v642 : BitVec 32 := Scalar.muli v0 c512_i32_342
  let c256_i32_343 : BitVec 32 := 256#32
  let v643 : BitVec 1 := Scalar.cmpi .sgt v642 c256_i32_343
  let v644 : BitVec 32 := Scalar.extui v643
  let c0_i32_344 : BitVec 32 := 0#32
  let v645 : BitVec 1 := Scalar.cmpi .ne v644 c0_i32_344
  v645

@[reducible] def k0_t4_loop (i : grid0.Coords) : Scf.Loop 32 :=
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_510 : BitVec 32 := 1#32
  ⟨c0_i32_508, v965, c1_i32_510⟩
def k0_mult16 (i : grid0.Coords) (k0_t4 : Fin (k0_t4_loop i).trips) : BitVec 32 :=
  let c0_i32_508 : BitVec 32 := 0#32
  let c1_i32_510 : BitVec 32 := 1#32
  let arg18 : BitVec 32 := Scf.iv c0_i32_508 c1_i32_510 k0_t4
  let c256_i32_544 : BitVec 32 := 256#32
  let v1038 : BitVec 32 := Scalar.muli arg18 c256_i32_544
  v1038
def k0_mult17 (i : grid0.Coords) (k0_t4 : Fin (k0_t4_loop i).trips) : BitVec 32 :=
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  v1040
def k0_off14 (i : grid0.Coords) (k0_t4 : Fin (k0_t4_loop i).trips) (c0_i32_545 : BitVec 32) : Fin 2 → Nat :=
  let c0_i32_508 : BitVec 32 := 0#32
  let c1_i32_510 : BitVec 32 := 1#32
  let arg18 : BitVec 32 := Scf.iv c0_i32_508 c1_i32_510 k0_t4
  let c256_i32_544 : BitVec 32 := 256#32
  let v1038 : BitVec 32 := Scalar.muli arg18 c256_i32_544
  let v1039 : BitVec 32 := v1038
  let v1042 : BitVec 32 := Scalar.addi v1039 c0_i32_545
  let v1043 : Index := Scalar.indexCast v1042
  let c0_546 : Index := 0#32
  ![v1043.toNat, 0]
def k0_off15 (i : grid0.Coords) (k0_t4 : Fin (k0_t4_loop i).trips) : Fin 3 → Nat :=
  let c0_849 : Index := 0#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1922 : Index := Scalar.indexCast v1041
  let c0_850 : Index := 0#32
  ![0, v1922.toNat, 0]
def k0_off16 (i : grid0.Coords) (k0_t4 : Fin (k0_t4_loop i).trips) : Fin 3 → Nat :=
  let c1_851 : Index := 1#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1926 : Index := Scalar.indexCast v1041
  let c0_852 : Index := 0#32
  ![1, v1926.toNat, 0]
def k0_off17 (i : grid0.Coords) (k0_t4 : Fin (k0_t4_loop i).trips) : Fin 3 → Nat :=
  let c2_853 : Index := 2#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1930 : Index := Scalar.indexCast v1041
  let c0_854 : Index := 0#32
  ![2, v1930.toNat, 0]
def k0_off18 (i : grid0.Coords) (k0_t4 : Fin (k0_t4_loop i).trips) : Fin 3 → Nat :=
  let c3_855 : Index := 3#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1934 : Index := Scalar.indexCast v1041
  let c0_856 : Index := 0#32
  ![3, v1934.toNat, 0]
def k0_off19 (i : grid0.Coords) (k0_t4 : Fin (k0_t4_loop i).trips) : Fin 3 → Nat :=
  let c4_857 : Index := 4#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1938 : Index := Scalar.indexCast v1041
  let c0_858 : Index := 0#32
  ![4, v1938.toNat, 0]
def k0_off20 (i : grid0.Coords) (k0_t4 : Fin (k0_t4_loop i).trips) : Fin 3 → Nat :=
  let c5_859 : Index := 5#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1942 : Index := Scalar.indexCast v1041
  let c0_860 : Index := 0#32
  ![5, v1942.toNat, 0]
def k0_off21 (i : grid0.Coords) (k0_t4 : Fin (k0_t4_loop i).trips) : Fin 3 → Nat :=
  let c6_861 : Index := 6#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1946 : Index := Scalar.indexCast v1041
  let c0_862 : Index := 0#32
  ![6, v1946.toNat, 0]
def k0_off22 (i : grid0.Coords) (k0_t4 : Fin (k0_t4_loop i).trips) : Fin 3 → Nat :=
  let c7_863 : Index := 7#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1950 : Index := Scalar.indexCast v1041
  let c0_864 : Index := 0#32
  ![7, v1950.toNat, 0]
def k0_off23 (i : grid0.Coords) (k0_t4 : Fin (k0_t4_loop i).trips) : Fin 3 → Nat :=
  let c8 : Index := 8#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1954 : Index := Scalar.indexCast v1041
  let c0_865 : Index := 0#32
  ![8, v1954.toNat, 0]
def k0_off24 (i : grid0.Coords) (k0_t4 : Fin (k0_t4_loop i).trips) : Fin 3 → Nat :=
  let c9 : Index := 9#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1958 : Index := Scalar.indexCast v1041
  let c0_866 : Index := 0#32
  ![9, v1958.toNat, 0]
def k0_off25 (i : grid0.Coords) (k0_t4 : Fin (k0_t4_loop i).trips) : Fin 3 → Nat :=
  let c10 : Index := 10#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1962 : Index := Scalar.indexCast v1041
  let c0_867 : Index := 0#32
  ![10, v1962.toNat, 0]
def k0_off26 (i : grid0.Coords) (k0_t4 : Fin (k0_t4_loop i).trips) : Fin 3 → Nat :=
  let c11 : Index := 11#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1966 : Index := Scalar.indexCast v1041
  let c0_868 : Index := 0#32
  ![11, v1966.toNat, 0]
def k0_off27 (i : grid0.Coords) (k0_t4 : Fin (k0_t4_loop i).trips) : Fin 3 → Nat :=
  let c12 : Index := 12#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1970 : Index := Scalar.indexCast v1041
  let c0_869 : Index := 0#32
  ![12, v1970.toNat, 0]
def k0_off28 (i : grid0.Coords) (k0_t4 : Fin (k0_t4_loop i).trips) : Fin 3 → Nat :=
  let c13 : Index := 13#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1974 : Index := Scalar.indexCast v1041
  let c0_870 : Index := 0#32
  ![13, v1974.toNat, 0]
def k0_off29 (i : grid0.Coords) (k0_t4 : Fin (k0_t4_loop i).trips) : Fin 3 → Nat :=
  let c14 : Index := 14#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1978 : Index := Scalar.indexCast v1041
  let c0_871 : Index := 0#32
  ![14, v1978.toNat, 0]
def k0_off30 (i : grid0.Coords) (k0_t4 : Fin (k0_t4_loop i).trips) : Fin 3 → Nat :=
  let c15 : Index := 15#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1982 : Index := Scalar.indexCast v1041
  let c0_872 : Index := 0#32
  ![15, v1982.toNat, 0]
def k0_off31 (i : grid0.Coords) (k0_t4 : Fin (k0_t4_loop i).trips) : Fin 3 → Nat :=
  let c16 : Index := 16#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1986 : Index := Scalar.indexCast v1041
  let c0_873 : Index := 0#32
  ![16, v1986.toNat, 0]
def k0_off32 (i : grid0.Coords) (k0_t4 : Fin (k0_t4_loop i).trips) : Fin 3 → Nat :=
  let c17 : Index := 17#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1990 : Index := Scalar.indexCast v1041
  let c0_874 : Index := 0#32
  ![17, v1990.toNat, 0]
def k0_off33 (i : grid0.Coords) (k0_t4 : Fin (k0_t4_loop i).trips) : Fin 3 → Nat :=
  let c18 : Index := 18#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1994 : Index := Scalar.indexCast v1041
  let c0_875 : Index := 0#32
  ![18, v1994.toNat, 0]
def k0_off34 (i : grid0.Coords) (k0_t4 : Fin (k0_t4_loop i).trips) : Fin 3 → Nat :=
  let c19 : Index := 19#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v1998 : Index := Scalar.indexCast v1041
  let c0_876 : Index := 0#32
  ![19, v1998.toNat, 0]
def k0_off35 (i : grid0.Coords) (k0_t4 : Fin (k0_t4_loop i).trips) : Fin 3 → Nat :=
  let c20 : Index := 20#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2002 : Index := Scalar.indexCast v1041
  let c0_877 : Index := 0#32
  ![20, v2002.toNat, 0]
def k0_off36 (i : grid0.Coords) (k0_t4 : Fin (k0_t4_loop i).trips) : Fin 3 → Nat :=
  let c21 : Index := 21#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2006 : Index := Scalar.indexCast v1041
  let c0_878 : Index := 0#32
  ![21, v2006.toNat, 0]
def k0_off37 (i : grid0.Coords) (k0_t4 : Fin (k0_t4_loop i).trips) : Fin 3 → Nat :=
  let c22 : Index := 22#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2010 : Index := Scalar.indexCast v1041
  let c0_879 : Index := 0#32
  ![22, v2010.toNat, 0]
def k0_off38 (i : grid0.Coords) (k0_t4 : Fin (k0_t4_loop i).trips) : Fin 3 → Nat :=
  let c23 : Index := 23#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2014 : Index := Scalar.indexCast v1041
  let c0_880 : Index := 0#32
  ![23, v2014.toNat, 0]
def k0_off39 (i : grid0.Coords) (k0_t4 : Fin (k0_t4_loop i).trips) : Fin 3 → Nat :=
  let c24 : Index := 24#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2018 : Index := Scalar.indexCast v1041
  let c0_881 : Index := 0#32
  ![24, v2018.toNat, 0]
def k0_off40 (i : grid0.Coords) (k0_t4 : Fin (k0_t4_loop i).trips) : Fin 3 → Nat :=
  let c25 : Index := 25#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2022 : Index := Scalar.indexCast v1041
  let c0_882 : Index := 0#32
  ![25, v2022.toNat, 0]
def k0_off41 (i : grid0.Coords) (k0_t4 : Fin (k0_t4_loop i).trips) : Fin 3 → Nat :=
  let c26 : Index := 26#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2026 : Index := Scalar.indexCast v1041
  let c0_883 : Index := 0#32
  ![26, v2026.toNat, 0]
def k0_off42 (i : grid0.Coords) (k0_t4 : Fin (k0_t4_loop i).trips) : Fin 3 → Nat :=
  let c27 : Index := 27#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2030 : Index := Scalar.indexCast v1041
  let c0_884 : Index := 0#32
  ![27, v2030.toNat, 0]
def k0_off43 (i : grid0.Coords) (k0_t4 : Fin (k0_t4_loop i).trips) : Fin 3 → Nat :=
  let c28 : Index := 28#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2034 : Index := Scalar.indexCast v1041
  let c0_885 : Index := 0#32
  ![28, v2034.toNat, 0]
def k0_off44 (i : grid0.Coords) (k0_t4 : Fin (k0_t4_loop i).trips) : Fin 3 → Nat :=
  let c29 : Index := 29#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2038 : Index := Scalar.indexCast v1041
  let c0_886 : Index := 0#32
  ![29, v2038.toNat, 0]
def k0_off45 (i : grid0.Coords) (k0_t4 : Fin (k0_t4_loop i).trips) : Fin 3 → Nat :=
  let c30 : Index := 30#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2042 : Index := Scalar.indexCast v1041
  let c0_887 : Index := 0#32
  ![30, v2042.toNat, 0]
def k0_off46 (i : grid0.Coords) (k0_t4 : Fin (k0_t4_loop i).trips) : Fin 3 → Nat :=
  let c31 : Index := 31#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2046 : Index := Scalar.indexCast v1041
  let c0_888 : Index := 0#32
  ![31, v2046.toNat, 0]
def k0_off47 (i : grid0.Coords) (k0_t4 : Fin (k0_t4_loop i).trips) (c0_i32_889 : BitVec 32) : Fin 2 → Nat :=
  let c0_i32_508 : BitVec 32 := 0#32
  let c1_i32_510 : BitVec 32 := 1#32
  let arg18 : BitVec 32 := Scf.iv c0_i32_508 c1_i32_510 k0_t4
  let c256_i32_544 : BitVec 32 := 256#32
  let v1038 : BitVec 32 := Scalar.muli arg18 c256_i32_544
  let v1039 : BitVec 32 := v1038
  let v2050 : BitVec 32 := Scalar.addi v1039 c0_i32_889
  let v2051 : Index := Scalar.indexCast v2050
  let c128_890 : Index := 128#32
  ![v2051.toNat, 128]
def k0_off48 (i : grid0.Coords) (k0_t4 : Fin (k0_t4_loop i).trips) : Fin 3 → Nat :=
  let c0_1225 : Index := 0#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2930 : Index := Scalar.indexCast v1041
  let c128_1226 : Index := 128#32
  ![0, v2930.toNat, 128]
def k0_off49 (i : grid0.Coords) (k0_t4 : Fin (k0_t4_loop i).trips) : Fin 3 → Nat :=
  let c1_1227 : Index := 1#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2934 : Index := Scalar.indexCast v1041
  let c128_1228 : Index := 128#32
  ![1, v2934.toNat, 128]
def k0_off50 (i : grid0.Coords) (k0_t4 : Fin (k0_t4_loop i).trips) : Fin 3 → Nat :=
  let c2_1229 : Index := 2#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2938 : Index := Scalar.indexCast v1041
  let c128_1230 : Index := 128#32
  ![2, v2938.toNat, 128]
def k0_off51 (i : grid0.Coords) (k0_t4 : Fin (k0_t4_loop i).trips) : Fin 3 → Nat :=
  let c3_1231 : Index := 3#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2942 : Index := Scalar.indexCast v1041
  let c128_1232 : Index := 128#32
  ![3, v2942.toNat, 128]
def k0_off52 (i : grid0.Coords) (k0_t4 : Fin (k0_t4_loop i).trips) : Fin 3 → Nat :=
  let c4_1233 : Index := 4#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2946 : Index := Scalar.indexCast v1041
  let c128_1234 : Index := 128#32
  ![4, v2946.toNat, 128]
def k0_off53 (i : grid0.Coords) (k0_t4 : Fin (k0_t4_loop i).trips) : Fin 3 → Nat :=
  let c5_1235 : Index := 5#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2950 : Index := Scalar.indexCast v1041
  let c128_1236 : Index := 128#32
  ![5, v2950.toNat, 128]
def k0_off54 (i : grid0.Coords) (k0_t4 : Fin (k0_t4_loop i).trips) : Fin 3 → Nat :=
  let c6_1237 : Index := 6#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2954 : Index := Scalar.indexCast v1041
  let c128_1238 : Index := 128#32
  ![6, v2954.toNat, 128]
def k0_off55 (i : grid0.Coords) (k0_t4 : Fin (k0_t4_loop i).trips) : Fin 3 → Nat :=
  let c7_1239 : Index := 7#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2958 : Index := Scalar.indexCast v1041
  let c128_1240 : Index := 128#32
  ![7, v2958.toNat, 128]
def k0_off56 (i : grid0.Coords) (k0_t4 : Fin (k0_t4_loop i).trips) : Fin 3 → Nat :=
  let c8_1241 : Index := 8#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2962 : Index := Scalar.indexCast v1041
  let c128_1242 : Index := 128#32
  ![8, v2962.toNat, 128]
def k0_off57 (i : grid0.Coords) (k0_t4 : Fin (k0_t4_loop i).trips) : Fin 3 → Nat :=
  let c9_1243 : Index := 9#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2966 : Index := Scalar.indexCast v1041
  let c128_1244 : Index := 128#32
  ![9, v2966.toNat, 128]
def k0_off58 (i : grid0.Coords) (k0_t4 : Fin (k0_t4_loop i).trips) : Fin 3 → Nat :=
  let c10_1245 : Index := 10#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2970 : Index := Scalar.indexCast v1041
  let c128_1246 : Index := 128#32
  ![10, v2970.toNat, 128]
def k0_off59 (i : grid0.Coords) (k0_t4 : Fin (k0_t4_loop i).trips) : Fin 3 → Nat :=
  let c11_1247 : Index := 11#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2974 : Index := Scalar.indexCast v1041
  let c128_1248 : Index := 128#32
  ![11, v2974.toNat, 128]
def k0_off60 (i : grid0.Coords) (k0_t4 : Fin (k0_t4_loop i).trips) : Fin 3 → Nat :=
  let c12_1249 : Index := 12#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2978 : Index := Scalar.indexCast v1041
  let c128_1250 : Index := 128#32
  ![12, v2978.toNat, 128]
def k0_off61 (i : grid0.Coords) (k0_t4 : Fin (k0_t4_loop i).trips) : Fin 3 → Nat :=
  let c13_1251 : Index := 13#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2982 : Index := Scalar.indexCast v1041
  let c128_1252 : Index := 128#32
  ![13, v2982.toNat, 128]
def k0_off62 (i : grid0.Coords) (k0_t4 : Fin (k0_t4_loop i).trips) : Fin 3 → Nat :=
  let c14_1253 : Index := 14#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2986 : Index := Scalar.indexCast v1041
  let c128_1254 : Index := 128#32
  ![14, v2986.toNat, 128]
def k0_off63 (i : grid0.Coords) (k0_t4 : Fin (k0_t4_loop i).trips) : Fin 3 → Nat :=
  let c15_1255 : Index := 15#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2990 : Index := Scalar.indexCast v1041
  let c128_1256 : Index := 128#32
  ![15, v2990.toNat, 128]
def k0_off64 (i : grid0.Coords) (k0_t4 : Fin (k0_t4_loop i).trips) : Fin 3 → Nat :=
  let c16_1257 : Index := 16#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2994 : Index := Scalar.indexCast v1041
  let c128_1258 : Index := 128#32
  ![16, v2994.toNat, 128]
def k0_off65 (i : grid0.Coords) (k0_t4 : Fin (k0_t4_loop i).trips) : Fin 3 → Nat :=
  let c17_1259 : Index := 17#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v2998 : Index := Scalar.indexCast v1041
  let c128_1260 : Index := 128#32
  ![17, v2998.toNat, 128]
def k0_off66 (i : grid0.Coords) (k0_t4 : Fin (k0_t4_loop i).trips) : Fin 3 → Nat :=
  let c18_1261 : Index := 18#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3002 : Index := Scalar.indexCast v1041
  let c128_1262 : Index := 128#32
  ![18, v3002.toNat, 128]
def k0_off67 (i : grid0.Coords) (k0_t4 : Fin (k0_t4_loop i).trips) : Fin 3 → Nat :=
  let c19_1263 : Index := 19#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3006 : Index := Scalar.indexCast v1041
  let c128_1264 : Index := 128#32
  ![19, v3006.toNat, 128]
def k0_off68 (i : grid0.Coords) (k0_t4 : Fin (k0_t4_loop i).trips) : Fin 3 → Nat :=
  let c20_1265 : Index := 20#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3010 : Index := Scalar.indexCast v1041
  let c128_1266 : Index := 128#32
  ![20, v3010.toNat, 128]
def k0_off69 (i : grid0.Coords) (k0_t4 : Fin (k0_t4_loop i).trips) : Fin 3 → Nat :=
  let c21_1267 : Index := 21#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3014 : Index := Scalar.indexCast v1041
  let c128_1268 : Index := 128#32
  ![21, v3014.toNat, 128]
def k0_off70 (i : grid0.Coords) (k0_t4 : Fin (k0_t4_loop i).trips) : Fin 3 → Nat :=
  let c22_1269 : Index := 22#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3018 : Index := Scalar.indexCast v1041
  let c128_1270 : Index := 128#32
  ![22, v3018.toNat, 128]
def k0_off71 (i : grid0.Coords) (k0_t4 : Fin (k0_t4_loop i).trips) : Fin 3 → Nat :=
  let c23_1271 : Index := 23#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3022 : Index := Scalar.indexCast v1041
  let c128_1272 : Index := 128#32
  ![23, v3022.toNat, 128]
def k0_off72 (i : grid0.Coords) (k0_t4 : Fin (k0_t4_loop i).trips) : Fin 3 → Nat :=
  let c24_1273 : Index := 24#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3026 : Index := Scalar.indexCast v1041
  let c128_1274 : Index := 128#32
  ![24, v3026.toNat, 128]
def k0_off73 (i : grid0.Coords) (k0_t4 : Fin (k0_t4_loop i).trips) : Fin 3 → Nat :=
  let c25_1275 : Index := 25#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3030 : Index := Scalar.indexCast v1041
  let c128_1276 : Index := 128#32
  ![25, v3030.toNat, 128]
def k0_off74 (i : grid0.Coords) (k0_t4 : Fin (k0_t4_loop i).trips) : Fin 3 → Nat :=
  let c26_1277 : Index := 26#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3034 : Index := Scalar.indexCast v1041
  let c128_1278 : Index := 128#32
  ![26, v3034.toNat, 128]
def k0_off75 (i : grid0.Coords) (k0_t4 : Fin (k0_t4_loop i).trips) : Fin 3 → Nat :=
  let c27_1279 : Index := 27#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3038 : Index := Scalar.indexCast v1041
  let c128_1280 : Index := 128#32
  ![27, v3038.toNat, 128]
def k0_off76 (i : grid0.Coords) (k0_t4 : Fin (k0_t4_loop i).trips) : Fin 3 → Nat :=
  let c28_1281 : Index := 28#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3042 : Index := Scalar.indexCast v1041
  let c128_1282 : Index := 128#32
  ![28, v3042.toNat, 128]
def k0_off77 (i : grid0.Coords) (k0_t4 : Fin (k0_t4_loop i).trips) : Fin 3 → Nat :=
  let c29_1283 : Index := 29#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3046 : Index := Scalar.indexCast v1041
  let c128_1284 : Index := 128#32
  ![29, v3046.toNat, 128]
def k0_off78 (i : grid0.Coords) (k0_t4 : Fin (k0_t4_loop i).trips) : Fin 3 → Nat :=
  let c30_1285 : Index := 30#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3050 : Index := Scalar.indexCast v1041
  let c128_1286 : Index := 128#32
  ![30, v3050.toNat, 128]
def k0_off79 (i : grid0.Coords) (k0_t4 : Fin (k0_t4_loop i).trips) : Fin 3 → Nat :=
  let c31_1287 : Index := 31#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3054 : Index := Scalar.indexCast v1041
  let c128_1288 : Index := 128#32
  ![31, v3054.toNat, 128]
def k0_off80 (i : grid0.Coords) (k0_t4 : Fin (k0_t4_loop i).trips) (c0_i32_1289 : BitVec 32) : Fin 2 → Nat :=
  let c0_i32_508 : BitVec 32 := 0#32
  let c1_i32_510 : BitVec 32 := 1#32
  let arg18 : BitVec 32 := Scf.iv c0_i32_508 c1_i32_510 k0_t4
  let c256_i32_544 : BitVec 32 := 256#32
  let v1038 : BitVec 32 := Scalar.muli arg18 c256_i32_544
  let v1039 : BitVec 32 := v1038
  let v3058 : BitVec 32 := Scalar.addi v1039 c0_i32_1289
  let v3059 : Index := Scalar.indexCast v3058
  let c256_1290 : Index := 256#32
  ![v3059.toNat, 256]
def k0_off81 (i : grid0.Coords) (k0_t4 : Fin (k0_t4_loop i).trips) : Fin 3 → Nat :=
  let c0_1625 : Index := 0#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3938 : Index := Scalar.indexCast v1041
  let c256_1626 : Index := 256#32
  ![0, v3938.toNat, 256]
def k0_off82 (i : grid0.Coords) (k0_t4 : Fin (k0_t4_loop i).trips) : Fin 3 → Nat :=
  let c1_1627 : Index := 1#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3942 : Index := Scalar.indexCast v1041
  let c256_1628 : Index := 256#32
  ![1, v3942.toNat, 256]
def k0_off83 (i : grid0.Coords) (k0_t4 : Fin (k0_t4_loop i).trips) : Fin 3 → Nat :=
  let c2_1629 : Index := 2#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3946 : Index := Scalar.indexCast v1041
  let c256_1630 : Index := 256#32
  ![2, v3946.toNat, 256]
def k0_off84 (i : grid0.Coords) (k0_t4 : Fin (k0_t4_loop i).trips) : Fin 3 → Nat :=
  let c3_1631 : Index := 3#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3950 : Index := Scalar.indexCast v1041
  let c256_1632 : Index := 256#32
  ![3, v3950.toNat, 256]
def k0_off85 (i : grid0.Coords) (k0_t4 : Fin (k0_t4_loop i).trips) : Fin 3 → Nat :=
  let c4_1633 : Index := 4#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3954 : Index := Scalar.indexCast v1041
  let c256_1634 : Index := 256#32
  ![4, v3954.toNat, 256]
def k0_off86 (i : grid0.Coords) (k0_t4 : Fin (k0_t4_loop i).trips) : Fin 3 → Nat :=
  let c5_1635 : Index := 5#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3958 : Index := Scalar.indexCast v1041
  let c256_1636 : Index := 256#32
  ![5, v3958.toNat, 256]
def k0_off87 (i : grid0.Coords) (k0_t4 : Fin (k0_t4_loop i).trips) : Fin 3 → Nat :=
  let c6_1637 : Index := 6#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3962 : Index := Scalar.indexCast v1041
  let c256_1638 : Index := 256#32
  ![6, v3962.toNat, 256]
def k0_off88 (i : grid0.Coords) (k0_t4 : Fin (k0_t4_loop i).trips) : Fin 3 → Nat :=
  let c7_1639 : Index := 7#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3966 : Index := Scalar.indexCast v1041
  let c256_1640 : Index := 256#32
  ![7, v3966.toNat, 256]
def k0_off89 (i : grid0.Coords) (k0_t4 : Fin (k0_t4_loop i).trips) : Fin 3 → Nat :=
  let c8_1641 : Index := 8#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3970 : Index := Scalar.indexCast v1041
  let c256_1642 : Index := 256#32
  ![8, v3970.toNat, 256]
def k0_off90 (i : grid0.Coords) (k0_t4 : Fin (k0_t4_loop i).trips) : Fin 3 → Nat :=
  let c9_1643 : Index := 9#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3974 : Index := Scalar.indexCast v1041
  let c256_1644 : Index := 256#32
  ![9, v3974.toNat, 256]
def k0_off91 (i : grid0.Coords) (k0_t4 : Fin (k0_t4_loop i).trips) : Fin 3 → Nat :=
  let c10_1645 : Index := 10#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3978 : Index := Scalar.indexCast v1041
  let c256_1646 : Index := 256#32
  ![10, v3978.toNat, 256]
def k0_off92 (i : grid0.Coords) (k0_t4 : Fin (k0_t4_loop i).trips) : Fin 3 → Nat :=
  let c11_1647 : Index := 11#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3982 : Index := Scalar.indexCast v1041
  let c256_1648 : Index := 256#32
  ![11, v3982.toNat, 256]
def k0_off93 (i : grid0.Coords) (k0_t4 : Fin (k0_t4_loop i).trips) : Fin 3 → Nat :=
  let c12_1649 : Index := 12#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3986 : Index := Scalar.indexCast v1041
  let c256_1650 : Index := 256#32
  ![12, v3986.toNat, 256]
def k0_off94 (i : grid0.Coords) (k0_t4 : Fin (k0_t4_loop i).trips) : Fin 3 → Nat :=
  let c13_1651 : Index := 13#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3990 : Index := Scalar.indexCast v1041
  let c256_1652 : Index := 256#32
  ![13, v3990.toNat, 256]
def k0_off95 (i : grid0.Coords) (k0_t4 : Fin (k0_t4_loop i).trips) : Fin 3 → Nat :=
  let c14_1653 : Index := 14#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3994 : Index := Scalar.indexCast v1041
  let c256_1654 : Index := 256#32
  ![14, v3994.toNat, 256]
def k0_off96 (i : grid0.Coords) (k0_t4 : Fin (k0_t4_loop i).trips) : Fin 3 → Nat :=
  let c15_1655 : Index := 15#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v3998 : Index := Scalar.indexCast v1041
  let c256_1656 : Index := 256#32
  ![15, v3998.toNat, 256]
def k0_off97 (i : grid0.Coords) (k0_t4 : Fin (k0_t4_loop i).trips) : Fin 3 → Nat :=
  let c16_1657 : Index := 16#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4002 : Index := Scalar.indexCast v1041
  let c256_1658 : Index := 256#32
  ![16, v4002.toNat, 256]
def k0_off98 (i : grid0.Coords) (k0_t4 : Fin (k0_t4_loop i).trips) : Fin 3 → Nat :=
  let c17_1659 : Index := 17#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4006 : Index := Scalar.indexCast v1041
  let c256_1660 : Index := 256#32
  ![17, v4006.toNat, 256]
def k0_off99 (i : grid0.Coords) (k0_t4 : Fin (k0_t4_loop i).trips) : Fin 3 → Nat :=
  let c18_1661 : Index := 18#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4010 : Index := Scalar.indexCast v1041
  let c256_1662 : Index := 256#32
  ![18, v4010.toNat, 256]
def k0_off100 (i : grid0.Coords) (k0_t4 : Fin (k0_t4_loop i).trips) : Fin 3 → Nat :=
  let c19_1663 : Index := 19#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4014 : Index := Scalar.indexCast v1041
  let c256_1664 : Index := 256#32
  ![19, v4014.toNat, 256]
def k0_off101 (i : grid0.Coords) (k0_t4 : Fin (k0_t4_loop i).trips) : Fin 3 → Nat :=
  let c20_1665 : Index := 20#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4018 : Index := Scalar.indexCast v1041
  let c256_1666 : Index := 256#32
  ![20, v4018.toNat, 256]
def k0_off102 (i : grid0.Coords) (k0_t4 : Fin (k0_t4_loop i).trips) : Fin 3 → Nat :=
  let c21_1667 : Index := 21#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4022 : Index := Scalar.indexCast v1041
  let c256_1668 : Index := 256#32
  ![21, v4022.toNat, 256]
def k0_off103 (i : grid0.Coords) (k0_t4 : Fin (k0_t4_loop i).trips) : Fin 3 → Nat :=
  let c22_1669 : Index := 22#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4026 : Index := Scalar.indexCast v1041
  let c256_1670 : Index := 256#32
  ![22, v4026.toNat, 256]
def k0_off104 (i : grid0.Coords) (k0_t4 : Fin (k0_t4_loop i).trips) : Fin 3 → Nat :=
  let c23_1671 : Index := 23#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4030 : Index := Scalar.indexCast v1041
  let c256_1672 : Index := 256#32
  ![23, v4030.toNat, 256]
def k0_off105 (i : grid0.Coords) (k0_t4 : Fin (k0_t4_loop i).trips) : Fin 3 → Nat :=
  let c24_1673 : Index := 24#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4034 : Index := Scalar.indexCast v1041
  let c256_1674 : Index := 256#32
  ![24, v4034.toNat, 256]
def k0_off106 (i : grid0.Coords) (k0_t4 : Fin (k0_t4_loop i).trips) : Fin 3 → Nat :=
  let c25_1675 : Index := 25#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4038 : Index := Scalar.indexCast v1041
  let c256_1676 : Index := 256#32
  ![25, v4038.toNat, 256]
def k0_off107 (i : grid0.Coords) (k0_t4 : Fin (k0_t4_loop i).trips) : Fin 3 → Nat :=
  let c26_1677 : Index := 26#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4042 : Index := Scalar.indexCast v1041
  let c256_1678 : Index := 256#32
  ![26, v4042.toNat, 256]
def k0_off108 (i : grid0.Coords) (k0_t4 : Fin (k0_t4_loop i).trips) : Fin 3 → Nat :=
  let c27_1679 : Index := 27#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4046 : Index := Scalar.indexCast v1041
  let c256_1680 : Index := 256#32
  ![27, v4046.toNat, 256]
def k0_off109 (i : grid0.Coords) (k0_t4 : Fin (k0_t4_loop i).trips) : Fin 3 → Nat :=
  let c28_1681 : Index := 28#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4050 : Index := Scalar.indexCast v1041
  let c256_1682 : Index := 256#32
  ![28, v4050.toNat, 256]
def k0_off110 (i : grid0.Coords) (k0_t4 : Fin (k0_t4_loop i).trips) : Fin 3 → Nat :=
  let c29_1683 : Index := 29#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4054 : Index := Scalar.indexCast v1041
  let c256_1684 : Index := 256#32
  ![29, v4054.toNat, 256]
def k0_off111 (i : grid0.Coords) (k0_t4 : Fin (k0_t4_loop i).trips) : Fin 3 → Nat :=
  let c30_1685 : Index := 30#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4058 : Index := Scalar.indexCast v1041
  let c256_1686 : Index := 256#32
  ![30, v4058.toNat, 256]
def k0_off112 (i : grid0.Coords) (k0_t4 : Fin (k0_t4_loop i).trips) : Fin 3 → Nat :=
  let c31_1687 : Index := 31#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4062 : Index := Scalar.indexCast v1041
  let c256_1688 : Index := 256#32
  ![31, v4062.toNat, 256]
def k0_off113 (i : grid0.Coords) (k0_t4 : Fin (k0_t4_loop i).trips) (c0_i32_1689 : BitVec 32) : Fin 2 → Nat :=
  let c0_i32_508 : BitVec 32 := 0#32
  let c1_i32_510 : BitVec 32 := 1#32
  let arg18 : BitVec 32 := Scf.iv c0_i32_508 c1_i32_510 k0_t4
  let c256_i32_544 : BitVec 32 := 256#32
  let v1038 : BitVec 32 := Scalar.muli arg18 c256_i32_544
  let v1039 : BitVec 32 := v1038
  let v4066 : BitVec 32 := Scalar.addi v1039 c0_i32_1689
  let v4067 : Index := Scalar.indexCast v4066
  let c384_1690 : Index := 384#32
  ![v4067.toNat, 384]
def k0_off114 (i : grid0.Coords) (k0_t4 : Fin (k0_t4_loop i).trips) : Fin 3 → Nat :=
  let c0_2025 : Index := 0#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4946 : Index := Scalar.indexCast v1041
  let c384_2026 : Index := 384#32
  ![0, v4946.toNat, 384]
def k0_off115 (i : grid0.Coords) (k0_t4 : Fin (k0_t4_loop i).trips) : Fin 3 → Nat :=
  let c1_2027 : Index := 1#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4950 : Index := Scalar.indexCast v1041
  let c384_2028 : Index := 384#32
  ![1, v4950.toNat, 384]
def k0_off116 (i : grid0.Coords) (k0_t4 : Fin (k0_t4_loop i).trips) : Fin 3 → Nat :=
  let c2_2029 : Index := 2#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4954 : Index := Scalar.indexCast v1041
  let c384_2030 : Index := 384#32
  ![2, v4954.toNat, 384]
def k0_off117 (i : grid0.Coords) (k0_t4 : Fin (k0_t4_loop i).trips) : Fin 3 → Nat :=
  let c3_2031 : Index := 3#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4958 : Index := Scalar.indexCast v1041
  let c384_2032 : Index := 384#32
  ![3, v4958.toNat, 384]
def k0_off118 (i : grid0.Coords) (k0_t4 : Fin (k0_t4_loop i).trips) : Fin 3 → Nat :=
  let c4_2033 : Index := 4#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4962 : Index := Scalar.indexCast v1041
  let c384_2034 : Index := 384#32
  ![4, v4962.toNat, 384]
def k0_off119 (i : grid0.Coords) (k0_t4 : Fin (k0_t4_loop i).trips) : Fin 3 → Nat :=
  let c5_2035 : Index := 5#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4966 : Index := Scalar.indexCast v1041
  let c384_2036 : Index := 384#32
  ![5, v4966.toNat, 384]
def k0_off120 (i : grid0.Coords) (k0_t4 : Fin (k0_t4_loop i).trips) : Fin 3 → Nat :=
  let c6_2037 : Index := 6#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4970 : Index := Scalar.indexCast v1041
  let c384_2038 : Index := 384#32
  ![6, v4970.toNat, 384]
def k0_off121 (i : grid0.Coords) (k0_t4 : Fin (k0_t4_loop i).trips) : Fin 3 → Nat :=
  let c7_2039 : Index := 7#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4974 : Index := Scalar.indexCast v1041
  let c384_2040 : Index := 384#32
  ![7, v4974.toNat, 384]
def k0_off122 (i : grid0.Coords) (k0_t4 : Fin (k0_t4_loop i).trips) : Fin 3 → Nat :=
  let c8_2041 : Index := 8#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4978 : Index := Scalar.indexCast v1041
  let c384_2042 : Index := 384#32
  ![8, v4978.toNat, 384]
def k0_off123 (i : grid0.Coords) (k0_t4 : Fin (k0_t4_loop i).trips) : Fin 3 → Nat :=
  let c9_2043 : Index := 9#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4982 : Index := Scalar.indexCast v1041
  let c384_2044 : Index := 384#32
  ![9, v4982.toNat, 384]
def k0_off124 (i : grid0.Coords) (k0_t4 : Fin (k0_t4_loop i).trips) : Fin 3 → Nat :=
  let c10_2045 : Index := 10#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4986 : Index := Scalar.indexCast v1041
  let c384_2046 : Index := 384#32
  ![10, v4986.toNat, 384]
def k0_off125 (i : grid0.Coords) (k0_t4 : Fin (k0_t4_loop i).trips) : Fin 3 → Nat :=
  let c11_2047 : Index := 11#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4990 : Index := Scalar.indexCast v1041
  let c384_2048 : Index := 384#32
  ![11, v4990.toNat, 384]
def k0_off126 (i : grid0.Coords) (k0_t4 : Fin (k0_t4_loop i).trips) : Fin 3 → Nat :=
  let c12_2049 : Index := 12#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4994 : Index := Scalar.indexCast v1041
  let c384_2050 : Index := 384#32
  ![12, v4994.toNat, 384]
def k0_off127 (i : grid0.Coords) (k0_t4 : Fin (k0_t4_loop i).trips) : Fin 3 → Nat :=
  let c13_2051 : Index := 13#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v4998 : Index := Scalar.indexCast v1041
  let c384_2052 : Index := 384#32
  ![13, v4998.toNat, 384]
def k0_off128 (i : grid0.Coords) (k0_t4 : Fin (k0_t4_loop i).trips) : Fin 3 → Nat :=
  let c14_2053 : Index := 14#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5002 : Index := Scalar.indexCast v1041
  let c384_2054 : Index := 384#32
  ![14, v5002.toNat, 384]
def k0_off129 (i : grid0.Coords) (k0_t4 : Fin (k0_t4_loop i).trips) : Fin 3 → Nat :=
  let c15_2055 : Index := 15#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5006 : Index := Scalar.indexCast v1041
  let c384_2056 : Index := 384#32
  ![15, v5006.toNat, 384]
def k0_off130 (i : grid0.Coords) (k0_t4 : Fin (k0_t4_loop i).trips) : Fin 3 → Nat :=
  let c16_2057 : Index := 16#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5010 : Index := Scalar.indexCast v1041
  let c384_2058 : Index := 384#32
  ![16, v5010.toNat, 384]
def k0_off131 (i : grid0.Coords) (k0_t4 : Fin (k0_t4_loop i).trips) : Fin 3 → Nat :=
  let c17_2059 : Index := 17#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5014 : Index := Scalar.indexCast v1041
  let c384_2060 : Index := 384#32
  ![17, v5014.toNat, 384]
def k0_off132 (i : grid0.Coords) (k0_t4 : Fin (k0_t4_loop i).trips) : Fin 3 → Nat :=
  let c18_2061 : Index := 18#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5018 : Index := Scalar.indexCast v1041
  let c384_2062 : Index := 384#32
  ![18, v5018.toNat, 384]
def k0_off133 (i : grid0.Coords) (k0_t4 : Fin (k0_t4_loop i).trips) : Fin 3 → Nat :=
  let c19_2063 : Index := 19#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5022 : Index := Scalar.indexCast v1041
  let c384_2064 : Index := 384#32
  ![19, v5022.toNat, 384]
def k0_off134 (i : grid0.Coords) (k0_t4 : Fin (k0_t4_loop i).trips) : Fin 3 → Nat :=
  let c20_2065 : Index := 20#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5026 : Index := Scalar.indexCast v1041
  let c384_2066 : Index := 384#32
  ![20, v5026.toNat, 384]
def k0_off135 (i : grid0.Coords) (k0_t4 : Fin (k0_t4_loop i).trips) : Fin 3 → Nat :=
  let c21_2067 : Index := 21#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5030 : Index := Scalar.indexCast v1041
  let c384_2068 : Index := 384#32
  ![21, v5030.toNat, 384]
def k0_off136 (i : grid0.Coords) (k0_t4 : Fin (k0_t4_loop i).trips) : Fin 3 → Nat :=
  let c22_2069 : Index := 22#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5034 : Index := Scalar.indexCast v1041
  let c384_2070 : Index := 384#32
  ![22, v5034.toNat, 384]
def k0_off137 (i : grid0.Coords) (k0_t4 : Fin (k0_t4_loop i).trips) : Fin 3 → Nat :=
  let c23_2071 : Index := 23#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5038 : Index := Scalar.indexCast v1041
  let c384_2072 : Index := 384#32
  ![23, v5038.toNat, 384]
def k0_off138 (i : grid0.Coords) (k0_t4 : Fin (k0_t4_loop i).trips) : Fin 3 → Nat :=
  let c24_2073 : Index := 24#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5042 : Index := Scalar.indexCast v1041
  let c384_2074 : Index := 384#32
  ![24, v5042.toNat, 384]
def k0_off139 (i : grid0.Coords) (k0_t4 : Fin (k0_t4_loop i).trips) : Fin 3 → Nat :=
  let c25_2075 : Index := 25#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5046 : Index := Scalar.indexCast v1041
  let c384_2076 : Index := 384#32
  ![25, v5046.toNat, 384]
def k0_off140 (i : grid0.Coords) (k0_t4 : Fin (k0_t4_loop i).trips) : Fin 3 → Nat :=
  let c26_2077 : Index := 26#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5050 : Index := Scalar.indexCast v1041
  let c384_2078 : Index := 384#32
  ![26, v5050.toNat, 384]
def k0_off141 (i : grid0.Coords) (k0_t4 : Fin (k0_t4_loop i).trips) : Fin 3 → Nat :=
  let c27_2079 : Index := 27#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5054 : Index := Scalar.indexCast v1041
  let c384_2080 : Index := 384#32
  ![27, v5054.toNat, 384]
def k0_off142 (i : grid0.Coords) (k0_t4 : Fin (k0_t4_loop i).trips) : Fin 3 → Nat :=
  let c28_2081 : Index := 28#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5058 : Index := Scalar.indexCast v1041
  let c384_2082 : Index := 384#32
  ![28, v5058.toNat, 384]
def k0_off143 (i : grid0.Coords) (k0_t4 : Fin (k0_t4_loop i).trips) : Fin 3 → Nat :=
  let c29_2083 : Index := 29#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5062 : Index := Scalar.indexCast v1041
  let c384_2084 : Index := 384#32
  ![29, v5062.toNat, 384]
def k0_off144 (i : grid0.Coords) (k0_t4 : Fin (k0_t4_loop i).trips) : Fin 3 → Nat :=
  let c30_2085 : Index := 30#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5066 : Index := Scalar.indexCast v1041
  let c384_2086 : Index := 384#32
  ![30, v5066.toNat, 384]
def k0_off145 (i : grid0.Coords) (k0_t4 : Fin (k0_t4_loop i).trips) : Fin 3 → Nat :=
  let c31_2087 : Index := 31#32
  let c0_i32_508 : BitVec 32 := 0#32
  let c1_i32_510 : BitVec 32 := 1#32
  let arg18 : BitVec 32 := Scf.iv c0_i32_508 c1_i32_510 k0_t4
  let c8_i32 : BitVec 32 := 8#32
  let v1040 : BitVec 32 := Scalar.muli arg18 c8_i32
  let v1041 : BitVec 32 := v1040
  let v5070 : Index := Scalar.indexCast v1041
  let c384_2088 : Index := 384#32
  ![31, v5070.toNat, 384]
@[reducible] def k0_t5_loop (i : grid0.Coords) : Scf.Loop 32 :=
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let v962 : BitVec 32 := Scalar.addi c0_i32_508 v961
  let c1_i32_511 : BitVec 32 := 1#32
  ⟨v965, v962, c1_i32_511⟩
def k0_mult18 (i : grid0.Coords) (k0_t5 : Fin (k0_t5_loop i).trips) : BitVec 32 :=
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c256_i32_544 : BitVec 32 := 256#32
  let v1038 : BitVec 32 := Scalar.muli arg18 c256_i32_544
  v1038
def k0_mult19 (i : grid0.Coords) (k0_t5 : Fin (k0_t5_loop i).trips) : BitVec 32 :=
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  v1040
def k0_off146 (i : grid0.Coords) (k0_t5 : Fin (k0_t5_loop i).trips) (c0_i32_545 : BitVec 32) : Fin 2 → Nat :=
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c256_i32_544 : BitVec 32 := 256#32
  let v1038 : BitVec 32 := Scalar.muli arg18 c256_i32_544
  let v1039 : BitVec 32 := v1038
  let v1042 : BitVec 32 := Scalar.addi v1039 c0_i32_545
  let v1043 : Index := Scalar.indexCast v1042
  let c0_546 : Index := 0#32
  ![v1043.toNat, 0]
def k0_off147 (i : grid0.Coords) (k0_t5 : Fin (k0_t5_loop i).trips) : Fin 3 → Nat :=
  let c0_849 : Index := 0#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1922 : Index := Scalar.indexCast v1041
  let c0_850 : Index := 0#32
  ![0, v1922.toNat, 0]
def k0_off148 (i : grid0.Coords) (k0_t5 : Fin (k0_t5_loop i).trips) : Fin 3 → Nat :=
  let c1_851 : Index := 1#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1926 : Index := Scalar.indexCast v1041
  let c0_852 : Index := 0#32
  ![1, v1926.toNat, 0]
def k0_off149 (i : grid0.Coords) (k0_t5 : Fin (k0_t5_loop i).trips) : Fin 3 → Nat :=
  let c2_853 : Index := 2#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1930 : Index := Scalar.indexCast v1041
  let c0_854 : Index := 0#32
  ![2, v1930.toNat, 0]
def k0_off150 (i : grid0.Coords) (k0_t5 : Fin (k0_t5_loop i).trips) : Fin 3 → Nat :=
  let c3_855 : Index := 3#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1934 : Index := Scalar.indexCast v1041
  let c0_856 : Index := 0#32
  ![3, v1934.toNat, 0]
def k0_off151 (i : grid0.Coords) (k0_t5 : Fin (k0_t5_loop i).trips) : Fin 3 → Nat :=
  let c4_857 : Index := 4#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1938 : Index := Scalar.indexCast v1041
  let c0_858 : Index := 0#32
  ![4, v1938.toNat, 0]
def k0_off152 (i : grid0.Coords) (k0_t5 : Fin (k0_t5_loop i).trips) : Fin 3 → Nat :=
  let c5_859 : Index := 5#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1942 : Index := Scalar.indexCast v1041
  let c0_860 : Index := 0#32
  ![5, v1942.toNat, 0]
def k0_off153 (i : grid0.Coords) (k0_t5 : Fin (k0_t5_loop i).trips) : Fin 3 → Nat :=
  let c6_861 : Index := 6#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1946 : Index := Scalar.indexCast v1041
  let c0_862 : Index := 0#32
  ![6, v1946.toNat, 0]
def k0_off154 (i : grid0.Coords) (k0_t5 : Fin (k0_t5_loop i).trips) : Fin 3 → Nat :=
  let c7_863 : Index := 7#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1950 : Index := Scalar.indexCast v1041
  let c0_864 : Index := 0#32
  ![7, v1950.toNat, 0]
def k0_off155 (i : grid0.Coords) (k0_t5 : Fin (k0_t5_loop i).trips) : Fin 3 → Nat :=
  let c8 : Index := 8#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1954 : Index := Scalar.indexCast v1041
  let c0_865 : Index := 0#32
  ![8, v1954.toNat, 0]
def k0_off156 (i : grid0.Coords) (k0_t5 : Fin (k0_t5_loop i).trips) : Fin 3 → Nat :=
  let c9 : Index := 9#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1958 : Index := Scalar.indexCast v1041
  let c0_866 : Index := 0#32
  ![9, v1958.toNat, 0]
def k0_off157 (i : grid0.Coords) (k0_t5 : Fin (k0_t5_loop i).trips) : Fin 3 → Nat :=
  let c10 : Index := 10#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1962 : Index := Scalar.indexCast v1041
  let c0_867 : Index := 0#32
  ![10, v1962.toNat, 0]
def k0_off158 (i : grid0.Coords) (k0_t5 : Fin (k0_t5_loop i).trips) : Fin 3 → Nat :=
  let c11 : Index := 11#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1966 : Index := Scalar.indexCast v1041
  let c0_868 : Index := 0#32
  ![11, v1966.toNat, 0]
def k0_off159 (i : grid0.Coords) (k0_t5 : Fin (k0_t5_loop i).trips) : Fin 3 → Nat :=
  let c12 : Index := 12#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1970 : Index := Scalar.indexCast v1041
  let c0_869 : Index := 0#32
  ![12, v1970.toNat, 0]
def k0_off160 (i : grid0.Coords) (k0_t5 : Fin (k0_t5_loop i).trips) : Fin 3 → Nat :=
  let c13 : Index := 13#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1974 : Index := Scalar.indexCast v1041
  let c0_870 : Index := 0#32
  ![13, v1974.toNat, 0]
def k0_off161 (i : grid0.Coords) (k0_t5 : Fin (k0_t5_loop i).trips) : Fin 3 → Nat :=
  let c14 : Index := 14#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1978 : Index := Scalar.indexCast v1041
  let c0_871 : Index := 0#32
  ![14, v1978.toNat, 0]
def k0_off162 (i : grid0.Coords) (k0_t5 : Fin (k0_t5_loop i).trips) : Fin 3 → Nat :=
  let c15 : Index := 15#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1982 : Index := Scalar.indexCast v1041
  let c0_872 : Index := 0#32
  ![15, v1982.toNat, 0]
def k0_off163 (i : grid0.Coords) (k0_t5 : Fin (k0_t5_loop i).trips) : Fin 3 → Nat :=
  let c16 : Index := 16#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1986 : Index := Scalar.indexCast v1041
  let c0_873 : Index := 0#32
  ![16, v1986.toNat, 0]
def k0_off164 (i : grid0.Coords) (k0_t5 : Fin (k0_t5_loop i).trips) : Fin 3 → Nat :=
  let c17 : Index := 17#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1990 : Index := Scalar.indexCast v1041
  let c0_874 : Index := 0#32
  ![17, v1990.toNat, 0]
def k0_off165 (i : grid0.Coords) (k0_t5 : Fin (k0_t5_loop i).trips) : Fin 3 → Nat :=
  let c18 : Index := 18#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1994 : Index := Scalar.indexCast v1041
  let c0_875 : Index := 0#32
  ![18, v1994.toNat, 0]
def k0_off166 (i : grid0.Coords) (k0_t5 : Fin (k0_t5_loop i).trips) : Fin 3 → Nat :=
  let c19 : Index := 19#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v1998 : Index := Scalar.indexCast v1041
  let c0_876 : Index := 0#32
  ![19, v1998.toNat, 0]
def k0_off167 (i : grid0.Coords) (k0_t5 : Fin (k0_t5_loop i).trips) : Fin 3 → Nat :=
  let c20 : Index := 20#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2002 : Index := Scalar.indexCast v1041
  let c0_877 : Index := 0#32
  ![20, v2002.toNat, 0]
def k0_off168 (i : grid0.Coords) (k0_t5 : Fin (k0_t5_loop i).trips) : Fin 3 → Nat :=
  let c21 : Index := 21#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2006 : Index := Scalar.indexCast v1041
  let c0_878 : Index := 0#32
  ![21, v2006.toNat, 0]
def k0_off169 (i : grid0.Coords) (k0_t5 : Fin (k0_t5_loop i).trips) : Fin 3 → Nat :=
  let c22 : Index := 22#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2010 : Index := Scalar.indexCast v1041
  let c0_879 : Index := 0#32
  ![22, v2010.toNat, 0]
def k0_off170 (i : grid0.Coords) (k0_t5 : Fin (k0_t5_loop i).trips) : Fin 3 → Nat :=
  let c23 : Index := 23#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2014 : Index := Scalar.indexCast v1041
  let c0_880 : Index := 0#32
  ![23, v2014.toNat, 0]
def k0_off171 (i : grid0.Coords) (k0_t5 : Fin (k0_t5_loop i).trips) : Fin 3 → Nat :=
  let c24 : Index := 24#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2018 : Index := Scalar.indexCast v1041
  let c0_881 : Index := 0#32
  ![24, v2018.toNat, 0]
def k0_off172 (i : grid0.Coords) (k0_t5 : Fin (k0_t5_loop i).trips) : Fin 3 → Nat :=
  let c25 : Index := 25#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2022 : Index := Scalar.indexCast v1041
  let c0_882 : Index := 0#32
  ![25, v2022.toNat, 0]
def k0_off173 (i : grid0.Coords) (k0_t5 : Fin (k0_t5_loop i).trips) : Fin 3 → Nat :=
  let c26 : Index := 26#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2026 : Index := Scalar.indexCast v1041
  let c0_883 : Index := 0#32
  ![26, v2026.toNat, 0]
def k0_off174 (i : grid0.Coords) (k0_t5 : Fin (k0_t5_loop i).trips) : Fin 3 → Nat :=
  let c27 : Index := 27#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2030 : Index := Scalar.indexCast v1041
  let c0_884 : Index := 0#32
  ![27, v2030.toNat, 0]
def k0_off175 (i : grid0.Coords) (k0_t5 : Fin (k0_t5_loop i).trips) : Fin 3 → Nat :=
  let c28 : Index := 28#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2034 : Index := Scalar.indexCast v1041
  let c0_885 : Index := 0#32
  ![28, v2034.toNat, 0]
def k0_off176 (i : grid0.Coords) (k0_t5 : Fin (k0_t5_loop i).trips) : Fin 3 → Nat :=
  let c29 : Index := 29#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2038 : Index := Scalar.indexCast v1041
  let c0_886 : Index := 0#32
  ![29, v2038.toNat, 0]
def k0_off177 (i : grid0.Coords) (k0_t5 : Fin (k0_t5_loop i).trips) : Fin 3 → Nat :=
  let c30 : Index := 30#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2042 : Index := Scalar.indexCast v1041
  let c0_887 : Index := 0#32
  ![30, v2042.toNat, 0]
def k0_off178 (i : grid0.Coords) (k0_t5 : Fin (k0_t5_loop i).trips) : Fin 3 → Nat :=
  let c31 : Index := 31#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2046 : Index := Scalar.indexCast v1041
  let c0_888 : Index := 0#32
  ![31, v2046.toNat, 0]
def k0_off179 (i : grid0.Coords) (k0_t5 : Fin (k0_t5_loop i).trips) (c0_i32_889 : BitVec 32) : Fin 2 → Nat :=
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c256_i32_544 : BitVec 32 := 256#32
  let v1038 : BitVec 32 := Scalar.muli arg18 c256_i32_544
  let v1039 : BitVec 32 := v1038
  let v2050 : BitVec 32 := Scalar.addi v1039 c0_i32_889
  let v2051 : Index := Scalar.indexCast v2050
  let c128_890 : Index := 128#32
  ![v2051.toNat, 128]
def k0_off180 (i : grid0.Coords) (k0_t5 : Fin (k0_t5_loop i).trips) : Fin 3 → Nat :=
  let c0_1225 : Index := 0#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2930 : Index := Scalar.indexCast v1041
  let c128_1226 : Index := 128#32
  ![0, v2930.toNat, 128]
def k0_off181 (i : grid0.Coords) (k0_t5 : Fin (k0_t5_loop i).trips) : Fin 3 → Nat :=
  let c1_1227 : Index := 1#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2934 : Index := Scalar.indexCast v1041
  let c128_1228 : Index := 128#32
  ![1, v2934.toNat, 128]
def k0_off182 (i : grid0.Coords) (k0_t5 : Fin (k0_t5_loop i).trips) : Fin 3 → Nat :=
  let c2_1229 : Index := 2#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2938 : Index := Scalar.indexCast v1041
  let c128_1230 : Index := 128#32
  ![2, v2938.toNat, 128]
def k0_off183 (i : grid0.Coords) (k0_t5 : Fin (k0_t5_loop i).trips) : Fin 3 → Nat :=
  let c3_1231 : Index := 3#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2942 : Index := Scalar.indexCast v1041
  let c128_1232 : Index := 128#32
  ![3, v2942.toNat, 128]
def k0_off184 (i : grid0.Coords) (k0_t5 : Fin (k0_t5_loop i).trips) : Fin 3 → Nat :=
  let c4_1233 : Index := 4#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2946 : Index := Scalar.indexCast v1041
  let c128_1234 : Index := 128#32
  ![4, v2946.toNat, 128]
def k0_off185 (i : grid0.Coords) (k0_t5 : Fin (k0_t5_loop i).trips) : Fin 3 → Nat :=
  let c5_1235 : Index := 5#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2950 : Index := Scalar.indexCast v1041
  let c128_1236 : Index := 128#32
  ![5, v2950.toNat, 128]
def k0_off186 (i : grid0.Coords) (k0_t5 : Fin (k0_t5_loop i).trips) : Fin 3 → Nat :=
  let c6_1237 : Index := 6#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2954 : Index := Scalar.indexCast v1041
  let c128_1238 : Index := 128#32
  ![6, v2954.toNat, 128]
def k0_off187 (i : grid0.Coords) (k0_t5 : Fin (k0_t5_loop i).trips) : Fin 3 → Nat :=
  let c7_1239 : Index := 7#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2958 : Index := Scalar.indexCast v1041
  let c128_1240 : Index := 128#32
  ![7, v2958.toNat, 128]
def k0_off188 (i : grid0.Coords) (k0_t5 : Fin (k0_t5_loop i).trips) : Fin 3 → Nat :=
  let c8_1241 : Index := 8#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2962 : Index := Scalar.indexCast v1041
  let c128_1242 : Index := 128#32
  ![8, v2962.toNat, 128]
def k0_off189 (i : grid0.Coords) (k0_t5 : Fin (k0_t5_loop i).trips) : Fin 3 → Nat :=
  let c9_1243 : Index := 9#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2966 : Index := Scalar.indexCast v1041
  let c128_1244 : Index := 128#32
  ![9, v2966.toNat, 128]
def k0_off190 (i : grid0.Coords) (k0_t5 : Fin (k0_t5_loop i).trips) : Fin 3 → Nat :=
  let c10_1245 : Index := 10#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2970 : Index := Scalar.indexCast v1041
  let c128_1246 : Index := 128#32
  ![10, v2970.toNat, 128]
def k0_off191 (i : grid0.Coords) (k0_t5 : Fin (k0_t5_loop i).trips) : Fin 3 → Nat :=
  let c11_1247 : Index := 11#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2974 : Index := Scalar.indexCast v1041
  let c128_1248 : Index := 128#32
  ![11, v2974.toNat, 128]
def k0_off192 (i : grid0.Coords) (k0_t5 : Fin (k0_t5_loop i).trips) : Fin 3 → Nat :=
  let c12_1249 : Index := 12#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2978 : Index := Scalar.indexCast v1041
  let c128_1250 : Index := 128#32
  ![12, v2978.toNat, 128]
def k0_off193 (i : grid0.Coords) (k0_t5 : Fin (k0_t5_loop i).trips) : Fin 3 → Nat :=
  let c13_1251 : Index := 13#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2982 : Index := Scalar.indexCast v1041
  let c128_1252 : Index := 128#32
  ![13, v2982.toNat, 128]
def k0_off194 (i : grid0.Coords) (k0_t5 : Fin (k0_t5_loop i).trips) : Fin 3 → Nat :=
  let c14_1253 : Index := 14#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2986 : Index := Scalar.indexCast v1041
  let c128_1254 : Index := 128#32
  ![14, v2986.toNat, 128]
def k0_off195 (i : grid0.Coords) (k0_t5 : Fin (k0_t5_loop i).trips) : Fin 3 → Nat :=
  let c15_1255 : Index := 15#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2990 : Index := Scalar.indexCast v1041
  let c128_1256 : Index := 128#32
  ![15, v2990.toNat, 128]
def k0_off196 (i : grid0.Coords) (k0_t5 : Fin (k0_t5_loop i).trips) : Fin 3 → Nat :=
  let c16_1257 : Index := 16#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2994 : Index := Scalar.indexCast v1041
  let c128_1258 : Index := 128#32
  ![16, v2994.toNat, 128]
def k0_off197 (i : grid0.Coords) (k0_t5 : Fin (k0_t5_loop i).trips) : Fin 3 → Nat :=
  let c17_1259 : Index := 17#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v2998 : Index := Scalar.indexCast v1041
  let c128_1260 : Index := 128#32
  ![17, v2998.toNat, 128]
def k0_off198 (i : grid0.Coords) (k0_t5 : Fin (k0_t5_loop i).trips) : Fin 3 → Nat :=
  let c18_1261 : Index := 18#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3002 : Index := Scalar.indexCast v1041
  let c128_1262 : Index := 128#32
  ![18, v3002.toNat, 128]
def k0_off199 (i : grid0.Coords) (k0_t5 : Fin (k0_t5_loop i).trips) : Fin 3 → Nat :=
  let c19_1263 : Index := 19#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3006 : Index := Scalar.indexCast v1041
  let c128_1264 : Index := 128#32
  ![19, v3006.toNat, 128]
def k0_off200 (i : grid0.Coords) (k0_t5 : Fin (k0_t5_loop i).trips) : Fin 3 → Nat :=
  let c20_1265 : Index := 20#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3010 : Index := Scalar.indexCast v1041
  let c128_1266 : Index := 128#32
  ![20, v3010.toNat, 128]
def k0_off201 (i : grid0.Coords) (k0_t5 : Fin (k0_t5_loop i).trips) : Fin 3 → Nat :=
  let c21_1267 : Index := 21#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3014 : Index := Scalar.indexCast v1041
  let c128_1268 : Index := 128#32
  ![21, v3014.toNat, 128]
def k0_off202 (i : grid0.Coords) (k0_t5 : Fin (k0_t5_loop i).trips) : Fin 3 → Nat :=
  let c22_1269 : Index := 22#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3018 : Index := Scalar.indexCast v1041
  let c128_1270 : Index := 128#32
  ![22, v3018.toNat, 128]
def k0_off203 (i : grid0.Coords) (k0_t5 : Fin (k0_t5_loop i).trips) : Fin 3 → Nat :=
  let c23_1271 : Index := 23#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3022 : Index := Scalar.indexCast v1041
  let c128_1272 : Index := 128#32
  ![23, v3022.toNat, 128]
def k0_off204 (i : grid0.Coords) (k0_t5 : Fin (k0_t5_loop i).trips) : Fin 3 → Nat :=
  let c24_1273 : Index := 24#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3026 : Index := Scalar.indexCast v1041
  let c128_1274 : Index := 128#32
  ![24, v3026.toNat, 128]
def k0_off205 (i : grid0.Coords) (k0_t5 : Fin (k0_t5_loop i).trips) : Fin 3 → Nat :=
  let c25_1275 : Index := 25#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3030 : Index := Scalar.indexCast v1041
  let c128_1276 : Index := 128#32
  ![25, v3030.toNat, 128]
def k0_off206 (i : grid0.Coords) (k0_t5 : Fin (k0_t5_loop i).trips) : Fin 3 → Nat :=
  let c26_1277 : Index := 26#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3034 : Index := Scalar.indexCast v1041
  let c128_1278 : Index := 128#32
  ![26, v3034.toNat, 128]
def k0_off207 (i : grid0.Coords) (k0_t5 : Fin (k0_t5_loop i).trips) : Fin 3 → Nat :=
  let c27_1279 : Index := 27#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3038 : Index := Scalar.indexCast v1041
  let c128_1280 : Index := 128#32
  ![27, v3038.toNat, 128]
def k0_off208 (i : grid0.Coords) (k0_t5 : Fin (k0_t5_loop i).trips) : Fin 3 → Nat :=
  let c28_1281 : Index := 28#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3042 : Index := Scalar.indexCast v1041
  let c128_1282 : Index := 128#32
  ![28, v3042.toNat, 128]
def k0_off209 (i : grid0.Coords) (k0_t5 : Fin (k0_t5_loop i).trips) : Fin 3 → Nat :=
  let c29_1283 : Index := 29#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3046 : Index := Scalar.indexCast v1041
  let c128_1284 : Index := 128#32
  ![29, v3046.toNat, 128]
def k0_off210 (i : grid0.Coords) (k0_t5 : Fin (k0_t5_loop i).trips) : Fin 3 → Nat :=
  let c30_1285 : Index := 30#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3050 : Index := Scalar.indexCast v1041
  let c128_1286 : Index := 128#32
  ![30, v3050.toNat, 128]
def k0_off211 (i : grid0.Coords) (k0_t5 : Fin (k0_t5_loop i).trips) : Fin 3 → Nat :=
  let c31_1287 : Index := 31#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3054 : Index := Scalar.indexCast v1041
  let c128_1288 : Index := 128#32
  ![31, v3054.toNat, 128]
def k0_off212 (i : grid0.Coords) (k0_t5 : Fin (k0_t5_loop i).trips) (c0_i32_1289 : BitVec 32) : Fin 2 → Nat :=
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c256_i32_544 : BitVec 32 := 256#32
  let v1038 : BitVec 32 := Scalar.muli arg18 c256_i32_544
  let v1039 : BitVec 32 := v1038
  let v3058 : BitVec 32 := Scalar.addi v1039 c0_i32_1289
  let v3059 : Index := Scalar.indexCast v3058
  let c256_1290 : Index := 256#32
  ![v3059.toNat, 256]
def k0_off213 (i : grid0.Coords) (k0_t5 : Fin (k0_t5_loop i).trips) : Fin 3 → Nat :=
  let c0_1625 : Index := 0#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3938 : Index := Scalar.indexCast v1041
  let c256_1626 : Index := 256#32
  ![0, v3938.toNat, 256]
def k0_off214 (i : grid0.Coords) (k0_t5 : Fin (k0_t5_loop i).trips) : Fin 3 → Nat :=
  let c1_1627 : Index := 1#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3942 : Index := Scalar.indexCast v1041
  let c256_1628 : Index := 256#32
  ![1, v3942.toNat, 256]
def k0_off215 (i : grid0.Coords) (k0_t5 : Fin (k0_t5_loop i).trips) : Fin 3 → Nat :=
  let c2_1629 : Index := 2#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3946 : Index := Scalar.indexCast v1041
  let c256_1630 : Index := 256#32
  ![2, v3946.toNat, 256]
def k0_off216 (i : grid0.Coords) (k0_t5 : Fin (k0_t5_loop i).trips) : Fin 3 → Nat :=
  let c3_1631 : Index := 3#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3950 : Index := Scalar.indexCast v1041
  let c256_1632 : Index := 256#32
  ![3, v3950.toNat, 256]
def k0_off217 (i : grid0.Coords) (k0_t5 : Fin (k0_t5_loop i).trips) : Fin 3 → Nat :=
  let c4_1633 : Index := 4#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3954 : Index := Scalar.indexCast v1041
  let c256_1634 : Index := 256#32
  ![4, v3954.toNat, 256]
def k0_off218 (i : grid0.Coords) (k0_t5 : Fin (k0_t5_loop i).trips) : Fin 3 → Nat :=
  let c5_1635 : Index := 5#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3958 : Index := Scalar.indexCast v1041
  let c256_1636 : Index := 256#32
  ![5, v3958.toNat, 256]
def k0_off219 (i : grid0.Coords) (k0_t5 : Fin (k0_t5_loop i).trips) : Fin 3 → Nat :=
  let c6_1637 : Index := 6#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3962 : Index := Scalar.indexCast v1041
  let c256_1638 : Index := 256#32
  ![6, v3962.toNat, 256]
def k0_off220 (i : grid0.Coords) (k0_t5 : Fin (k0_t5_loop i).trips) : Fin 3 → Nat :=
  let c7_1639 : Index := 7#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3966 : Index := Scalar.indexCast v1041
  let c256_1640 : Index := 256#32
  ![7, v3966.toNat, 256]
def k0_off221 (i : grid0.Coords) (k0_t5 : Fin (k0_t5_loop i).trips) : Fin 3 → Nat :=
  let c8_1641 : Index := 8#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3970 : Index := Scalar.indexCast v1041
  let c256_1642 : Index := 256#32
  ![8, v3970.toNat, 256]
def k0_off222 (i : grid0.Coords) (k0_t5 : Fin (k0_t5_loop i).trips) : Fin 3 → Nat :=
  let c9_1643 : Index := 9#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3974 : Index := Scalar.indexCast v1041
  let c256_1644 : Index := 256#32
  ![9, v3974.toNat, 256]
def k0_off223 (i : grid0.Coords) (k0_t5 : Fin (k0_t5_loop i).trips) : Fin 3 → Nat :=
  let c10_1645 : Index := 10#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3978 : Index := Scalar.indexCast v1041
  let c256_1646 : Index := 256#32
  ![10, v3978.toNat, 256]
def k0_off224 (i : grid0.Coords) (k0_t5 : Fin (k0_t5_loop i).trips) : Fin 3 → Nat :=
  let c11_1647 : Index := 11#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3982 : Index := Scalar.indexCast v1041
  let c256_1648 : Index := 256#32
  ![11, v3982.toNat, 256]
def k0_off225 (i : grid0.Coords) (k0_t5 : Fin (k0_t5_loop i).trips) : Fin 3 → Nat :=
  let c12_1649 : Index := 12#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3986 : Index := Scalar.indexCast v1041
  let c256_1650 : Index := 256#32
  ![12, v3986.toNat, 256]
def k0_off226 (i : grid0.Coords) (k0_t5 : Fin (k0_t5_loop i).trips) : Fin 3 → Nat :=
  let c13_1651 : Index := 13#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3990 : Index := Scalar.indexCast v1041
  let c256_1652 : Index := 256#32
  ![13, v3990.toNat, 256]
def k0_off227 (i : grid0.Coords) (k0_t5 : Fin (k0_t5_loop i).trips) : Fin 3 → Nat :=
  let c14_1653 : Index := 14#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3994 : Index := Scalar.indexCast v1041
  let c256_1654 : Index := 256#32
  ![14, v3994.toNat, 256]
def k0_off228 (i : grid0.Coords) (k0_t5 : Fin (k0_t5_loop i).trips) : Fin 3 → Nat :=
  let c15_1655 : Index := 15#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v3998 : Index := Scalar.indexCast v1041
  let c256_1656 : Index := 256#32
  ![15, v3998.toNat, 256]
def k0_off229 (i : grid0.Coords) (k0_t5 : Fin (k0_t5_loop i).trips) : Fin 3 → Nat :=
  let c16_1657 : Index := 16#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4002 : Index := Scalar.indexCast v1041
  let c256_1658 : Index := 256#32
  ![16, v4002.toNat, 256]
def k0_off230 (i : grid0.Coords) (k0_t5 : Fin (k0_t5_loop i).trips) : Fin 3 → Nat :=
  let c17_1659 : Index := 17#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4006 : Index := Scalar.indexCast v1041
  let c256_1660 : Index := 256#32
  ![17, v4006.toNat, 256]
def k0_off231 (i : grid0.Coords) (k0_t5 : Fin (k0_t5_loop i).trips) : Fin 3 → Nat :=
  let c18_1661 : Index := 18#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4010 : Index := Scalar.indexCast v1041
  let c256_1662 : Index := 256#32
  ![18, v4010.toNat, 256]
def k0_off232 (i : grid0.Coords) (k0_t5 : Fin (k0_t5_loop i).trips) : Fin 3 → Nat :=
  let c19_1663 : Index := 19#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4014 : Index := Scalar.indexCast v1041
  let c256_1664 : Index := 256#32
  ![19, v4014.toNat, 256]
def k0_off233 (i : grid0.Coords) (k0_t5 : Fin (k0_t5_loop i).trips) : Fin 3 → Nat :=
  let c20_1665 : Index := 20#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4018 : Index := Scalar.indexCast v1041
  let c256_1666 : Index := 256#32
  ![20, v4018.toNat, 256]
def k0_off234 (i : grid0.Coords) (k0_t5 : Fin (k0_t5_loop i).trips) : Fin 3 → Nat :=
  let c21_1667 : Index := 21#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4022 : Index := Scalar.indexCast v1041
  let c256_1668 : Index := 256#32
  ![21, v4022.toNat, 256]
def k0_off235 (i : grid0.Coords) (k0_t5 : Fin (k0_t5_loop i).trips) : Fin 3 → Nat :=
  let c22_1669 : Index := 22#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4026 : Index := Scalar.indexCast v1041
  let c256_1670 : Index := 256#32
  ![22, v4026.toNat, 256]
def k0_off236 (i : grid0.Coords) (k0_t5 : Fin (k0_t5_loop i).trips) : Fin 3 → Nat :=
  let c23_1671 : Index := 23#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4030 : Index := Scalar.indexCast v1041
  let c256_1672 : Index := 256#32
  ![23, v4030.toNat, 256]
def k0_off237 (i : grid0.Coords) (k0_t5 : Fin (k0_t5_loop i).trips) : Fin 3 → Nat :=
  let c24_1673 : Index := 24#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4034 : Index := Scalar.indexCast v1041
  let c256_1674 : Index := 256#32
  ![24, v4034.toNat, 256]
def k0_off238 (i : grid0.Coords) (k0_t5 : Fin (k0_t5_loop i).trips) : Fin 3 → Nat :=
  let c25_1675 : Index := 25#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4038 : Index := Scalar.indexCast v1041
  let c256_1676 : Index := 256#32
  ![25, v4038.toNat, 256]
def k0_off239 (i : grid0.Coords) (k0_t5 : Fin (k0_t5_loop i).trips) : Fin 3 → Nat :=
  let c26_1677 : Index := 26#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4042 : Index := Scalar.indexCast v1041
  let c256_1678 : Index := 256#32
  ![26, v4042.toNat, 256]
def k0_off240 (i : grid0.Coords) (k0_t5 : Fin (k0_t5_loop i).trips) : Fin 3 → Nat :=
  let c27_1679 : Index := 27#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4046 : Index := Scalar.indexCast v1041
  let c256_1680 : Index := 256#32
  ![27, v4046.toNat, 256]
def k0_off241 (i : grid0.Coords) (k0_t5 : Fin (k0_t5_loop i).trips) : Fin 3 → Nat :=
  let c28_1681 : Index := 28#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4050 : Index := Scalar.indexCast v1041
  let c256_1682 : Index := 256#32
  ![28, v4050.toNat, 256]
def k0_off242 (i : grid0.Coords) (k0_t5 : Fin (k0_t5_loop i).trips) : Fin 3 → Nat :=
  let c29_1683 : Index := 29#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4054 : Index := Scalar.indexCast v1041
  let c256_1684 : Index := 256#32
  ![29, v4054.toNat, 256]
def k0_off243 (i : grid0.Coords) (k0_t5 : Fin (k0_t5_loop i).trips) : Fin 3 → Nat :=
  let c30_1685 : Index := 30#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4058 : Index := Scalar.indexCast v1041
  let c256_1686 : Index := 256#32
  ![30, v4058.toNat, 256]
def k0_off244 (i : grid0.Coords) (k0_t5 : Fin (k0_t5_loop i).trips) : Fin 3 → Nat :=
  let c31_1687 : Index := 31#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4062 : Index := Scalar.indexCast v1041
  let c256_1688 : Index := 256#32
  ![31, v4062.toNat, 256]
def k0_off245 (i : grid0.Coords) (k0_t5 : Fin (k0_t5_loop i).trips) (c0_i32_1689 : BitVec 32) : Fin 2 → Nat :=
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c256_i32_544 : BitVec 32 := 256#32
  let v1038 : BitVec 32 := Scalar.muli arg18 c256_i32_544
  let v1039 : BitVec 32 := v1038
  let v4066 : BitVec 32 := Scalar.addi v1039 c0_i32_1689
  let v4067 : Index := Scalar.indexCast v4066
  let c384_1690 : Index := 384#32
  ![v4067.toNat, 384]
def k0_off246 (i : grid0.Coords) (k0_t5 : Fin (k0_t5_loop i).trips) : Fin 3 → Nat :=
  let c0_2025 : Index := 0#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4946 : Index := Scalar.indexCast v1041
  let c384_2026 : Index := 384#32
  ![0, v4946.toNat, 384]
def k0_off247 (i : grid0.Coords) (k0_t5 : Fin (k0_t5_loop i).trips) : Fin 3 → Nat :=
  let c1_2027 : Index := 1#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4950 : Index := Scalar.indexCast v1041
  let c384_2028 : Index := 384#32
  ![1, v4950.toNat, 384]
def k0_off248 (i : grid0.Coords) (k0_t5 : Fin (k0_t5_loop i).trips) : Fin 3 → Nat :=
  let c2_2029 : Index := 2#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4954 : Index := Scalar.indexCast v1041
  let c384_2030 : Index := 384#32
  ![2, v4954.toNat, 384]
def k0_off249 (i : grid0.Coords) (k0_t5 : Fin (k0_t5_loop i).trips) : Fin 3 → Nat :=
  let c3_2031 : Index := 3#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4958 : Index := Scalar.indexCast v1041
  let c384_2032 : Index := 384#32
  ![3, v4958.toNat, 384]
def k0_off250 (i : grid0.Coords) (k0_t5 : Fin (k0_t5_loop i).trips) : Fin 3 → Nat :=
  let c4_2033 : Index := 4#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4962 : Index := Scalar.indexCast v1041
  let c384_2034 : Index := 384#32
  ![4, v4962.toNat, 384]
def k0_off251 (i : grid0.Coords) (k0_t5 : Fin (k0_t5_loop i).trips) : Fin 3 → Nat :=
  let c5_2035 : Index := 5#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4966 : Index := Scalar.indexCast v1041
  let c384_2036 : Index := 384#32
  ![5, v4966.toNat, 384]
def k0_off252 (i : grid0.Coords) (k0_t5 : Fin (k0_t5_loop i).trips) : Fin 3 → Nat :=
  let c6_2037 : Index := 6#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4970 : Index := Scalar.indexCast v1041
  let c384_2038 : Index := 384#32
  ![6, v4970.toNat, 384]
def k0_off253 (i : grid0.Coords) (k0_t5 : Fin (k0_t5_loop i).trips) : Fin 3 → Nat :=
  let c7_2039 : Index := 7#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4974 : Index := Scalar.indexCast v1041
  let c384_2040 : Index := 384#32
  ![7, v4974.toNat, 384]
def k0_off254 (i : grid0.Coords) (k0_t5 : Fin (k0_t5_loop i).trips) : Fin 3 → Nat :=
  let c8_2041 : Index := 8#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4978 : Index := Scalar.indexCast v1041
  let c384_2042 : Index := 384#32
  ![8, v4978.toNat, 384]
def k0_off255 (i : grid0.Coords) (k0_t5 : Fin (k0_t5_loop i).trips) : Fin 3 → Nat :=
  let c9_2043 : Index := 9#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4982 : Index := Scalar.indexCast v1041
  let c384_2044 : Index := 384#32
  ![9, v4982.toNat, 384]
def k0_off256 (i : grid0.Coords) (k0_t5 : Fin (k0_t5_loop i).trips) : Fin 3 → Nat :=
  let c10_2045 : Index := 10#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4986 : Index := Scalar.indexCast v1041
  let c384_2046 : Index := 384#32
  ![10, v4986.toNat, 384]
def k0_off257 (i : grid0.Coords) (k0_t5 : Fin (k0_t5_loop i).trips) : Fin 3 → Nat :=
  let c11_2047 : Index := 11#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4990 : Index := Scalar.indexCast v1041
  let c384_2048 : Index := 384#32
  ![11, v4990.toNat, 384]
def k0_off258 (i : grid0.Coords) (k0_t5 : Fin (k0_t5_loop i).trips) : Fin 3 → Nat :=
  let c12_2049 : Index := 12#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4994 : Index := Scalar.indexCast v1041
  let c384_2050 : Index := 384#32
  ![12, v4994.toNat, 384]
def k0_off259 (i : grid0.Coords) (k0_t5 : Fin (k0_t5_loop i).trips) : Fin 3 → Nat :=
  let c13_2051 : Index := 13#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v4998 : Index := Scalar.indexCast v1041
  let c384_2052 : Index := 384#32
  ![13, v4998.toNat, 384]
def k0_off260 (i : grid0.Coords) (k0_t5 : Fin (k0_t5_loop i).trips) : Fin 3 → Nat :=
  let c14_2053 : Index := 14#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5002 : Index := Scalar.indexCast v1041
  let c384_2054 : Index := 384#32
  ![14, v5002.toNat, 384]
def k0_off261 (i : grid0.Coords) (k0_t5 : Fin (k0_t5_loop i).trips) : Fin 3 → Nat :=
  let c15_2055 : Index := 15#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5006 : Index := Scalar.indexCast v1041
  let c384_2056 : Index := 384#32
  ![15, v5006.toNat, 384]
def k0_off262 (i : grid0.Coords) (k0_t5 : Fin (k0_t5_loop i).trips) : Fin 3 → Nat :=
  let c16_2057 : Index := 16#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5010 : Index := Scalar.indexCast v1041
  let c384_2058 : Index := 384#32
  ![16, v5010.toNat, 384]
def k0_off263 (i : grid0.Coords) (k0_t5 : Fin (k0_t5_loop i).trips) : Fin 3 → Nat :=
  let c17_2059 : Index := 17#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5014 : Index := Scalar.indexCast v1041
  let c384_2060 : Index := 384#32
  ![17, v5014.toNat, 384]
def k0_off264 (i : grid0.Coords) (k0_t5 : Fin (k0_t5_loop i).trips) : Fin 3 → Nat :=
  let c18_2061 : Index := 18#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5018 : Index := Scalar.indexCast v1041
  let c384_2062 : Index := 384#32
  ![18, v5018.toNat, 384]
def k0_off265 (i : grid0.Coords) (k0_t5 : Fin (k0_t5_loop i).trips) : Fin 3 → Nat :=
  let c19_2063 : Index := 19#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5022 : Index := Scalar.indexCast v1041
  let c384_2064 : Index := 384#32
  ![19, v5022.toNat, 384]
def k0_off266 (i : grid0.Coords) (k0_t5 : Fin (k0_t5_loop i).trips) : Fin 3 → Nat :=
  let c20_2065 : Index := 20#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5026 : Index := Scalar.indexCast v1041
  let c384_2066 : Index := 384#32
  ![20, v5026.toNat, 384]
def k0_off267 (i : grid0.Coords) (k0_t5 : Fin (k0_t5_loop i).trips) : Fin 3 → Nat :=
  let c21_2067 : Index := 21#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5030 : Index := Scalar.indexCast v1041
  let c384_2068 : Index := 384#32
  ![21, v5030.toNat, 384]
def k0_off268 (i : grid0.Coords) (k0_t5 : Fin (k0_t5_loop i).trips) : Fin 3 → Nat :=
  let c22_2069 : Index := 22#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5034 : Index := Scalar.indexCast v1041
  let c384_2070 : Index := 384#32
  ![22, v5034.toNat, 384]
def k0_off269 (i : grid0.Coords) (k0_t5 : Fin (k0_t5_loop i).trips) : Fin 3 → Nat :=
  let c23_2071 : Index := 23#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5038 : Index := Scalar.indexCast v1041
  let c384_2072 : Index := 384#32
  ![23, v5038.toNat, 384]
def k0_off270 (i : grid0.Coords) (k0_t5 : Fin (k0_t5_loop i).trips) : Fin 3 → Nat :=
  let c24_2073 : Index := 24#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5042 : Index := Scalar.indexCast v1041
  let c384_2074 : Index := 384#32
  ![24, v5042.toNat, 384]
def k0_off271 (i : grid0.Coords) (k0_t5 : Fin (k0_t5_loop i).trips) : Fin 3 → Nat :=
  let c25_2075 : Index := 25#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5046 : Index := Scalar.indexCast v1041
  let c384_2076 : Index := 384#32
  ![25, v5046.toNat, 384]
def k0_off272 (i : grid0.Coords) (k0_t5 : Fin (k0_t5_loop i).trips) : Fin 3 → Nat :=
  let c26_2077 : Index := 26#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5050 : Index := Scalar.indexCast v1041
  let c384_2078 : Index := 384#32
  ![26, v5050.toNat, 384]
def k0_off273 (i : grid0.Coords) (k0_t5 : Fin (k0_t5_loop i).trips) : Fin 3 → Nat :=
  let c27_2079 : Index := 27#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5054 : Index := Scalar.indexCast v1041
  let c384_2080 : Index := 384#32
  ![27, v5054.toNat, 384]
def k0_off274 (i : grid0.Coords) (k0_t5 : Fin (k0_t5_loop i).trips) : Fin 3 → Nat :=
  let c28_2081 : Index := 28#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5058 : Index := Scalar.indexCast v1041
  let c384_2082 : Index := 384#32
  ![28, v5058.toNat, 384]
def k0_off275 (i : grid0.Coords) (k0_t5 : Fin (k0_t5_loop i).trips) : Fin 3 → Nat :=
  let c29_2083 : Index := 29#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5062 : Index := Scalar.indexCast v1041
  let c384_2084 : Index := 384#32
  ![29, v5062.toNat, 384]
def k0_off276 (i : grid0.Coords) (k0_t5 : Fin (k0_t5_loop i).trips) : Fin 3 → Nat :=
  let c30_2085 : Index := 30#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5066 : Index := Scalar.indexCast v1041
  let c384_2086 : Index := 384#32
  ![30, v5066.toNat, 384]
def k0_off277 (i : grid0.Coords) (k0_t5 : Fin (k0_t5_loop i).trips) : Fin 3 → Nat :=
  let c31_2087 : Index := 31#32
  let c0_i32_508 : BitVec 32 := 0#32
  let arg1 : BitVec 32 := BitVec.ofNat 32 (i 1).val
  let c1_i32 : BitVec 32 := 1#32
  let v0 : BitVec 32 := Scalar.addi arg1 c1_i32
  let c2_i32_506 : BitVec 32 := 2#32
  let v960 : BitVec 32 := Scalar.muli v0 c2_i32_506
  let v961 : BitVec 32 := Scalar.subi v960 c0_i32_508
  let c1_i32_509 : BitVec 32 := 1#32
  let v963 : BitVec 32 := Scalar.divsi v961 c1_i32_509
  let v964 : BitVec 32 := Scalar.muli v963 c1_i32_509
  let v965 : BitVec 32 := Scalar.addi c0_i32_508 v964
  let c1_i32_511 : BitVec 32 := 1#32
  let arg18 : BitVec 32 := Scf.iv v965 c1_i32_511 k0_t5
  let c8_i32 : BitVec 32 := 8#32
  let v1040 : BitVec 32 := Scalar.muli arg18 c8_i32
  let v1041 : BitVec 32 := v1040
  let v5070 : Index := Scalar.indexCast v1041
  let c384_2088 : Index := 384#32
  ![31, v5070.toNat, 384]
@[reducible] def k0_t6_loop : Scf.Loop 32 :=
  let c0_i32_517 : BitVec 32 := 0#32
  let c32_i32 : BitVec 32 := 32#32
  let v978 : BitVec 32 := Scalar.addi c0_i32_517 c32_i32
  let c1_i32_518 : BitVec 32 := 1#32
  ⟨c0_i32_517, v978, c1_i32_518⟩
def k0_off278 (k0_t6 : Fin k0_t6_loop.trips) : Fin 3 → Nat :=
  let c31_i32_544 : BitVec 32 := 31#32
  let c0_i32_517 : BitVec 32 := 0#32
  let c1_i32_518 : BitVec 32 := 1#32
  let arg18 : BitVec 32 := Scf.iv c0_i32_517 c1_i32_518 k0_t6
  let v1038 : BitVec 32 := Scalar.subi c31_i32_544 arg18
  let v1040 : Index := Scalar.indexCast v1038
  let c0_547 : Index := 0#32
  let c0_548 : Index := 0#32
  ![v1040.toNat, 0, 0]
@[reducible] def k0_t7_loop : Scf.Loop 32 :=
  let c0_i32_545 : BitVec 32 := 0#32
  let c12_i32 : BitVec 32 := 12#32
  let v1039 : BitVec 32 := Scalar.addi c0_i32_545 c12_i32
  let c1_i32_546 : BitVec 32 := 1#32
  ⟨c0_i32_545, v1039, c1_i32_546⟩
@[reducible] def k0_t8_loop (i : grid0.Coords) : Scf.Loop 32 :=
  let c0_i32_562 : BitVec 32 := 0#32
  let arg1 : BitVec 32 := BitVec.ofNat 32 (i 1).val
  let c1_i32 : BitVec 32 := 1#32
  let v0 : BitVec 32 := Scalar.addi arg1 c1_i32
  let c0_i32_556 : BitVec 32 := 0#32
  let v1053 : BitVec 1 := Scalar.cmpi .sgt v0 c0_i32_556
  let v1054 : BitVec 32 := Scalar.extui v1053
  let c0_i32_557 : BitVec 32 := 0#32
  let v1055 : BitVec 1 := Scalar.cmpi .slt v0 c0_i32_557
  let v1056 : BitVec 32 := Scalar.extui v1055
  let v1057 : BitVec 32 := Scalar.subi v1054 v1056
  let c2_i32_555 : BitVec 32 := 2#32
  let c0_i32_558 : BitVec 32 := 0#32
  let v1058 : BitVec 1 := Scalar.cmpi .sgt c2_i32_555 c0_i32_558
  let v1059 : BitVec 32 := Scalar.extui v1058
  let c0_i32_559 : BitVec 32 := 0#32
  let v1060 : BitVec 1 := Scalar.cmpi .slt c2_i32_555 c0_i32_559
  let v1061 : BitVec 32 := Scalar.extui v1060
  let v1062 : BitVec 32 := Scalar.subi v1059 v1061
  let v1063 : BitVec 1 := Scalar.cmpi .ne v1057 v1062
  let v1064 : BitVec 32 := Scalar.remsi v0 c2_i32_555
  let c0_i32_560 : BitVec 32 := 0#32
  let v1065 : BitVec 1 := Scalar.cmpi .ne v1064 c0_i32_560
  let v1066 : BitVec 1 := Scalar.andi v1063 v1065
  let v1052 : BitVec 32 := Scalar.divsi v0 c2_i32_555
  let c1_i32_561 : BitVec 32 := 1#32
  let v1067 : BitVec 32 := Scalar.subi v1052 c1_i32_561
  let v1068 : BitVec 32 := Scalar.select v1066 v1067 v1052
  let v1069 : BitVec 32 := Scalar.subi v1068 c0_i32_562
  let c1_i32_563 : BitVec 32 := 1#32
  let v1071 : BitVec 32 := Scalar.divsi v1069 c1_i32_563
  let v1072 : BitVec 32 := Scalar.muli v1071 c1_i32_563
  let v1073 : BitVec 32 := Scalar.addi c0_i32_562 v1072
  let c1_i32_564 : BitVec 32 := 1#32
  ⟨c0_i32_562, v1073, c1_i32_564⟩
def k0_mult20 (i : grid0.Coords) (k0_t8 : Fin (k0_t8_loop i).trips) : BitVec 32 :=
  let c0_i32_562 : BitVec 32 := 0#32
  let c1_i32_564 : BitVec 32 := 1#32
  let arg20 : BitVec 32 := Scf.iv c0_i32_562 c1_i32_564 k0_t8
  let c2_i32_571 : BitVec 32 := 2#32
  let v1088 : BitVec 32 := Scalar.muli arg20 c2_i32_571
  let c0_i32_572 : BitVec 32 := 0#32
  let v1089 : BitVec 32 := Scalar.addi v1088 c0_i32_572
  let c512_i32_573 : BitVec 32 := 512#32
  let v1090 : BitVec 32 := Scalar.muli v1089 c512_i32_573
  v1090
def k0_off279 (i : grid0.Coords) (k0_t8 : Fin (k0_t8_loop i).trips) (c0_i32_572 : BitVec 32) : Fin 2 → Nat :=
  let c0_i32_562 : BitVec 32 := 0#32
  let c1_i32_564 : BitVec 32 := 1#32
  let arg20 : BitVec 32 := Scf.iv c0_i32_562 c1_i32_564 k0_t8
  let c2_i32_571 : BitVec 32 := 2#32
  let v1088 : BitVec 32 := Scalar.muli arg20 c2_i32_571
  let v1089 : BitVec 32 := Scalar.addi v1088 c0_i32_572
  let c512_i32_573 : BitVec 32 := 512#32
  let v1090 : BitVec 32 := Scalar.muli v1089 c512_i32_573
  let v1091 : BitVec 32 := v1090
  let v1092 : Index := Scalar.indexCast v1091
  let c0_574 : Index := 0#32
  ![v1092.toNat, 0]
def k0_mult21 (i : grid0.Coords) (k0_t8 : Fin (k0_t8_loop i).trips) : BitVec 32 :=
  let c0_i32_562 : BitVec 32 := 0#32
  let c1_i32_564 : BitVec 32 := 1#32
  let arg20 : BitVec 32 := Scf.iv c0_i32_562 c1_i32_564 k0_t8
  let c2_i32_576 : BitVec 32 := 2#32
  let v1106 : BitVec 32 := Scalar.muli arg20 c2_i32_576
  let c1_i32_577 : BitVec 32 := 1#32
  let v1107 : BitVec 32 := Scalar.addi v1106 c1_i32_577
  let c512_i32_578 : BitVec 32 := 512#32
  let v1108 : BitVec 32 := Scalar.muli v1107 c512_i32_578
  v1108
@[reducible] def k0_t9_loop (i : grid0.Coords) : Scf.Loop 32 :=
  let c0_i32_562 : BitVec 32 := 0#32
  let arg1 : BitVec 32 := BitVec.ofNat 32 (i 1).val
  let c1_i32 : BitVec 32 := 1#32
  let v0 : BitVec 32 := Scalar.addi arg1 c1_i32
  let c0_i32_556 : BitVec 32 := 0#32
  let v1053 : BitVec 1 := Scalar.cmpi .sgt v0 c0_i32_556
  let v1054 : BitVec 32 := Scalar.extui v1053
  let c0_i32_557 : BitVec 32 := 0#32
  let v1055 : BitVec 1 := Scalar.cmpi .slt v0 c0_i32_557
  let v1056 : BitVec 32 := Scalar.extui v1055
  let v1057 : BitVec 32 := Scalar.subi v1054 v1056
  let c2_i32_555 : BitVec 32 := 2#32
  let c0_i32_558 : BitVec 32 := 0#32
  let v1058 : BitVec 1 := Scalar.cmpi .sgt c2_i32_555 c0_i32_558
  let v1059 : BitVec 32 := Scalar.extui v1058
  let c0_i32_559 : BitVec 32 := 0#32
  let v1060 : BitVec 1 := Scalar.cmpi .slt c2_i32_555 c0_i32_559
  let v1061 : BitVec 32 := Scalar.extui v1060
  let v1062 : BitVec 32 := Scalar.subi v1059 v1061
  let v1063 : BitVec 1 := Scalar.cmpi .ne v1057 v1062
  let v1064 : BitVec 32 := Scalar.remsi v0 c2_i32_555
  let c0_i32_560 : BitVec 32 := 0#32
  let v1065 : BitVec 1 := Scalar.cmpi .ne v1064 c0_i32_560
  let v1066 : BitVec 1 := Scalar.andi v1063 v1065
  let v1052 : BitVec 32 := Scalar.divsi v0 c2_i32_555
  let c1_i32_561 : BitVec 32 := 1#32
  let v1067 : BitVec 32 := Scalar.subi v1052 c1_i32_561
  let v1068 : BitVec 32 := Scalar.select v1066 v1067 v1052
  let v1069 : BitVec 32 := Scalar.subi v1068 c0_i32_562
  let c1_i32_563 : BitVec 32 := 1#32
  let v1071 : BitVec 32 := Scalar.divsi v1069 c1_i32_563
  let v1072 : BitVec 32 := Scalar.muli v1071 c1_i32_563
  let v1073 : BitVec 32 := Scalar.addi c0_i32_562 v1072
  let v1070 : BitVec 32 := Scalar.addi c0_i32_562 v1069
  let c1_i32_565 : BitVec 32 := 1#32
  ⟨v1073, v1070, c1_i32_565⟩
def k0_mult22 (i : grid0.Coords) (k0_t9 : Fin (k0_t9_loop i).trips) : BitVec 32 :=
  let c0_i32_562 : BitVec 32 := 0#32
  let arg1 : BitVec 32 := BitVec.ofNat 32 (i 1).val
  let c1_i32 : BitVec 32 := 1#32
  let v0 : BitVec 32 := Scalar.addi arg1 c1_i32
  let c0_i32_556 : BitVec 32 := 0#32
  let v1053 : BitVec 1 := Scalar.cmpi .sgt v0 c0_i32_556
  let v1054 : BitVec 32 := Scalar.extui v1053
  let c0_i32_557 : BitVec 32 := 0#32
  let v1055 : BitVec 1 := Scalar.cmpi .slt v0 c0_i32_557
  let v1056 : BitVec 32 := Scalar.extui v1055
  let v1057 : BitVec 32 := Scalar.subi v1054 v1056
  let c2_i32_555 : BitVec 32 := 2#32
  let c0_i32_558 : BitVec 32 := 0#32
  let v1058 : BitVec 1 := Scalar.cmpi .sgt c2_i32_555 c0_i32_558
  let v1059 : BitVec 32 := Scalar.extui v1058
  let c0_i32_559 : BitVec 32 := 0#32
  let v1060 : BitVec 1 := Scalar.cmpi .slt c2_i32_555 c0_i32_559
  let v1061 : BitVec 32 := Scalar.extui v1060
  let v1062 : BitVec 32 := Scalar.subi v1059 v1061
  let v1063 : BitVec 1 := Scalar.cmpi .ne v1057 v1062
  let v1064 : BitVec 32 := Scalar.remsi v0 c2_i32_555
  let c0_i32_560 : BitVec 32 := 0#32
  let v1065 : BitVec 1 := Scalar.cmpi .ne v1064 c0_i32_560
  let v1066 : BitVec 1 := Scalar.andi v1063 v1065
  let v1052 : BitVec 32 := Scalar.divsi v0 c2_i32_555
  let c1_i32_561 : BitVec 32 := 1#32
  let v1067 : BitVec 32 := Scalar.subi v1052 c1_i32_561
  let v1068 : BitVec 32 := Scalar.select v1066 v1067 v1052
  let v1069 : BitVec 32 := Scalar.subi v1068 c0_i32_562
  let c1_i32_563 : BitVec 32 := 1#32
  let v1071 : BitVec 32 := Scalar.divsi v1069 c1_i32_563
  let v1072 : BitVec 32 := Scalar.muli v1071 c1_i32_563
  let v1073 : BitVec 32 := Scalar.addi c0_i32_562 v1072
  let c1_i32_565 : BitVec 32 := 1#32
  let arg20 : BitVec 32 := Scf.iv v1073 c1_i32_565 k0_t9
  let c2_i32_571 : BitVec 32 := 2#32
  let v1088 : BitVec 32 := Scalar.muli arg20 c2_i32_571
  let c0_i32_572 : BitVec 32 := 0#32
  let v1089 : BitVec 32 := Scalar.addi v1088 c0_i32_572
  let c512_i32_573 : BitVec 32 := 512#32
  let v1090 : BitVec 32 := Scalar.muli v1089 c512_i32_573
  v1090
def k0_off280 (i : grid0.Coords) (k0_t9 : Fin (k0_t9_loop i).trips) (c0_i32_572 : BitVec 32) : Fin 2 → Nat :=
  let c0_i32_562 : BitVec 32 := 0#32
  let arg1 : BitVec 32 := BitVec.ofNat 32 (i 1).val
  let c1_i32 : BitVec 32 := 1#32
  let v0 : BitVec 32 := Scalar.addi arg1 c1_i32
  let c0_i32_556 : BitVec 32 := 0#32
  let v1053 : BitVec 1 := Scalar.cmpi .sgt v0 c0_i32_556
  let v1054 : BitVec 32 := Scalar.extui v1053
  let c0_i32_557 : BitVec 32 := 0#32
  let v1055 : BitVec 1 := Scalar.cmpi .slt v0 c0_i32_557
  let v1056 : BitVec 32 := Scalar.extui v1055
  let v1057 : BitVec 32 := Scalar.subi v1054 v1056
  let c2_i32_555 : BitVec 32 := 2#32
  let c0_i32_558 : BitVec 32 := 0#32
  let v1058 : BitVec 1 := Scalar.cmpi .sgt c2_i32_555 c0_i32_558
  let v1059 : BitVec 32 := Scalar.extui v1058
  let c0_i32_559 : BitVec 32 := 0#32
  let v1060 : BitVec 1 := Scalar.cmpi .slt c2_i32_555 c0_i32_559
  let v1061 : BitVec 32 := Scalar.extui v1060
  let v1062 : BitVec 32 := Scalar.subi v1059 v1061
  let v1063 : BitVec 1 := Scalar.cmpi .ne v1057 v1062
  let v1064 : BitVec 32 := Scalar.remsi v0 c2_i32_555
  let c0_i32_560 : BitVec 32 := 0#32
  let v1065 : BitVec 1 := Scalar.cmpi .ne v1064 c0_i32_560
  let v1066 : BitVec 1 := Scalar.andi v1063 v1065
  let v1052 : BitVec 32 := Scalar.divsi v0 c2_i32_555
  let c1_i32_561 : BitVec 32 := 1#32
  let v1067 : BitVec 32 := Scalar.subi v1052 c1_i32_561
  let v1068 : BitVec 32 := Scalar.select v1066 v1067 v1052
  let v1069 : BitVec 32 := Scalar.subi v1068 c0_i32_562
  let c1_i32_563 : BitVec 32 := 1#32
  let v1071 : BitVec 32 := Scalar.divsi v1069 c1_i32_563
  let v1072 : BitVec 32 := Scalar.muli v1071 c1_i32_563
  let v1073 : BitVec 32 := Scalar.addi c0_i32_562 v1072
  let c1_i32_565 : BitVec 32 := 1#32
  let arg20 : BitVec 32 := Scf.iv v1073 c1_i32_565 k0_t9
  let c2_i32_571 : BitVec 32 := 2#32
  let v1088 : BitVec 32 := Scalar.muli arg20 c2_i32_571
  let v1089 : BitVec 32 := Scalar.addi v1088 c0_i32_572
  let c512_i32_573 : BitVec 32 := 512#32
  let v1090 : BitVec 32 := Scalar.muli v1089 c512_i32_573
  let v1091 : BitVec 32 := v1090
  let v1092 : Index := Scalar.indexCast v1091
  let c0_574 : Index := 0#32
  ![v1092.toNat, 0]
def k0_mult23 (i : grid0.Coords) (k0_t9 : Fin (k0_t9_loop i).trips) : BitVec 32 :=
  let c0_i32_562 : BitVec 32 := 0#32
  let arg1 : BitVec 32 := BitVec.ofNat 32 (i 1).val
  let c1_i32 : BitVec 32 := 1#32
  let v0 : BitVec 32 := Scalar.addi arg1 c1_i32
  let c0_i32_556 : BitVec 32 := 0#32
  let v1053 : BitVec 1 := Scalar.cmpi .sgt v0 c0_i32_556
  let v1054 : BitVec 32 := Scalar.extui v1053
  let c0_i32_557 : BitVec 32 := 0#32
  let v1055 : BitVec 1 := Scalar.cmpi .slt v0 c0_i32_557
  let v1056 : BitVec 32 := Scalar.extui v1055
  let v1057 : BitVec 32 := Scalar.subi v1054 v1056
  let c2_i32_555 : BitVec 32 := 2#32
  let c0_i32_558 : BitVec 32 := 0#32
  let v1058 : BitVec 1 := Scalar.cmpi .sgt c2_i32_555 c0_i32_558
  let v1059 : BitVec 32 := Scalar.extui v1058
  let c0_i32_559 : BitVec 32 := 0#32
  let v1060 : BitVec 1 := Scalar.cmpi .slt c2_i32_555 c0_i32_559
  let v1061 : BitVec 32 := Scalar.extui v1060
  let v1062 : BitVec 32 := Scalar.subi v1059 v1061
  let v1063 : BitVec 1 := Scalar.cmpi .ne v1057 v1062
  let v1064 : BitVec 32 := Scalar.remsi v0 c2_i32_555
  let c0_i32_560 : BitVec 32 := 0#32
  let v1065 : BitVec 1 := Scalar.cmpi .ne v1064 c0_i32_560
  let v1066 : BitVec 1 := Scalar.andi v1063 v1065
  let v1052 : BitVec 32 := Scalar.divsi v0 c2_i32_555
  let c1_i32_561 : BitVec 32 := 1#32
  let v1067 : BitVec 32 := Scalar.subi v1052 c1_i32_561
  let v1068 : BitVec 32 := Scalar.select v1066 v1067 v1052
  let v1069 : BitVec 32 := Scalar.subi v1068 c0_i32_562
  let c1_i32_563 : BitVec 32 := 1#32
  let v1071 : BitVec 32 := Scalar.divsi v1069 c1_i32_563
  let v1072 : BitVec 32 := Scalar.muli v1071 c1_i32_563
  let v1073 : BitVec 32 := Scalar.addi c0_i32_562 v1072
  let c1_i32_565 : BitVec 32 := 1#32
  let arg20 : BitVec 32 := Scf.iv v1073 c1_i32_565 k0_t9
  let c2_i32_576 : BitVec 32 := 2#32
  let v1106 : BitVec 32 := Scalar.muli arg20 c2_i32_576
  let c1_i32_577 : BitVec 32 := 1#32
  let v1107 : BitVec 32 := Scalar.addi v1106 c1_i32_577
  let c512_i32_578 : BitVec 32 := 512#32
  let v1108 : BitVec 32 := Scalar.muli v1107 c512_i32_578
  v1108
@[reducible] def k0_t10_loop (i : grid0.Coords) : Scf.Loop 32 :=
  let arg1 : BitVec 32 := BitVec.ofNat 32 (i 1).val
  let c1_i32 : BitVec 32 := 1#32
  let v0 : BitVec 32 := Scalar.addi arg1 c1_i32
  let c0_i32_556 : BitVec 32 := 0#32
  let v1053 : BitVec 1 := Scalar.cmpi .sgt v0 c0_i32_556
  let v1054 : BitVec 32 := Scalar.extui v1053
  let c0_i32_557 : BitVec 32 := 0#32
  let v1055 : BitVec 1 := Scalar.cmpi .slt v0 c0_i32_557
  let v1056 : BitVec 32 := Scalar.extui v1055
  let v1057 : BitVec 32 := Scalar.subi v1054 v1056
  let c2_i32_555 : BitVec 32 := 2#32
  let c0_i32_558 : BitVec 32 := 0#32
  let v1058 : BitVec 1 := Scalar.cmpi .sgt c2_i32_555 c0_i32_558
  let v1059 : BitVec 32 := Scalar.extui v1058
  let c0_i32_559 : BitVec 32 := 0#32
  let v1060 : BitVec 1 := Scalar.cmpi .slt c2_i32_555 c0_i32_559
  let v1061 : BitVec 32 := Scalar.extui v1060
  let v1062 : BitVec 32 := Scalar.subi v1059 v1061
  let v1063 : BitVec 1 := Scalar.cmpi .ne v1057 v1062
  let v1064 : BitVec 32 := Scalar.remsi v0 c2_i32_555
  let c0_i32_560 : BitVec 32 := 0#32
  let v1065 : BitVec 1 := Scalar.cmpi .ne v1064 c0_i32_560
  let v1066 : BitVec 1 := Scalar.andi v1063 v1065
  let v1052 : BitVec 32 := Scalar.divsi v0 c2_i32_555
  let c1_i32_561 : BitVec 32 := 1#32
  let v1067 : BitVec 32 := Scalar.subi v1052 c1_i32_561
  let v1068 : BitVec 32 := Scalar.select v1066 v1067 v1052
  let c2_i32_566 : BitVec 32 := 2#32
  let v1076 : BitVec 32 := Scalar.muli v1068 c2_i32_566
  let v1077 : BitVec 32 := Scalar.subi v0 v1076
  let c1_i32_567 : BitVec 32 := 1#32
  let v1079 : BitVec 32 := Scalar.divsi v1077 c1_i32_567
  let v1080 : BitVec 32 := Scalar.muli v1079 c1_i32_567
  let v1081 : BitVec 32 := Scalar.addi v1076 v1080
  let c1_i32_568 : BitVec 32 := 1#32
  ⟨v1076, v1081, c1_i32_568⟩
def k0_mult24 (i : grid0.Coords) (k0_t10 : Fin (k0_t10_loop i).trips) : BitVec 32 :=
  let arg1 : BitVec 32 := BitVec.ofNat 32 (i 1).val
  let c1_i32 : BitVec 32 := 1#32
  let v0 : BitVec 32 := Scalar.addi arg1 c1_i32
  let c0_i32_556 : BitVec 32 := 0#32
  let v1053 : BitVec 1 := Scalar.cmpi .sgt v0 c0_i32_556
  let v1054 : BitVec 32 := Scalar.extui v1053
  let c0_i32_557 : BitVec 32 := 0#32
  let v1055 : BitVec 1 := Scalar.cmpi .slt v0 c0_i32_557
  let v1056 : BitVec 32 := Scalar.extui v1055
  let v1057 : BitVec 32 := Scalar.subi v1054 v1056
  let c2_i32_555 : BitVec 32 := 2#32
  let c0_i32_558 : BitVec 32 := 0#32
  let v1058 : BitVec 1 := Scalar.cmpi .sgt c2_i32_555 c0_i32_558
  let v1059 : BitVec 32 := Scalar.extui v1058
  let c0_i32_559 : BitVec 32 := 0#32
  let v1060 : BitVec 1 := Scalar.cmpi .slt c2_i32_555 c0_i32_559
  let v1061 : BitVec 32 := Scalar.extui v1060
  let v1062 : BitVec 32 := Scalar.subi v1059 v1061
  let v1063 : BitVec 1 := Scalar.cmpi .ne v1057 v1062
  let v1064 : BitVec 32 := Scalar.remsi v0 c2_i32_555
  let c0_i32_560 : BitVec 32 := 0#32
  let v1065 : BitVec 1 := Scalar.cmpi .ne v1064 c0_i32_560
  let v1066 : BitVec 1 := Scalar.andi v1063 v1065
  let v1052 : BitVec 32 := Scalar.divsi v0 c2_i32_555
  let c1_i32_561 : BitVec 32 := 1#32
  let v1067 : BitVec 32 := Scalar.subi v1052 c1_i32_561
  let v1068 : BitVec 32 := Scalar.select v1066 v1067 v1052
  let c2_i32_566 : BitVec 32 := 2#32
  let v1076 : BitVec 32 := Scalar.muli v1068 c2_i32_566
  let c1_i32_568 : BitVec 32 := 1#32
  let arg20 : BitVec 32 := Scf.iv v1076 c1_i32_568 k0_t10
  let c512_i32_571 : BitVec 32 := 512#32
  let v1088 : BitVec 32 := Scalar.muli arg20 c512_i32_571
  v1088
def k0_off281 (i : grid0.Coords) (k0_t10 : Fin (k0_t10_loop i).trips) : Fin 2 → Nat :=
  let arg1 : BitVec 32 := BitVec.ofNat 32 (i 1).val
  let c1_i32 : BitVec 32 := 1#32
  let v0 : BitVec 32 := Scalar.addi arg1 c1_i32
  let c0_i32_556 : BitVec 32 := 0#32
  let v1053 : BitVec 1 := Scalar.cmpi .sgt v0 c0_i32_556
  let v1054 : BitVec 32 := Scalar.extui v1053
  let c0_i32_557 : BitVec 32 := 0#32
  let v1055 : BitVec 1 := Scalar.cmpi .slt v0 c0_i32_557
  let v1056 : BitVec 32 := Scalar.extui v1055
  let v1057 : BitVec 32 := Scalar.subi v1054 v1056
  let c2_i32_555 : BitVec 32 := 2#32
  let c0_i32_558 : BitVec 32 := 0#32
  let v1058 : BitVec 1 := Scalar.cmpi .sgt c2_i32_555 c0_i32_558
  let v1059 : BitVec 32 := Scalar.extui v1058
  let c0_i32_559 : BitVec 32 := 0#32
  let v1060 : BitVec 1 := Scalar.cmpi .slt c2_i32_555 c0_i32_559
  let v1061 : BitVec 32 := Scalar.extui v1060
  let v1062 : BitVec 32 := Scalar.subi v1059 v1061
  let v1063 : BitVec 1 := Scalar.cmpi .ne v1057 v1062
  let v1064 : BitVec 32 := Scalar.remsi v0 c2_i32_555
  let c0_i32_560 : BitVec 32 := 0#32
  let v1065 : BitVec 1 := Scalar.cmpi .ne v1064 c0_i32_560
  let v1066 : BitVec 1 := Scalar.andi v1063 v1065
  let v1052 : BitVec 32 := Scalar.divsi v0 c2_i32_555
  let c1_i32_561 : BitVec 32 := 1#32
  let v1067 : BitVec 32 := Scalar.subi v1052 c1_i32_561
  let v1068 : BitVec 32 := Scalar.select v1066 v1067 v1052
  let c2_i32_566 : BitVec 32 := 2#32
  let v1076 : BitVec 32 := Scalar.muli v1068 c2_i32_566
  let c1_i32_568 : BitVec 32 := 1#32
  let arg20 : BitVec 32 := Scf.iv v1076 c1_i32_568 k0_t10
  let c512_i32_571 : BitVec 32 := 512#32
  let v1088 : BitVec 32 := Scalar.muli arg20 c512_i32_571
  let v1089 : BitVec 32 := v1088
  let v1090 : Index := Scalar.indexCast v1089
  let c0_572 : Index := 0#32
  ![v1090.toNat, 0]
@[reducible] def k0_t11_loop (i : grid0.Coords) : Scf.Loop 32 :=
  let arg1 : BitVec 32 := BitVec.ofNat 32 (i 1).val
  let c1_i32 : BitVec 32 := 1#32
  let v0 : BitVec 32 := Scalar.addi arg1 c1_i32
  let c0_i32_556 : BitVec 32 := 0#32
  let v1053 : BitVec 1 := Scalar.cmpi .sgt v0 c0_i32_556
  let v1054 : BitVec 32 := Scalar.extui v1053
  let c0_i32_557 : BitVec 32 := 0#32
  let v1055 : BitVec 1 := Scalar.cmpi .slt v0 c0_i32_557
  let v1056 : BitVec 32 := Scalar.extui v1055
  let v1057 : BitVec 32 := Scalar.subi v1054 v1056
  let c2_i32_555 : BitVec 32 := 2#32
  let c0_i32_558 : BitVec 32 := 0#32
  let v1058 : BitVec 1 := Scalar.cmpi .sgt c2_i32_555 c0_i32_558
  let v1059 : BitVec 32 := Scalar.extui v1058
  let c0_i32_559 : BitVec 32 := 0#32
  let v1060 : BitVec 1 := Scalar.cmpi .slt c2_i32_555 c0_i32_559
  let v1061 : BitVec 32 := Scalar.extui v1060
  let v1062 : BitVec 32 := Scalar.subi v1059 v1061
  let v1063 : BitVec 1 := Scalar.cmpi .ne v1057 v1062
  let v1064 : BitVec 32 := Scalar.remsi v0 c2_i32_555
  let c0_i32_560 : BitVec 32 := 0#32
  let v1065 : BitVec 1 := Scalar.cmpi .ne v1064 c0_i32_560
  let v1066 : BitVec 1 := Scalar.andi v1063 v1065
  let v1052 : BitVec 32 := Scalar.divsi v0 c2_i32_555
  let c1_i32_561 : BitVec 32 := 1#32
  let v1067 : BitVec 32 := Scalar.subi v1052 c1_i32_561
  let v1068 : BitVec 32 := Scalar.select v1066 v1067 v1052
  let c2_i32_566 : BitVec 32 := 2#32
  let v1076 : BitVec 32 := Scalar.muli v1068 c2_i32_566
  let v1077 : BitVec 32 := Scalar.subi v0 v1076
  let c1_i32_567 : BitVec 32 := 1#32
  let v1079 : BitVec 32 := Scalar.divsi v1077 c1_i32_567
  let v1080 : BitVec 32 := Scalar.muli v1079 c1_i32_567
  let v1081 : BitVec 32 := Scalar.addi v1076 v1080
  let v1078 : BitVec 32 := Scalar.addi v1076 v1077
  let c1_i32_569 : BitVec 32 := 1#32
  ⟨v1081, v1078, c1_i32_569⟩
def k0_mult25 (i : grid0.Coords) (k0_t11 : Fin (k0_t11_loop i).trips) : BitVec 32 :=
  let arg1 : BitVec 32 := BitVec.ofNat 32 (i 1).val
  let c1_i32 : BitVec 32 := 1#32
  let v0 : BitVec 32 := Scalar.addi arg1 c1_i32
  let c0_i32_556 : BitVec 32 := 0#32
  let v1053 : BitVec 1 := Scalar.cmpi .sgt v0 c0_i32_556
  let v1054 : BitVec 32 := Scalar.extui v1053
  let c0_i32_557 : BitVec 32 := 0#32
  let v1055 : BitVec 1 := Scalar.cmpi .slt v0 c0_i32_557
  let v1056 : BitVec 32 := Scalar.extui v1055
  let v1057 : BitVec 32 := Scalar.subi v1054 v1056
  let c2_i32_555 : BitVec 32 := 2#32
  let c0_i32_558 : BitVec 32 := 0#32
  let v1058 : BitVec 1 := Scalar.cmpi .sgt c2_i32_555 c0_i32_558
  let v1059 : BitVec 32 := Scalar.extui v1058
  let c0_i32_559 : BitVec 32 := 0#32
  let v1060 : BitVec 1 := Scalar.cmpi .slt c2_i32_555 c0_i32_559
  let v1061 : BitVec 32 := Scalar.extui v1060
  let v1062 : BitVec 32 := Scalar.subi v1059 v1061
  let v1063 : BitVec 1 := Scalar.cmpi .ne v1057 v1062
  let v1064 : BitVec 32 := Scalar.remsi v0 c2_i32_555
  let c0_i32_560 : BitVec 32 := 0#32
  let v1065 : BitVec 1 := Scalar.cmpi .ne v1064 c0_i32_560
  let v1066 : BitVec 1 := Scalar.andi v1063 v1065
  let v1052 : BitVec 32 := Scalar.divsi v0 c2_i32_555
  let c1_i32_561 : BitVec 32 := 1#32
  let v1067 : BitVec 32 := Scalar.subi v1052 c1_i32_561
  let v1068 : BitVec 32 := Scalar.select v1066 v1067 v1052
  let c2_i32_566 : BitVec 32 := 2#32
  let v1076 : BitVec 32 := Scalar.muli v1068 c2_i32_566
  let v1077 : BitVec 32 := Scalar.subi v0 v1076
  let c1_i32_567 : BitVec 32 := 1#32
  let v1079 : BitVec 32 := Scalar.divsi v1077 c1_i32_567
  let v1080 : BitVec 32 := Scalar.muli v1079 c1_i32_567
  let v1081 : BitVec 32 := Scalar.addi v1076 v1080
  let c1_i32_569 : BitVec 32 := 1#32
  let arg20 : BitVec 32 := Scf.iv v1081 c1_i32_569 k0_t11
  let c512_i32_571 : BitVec 32 := 512#32
  let v1088 : BitVec 32 := Scalar.muli arg20 c512_i32_571
  v1088
def k0_off282 (i : grid0.Coords) (k0_t11 : Fin (k0_t11_loop i).trips) : Fin 2 → Nat :=
  let arg1 : BitVec 32 := BitVec.ofNat 32 (i 1).val
  let c1_i32 : BitVec 32 := 1#32
  let v0 : BitVec 32 := Scalar.addi arg1 c1_i32
  let c0_i32_556 : BitVec 32 := 0#32
  let v1053 : BitVec 1 := Scalar.cmpi .sgt v0 c0_i32_556
  let v1054 : BitVec 32 := Scalar.extui v1053
  let c0_i32_557 : BitVec 32 := 0#32
  let v1055 : BitVec 1 := Scalar.cmpi .slt v0 c0_i32_557
  let v1056 : BitVec 32 := Scalar.extui v1055
  let v1057 : BitVec 32 := Scalar.subi v1054 v1056
  let c2_i32_555 : BitVec 32 := 2#32
  let c0_i32_558 : BitVec 32 := 0#32
  let v1058 : BitVec 1 := Scalar.cmpi .sgt c2_i32_555 c0_i32_558
  let v1059 : BitVec 32 := Scalar.extui v1058
  let c0_i32_559 : BitVec 32 := 0#32
  let v1060 : BitVec 1 := Scalar.cmpi .slt c2_i32_555 c0_i32_559
  let v1061 : BitVec 32 := Scalar.extui v1060
  let v1062 : BitVec 32 := Scalar.subi v1059 v1061
  let v1063 : BitVec 1 := Scalar.cmpi .ne v1057 v1062
  let v1064 : BitVec 32 := Scalar.remsi v0 c2_i32_555
  let c0_i32_560 : BitVec 32 := 0#32
  let v1065 : BitVec 1 := Scalar.cmpi .ne v1064 c0_i32_560
  let v1066 : BitVec 1 := Scalar.andi v1063 v1065
  let v1052 : BitVec 32 := Scalar.divsi v0 c2_i32_555
  let c1_i32_561 : BitVec 32 := 1#32
  let v1067 : BitVec 32 := Scalar.subi v1052 c1_i32_561
  let v1068 : BitVec 32 := Scalar.select v1066 v1067 v1052
  let c2_i32_566 : BitVec 32 := 2#32
  let v1076 : BitVec 32 := Scalar.muli v1068 c2_i32_566
  let v1077 : BitVec 32 := Scalar.subi v0 v1076
  let c1_i32_567 : BitVec 32 := 1#32
  let v1079 : BitVec 32 := Scalar.divsi v1077 c1_i32_567
  let v1080 : BitVec 32 := Scalar.muli v1079 c1_i32_567
  let v1081 : BitVec 32 := Scalar.addi v1076 v1080
  let c1_i32_569 : BitVec 32 := 1#32
  let arg20 : BitVec 32 := Scf.iv v1081 c1_i32_569 k0_t11
  let c512_i32_571 : BitVec 32 := 512#32
  let v1088 : BitVec 32 := Scalar.muli arg20 c512_i32_571
  let v1089 : BitVec 32 := v1088
  let v1090 : Index := Scalar.indexCast v1089
  let c0_572 : Index := 0#32
  ![v1090.toNat, 0]
@[reducible] def k0_t12_loop (i : grid0.Coords) : Scf.Loop 32 :=
  let c0_i32_514 : BitVec 32 := 0#32
  let arg1 : BitVec 32 := BitVec.ofNat 32 (i 1).val
  let c1_i32 : BitVec 32 := 1#32
  let v0 : BitVec 32 := Scalar.addi arg1 c1_i32
  let c0_i32_507 : BitVec 32 := 0#32
  let v961 : BitVec 1 := Scalar.cmpi .sgt v0 c0_i32_507
  let v962 : BitVec 32 := Scalar.extui v961
  let c0_i32_508 : BitVec 32 := 0#32
  let v963 : BitVec 1 := Scalar.cmpi .slt v0 c0_i32_508
  let v964 : BitVec 32 := Scalar.extui v963
  let v965 : BitVec 32 := Scalar.subi v962 v964
  let c2_i32_506 : BitVec 32 := 2#32
  let c0_i32_509 : BitVec 32 := 0#32
  let v966 : BitVec 1 := Scalar.cmpi .sgt c2_i32_506 c0_i32_509
  let v967 : BitVec 32 := Scalar.extui v966
  let c0_i32_510 : BitVec 32 := 0#32
  let v968 : BitVec 1 := Scalar.cmpi .slt c2_i32_506 c0_i32_510
  let v969 : BitVec 32 := Scalar.extui v968
  let v970 : BitVec 32 := Scalar.subi v967 v969
  let v971 : BitVec 1 := Scalar.cmpi .ne v965 v970
  let v972 : BitVec 32 := Scalar.remsi v0 c2_i32_506
  let c0_i32_511 : BitVec 32 := 0#32
  let v973 : BitVec 1 := Scalar.cmpi .ne v972 c0_i32_511
  let v974 : BitVec 1 := Scalar.andi v971 v973
  let v960 : BitVec 32 := Scalar.divsi v0 c2_i32_506
  let c1_i32_512 : BitVec 32 := 1#32
  let v975 : BitVec 32 := Scalar.subi v960 c1_i32_512
  let v976 : BitVec 32 := Scalar.select v974 v975 v960
  let v977 : BitVec 32 := Scalar.subi v976 c0_i32_514
  let c1_i32_515 : BitVec 32 := 1#32
  let v979 : BitVec 32 := Scalar.divsi v977 c1_i32_515
  let v980 : BitVec 32 := Scalar.muli v979 c1_i32_515
  let v981 : BitVec 32 := Scalar.addi c0_i32_514 v980
  let c1_i32_516 : BitVec 32 := 1#32
  ⟨c0_i32_514, v981, c1_i32_516⟩
def k0_mult26 (i : grid0.Coords) (k0_t12 : Fin (k0_t12_loop i).trips) : BitVec 32 :=
  let c0_i32_514 : BitVec 32 := 0#32
  let c1_i32_516 : BitVec 32 := 1#32
  let arg18 : BitVec 32 := Scf.iv c0_i32_514 c1_i32_516 k0_t12
  let c2_i32_523 : BitVec 32 := 2#32
  let v988 : BitVec 32 := Scalar.muli arg18 c2_i32_523
  let c0_i32_524 : BitVec 32 := 0#32
  let v989 : BitVec 32 := Scalar.addi v988 c0_i32_524
  let c512_i32_525 : BitVec 32 := 512#32
  let v990 : BitVec 32 := Scalar.muli v989 c512_i32_525
  v990
def k0_off283 (i : grid0.Coords) (k0_t12 : Fin (k0_t12_loop i).trips) (c0_i32_524 : BitVec 32) : Fin 2 → Nat :=
  let c0_i32_514 : BitVec 32 := 0#32
  let c1_i32_516 : BitVec 32 := 1#32
  let arg18 : BitVec 32 := Scf.iv c0_i32_514 c1_i32_516 k0_t12
  let c2_i32_523 : BitVec 32 := 2#32
  let v988 : BitVec 32 := Scalar.muli arg18 c2_i32_523
  let v989 : BitVec 32 := Scalar.addi v988 c0_i32_524
  let c512_i32_525 : BitVec 32 := 512#32
  let v990 : BitVec 32 := Scalar.muli v989 c512_i32_525
  let v991 : BitVec 32 := v990
  let v992 : Index := Scalar.indexCast v991
  let c0_526 : Index := 0#32
  ![v992.toNat, 0]
def k0_mult27 (i : grid0.Coords) (k0_t12 : Fin (k0_t12_loop i).trips) : BitVec 32 :=
  let c0_i32_514 : BitVec 32 := 0#32
  let c1_i32_516 : BitVec 32 := 1#32
  let arg18 : BitVec 32 := Scf.iv c0_i32_514 c1_i32_516 k0_t12
  let c2_i32_530 : BitVec 32 := 2#32
  let v1004 : BitVec 32 := Scalar.muli arg18 c2_i32_530
  let c1_i32_531 : BitVec 32 := 1#32
  let v1005 : BitVec 32 := Scalar.addi v1004 c1_i32_531
  let c512_i32_532 : BitVec 32 := 512#32
  let v1006 : BitVec 32 := Scalar.muli v1005 c512_i32_532
  v1006
@[reducible] def k0_t13_loop (i : grid0.Coords) : Scf.Loop 32 :=
  let c0_i32_514 : BitVec 32 := 0#32
  let arg1 : BitVec 32 := BitVec.ofNat 32 (i 1).val
  let c1_i32 : BitVec 32 := 1#32
  let v0 : BitVec 32 := Scalar.addi arg1 c1_i32
  let c0_i32_507 : BitVec 32 := 0#32
  let v961 : BitVec 1 := Scalar.cmpi .sgt v0 c0_i32_507
  let v962 : BitVec 32 := Scalar.extui v961
  let c0_i32_508 : BitVec 32 := 0#32
  let v963 : BitVec 1 := Scalar.cmpi .slt v0 c0_i32_508
  let v964 : BitVec 32 := Scalar.extui v963
  let v965 : BitVec 32 := Scalar.subi v962 v964
  let c2_i32_506 : BitVec 32 := 2#32
  let c0_i32_509 : BitVec 32 := 0#32
  let v966 : BitVec 1 := Scalar.cmpi .sgt c2_i32_506 c0_i32_509
  let v967 : BitVec 32 := Scalar.extui v966
  let c0_i32_510 : BitVec 32 := 0#32
  let v968 : BitVec 1 := Scalar.cmpi .slt c2_i32_506 c0_i32_510
  let v969 : BitVec 32 := Scalar.extui v968
  let v970 : BitVec 32 := Scalar.subi v967 v969
  let v971 : BitVec 1 := Scalar.cmpi .ne v965 v970
  let v972 : BitVec 32 := Scalar.remsi v0 c2_i32_506
  let c0_i32_511 : BitVec 32 := 0#32
  let v973 : BitVec 1 := Scalar.cmpi .ne v972 c0_i32_511
  let v974 : BitVec 1 := Scalar.andi v971 v973
  let v960 : BitVec 32 := Scalar.divsi v0 c2_i32_506
  let c1_i32_512 : BitVec 32 := 1#32
  let v975 : BitVec 32 := Scalar.subi v960 c1_i32_512
  let v976 : BitVec 32 := Scalar.select v974 v975 v960
  let v977 : BitVec 32 := Scalar.subi v976 c0_i32_514
  let c1_i32_515 : BitVec 32 := 1#32
  let v979 : BitVec 32 := Scalar.divsi v977 c1_i32_515
  let v980 : BitVec 32 := Scalar.muli v979 c1_i32_515
  let v981 : BitVec 32 := Scalar.addi c0_i32_514 v980
  let v978 : BitVec 32 := Scalar.addi c0_i32_514 v977
  let c1_i32_517 : BitVec 32 := 1#32
  ⟨v981, v978, c1_i32_517⟩
def k0_mult28 (i : grid0.Coords) (k0_t13 : Fin (k0_t13_loop i).trips) : BitVec 32 :=
  let c0_i32_514 : BitVec 32 := 0#32
  let arg1 : BitVec 32 := BitVec.ofNat 32 (i 1).val
  let c1_i32 : BitVec 32 := 1#32
  let v0 : BitVec 32 := Scalar.addi arg1 c1_i32
  let c0_i32_507 : BitVec 32 := 0#32
  let v961 : BitVec 1 := Scalar.cmpi .sgt v0 c0_i32_507
  let v962 : BitVec 32 := Scalar.extui v961
  let c0_i32_508 : BitVec 32 := 0#32
  let v963 : BitVec 1 := Scalar.cmpi .slt v0 c0_i32_508
  let v964 : BitVec 32 := Scalar.extui v963
  let v965 : BitVec 32 := Scalar.subi v962 v964
  let c2_i32_506 : BitVec 32 := 2#32
  let c0_i32_509 : BitVec 32 := 0#32
  let v966 : BitVec 1 := Scalar.cmpi .sgt c2_i32_506 c0_i32_509
  let v967 : BitVec 32 := Scalar.extui v966
  let c0_i32_510 : BitVec 32 := 0#32
  let v968 : BitVec 1 := Scalar.cmpi .slt c2_i32_506 c0_i32_510
  let v969 : BitVec 32 := Scalar.extui v968
  let v970 : BitVec 32 := Scalar.subi v967 v969
  let v971 : BitVec 1 := Scalar.cmpi .ne v965 v970
  let v972 : BitVec 32 := Scalar.remsi v0 c2_i32_506
  let c0_i32_511 : BitVec 32 := 0#32
  let v973 : BitVec 1 := Scalar.cmpi .ne v972 c0_i32_511
  let v974 : BitVec 1 := Scalar.andi v971 v973
  let v960 : BitVec 32 := Scalar.divsi v0 c2_i32_506
  let c1_i32_512 : BitVec 32 := 1#32
  let v975 : BitVec 32 := Scalar.subi v960 c1_i32_512
  let v976 : BitVec 32 := Scalar.select v974 v975 v960
  let v977 : BitVec 32 := Scalar.subi v976 c0_i32_514
  let c1_i32_515 : BitVec 32 := 1#32
  let v979 : BitVec 32 := Scalar.divsi v977 c1_i32_515
  let v980 : BitVec 32 := Scalar.muli v979 c1_i32_515
  let v981 : BitVec 32 := Scalar.addi c0_i32_514 v980
  let c1_i32_517 : BitVec 32 := 1#32
  let arg18 : BitVec 32 := Scf.iv v981 c1_i32_517 k0_t13
  let c2_i32_523 : BitVec 32 := 2#32
  let v988 : BitVec 32 := Scalar.muli arg18 c2_i32_523
  let c0_i32_524 : BitVec 32 := 0#32
  let v989 : BitVec 32 := Scalar.addi v988 c0_i32_524
  let c512_i32_525 : BitVec 32 := 512#32
  let v990 : BitVec 32 := Scalar.muli v989 c512_i32_525
  v990
def k0_off284 (i : grid0.Coords) (k0_t13 : Fin (k0_t13_loop i).trips) (c0_i32_524 : BitVec 32) : Fin 2 → Nat :=
  let c0_i32_514 : BitVec 32 := 0#32
  let arg1 : BitVec 32 := BitVec.ofNat 32 (i 1).val
  let c1_i32 : BitVec 32 := 1#32
  let v0 : BitVec 32 := Scalar.addi arg1 c1_i32
  let c0_i32_507 : BitVec 32 := 0#32
  let v961 : BitVec 1 := Scalar.cmpi .sgt v0 c0_i32_507
  let v962 : BitVec 32 := Scalar.extui v961
  let c0_i32_508 : BitVec 32 := 0#32
  let v963 : BitVec 1 := Scalar.cmpi .slt v0 c0_i32_508
  let v964 : BitVec 32 := Scalar.extui v963
  let v965 : BitVec 32 := Scalar.subi v962 v964
  let c2_i32_506 : BitVec 32 := 2#32
  let c0_i32_509 : BitVec 32 := 0#32
  let v966 : BitVec 1 := Scalar.cmpi .sgt c2_i32_506 c0_i32_509
  let v967 : BitVec 32 := Scalar.extui v966
  let c0_i32_510 : BitVec 32 := 0#32
  let v968 : BitVec 1 := Scalar.cmpi .slt c2_i32_506 c0_i32_510
  let v969 : BitVec 32 := Scalar.extui v968
  let v970 : BitVec 32 := Scalar.subi v967 v969
  let v971 : BitVec 1 := Scalar.cmpi .ne v965 v970
  let v972 : BitVec 32 := Scalar.remsi v0 c2_i32_506
  let c0_i32_511 : BitVec 32 := 0#32
  let v973 : BitVec 1 := Scalar.cmpi .ne v972 c0_i32_511
  let v974 : BitVec 1 := Scalar.andi v971 v973
  let v960 : BitVec 32 := Scalar.divsi v0 c2_i32_506
  let c1_i32_512 : BitVec 32 := 1#32
  let v975 : BitVec 32 := Scalar.subi v960 c1_i32_512
  let v976 : BitVec 32 := Scalar.select v974 v975 v960
  let v977 : BitVec 32 := Scalar.subi v976 c0_i32_514
  let c1_i32_515 : BitVec 32 := 1#32
  let v979 : BitVec 32 := Scalar.divsi v977 c1_i32_515
  let v980 : BitVec 32 := Scalar.muli v979 c1_i32_515
  let v981 : BitVec 32 := Scalar.addi c0_i32_514 v980
  let c1_i32_517 : BitVec 32 := 1#32
  let arg18 : BitVec 32 := Scf.iv v981 c1_i32_517 k0_t13
  let c2_i32_523 : BitVec 32 := 2#32
  let v988 : BitVec 32 := Scalar.muli arg18 c2_i32_523
  let v989 : BitVec 32 := Scalar.addi v988 c0_i32_524
  let c512_i32_525 : BitVec 32 := 512#32
  let v990 : BitVec 32 := Scalar.muli v989 c512_i32_525
  let v991 : BitVec 32 := v990
  let v992 : Index := Scalar.indexCast v991
  let c0_526 : Index := 0#32
  ![v992.toNat, 0]
def k0_mult29 (i : grid0.Coords) (k0_t13 : Fin (k0_t13_loop i).trips) : BitVec 32 :=
  let c0_i32_514 : BitVec 32 := 0#32
  let arg1 : BitVec 32 := BitVec.ofNat 32 (i 1).val
  let c1_i32 : BitVec 32 := 1#32
  let v0 : BitVec 32 := Scalar.addi arg1 c1_i32
  let c0_i32_507 : BitVec 32 := 0#32
  let v961 : BitVec 1 := Scalar.cmpi .sgt v0 c0_i32_507
  let v962 : BitVec 32 := Scalar.extui v961
  let c0_i32_508 : BitVec 32 := 0#32
  let v963 : BitVec 1 := Scalar.cmpi .slt v0 c0_i32_508
  let v964 : BitVec 32 := Scalar.extui v963
  let v965 : BitVec 32 := Scalar.subi v962 v964
  let c2_i32_506 : BitVec 32 := 2#32
  let c0_i32_509 : BitVec 32 := 0#32
  let v966 : BitVec 1 := Scalar.cmpi .sgt c2_i32_506 c0_i32_509
  let v967 : BitVec 32 := Scalar.extui v966
  let c0_i32_510 : BitVec 32 := 0#32
  let v968 : BitVec 1 := Scalar.cmpi .slt c2_i32_506 c0_i32_510
  let v969 : BitVec 32 := Scalar.extui v968
  let v970 : BitVec 32 := Scalar.subi v967 v969
  let v971 : BitVec 1 := Scalar.cmpi .ne v965 v970
  let v972 : BitVec 32 := Scalar.remsi v0 c2_i32_506
  let c0_i32_511 : BitVec 32 := 0#32
  let v973 : BitVec 1 := Scalar.cmpi .ne v972 c0_i32_511
  let v974 : BitVec 1 := Scalar.andi v971 v973
  let v960 : BitVec 32 := Scalar.divsi v0 c2_i32_506
  let c1_i32_512 : BitVec 32 := 1#32
  let v975 : BitVec 32 := Scalar.subi v960 c1_i32_512
  let v976 : BitVec 32 := Scalar.select v974 v975 v960
  let v977 : BitVec 32 := Scalar.subi v976 c0_i32_514
  let c1_i32_515 : BitVec 32 := 1#32
  let v979 : BitVec 32 := Scalar.divsi v977 c1_i32_515
  let v980 : BitVec 32 := Scalar.muli v979 c1_i32_515
  let v981 : BitVec 32 := Scalar.addi c0_i32_514 v980
  let c1_i32_517 : BitVec 32 := 1#32
  let arg18 : BitVec 32 := Scf.iv v981 c1_i32_517 k0_t13
  let c2_i32_530 : BitVec 32 := 2#32
  let v1004 : BitVec 32 := Scalar.muli arg18 c2_i32_530
  let c1_i32_531 : BitVec 32 := 1#32
  let v1005 : BitVec 32 := Scalar.addi v1004 c1_i32_531
  let c512_i32_532 : BitVec 32 := 512#32
  let v1006 : BitVec 32 := Scalar.muli v1005 c512_i32_532
  v1006
@[reducible] def k0_t14_loop (i : grid0.Coords) : Scf.Loop 32 :=
  let arg1 : BitVec 32 := BitVec.ofNat 32 (i 1).val
  let c1_i32 : BitVec 32 := 1#32
  let v0 : BitVec 32 := Scalar.addi arg1 c1_i32
  let c0_i32_507 : BitVec 32 := 0#32
  let v961 : BitVec 1 := Scalar.cmpi .sgt v0 c0_i32_507
  let v962 : BitVec 32 := Scalar.extui v961
  let c0_i32_508 : BitVec 32 := 0#32
  let v963 : BitVec 1 := Scalar.cmpi .slt v0 c0_i32_508
  let v964 : BitVec 32 := Scalar.extui v963
  let v965 : BitVec 32 := Scalar.subi v962 v964
  let c2_i32_506 : BitVec 32 := 2#32
  let c0_i32_509 : BitVec 32 := 0#32
  let v966 : BitVec 1 := Scalar.cmpi .sgt c2_i32_506 c0_i32_509
  let v967 : BitVec 32 := Scalar.extui v966
  let c0_i32_510 : BitVec 32 := 0#32
  let v968 : BitVec 1 := Scalar.cmpi .slt c2_i32_506 c0_i32_510
  let v969 : BitVec 32 := Scalar.extui v968
  let v970 : BitVec 32 := Scalar.subi v967 v969
  let v971 : BitVec 1 := Scalar.cmpi .ne v965 v970
  let v972 : BitVec 32 := Scalar.remsi v0 c2_i32_506
  let c0_i32_511 : BitVec 32 := 0#32
  let v973 : BitVec 1 := Scalar.cmpi .ne v972 c0_i32_511
  let v974 : BitVec 1 := Scalar.andi v971 v973
  let v960 : BitVec 32 := Scalar.divsi v0 c2_i32_506
  let c1_i32_512 : BitVec 32 := 1#32
  let v975 : BitVec 32 := Scalar.subi v960 c1_i32_512
  let v976 : BitVec 32 := Scalar.select v974 v975 v960
  let c2_i32_518 : BitVec 32 := 2#32
  let v982 : BitVec 32 := Scalar.muli v976 c2_i32_518
  let v983 : BitVec 32 := Scalar.subi v0 v982
  let c1_i32_520 : BitVec 32 := 1#32
  let v985 : BitVec 32 := Scalar.divsi v983 c1_i32_520
  let v986 : BitVec 32 := Scalar.muli v985 c1_i32_520
  let v987 : BitVec 32 := Scalar.addi v982 v986
  let c1_i32_521 : BitVec 32 := 1#32
  ⟨v982, v987, c1_i32_521⟩
def k0_mult30 (i : grid0.Coords) (k0_t14 : Fin (k0_t14_loop i).trips) : BitVec 32 :=
  let arg1 : BitVec 32 := BitVec.ofNat 32 (i 1).val
  let c1_i32 : BitVec 32 := 1#32
  let v0 : BitVec 32 := Scalar.addi arg1 c1_i32
  let c0_i32_507 : BitVec 32 := 0#32
  let v961 : BitVec 1 := Scalar.cmpi .sgt v0 c0_i32_507
  let v962 : BitVec 32 := Scalar.extui v961
  let c0_i32_508 : BitVec 32 := 0#32
  let v963 : BitVec 1 := Scalar.cmpi .slt v0 c0_i32_508
  let v964 : BitVec 32 := Scalar.extui v963
  let v965 : BitVec 32 := Scalar.subi v962 v964
  let c2_i32_506 : BitVec 32 := 2#32
  let c0_i32_509 : BitVec 32 := 0#32
  let v966 : BitVec 1 := Scalar.cmpi .sgt c2_i32_506 c0_i32_509
  let v967 : BitVec 32 := Scalar.extui v966
  let c0_i32_510 : BitVec 32 := 0#32
  let v968 : BitVec 1 := Scalar.cmpi .slt c2_i32_506 c0_i32_510
  let v969 : BitVec 32 := Scalar.extui v968
  let v970 : BitVec 32 := Scalar.subi v967 v969
  let v971 : BitVec 1 := Scalar.cmpi .ne v965 v970
  let v972 : BitVec 32 := Scalar.remsi v0 c2_i32_506
  let c0_i32_511 : BitVec 32 := 0#32
  let v973 : BitVec 1 := Scalar.cmpi .ne v972 c0_i32_511
  let v974 : BitVec 1 := Scalar.andi v971 v973
  let v960 : BitVec 32 := Scalar.divsi v0 c2_i32_506
  let c1_i32_512 : BitVec 32 := 1#32
  let v975 : BitVec 32 := Scalar.subi v960 c1_i32_512
  let v976 : BitVec 32 := Scalar.select v974 v975 v960
  let c2_i32_518 : BitVec 32 := 2#32
  let v982 : BitVec 32 := Scalar.muli v976 c2_i32_518
  let c1_i32_521 : BitVec 32 := 1#32
  let arg18 : BitVec 32 := Scf.iv v982 c1_i32_521 k0_t14
  let c512_i32_523 : BitVec 32 := 512#32
  let v988 : BitVec 32 := Scalar.muli arg18 c512_i32_523
  v988
def k0_off285 (i : grid0.Coords) (k0_t14 : Fin (k0_t14_loop i).trips) : Fin 2 → Nat :=
  let arg1 : BitVec 32 := BitVec.ofNat 32 (i 1).val
  let c1_i32 : BitVec 32 := 1#32
  let v0 : BitVec 32 := Scalar.addi arg1 c1_i32
  let c0_i32_507 : BitVec 32 := 0#32
  let v961 : BitVec 1 := Scalar.cmpi .sgt v0 c0_i32_507
  let v962 : BitVec 32 := Scalar.extui v961
  let c0_i32_508 : BitVec 32 := 0#32
  let v963 : BitVec 1 := Scalar.cmpi .slt v0 c0_i32_508
  let v964 : BitVec 32 := Scalar.extui v963
  let v965 : BitVec 32 := Scalar.subi v962 v964
  let c2_i32_506 : BitVec 32 := 2#32
  let c0_i32_509 : BitVec 32 := 0#32
  let v966 : BitVec 1 := Scalar.cmpi .sgt c2_i32_506 c0_i32_509
  let v967 : BitVec 32 := Scalar.extui v966
  let c0_i32_510 : BitVec 32 := 0#32
  let v968 : BitVec 1 := Scalar.cmpi .slt c2_i32_506 c0_i32_510
  let v969 : BitVec 32 := Scalar.extui v968
  let v970 : BitVec 32 := Scalar.subi v967 v969
  let v971 : BitVec 1 := Scalar.cmpi .ne v965 v970
  let v972 : BitVec 32 := Scalar.remsi v0 c2_i32_506
  let c0_i32_511 : BitVec 32 := 0#32
  let v973 : BitVec 1 := Scalar.cmpi .ne v972 c0_i32_511
  let v974 : BitVec 1 := Scalar.andi v971 v973
  let v960 : BitVec 32 := Scalar.divsi v0 c2_i32_506
  let c1_i32_512 : BitVec 32 := 1#32
  let v975 : BitVec 32 := Scalar.subi v960 c1_i32_512
  let v976 : BitVec 32 := Scalar.select v974 v975 v960
  let c2_i32_518 : BitVec 32 := 2#32
  let v982 : BitVec 32 := Scalar.muli v976 c2_i32_518
  let c1_i32_521 : BitVec 32 := 1#32
  let arg18 : BitVec 32 := Scf.iv v982 c1_i32_521 k0_t14
  let c512_i32_523 : BitVec 32 := 512#32
  let v988 : BitVec 32 := Scalar.muli arg18 c512_i32_523
  let v989 : BitVec 32 := v988
  let v990 : Index := Scalar.indexCast v989
  let c0_524 : Index := 0#32
  ![v990.toNat, 0]
@[reducible] def k0_t15_loop (i : grid0.Coords) : Scf.Loop 32 :=
  let arg1 : BitVec 32 := BitVec.ofNat 32 (i 1).val
  let c1_i32 : BitVec 32 := 1#32
  let v0 : BitVec 32 := Scalar.addi arg1 c1_i32
  let c0_i32_507 : BitVec 32 := 0#32
  let v961 : BitVec 1 := Scalar.cmpi .sgt v0 c0_i32_507
  let v962 : BitVec 32 := Scalar.extui v961
  let c0_i32_508 : BitVec 32 := 0#32
  let v963 : BitVec 1 := Scalar.cmpi .slt v0 c0_i32_508
  let v964 : BitVec 32 := Scalar.extui v963
  let v965 : BitVec 32 := Scalar.subi v962 v964
  let c2_i32_506 : BitVec 32 := 2#32
  let c0_i32_509 : BitVec 32 := 0#32
  let v966 : BitVec 1 := Scalar.cmpi .sgt c2_i32_506 c0_i32_509
  let v967 : BitVec 32 := Scalar.extui v966
  let c0_i32_510 : BitVec 32 := 0#32
  let v968 : BitVec 1 := Scalar.cmpi .slt c2_i32_506 c0_i32_510
  let v969 : BitVec 32 := Scalar.extui v968
  let v970 : BitVec 32 := Scalar.subi v967 v969
  let v971 : BitVec 1 := Scalar.cmpi .ne v965 v970
  let v972 : BitVec 32 := Scalar.remsi v0 c2_i32_506
  let c0_i32_511 : BitVec 32 := 0#32
  let v973 : BitVec 1 := Scalar.cmpi .ne v972 c0_i32_511
  let v974 : BitVec 1 := Scalar.andi v971 v973
  let v960 : BitVec 32 := Scalar.divsi v0 c2_i32_506
  let c1_i32_512 : BitVec 32 := 1#32
  let v975 : BitVec 32 := Scalar.subi v960 c1_i32_512
  let v976 : BitVec 32 := Scalar.select v974 v975 v960
  let c2_i32_518 : BitVec 32 := 2#32
  let v982 : BitVec 32 := Scalar.muli v976 c2_i32_518
  let v983 : BitVec 32 := Scalar.subi v0 v982
  let c1_i32_520 : BitVec 32 := 1#32
  let v985 : BitVec 32 := Scalar.divsi v983 c1_i32_520
  let v986 : BitVec 32 := Scalar.muli v985 c1_i32_520
  let v987 : BitVec 32 := Scalar.addi v982 v986
  let v984 : BitVec 32 := Scalar.addi v982 v983
  let c1_i32_522 : BitVec 32 := 1#32
  ⟨v987, v984, c1_i32_522⟩
def k0_mult31 (i : grid0.Coords) (k0_t15 : Fin (k0_t15_loop i).trips) : BitVec 32 :=
  let arg1 : BitVec 32 := BitVec.ofNat 32 (i 1).val
  let c1_i32 : BitVec 32 := 1#32
  let v0 : BitVec 32 := Scalar.addi arg1 c1_i32
  let c0_i32_507 : BitVec 32 := 0#32
  let v961 : BitVec 1 := Scalar.cmpi .sgt v0 c0_i32_507
  let v962 : BitVec 32 := Scalar.extui v961
  let c0_i32_508 : BitVec 32 := 0#32
  let v963 : BitVec 1 := Scalar.cmpi .slt v0 c0_i32_508
  let v964 : BitVec 32 := Scalar.extui v963
  let v965 : BitVec 32 := Scalar.subi v962 v964
  let c2_i32_506 : BitVec 32 := 2#32
  let c0_i32_509 : BitVec 32 := 0#32
  let v966 : BitVec 1 := Scalar.cmpi .sgt c2_i32_506 c0_i32_509
  let v967 : BitVec 32 := Scalar.extui v966
  let c0_i32_510 : BitVec 32 := 0#32
  let v968 : BitVec 1 := Scalar.cmpi .slt c2_i32_506 c0_i32_510
  let v969 : BitVec 32 := Scalar.extui v968
  let v970 : BitVec 32 := Scalar.subi v967 v969
  let v971 : BitVec 1 := Scalar.cmpi .ne v965 v970
  let v972 : BitVec 32 := Scalar.remsi v0 c2_i32_506
  let c0_i32_511 : BitVec 32 := 0#32
  let v973 : BitVec 1 := Scalar.cmpi .ne v972 c0_i32_511
  let v974 : BitVec 1 := Scalar.andi v971 v973
  let v960 : BitVec 32 := Scalar.divsi v0 c2_i32_506
  let c1_i32_512 : BitVec 32 := 1#32
  let v975 : BitVec 32 := Scalar.subi v960 c1_i32_512
  let v976 : BitVec 32 := Scalar.select v974 v975 v960
  let c2_i32_518 : BitVec 32 := 2#32
  let v982 : BitVec 32 := Scalar.muli v976 c2_i32_518
  let v983 : BitVec 32 := Scalar.subi v0 v982
  let c1_i32_520 : BitVec 32 := 1#32
  let v985 : BitVec 32 := Scalar.divsi v983 c1_i32_520
  let v986 : BitVec 32 := Scalar.muli v985 c1_i32_520
  let v987 : BitVec 32 := Scalar.addi v982 v986
  let c1_i32_522 : BitVec 32 := 1#32
  let arg18 : BitVec 32 := Scf.iv v987 c1_i32_522 k0_t15
  let c512_i32_523 : BitVec 32 := 512#32
  let v988 : BitVec 32 := Scalar.muli arg18 c512_i32_523
  v988
def k0_off286 (i : grid0.Coords) (k0_t15 : Fin (k0_t15_loop i).trips) : Fin 2 → Nat :=
  let arg1 : BitVec 32 := BitVec.ofNat 32 (i 1).val
  let c1_i32 : BitVec 32 := 1#32
  let v0 : BitVec 32 := Scalar.addi arg1 c1_i32
  let c0_i32_507 : BitVec 32 := 0#32
  let v961 : BitVec 1 := Scalar.cmpi .sgt v0 c0_i32_507
  let v962 : BitVec 32 := Scalar.extui v961
  let c0_i32_508 : BitVec 32 := 0#32
  let v963 : BitVec 1 := Scalar.cmpi .slt v0 c0_i32_508
  let v964 : BitVec 32 := Scalar.extui v963
  let v965 : BitVec 32 := Scalar.subi v962 v964
  let c2_i32_506 : BitVec 32 := 2#32
  let c0_i32_509 : BitVec 32 := 0#32
  let v966 : BitVec 1 := Scalar.cmpi .sgt c2_i32_506 c0_i32_509
  let v967 : BitVec 32 := Scalar.extui v966
  let c0_i32_510 : BitVec 32 := 0#32
  let v968 : BitVec 1 := Scalar.cmpi .slt c2_i32_506 c0_i32_510
  let v969 : BitVec 32 := Scalar.extui v968
  let v970 : BitVec 32 := Scalar.subi v967 v969
  let v971 : BitVec 1 := Scalar.cmpi .ne v965 v970
  let v972 : BitVec 32 := Scalar.remsi v0 c2_i32_506
  let c0_i32_511 : BitVec 32 := 0#32
  let v973 : BitVec 1 := Scalar.cmpi .ne v972 c0_i32_511
  let v974 : BitVec 1 := Scalar.andi v971 v973
  let v960 : BitVec 32 := Scalar.divsi v0 c2_i32_506
  let c1_i32_512 : BitVec 32 := 1#32
  let v975 : BitVec 32 := Scalar.subi v960 c1_i32_512
  let v976 : BitVec 32 := Scalar.select v974 v975 v960
  let c2_i32_518 : BitVec 32 := 2#32
  let v982 : BitVec 32 := Scalar.muli v976 c2_i32_518
  let v983 : BitVec 32 := Scalar.subi v0 v982
  let c1_i32_520 : BitVec 32 := 1#32
  let v985 : BitVec 32 := Scalar.divsi v983 c1_i32_520
  let v986 : BitVec 32 := Scalar.muli v985 c1_i32_520
  let v987 : BitVec 32 := Scalar.addi v982 v986
  let c1_i32_522 : BitVec 32 := 1#32
  let arg18 : BitVec 32 := Scf.iv v987 c1_i32_522 k0_t15
  let c512_i32_523 : BitVec 32 := 512#32
  let v988 : BitVec 32 := Scalar.muli arg18 c512_i32_523
  let v989 : BitVec 32 := v988
  let v990 : Index := Scalar.indexCast v989
  let c0_524 : Index := 0#32
  ![v990.toNat, 0]
@[reducible] def k0_t16_loop (i : grid0.Coords) : Scf.Loop 32 :=
  let c0_i32_516 : BitVec 32 := 0#32
  let arg1 : BitVec 32 := BitVec.ofNat 32 (i 1).val
  let c1_i32 : BitVec 32 := 1#32
  let v0 : BitVec 32 := Scalar.addi arg1 c1_i32
  let c0_i32_509 : BitVec 32 := 0#32
  let v962 : BitVec 1 := Scalar.cmpi .sgt v0 c0_i32_509
  let v963 : BitVec 32 := Scalar.extui v962
  let c0_i32_510 : BitVec 32 := 0#32
  let v964 : BitVec 1 := Scalar.cmpi .slt v0 c0_i32_510
  let v965 : BitVec 32 := Scalar.extui v964
  let v966 : BitVec 32 := Scalar.subi v963 v965
  let c2_i32_508 : BitVec 32 := 2#32
  let c0_i32_511 : BitVec 32 := 0#32
  let v967 : BitVec 1 := Scalar.cmpi .sgt c2_i32_508 c0_i32_511
  let v968 : BitVec 32 := Scalar.extui v967
  let c0_i32_512 : BitVec 32 := 0#32
  let v969 : BitVec 1 := Scalar.cmpi .slt c2_i32_508 c0_i32_512
  let v970 : BitVec 32 := Scalar.extui v969
  let v971 : BitVec 32 := Scalar.subi v968 v970
  let v972 : BitVec 1 := Scalar.cmpi .ne v966 v971
  let v973 : BitVec 32 := Scalar.remsi v0 c2_i32_508
  let c0_i32_513 : BitVec 32 := 0#32
  let v974 : BitVec 1 := Scalar.cmpi .ne v973 c0_i32_513
  let v975 : BitVec 1 := Scalar.andi v972 v974
  let v961 : BitVec 32 := Scalar.divsi v0 c2_i32_508
  let c1_i32_514 : BitVec 32 := 1#32
  let v976 : BitVec 32 := Scalar.subi v961 c1_i32_514
  let v977 : BitVec 32 := Scalar.select v975 v976 v961
  let v978 : BitVec 32 := Scalar.subi v977 c0_i32_516
  let c1_i32_517 : BitVec 32 := 1#32
  let v980 : BitVec 32 := Scalar.divsi v978 c1_i32_517
  let v981 : BitVec 32 := Scalar.muli v980 c1_i32_517
  let v982 : BitVec 32 := Scalar.addi c0_i32_516 v981
  let c1_i32_518 : BitVec 32 := 1#32
  ⟨c0_i32_516, v982, c1_i32_518⟩
def k0_mult32 (i : grid0.Coords) (k0_t16 : Fin (k0_t16_loop i).trips) : BitVec 32 :=
  let c0_i32_516 : BitVec 32 := 0#32
  let c1_i32_518 : BitVec 32 := 1#32
  let arg18 : BitVec 32 := Scf.iv c0_i32_516 c1_i32_518 k0_t16
  let c2_i32_525 : BitVec 32 := 2#32
  let v989 : BitVec 32 := Scalar.muli arg18 c2_i32_525
  let c0_i32_526 : BitVec 32 := 0#32
  let v990 : BitVec 32 := Scalar.addi v989 c0_i32_526
  let c512_i32_527 : BitVec 32 := 512#32
  let v991 : BitVec 32 := Scalar.muli v990 c512_i32_527
  v991
def k0_off287 (i : grid0.Coords) (k0_t16 : Fin (k0_t16_loop i).trips) (c0_i32_526 : BitVec 32) : Fin 2 → Nat :=
  let c0_i32_516 : BitVec 32 := 0#32
  let c1_i32_518 : BitVec 32 := 1#32
  let arg18 : BitVec 32 := Scf.iv c0_i32_516 c1_i32_518 k0_t16
  let c2_i32_525 : BitVec 32 := 2#32
  let v989 : BitVec 32 := Scalar.muli arg18 c2_i32_525
  let v990 : BitVec 32 := Scalar.addi v989 c0_i32_526
  let c512_i32_527 : BitVec 32 := 512#32
  let v991 : BitVec 32 := Scalar.muli v990 c512_i32_527
  let v992 : BitVec 32 := v991
  let v993 : Index := Scalar.indexCast v992
  let c0_528 : Index := 0#32
  ![v993.toNat, 0]
def k0_mult33 (i : grid0.Coords) (k0_t16 : Fin (k0_t16_loop i).trips) : BitVec 32 :=
  let c0_i32_516 : BitVec 32 := 0#32
  let c1_i32_518 : BitVec 32 := 1#32
  let arg18 : BitVec 32 := Scf.iv c0_i32_516 c1_i32_518 k0_t16
  let c2_i32_532 : BitVec 32 := 2#32
  let v1014 : BitVec 32 := Scalar.muli arg18 c2_i32_532
  let c1_i32_533 : BitVec 32 := 1#32
  let v1015 : BitVec 32 := Scalar.addi v1014 c1_i32_533
  let c512_i32_534 : BitVec 32 := 512#32
  let v1016 : BitVec 32 := Scalar.muli v1015 c512_i32_534
  v1016
@[reducible] def k0_t17_loop (i : grid0.Coords) : Scf.Loop 32 :=
  let c0_i32_516 : BitVec 32 := 0#32
  let arg1 : BitVec 32 := BitVec.ofNat 32 (i 1).val
  let c1_i32 : BitVec 32 := 1#32
  let v0 : BitVec 32 := Scalar.addi arg1 c1_i32
  let c0_i32_509 : BitVec 32 := 0#32
  let v962 : BitVec 1 := Scalar.cmpi .sgt v0 c0_i32_509
  let v963 : BitVec 32 := Scalar.extui v962
  let c0_i32_510 : BitVec 32 := 0#32
  let v964 : BitVec 1 := Scalar.cmpi .slt v0 c0_i32_510
  let v965 : BitVec 32 := Scalar.extui v964
  let v966 : BitVec 32 := Scalar.subi v963 v965
  let c2_i32_508 : BitVec 32 := 2#32
  let c0_i32_511 : BitVec 32 := 0#32
  let v967 : BitVec 1 := Scalar.cmpi .sgt c2_i32_508 c0_i32_511
  let v968 : BitVec 32 := Scalar.extui v967
  let c0_i32_512 : BitVec 32 := 0#32
  let v969 : BitVec 1 := Scalar.cmpi .slt c2_i32_508 c0_i32_512
  let v970 : BitVec 32 := Scalar.extui v969
  let v971 : BitVec 32 := Scalar.subi v968 v970
  let v972 : BitVec 1 := Scalar.cmpi .ne v966 v971
  let v973 : BitVec 32 := Scalar.remsi v0 c2_i32_508
  let c0_i32_513 : BitVec 32 := 0#32
  let v974 : BitVec 1 := Scalar.cmpi .ne v973 c0_i32_513
  let v975 : BitVec 1 := Scalar.andi v972 v974
  let v961 : BitVec 32 := Scalar.divsi v0 c2_i32_508
  let c1_i32_514 : BitVec 32 := 1#32
  let v976 : BitVec 32 := Scalar.subi v961 c1_i32_514
  let v977 : BitVec 32 := Scalar.select v975 v976 v961
  let v978 : BitVec 32 := Scalar.subi v977 c0_i32_516
  let c1_i32_517 : BitVec 32 := 1#32
  let v980 : BitVec 32 := Scalar.divsi v978 c1_i32_517
  let v981 : BitVec 32 := Scalar.muli v980 c1_i32_517
  let v982 : BitVec 32 := Scalar.addi c0_i32_516 v981
  let v979 : BitVec 32 := Scalar.addi c0_i32_516 v978
  let c1_i32_519 : BitVec 32 := 1#32
  ⟨v982, v979, c1_i32_519⟩
def k0_mult34 (i : grid0.Coords) (k0_t17 : Fin (k0_t17_loop i).trips) : BitVec 32 :=
  let c0_i32_516 : BitVec 32 := 0#32
  let arg1 : BitVec 32 := BitVec.ofNat 32 (i 1).val
  let c1_i32 : BitVec 32 := 1#32
  let v0 : BitVec 32 := Scalar.addi arg1 c1_i32
  let c0_i32_509 : BitVec 32 := 0#32
  let v962 : BitVec 1 := Scalar.cmpi .sgt v0 c0_i32_509
  let v963 : BitVec 32 := Scalar.extui v962
  let c0_i32_510 : BitVec 32 := 0#32
  let v964 : BitVec 1 := Scalar.cmpi .slt v0 c0_i32_510
  let v965 : BitVec 32 := Scalar.extui v964
  let v966 : BitVec 32 := Scalar.subi v963 v965
  let c2_i32_508 : BitVec 32 := 2#32
  let c0_i32_511 : BitVec 32 := 0#32
  let v967 : BitVec 1 := Scalar.cmpi .sgt c2_i32_508 c0_i32_511
  let v968 : BitVec 32 := Scalar.extui v967
  let c0_i32_512 : BitVec 32 := 0#32
  let v969 : BitVec 1 := Scalar.cmpi .slt c2_i32_508 c0_i32_512
  let v970 : BitVec 32 := Scalar.extui v969
  let v971 : BitVec 32 := Scalar.subi v968 v970
  let v972 : BitVec 1 := Scalar.cmpi .ne v966 v971
  let v973 : BitVec 32 := Scalar.remsi v0 c2_i32_508
  let c0_i32_513 : BitVec 32 := 0#32
  let v974 : BitVec 1 := Scalar.cmpi .ne v973 c0_i32_513
  let v975 : BitVec 1 := Scalar.andi v972 v974
  let v961 : BitVec 32 := Scalar.divsi v0 c2_i32_508
  let c1_i32_514 : BitVec 32 := 1#32
  let v976 : BitVec 32 := Scalar.subi v961 c1_i32_514
  let v977 : BitVec 32 := Scalar.select v975 v976 v961
  let v978 : BitVec 32 := Scalar.subi v977 c0_i32_516
  let c1_i32_517 : BitVec 32 := 1#32
  let v980 : BitVec 32 := Scalar.divsi v978 c1_i32_517
  let v981 : BitVec 32 := Scalar.muli v980 c1_i32_517
  let v982 : BitVec 32 := Scalar.addi c0_i32_516 v981
  let c1_i32_519 : BitVec 32 := 1#32
  let arg18 : BitVec 32 := Scf.iv v982 c1_i32_519 k0_t17
  let c2_i32_525 : BitVec 32 := 2#32
  let v989 : BitVec 32 := Scalar.muli arg18 c2_i32_525
  let c0_i32_526 : BitVec 32 := 0#32
  let v990 : BitVec 32 := Scalar.addi v989 c0_i32_526
  let c512_i32_527 : BitVec 32 := 512#32
  let v991 : BitVec 32 := Scalar.muli v990 c512_i32_527
  v991
def k0_off288 (i : grid0.Coords) (k0_t17 : Fin (k0_t17_loop i).trips) (c0_i32_526 : BitVec 32) : Fin 2 → Nat :=
  let c0_i32_516 : BitVec 32 := 0#32
  let arg1 : BitVec 32 := BitVec.ofNat 32 (i 1).val
  let c1_i32 : BitVec 32 := 1#32
  let v0 : BitVec 32 := Scalar.addi arg1 c1_i32
  let c0_i32_509 : BitVec 32 := 0#32
  let v962 : BitVec 1 := Scalar.cmpi .sgt v0 c0_i32_509
  let v963 : BitVec 32 := Scalar.extui v962
  let c0_i32_510 : BitVec 32 := 0#32
  let v964 : BitVec 1 := Scalar.cmpi .slt v0 c0_i32_510
  let v965 : BitVec 32 := Scalar.extui v964
  let v966 : BitVec 32 := Scalar.subi v963 v965
  let c2_i32_508 : BitVec 32 := 2#32
  let c0_i32_511 : BitVec 32 := 0#32
  let v967 : BitVec 1 := Scalar.cmpi .sgt c2_i32_508 c0_i32_511
  let v968 : BitVec 32 := Scalar.extui v967
  let c0_i32_512 : BitVec 32 := 0#32
  let v969 : BitVec 1 := Scalar.cmpi .slt c2_i32_508 c0_i32_512
  let v970 : BitVec 32 := Scalar.extui v969
  let v971 : BitVec 32 := Scalar.subi v968 v970
  let v972 : BitVec 1 := Scalar.cmpi .ne v966 v971
  let v973 : BitVec 32 := Scalar.remsi v0 c2_i32_508
  let c0_i32_513 : BitVec 32 := 0#32
  let v974 : BitVec 1 := Scalar.cmpi .ne v973 c0_i32_513
  let v975 : BitVec 1 := Scalar.andi v972 v974
  let v961 : BitVec 32 := Scalar.divsi v0 c2_i32_508
  let c1_i32_514 : BitVec 32 := 1#32
  let v976 : BitVec 32 := Scalar.subi v961 c1_i32_514
  let v977 : BitVec 32 := Scalar.select v975 v976 v961
  let v978 : BitVec 32 := Scalar.subi v977 c0_i32_516
  let c1_i32_517 : BitVec 32 := 1#32
  let v980 : BitVec 32 := Scalar.divsi v978 c1_i32_517
  let v981 : BitVec 32 := Scalar.muli v980 c1_i32_517
  let v982 : BitVec 32 := Scalar.addi c0_i32_516 v981
  let c1_i32_519 : BitVec 32 := 1#32
  let arg18 : BitVec 32 := Scf.iv v982 c1_i32_519 k0_t17
  let c2_i32_525 : BitVec 32 := 2#32
  let v989 : BitVec 32 := Scalar.muli arg18 c2_i32_525
  let v990 : BitVec 32 := Scalar.addi v989 c0_i32_526
  let c512_i32_527 : BitVec 32 := 512#32
  let v991 : BitVec 32 := Scalar.muli v990 c512_i32_527
  let v992 : BitVec 32 := v991
  let v993 : Index := Scalar.indexCast v992
  let c0_528 : Index := 0#32
  ![v993.toNat, 0]
def k0_mult35 (i : grid0.Coords) (k0_t17 : Fin (k0_t17_loop i).trips) : BitVec 32 :=
  let c0_i32_516 : BitVec 32 := 0#32
  let arg1 : BitVec 32 := BitVec.ofNat 32 (i 1).val
  let c1_i32 : BitVec 32 := 1#32
  let v0 : BitVec 32 := Scalar.addi arg1 c1_i32
  let c0_i32_509 : BitVec 32 := 0#32
  let v962 : BitVec 1 := Scalar.cmpi .sgt v0 c0_i32_509
  let v963 : BitVec 32 := Scalar.extui v962
  let c0_i32_510 : BitVec 32 := 0#32
  let v964 : BitVec 1 := Scalar.cmpi .slt v0 c0_i32_510
  let v965 : BitVec 32 := Scalar.extui v964
  let v966 : BitVec 32 := Scalar.subi v963 v965
  let c2_i32_508 : BitVec 32 := 2#32
  let c0_i32_511 : BitVec 32 := 0#32
  let v967 : BitVec 1 := Scalar.cmpi .sgt c2_i32_508 c0_i32_511
  let v968 : BitVec 32 := Scalar.extui v967
  let c0_i32_512 : BitVec 32 := 0#32
  let v969 : BitVec 1 := Scalar.cmpi .slt c2_i32_508 c0_i32_512
  let v970 : BitVec 32 := Scalar.extui v969
  let v971 : BitVec 32 := Scalar.subi v968 v970
  let v972 : BitVec 1 := Scalar.cmpi .ne v966 v971
  let v973 : BitVec 32 := Scalar.remsi v0 c2_i32_508
  let c0_i32_513 : BitVec 32 := 0#32
  let v974 : BitVec 1 := Scalar.cmpi .ne v973 c0_i32_513
  let v975 : BitVec 1 := Scalar.andi v972 v974
  let v961 : BitVec 32 := Scalar.divsi v0 c2_i32_508
  let c1_i32_514 : BitVec 32 := 1#32
  let v976 : BitVec 32 := Scalar.subi v961 c1_i32_514
  let v977 : BitVec 32 := Scalar.select v975 v976 v961
  let v978 : BitVec 32 := Scalar.subi v977 c0_i32_516
  let c1_i32_517 : BitVec 32 := 1#32
  let v980 : BitVec 32 := Scalar.divsi v978 c1_i32_517
  let v981 : BitVec 32 := Scalar.muli v980 c1_i32_517
  let v982 : BitVec 32 := Scalar.addi c0_i32_516 v981
  let c1_i32_519 : BitVec 32 := 1#32
  let arg18 : BitVec 32 := Scf.iv v982 c1_i32_519 k0_t17
  let c2_i32_532 : BitVec 32 := 2#32
  let v1014 : BitVec 32 := Scalar.muli arg18 c2_i32_532
  let c1_i32_533 : BitVec 32 := 1#32
  let v1015 : BitVec 32 := Scalar.addi v1014 c1_i32_533
  let c512_i32_534 : BitVec 32 := 512#32
  let v1016 : BitVec 32 := Scalar.muli v1015 c512_i32_534
  v1016
@[reducible] def k0_t18_loop (i : grid0.Coords) : Scf.Loop 32 :=
  let arg1 : BitVec 32 := BitVec.ofNat 32 (i 1).val
  let c1_i32 : BitVec 32 := 1#32
  let v0 : BitVec 32 := Scalar.addi arg1 c1_i32
  let c0_i32_509 : BitVec 32 := 0#32
  let v962 : BitVec 1 := Scalar.cmpi .sgt v0 c0_i32_509
  let v963 : BitVec 32 := Scalar.extui v962
  let c0_i32_510 : BitVec 32 := 0#32
  let v964 : BitVec 1 := Scalar.cmpi .slt v0 c0_i32_510
  let v965 : BitVec 32 := Scalar.extui v964
  let v966 : BitVec 32 := Scalar.subi v963 v965
  let c2_i32_508 : BitVec 32 := 2#32
  let c0_i32_511 : BitVec 32 := 0#32
  let v967 : BitVec 1 := Scalar.cmpi .sgt c2_i32_508 c0_i32_511
  let v968 : BitVec 32 := Scalar.extui v967
  let c0_i32_512 : BitVec 32 := 0#32
  let v969 : BitVec 1 := Scalar.cmpi .slt c2_i32_508 c0_i32_512
  let v970 : BitVec 32 := Scalar.extui v969
  let v971 : BitVec 32 := Scalar.subi v968 v970
  let v972 : BitVec 1 := Scalar.cmpi .ne v966 v971
  let v973 : BitVec 32 := Scalar.remsi v0 c2_i32_508
  let c0_i32_513 : BitVec 32 := 0#32
  let v974 : BitVec 1 := Scalar.cmpi .ne v973 c0_i32_513
  let v975 : BitVec 1 := Scalar.andi v972 v974
  let v961 : BitVec 32 := Scalar.divsi v0 c2_i32_508
  let c1_i32_514 : BitVec 32 := 1#32
  let v976 : BitVec 32 := Scalar.subi v961 c1_i32_514
  let v977 : BitVec 32 := Scalar.select v975 v976 v961
  let c2_i32_520 : BitVec 32 := 2#32
  let v983 : BitVec 32 := Scalar.muli v977 c2_i32_520
  let v984 : BitVec 32 := Scalar.subi v0 v983
  let c1_i32_522 : BitVec 32 := 1#32
  let v986 : BitVec 32 := Scalar.divsi v984 c1_i32_522
  let v987 : BitVec 32 := Scalar.muli v986 c1_i32_522
  let v988 : BitVec 32 := Scalar.addi v983 v987
  let c1_i32_523 : BitVec 32 := 1#32
  ⟨v983, v988, c1_i32_523⟩
def k0_mult36 (i : grid0.Coords) (k0_t18 : Fin (k0_t18_loop i).trips) : BitVec 32 :=
  let arg1 : BitVec 32 := BitVec.ofNat 32 (i 1).val
  let c1_i32 : BitVec 32 := 1#32
  let v0 : BitVec 32 := Scalar.addi arg1 c1_i32
  let c0_i32_509 : BitVec 32 := 0#32
  let v962 : BitVec 1 := Scalar.cmpi .sgt v0 c0_i32_509
  let v963 : BitVec 32 := Scalar.extui v962
  let c0_i32_510 : BitVec 32 := 0#32
  let v964 : BitVec 1 := Scalar.cmpi .slt v0 c0_i32_510
  let v965 : BitVec 32 := Scalar.extui v964
  let v966 : BitVec 32 := Scalar.subi v963 v965
  let c2_i32_508 : BitVec 32 := 2#32
  let c0_i32_511 : BitVec 32 := 0#32
  let v967 : BitVec 1 := Scalar.cmpi .sgt c2_i32_508 c0_i32_511
  let v968 : BitVec 32 := Scalar.extui v967
  let c0_i32_512 : BitVec 32 := 0#32
  let v969 : BitVec 1 := Scalar.cmpi .slt c2_i32_508 c0_i32_512
  let v970 : BitVec 32 := Scalar.extui v969
  let v971 : BitVec 32 := Scalar.subi v968 v970
  let v972 : BitVec 1 := Scalar.cmpi .ne v966 v971
  let v973 : BitVec 32 := Scalar.remsi v0 c2_i32_508
  let c0_i32_513 : BitVec 32 := 0#32
  let v974 : BitVec 1 := Scalar.cmpi .ne v973 c0_i32_513
  let v975 : BitVec 1 := Scalar.andi v972 v974
  let v961 : BitVec 32 := Scalar.divsi v0 c2_i32_508
  let c1_i32_514 : BitVec 32 := 1#32
  let v976 : BitVec 32 := Scalar.subi v961 c1_i32_514
  let v977 : BitVec 32 := Scalar.select v975 v976 v961
  let c2_i32_520 : BitVec 32 := 2#32
  let v983 : BitVec 32 := Scalar.muli v977 c2_i32_520
  let c1_i32_523 : BitVec 32 := 1#32
  let arg18 : BitVec 32 := Scf.iv v983 c1_i32_523 k0_t18
  let c512_i32_525 : BitVec 32 := 512#32
  let v989 : BitVec 32 := Scalar.muli arg18 c512_i32_525
  v989
def k0_off289 (i : grid0.Coords) (k0_t18 : Fin (k0_t18_loop i).trips) : Fin 2 → Nat :=
  let arg1 : BitVec 32 := BitVec.ofNat 32 (i 1).val
  let c1_i32 : BitVec 32 := 1#32
  let v0 : BitVec 32 := Scalar.addi arg1 c1_i32
  let c0_i32_509 : BitVec 32 := 0#32
  let v962 : BitVec 1 := Scalar.cmpi .sgt v0 c0_i32_509
  let v963 : BitVec 32 := Scalar.extui v962
  let c0_i32_510 : BitVec 32 := 0#32
  let v964 : BitVec 1 := Scalar.cmpi .slt v0 c0_i32_510
  let v965 : BitVec 32 := Scalar.extui v964
  let v966 : BitVec 32 := Scalar.subi v963 v965
  let c2_i32_508 : BitVec 32 := 2#32
  let c0_i32_511 : BitVec 32 := 0#32
  let v967 : BitVec 1 := Scalar.cmpi .sgt c2_i32_508 c0_i32_511
  let v968 : BitVec 32 := Scalar.extui v967
  let c0_i32_512 : BitVec 32 := 0#32
  let v969 : BitVec 1 := Scalar.cmpi .slt c2_i32_508 c0_i32_512
  let v970 : BitVec 32 := Scalar.extui v969
  let v971 : BitVec 32 := Scalar.subi v968 v970
  let v972 : BitVec 1 := Scalar.cmpi .ne v966 v971
  let v973 : BitVec 32 := Scalar.remsi v0 c2_i32_508
  let c0_i32_513 : BitVec 32 := 0#32
  let v974 : BitVec 1 := Scalar.cmpi .ne v973 c0_i32_513
  let v975 : BitVec 1 := Scalar.andi v972 v974
  let v961 : BitVec 32 := Scalar.divsi v0 c2_i32_508
  let c1_i32_514 : BitVec 32 := 1#32
  let v976 : BitVec 32 := Scalar.subi v961 c1_i32_514
  let v977 : BitVec 32 := Scalar.select v975 v976 v961
  let c2_i32_520 : BitVec 32 := 2#32
  let v983 : BitVec 32 := Scalar.muli v977 c2_i32_520
  let c1_i32_523 : BitVec 32 := 1#32
  let arg18 : BitVec 32 := Scf.iv v983 c1_i32_523 k0_t18
  let c512_i32_525 : BitVec 32 := 512#32
  let v989 : BitVec 32 := Scalar.muli arg18 c512_i32_525
  let v990 : BitVec 32 := v989
  let v991 : Index := Scalar.indexCast v990
  let c0_526 : Index := 0#32
  ![v991.toNat, 0]
@[reducible] def k0_t19_loop (i : grid0.Coords) : Scf.Loop 32 :=
  let arg1 : BitVec 32 := BitVec.ofNat 32 (i 1).val
  let c1_i32 : BitVec 32 := 1#32
  let v0 : BitVec 32 := Scalar.addi arg1 c1_i32
  let c0_i32_509 : BitVec 32 := 0#32
  let v962 : BitVec 1 := Scalar.cmpi .sgt v0 c0_i32_509
  let v963 : BitVec 32 := Scalar.extui v962
  let c0_i32_510 : BitVec 32 := 0#32
  let v964 : BitVec 1 := Scalar.cmpi .slt v0 c0_i32_510
  let v965 : BitVec 32 := Scalar.extui v964
  let v966 : BitVec 32 := Scalar.subi v963 v965
  let c2_i32_508 : BitVec 32 := 2#32
  let c0_i32_511 : BitVec 32 := 0#32
  let v967 : BitVec 1 := Scalar.cmpi .sgt c2_i32_508 c0_i32_511
  let v968 : BitVec 32 := Scalar.extui v967
  let c0_i32_512 : BitVec 32 := 0#32
  let v969 : BitVec 1 := Scalar.cmpi .slt c2_i32_508 c0_i32_512
  let v970 : BitVec 32 := Scalar.extui v969
  let v971 : BitVec 32 := Scalar.subi v968 v970
  let v972 : BitVec 1 := Scalar.cmpi .ne v966 v971
  let v973 : BitVec 32 := Scalar.remsi v0 c2_i32_508
  let c0_i32_513 : BitVec 32 := 0#32
  let v974 : BitVec 1 := Scalar.cmpi .ne v973 c0_i32_513
  let v975 : BitVec 1 := Scalar.andi v972 v974
  let v961 : BitVec 32 := Scalar.divsi v0 c2_i32_508
  let c1_i32_514 : BitVec 32 := 1#32
  let v976 : BitVec 32 := Scalar.subi v961 c1_i32_514
  let v977 : BitVec 32 := Scalar.select v975 v976 v961
  let c2_i32_520 : BitVec 32 := 2#32
  let v983 : BitVec 32 := Scalar.muli v977 c2_i32_520
  let v984 : BitVec 32 := Scalar.subi v0 v983
  let c1_i32_522 : BitVec 32 := 1#32
  let v986 : BitVec 32 := Scalar.divsi v984 c1_i32_522
  let v987 : BitVec 32 := Scalar.muli v986 c1_i32_522
  let v988 : BitVec 32 := Scalar.addi v983 v987
  let v985 : BitVec 32 := Scalar.addi v983 v984
  let c1_i32_524 : BitVec 32 := 1#32
  ⟨v988, v985, c1_i32_524⟩
def k0_mult37 (i : grid0.Coords) (k0_t19 : Fin (k0_t19_loop i).trips) : BitVec 32 :=
  let arg1 : BitVec 32 := BitVec.ofNat 32 (i 1).val
  let c1_i32 : BitVec 32 := 1#32
  let v0 : BitVec 32 := Scalar.addi arg1 c1_i32
  let c0_i32_509 : BitVec 32 := 0#32
  let v962 : BitVec 1 := Scalar.cmpi .sgt v0 c0_i32_509
  let v963 : BitVec 32 := Scalar.extui v962
  let c0_i32_510 : BitVec 32 := 0#32
  let v964 : BitVec 1 := Scalar.cmpi .slt v0 c0_i32_510
  let v965 : BitVec 32 := Scalar.extui v964
  let v966 : BitVec 32 := Scalar.subi v963 v965
  let c2_i32_508 : BitVec 32 := 2#32
  let c0_i32_511 : BitVec 32 := 0#32
  let v967 : BitVec 1 := Scalar.cmpi .sgt c2_i32_508 c0_i32_511
  let v968 : BitVec 32 := Scalar.extui v967
  let c0_i32_512 : BitVec 32 := 0#32
  let v969 : BitVec 1 := Scalar.cmpi .slt c2_i32_508 c0_i32_512
  let v970 : BitVec 32 := Scalar.extui v969
  let v971 : BitVec 32 := Scalar.subi v968 v970
  let v972 : BitVec 1 := Scalar.cmpi .ne v966 v971
  let v973 : BitVec 32 := Scalar.remsi v0 c2_i32_508
  let c0_i32_513 : BitVec 32 := 0#32
  let v974 : BitVec 1 := Scalar.cmpi .ne v973 c0_i32_513
  let v975 : BitVec 1 := Scalar.andi v972 v974
  let v961 : BitVec 32 := Scalar.divsi v0 c2_i32_508
  let c1_i32_514 : BitVec 32 := 1#32
  let v976 : BitVec 32 := Scalar.subi v961 c1_i32_514
  let v977 : BitVec 32 := Scalar.select v975 v976 v961
  let c2_i32_520 : BitVec 32 := 2#32
  let v983 : BitVec 32 := Scalar.muli v977 c2_i32_520
  let v984 : BitVec 32 := Scalar.subi v0 v983
  let c1_i32_522 : BitVec 32 := 1#32
  let v986 : BitVec 32 := Scalar.divsi v984 c1_i32_522
  let v987 : BitVec 32 := Scalar.muli v986 c1_i32_522
  let v988 : BitVec 32 := Scalar.addi v983 v987
  let c1_i32_524 : BitVec 32 := 1#32
  let arg18 : BitVec 32 := Scf.iv v988 c1_i32_524 k0_t19
  let c512_i32_525 : BitVec 32 := 512#32
  let v989 : BitVec 32 := Scalar.muli arg18 c512_i32_525
  v989
def k0_off290 (i : grid0.Coords) (k0_t19 : Fin (k0_t19_loop i).trips) : Fin 2 → Nat :=
  let arg1 : BitVec 32 := BitVec.ofNat 32 (i 1).val
  let c1_i32 : BitVec 32 := 1#32
  let v0 : BitVec 32 := Scalar.addi arg1 c1_i32
  let c0_i32_509 : BitVec 32 := 0#32
  let v962 : BitVec 1 := Scalar.cmpi .sgt v0 c0_i32_509
  let v963 : BitVec 32 := Scalar.extui v962
  let c0_i32_510 : BitVec 32 := 0#32
  let v964 : BitVec 1 := Scalar.cmpi .slt v0 c0_i32_510
  let v965 : BitVec 32 := Scalar.extui v964
  let v966 : BitVec 32 := Scalar.subi v963 v965
  let c2_i32_508 : BitVec 32 := 2#32
  let c0_i32_511 : BitVec 32 := 0#32
  let v967 : BitVec 1 := Scalar.cmpi .sgt c2_i32_508 c0_i32_511
  let v968 : BitVec 32 := Scalar.extui v967
  let c0_i32_512 : BitVec 32 := 0#32
  let v969 : BitVec 1 := Scalar.cmpi .slt c2_i32_508 c0_i32_512
  let v970 : BitVec 32 := Scalar.extui v969
  let v971 : BitVec 32 := Scalar.subi v968 v970
  let v972 : BitVec 1 := Scalar.cmpi .ne v966 v971
  let v973 : BitVec 32 := Scalar.remsi v0 c2_i32_508
  let c0_i32_513 : BitVec 32 := 0#32
  let v974 : BitVec 1 := Scalar.cmpi .ne v973 c0_i32_513
  let v975 : BitVec 1 := Scalar.andi v972 v974
  let v961 : BitVec 32 := Scalar.divsi v0 c2_i32_508
  let c1_i32_514 : BitVec 32 := 1#32
  let v976 : BitVec 32 := Scalar.subi v961 c1_i32_514
  let v977 : BitVec 32 := Scalar.select v975 v976 v961
  let c2_i32_520 : BitVec 32 := 2#32
  let v983 : BitVec 32 := Scalar.muli v977 c2_i32_520
  let v984 : BitVec 32 := Scalar.subi v0 v983
  let c1_i32_522 : BitVec 32 := 1#32
  let v986 : BitVec 32 := Scalar.divsi v984 c1_i32_522
  let v987 : BitVec 32 := Scalar.muli v986 c1_i32_522
  let v988 : BitVec 32 := Scalar.addi v983 v987
  let c1_i32_524 : BitVec 32 := 1#32
  let arg18 : BitVec 32 := Scf.iv v988 c1_i32_524 k0_t19
  let c512_i32_525 : BitVec 32 := 512#32
  let v989 : BitVec 32 := Scalar.muli arg18 c512_i32_525
  let v990 : BitVec 32 := v989
  let v991 : Index := Scalar.indexCast v990
  let c0_526 : Index := 0#32
  ![v991.toNat, 0]
@[reducible] def k0_t20_loop (i : grid0.Coords) : Scf.Loop 32 :=
  let c0_i32_362 : BitVec 32 := 0#32
  let arg1 : BitVec 32 := BitVec.ofNat 32 (i 1).val
  let c1_i32 : BitVec 32 := 1#32
  let v0 : BitVec 32 := Scalar.addi arg1 c1_i32
  let c0_i32_356 : BitVec 32 := 0#32
  let v659 : BitVec 1 := Scalar.cmpi .sgt v0 c0_i32_356
  let v660 : BitVec 32 := Scalar.extui v659
  let c0_i32_357 : BitVec 32 := 0#32
  let v661 : BitVec 1 := Scalar.cmpi .slt v0 c0_i32_357
  let v662 : BitVec 32 := Scalar.extui v661
  let v663 : BitVec 32 := Scalar.subi v660 v662
  let c2_i32 : BitVec 32 := 2#32
  let c0_i32_358 : BitVec 32 := 0#32
  let v664 : BitVec 1 := Scalar.cmpi .sgt c2_i32 c0_i32_358
  let v665 : BitVec 32 := Scalar.extui v664
  let c0_i32_359 : BitVec 32 := 0#32
  let v666 : BitVec 1 := Scalar.cmpi .slt c2_i32 c0_i32_359
  let v667 : BitVec 32 := Scalar.extui v666
  let v668 : BitVec 32 := Scalar.subi v665 v667
  let v669 : BitVec 1 := Scalar.cmpi .ne v663 v668
  let v670 : BitVec 32 := Scalar.remsi v0 c2_i32
  let c0_i32_360 : BitVec 32 := 0#32
  let v671 : BitVec 1 := Scalar.cmpi .ne v670 c0_i32_360
  let v672 : BitVec 1 := Scalar.andi v669 v671
  let v658 : BitVec 32 := Scalar.divsi v0 c2_i32
  let c1_i32_361 : BitVec 32 := 1#32
  let v673 : BitVec 32 := Scalar.subi v658 c1_i32_361
  let v674 : BitVec 32 := Scalar.select v672 v673 v658
  let v675 : BitVec 32 := Scalar.subi v674 c0_i32_362
  let c1_i32_363 : BitVec 32 := 1#32
  let v677 : BitVec 32 := Scalar.divsi v675 c1_i32_363
  let v678 : BitVec 32 := Scalar.muli v677 c1_i32_363
  let v679 : BitVec 32 := Scalar.addi c0_i32_362 v678
  let c1_i32_364 : BitVec 32 := 1#32
  ⟨c0_i32_362, v679, c1_i32_364⟩
def k0_mult38 (i : grid0.Coords) (k0_t20 : Fin (k0_t20_loop i).trips) : BitVec 32 :=
  let c0_i32_362 : BitVec 32 := 0#32
  let c1_i32_364 : BitVec 32 := 1#32
  let arg18 : BitVec 32 := Scf.iv c0_i32_362 c1_i32_364 k0_t20
  let c2_i32_506 : BitVec 32 := 2#32
  let v960 : BitVec 32 := Scalar.muli arg18 c2_i32_506
  let c0_i32_507 : BitVec 32 := 0#32
  let v961 : BitVec 32 := Scalar.addi v960 c0_i32_507
  let c512_i32_508 : BitVec 32 := 512#32
  let v962 : BitVec 32 := Scalar.muli v961 c512_i32_508
  v962
def k0_off291 (i : grid0.Coords) (k0_t20 : Fin (k0_t20_loop i).trips) (c0_i32_507 : BitVec 32) : Fin 2 → Nat :=
  let c0_i32_362 : BitVec 32 := 0#32
  let c1_i32_364 : BitVec 32 := 1#32
  let arg18 : BitVec 32 := Scf.iv c0_i32_362 c1_i32_364 k0_t20
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v964 : Index := Scalar.indexCast v963
  let c0_509 : Index := 0#32
  ![v964.toNat, 0]
def k0_off292 (i : grid0.Coords) (k0_t20 : Fin (k0_t20_loop i).trips) (c0_i32_507 : BitVec 32) : Fin 3 → Nat :=
  let c0_510 : Index := 0#32
  let c0_i32_362 : BitVec 32 := 0#32
  let c1_i32_364 : BitVec 32 := 1#32
  let arg18 : BitVec 32 := Scf.iv c0_i32_362 c1_i32_364 k0_t20
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v967 : Index := Scalar.indexCast v963
  let c0_511 : Index := 0#32
  ![0, v967.toNat, 0]
def k0_mult39 (i : grid0.Coords) (k0_t20 : Fin (k0_t20_loop i).trips) : BitVec 32 :=
  let c0_i32_362 : BitVec 32 := 0#32
  let c1_i32_364 : BitVec 32 := 1#32
  let arg18 : BitVec 32 := Scf.iv c0_i32_362 c1_i32_364 k0_t20
  let c2_i32_518 : BitVec 32 := 2#32
  let v981 : BitVec 32 := Scalar.muli arg18 c2_i32_518
  let c1_i32_519 : BitVec 32 := 1#32
  let v982 : BitVec 32 := Scalar.addi v981 c1_i32_519
  let c512_i32_520 : BitVec 32 := 512#32
  let v983 : BitVec 32 := Scalar.muli v982 c512_i32_520
  v983
@[reducible] def k0_t21_loop (i : grid0.Coords) : Scf.Loop 32 :=
  let c0_i32_362 : BitVec 32 := 0#32
  let arg1 : BitVec 32 := BitVec.ofNat 32 (i 1).val
  let c1_i32 : BitVec 32 := 1#32
  let v0 : BitVec 32 := Scalar.addi arg1 c1_i32
  let c0_i32_356 : BitVec 32 := 0#32
  let v659 : BitVec 1 := Scalar.cmpi .sgt v0 c0_i32_356
  let v660 : BitVec 32 := Scalar.extui v659
  let c0_i32_357 : BitVec 32 := 0#32
  let v661 : BitVec 1 := Scalar.cmpi .slt v0 c0_i32_357
  let v662 : BitVec 32 := Scalar.extui v661
  let v663 : BitVec 32 := Scalar.subi v660 v662
  let c2_i32 : BitVec 32 := 2#32
  let c0_i32_358 : BitVec 32 := 0#32
  let v664 : BitVec 1 := Scalar.cmpi .sgt c2_i32 c0_i32_358
  let v665 : BitVec 32 := Scalar.extui v664
  let c0_i32_359 : BitVec 32 := 0#32
  let v666 : BitVec 1 := Scalar.cmpi .slt c2_i32 c0_i32_359
  let v667 : BitVec 32 := Scalar.extui v666
  let v668 : BitVec 32 := Scalar.subi v665 v667
  let v669 : BitVec 1 := Scalar.cmpi .ne v663 v668
  let v670 : BitVec 32 := Scalar.remsi v0 c2_i32
  let c0_i32_360 : BitVec 32 := 0#32
  let v671 : BitVec 1 := Scalar.cmpi .ne v670 c0_i32_360
  let v672 : BitVec 1 := Scalar.andi v669 v671
  let v658 : BitVec 32 := Scalar.divsi v0 c2_i32
  let c1_i32_361 : BitVec 32 := 1#32
  let v673 : BitVec 32 := Scalar.subi v658 c1_i32_361
  let v674 : BitVec 32 := Scalar.select v672 v673 v658
  let v675 : BitVec 32 := Scalar.subi v674 c0_i32_362
  let c1_i32_363 : BitVec 32 := 1#32
  let v677 : BitVec 32 := Scalar.divsi v675 c1_i32_363
  let v678 : BitVec 32 := Scalar.muli v677 c1_i32_363
  let v679 : BitVec 32 := Scalar.addi c0_i32_362 v678
  let v676 : BitVec 32 := Scalar.addi c0_i32_362 v675
  let c1_i32_365 : BitVec 32 := 1#32
  ⟨v679, v676, c1_i32_365⟩
def k0_mult40 (i : grid0.Coords) (k0_t21 : Fin (k0_t21_loop i).trips) : BitVec 32 :=
  let c0_i32_362 : BitVec 32 := 0#32
  let arg1 : BitVec 32 := BitVec.ofNat 32 (i 1).val
  let c1_i32 : BitVec 32 := 1#32
  let v0 : BitVec 32 := Scalar.addi arg1 c1_i32
  let c0_i32_356 : BitVec 32 := 0#32
  let v659 : BitVec 1 := Scalar.cmpi .sgt v0 c0_i32_356
  let v660 : BitVec 32 := Scalar.extui v659
  let c0_i32_357 : BitVec 32 := 0#32
  let v661 : BitVec 1 := Scalar.cmpi .slt v0 c0_i32_357
  let v662 : BitVec 32 := Scalar.extui v661
  let v663 : BitVec 32 := Scalar.subi v660 v662
  let c2_i32 : BitVec 32 := 2#32
  let c0_i32_358 : BitVec 32 := 0#32
  let v664 : BitVec 1 := Scalar.cmpi .sgt c2_i32 c0_i32_358
  let v665 : BitVec 32 := Scalar.extui v664
  let c0_i32_359 : BitVec 32 := 0#32
  let v666 : BitVec 1 := Scalar.cmpi .slt c2_i32 c0_i32_359
  let v667 : BitVec 32 := Scalar.extui v666
  let v668 : BitVec 32 := Scalar.subi v665 v667
  let v669 : BitVec 1 := Scalar.cmpi .ne v663 v668
  let v670 : BitVec 32 := Scalar.remsi v0 c2_i32
  let c0_i32_360 : BitVec 32 := 0#32
  let v671 : BitVec 1 := Scalar.cmpi .ne v670 c0_i32_360
  let v672 : BitVec 1 := Scalar.andi v669 v671
  let v658 : BitVec 32 := Scalar.divsi v0 c2_i32
  let c1_i32_361 : BitVec 32 := 1#32
  let v673 : BitVec 32 := Scalar.subi v658 c1_i32_361
  let v674 : BitVec 32 := Scalar.select v672 v673 v658
  let v675 : BitVec 32 := Scalar.subi v674 c0_i32_362
  let c1_i32_363 : BitVec 32 := 1#32
  let v677 : BitVec 32 := Scalar.divsi v675 c1_i32_363
  let v678 : BitVec 32 := Scalar.muli v677 c1_i32_363
  let v679 : BitVec 32 := Scalar.addi c0_i32_362 v678
  let c1_i32_365 : BitVec 32 := 1#32
  let arg18 : BitVec 32 := Scf.iv v679 c1_i32_365 k0_t21
  let c2_i32_506 : BitVec 32 := 2#32
  let v960 : BitVec 32 := Scalar.muli arg18 c2_i32_506
  let c0_i32_507 : BitVec 32 := 0#32
  let v961 : BitVec 32 := Scalar.addi v960 c0_i32_507
  let c512_i32_508 : BitVec 32 := 512#32
  let v962 : BitVec 32 := Scalar.muli v961 c512_i32_508
  v962
def k0_off293 (i : grid0.Coords) (k0_t21 : Fin (k0_t21_loop i).trips) (c0_i32_507 : BitVec 32) : Fin 2 → Nat :=
  let c0_i32_362 : BitVec 32 := 0#32
  let arg1 : BitVec 32 := BitVec.ofNat 32 (i 1).val
  let c1_i32 : BitVec 32 := 1#32
  let v0 : BitVec 32 := Scalar.addi arg1 c1_i32
  let c0_i32_356 : BitVec 32 := 0#32
  let v659 : BitVec 1 := Scalar.cmpi .sgt v0 c0_i32_356
  let v660 : BitVec 32 := Scalar.extui v659
  let c0_i32_357 : BitVec 32 := 0#32
  let v661 : BitVec 1 := Scalar.cmpi .slt v0 c0_i32_357
  let v662 : BitVec 32 := Scalar.extui v661
  let v663 : BitVec 32 := Scalar.subi v660 v662
  let c2_i32 : BitVec 32 := 2#32
  let c0_i32_358 : BitVec 32 := 0#32
  let v664 : BitVec 1 := Scalar.cmpi .sgt c2_i32 c0_i32_358
  let v665 : BitVec 32 := Scalar.extui v664
  let c0_i32_359 : BitVec 32 := 0#32
  let v666 : BitVec 1 := Scalar.cmpi .slt c2_i32 c0_i32_359
  let v667 : BitVec 32 := Scalar.extui v666
  let v668 : BitVec 32 := Scalar.subi v665 v667
  let v669 : BitVec 1 := Scalar.cmpi .ne v663 v668
  let v670 : BitVec 32 := Scalar.remsi v0 c2_i32
  let c0_i32_360 : BitVec 32 := 0#32
  let v671 : BitVec 1 := Scalar.cmpi .ne v670 c0_i32_360
  let v672 : BitVec 1 := Scalar.andi v669 v671
  let v658 : BitVec 32 := Scalar.divsi v0 c2_i32
  let c1_i32_361 : BitVec 32 := 1#32
  let v673 : BitVec 32 := Scalar.subi v658 c1_i32_361
  let v674 : BitVec 32 := Scalar.select v672 v673 v658
  let v675 : BitVec 32 := Scalar.subi v674 c0_i32_362
  let c1_i32_363 : BitVec 32 := 1#32
  let v677 : BitVec 32 := Scalar.divsi v675 c1_i32_363
  let v678 : BitVec 32 := Scalar.muli v677 c1_i32_363
  let v679 : BitVec 32 := Scalar.addi c0_i32_362 v678
  let c1_i32_365 : BitVec 32 := 1#32
  let arg18 : BitVec 32 := Scf.iv v679 c1_i32_365 k0_t21
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v964 : Index := Scalar.indexCast v963
  let c0_509 : Index := 0#32
  ![v964.toNat, 0]
def k0_off294 (i : grid0.Coords) (k0_t21 : Fin (k0_t21_loop i).trips) (c0_i32_507 : BitVec 32) : Fin 3 → Nat :=
  let c0_510 : Index := 0#32
  let c0_i32_362 : BitVec 32 := 0#32
  let arg1 : BitVec 32 := BitVec.ofNat 32 (i 1).val
  let c1_i32 : BitVec 32 := 1#32
  let v0 : BitVec 32 := Scalar.addi arg1 c1_i32
  let c0_i32_356 : BitVec 32 := 0#32
  let v659 : BitVec 1 := Scalar.cmpi .sgt v0 c0_i32_356
  let v660 : BitVec 32 := Scalar.extui v659
  let c0_i32_357 : BitVec 32 := 0#32
  let v661 : BitVec 1 := Scalar.cmpi .slt v0 c0_i32_357
  let v662 : BitVec 32 := Scalar.extui v661
  let v663 : BitVec 32 := Scalar.subi v660 v662
  let c2_i32 : BitVec 32 := 2#32
  let c0_i32_358 : BitVec 32 := 0#32
  let v664 : BitVec 1 := Scalar.cmpi .sgt c2_i32 c0_i32_358
  let v665 : BitVec 32 := Scalar.extui v664
  let c0_i32_359 : BitVec 32 := 0#32
  let v666 : BitVec 1 := Scalar.cmpi .slt c2_i32 c0_i32_359
  let v667 : BitVec 32 := Scalar.extui v666
  let v668 : BitVec 32 := Scalar.subi v665 v667
  let v669 : BitVec 1 := Scalar.cmpi .ne v663 v668
  let v670 : BitVec 32 := Scalar.remsi v0 c2_i32
  let c0_i32_360 : BitVec 32 := 0#32
  let v671 : BitVec 1 := Scalar.cmpi .ne v670 c0_i32_360
  let v672 : BitVec 1 := Scalar.andi v669 v671
  let v658 : BitVec 32 := Scalar.divsi v0 c2_i32
  let c1_i32_361 : BitVec 32 := 1#32
  let v673 : BitVec 32 := Scalar.subi v658 c1_i32_361
  let v674 : BitVec 32 := Scalar.select v672 v673 v658
  let v675 : BitVec 32 := Scalar.subi v674 c0_i32_362
  let c1_i32_363 : BitVec 32 := 1#32
  let v677 : BitVec 32 := Scalar.divsi v675 c1_i32_363
  let v678 : BitVec 32 := Scalar.muli v677 c1_i32_363
  let v679 : BitVec 32 := Scalar.addi c0_i32_362 v678
  let c1_i32_365 : BitVec 32 := 1#32
  let arg18 : BitVec 32 := Scf.iv v679 c1_i32_365 k0_t21
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v967 : Index := Scalar.indexCast v963
  let c0_511 : Index := 0#32
  ![0, v967.toNat, 0]
def k0_mult41 (i : grid0.Coords) (k0_t21 : Fin (k0_t21_loop i).trips) : BitVec 32 :=
  let c0_i32_362 : BitVec 32 := 0#32
  let arg1 : BitVec 32 := BitVec.ofNat 32 (i 1).val
  let c1_i32 : BitVec 32 := 1#32
  let v0 : BitVec 32 := Scalar.addi arg1 c1_i32
  let c0_i32_356 : BitVec 32 := 0#32
  let v659 : BitVec 1 := Scalar.cmpi .sgt v0 c0_i32_356
  let v660 : BitVec 32 := Scalar.extui v659
  let c0_i32_357 : BitVec 32 := 0#32
  let v661 : BitVec 1 := Scalar.cmpi .slt v0 c0_i32_357
  let v662 : BitVec 32 := Scalar.extui v661
  let v663 : BitVec 32 := Scalar.subi v660 v662
  let c2_i32 : BitVec 32 := 2#32
  let c0_i32_358 : BitVec 32 := 0#32
  let v664 : BitVec 1 := Scalar.cmpi .sgt c2_i32 c0_i32_358
  let v665 : BitVec 32 := Scalar.extui v664
  let c0_i32_359 : BitVec 32 := 0#32
  let v666 : BitVec 1 := Scalar.cmpi .slt c2_i32 c0_i32_359
  let v667 : BitVec 32 := Scalar.extui v666
  let v668 : BitVec 32 := Scalar.subi v665 v667
  let v669 : BitVec 1 := Scalar.cmpi .ne v663 v668
  let v670 : BitVec 32 := Scalar.remsi v0 c2_i32
  let c0_i32_360 : BitVec 32 := 0#32
  let v671 : BitVec 1 := Scalar.cmpi .ne v670 c0_i32_360
  let v672 : BitVec 1 := Scalar.andi v669 v671
  let v658 : BitVec 32 := Scalar.divsi v0 c2_i32
  let c1_i32_361 : BitVec 32 := 1#32
  let v673 : BitVec 32 := Scalar.subi v658 c1_i32_361
  let v674 : BitVec 32 := Scalar.select v672 v673 v658
  let v675 : BitVec 32 := Scalar.subi v674 c0_i32_362
  let c1_i32_363 : BitVec 32 := 1#32
  let v677 : BitVec 32 := Scalar.divsi v675 c1_i32_363
  let v678 : BitVec 32 := Scalar.muli v677 c1_i32_363
  let v679 : BitVec 32 := Scalar.addi c0_i32_362 v678
  let c1_i32_365 : BitVec 32 := 1#32
  let arg18 : BitVec 32 := Scf.iv v679 c1_i32_365 k0_t21
  let c2_i32_518 : BitVec 32 := 2#32
  let v981 : BitVec 32 := Scalar.muli arg18 c2_i32_518
  let c1_i32_519 : BitVec 32 := 1#32
  let v982 : BitVec 32 := Scalar.addi v981 c1_i32_519
  let c512_i32_520 : BitVec 32 := 512#32
  let v983 : BitVec 32 := Scalar.muli v982 c512_i32_520
  v983
@[reducible] def k0_t22_loop (i : grid0.Coords) : Scf.Loop 32 :=
  let arg1 : BitVec 32 := BitVec.ofNat 32 (i 1).val
  let c1_i32 : BitVec 32 := 1#32
  let v0 : BitVec 32 := Scalar.addi arg1 c1_i32
  let c0_i32_356 : BitVec 32 := 0#32
  let v659 : BitVec 1 := Scalar.cmpi .sgt v0 c0_i32_356
  let v660 : BitVec 32 := Scalar.extui v659
  let c0_i32_357 : BitVec 32 := 0#32
  let v661 : BitVec 1 := Scalar.cmpi .slt v0 c0_i32_357
  let v662 : BitVec 32 := Scalar.extui v661
  let v663 : BitVec 32 := Scalar.subi v660 v662
  let c2_i32 : BitVec 32 := 2#32
  let c0_i32_358 : BitVec 32 := 0#32
  let v664 : BitVec 1 := Scalar.cmpi .sgt c2_i32 c0_i32_358
  let v665 : BitVec 32 := Scalar.extui v664
  let c0_i32_359 : BitVec 32 := 0#32
  let v666 : BitVec 1 := Scalar.cmpi .slt c2_i32 c0_i32_359
  let v667 : BitVec 32 := Scalar.extui v666
  let v668 : BitVec 32 := Scalar.subi v665 v667
  let v669 : BitVec 1 := Scalar.cmpi .ne v663 v668
  let v670 : BitVec 32 := Scalar.remsi v0 c2_i32
  let c0_i32_360 : BitVec 32 := 0#32
  let v671 : BitVec 1 := Scalar.cmpi .ne v670 c0_i32_360
  let v672 : BitVec 1 := Scalar.andi v669 v671
  let v658 : BitVec 32 := Scalar.divsi v0 c2_i32
  let c1_i32_361 : BitVec 32 := 1#32
  let v673 : BitVec 32 := Scalar.subi v658 c1_i32_361
  let v674 : BitVec 32 := Scalar.select v672 v673 v658
  let c2_i32_366 : BitVec 32 := 2#32
  let v682 : BitVec 32 := Scalar.muli v674 c2_i32_366
  let v683 : BitVec 32 := Scalar.subi v0 v682
  let c1_i32_367 : BitVec 32 := 1#32
  let v685 : BitVec 32 := Scalar.divsi v683 c1_i32_367
  let v686 : BitVec 32 := Scalar.muli v685 c1_i32_367
  let v687 : BitVec 32 := Scalar.addi v682 v686
  let c1_i32_368 : BitVec 32 := 1#32
  ⟨v682, v687, c1_i32_368⟩
def k0_mult42 (i : grid0.Coords) (k0_t22 : Fin (k0_t22_loop i).trips) : BitVec 32 :=
  let arg1 : BitVec 32 := BitVec.ofNat 32 (i 1).val
  let c1_i32 : BitVec 32 := 1#32
  let v0 : BitVec 32 := Scalar.addi arg1 c1_i32
  let c0_i32_356 : BitVec 32 := 0#32
  let v659 : BitVec 1 := Scalar.cmpi .sgt v0 c0_i32_356
  let v660 : BitVec 32 := Scalar.extui v659
  let c0_i32_357 : BitVec 32 := 0#32
  let v661 : BitVec 1 := Scalar.cmpi .slt v0 c0_i32_357
  let v662 : BitVec 32 := Scalar.extui v661
  let v663 : BitVec 32 := Scalar.subi v660 v662
  let c2_i32 : BitVec 32 := 2#32
  let c0_i32_358 : BitVec 32 := 0#32
  let v664 : BitVec 1 := Scalar.cmpi .sgt c2_i32 c0_i32_358
  let v665 : BitVec 32 := Scalar.extui v664
  let c0_i32_359 : BitVec 32 := 0#32
  let v666 : BitVec 1 := Scalar.cmpi .slt c2_i32 c0_i32_359
  let v667 : BitVec 32 := Scalar.extui v666
  let v668 : BitVec 32 := Scalar.subi v665 v667
  let v669 : BitVec 1 := Scalar.cmpi .ne v663 v668
  let v670 : BitVec 32 := Scalar.remsi v0 c2_i32
  let c0_i32_360 : BitVec 32 := 0#32
  let v671 : BitVec 1 := Scalar.cmpi .ne v670 c0_i32_360
  let v672 : BitVec 1 := Scalar.andi v669 v671
  let v658 : BitVec 32 := Scalar.divsi v0 c2_i32
  let c1_i32_361 : BitVec 32 := 1#32
  let v673 : BitVec 32 := Scalar.subi v658 c1_i32_361
  let v674 : BitVec 32 := Scalar.select v672 v673 v658
  let c2_i32_366 : BitVec 32 := 2#32
  let v682 : BitVec 32 := Scalar.muli v674 c2_i32_366
  let c1_i32_368 : BitVec 32 := 1#32
  let arg18 : BitVec 32 := Scf.iv v682 c1_i32_368 k0_t22
  let c512_i32_506 : BitVec 32 := 512#32
  let v960 : BitVec 32 := Scalar.muli arg18 c512_i32_506
  v960
def k0_off295 (i : grid0.Coords) (k0_t22 : Fin (k0_t22_loop i).trips) : Fin 2 → Nat :=
  let arg1 : BitVec 32 := BitVec.ofNat 32 (i 1).val
  let c1_i32 : BitVec 32 := 1#32
  let v0 : BitVec 32 := Scalar.addi arg1 c1_i32
  let c0_i32_356 : BitVec 32 := 0#32
  let v659 : BitVec 1 := Scalar.cmpi .sgt v0 c0_i32_356
  let v660 : BitVec 32 := Scalar.extui v659
  let c0_i32_357 : BitVec 32 := 0#32
  let v661 : BitVec 1 := Scalar.cmpi .slt v0 c0_i32_357
  let v662 : BitVec 32 := Scalar.extui v661
  let v663 : BitVec 32 := Scalar.subi v660 v662
  let c2_i32 : BitVec 32 := 2#32
  let c0_i32_358 : BitVec 32 := 0#32
  let v664 : BitVec 1 := Scalar.cmpi .sgt c2_i32 c0_i32_358
  let v665 : BitVec 32 := Scalar.extui v664
  let c0_i32_359 : BitVec 32 := 0#32
  let v666 : BitVec 1 := Scalar.cmpi .slt c2_i32 c0_i32_359
  let v667 : BitVec 32 := Scalar.extui v666
  let v668 : BitVec 32 := Scalar.subi v665 v667
  let v669 : BitVec 1 := Scalar.cmpi .ne v663 v668
  let v670 : BitVec 32 := Scalar.remsi v0 c2_i32
  let c0_i32_360 : BitVec 32 := 0#32
  let v671 : BitVec 1 := Scalar.cmpi .ne v670 c0_i32_360
  let v672 : BitVec 1 := Scalar.andi v669 v671
  let v658 : BitVec 32 := Scalar.divsi v0 c2_i32
  let c1_i32_361 : BitVec 32 := 1#32
  let v673 : BitVec 32 := Scalar.subi v658 c1_i32_361
  let v674 : BitVec 32 := Scalar.select v672 v673 v658
  let c2_i32_366 : BitVec 32 := 2#32
  let v682 : BitVec 32 := Scalar.muli v674 c2_i32_366
  let c1_i32_368 : BitVec 32 := 1#32
  let arg18 : BitVec 32 := Scf.iv v682 c1_i32_368 k0_t22
  let c512_i32_506 : BitVec 32 := 512#32
  let v960 : BitVec 32 := Scalar.muli arg18 c512_i32_506
  let v961 : BitVec 32 := v960
  let v962 : Index := Scalar.indexCast v961
  let c0_507 : Index := 0#32
  ![v962.toNat, 0]
def k0_off296 (i : grid0.Coords) (k0_t22 : Fin (k0_t22_loop i).trips) : Fin 3 → Nat :=
  let c0_508 : Index := 0#32
  let arg1 : BitVec 32 := BitVec.ofNat 32 (i 1).val
  let c1_i32 : BitVec 32 := 1#32
  let v0 : BitVec 32 := Scalar.addi arg1 c1_i32
  let c0_i32_356 : BitVec 32 := 0#32
  let v659 : BitVec 1 := Scalar.cmpi .sgt v0 c0_i32_356
  let v660 : BitVec 32 := Scalar.extui v659
  let c0_i32_357 : BitVec 32 := 0#32
  let v661 : BitVec 1 := Scalar.cmpi .slt v0 c0_i32_357
  let v662 : BitVec 32 := Scalar.extui v661
  let v663 : BitVec 32 := Scalar.subi v660 v662
  let c2_i32 : BitVec 32 := 2#32
  let c0_i32_358 : BitVec 32 := 0#32
  let v664 : BitVec 1 := Scalar.cmpi .sgt c2_i32 c0_i32_358
  let v665 : BitVec 32 := Scalar.extui v664
  let c0_i32_359 : BitVec 32 := 0#32
  let v666 : BitVec 1 := Scalar.cmpi .slt c2_i32 c0_i32_359
  let v667 : BitVec 32 := Scalar.extui v666
  let v668 : BitVec 32 := Scalar.subi v665 v667
  let v669 : BitVec 1 := Scalar.cmpi .ne v663 v668
  let v670 : BitVec 32 := Scalar.remsi v0 c2_i32
  let c0_i32_360 : BitVec 32 := 0#32
  let v671 : BitVec 1 := Scalar.cmpi .ne v670 c0_i32_360
  let v672 : BitVec 1 := Scalar.andi v669 v671
  let v658 : BitVec 32 := Scalar.divsi v0 c2_i32
  let c1_i32_361 : BitVec 32 := 1#32
  let v673 : BitVec 32 := Scalar.subi v658 c1_i32_361
  let v674 : BitVec 32 := Scalar.select v672 v673 v658
  let c2_i32_366 : BitVec 32 := 2#32
  let v682 : BitVec 32 := Scalar.muli v674 c2_i32_366
  let c1_i32_368 : BitVec 32 := 1#32
  let arg18 : BitVec 32 := Scf.iv v682 c1_i32_368 k0_t22
  let c512_i32_506 : BitVec 32 := 512#32
  let v960 : BitVec 32 := Scalar.muli arg18 c512_i32_506
  let v961 : BitVec 32 := v960
  let v965 : Index := Scalar.indexCast v961
  let c0_509 : Index := 0#32
  ![0, v965.toNat, 0]
@[reducible] def k0_t23_loop (i : grid0.Coords) : Scf.Loop 32 :=
  let arg1 : BitVec 32 := BitVec.ofNat 32 (i 1).val
  let c1_i32 : BitVec 32 := 1#32
  let v0 : BitVec 32 := Scalar.addi arg1 c1_i32
  let c0_i32_356 : BitVec 32 := 0#32
  let v659 : BitVec 1 := Scalar.cmpi .sgt v0 c0_i32_356
  let v660 : BitVec 32 := Scalar.extui v659
  let c0_i32_357 : BitVec 32 := 0#32
  let v661 : BitVec 1 := Scalar.cmpi .slt v0 c0_i32_357
  let v662 : BitVec 32 := Scalar.extui v661
  let v663 : BitVec 32 := Scalar.subi v660 v662
  let c2_i32 : BitVec 32 := 2#32
  let c0_i32_358 : BitVec 32 := 0#32
  let v664 : BitVec 1 := Scalar.cmpi .sgt c2_i32 c0_i32_358
  let v665 : BitVec 32 := Scalar.extui v664
  let c0_i32_359 : BitVec 32 := 0#32
  let v666 : BitVec 1 := Scalar.cmpi .slt c2_i32 c0_i32_359
  let v667 : BitVec 32 := Scalar.extui v666
  let v668 : BitVec 32 := Scalar.subi v665 v667
  let v669 : BitVec 1 := Scalar.cmpi .ne v663 v668
  let v670 : BitVec 32 := Scalar.remsi v0 c2_i32
  let c0_i32_360 : BitVec 32 := 0#32
  let v671 : BitVec 1 := Scalar.cmpi .ne v670 c0_i32_360
  let v672 : BitVec 1 := Scalar.andi v669 v671
  let v658 : BitVec 32 := Scalar.divsi v0 c2_i32
  let c1_i32_361 : BitVec 32 := 1#32
  let v673 : BitVec 32 := Scalar.subi v658 c1_i32_361
  let v674 : BitVec 32 := Scalar.select v672 v673 v658
  let c2_i32_366 : BitVec 32 := 2#32
  let v682 : BitVec 32 := Scalar.muli v674 c2_i32_366
  let v683 : BitVec 32 := Scalar.subi v0 v682
  let c1_i32_367 : BitVec 32 := 1#32
  let v685 : BitVec 32 := Scalar.divsi v683 c1_i32_367
  let v686 : BitVec 32 := Scalar.muli v685 c1_i32_367
  let v687 : BitVec 32 := Scalar.addi v682 v686
  let v684 : BitVec 32 := Scalar.addi v682 v683
  let c1_i32_369 : BitVec 32 := 1#32
  ⟨v687, v684, c1_i32_369⟩
def k0_mult43 (i : grid0.Coords) (k0_t23 : Fin (k0_t23_loop i).trips) : BitVec 32 :=
  let arg1 : BitVec 32 := BitVec.ofNat 32 (i 1).val
  let c1_i32 : BitVec 32 := 1#32
  let v0 : BitVec 32 := Scalar.addi arg1 c1_i32
  let c0_i32_356 : BitVec 32 := 0#32
  let v659 : BitVec 1 := Scalar.cmpi .sgt v0 c0_i32_356
  let v660 : BitVec 32 := Scalar.extui v659
  let c0_i32_357 : BitVec 32 := 0#32
  let v661 : BitVec 1 := Scalar.cmpi .slt v0 c0_i32_357
  let v662 : BitVec 32 := Scalar.extui v661
  let v663 : BitVec 32 := Scalar.subi v660 v662
  let c2_i32 : BitVec 32 := 2#32
  let c0_i32_358 : BitVec 32 := 0#32
  let v664 : BitVec 1 := Scalar.cmpi .sgt c2_i32 c0_i32_358
  let v665 : BitVec 32 := Scalar.extui v664
  let c0_i32_359 : BitVec 32 := 0#32
  let v666 : BitVec 1 := Scalar.cmpi .slt c2_i32 c0_i32_359
  let v667 : BitVec 32 := Scalar.extui v666
  let v668 : BitVec 32 := Scalar.subi v665 v667
  let v669 : BitVec 1 := Scalar.cmpi .ne v663 v668
  let v670 : BitVec 32 := Scalar.remsi v0 c2_i32
  let c0_i32_360 : BitVec 32 := 0#32
  let v671 : BitVec 1 := Scalar.cmpi .ne v670 c0_i32_360
  let v672 : BitVec 1 := Scalar.andi v669 v671
  let v658 : BitVec 32 := Scalar.divsi v0 c2_i32
  let c1_i32_361 : BitVec 32 := 1#32
  let v673 : BitVec 32 := Scalar.subi v658 c1_i32_361
  let v674 : BitVec 32 := Scalar.select v672 v673 v658
  let c2_i32_366 : BitVec 32 := 2#32
  let v682 : BitVec 32 := Scalar.muli v674 c2_i32_366
  let v683 : BitVec 32 := Scalar.subi v0 v682
  let c1_i32_367 : BitVec 32 := 1#32
  let v685 : BitVec 32 := Scalar.divsi v683 c1_i32_367
  let v686 : BitVec 32 := Scalar.muli v685 c1_i32_367
  let v687 : BitVec 32 := Scalar.addi v682 v686
  let c1_i32_369 : BitVec 32 := 1#32
  let arg18 : BitVec 32 := Scf.iv v687 c1_i32_369 k0_t23
  let c512_i32_506 : BitVec 32 := 512#32
  let v960 : BitVec 32 := Scalar.muli arg18 c512_i32_506
  v960
def k0_off297 (i : grid0.Coords) (k0_t23 : Fin (k0_t23_loop i).trips) : Fin 2 → Nat :=
  let arg1 : BitVec 32 := BitVec.ofNat 32 (i 1).val
  let c1_i32 : BitVec 32 := 1#32
  let v0 : BitVec 32 := Scalar.addi arg1 c1_i32
  let c0_i32_356 : BitVec 32 := 0#32
  let v659 : BitVec 1 := Scalar.cmpi .sgt v0 c0_i32_356
  let v660 : BitVec 32 := Scalar.extui v659
  let c0_i32_357 : BitVec 32 := 0#32
  let v661 : BitVec 1 := Scalar.cmpi .slt v0 c0_i32_357
  let v662 : BitVec 32 := Scalar.extui v661
  let v663 : BitVec 32 := Scalar.subi v660 v662
  let c2_i32 : BitVec 32 := 2#32
  let c0_i32_358 : BitVec 32 := 0#32
  let v664 : BitVec 1 := Scalar.cmpi .sgt c2_i32 c0_i32_358
  let v665 : BitVec 32 := Scalar.extui v664
  let c0_i32_359 : BitVec 32 := 0#32
  let v666 : BitVec 1 := Scalar.cmpi .slt c2_i32 c0_i32_359
  let v667 : BitVec 32 := Scalar.extui v666
  let v668 : BitVec 32 := Scalar.subi v665 v667
  let v669 : BitVec 1 := Scalar.cmpi .ne v663 v668
  let v670 : BitVec 32 := Scalar.remsi v0 c2_i32
  let c0_i32_360 : BitVec 32 := 0#32
  let v671 : BitVec 1 := Scalar.cmpi .ne v670 c0_i32_360
  let v672 : BitVec 1 := Scalar.andi v669 v671
  let v658 : BitVec 32 := Scalar.divsi v0 c2_i32
  let c1_i32_361 : BitVec 32 := 1#32
  let v673 : BitVec 32 := Scalar.subi v658 c1_i32_361
  let v674 : BitVec 32 := Scalar.select v672 v673 v658
  let c2_i32_366 : BitVec 32 := 2#32
  let v682 : BitVec 32 := Scalar.muli v674 c2_i32_366
  let v683 : BitVec 32 := Scalar.subi v0 v682
  let c1_i32_367 : BitVec 32 := 1#32
  let v685 : BitVec 32 := Scalar.divsi v683 c1_i32_367
  let v686 : BitVec 32 := Scalar.muli v685 c1_i32_367
  let v687 : BitVec 32 := Scalar.addi v682 v686
  let c1_i32_369 : BitVec 32 := 1#32
  let arg18 : BitVec 32 := Scf.iv v687 c1_i32_369 k0_t23
  let c512_i32_506 : BitVec 32 := 512#32
  let v960 : BitVec 32 := Scalar.muli arg18 c512_i32_506
  let v961 : BitVec 32 := v960
  let v962 : Index := Scalar.indexCast v961
  let c0_507 : Index := 0#32
  ![v962.toNat, 0]
def k0_off298 (i : grid0.Coords) (k0_t23 : Fin (k0_t23_loop i).trips) : Fin 3 → Nat :=
  let c0_508 : Index := 0#32
  let arg1 : BitVec 32 := BitVec.ofNat 32 (i 1).val
  let c1_i32 : BitVec 32 := 1#32
  let v0 : BitVec 32 := Scalar.addi arg1 c1_i32
  let c0_i32_356 : BitVec 32 := 0#32
  let v659 : BitVec 1 := Scalar.cmpi .sgt v0 c0_i32_356
  let v660 : BitVec 32 := Scalar.extui v659
  let c0_i32_357 : BitVec 32 := 0#32
  let v661 : BitVec 1 := Scalar.cmpi .slt v0 c0_i32_357
  let v662 : BitVec 32 := Scalar.extui v661
  let v663 : BitVec 32 := Scalar.subi v660 v662
  let c2_i32 : BitVec 32 := 2#32
  let c0_i32_358 : BitVec 32 := 0#32
  let v664 : BitVec 1 := Scalar.cmpi .sgt c2_i32 c0_i32_358
  let v665 : BitVec 32 := Scalar.extui v664
  let c0_i32_359 : BitVec 32 := 0#32
  let v666 : BitVec 1 := Scalar.cmpi .slt c2_i32 c0_i32_359
  let v667 : BitVec 32 := Scalar.extui v666
  let v668 : BitVec 32 := Scalar.subi v665 v667
  let v669 : BitVec 1 := Scalar.cmpi .ne v663 v668
  let v670 : BitVec 32 := Scalar.remsi v0 c2_i32
  let c0_i32_360 : BitVec 32 := 0#32
  let v671 : BitVec 1 := Scalar.cmpi .ne v670 c0_i32_360
  let v672 : BitVec 1 := Scalar.andi v669 v671
  let v658 : BitVec 32 := Scalar.divsi v0 c2_i32
  let c1_i32_361 : BitVec 32 := 1#32
  let v673 : BitVec 32 := Scalar.subi v658 c1_i32_361
  let v674 : BitVec 32 := Scalar.select v672 v673 v658
  let c2_i32_366 : BitVec 32 := 2#32
  let v682 : BitVec 32 := Scalar.muli v674 c2_i32_366
  let v683 : BitVec 32 := Scalar.subi v0 v682
  let c1_i32_367 : BitVec 32 := 1#32
  let v685 : BitVec 32 := Scalar.divsi v683 c1_i32_367
  let v686 : BitVec 32 := Scalar.muli v685 c1_i32_367
  let v687 : BitVec 32 := Scalar.addi v682 v686
  let c1_i32_369 : BitVec 32 := 1#32
  let arg18 : BitVec 32 := Scf.iv v687 c1_i32_369 k0_t23
  let c512_i32_506 : BitVec 32 := 512#32
  let v960 : BitVec 32 := Scalar.muli arg18 c512_i32_506
  let v961 : BitVec 32 := v960
  let v965 : Index := Scalar.indexCast v961
  let c0_509 : Index := 0#32
  ![0, v965.toNat, 0]
@[reducible] def k0_t24_loop (i : grid0.Coords) : Scf.Loop 32 :=
  let c0_i32_381 : BitVec 32 := 0#32
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let v712 : BitVec 32 := Scalar.subi v711 c0_i32_381
  let c1_i32_382 : BitVec 32 := 1#32
  let v714 : BitVec 32 := Scalar.divsi v712 c1_i32_382
  let v715 : BitVec 32 := Scalar.muli v714 c1_i32_382
  let v716 : BitVec 32 := Scalar.addi c0_i32_381 v715
  let c1_i32_383 : BitVec 32 := 1#32
  ⟨c0_i32_381, v716, c1_i32_383⟩
def k0_mult44 (i : grid0.Coords) (k0_t24 : Fin (k0_t24_loop i).trips) : BitVec 32 :=
  let c0_i32_381 : BitVec 32 := 0#32
  let c1_i32_383 : BitVec 32 := 1#32
  let arg18 : BitVec 32 := Scf.iv c0_i32_381 c1_i32_383 k0_t24
  let c2_i32_506 : BitVec 32 := 2#32
  let v960 : BitVec 32 := Scalar.muli arg18 c2_i32_506
  let c0_i32_507 : BitVec 32 := 0#32
  let v961 : BitVec 32 := Scalar.addi v960 c0_i32_507
  let c512_i32_508 : BitVec 32 := 512#32
  let v962 : BitVec 32 := Scalar.muli v961 c512_i32_508
  v962
def k0_off299 (i : grid0.Coords) (k0_t24 : Fin (k0_t24_loop i).trips) (c0_i32_507 : BitVec 32) : Fin 2 → Nat :=
  let c0_i32_381 : BitVec 32 := 0#32
  let c1_i32_383 : BitVec 32 := 1#32
  let arg18 : BitVec 32 := Scf.iv c0_i32_381 c1_i32_383 k0_t24
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v964 : Index := Scalar.indexCast v963
  let c0_509 : Index := 0#32
  ![v964.toNat, 0]
def k0_off300 (i : grid0.Coords) (k0_t24 : Fin (k0_t24_loop i).trips) (c0_i32_507 : BitVec 32) : Fin 3 → Nat :=
  let c0_510 : Index := 0#32
  let c0_i32_381 : BitVec 32 := 0#32
  let c1_i32_383 : BitVec 32 := 1#32
  let arg18 : BitVec 32 := Scf.iv c0_i32_381 c1_i32_383 k0_t24
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v967 : Index := Scalar.indexCast v963
  let c0_511 : Index := 0#32
  ![0, v967.toNat, 0]
def k0_off301 (i : grid0.Coords) (k0_t24 : Fin (k0_t24_loop i).trips) (c0_i32_507 : BitVec 32) : Fin 3 → Nat :=
  let c0_520 : Index := 0#32
  let c0_521 : Index := 0#32
  let c0_i32_381 : BitVec 32 := 0#32
  let c1_i32_383 : BitVec 32 := 1#32
  let arg18 : BitVec 32 := Scf.iv c0_i32_381 c1_i32_383 k0_t24
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v989 : Index := Scalar.indexCast v963
  ![0, 0, v989.toNat]
def k0_mult45 (i : grid0.Coords) (k0_t24 : Fin (k0_t24_loop i).trips) : BitVec 32 :=
  let c0_i32_381 : BitVec 32 := 0#32
  let c1_i32_383 : BitVec 32 := 1#32
  let arg18 : BitVec 32 := Scf.iv c0_i32_381 c1_i32_383 k0_t24
  let c2_i32_523 : BitVec 32 := 2#32
  let v995 : BitVec 32 := Scalar.muli arg18 c2_i32_523
  let c1_i32_524 : BitVec 32 := 1#32
  let v996 : BitVec 32 := Scalar.addi v995 c1_i32_524
  let c512_i32_525 : BitVec 32 := 512#32
  let v997 : BitVec 32 := Scalar.muli v996 c512_i32_525
  v997
@[reducible] def k0_t25_loop (i : grid0.Coords) : Scf.Loop 32 :=
  let c0_i32_381 : BitVec 32 := 0#32
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let v712 : BitVec 32 := Scalar.subi v711 c0_i32_381
  let c1_i32_382 : BitVec 32 := 1#32
  let v714 : BitVec 32 := Scalar.divsi v712 c1_i32_382
  let v715 : BitVec 32 := Scalar.muli v714 c1_i32_382
  let v716 : BitVec 32 := Scalar.addi c0_i32_381 v715
  let v713 : BitVec 32 := Scalar.addi c0_i32_381 v712
  let c1_i32_384 : BitVec 32 := 1#32
  ⟨v716, v713, c1_i32_384⟩
def k0_mult46 (i : grid0.Coords) (k0_t25 : Fin (k0_t25_loop i).trips) : BitVec 32 :=
  let c0_i32_381 : BitVec 32 := 0#32
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let v712 : BitVec 32 := Scalar.subi v711 c0_i32_381
  let c1_i32_382 : BitVec 32 := 1#32
  let v714 : BitVec 32 := Scalar.divsi v712 c1_i32_382
  let v715 : BitVec 32 := Scalar.muli v714 c1_i32_382
  let v716 : BitVec 32 := Scalar.addi c0_i32_381 v715
  let c1_i32_384 : BitVec 32 := 1#32
  let arg18 : BitVec 32 := Scf.iv v716 c1_i32_384 k0_t25
  let c2_i32_506 : BitVec 32 := 2#32
  let v960 : BitVec 32 := Scalar.muli arg18 c2_i32_506
  let c0_i32_507 : BitVec 32 := 0#32
  let v961 : BitVec 32 := Scalar.addi v960 c0_i32_507
  let c512_i32_508 : BitVec 32 := 512#32
  let v962 : BitVec 32 := Scalar.muli v961 c512_i32_508
  v962
def k0_off302 (i : grid0.Coords) (k0_t25 : Fin (k0_t25_loop i).trips) (c0_i32_507 : BitVec 32) : Fin 2 → Nat :=
  let c0_i32_381 : BitVec 32 := 0#32
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let v712 : BitVec 32 := Scalar.subi v711 c0_i32_381
  let c1_i32_382 : BitVec 32 := 1#32
  let v714 : BitVec 32 := Scalar.divsi v712 c1_i32_382
  let v715 : BitVec 32 := Scalar.muli v714 c1_i32_382
  let v716 : BitVec 32 := Scalar.addi c0_i32_381 v715
  let c1_i32_384 : BitVec 32 := 1#32
  let arg18 : BitVec 32 := Scf.iv v716 c1_i32_384 k0_t25
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v964 : Index := Scalar.indexCast v963
  let c0_509 : Index := 0#32
  ![v964.toNat, 0]
def k0_off303 (i : grid0.Coords) (k0_t25 : Fin (k0_t25_loop i).trips) (c0_i32_507 : BitVec 32) : Fin 3 → Nat :=
  let c0_510 : Index := 0#32
  let c0_i32_381 : BitVec 32 := 0#32
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let v712 : BitVec 32 := Scalar.subi v711 c0_i32_381
  let c1_i32_382 : BitVec 32 := 1#32
  let v714 : BitVec 32 := Scalar.divsi v712 c1_i32_382
  let v715 : BitVec 32 := Scalar.muli v714 c1_i32_382
  let v716 : BitVec 32 := Scalar.addi c0_i32_381 v715
  let c1_i32_384 : BitVec 32 := 1#32
  let arg18 : BitVec 32 := Scf.iv v716 c1_i32_384 k0_t25
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v967 : Index := Scalar.indexCast v963
  let c0_511 : Index := 0#32
  ![0, v967.toNat, 0]
def k0_off304 (i : grid0.Coords) (k0_t25 : Fin (k0_t25_loop i).trips) (c0_i32_507 : BitVec 32) : Fin 3 → Nat :=
  let c0_520 : Index := 0#32
  let c0_521 : Index := 0#32
  let c0_i32_381 : BitVec 32 := 0#32
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let v712 : BitVec 32 := Scalar.subi v711 c0_i32_381
  let c1_i32_382 : BitVec 32 := 1#32
  let v714 : BitVec 32 := Scalar.divsi v712 c1_i32_382
  let v715 : BitVec 32 := Scalar.muli v714 c1_i32_382
  let v716 : BitVec 32 := Scalar.addi c0_i32_381 v715
  let c1_i32_384 : BitVec 32 := 1#32
  let arg18 : BitVec 32 := Scf.iv v716 c1_i32_384 k0_t25
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v989 : Index := Scalar.indexCast v963
  ![0, 0, v989.toNat]
def k0_mult47 (i : grid0.Coords) (k0_t25 : Fin (k0_t25_loop i).trips) : BitVec 32 :=
  let c0_i32_381 : BitVec 32 := 0#32
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let v712 : BitVec 32 := Scalar.subi v711 c0_i32_381
  let c1_i32_382 : BitVec 32 := 1#32
  let v714 : BitVec 32 := Scalar.divsi v712 c1_i32_382
  let v715 : BitVec 32 := Scalar.muli v714 c1_i32_382
  let v716 : BitVec 32 := Scalar.addi c0_i32_381 v715
  let c1_i32_384 : BitVec 32 := 1#32
  let arg18 : BitVec 32 := Scf.iv v716 c1_i32_384 k0_t25
  let c2_i32_523 : BitVec 32 := 2#32
  let v995 : BitVec 32 := Scalar.muli arg18 c2_i32_523
  let c1_i32_524 : BitVec 32 := 1#32
  let v996 : BitVec 32 := Scalar.addi v995 c1_i32_524
  let c512_i32_525 : BitVec 32 := 512#32
  let v997 : BitVec 32 := Scalar.muli v996 c512_i32_525
  v997
@[reducible] def k0_t26_loop (i : grid0.Coords) : Scf.Loop 32 :=
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let c2_i32_385 : BitVec 32 := 2#32
  let v719 : BitVec 32 := Scalar.muli v711 c2_i32_385
  let v720 : BitVec 32 := Scalar.subi v0 v719
  let c1_i32_386 : BitVec 32 := 1#32
  let v722 : BitVec 32 := Scalar.divsi v720 c1_i32_386
  let v723 : BitVec 32 := Scalar.muli v722 c1_i32_386
  let v724 : BitVec 32 := Scalar.addi v719 v723
  let c1_i32_387 : BitVec 32 := 1#32
  ⟨v719, v724, c1_i32_387⟩
def k0_mult48 (i : grid0.Coords) (k0_t26 : Fin (k0_t26_loop i).trips) : BitVec 32 :=
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let c2_i32_385 : BitVec 32 := 2#32
  let v719 : BitVec 32 := Scalar.muli v711 c2_i32_385
  let c1_i32_387 : BitVec 32 := 1#32
  let arg18 : BitVec 32 := Scf.iv v719 c1_i32_387 k0_t26
  let c512_i32_506 : BitVec 32 := 512#32
  let v960 : BitVec 32 := Scalar.muli arg18 c512_i32_506
  v960
def k0_off305 (i : grid0.Coords) (k0_t26 : Fin (k0_t26_loop i).trips) : Fin 2 → Nat :=
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let c2_i32_385 : BitVec 32 := 2#32
  let v719 : BitVec 32 := Scalar.muli v711 c2_i32_385
  let c1_i32_387 : BitVec 32 := 1#32
  let arg18 : BitVec 32 := Scf.iv v719 c1_i32_387 k0_t26
  let c512_i32_506 : BitVec 32 := 512#32
  let v960 : BitVec 32 := Scalar.muli arg18 c512_i32_506
  let v961 : BitVec 32 := v960
  let v962 : Index := Scalar.indexCast v961
  let c0_507 : Index := 0#32
  ![v962.toNat, 0]
def k0_off306 (i : grid0.Coords) (k0_t26 : Fin (k0_t26_loop i).trips) : Fin 3 → Nat :=
  let c0_508 : Index := 0#32
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let c2_i32_385 : BitVec 32 := 2#32
  let v719 : BitVec 32 := Scalar.muli v711 c2_i32_385
  let c1_i32_387 : BitVec 32 := 1#32
  let arg18 : BitVec 32 := Scf.iv v719 c1_i32_387 k0_t26
  let c512_i32_506 : BitVec 32 := 512#32
  let v960 : BitVec 32 := Scalar.muli arg18 c512_i32_506
  let v961 : BitVec 32 := v960
  let v965 : Index := Scalar.indexCast v961
  let c0_509 : Index := 0#32
  ![0, v965.toNat, 0]
def k0_off307 (i : grid0.Coords) (k0_t26 : Fin (k0_t26_loop i).trips) : Fin 3 → Nat :=
  let c0_518 : Index := 0#32
  let c0_519 : Index := 0#32
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let c2_i32_385 : BitVec 32 := 2#32
  let v719 : BitVec 32 := Scalar.muli v711 c2_i32_385
  let c1_i32_387 : BitVec 32 := 1#32
  let arg18 : BitVec 32 := Scf.iv v719 c1_i32_387 k0_t26
  let c512_i32_506 : BitVec 32 := 512#32
  let v960 : BitVec 32 := Scalar.muli arg18 c512_i32_506
  let v961 : BitVec 32 := v960
  let v987 : Index := Scalar.indexCast v961
  ![0, 0, v987.toNat]
@[reducible] def k0_t27_loop (i : grid0.Coords) : Scf.Loop 32 :=
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let c2_i32_385 : BitVec 32 := 2#32
  let v719 : BitVec 32 := Scalar.muli v711 c2_i32_385
  let v720 : BitVec 32 := Scalar.subi v0 v719
  let c1_i32_386 : BitVec 32 := 1#32
  let v722 : BitVec 32 := Scalar.divsi v720 c1_i32_386
  let v723 : BitVec 32 := Scalar.muli v722 c1_i32_386
  let v724 : BitVec 32 := Scalar.addi v719 v723
  let v721 : BitVec 32 := Scalar.addi v719 v720
  let c1_i32_388 : BitVec 32 := 1#32
  ⟨v724, v721, c1_i32_388⟩
def k0_mult49 (i : grid0.Coords) (k0_t27 : Fin (k0_t27_loop i).trips) : BitVec 32 :=
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let c2_i32_385 : BitVec 32 := 2#32
  let v719 : BitVec 32 := Scalar.muli v711 c2_i32_385
  let v720 : BitVec 32 := Scalar.subi v0 v719
  let c1_i32_386 : BitVec 32 := 1#32
  let v722 : BitVec 32 := Scalar.divsi v720 c1_i32_386
  let v723 : BitVec 32 := Scalar.muli v722 c1_i32_386
  let v724 : BitVec 32 := Scalar.addi v719 v723
  let c1_i32_388 : BitVec 32 := 1#32
  let arg18 : BitVec 32 := Scf.iv v724 c1_i32_388 k0_t27
  let c512_i32_506 : BitVec 32 := 512#32
  let v960 : BitVec 32 := Scalar.muli arg18 c512_i32_506
  v960
def k0_off308 (i : grid0.Coords) (k0_t27 : Fin (k0_t27_loop i).trips) : Fin 2 → Nat :=
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let c2_i32_385 : BitVec 32 := 2#32
  let v719 : BitVec 32 := Scalar.muli v711 c2_i32_385
  let v720 : BitVec 32 := Scalar.subi v0 v719
  let c1_i32_386 : BitVec 32 := 1#32
  let v722 : BitVec 32 := Scalar.divsi v720 c1_i32_386
  let v723 : BitVec 32 := Scalar.muli v722 c1_i32_386
  let v724 : BitVec 32 := Scalar.addi v719 v723
  let c1_i32_388 : BitVec 32 := 1#32
  let arg18 : BitVec 32 := Scf.iv v724 c1_i32_388 k0_t27
  let c512_i32_506 : BitVec 32 := 512#32
  let v960 : BitVec 32 := Scalar.muli arg18 c512_i32_506
  let v961 : BitVec 32 := v960
  let v962 : Index := Scalar.indexCast v961
  let c0_507 : Index := 0#32
  ![v962.toNat, 0]
def k0_off309 (i : grid0.Coords) (k0_t27 : Fin (k0_t27_loop i).trips) : Fin 3 → Nat :=
  let c0_508 : Index := 0#32
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let c2_i32_385 : BitVec 32 := 2#32
  let v719 : BitVec 32 := Scalar.muli v711 c2_i32_385
  let v720 : BitVec 32 := Scalar.subi v0 v719
  let c1_i32_386 : BitVec 32 := 1#32
  let v722 : BitVec 32 := Scalar.divsi v720 c1_i32_386
  let v723 : BitVec 32 := Scalar.muli v722 c1_i32_386
  let v724 : BitVec 32 := Scalar.addi v719 v723
  let c1_i32_388 : BitVec 32 := 1#32
  let arg18 : BitVec 32 := Scf.iv v724 c1_i32_388 k0_t27
  let c512_i32_506 : BitVec 32 := 512#32
  let v960 : BitVec 32 := Scalar.muli arg18 c512_i32_506
  let v961 : BitVec 32 := v960
  let v965 : Index := Scalar.indexCast v961
  let c0_509 : Index := 0#32
  ![0, v965.toNat, 0]
def k0_off310 (i : grid0.Coords) (k0_t27 : Fin (k0_t27_loop i).trips) : Fin 3 → Nat :=
  let c0_518 : Index := 0#32
  let c0_519 : Index := 0#32
  let arg1 : BitVec 32 := BitVec.ofNat 32 (i 1).val
  let c1_i32 : BitVec 32 := 1#32
  let v0 : BitVec 32 := Scalar.addi arg1 c1_i32
  let c0_i32_375 : BitVec 32 := 0#32
  let v696 : BitVec 1 := Scalar.cmpi .sgt v0 c0_i32_375
  let v697 : BitVec 32 := Scalar.extui v696
  let c0_i32_376 : BitVec 32 := 0#32
  let v698 : BitVec 1 := Scalar.cmpi .slt v0 c0_i32_376
  let v699 : BitVec 32 := Scalar.extui v698
  let v700 : BitVec 32 := Scalar.subi v697 v699
  let c2_i32_374 : BitVec 32 := 2#32
  let c0_i32_377 : BitVec 32 := 0#32
  let v701 : BitVec 1 := Scalar.cmpi .sgt c2_i32_374 c0_i32_377
  let v702 : BitVec 32 := Scalar.extui v701
  let c0_i32_378 : BitVec 32 := 0#32
  let v703 : BitVec 1 := Scalar.cmpi .slt c2_i32_374 c0_i32_378
  let v704 : BitVec 32 := Scalar.extui v703
  let v705 : BitVec 32 := Scalar.subi v702 v704
  let v706 : BitVec 1 := Scalar.cmpi .ne v700 v705
  let v707 : BitVec 32 := Scalar.remsi v0 c2_i32_374
  let c0_i32_379 : BitVec 32 := 0#32
  let v708 : BitVec 1 := Scalar.cmpi .ne v707 c0_i32_379
  let v709 : BitVec 1 := Scalar.andi v706 v708
  let v695 : BitVec 32 := Scalar.divsi v0 c2_i32_374
  let c1_i32_380 : BitVec 32 := 1#32
  let v710 : BitVec 32 := Scalar.subi v695 c1_i32_380
  let v711 : BitVec 32 := Scalar.select v709 v710 v695
  let c2_i32_385 : BitVec 32 := 2#32
  let v719 : BitVec 32 := Scalar.muli v711 c2_i32_385
  let v720 : BitVec 32 := Scalar.subi v0 v719
  let c1_i32_386 : BitVec 32 := 1#32
  let v722 : BitVec 32 := Scalar.divsi v720 c1_i32_386
  let v723 : BitVec 32 := Scalar.muli v722 c1_i32_386
  let v724 : BitVec 32 := Scalar.addi v719 v723
  let c1_i32_388 : BitVec 32 := 1#32
  let arg18 : BitVec 32 := Scf.iv v724 c1_i32_388 k0_t27
  let c512_i32_506 : BitVec 32 := 512#32
  let v960 : BitVec 32 := Scalar.muli arg18 c512_i32_506
  let v961 : BitVec 32 := v960
  let v987 : Index := Scalar.indexCast v961
  ![0, 0, v987.toNat]
@[reducible] def k0_t28_loop (i : grid0.Coords) : Scf.Loop 32 :=
  let c0_i32_403 : BitVec 32 := 0#32
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let v756 : BitVec 32 := Scalar.subi v755 c0_i32_403
  let c1_i32_404 : BitVec 32 := 1#32
  let v758 : BitVec 32 := Scalar.divsi v756 c1_i32_404
  let v759 : BitVec 32 := Scalar.muli v758 c1_i32_404
  let v760 : BitVec 32 := Scalar.addi c0_i32_403 v759
  let c1_i32_405 : BitVec 32 := 1#32
  ⟨c0_i32_403, v760, c1_i32_405⟩
def k0_mult50 (i : grid0.Coords) (k0_t28 : Fin (k0_t28_loop i).trips) : BitVec 32 :=
  let c0_i32_403 : BitVec 32 := 0#32
  let c1_i32_405 : BitVec 32 := 1#32
  let arg18 : BitVec 32 := Scf.iv c0_i32_403 c1_i32_405 k0_t28
  let c2_i32_506 : BitVec 32 := 2#32
  let v960 : BitVec 32 := Scalar.muli arg18 c2_i32_506
  let c0_i32_507 : BitVec 32 := 0#32
  let v961 : BitVec 32 := Scalar.addi v960 c0_i32_507
  let c512_i32_508 : BitVec 32 := 512#32
  let v962 : BitVec 32 := Scalar.muli v961 c512_i32_508
  v962
def k0_off311 (i : grid0.Coords) (k0_t28 : Fin (k0_t28_loop i).trips) (c0_i32_507 : BitVec 32) : Fin 2 → Nat :=
  let c0_i32_403 : BitVec 32 := 0#32
  let c1_i32_405 : BitVec 32 := 1#32
  let arg18 : BitVec 32 := Scf.iv c0_i32_403 c1_i32_405 k0_t28
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v964 : Index := Scalar.indexCast v963
  let c0_509 : Index := 0#32
  ![v964.toNat, 0]
def k0_off312 (i : grid0.Coords) (k0_t28 : Fin (k0_t28_loop i).trips) (c0_i32_507 : BitVec 32) : Fin 3 → Nat :=
  let c0_510 : Index := 0#32
  let c0_i32_403 : BitVec 32 := 0#32
  let c1_i32_405 : BitVec 32 := 1#32
  let arg18 : BitVec 32 := Scf.iv c0_i32_403 c1_i32_405 k0_t28
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v967 : Index := Scalar.indexCast v963
  let c0_511 : Index := 0#32
  ![0, v967.toNat, 0]
def k0_off313 (i : grid0.Coords) (k0_t28 : Fin (k0_t28_loop i).trips) (c0_i32_507 : BitVec 32) : Fin 3 → Nat :=
  let c0_520 : Index := 0#32
  let c0_521 : Index := 0#32
  let c0_i32_403 : BitVec 32 := 0#32
  let c1_i32_405 : BitVec 32 := 1#32
  let arg18 : BitVec 32 := Scf.iv c0_i32_403 c1_i32_405 k0_t28
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v989 : Index := Scalar.indexCast v963
  ![0, 0, v989.toNat]
def k0_mult51 (i : grid0.Coords) (k0_t28 : Fin (k0_t28_loop i).trips) : BitVec 32 :=
  let c0_i32_403 : BitVec 32 := 0#32
  let c1_i32_405 : BitVec 32 := 1#32
  let arg18 : BitVec 32 := Scf.iv c0_i32_403 c1_i32_405 k0_t28
  let c2_i32_523 : BitVec 32 := 2#32
  let v995 : BitVec 32 := Scalar.muli arg18 c2_i32_523
  let c1_i32_524 : BitVec 32 := 1#32
  let v996 : BitVec 32 := Scalar.addi v995 c1_i32_524
  let c512_i32_525 : BitVec 32 := 512#32
  let v997 : BitVec 32 := Scalar.muli v996 c512_i32_525
  v997
@[reducible] def k0_t29_loop (i : grid0.Coords) : Scf.Loop 32 :=
  let c0_i32_403 : BitVec 32 := 0#32
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let v756 : BitVec 32 := Scalar.subi v755 c0_i32_403
  let c1_i32_404 : BitVec 32 := 1#32
  let v758 : BitVec 32 := Scalar.divsi v756 c1_i32_404
  let v759 : BitVec 32 := Scalar.muli v758 c1_i32_404
  let v760 : BitVec 32 := Scalar.addi c0_i32_403 v759
  let v757 : BitVec 32 := Scalar.addi c0_i32_403 v756
  let c1_i32_406 : BitVec 32 := 1#32
  ⟨v760, v757, c1_i32_406⟩
def k0_mult52 (i : grid0.Coords) (k0_t29 : Fin (k0_t29_loop i).trips) : BitVec 32 :=
  let c0_i32_403 : BitVec 32 := 0#32
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let v756 : BitVec 32 := Scalar.subi v755 c0_i32_403
  let c1_i32_404 : BitVec 32 := 1#32
  let v758 : BitVec 32 := Scalar.divsi v756 c1_i32_404
  let v759 : BitVec 32 := Scalar.muli v758 c1_i32_404
  let v760 : BitVec 32 := Scalar.addi c0_i32_403 v759
  let c1_i32_406 : BitVec 32 := 1#32
  let arg18 : BitVec 32 := Scf.iv v760 c1_i32_406 k0_t29
  let c2_i32_506 : BitVec 32 := 2#32
  let v960 : BitVec 32 := Scalar.muli arg18 c2_i32_506
  let c0_i32_507 : BitVec 32 := 0#32
  let v961 : BitVec 32 := Scalar.addi v960 c0_i32_507
  let c512_i32_508 : BitVec 32 := 512#32
  let v962 : BitVec 32 := Scalar.muli v961 c512_i32_508
  v962
def k0_off314 (i : grid0.Coords) (k0_t29 : Fin (k0_t29_loop i).trips) (c0_i32_507 : BitVec 32) : Fin 2 → Nat :=
  let c0_i32_403 : BitVec 32 := 0#32
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let v756 : BitVec 32 := Scalar.subi v755 c0_i32_403
  let c1_i32_404 : BitVec 32 := 1#32
  let v758 : BitVec 32 := Scalar.divsi v756 c1_i32_404
  let v759 : BitVec 32 := Scalar.muli v758 c1_i32_404
  let v760 : BitVec 32 := Scalar.addi c0_i32_403 v759
  let c1_i32_406 : BitVec 32 := 1#32
  let arg18 : BitVec 32 := Scf.iv v760 c1_i32_406 k0_t29
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v964 : Index := Scalar.indexCast v963
  let c0_509 : Index := 0#32
  ![v964.toNat, 0]
def k0_off315 (i : grid0.Coords) (k0_t29 : Fin (k0_t29_loop i).trips) (c0_i32_507 : BitVec 32) : Fin 3 → Nat :=
  let c0_510 : Index := 0#32
  let c0_i32_403 : BitVec 32 := 0#32
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let v756 : BitVec 32 := Scalar.subi v755 c0_i32_403
  let c1_i32_404 : BitVec 32 := 1#32
  let v758 : BitVec 32 := Scalar.divsi v756 c1_i32_404
  let v759 : BitVec 32 := Scalar.muli v758 c1_i32_404
  let v760 : BitVec 32 := Scalar.addi c0_i32_403 v759
  let c1_i32_406 : BitVec 32 := 1#32
  let arg18 : BitVec 32 := Scf.iv v760 c1_i32_406 k0_t29
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v967 : Index := Scalar.indexCast v963
  let c0_511 : Index := 0#32
  ![0, v967.toNat, 0]
def k0_off316 (i : grid0.Coords) (k0_t29 : Fin (k0_t29_loop i).trips) (c0_i32_507 : BitVec 32) : Fin 3 → Nat :=
  let c0_520 : Index := 0#32
  let c0_521 : Index := 0#32
  let c0_i32_403 : BitVec 32 := 0#32
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let v756 : BitVec 32 := Scalar.subi v755 c0_i32_403
  let c1_i32_404 : BitVec 32 := 1#32
  let v758 : BitVec 32 := Scalar.divsi v756 c1_i32_404
  let v759 : BitVec 32 := Scalar.muli v758 c1_i32_404
  let v760 : BitVec 32 := Scalar.addi c0_i32_403 v759
  let c1_i32_406 : BitVec 32 := 1#32
  let arg18 : BitVec 32 := Scf.iv v760 c1_i32_406 k0_t29
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v989 : Index := Scalar.indexCast v963
  ![0, 0, v989.toNat]
def k0_mult53 (i : grid0.Coords) (k0_t29 : Fin (k0_t29_loop i).trips) : BitVec 32 :=
  let c0_i32_403 : BitVec 32 := 0#32
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let v756 : BitVec 32 := Scalar.subi v755 c0_i32_403
  let c1_i32_404 : BitVec 32 := 1#32
  let v758 : BitVec 32 := Scalar.divsi v756 c1_i32_404
  let v759 : BitVec 32 := Scalar.muli v758 c1_i32_404
  let v760 : BitVec 32 := Scalar.addi c0_i32_403 v759
  let c1_i32_406 : BitVec 32 := 1#32
  let arg18 : BitVec 32 := Scf.iv v760 c1_i32_406 k0_t29
  let c2_i32_523 : BitVec 32 := 2#32
  let v995 : BitVec 32 := Scalar.muli arg18 c2_i32_523
  let c1_i32_524 : BitVec 32 := 1#32
  let v996 : BitVec 32 := Scalar.addi v995 c1_i32_524
  let c512_i32_525 : BitVec 32 := 512#32
  let v997 : BitVec 32 := Scalar.muli v996 c512_i32_525
  v997
@[reducible] def k0_t30_loop (i : grid0.Coords) : Scf.Loop 32 :=
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let c2_i32_407 : BitVec 32 := 2#32
  let v763 : BitVec 32 := Scalar.muli v755 c2_i32_407
  let v764 : BitVec 32 := Scalar.subi v0 v763
  let c1_i32_408 : BitVec 32 := 1#32
  let v766 : BitVec 32 := Scalar.divsi v764 c1_i32_408
  let v767 : BitVec 32 := Scalar.muli v766 c1_i32_408
  let v768 : BitVec 32 := Scalar.addi v763 v767
  let c1_i32_409 : BitVec 32 := 1#32
  ⟨v763, v768, c1_i32_409⟩
def k0_mult54 (i : grid0.Coords) (k0_t30 : Fin (k0_t30_loop i).trips) : BitVec 32 :=
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let c2_i32_407 : BitVec 32 := 2#32
  let v763 : BitVec 32 := Scalar.muli v755 c2_i32_407
  let c1_i32_409 : BitVec 32 := 1#32
  let arg18 : BitVec 32 := Scf.iv v763 c1_i32_409 k0_t30
  let c512_i32_506 : BitVec 32 := 512#32
  let v960 : BitVec 32 := Scalar.muli arg18 c512_i32_506
  v960
def k0_off317 (i : grid0.Coords) (k0_t30 : Fin (k0_t30_loop i).trips) : Fin 2 → Nat :=
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let c2_i32_407 : BitVec 32 := 2#32
  let v763 : BitVec 32 := Scalar.muli v755 c2_i32_407
  let c1_i32_409 : BitVec 32 := 1#32
  let arg18 : BitVec 32 := Scf.iv v763 c1_i32_409 k0_t30
  let c512_i32_506 : BitVec 32 := 512#32
  let v960 : BitVec 32 := Scalar.muli arg18 c512_i32_506
  let v961 : BitVec 32 := v960
  let v962 : Index := Scalar.indexCast v961
  let c0_507 : Index := 0#32
  ![v962.toNat, 0]
def k0_off318 (i : grid0.Coords) (k0_t30 : Fin (k0_t30_loop i).trips) : Fin 3 → Nat :=
  let c0_508 : Index := 0#32
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let c2_i32_407 : BitVec 32 := 2#32
  let v763 : BitVec 32 := Scalar.muli v755 c2_i32_407
  let c1_i32_409 : BitVec 32 := 1#32
  let arg18 : BitVec 32 := Scf.iv v763 c1_i32_409 k0_t30
  let c512_i32_506 : BitVec 32 := 512#32
  let v960 : BitVec 32 := Scalar.muli arg18 c512_i32_506
  let v961 : BitVec 32 := v960
  let v965 : Index := Scalar.indexCast v961
  let c0_509 : Index := 0#32
  ![0, v965.toNat, 0]
def k0_off319 (i : grid0.Coords) (k0_t30 : Fin (k0_t30_loop i).trips) : Fin 3 → Nat :=
  let c0_518 : Index := 0#32
  let c0_519 : Index := 0#32
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let c2_i32_407 : BitVec 32 := 2#32
  let v763 : BitVec 32 := Scalar.muli v755 c2_i32_407
  let c1_i32_409 : BitVec 32 := 1#32
  let arg18 : BitVec 32 := Scf.iv v763 c1_i32_409 k0_t30
  let c512_i32_506 : BitVec 32 := 512#32
  let v960 : BitVec 32 := Scalar.muli arg18 c512_i32_506
  let v961 : BitVec 32 := v960
  let v987 : Index := Scalar.indexCast v961
  ![0, 0, v987.toNat]
@[reducible] def k0_t31_loop (i : grid0.Coords) : Scf.Loop 32 :=
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let c2_i32_407 : BitVec 32 := 2#32
  let v763 : BitVec 32 := Scalar.muli v755 c2_i32_407
  let v764 : BitVec 32 := Scalar.subi v0 v763
  let c1_i32_408 : BitVec 32 := 1#32
  let v766 : BitVec 32 := Scalar.divsi v764 c1_i32_408
  let v767 : BitVec 32 := Scalar.muli v766 c1_i32_408
  let v768 : BitVec 32 := Scalar.addi v763 v767
  let v765 : BitVec 32 := Scalar.addi v763 v764
  let c1_i32_410 : BitVec 32 := 1#32
  ⟨v768, v765, c1_i32_410⟩
def k0_mult55 (i : grid0.Coords) (k0_t31 : Fin (k0_t31_loop i).trips) : BitVec 32 :=
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let c2_i32_407 : BitVec 32 := 2#32
  let v763 : BitVec 32 := Scalar.muli v755 c2_i32_407
  let v764 : BitVec 32 := Scalar.subi v0 v763
  let c1_i32_408 : BitVec 32 := 1#32
  let v766 : BitVec 32 := Scalar.divsi v764 c1_i32_408
  let v767 : BitVec 32 := Scalar.muli v766 c1_i32_408
  let v768 : BitVec 32 := Scalar.addi v763 v767
  let c1_i32_410 : BitVec 32 := 1#32
  let arg18 : BitVec 32 := Scf.iv v768 c1_i32_410 k0_t31
  let c512_i32_506 : BitVec 32 := 512#32
  let v960 : BitVec 32 := Scalar.muli arg18 c512_i32_506
  v960
def k0_off320 (i : grid0.Coords) (k0_t31 : Fin (k0_t31_loop i).trips) : Fin 2 → Nat :=
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let c2_i32_407 : BitVec 32 := 2#32
  let v763 : BitVec 32 := Scalar.muli v755 c2_i32_407
  let v764 : BitVec 32 := Scalar.subi v0 v763
  let c1_i32_408 : BitVec 32 := 1#32
  let v766 : BitVec 32 := Scalar.divsi v764 c1_i32_408
  let v767 : BitVec 32 := Scalar.muli v766 c1_i32_408
  let v768 : BitVec 32 := Scalar.addi v763 v767
  let c1_i32_410 : BitVec 32 := 1#32
  let arg18 : BitVec 32 := Scf.iv v768 c1_i32_410 k0_t31
  let c512_i32_506 : BitVec 32 := 512#32
  let v960 : BitVec 32 := Scalar.muli arg18 c512_i32_506
  let v961 : BitVec 32 := v960
  let v962 : Index := Scalar.indexCast v961
  let c0_507 : Index := 0#32
  ![v962.toNat, 0]
def k0_off321 (i : grid0.Coords) (k0_t31 : Fin (k0_t31_loop i).trips) : Fin 3 → Nat :=
  let c0_508 : Index := 0#32
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let c2_i32_407 : BitVec 32 := 2#32
  let v763 : BitVec 32 := Scalar.muli v755 c2_i32_407
  let v764 : BitVec 32 := Scalar.subi v0 v763
  let c1_i32_408 : BitVec 32 := 1#32
  let v766 : BitVec 32 := Scalar.divsi v764 c1_i32_408
  let v767 : BitVec 32 := Scalar.muli v766 c1_i32_408
  let v768 : BitVec 32 := Scalar.addi v763 v767
  let c1_i32_410 : BitVec 32 := 1#32
  let arg18 : BitVec 32 := Scf.iv v768 c1_i32_410 k0_t31
  let c512_i32_506 : BitVec 32 := 512#32
  let v960 : BitVec 32 := Scalar.muli arg18 c512_i32_506
  let v961 : BitVec 32 := v960
  let v965 : Index := Scalar.indexCast v961
  let c0_509 : Index := 0#32
  ![0, v965.toNat, 0]
def k0_off322 (i : grid0.Coords) (k0_t31 : Fin (k0_t31_loop i).trips) : Fin 3 → Nat :=
  let c0_518 : Index := 0#32
  let c0_519 : Index := 0#32
  let arg1 : BitVec 32 := BitVec.ofNat 32 (i 1).val
  let c1_i32 : BitVec 32 := 1#32
  let v0 : BitVec 32 := Scalar.addi arg1 c1_i32
  let c0_i32_397 : BitVec 32 := 0#32
  let v740 : BitVec 1 := Scalar.cmpi .sgt v0 c0_i32_397
  let v741 : BitVec 32 := Scalar.extui v740
  let c0_i32_398 : BitVec 32 := 0#32
  let v742 : BitVec 1 := Scalar.cmpi .slt v0 c0_i32_398
  let v743 : BitVec 32 := Scalar.extui v742
  let v744 : BitVec 32 := Scalar.subi v741 v743
  let c2_i32_396 : BitVec 32 := 2#32
  let c0_i32_399 : BitVec 32 := 0#32
  let v745 : BitVec 1 := Scalar.cmpi .sgt c2_i32_396 c0_i32_399
  let v746 : BitVec 32 := Scalar.extui v745
  let c0_i32_400 : BitVec 32 := 0#32
  let v747 : BitVec 1 := Scalar.cmpi .slt c2_i32_396 c0_i32_400
  let v748 : BitVec 32 := Scalar.extui v747
  let v749 : BitVec 32 := Scalar.subi v746 v748
  let v750 : BitVec 1 := Scalar.cmpi .ne v744 v749
  let v751 : BitVec 32 := Scalar.remsi v0 c2_i32_396
  let c0_i32_401 : BitVec 32 := 0#32
  let v752 : BitVec 1 := Scalar.cmpi .ne v751 c0_i32_401
  let v753 : BitVec 1 := Scalar.andi v750 v752
  let v739 : BitVec 32 := Scalar.divsi v0 c2_i32_396
  let c1_i32_402 : BitVec 32 := 1#32
  let v754 : BitVec 32 := Scalar.subi v739 c1_i32_402
  let v755 : BitVec 32 := Scalar.select v753 v754 v739
  let c2_i32_407 : BitVec 32 := 2#32
  let v763 : BitVec 32 := Scalar.muli v755 c2_i32_407
  let v764 : BitVec 32 := Scalar.subi v0 v763
  let c1_i32_408 : BitVec 32 := 1#32
  let v766 : BitVec 32 := Scalar.divsi v764 c1_i32_408
  let v767 : BitVec 32 := Scalar.muli v766 c1_i32_408
  let v768 : BitVec 32 := Scalar.addi v763 v767
  let c1_i32_410 : BitVec 32 := 1#32
  let arg18 : BitVec 32 := Scf.iv v768 c1_i32_410 k0_t31
  let c512_i32_506 : BitVec 32 := 512#32
  let v960 : BitVec 32 := Scalar.muli arg18 c512_i32_506
  let v961 : BitVec 32 := v960
  let v987 : Index := Scalar.indexCast v961
  ![0, 0, v987.toNat]
@[reducible] def k0_t32_loop (i : grid0.Coords) : Scf.Loop 32 :=
  let c0_i32_425 : BitVec 32 := 0#32
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let v800 : BitVec 32 := Scalar.subi v799 c0_i32_425
  let c1_i32_426 : BitVec 32 := 1#32
  let v802 : BitVec 32 := Scalar.divsi v800 c1_i32_426
  let v803 : BitVec 32 := Scalar.muli v802 c1_i32_426
  let v804 : BitVec 32 := Scalar.addi c0_i32_425 v803
  let c1_i32_427 : BitVec 32 := 1#32
  ⟨c0_i32_425, v804, c1_i32_427⟩
def k0_mult56 (i : grid0.Coords) (k0_t32 : Fin (k0_t32_loop i).trips) : BitVec 32 :=
  let c0_i32_425 : BitVec 32 := 0#32
  let c1_i32_427 : BitVec 32 := 1#32
  let arg18 : BitVec 32 := Scf.iv c0_i32_425 c1_i32_427 k0_t32
  let c2_i32_506 : BitVec 32 := 2#32
  let v960 : BitVec 32 := Scalar.muli arg18 c2_i32_506
  let c0_i32_507 : BitVec 32 := 0#32
  let v961 : BitVec 32 := Scalar.addi v960 c0_i32_507
  let c512_i32_508 : BitVec 32 := 512#32
  let v962 : BitVec 32 := Scalar.muli v961 c512_i32_508
  v962
def k0_off323 (i : grid0.Coords) (k0_t32 : Fin (k0_t32_loop i).trips) (c0_i32_507 : BitVec 32) : Fin 2 → Nat :=
  let c0_i32_425 : BitVec 32 := 0#32
  let c1_i32_427 : BitVec 32 := 1#32
  let arg18 : BitVec 32 := Scf.iv c0_i32_425 c1_i32_427 k0_t32
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v964 : Index := Scalar.indexCast v963
  let c0_509 : Index := 0#32
  ![v964.toNat, 0]
def k0_off324 (i : grid0.Coords) (k0_t32 : Fin (k0_t32_loop i).trips) (c0_i32_507 : BitVec 32) : Fin 3 → Nat :=
  let c0_510 : Index := 0#32
  let c0_i32_425 : BitVec 32 := 0#32
  let c1_i32_427 : BitVec 32 := 1#32
  let arg18 : BitVec 32 := Scf.iv c0_i32_425 c1_i32_427 k0_t32
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v967 : Index := Scalar.indexCast v963
  let c0_511 : Index := 0#32
  ![0, v967.toNat, 0]
def k0_off325 (i : grid0.Coords) (k0_t32 : Fin (k0_t32_loop i).trips) (c0_i32_507 : BitVec 32) : Fin 3 → Nat :=
  let c0_520 : Index := 0#32
  let c0_521 : Index := 0#32
  let c0_i32_425 : BitVec 32 := 0#32
  let c1_i32_427 : BitVec 32 := 1#32
  let arg18 : BitVec 32 := Scf.iv c0_i32_425 c1_i32_427 k0_t32
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v989 : Index := Scalar.indexCast v963
  ![0, 0, v989.toNat]
def k0_mult57 (i : grid0.Coords) (k0_t32 : Fin (k0_t32_loop i).trips) : BitVec 32 :=
  let c0_i32_425 : BitVec 32 := 0#32
  let c1_i32_427 : BitVec 32 := 1#32
  let arg18 : BitVec 32 := Scf.iv c0_i32_425 c1_i32_427 k0_t32
  let c2_i32_523 : BitVec 32 := 2#32
  let v995 : BitVec 32 := Scalar.muli arg18 c2_i32_523
  let c1_i32_524 : BitVec 32 := 1#32
  let v996 : BitVec 32 := Scalar.addi v995 c1_i32_524
  let c512_i32_525 : BitVec 32 := 512#32
  let v997 : BitVec 32 := Scalar.muli v996 c512_i32_525
  v997
@[reducible] def k0_t33_loop (i : grid0.Coords) : Scf.Loop 32 :=
  let c0_i32_425 : BitVec 32 := 0#32
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let v800 : BitVec 32 := Scalar.subi v799 c0_i32_425
  let c1_i32_426 : BitVec 32 := 1#32
  let v802 : BitVec 32 := Scalar.divsi v800 c1_i32_426
  let v803 : BitVec 32 := Scalar.muli v802 c1_i32_426
  let v804 : BitVec 32 := Scalar.addi c0_i32_425 v803
  let v801 : BitVec 32 := Scalar.addi c0_i32_425 v800
  let c1_i32_428 : BitVec 32 := 1#32
  ⟨v804, v801, c1_i32_428⟩
def k0_mult58 (i : grid0.Coords) (k0_t33 : Fin (k0_t33_loop i).trips) : BitVec 32 :=
  let c0_i32_425 : BitVec 32 := 0#32
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let v800 : BitVec 32 := Scalar.subi v799 c0_i32_425
  let c1_i32_426 : BitVec 32 := 1#32
  let v802 : BitVec 32 := Scalar.divsi v800 c1_i32_426
  let v803 : BitVec 32 := Scalar.muli v802 c1_i32_426
  let v804 : BitVec 32 := Scalar.addi c0_i32_425 v803
  let c1_i32_428 : BitVec 32 := 1#32
  let arg18 : BitVec 32 := Scf.iv v804 c1_i32_428 k0_t33
  let c2_i32_506 : BitVec 32 := 2#32
  let v960 : BitVec 32 := Scalar.muli arg18 c2_i32_506
  let c0_i32_507 : BitVec 32 := 0#32
  let v961 : BitVec 32 := Scalar.addi v960 c0_i32_507
  let c512_i32_508 : BitVec 32 := 512#32
  let v962 : BitVec 32 := Scalar.muli v961 c512_i32_508
  v962
def k0_off326 (i : grid0.Coords) (k0_t33 : Fin (k0_t33_loop i).trips) (c0_i32_507 : BitVec 32) : Fin 2 → Nat :=
  let c0_i32_425 : BitVec 32 := 0#32
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let v800 : BitVec 32 := Scalar.subi v799 c0_i32_425
  let c1_i32_426 : BitVec 32 := 1#32
  let v802 : BitVec 32 := Scalar.divsi v800 c1_i32_426
  let v803 : BitVec 32 := Scalar.muli v802 c1_i32_426
  let v804 : BitVec 32 := Scalar.addi c0_i32_425 v803
  let c1_i32_428 : BitVec 32 := 1#32
  let arg18 : BitVec 32 := Scf.iv v804 c1_i32_428 k0_t33
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v964 : Index := Scalar.indexCast v963
  let c0_509 : Index := 0#32
  ![v964.toNat, 0]
def k0_off327 (i : grid0.Coords) (k0_t33 : Fin (k0_t33_loop i).trips) (c0_i32_507 : BitVec 32) : Fin 3 → Nat :=
  let c0_510 : Index := 0#32
  let c0_i32_425 : BitVec 32 := 0#32
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let v800 : BitVec 32 := Scalar.subi v799 c0_i32_425
  let c1_i32_426 : BitVec 32 := 1#32
  let v802 : BitVec 32 := Scalar.divsi v800 c1_i32_426
  let v803 : BitVec 32 := Scalar.muli v802 c1_i32_426
  let v804 : BitVec 32 := Scalar.addi c0_i32_425 v803
  let c1_i32_428 : BitVec 32 := 1#32
  let arg18 : BitVec 32 := Scf.iv v804 c1_i32_428 k0_t33
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v967 : Index := Scalar.indexCast v963
  let c0_511 : Index := 0#32
  ![0, v967.toNat, 0]
def k0_off328 (i : grid0.Coords) (k0_t33 : Fin (k0_t33_loop i).trips) (c0_i32_507 : BitVec 32) : Fin 3 → Nat :=
  let c0_520 : Index := 0#32
  let c0_521 : Index := 0#32
  let c0_i32_425 : BitVec 32 := 0#32
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let v800 : BitVec 32 := Scalar.subi v799 c0_i32_425
  let c1_i32_426 : BitVec 32 := 1#32
  let v802 : BitVec 32 := Scalar.divsi v800 c1_i32_426
  let v803 : BitVec 32 := Scalar.muli v802 c1_i32_426
  let v804 : BitVec 32 := Scalar.addi c0_i32_425 v803
  let c1_i32_428 : BitVec 32 := 1#32
  let arg18 : BitVec 32 := Scf.iv v804 c1_i32_428 k0_t33
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v989 : Index := Scalar.indexCast v963
  ![0, 0, v989.toNat]
def k0_mult59 (i : grid0.Coords) (k0_t33 : Fin (k0_t33_loop i).trips) : BitVec 32 :=
  let c0_i32_425 : BitVec 32 := 0#32
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let v800 : BitVec 32 := Scalar.subi v799 c0_i32_425
  let c1_i32_426 : BitVec 32 := 1#32
  let v802 : BitVec 32 := Scalar.divsi v800 c1_i32_426
  let v803 : BitVec 32 := Scalar.muli v802 c1_i32_426
  let v804 : BitVec 32 := Scalar.addi c0_i32_425 v803
  let c1_i32_428 : BitVec 32 := 1#32
  let arg18 : BitVec 32 := Scf.iv v804 c1_i32_428 k0_t33
  let c2_i32_523 : BitVec 32 := 2#32
  let v995 : BitVec 32 := Scalar.muli arg18 c2_i32_523
  let c1_i32_524 : BitVec 32 := 1#32
  let v996 : BitVec 32 := Scalar.addi v995 c1_i32_524
  let c512_i32_525 : BitVec 32 := 512#32
  let v997 : BitVec 32 := Scalar.muli v996 c512_i32_525
  v997
@[reducible] def k0_t34_loop (i : grid0.Coords) : Scf.Loop 32 :=
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let c2_i32_429 : BitVec 32 := 2#32
  let v807 : BitVec 32 := Scalar.muli v799 c2_i32_429
  let v808 : BitVec 32 := Scalar.subi v0 v807
  let c1_i32_430 : BitVec 32 := 1#32
  let v810 : BitVec 32 := Scalar.divsi v808 c1_i32_430
  let v811 : BitVec 32 := Scalar.muli v810 c1_i32_430
  let v812 : BitVec 32 := Scalar.addi v807 v811
  let c1_i32_431 : BitVec 32 := 1#32
  ⟨v807, v812, c1_i32_431⟩
def k0_mult60 (i : grid0.Coords) (k0_t34 : Fin (k0_t34_loop i).trips) : BitVec 32 :=
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let c2_i32_429 : BitVec 32 := 2#32
  let v807 : BitVec 32 := Scalar.muli v799 c2_i32_429
  let c1_i32_431 : BitVec 32 := 1#32
  let arg18 : BitVec 32 := Scf.iv v807 c1_i32_431 k0_t34
  let c512_i32_506 : BitVec 32 := 512#32
  let v960 : BitVec 32 := Scalar.muli arg18 c512_i32_506
  v960
def k0_off329 (i : grid0.Coords) (k0_t34 : Fin (k0_t34_loop i).trips) : Fin 2 → Nat :=
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let c2_i32_429 : BitVec 32 := 2#32
  let v807 : BitVec 32 := Scalar.muli v799 c2_i32_429
  let c1_i32_431 : BitVec 32 := 1#32
  let arg18 : BitVec 32 := Scf.iv v807 c1_i32_431 k0_t34
  let c512_i32_506 : BitVec 32 := 512#32
  let v960 : BitVec 32 := Scalar.muli arg18 c512_i32_506
  let v961 : BitVec 32 := v960
  let v962 : Index := Scalar.indexCast v961
  let c0_507 : Index := 0#32
  ![v962.toNat, 0]
def k0_off330 (i : grid0.Coords) (k0_t34 : Fin (k0_t34_loop i).trips) : Fin 3 → Nat :=
  let c0_508 : Index := 0#32
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let c2_i32_429 : BitVec 32 := 2#32
  let v807 : BitVec 32 := Scalar.muli v799 c2_i32_429
  let c1_i32_431 : BitVec 32 := 1#32
  let arg18 : BitVec 32 := Scf.iv v807 c1_i32_431 k0_t34
  let c512_i32_506 : BitVec 32 := 512#32
  let v960 : BitVec 32 := Scalar.muli arg18 c512_i32_506
  let v961 : BitVec 32 := v960
  let v965 : Index := Scalar.indexCast v961
  let c0_509 : Index := 0#32
  ![0, v965.toNat, 0]
def k0_off331 (i : grid0.Coords) (k0_t34 : Fin (k0_t34_loop i).trips) : Fin 3 → Nat :=
  let c0_518 : Index := 0#32
  let c0_519 : Index := 0#32
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let c2_i32_429 : BitVec 32 := 2#32
  let v807 : BitVec 32 := Scalar.muli v799 c2_i32_429
  let c1_i32_431 : BitVec 32 := 1#32
  let arg18 : BitVec 32 := Scf.iv v807 c1_i32_431 k0_t34
  let c512_i32_506 : BitVec 32 := 512#32
  let v960 : BitVec 32 := Scalar.muli arg18 c512_i32_506
  let v961 : BitVec 32 := v960
  let v987 : Index := Scalar.indexCast v961
  ![0, 0, v987.toNat]
@[reducible] def k0_t35_loop (i : grid0.Coords) : Scf.Loop 32 :=
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let c2_i32_429 : BitVec 32 := 2#32
  let v807 : BitVec 32 := Scalar.muli v799 c2_i32_429
  let v808 : BitVec 32 := Scalar.subi v0 v807
  let c1_i32_430 : BitVec 32 := 1#32
  let v810 : BitVec 32 := Scalar.divsi v808 c1_i32_430
  let v811 : BitVec 32 := Scalar.muli v810 c1_i32_430
  let v812 : BitVec 32 := Scalar.addi v807 v811
  let v809 : BitVec 32 := Scalar.addi v807 v808
  let c1_i32_432 : BitVec 32 := 1#32
  ⟨v812, v809, c1_i32_432⟩
def k0_mult61 (i : grid0.Coords) (k0_t35 : Fin (k0_t35_loop i).trips) : BitVec 32 :=
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let c2_i32_429 : BitVec 32 := 2#32
  let v807 : BitVec 32 := Scalar.muli v799 c2_i32_429
  let v808 : BitVec 32 := Scalar.subi v0 v807
  let c1_i32_430 : BitVec 32 := 1#32
  let v810 : BitVec 32 := Scalar.divsi v808 c1_i32_430
  let v811 : BitVec 32 := Scalar.muli v810 c1_i32_430
  let v812 : BitVec 32 := Scalar.addi v807 v811
  let c1_i32_432 : BitVec 32 := 1#32
  let arg18 : BitVec 32 := Scf.iv v812 c1_i32_432 k0_t35
  let c512_i32_506 : BitVec 32 := 512#32
  let v960 : BitVec 32 := Scalar.muli arg18 c512_i32_506
  v960
def k0_off332 (i : grid0.Coords) (k0_t35 : Fin (k0_t35_loop i).trips) : Fin 2 → Nat :=
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let c2_i32_429 : BitVec 32 := 2#32
  let v807 : BitVec 32 := Scalar.muli v799 c2_i32_429
  let v808 : BitVec 32 := Scalar.subi v0 v807
  let c1_i32_430 : BitVec 32 := 1#32
  let v810 : BitVec 32 := Scalar.divsi v808 c1_i32_430
  let v811 : BitVec 32 := Scalar.muli v810 c1_i32_430
  let v812 : BitVec 32 := Scalar.addi v807 v811
  let c1_i32_432 : BitVec 32 := 1#32
  let arg18 : BitVec 32 := Scf.iv v812 c1_i32_432 k0_t35
  let c512_i32_506 : BitVec 32 := 512#32
  let v960 : BitVec 32 := Scalar.muli arg18 c512_i32_506
  let v961 : BitVec 32 := v960
  let v962 : Index := Scalar.indexCast v961
  let c0_507 : Index := 0#32
  ![v962.toNat, 0]
def k0_off333 (i : grid0.Coords) (k0_t35 : Fin (k0_t35_loop i).trips) : Fin 3 → Nat :=
  let c0_508 : Index := 0#32
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let c2_i32_429 : BitVec 32 := 2#32
  let v807 : BitVec 32 := Scalar.muli v799 c2_i32_429
  let v808 : BitVec 32 := Scalar.subi v0 v807
  let c1_i32_430 : BitVec 32 := 1#32
  let v810 : BitVec 32 := Scalar.divsi v808 c1_i32_430
  let v811 : BitVec 32 := Scalar.muli v810 c1_i32_430
  let v812 : BitVec 32 := Scalar.addi v807 v811
  let c1_i32_432 : BitVec 32 := 1#32
  let arg18 : BitVec 32 := Scf.iv v812 c1_i32_432 k0_t35
  let c512_i32_506 : BitVec 32 := 512#32
  let v960 : BitVec 32 := Scalar.muli arg18 c512_i32_506
  let v961 : BitVec 32 := v960
  let v965 : Index := Scalar.indexCast v961
  let c0_509 : Index := 0#32
  ![0, v965.toNat, 0]
def k0_off334 (i : grid0.Coords) (k0_t35 : Fin (k0_t35_loop i).trips) : Fin 3 → Nat :=
  let c0_518 : Index := 0#32
  let c0_519 : Index := 0#32
  let arg1 : BitVec 32 := BitVec.ofNat 32 (i 1).val
  let c1_i32 : BitVec 32 := 1#32
  let v0 : BitVec 32 := Scalar.addi arg1 c1_i32
  let c0_i32_419 : BitVec 32 := 0#32
  let v784 : BitVec 1 := Scalar.cmpi .sgt v0 c0_i32_419
  let v785 : BitVec 32 := Scalar.extui v784
  let c0_i32_420 : BitVec 32 := 0#32
  let v786 : BitVec 1 := Scalar.cmpi .slt v0 c0_i32_420
  let v787 : BitVec 32 := Scalar.extui v786
  let v788 : BitVec 32 := Scalar.subi v785 v787
  let c2_i32_418 : BitVec 32 := 2#32
  let c0_i32_421 : BitVec 32 := 0#32
  let v789 : BitVec 1 := Scalar.cmpi .sgt c2_i32_418 c0_i32_421
  let v790 : BitVec 32 := Scalar.extui v789
  let c0_i32_422 : BitVec 32 := 0#32
  let v791 : BitVec 1 := Scalar.cmpi .slt c2_i32_418 c0_i32_422
  let v792 : BitVec 32 := Scalar.extui v791
  let v793 : BitVec 32 := Scalar.subi v790 v792
  let v794 : BitVec 1 := Scalar.cmpi .ne v788 v793
  let v795 : BitVec 32 := Scalar.remsi v0 c2_i32_418
  let c0_i32_423 : BitVec 32 := 0#32
  let v796 : BitVec 1 := Scalar.cmpi .ne v795 c0_i32_423
  let v797 : BitVec 1 := Scalar.andi v794 v796
  let v783 : BitVec 32 := Scalar.divsi v0 c2_i32_418
  let c1_i32_424 : BitVec 32 := 1#32
  let v798 : BitVec 32 := Scalar.subi v783 c1_i32_424
  let v799 : BitVec 32 := Scalar.select v797 v798 v783
  let c2_i32_429 : BitVec 32 := 2#32
  let v807 : BitVec 32 := Scalar.muli v799 c2_i32_429
  let v808 : BitVec 32 := Scalar.subi v0 v807
  let c1_i32_430 : BitVec 32 := 1#32
  let v810 : BitVec 32 := Scalar.divsi v808 c1_i32_430
  let v811 : BitVec 32 := Scalar.muli v810 c1_i32_430
  let v812 : BitVec 32 := Scalar.addi v807 v811
  let c1_i32_432 : BitVec 32 := 1#32
  let arg18 : BitVec 32 := Scf.iv v812 c1_i32_432 k0_t35
  let c512_i32_506 : BitVec 32 := 512#32
  let v960 : BitVec 32 := Scalar.muli arg18 c512_i32_506
  let v961 : BitVec 32 := v960
  let v987 : Index := Scalar.indexCast v961
  ![0, 0, v987.toNat]
@[reducible] def k0_t36_loop (i : grid0.Coords) : Scf.Loop 32 :=
  let c0_i32_447 : BitVec 32 := 0#32
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let v844 : BitVec 32 := Scalar.subi v843 c0_i32_447
  let c1_i32_448 : BitVec 32 := 1#32
  let v846 : BitVec 32 := Scalar.divsi v844 c1_i32_448
  let v847 : BitVec 32 := Scalar.muli v846 c1_i32_448
  let v848 : BitVec 32 := Scalar.addi c0_i32_447 v847
  let c1_i32_449 : BitVec 32 := 1#32
  ⟨c0_i32_447, v848, c1_i32_449⟩
def k0_mult62 (i : grid0.Coords) (k0_t36 : Fin (k0_t36_loop i).trips) : BitVec 32 :=
  let c0_i32_447 : BitVec 32 := 0#32
  let c1_i32_449 : BitVec 32 := 1#32
  let arg18 : BitVec 32 := Scf.iv c0_i32_447 c1_i32_449 k0_t36
  let c2_i32_506 : BitVec 32 := 2#32
  let v960 : BitVec 32 := Scalar.muli arg18 c2_i32_506
  let c0_i32_507 : BitVec 32 := 0#32
  let v961 : BitVec 32 := Scalar.addi v960 c0_i32_507
  let c512_i32_508 : BitVec 32 := 512#32
  let v962 : BitVec 32 := Scalar.muli v961 c512_i32_508
  v962
def k0_off335 (i : grid0.Coords) (k0_t36 : Fin (k0_t36_loop i).trips) (c0_i32_507 : BitVec 32) : Fin 2 → Nat :=
  let c0_i32_447 : BitVec 32 := 0#32
  let c1_i32_449 : BitVec 32 := 1#32
  let arg18 : BitVec 32 := Scf.iv c0_i32_447 c1_i32_449 k0_t36
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v964 : Index := Scalar.indexCast v963
  let c0_509 : Index := 0#32
  ![v964.toNat, 0]
def k0_off336 (i : grid0.Coords) (k0_t36 : Fin (k0_t36_loop i).trips) (c0_i32_507 : BitVec 32) : Fin 3 → Nat :=
  let c0_510 : Index := 0#32
  let c0_i32_447 : BitVec 32 := 0#32
  let c1_i32_449 : BitVec 32 := 1#32
  let arg18 : BitVec 32 := Scf.iv c0_i32_447 c1_i32_449 k0_t36
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v967 : Index := Scalar.indexCast v963
  let c0_511 : Index := 0#32
  ![0, v967.toNat, 0]
def k0_off337 (i : grid0.Coords) (k0_t36 : Fin (k0_t36_loop i).trips) (c0_i32_507 : BitVec 32) : Fin 3 → Nat :=
  let c0_520 : Index := 0#32
  let c0_521 : Index := 0#32
  let c0_i32_447 : BitVec 32 := 0#32
  let c1_i32_449 : BitVec 32 := 1#32
  let arg18 : BitVec 32 := Scf.iv c0_i32_447 c1_i32_449 k0_t36
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v989 : Index := Scalar.indexCast v963
  ![0, 0, v989.toNat]
def k0_mult63 (i : grid0.Coords) (k0_t36 : Fin (k0_t36_loop i).trips) : BitVec 32 :=
  let c0_i32_447 : BitVec 32 := 0#32
  let c1_i32_449 : BitVec 32 := 1#32
  let arg18 : BitVec 32 := Scf.iv c0_i32_447 c1_i32_449 k0_t36
  let c2_i32_523 : BitVec 32 := 2#32
  let v995 : BitVec 32 := Scalar.muli arg18 c2_i32_523
  let c1_i32_524 : BitVec 32 := 1#32
  let v996 : BitVec 32 := Scalar.addi v995 c1_i32_524
  let c512_i32_525 : BitVec 32 := 512#32
  let v997 : BitVec 32 := Scalar.muli v996 c512_i32_525
  v997
@[reducible] def k0_t37_loop (i : grid0.Coords) : Scf.Loop 32 :=
  let c0_i32_447 : BitVec 32 := 0#32
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let v844 : BitVec 32 := Scalar.subi v843 c0_i32_447
  let c1_i32_448 : BitVec 32 := 1#32
  let v846 : BitVec 32 := Scalar.divsi v844 c1_i32_448
  let v847 : BitVec 32 := Scalar.muli v846 c1_i32_448
  let v848 : BitVec 32 := Scalar.addi c0_i32_447 v847
  let v845 : BitVec 32 := Scalar.addi c0_i32_447 v844
  let c1_i32_450 : BitVec 32 := 1#32
  ⟨v848, v845, c1_i32_450⟩
def k0_mult64 (i : grid0.Coords) (k0_t37 : Fin (k0_t37_loop i).trips) : BitVec 32 :=
  let c0_i32_447 : BitVec 32 := 0#32
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let v844 : BitVec 32 := Scalar.subi v843 c0_i32_447
  let c1_i32_448 : BitVec 32 := 1#32
  let v846 : BitVec 32 := Scalar.divsi v844 c1_i32_448
  let v847 : BitVec 32 := Scalar.muli v846 c1_i32_448
  let v848 : BitVec 32 := Scalar.addi c0_i32_447 v847
  let c1_i32_450 : BitVec 32 := 1#32
  let arg18 : BitVec 32 := Scf.iv v848 c1_i32_450 k0_t37
  let c2_i32_506 : BitVec 32 := 2#32
  let v960 : BitVec 32 := Scalar.muli arg18 c2_i32_506
  let c0_i32_507 : BitVec 32 := 0#32
  let v961 : BitVec 32 := Scalar.addi v960 c0_i32_507
  let c512_i32_508 : BitVec 32 := 512#32
  let v962 : BitVec 32 := Scalar.muli v961 c512_i32_508
  v962
def k0_off338 (i : grid0.Coords) (k0_t37 : Fin (k0_t37_loop i).trips) (c0_i32_507 : BitVec 32) : Fin 2 → Nat :=
  let c0_i32_447 : BitVec 32 := 0#32
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let v844 : BitVec 32 := Scalar.subi v843 c0_i32_447
  let c1_i32_448 : BitVec 32 := 1#32
  let v846 : BitVec 32 := Scalar.divsi v844 c1_i32_448
  let v847 : BitVec 32 := Scalar.muli v846 c1_i32_448
  let v848 : BitVec 32 := Scalar.addi c0_i32_447 v847
  let c1_i32_450 : BitVec 32 := 1#32
  let arg18 : BitVec 32 := Scf.iv v848 c1_i32_450 k0_t37
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v964 : Index := Scalar.indexCast v963
  let c0_509 : Index := 0#32
  ![v964.toNat, 0]
def k0_off339 (i : grid0.Coords) (k0_t37 : Fin (k0_t37_loop i).trips) (c0_i32_507 : BitVec 32) : Fin 3 → Nat :=
  let c0_510 : Index := 0#32
  let c0_i32_447 : BitVec 32 := 0#32
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let v844 : BitVec 32 := Scalar.subi v843 c0_i32_447
  let c1_i32_448 : BitVec 32 := 1#32
  let v846 : BitVec 32 := Scalar.divsi v844 c1_i32_448
  let v847 : BitVec 32 := Scalar.muli v846 c1_i32_448
  let v848 : BitVec 32 := Scalar.addi c0_i32_447 v847
  let c1_i32_450 : BitVec 32 := 1#32
  let arg18 : BitVec 32 := Scf.iv v848 c1_i32_450 k0_t37
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v967 : Index := Scalar.indexCast v963
  let c0_511 : Index := 0#32
  ![0, v967.toNat, 0]
def k0_off340 (i : grid0.Coords) (k0_t37 : Fin (k0_t37_loop i).trips) (c0_i32_507 : BitVec 32) : Fin 3 → Nat :=
  let c0_520 : Index := 0#32
  let c0_521 : Index := 0#32
  let c0_i32_447 : BitVec 32 := 0#32
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let v844 : BitVec 32 := Scalar.subi v843 c0_i32_447
  let c1_i32_448 : BitVec 32 := 1#32
  let v846 : BitVec 32 := Scalar.divsi v844 c1_i32_448
  let v847 : BitVec 32 := Scalar.muli v846 c1_i32_448
  let v848 : BitVec 32 := Scalar.addi c0_i32_447 v847
  let c1_i32_450 : BitVec 32 := 1#32
  let arg18 : BitVec 32 := Scf.iv v848 c1_i32_450 k0_t37
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v989 : Index := Scalar.indexCast v963
  ![0, 0, v989.toNat]
def k0_mult65 (i : grid0.Coords) (k0_t37 : Fin (k0_t37_loop i).trips) : BitVec 32 :=
  let c0_i32_447 : BitVec 32 := 0#32
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let v844 : BitVec 32 := Scalar.subi v843 c0_i32_447
  let c1_i32_448 : BitVec 32 := 1#32
  let v846 : BitVec 32 := Scalar.divsi v844 c1_i32_448
  let v847 : BitVec 32 := Scalar.muli v846 c1_i32_448
  let v848 : BitVec 32 := Scalar.addi c0_i32_447 v847
  let c1_i32_450 : BitVec 32 := 1#32
  let arg18 : BitVec 32 := Scf.iv v848 c1_i32_450 k0_t37
  let c2_i32_523 : BitVec 32 := 2#32
  let v995 : BitVec 32 := Scalar.muli arg18 c2_i32_523
  let c1_i32_524 : BitVec 32 := 1#32
  let v996 : BitVec 32 := Scalar.addi v995 c1_i32_524
  let c512_i32_525 : BitVec 32 := 512#32
  let v997 : BitVec 32 := Scalar.muli v996 c512_i32_525
  v997
@[reducible] def k0_t38_loop (i : grid0.Coords) : Scf.Loop 32 :=
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let c2_i32_451 : BitVec 32 := 2#32
  let v851 : BitVec 32 := Scalar.muli v843 c2_i32_451
  let v852 : BitVec 32 := Scalar.subi v0 v851
  let c1_i32_452 : BitVec 32 := 1#32
  let v854 : BitVec 32 := Scalar.divsi v852 c1_i32_452
  let v855 : BitVec 32 := Scalar.muli v854 c1_i32_452
  let v856 : BitVec 32 := Scalar.addi v851 v855
  let c1_i32_453 : BitVec 32 := 1#32
  ⟨v851, v856, c1_i32_453⟩
def k0_mult66 (i : grid0.Coords) (k0_t38 : Fin (k0_t38_loop i).trips) : BitVec 32 :=
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let c2_i32_451 : BitVec 32 := 2#32
  let v851 : BitVec 32 := Scalar.muli v843 c2_i32_451
  let c1_i32_453 : BitVec 32 := 1#32
  let arg18 : BitVec 32 := Scf.iv v851 c1_i32_453 k0_t38
  let c512_i32_506 : BitVec 32 := 512#32
  let v960 : BitVec 32 := Scalar.muli arg18 c512_i32_506
  v960
def k0_off341 (i : grid0.Coords) (k0_t38 : Fin (k0_t38_loop i).trips) : Fin 2 → Nat :=
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let c2_i32_451 : BitVec 32 := 2#32
  let v851 : BitVec 32 := Scalar.muli v843 c2_i32_451
  let c1_i32_453 : BitVec 32 := 1#32
  let arg18 : BitVec 32 := Scf.iv v851 c1_i32_453 k0_t38
  let c512_i32_506 : BitVec 32 := 512#32
  let v960 : BitVec 32 := Scalar.muli arg18 c512_i32_506
  let v961 : BitVec 32 := v960
  let v962 : Index := Scalar.indexCast v961
  let c0_507 : Index := 0#32
  ![v962.toNat, 0]
def k0_off342 (i : grid0.Coords) (k0_t38 : Fin (k0_t38_loop i).trips) : Fin 3 → Nat :=
  let c0_508 : Index := 0#32
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let c2_i32_451 : BitVec 32 := 2#32
  let v851 : BitVec 32 := Scalar.muli v843 c2_i32_451
  let c1_i32_453 : BitVec 32 := 1#32
  let arg18 : BitVec 32 := Scf.iv v851 c1_i32_453 k0_t38
  let c512_i32_506 : BitVec 32 := 512#32
  let v960 : BitVec 32 := Scalar.muli arg18 c512_i32_506
  let v961 : BitVec 32 := v960
  let v965 : Index := Scalar.indexCast v961
  let c0_509 : Index := 0#32
  ![0, v965.toNat, 0]
def k0_off343 (i : grid0.Coords) (k0_t38 : Fin (k0_t38_loop i).trips) : Fin 3 → Nat :=
  let c0_518 : Index := 0#32
  let c0_519 : Index := 0#32
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let c2_i32_451 : BitVec 32 := 2#32
  let v851 : BitVec 32 := Scalar.muli v843 c2_i32_451
  let c1_i32_453 : BitVec 32 := 1#32
  let arg18 : BitVec 32 := Scf.iv v851 c1_i32_453 k0_t38
  let c512_i32_506 : BitVec 32 := 512#32
  let v960 : BitVec 32 := Scalar.muli arg18 c512_i32_506
  let v961 : BitVec 32 := v960
  let v987 : Index := Scalar.indexCast v961
  ![0, 0, v987.toNat]
@[reducible] def k0_t39_loop (i : grid0.Coords) : Scf.Loop 32 :=
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let c2_i32_451 : BitVec 32 := 2#32
  let v851 : BitVec 32 := Scalar.muli v843 c2_i32_451
  let v852 : BitVec 32 := Scalar.subi v0 v851
  let c1_i32_452 : BitVec 32 := 1#32
  let v854 : BitVec 32 := Scalar.divsi v852 c1_i32_452
  let v855 : BitVec 32 := Scalar.muli v854 c1_i32_452
  let v856 : BitVec 32 := Scalar.addi v851 v855
  let v853 : BitVec 32 := Scalar.addi v851 v852
  let c1_i32_454 : BitVec 32 := 1#32
  ⟨v856, v853, c1_i32_454⟩
def k0_mult67 (i : grid0.Coords) (k0_t39 : Fin (k0_t39_loop i).trips) : BitVec 32 :=
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let c2_i32_451 : BitVec 32 := 2#32
  let v851 : BitVec 32 := Scalar.muli v843 c2_i32_451
  let v852 : BitVec 32 := Scalar.subi v0 v851
  let c1_i32_452 : BitVec 32 := 1#32
  let v854 : BitVec 32 := Scalar.divsi v852 c1_i32_452
  let v855 : BitVec 32 := Scalar.muli v854 c1_i32_452
  let v856 : BitVec 32 := Scalar.addi v851 v855
  let c1_i32_454 : BitVec 32 := 1#32
  let arg18 : BitVec 32 := Scf.iv v856 c1_i32_454 k0_t39
  let c512_i32_506 : BitVec 32 := 512#32
  let v960 : BitVec 32 := Scalar.muli arg18 c512_i32_506
  v960
def k0_off344 (i : grid0.Coords) (k0_t39 : Fin (k0_t39_loop i).trips) : Fin 2 → Nat :=
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let c2_i32_451 : BitVec 32 := 2#32
  let v851 : BitVec 32 := Scalar.muli v843 c2_i32_451
  let v852 : BitVec 32 := Scalar.subi v0 v851
  let c1_i32_452 : BitVec 32 := 1#32
  let v854 : BitVec 32 := Scalar.divsi v852 c1_i32_452
  let v855 : BitVec 32 := Scalar.muli v854 c1_i32_452
  let v856 : BitVec 32 := Scalar.addi v851 v855
  let c1_i32_454 : BitVec 32 := 1#32
  let arg18 : BitVec 32 := Scf.iv v856 c1_i32_454 k0_t39
  let c512_i32_506 : BitVec 32 := 512#32
  let v960 : BitVec 32 := Scalar.muli arg18 c512_i32_506
  let v961 : BitVec 32 := v960
  let v962 : Index := Scalar.indexCast v961
  let c0_507 : Index := 0#32
  ![v962.toNat, 0]
def k0_off345 (i : grid0.Coords) (k0_t39 : Fin (k0_t39_loop i).trips) : Fin 3 → Nat :=
  let c0_508 : Index := 0#32
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let c2_i32_451 : BitVec 32 := 2#32
  let v851 : BitVec 32 := Scalar.muli v843 c2_i32_451
  let v852 : BitVec 32 := Scalar.subi v0 v851
  let c1_i32_452 : BitVec 32 := 1#32
  let v854 : BitVec 32 := Scalar.divsi v852 c1_i32_452
  let v855 : BitVec 32 := Scalar.muli v854 c1_i32_452
  let v856 : BitVec 32 := Scalar.addi v851 v855
  let c1_i32_454 : BitVec 32 := 1#32
  let arg18 : BitVec 32 := Scf.iv v856 c1_i32_454 k0_t39
  let c512_i32_506 : BitVec 32 := 512#32
  let v960 : BitVec 32 := Scalar.muli arg18 c512_i32_506
  let v961 : BitVec 32 := v960
  let v965 : Index := Scalar.indexCast v961
  let c0_509 : Index := 0#32
  ![0, v965.toNat, 0]
def k0_off346 (i : grid0.Coords) (k0_t39 : Fin (k0_t39_loop i).trips) : Fin 3 → Nat :=
  let c0_518 : Index := 0#32
  let c0_519 : Index := 0#32
  let arg1 : BitVec 32 := BitVec.ofNat 32 (i 1).val
  let c1_i32 : BitVec 32 := 1#32
  let v0 : BitVec 32 := Scalar.addi arg1 c1_i32
  let c0_i32_441 : BitVec 32 := 0#32
  let v828 : BitVec 1 := Scalar.cmpi .sgt v0 c0_i32_441
  let v829 : BitVec 32 := Scalar.extui v828
  let c0_i32_442 : BitVec 32 := 0#32
  let v830 : BitVec 1 := Scalar.cmpi .slt v0 c0_i32_442
  let v831 : BitVec 32 := Scalar.extui v830
  let v832 : BitVec 32 := Scalar.subi v829 v831
  let c2_i32_440 : BitVec 32 := 2#32
  let c0_i32_443 : BitVec 32 := 0#32
  let v833 : BitVec 1 := Scalar.cmpi .sgt c2_i32_440 c0_i32_443
  let v834 : BitVec 32 := Scalar.extui v833
  let c0_i32_444 : BitVec 32 := 0#32
  let v835 : BitVec 1 := Scalar.cmpi .slt c2_i32_440 c0_i32_444
  let v836 : BitVec 32 := Scalar.extui v835
  let v837 : BitVec 32 := Scalar.subi v834 v836
  let v838 : BitVec 1 := Scalar.cmpi .ne v832 v837
  let v839 : BitVec 32 := Scalar.remsi v0 c2_i32_440
  let c0_i32_445 : BitVec 32 := 0#32
  let v840 : BitVec 1 := Scalar.cmpi .ne v839 c0_i32_445
  let v841 : BitVec 1 := Scalar.andi v838 v840
  let v827 : BitVec 32 := Scalar.divsi v0 c2_i32_440
  let c1_i32_446 : BitVec 32 := 1#32
  let v842 : BitVec 32 := Scalar.subi v827 c1_i32_446
  let v843 : BitVec 32 := Scalar.select v841 v842 v827
  let c2_i32_451 : BitVec 32 := 2#32
  let v851 : BitVec 32 := Scalar.muli v843 c2_i32_451
  let v852 : BitVec 32 := Scalar.subi v0 v851
  let c1_i32_452 : BitVec 32 := 1#32
  let v854 : BitVec 32 := Scalar.divsi v852 c1_i32_452
  let v855 : BitVec 32 := Scalar.muli v854 c1_i32_452
  let v856 : BitVec 32 := Scalar.addi v851 v855
  let c1_i32_454 : BitVec 32 := 1#32
  let arg18 : BitVec 32 := Scf.iv v856 c1_i32_454 k0_t39
  let c512_i32_506 : BitVec 32 := 512#32
  let v960 : BitVec 32 := Scalar.muli arg18 c512_i32_506
  let v961 : BitVec 32 := v960
  let v987 : Index := Scalar.indexCast v961
  ![0, 0, v987.toNat]
@[reducible] def k0_t40_loop (i : grid0.Coords) : Scf.Loop 32 :=
  let c0_i32_469 : BitVec 32 := 0#32
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let v888 : BitVec 32 := Scalar.subi v887 c0_i32_469
  let c1_i32_470 : BitVec 32 := 1#32
  let v890 : BitVec 32 := Scalar.divsi v888 c1_i32_470
  let v891 : BitVec 32 := Scalar.muli v890 c1_i32_470
  let v892 : BitVec 32 := Scalar.addi c0_i32_469 v891
  let c1_i32_471 : BitVec 32 := 1#32
  ⟨c0_i32_469, v892, c1_i32_471⟩
def k0_mult68 (i : grid0.Coords) (k0_t40 : Fin (k0_t40_loop i).trips) : BitVec 32 :=
  let c0_i32_469 : BitVec 32 := 0#32
  let c1_i32_471 : BitVec 32 := 1#32
  let arg18 : BitVec 32 := Scf.iv c0_i32_469 c1_i32_471 k0_t40
  let c2_i32_506 : BitVec 32 := 2#32
  let v960 : BitVec 32 := Scalar.muli arg18 c2_i32_506
  let c0_i32_507 : BitVec 32 := 0#32
  let v961 : BitVec 32 := Scalar.addi v960 c0_i32_507
  let c512_i32_508 : BitVec 32 := 512#32
  let v962 : BitVec 32 := Scalar.muli v961 c512_i32_508
  v962
def k0_off347 (i : grid0.Coords) (k0_t40 : Fin (k0_t40_loop i).trips) (c0_i32_507 : BitVec 32) : Fin 2 → Nat :=
  let c0_i32_469 : BitVec 32 := 0#32
  let c1_i32_471 : BitVec 32 := 1#32
  let arg18 : BitVec 32 := Scf.iv c0_i32_469 c1_i32_471 k0_t40
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v964 : Index := Scalar.indexCast v963
  let c0_509 : Index := 0#32
  ![v964.toNat, 0]
def k0_off348 (i : grid0.Coords) (k0_t40 : Fin (k0_t40_loop i).trips) (c0_i32_507 : BitVec 32) : Fin 3 → Nat :=
  let c0_510 : Index := 0#32
  let c0_i32_469 : BitVec 32 := 0#32
  let c1_i32_471 : BitVec 32 := 1#32
  let arg18 : BitVec 32 := Scf.iv c0_i32_469 c1_i32_471 k0_t40
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v967 : Index := Scalar.indexCast v963
  let c0_511 : Index := 0#32
  ![0, v967.toNat, 0]
def k0_off349 (i : grid0.Coords) (k0_t40 : Fin (k0_t40_loop i).trips) (c0_i32_507 : BitVec 32) : Fin 3 → Nat :=
  let c0_520 : Index := 0#32
  let c0_521 : Index := 0#32
  let c0_i32_469 : BitVec 32 := 0#32
  let c1_i32_471 : BitVec 32 := 1#32
  let arg18 : BitVec 32 := Scf.iv c0_i32_469 c1_i32_471 k0_t40
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v989 : Index := Scalar.indexCast v963
  ![0, 0, v989.toNat]
def k0_mult69 (i : grid0.Coords) (k0_t40 : Fin (k0_t40_loop i).trips) : BitVec 32 :=
  let c0_i32_469 : BitVec 32 := 0#32
  let c1_i32_471 : BitVec 32 := 1#32
  let arg18 : BitVec 32 := Scf.iv c0_i32_469 c1_i32_471 k0_t40
  let c2_i32_523 : BitVec 32 := 2#32
  let v995 : BitVec 32 := Scalar.muli arg18 c2_i32_523
  let c1_i32_524 : BitVec 32 := 1#32
  let v996 : BitVec 32 := Scalar.addi v995 c1_i32_524
  let c512_i32_525 : BitVec 32 := 512#32
  let v997 : BitVec 32 := Scalar.muli v996 c512_i32_525
  v997
@[reducible] def k0_t41_loop (i : grid0.Coords) : Scf.Loop 32 :=
  let c0_i32_469 : BitVec 32 := 0#32
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let v888 : BitVec 32 := Scalar.subi v887 c0_i32_469
  let c1_i32_470 : BitVec 32 := 1#32
  let v890 : BitVec 32 := Scalar.divsi v888 c1_i32_470
  let v891 : BitVec 32 := Scalar.muli v890 c1_i32_470
  let v892 : BitVec 32 := Scalar.addi c0_i32_469 v891
  let v889 : BitVec 32 := Scalar.addi c0_i32_469 v888
  let c1_i32_472 : BitVec 32 := 1#32
  ⟨v892, v889, c1_i32_472⟩
def k0_mult70 (i : grid0.Coords) (k0_t41 : Fin (k0_t41_loop i).trips) : BitVec 32 :=
  let c0_i32_469 : BitVec 32 := 0#32
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let v888 : BitVec 32 := Scalar.subi v887 c0_i32_469
  let c1_i32_470 : BitVec 32 := 1#32
  let v890 : BitVec 32 := Scalar.divsi v888 c1_i32_470
  let v891 : BitVec 32 := Scalar.muli v890 c1_i32_470
  let v892 : BitVec 32 := Scalar.addi c0_i32_469 v891
  let c1_i32_472 : BitVec 32 := 1#32
  let arg18 : BitVec 32 := Scf.iv v892 c1_i32_472 k0_t41
  let c2_i32_506 : BitVec 32 := 2#32
  let v960 : BitVec 32 := Scalar.muli arg18 c2_i32_506
  let c0_i32_507 : BitVec 32 := 0#32
  let v961 : BitVec 32 := Scalar.addi v960 c0_i32_507
  let c512_i32_508 : BitVec 32 := 512#32
  let v962 : BitVec 32 := Scalar.muli v961 c512_i32_508
  v962
def k0_off350 (i : grid0.Coords) (k0_t41 : Fin (k0_t41_loop i).trips) (c0_i32_507 : BitVec 32) : Fin 2 → Nat :=
  let c0_i32_469 : BitVec 32 := 0#32
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let v888 : BitVec 32 := Scalar.subi v887 c0_i32_469
  let c1_i32_470 : BitVec 32 := 1#32
  let v890 : BitVec 32 := Scalar.divsi v888 c1_i32_470
  let v891 : BitVec 32 := Scalar.muli v890 c1_i32_470
  let v892 : BitVec 32 := Scalar.addi c0_i32_469 v891
  let c1_i32_472 : BitVec 32 := 1#32
  let arg18 : BitVec 32 := Scf.iv v892 c1_i32_472 k0_t41
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v964 : Index := Scalar.indexCast v963
  let c0_509 : Index := 0#32
  ![v964.toNat, 0]
def k0_off351 (i : grid0.Coords) (k0_t41 : Fin (k0_t41_loop i).trips) (c0_i32_507 : BitVec 32) : Fin 3 → Nat :=
  let c0_510 : Index := 0#32
  let c0_i32_469 : BitVec 32 := 0#32
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let v888 : BitVec 32 := Scalar.subi v887 c0_i32_469
  let c1_i32_470 : BitVec 32 := 1#32
  let v890 : BitVec 32 := Scalar.divsi v888 c1_i32_470
  let v891 : BitVec 32 := Scalar.muli v890 c1_i32_470
  let v892 : BitVec 32 := Scalar.addi c0_i32_469 v891
  let c1_i32_472 : BitVec 32 := 1#32
  let arg18 : BitVec 32 := Scf.iv v892 c1_i32_472 k0_t41
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v967 : Index := Scalar.indexCast v963
  let c0_511 : Index := 0#32
  ![0, v967.toNat, 0]
def k0_off352 (i : grid0.Coords) (k0_t41 : Fin (k0_t41_loop i).trips) (c0_i32_507 : BitVec 32) : Fin 3 → Nat :=
  let c0_520 : Index := 0#32
  let c0_521 : Index := 0#32
  let c0_i32_469 : BitVec 32 := 0#32
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let v888 : BitVec 32 := Scalar.subi v887 c0_i32_469
  let c1_i32_470 : BitVec 32 := 1#32
  let v890 : BitVec 32 := Scalar.divsi v888 c1_i32_470
  let v891 : BitVec 32 := Scalar.muli v890 c1_i32_470
  let v892 : BitVec 32 := Scalar.addi c0_i32_469 v891
  let c1_i32_472 : BitVec 32 := 1#32
  let arg18 : BitVec 32 := Scf.iv v892 c1_i32_472 k0_t41
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v989 : Index := Scalar.indexCast v963
  ![0, 0, v989.toNat]
def k0_mult71 (i : grid0.Coords) (k0_t41 : Fin (k0_t41_loop i).trips) : BitVec 32 :=
  let c0_i32_469 : BitVec 32 := 0#32
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let v888 : BitVec 32 := Scalar.subi v887 c0_i32_469
  let c1_i32_470 : BitVec 32 := 1#32
  let v890 : BitVec 32 := Scalar.divsi v888 c1_i32_470
  let v891 : BitVec 32 := Scalar.muli v890 c1_i32_470
  let v892 : BitVec 32 := Scalar.addi c0_i32_469 v891
  let c1_i32_472 : BitVec 32 := 1#32
  let arg18 : BitVec 32 := Scf.iv v892 c1_i32_472 k0_t41
  let c2_i32_523 : BitVec 32 := 2#32
  let v995 : BitVec 32 := Scalar.muli arg18 c2_i32_523
  let c1_i32_524 : BitVec 32 := 1#32
  let v996 : BitVec 32 := Scalar.addi v995 c1_i32_524
  let c512_i32_525 : BitVec 32 := 512#32
  let v997 : BitVec 32 := Scalar.muli v996 c512_i32_525
  v997
@[reducible] def k0_t42_loop (i : grid0.Coords) : Scf.Loop 32 :=
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let c2_i32_473 : BitVec 32 := 2#32
  let v895 : BitVec 32 := Scalar.muli v887 c2_i32_473
  let v896 : BitVec 32 := Scalar.subi v0 v895
  let c1_i32_474 : BitVec 32 := 1#32
  let v898 : BitVec 32 := Scalar.divsi v896 c1_i32_474
  let v899 : BitVec 32 := Scalar.muli v898 c1_i32_474
  let v900 : BitVec 32 := Scalar.addi v895 v899
  let c1_i32_475 : BitVec 32 := 1#32
  ⟨v895, v900, c1_i32_475⟩
def k0_mult72 (i : grid0.Coords) (k0_t42 : Fin (k0_t42_loop i).trips) : BitVec 32 :=
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let c2_i32_473 : BitVec 32 := 2#32
  let v895 : BitVec 32 := Scalar.muli v887 c2_i32_473
  let c1_i32_475 : BitVec 32 := 1#32
  let arg18 : BitVec 32 := Scf.iv v895 c1_i32_475 k0_t42
  let c512_i32_506 : BitVec 32 := 512#32
  let v960 : BitVec 32 := Scalar.muli arg18 c512_i32_506
  v960
def k0_off353 (i : grid0.Coords) (k0_t42 : Fin (k0_t42_loop i).trips) : Fin 2 → Nat :=
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let c2_i32_473 : BitVec 32 := 2#32
  let v895 : BitVec 32 := Scalar.muli v887 c2_i32_473
  let c1_i32_475 : BitVec 32 := 1#32
  let arg18 : BitVec 32 := Scf.iv v895 c1_i32_475 k0_t42
  let c512_i32_506 : BitVec 32 := 512#32
  let v960 : BitVec 32 := Scalar.muli arg18 c512_i32_506
  let v961 : BitVec 32 := v960
  let v962 : Index := Scalar.indexCast v961
  let c0_507 : Index := 0#32
  ![v962.toNat, 0]
def k0_off354 (i : grid0.Coords) (k0_t42 : Fin (k0_t42_loop i).trips) : Fin 3 → Nat :=
  let c0_508 : Index := 0#32
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let c2_i32_473 : BitVec 32 := 2#32
  let v895 : BitVec 32 := Scalar.muli v887 c2_i32_473
  let c1_i32_475 : BitVec 32 := 1#32
  let arg18 : BitVec 32 := Scf.iv v895 c1_i32_475 k0_t42
  let c512_i32_506 : BitVec 32 := 512#32
  let v960 : BitVec 32 := Scalar.muli arg18 c512_i32_506
  let v961 : BitVec 32 := v960
  let v965 : Index := Scalar.indexCast v961
  let c0_509 : Index := 0#32
  ![0, v965.toNat, 0]
def k0_off355 (i : grid0.Coords) (k0_t42 : Fin (k0_t42_loop i).trips) : Fin 3 → Nat :=
  let c0_518 : Index := 0#32
  let c0_519 : Index := 0#32
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let c2_i32_473 : BitVec 32 := 2#32
  let v895 : BitVec 32 := Scalar.muli v887 c2_i32_473
  let c1_i32_475 : BitVec 32 := 1#32
  let arg18 : BitVec 32 := Scf.iv v895 c1_i32_475 k0_t42
  let c512_i32_506 : BitVec 32 := 512#32
  let v960 : BitVec 32 := Scalar.muli arg18 c512_i32_506
  let v961 : BitVec 32 := v960
  let v987 : Index := Scalar.indexCast v961
  ![0, 0, v987.toNat]
@[reducible] def k0_t43_loop (i : grid0.Coords) : Scf.Loop 32 :=
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let c2_i32_473 : BitVec 32 := 2#32
  let v895 : BitVec 32 := Scalar.muli v887 c2_i32_473
  let v896 : BitVec 32 := Scalar.subi v0 v895
  let c1_i32_474 : BitVec 32 := 1#32
  let v898 : BitVec 32 := Scalar.divsi v896 c1_i32_474
  let v899 : BitVec 32 := Scalar.muli v898 c1_i32_474
  let v900 : BitVec 32 := Scalar.addi v895 v899
  let v897 : BitVec 32 := Scalar.addi v895 v896
  let c1_i32_476 : BitVec 32 := 1#32
  ⟨v900, v897, c1_i32_476⟩
def k0_mult73 (i : grid0.Coords) (k0_t43 : Fin (k0_t43_loop i).trips) : BitVec 32 :=
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let c2_i32_473 : BitVec 32 := 2#32
  let v895 : BitVec 32 := Scalar.muli v887 c2_i32_473
  let v896 : BitVec 32 := Scalar.subi v0 v895
  let c1_i32_474 : BitVec 32 := 1#32
  let v898 : BitVec 32 := Scalar.divsi v896 c1_i32_474
  let v899 : BitVec 32 := Scalar.muli v898 c1_i32_474
  let v900 : BitVec 32 := Scalar.addi v895 v899
  let c1_i32_476 : BitVec 32 := 1#32
  let arg18 : BitVec 32 := Scf.iv v900 c1_i32_476 k0_t43
  let c512_i32_506 : BitVec 32 := 512#32
  let v960 : BitVec 32 := Scalar.muli arg18 c512_i32_506
  v960
def k0_off356 (i : grid0.Coords) (k0_t43 : Fin (k0_t43_loop i).trips) : Fin 2 → Nat :=
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let c2_i32_473 : BitVec 32 := 2#32
  let v895 : BitVec 32 := Scalar.muli v887 c2_i32_473
  let v896 : BitVec 32 := Scalar.subi v0 v895
  let c1_i32_474 : BitVec 32 := 1#32
  let v898 : BitVec 32 := Scalar.divsi v896 c1_i32_474
  let v899 : BitVec 32 := Scalar.muli v898 c1_i32_474
  let v900 : BitVec 32 := Scalar.addi v895 v899
  let c1_i32_476 : BitVec 32 := 1#32
  let arg18 : BitVec 32 := Scf.iv v900 c1_i32_476 k0_t43
  let c512_i32_506 : BitVec 32 := 512#32
  let v960 : BitVec 32 := Scalar.muli arg18 c512_i32_506
  let v961 : BitVec 32 := v960
  let v962 : Index := Scalar.indexCast v961
  let c0_507 : Index := 0#32
  ![v962.toNat, 0]
def k0_off357 (i : grid0.Coords) (k0_t43 : Fin (k0_t43_loop i).trips) : Fin 3 → Nat :=
  let c0_508 : Index := 0#32
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let c2_i32_473 : BitVec 32 := 2#32
  let v895 : BitVec 32 := Scalar.muli v887 c2_i32_473
  let v896 : BitVec 32 := Scalar.subi v0 v895
  let c1_i32_474 : BitVec 32 := 1#32
  let v898 : BitVec 32 := Scalar.divsi v896 c1_i32_474
  let v899 : BitVec 32 := Scalar.muli v898 c1_i32_474
  let v900 : BitVec 32 := Scalar.addi v895 v899
  let c1_i32_476 : BitVec 32 := 1#32
  let arg18 : BitVec 32 := Scf.iv v900 c1_i32_476 k0_t43
  let c512_i32_506 : BitVec 32 := 512#32
  let v960 : BitVec 32 := Scalar.muli arg18 c512_i32_506
  let v961 : BitVec 32 := v960
  let v965 : Index := Scalar.indexCast v961
  let c0_509 : Index := 0#32
  ![0, v965.toNat, 0]
def k0_off358 (i : grid0.Coords) (k0_t43 : Fin (k0_t43_loop i).trips) : Fin 3 → Nat :=
  let c0_518 : Index := 0#32
  let c0_519 : Index := 0#32
  let arg1 : BitVec 32 := BitVec.ofNat 32 (i 1).val
  let c1_i32 : BitVec 32 := 1#32
  let v0 : BitVec 32 := Scalar.addi arg1 c1_i32
  let c0_i32_463 : BitVec 32 := 0#32
  let v872 : BitVec 1 := Scalar.cmpi .sgt v0 c0_i32_463
  let v873 : BitVec 32 := Scalar.extui v872
  let c0_i32_464 : BitVec 32 := 0#32
  let v874 : BitVec 1 := Scalar.cmpi .slt v0 c0_i32_464
  let v875 : BitVec 32 := Scalar.extui v874
  let v876 : BitVec 32 := Scalar.subi v873 v875
  let c2_i32_462 : BitVec 32 := 2#32
  let c0_i32_465 : BitVec 32 := 0#32
  let v877 : BitVec 1 := Scalar.cmpi .sgt c2_i32_462 c0_i32_465
  let v878 : BitVec 32 := Scalar.extui v877
  let c0_i32_466 : BitVec 32 := 0#32
  let v879 : BitVec 1 := Scalar.cmpi .slt c2_i32_462 c0_i32_466
  let v880 : BitVec 32 := Scalar.extui v879
  let v881 : BitVec 32 := Scalar.subi v878 v880
  let v882 : BitVec 1 := Scalar.cmpi .ne v876 v881
  let v883 : BitVec 32 := Scalar.remsi v0 c2_i32_462
  let c0_i32_467 : BitVec 32 := 0#32
  let v884 : BitVec 1 := Scalar.cmpi .ne v883 c0_i32_467
  let v885 : BitVec 1 := Scalar.andi v882 v884
  let v871 : BitVec 32 := Scalar.divsi v0 c2_i32_462
  let c1_i32_468 : BitVec 32 := 1#32
  let v886 : BitVec 32 := Scalar.subi v871 c1_i32_468
  let v887 : BitVec 32 := Scalar.select v885 v886 v871
  let c2_i32_473 : BitVec 32 := 2#32
  let v895 : BitVec 32 := Scalar.muli v887 c2_i32_473
  let v896 : BitVec 32 := Scalar.subi v0 v895
  let c1_i32_474 : BitVec 32 := 1#32
  let v898 : BitVec 32 := Scalar.divsi v896 c1_i32_474
  let v899 : BitVec 32 := Scalar.muli v898 c1_i32_474
  let v900 : BitVec 32 := Scalar.addi v895 v899
  let c1_i32_476 : BitVec 32 := 1#32
  let arg18 : BitVec 32 := Scf.iv v900 c1_i32_476 k0_t43
  let c512_i32_506 : BitVec 32 := 512#32
  let v960 : BitVec 32 := Scalar.muli arg18 c512_i32_506
  let v961 : BitVec 32 := v960
  let v987 : Index := Scalar.indexCast v961
  ![0, 0, v987.toNat]
@[reducible] def k0_t44_loop (i : grid0.Coords) : Scf.Loop 32 :=
  let c0_i32_491 : BitVec 32 := 0#32
  let arg1 : BitVec 32 := BitVec.ofNat 32 (i 1).val
  let c1_i32 : BitVec 32 := 1#32
  let v0 : BitVec 32 := Scalar.addi arg1 c1_i32
  let c0_i32_485 : BitVec 32 := 0#32
  let v916 : BitVec 1 := Scalar.cmpi .sgt v0 c0_i32_485
  let v917 : BitVec 32 := Scalar.extui v916
  let c0_i32_486 : BitVec 32 := 0#32
  let v918 : BitVec 1 := Scalar.cmpi .slt v0 c0_i32_486
  let v919 : BitVec 32 := Scalar.extui v918
  let v920 : BitVec 32 := Scalar.subi v917 v919
  let c2_i32_484 : BitVec 32 := 2#32
  let c0_i32_487 : BitVec 32 := 0#32
  let v921 : BitVec 1 := Scalar.cmpi .sgt c2_i32_484 c0_i32_487
  let v922 : BitVec 32 := Scalar.extui v921
  let c0_i32_488 : BitVec 32 := 0#32
  let v923 : BitVec 1 := Scalar.cmpi .slt c2_i32_484 c0_i32_488
  let v924 : BitVec 32 := Scalar.extui v923
  let v925 : BitVec 32 := Scalar.subi v922 v924
  let v926 : BitVec 1 := Scalar.cmpi .ne v920 v925
  let v927 : BitVec 32 := Scalar.remsi v0 c2_i32_484
  let c0_i32_489 : BitVec 32 := 0#32
  let v928 : BitVec 1 := Scalar.cmpi .ne v927 c0_i32_489
  let v929 : BitVec 1 := Scalar.andi v926 v928
  let v915 : BitVec 32 := Scalar.divsi v0 c2_i32_484
  let c1_i32_490 : BitVec 32 := 1#32
  let v930 : BitVec 32 := Scalar.subi v915 c1_i32_490
  let v931 : BitVec 32 := Scalar.select v929 v930 v915
  let v932 : BitVec 32 := Scalar.subi v931 c0_i32_491
  let c1_i32_492 : BitVec 32 := 1#32
  let v934 : BitVec 32 := Scalar.divsi v932 c1_i32_492
  let v935 : BitVec 32 := Scalar.muli v934 c1_i32_492
  let v936 : BitVec 32 := Scalar.addi c0_i32_491 v935
  let c1_i32_493 : BitVec 32 := 1#32
  ⟨c0_i32_491, v936, c1_i32_493⟩
def k0_mult74 (i : grid0.Coords) (k0_t44 : Fin (k0_t44_loop i).trips) : BitVec 32 :=
  let c0_i32_491 : BitVec 32 := 0#32
  let c1_i32_493 : BitVec 32 := 1#32
  let arg18 : BitVec 32 := Scf.iv c0_i32_491 c1_i32_493 k0_t44
  let c2_i32_506 : BitVec 32 := 2#32
  let v960 : BitVec 32 := Scalar.muli arg18 c2_i32_506
  let c0_i32_507 : BitVec 32 := 0#32
  let v961 : BitVec 32 := Scalar.addi v960 c0_i32_507
  let c512_i32_508 : BitVec 32 := 512#32
  let v962 : BitVec 32 := Scalar.muli v961 c512_i32_508
  v962
def k0_off359 (i : grid0.Coords) (k0_t44 : Fin (k0_t44_loop i).trips) (c0_i32_507 : BitVec 32) : Fin 2 → Nat :=
  let c0_i32_491 : BitVec 32 := 0#32
  let c1_i32_493 : BitVec 32 := 1#32
  let arg18 : BitVec 32 := Scf.iv c0_i32_491 c1_i32_493 k0_t44
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v964 : Index := Scalar.indexCast v963
  let c0_509 : Index := 0#32
  ![v964.toNat, 0]
def k0_off360 (i : grid0.Coords) (k0_t44 : Fin (k0_t44_loop i).trips) (c0_i32_507 : BitVec 32) : Fin 3 → Nat :=
  let c0_511 : Index := 0#32
  let c0_512 : Index := 0#32
  let c0_i32_491 : BitVec 32 := 0#32
  let c1_i32_493 : BitVec 32 := 1#32
  let arg18 : BitVec 32 := Scf.iv c0_i32_491 c1_i32_493 k0_t44
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v972 : Index := Scalar.indexCast v963
  ![0, 0, v972.toNat]
def k0_mult75 (i : grid0.Coords) (k0_t44 : Fin (k0_t44_loop i).trips) : BitVec 32 :=
  let c0_i32_491 : BitVec 32 := 0#32
  let c1_i32_493 : BitVec 32 := 1#32
  let arg18 : BitVec 32 := Scf.iv c0_i32_491 c1_i32_493 k0_t44
  let c2_i32_514 : BitVec 32 := 2#32
  let v978 : BitVec 32 := Scalar.muli arg18 c2_i32_514
  let c1_i32_515 : BitVec 32 := 1#32
  let v979 : BitVec 32 := Scalar.addi v978 c1_i32_515
  let c512_i32_516 : BitVec 32 := 512#32
  let v980 : BitVec 32 := Scalar.muli v979 c512_i32_516
  v980
@[reducible] def k0_t45_loop (i : grid0.Coords) : Scf.Loop 32 :=
  let c0_i32_491 : BitVec 32 := 0#32
  let arg1 : BitVec 32 := BitVec.ofNat 32 (i 1).val
  let c1_i32 : BitVec 32 := 1#32
  let v0 : BitVec 32 := Scalar.addi arg1 c1_i32
  let c0_i32_485 : BitVec 32 := 0#32
  let v916 : BitVec 1 := Scalar.cmpi .sgt v0 c0_i32_485
  let v917 : BitVec 32 := Scalar.extui v916
  let c0_i32_486 : BitVec 32 := 0#32
  let v918 : BitVec 1 := Scalar.cmpi .slt v0 c0_i32_486
  let v919 : BitVec 32 := Scalar.extui v918
  let v920 : BitVec 32 := Scalar.subi v917 v919
  let c2_i32_484 : BitVec 32 := 2#32
  let c0_i32_487 : BitVec 32 := 0#32
  let v921 : BitVec 1 := Scalar.cmpi .sgt c2_i32_484 c0_i32_487
  let v922 : BitVec 32 := Scalar.extui v921
  let c0_i32_488 : BitVec 32 := 0#32
  let v923 : BitVec 1 := Scalar.cmpi .slt c2_i32_484 c0_i32_488
  let v924 : BitVec 32 := Scalar.extui v923
  let v925 : BitVec 32 := Scalar.subi v922 v924
  let v926 : BitVec 1 := Scalar.cmpi .ne v920 v925
  let v927 : BitVec 32 := Scalar.remsi v0 c2_i32_484
  let c0_i32_489 : BitVec 32 := 0#32
  let v928 : BitVec 1 := Scalar.cmpi .ne v927 c0_i32_489
  let v929 : BitVec 1 := Scalar.andi v926 v928
  let v915 : BitVec 32 := Scalar.divsi v0 c2_i32_484
  let c1_i32_490 : BitVec 32 := 1#32
  let v930 : BitVec 32 := Scalar.subi v915 c1_i32_490
  let v931 : BitVec 32 := Scalar.select v929 v930 v915
  let v932 : BitVec 32 := Scalar.subi v931 c0_i32_491
  let c1_i32_492 : BitVec 32 := 1#32
  let v934 : BitVec 32 := Scalar.divsi v932 c1_i32_492
  let v935 : BitVec 32 := Scalar.muli v934 c1_i32_492
  let v936 : BitVec 32 := Scalar.addi c0_i32_491 v935
  let v933 : BitVec 32 := Scalar.addi c0_i32_491 v932
  let c1_i32_494 : BitVec 32 := 1#32
  ⟨v936, v933, c1_i32_494⟩
def k0_mult76 (i : grid0.Coords) (k0_t45 : Fin (k0_t45_loop i).trips) : BitVec 32 :=
  let c0_i32_491 : BitVec 32 := 0#32
  let arg1 : BitVec 32 := BitVec.ofNat 32 (i 1).val
  let c1_i32 : BitVec 32 := 1#32
  let v0 : BitVec 32 := Scalar.addi arg1 c1_i32
  let c0_i32_485 : BitVec 32 := 0#32
  let v916 : BitVec 1 := Scalar.cmpi .sgt v0 c0_i32_485
  let v917 : BitVec 32 := Scalar.extui v916
  let c0_i32_486 : BitVec 32 := 0#32
  let v918 : BitVec 1 := Scalar.cmpi .slt v0 c0_i32_486
  let v919 : BitVec 32 := Scalar.extui v918
  let v920 : BitVec 32 := Scalar.subi v917 v919
  let c2_i32_484 : BitVec 32 := 2#32
  let c0_i32_487 : BitVec 32 := 0#32
  let v921 : BitVec 1 := Scalar.cmpi .sgt c2_i32_484 c0_i32_487
  let v922 : BitVec 32 := Scalar.extui v921
  let c0_i32_488 : BitVec 32 := 0#32
  let v923 : BitVec 1 := Scalar.cmpi .slt c2_i32_484 c0_i32_488
  let v924 : BitVec 32 := Scalar.extui v923
  let v925 : BitVec 32 := Scalar.subi v922 v924
  let v926 : BitVec 1 := Scalar.cmpi .ne v920 v925
  let v927 : BitVec 32 := Scalar.remsi v0 c2_i32_484
  let c0_i32_489 : BitVec 32 := 0#32
  let v928 : BitVec 1 := Scalar.cmpi .ne v927 c0_i32_489
  let v929 : BitVec 1 := Scalar.andi v926 v928
  let v915 : BitVec 32 := Scalar.divsi v0 c2_i32_484
  let c1_i32_490 : BitVec 32 := 1#32
  let v930 : BitVec 32 := Scalar.subi v915 c1_i32_490
  let v931 : BitVec 32 := Scalar.select v929 v930 v915
  let v932 : BitVec 32 := Scalar.subi v931 c0_i32_491
  let c1_i32_492 : BitVec 32 := 1#32
  let v934 : BitVec 32 := Scalar.divsi v932 c1_i32_492
  let v935 : BitVec 32 := Scalar.muli v934 c1_i32_492
  let v936 : BitVec 32 := Scalar.addi c0_i32_491 v935
  let c1_i32_494 : BitVec 32 := 1#32
  let arg18 : BitVec 32 := Scf.iv v936 c1_i32_494 k0_t45
  let c2_i32_506 : BitVec 32 := 2#32
  let v960 : BitVec 32 := Scalar.muli arg18 c2_i32_506
  let c0_i32_507 : BitVec 32 := 0#32
  let v961 : BitVec 32 := Scalar.addi v960 c0_i32_507
  let c512_i32_508 : BitVec 32 := 512#32
  let v962 : BitVec 32 := Scalar.muli v961 c512_i32_508
  v962
def k0_off361 (i : grid0.Coords) (k0_t45 : Fin (k0_t45_loop i).trips) (c0_i32_507 : BitVec 32) : Fin 2 → Nat :=
  let c0_i32_491 : BitVec 32 := 0#32
  let arg1 : BitVec 32 := BitVec.ofNat 32 (i 1).val
  let c1_i32 : BitVec 32 := 1#32
  let v0 : BitVec 32 := Scalar.addi arg1 c1_i32
  let c0_i32_485 : BitVec 32 := 0#32
  let v916 : BitVec 1 := Scalar.cmpi .sgt v0 c0_i32_485
  let v917 : BitVec 32 := Scalar.extui v916
  let c0_i32_486 : BitVec 32 := 0#32
  let v918 : BitVec 1 := Scalar.cmpi .slt v0 c0_i32_486
  let v919 : BitVec 32 := Scalar.extui v918
  let v920 : BitVec 32 := Scalar.subi v917 v919
  let c2_i32_484 : BitVec 32 := 2#32
  let c0_i32_487 : BitVec 32 := 0#32
  let v921 : BitVec 1 := Scalar.cmpi .sgt c2_i32_484 c0_i32_487
  let v922 : BitVec 32 := Scalar.extui v921
  let c0_i32_488 : BitVec 32 := 0#32
  let v923 : BitVec 1 := Scalar.cmpi .slt c2_i32_484 c0_i32_488
  let v924 : BitVec 32 := Scalar.extui v923
  let v925 : BitVec 32 := Scalar.subi v922 v924
  let v926 : BitVec 1 := Scalar.cmpi .ne v920 v925
  let v927 : BitVec 32 := Scalar.remsi v0 c2_i32_484
  let c0_i32_489 : BitVec 32 := 0#32
  let v928 : BitVec 1 := Scalar.cmpi .ne v927 c0_i32_489
  let v929 : BitVec 1 := Scalar.andi v926 v928
  let v915 : BitVec 32 := Scalar.divsi v0 c2_i32_484
  let c1_i32_490 : BitVec 32 := 1#32
  let v930 : BitVec 32 := Scalar.subi v915 c1_i32_490
  let v931 : BitVec 32 := Scalar.select v929 v930 v915
  let v932 : BitVec 32 := Scalar.subi v931 c0_i32_491
  let c1_i32_492 : BitVec 32 := 1#32
  let v934 : BitVec 32 := Scalar.divsi v932 c1_i32_492
  let v935 : BitVec 32 := Scalar.muli v934 c1_i32_492
  let v936 : BitVec 32 := Scalar.addi c0_i32_491 v935
  let c1_i32_494 : BitVec 32 := 1#32
  let arg18 : BitVec 32 := Scf.iv v936 c1_i32_494 k0_t45
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v964 : Index := Scalar.indexCast v963
  let c0_509 : Index := 0#32
  ![v964.toNat, 0]
def k0_off362 (i : grid0.Coords) (k0_t45 : Fin (k0_t45_loop i).trips) (c0_i32_507 : BitVec 32) : Fin 3 → Nat :=
  let c0_511 : Index := 0#32
  let c0_512 : Index := 0#32
  let c0_i32_491 : BitVec 32 := 0#32
  let arg1 : BitVec 32 := BitVec.ofNat 32 (i 1).val
  let c1_i32 : BitVec 32 := 1#32
  let v0 : BitVec 32 := Scalar.addi arg1 c1_i32
  let c0_i32_485 : BitVec 32 := 0#32
  let v916 : BitVec 1 := Scalar.cmpi .sgt v0 c0_i32_485
  let v917 : BitVec 32 := Scalar.extui v916
  let c0_i32_486 : BitVec 32 := 0#32
  let v918 : BitVec 1 := Scalar.cmpi .slt v0 c0_i32_486
  let v919 : BitVec 32 := Scalar.extui v918
  let v920 : BitVec 32 := Scalar.subi v917 v919
  let c2_i32_484 : BitVec 32 := 2#32
  let c0_i32_487 : BitVec 32 := 0#32
  let v921 : BitVec 1 := Scalar.cmpi .sgt c2_i32_484 c0_i32_487
  let v922 : BitVec 32 := Scalar.extui v921
  let c0_i32_488 : BitVec 32 := 0#32
  let v923 : BitVec 1 := Scalar.cmpi .slt c2_i32_484 c0_i32_488
  let v924 : BitVec 32 := Scalar.extui v923
  let v925 : BitVec 32 := Scalar.subi v922 v924
  let v926 : BitVec 1 := Scalar.cmpi .ne v920 v925
  let v927 : BitVec 32 := Scalar.remsi v0 c2_i32_484
  let c0_i32_489 : BitVec 32 := 0#32
  let v928 : BitVec 1 := Scalar.cmpi .ne v927 c0_i32_489
  let v929 : BitVec 1 := Scalar.andi v926 v928
  let v915 : BitVec 32 := Scalar.divsi v0 c2_i32_484
  let c1_i32_490 : BitVec 32 := 1#32
  let v930 : BitVec 32 := Scalar.subi v915 c1_i32_490
  let v931 : BitVec 32 := Scalar.select v929 v930 v915
  let v932 : BitVec 32 := Scalar.subi v931 c0_i32_491
  let c1_i32_492 : BitVec 32 := 1#32
  let v934 : BitVec 32 := Scalar.divsi v932 c1_i32_492
  let v935 : BitVec 32 := Scalar.muli v934 c1_i32_492
  let v936 : BitVec 32 := Scalar.addi c0_i32_491 v935
  let c1_i32_494 : BitVec 32 := 1#32
  let arg18 : BitVec 32 := Scf.iv v936 c1_i32_494 k0_t45
  let c2_i32_506 : BitVec 32 := 2#32
  let v960 : BitVec 32 := Scalar.muli arg18 c2_i32_506
  let v961 : BitVec 32 := Scalar.addi v960 c0_i32_507
  let c512_i32_508 : BitVec 32 := 512#32
  let v962 : BitVec 32 := Scalar.muli v961 c512_i32_508
  let v963 : BitVec 32 := v962
  let v972 : Index := Scalar.indexCast v963
  ![0, 0, v972.toNat]
def k0_mult77 (i : grid0.Coords) (k0_t45 : Fin (k0_t45_loop i).trips) : BitVec 32 :=
  let c0_i32_491 : BitVec 32 := 0#32
  let arg1 : BitVec 32 := BitVec.ofNat 32 (i 1).val
  let c1_i32 : BitVec 32 := 1#32
  let v0 : BitVec 32 := Scalar.addi arg1 c1_i32
  let c0_i32_485 : BitVec 32 := 0#32
  let v916 : BitVec 1 := Scalar.cmpi .sgt v0 c0_i32_485
  let v917 : BitVec 32 := Scalar.extui v916
  let c0_i32_486 : BitVec 32 := 0#32
  let v918 : BitVec 1 := Scalar.cmpi .slt v0 c0_i32_486
  let v919 : BitVec 32 := Scalar.extui v918
  let v920 : BitVec 32 := Scalar.subi v917 v919
  let c2_i32_484 : BitVec 32 := 2#32
  let c0_i32_487 : BitVec 32 := 0#32
  let v921 : BitVec 1 := Scalar.cmpi .sgt c2_i32_484 c0_i32_487
  let v922 : BitVec 32 := Scalar.extui v921
  let c0_i32_488 : BitVec 32 := 0#32
  let v923 : BitVec 1 := Scalar.cmpi .slt c2_i32_484 c0_i32_488
  let v924 : BitVec 32 := Scalar.extui v923
  let v925 : BitVec 32 := Scalar.subi v922 v924
  let v926 : BitVec 1 := Scalar.cmpi .ne v920 v925
  let v927 : BitVec 32 := Scalar.remsi v0 c2_i32_484
  let c0_i32_489 : BitVec 32 := 0#32
  let v928 : BitVec 1 := Scalar.cmpi .ne v927 c0_i32_489
  let v929 : BitVec 1 := Scalar.andi v926 v928
  let v915 : BitVec 32 := Scalar.divsi v0 c2_i32_484
  let c1_i32_490 : BitVec 32 := 1#32
  let v930 : BitVec 32 := Scalar.subi v915 c1_i32_490
  let v931 : BitVec 32 := Scalar.select v929 v930 v915
  let v932 : BitVec 32 := Scalar.subi v931 c0_i32_491
  let c1_i32_492 : BitVec 32 := 1#32
  let v934 : BitVec 32 := Scalar.divsi v932 c1_i32_492
  let v935 : BitVec 32 := Scalar.muli v934 c1_i32_492
  let v936 : BitVec 32 := Scalar.addi c0_i32_491 v935
  let c1_i32_494 : BitVec 32 := 1#32
  let arg18 : BitVec 32 := Scf.iv v936 c1_i32_494 k0_t45
  let c2_i32_514 : BitVec 32 := 2#32
  let v978 : BitVec 32 := Scalar.muli arg18 c2_i32_514
  let c1_i32_515 : BitVec 32 := 1#32
  let v979 : BitVec 32 := Scalar.addi v978 c1_i32_515
  let c512_i32_516 : BitVec 32 := 512#32
  let v980 : BitVec 32 := Scalar.muli v979 c512_i32_516
  v980
@[reducible] def k0_t46_loop (i : grid0.Coords) : Scf.Loop 32 :=
  let arg1 : BitVec 32 := BitVec.ofNat 32 (i 1).val
  let c1_i32 : BitVec 32 := 1#32
  let v0 : BitVec 32 := Scalar.addi arg1 c1_i32
  let c0_i32_485 : BitVec 32 := 0#32
  let v916 : BitVec 1 := Scalar.cmpi .sgt v0 c0_i32_485
  let v917 : BitVec 32 := Scalar.extui v916
  let c0_i32_486 : BitVec 32 := 0#32
  let v918 : BitVec 1 := Scalar.cmpi .slt v0 c0_i32_486
  let v919 : BitVec 32 := Scalar.extui v918
  let v920 : BitVec 32 := Scalar.subi v917 v919
  let c2_i32_484 : BitVec 32 := 2#32
  let c0_i32_487 : BitVec 32 := 0#32
  let v921 : BitVec 1 := Scalar.cmpi .sgt c2_i32_484 c0_i32_487
  let v922 : BitVec 32 := Scalar.extui v921
  let c0_i32_488 : BitVec 32 := 0#32
  let v923 : BitVec 1 := Scalar.cmpi .slt c2_i32_484 c0_i32_488
  let v924 : BitVec 32 := Scalar.extui v923
  let v925 : BitVec 32 := Scalar.subi v922 v924
  let v926 : BitVec 1 := Scalar.cmpi .ne v920 v925
  let v927 : BitVec 32 := Scalar.remsi v0 c2_i32_484
  let c0_i32_489 : BitVec 32 := 0#32
  let v928 : BitVec 1 := Scalar.cmpi .ne v927 c0_i32_489
  let v929 : BitVec 1 := Scalar.andi v926 v928
  let v915 : BitVec 32 := Scalar.divsi v0 c2_i32_484
  let c1_i32_490 : BitVec 32 := 1#32
  let v930 : BitVec 32 := Scalar.subi v915 c1_i32_490
  let v931 : BitVec 32 := Scalar.select v929 v930 v915
  let c2_i32_495 : BitVec 32 := 2#32
  let v939 : BitVec 32 := Scalar.muli v931 c2_i32_495
  let v940 : BitVec 32 := Scalar.subi v0 v939
  let c1_i32_496 : BitVec 32 := 1#32
  let v942 : BitVec 32 := Scalar.divsi v940 c1_i32_496
  let v943 : BitVec 32 := Scalar.muli v942 c1_i32_496
  let v944 : BitVec 32 := Scalar.addi v939 v943
  let c1_i32_497 : BitVec 32 := 1#32
  ⟨v939, v944, c1_i32_497⟩
def k0_mult78 (i : grid0.Coords) (k0_t46 : Fin (k0_t46_loop i).trips) : BitVec 32 :=
  let arg1 : BitVec 32 := BitVec.ofNat 32 (i 1).val
  let c1_i32 : BitVec 32 := 1#32
  let v0 : BitVec 32 := Scalar.addi arg1 c1_i32
  let c0_i32_485 : BitVec 32 := 0#32
  let v916 : BitVec 1 := Scalar.cmpi .sgt v0 c0_i32_485
  let v917 : BitVec 32 := Scalar.extui v916
  let c0_i32_486 : BitVec 32 := 0#32
  let v918 : BitVec 1 := Scalar.cmpi .slt v0 c0_i32_486
  let v919 : BitVec 32 := Scalar.extui v918
  let v920 : BitVec 32 := Scalar.subi v917 v919
  let c2_i32_484 : BitVec 32 := 2#32
  let c0_i32_487 : BitVec 32 := 0#32
  let v921 : BitVec 1 := Scalar.cmpi .sgt c2_i32_484 c0_i32_487
  let v922 : BitVec 32 := Scalar.extui v921
  let c0_i32_488 : BitVec 32 := 0#32
  let v923 : BitVec 1 := Scalar.cmpi .slt c2_i32_484 c0_i32_488
  let v924 : BitVec 32 := Scalar.extui v923
  let v925 : BitVec 32 := Scalar.subi v922 v924
  let v926 : BitVec 1 := Scalar.cmpi .ne v920 v925
  let v927 : BitVec 32 := Scalar.remsi v0 c2_i32_484
  let c0_i32_489 : BitVec 32 := 0#32
  let v928 : BitVec 1 := Scalar.cmpi .ne v927 c0_i32_489
  let v929 : BitVec 1 := Scalar.andi v926 v928
  let v915 : BitVec 32 := Scalar.divsi v0 c2_i32_484
  let c1_i32_490 : BitVec 32 := 1#32
  let v930 : BitVec 32 := Scalar.subi v915 c1_i32_490
  let v931 : BitVec 32 := Scalar.select v929 v930 v915
  let c2_i32_495 : BitVec 32 := 2#32
  let v939 : BitVec 32 := Scalar.muli v931 c2_i32_495
  let c1_i32_497 : BitVec 32 := 1#32
  let arg18 : BitVec 32 := Scf.iv v939 c1_i32_497 k0_t46
  let c512_i32_506 : BitVec 32 := 512#32
  let v960 : BitVec 32 := Scalar.muli arg18 c512_i32_506
  v960
def k0_off363 (i : grid0.Coords) (k0_t46 : Fin (k0_t46_loop i).trips) : Fin 2 → Nat :=
  let arg1 : BitVec 32 := BitVec.ofNat 32 (i 1).val
  let c1_i32 : BitVec 32 := 1#32
  let v0 : BitVec 32 := Scalar.addi arg1 c1_i32
  let c0_i32_485 : BitVec 32 := 0#32
  let v916 : BitVec 1 := Scalar.cmpi .sgt v0 c0_i32_485
  let v917 : BitVec 32 := Scalar.extui v916
  let c0_i32_486 : BitVec 32 := 0#32
  let v918 : BitVec 1 := Scalar.cmpi .slt v0 c0_i32_486
  let v919 : BitVec 32 := Scalar.extui v918
  let v920 : BitVec 32 := Scalar.subi v917 v919
  let c2_i32_484 : BitVec 32 := 2#32
  let c0_i32_487 : BitVec 32 := 0#32
  let v921 : BitVec 1 := Scalar.cmpi .sgt c2_i32_484 c0_i32_487
  let v922 : BitVec 32 := Scalar.extui v921
  let c0_i32_488 : BitVec 32 := 0#32
  let v923 : BitVec 1 := Scalar.cmpi .slt c2_i32_484 c0_i32_488
  let v924 : BitVec 32 := Scalar.extui v923
  let v925 : BitVec 32 := Scalar.subi v922 v924
  let v926 : BitVec 1 := Scalar.cmpi .ne v920 v925
  let v927 : BitVec 32 := Scalar.remsi v0 c2_i32_484
  let c0_i32_489 : BitVec 32 := 0#32
  let v928 : BitVec 1 := Scalar.cmpi .ne v927 c0_i32_489
  let v929 : BitVec 1 := Scalar.andi v926 v928
  let v915 : BitVec 32 := Scalar.divsi v0 c2_i32_484
  let c1_i32_490 : BitVec 32 := 1#32
  let v930 : BitVec 32 := Scalar.subi v915 c1_i32_490
  let v931 : BitVec 32 := Scalar.select v929 v930 v915
  let c2_i32_495 : BitVec 32 := 2#32
  let v939 : BitVec 32 := Scalar.muli v931 c2_i32_495
  let c1_i32_497 : BitVec 32 := 1#32
  let arg18 : BitVec 32 := Scf.iv v939 c1_i32_497 k0_t46
  let c512_i32_506 : BitVec 32 := 512#32
  let v960 : BitVec 32 := Scalar.muli arg18 c512_i32_506
  let v961 : BitVec 32 := v960
  let v962 : Index := Scalar.indexCast v961
  let c0_507 : Index := 0#32
  ![v962.toNat, 0]
def k0_off364 (i : grid0.Coords) (k0_t46 : Fin (k0_t46_loop i).trips) : Fin 3 → Nat :=
  let c0_509 : Index := 0#32
  let c0_510 : Index := 0#32
  let arg1 : BitVec 32 := BitVec.ofNat 32 (i 1).val
  let c1_i32 : BitVec 32 := 1#32
  let v0 : BitVec 32 := Scalar.addi arg1 c1_i32
  let c0_i32_485 : BitVec 32 := 0#32
  let v916 : BitVec 1 := Scalar.cmpi .sgt v0 c0_i32_485
  let v917 : BitVec 32 := Scalar.extui v916
  let c0_i32_486 : BitVec 32 := 0#32
  let v918 : BitVec 1 := Scalar.cmpi .slt v0 c0_i32_486
  let v919 : BitVec 32 := Scalar.extui v918
  let v920 : BitVec 32 := Scalar.subi v917 v919
  let c2_i32_484 : BitVec 32 := 2#32
  let c0_i32_487 : BitVec 32 := 0#32
  let v921 : BitVec 1 := Scalar.cmpi .sgt c2_i32_484 c0_i32_487
  let v922 : BitVec 32 := Scalar.extui v921
  let c0_i32_488 : BitVec 32 := 0#32
  let v923 : BitVec 1 := Scalar.cmpi .slt c2_i32_484 c0_i32_488
  let v924 : BitVec 32 := Scalar.extui v923
  let v925 : BitVec 32 := Scalar.subi v922 v924
  let v926 : BitVec 1 := Scalar.cmpi .ne v920 v925
  let v927 : BitVec 32 := Scalar.remsi v0 c2_i32_484
  let c0_i32_489 : BitVec 32 := 0#32
  let v928 : BitVec 1 := Scalar.cmpi .ne v927 c0_i32_489
  let v929 : BitVec 1 := Scalar.andi v926 v928
  let v915 : BitVec 32 := Scalar.divsi v0 c2_i32_484
  let c1_i32_490 : BitVec 32 := 1#32
  let v930 : BitVec 32 := Scalar.subi v915 c1_i32_490
  let v931 : BitVec 32 := Scalar.select v929 v930 v915
  let c2_i32_495 : BitVec 32 := 2#32
  let v939 : BitVec 32 := Scalar.muli v931 c2_i32_495
  let c1_i32_497 : BitVec 32 := 1#32
  let arg18 : BitVec 32 := Scf.iv v939 c1_i32_497 k0_t46
  let c512_i32_506 : BitVec 32 := 512#32
  let v960 : BitVec 32 := Scalar.muli arg18 c512_i32_506
  let v961 : BitVec 32 := v960
  let v970 : Index := Scalar.indexCast v961
  ![0, 0, v970.toNat]
@[reducible] def k0_t47_loop (i : grid0.Coords) : Scf.Loop 32 :=
  let arg1 : BitVec 32 := BitVec.ofNat 32 (i 1).val
  let c1_i32 : BitVec 32 := 1#32
  let v0 : BitVec 32 := Scalar.addi arg1 c1_i32
  let c0_i32_485 : BitVec 32 := 0#32
  let v916 : BitVec 1 := Scalar.cmpi .sgt v0 c0_i32_485
  let v917 : BitVec 32 := Scalar.extui v916
  let c0_i32_486 : BitVec 32 := 0#32
  let v918 : BitVec 1 := Scalar.cmpi .slt v0 c0_i32_486
  let v919 : BitVec 32 := Scalar.extui v918
  let v920 : BitVec 32 := Scalar.subi v917 v919
  let c2_i32_484 : BitVec 32 := 2#32
  let c0_i32_487 : BitVec 32 := 0#32
  let v921 : BitVec 1 := Scalar.cmpi .sgt c2_i32_484 c0_i32_487
  let v922 : BitVec 32 := Scalar.extui v921
  let c0_i32_488 : BitVec 32 := 0#32
  let v923 : BitVec 1 := Scalar.cmpi .slt c2_i32_484 c0_i32_488
  let v924 : BitVec 32 := Scalar.extui v923
  let v925 : BitVec 32 := Scalar.subi v922 v924
  let v926 : BitVec 1 := Scalar.cmpi .ne v920 v925
  let v927 : BitVec 32 := Scalar.remsi v0 c2_i32_484
  let c0_i32_489 : BitVec 32 := 0#32
  let v928 : BitVec 1 := Scalar.cmpi .ne v927 c0_i32_489
  let v929 : BitVec 1 := Scalar.andi v926 v928
  let v915 : BitVec 32 := Scalar.divsi v0 c2_i32_484
  let c1_i32_490 : BitVec 32 := 1#32
  let v930 : BitVec 32 := Scalar.subi v915 c1_i32_490
  let v931 : BitVec 32 := Scalar.select v929 v930 v915
  let c2_i32_495 : BitVec 32 := 2#32
  let v939 : BitVec 32 := Scalar.muli v931 c2_i32_495
  let v940 : BitVec 32 := Scalar.subi v0 v939
  let c1_i32_496 : BitVec 32 := 1#32
  let v942 : BitVec 32 := Scalar.divsi v940 c1_i32_496
  let v943 : BitVec 32 := Scalar.muli v942 c1_i32_496
  let v944 : BitVec 32 := Scalar.addi v939 v943
  let v941 : BitVec 32 := Scalar.addi v939 v940
  let c1_i32_498 : BitVec 32 := 1#32
  ⟨v944, v941, c1_i32_498⟩
def k0_mult79 (i : grid0.Coords) (k0_t47 : Fin (k0_t47_loop i).trips) : BitVec 32 :=
  let arg1 : BitVec 32 := BitVec.ofNat 32 (i 1).val
  let c1_i32 : BitVec 32 := 1#32
  let v0 : BitVec 32 := Scalar.addi arg1 c1_i32
  let c0_i32_485 : BitVec 32 := 0#32
  let v916 : BitVec 1 := Scalar.cmpi .sgt v0 c0_i32_485
  let v917 : BitVec 32 := Scalar.extui v916
  let c0_i32_486 : BitVec 32 := 0#32
  let v918 : BitVec 1 := Scalar.cmpi .slt v0 c0_i32_486
  let v919 : BitVec 32 := Scalar.extui v918
  let v920 : BitVec 32 := Scalar.subi v917 v919
  let c2_i32_484 : BitVec 32 := 2#32
  let c0_i32_487 : BitVec 32 := 0#32
  let v921 : BitVec 1 := Scalar.cmpi .sgt c2_i32_484 c0_i32_487
  let v922 : BitVec 32 := Scalar.extui v921
  let c0_i32_488 : BitVec 32 := 0#32
  let v923 : BitVec 1 := Scalar.cmpi .slt c2_i32_484 c0_i32_488
  let v924 : BitVec 32 := Scalar.extui v923
  let v925 : BitVec 32 := Scalar.subi v922 v924
  let v926 : BitVec 1 := Scalar.cmpi .ne v920 v925
  let v927 : BitVec 32 := Scalar.remsi v0 c2_i32_484
  let c0_i32_489 : BitVec 32 := 0#32
  let v928 : BitVec 1 := Scalar.cmpi .ne v927 c0_i32_489
  let v929 : BitVec 1 := Scalar.andi v926 v928
  let v915 : BitVec 32 := Scalar.divsi v0 c2_i32_484
  let c1_i32_490 : BitVec 32 := 1#32
  let v930 : BitVec 32 := Scalar.subi v915 c1_i32_490
  let v931 : BitVec 32 := Scalar.select v929 v930 v915
  let c2_i32_495 : BitVec 32 := 2#32
  let v939 : BitVec 32 := Scalar.muli v931 c2_i32_495
  let v940 : BitVec 32 := Scalar.subi v0 v939
  let c1_i32_496 : BitVec 32 := 1#32
  let v942 : BitVec 32 := Scalar.divsi v940 c1_i32_496
  let v943 : BitVec 32 := Scalar.muli v942 c1_i32_496
  let v944 : BitVec 32 := Scalar.addi v939 v943
  let c1_i32_498 : BitVec 32 := 1#32
  let arg18 : BitVec 32 := Scf.iv v944 c1_i32_498 k0_t47
  let c512_i32_506 : BitVec 32 := 512#32
  let v960 : BitVec 32 := Scalar.muli arg18 c512_i32_506
  v960
def k0_off365 (i : grid0.Coords) (k0_t47 : Fin (k0_t47_loop i).trips) : Fin 2 → Nat :=
  let arg1 : BitVec 32 := BitVec.ofNat 32 (i 1).val
  let c1_i32 : BitVec 32 := 1#32
  let v0 : BitVec 32 := Scalar.addi arg1 c1_i32
  let c0_i32_485 : BitVec 32 := 0#32
  let v916 : BitVec 1 := Scalar.cmpi .sgt v0 c0_i32_485
  let v917 : BitVec 32 := Scalar.extui v916
  let c0_i32_486 : BitVec 32 := 0#32
  let v918 : BitVec 1 := Scalar.cmpi .slt v0 c0_i32_486
  let v919 : BitVec 32 := Scalar.extui v918
  let v920 : BitVec 32 := Scalar.subi v917 v919
  let c2_i32_484 : BitVec 32 := 2#32
  let c0_i32_487 : BitVec 32 := 0#32
  let v921 : BitVec 1 := Scalar.cmpi .sgt c2_i32_484 c0_i32_487
  let v922 : BitVec 32 := Scalar.extui v921
  let c0_i32_488 : BitVec 32 := 0#32
  let v923 : BitVec 1 := Scalar.cmpi .slt c2_i32_484 c0_i32_488
  let v924 : BitVec 32 := Scalar.extui v923
  let v925 : BitVec 32 := Scalar.subi v922 v924
  let v926 : BitVec 1 := Scalar.cmpi .ne v920 v925
  let v927 : BitVec 32 := Scalar.remsi v0 c2_i32_484
  let c0_i32_489 : BitVec 32 := 0#32
  let v928 : BitVec 1 := Scalar.cmpi .ne v927 c0_i32_489
  let v929 : BitVec 1 := Scalar.andi v926 v928
  let v915 : BitVec 32 := Scalar.divsi v0 c2_i32_484
  let c1_i32_490 : BitVec 32 := 1#32
  let v930 : BitVec 32 := Scalar.subi v915 c1_i32_490
  let v931 : BitVec 32 := Scalar.select v929 v930 v915
  let c2_i32_495 : BitVec 32 := 2#32
  let v939 : BitVec 32 := Scalar.muli v931 c2_i32_495
  let v940 : BitVec 32 := Scalar.subi v0 v939
  let c1_i32_496 : BitVec 32 := 1#32
  let v942 : BitVec 32 := Scalar.divsi v940 c1_i32_496
  let v943 : BitVec 32 := Scalar.muli v942 c1_i32_496
  let v944 : BitVec 32 := Scalar.addi v939 v943
  let c1_i32_498 : BitVec 32 := 1#32
  let arg18 : BitVec 32 := Scf.iv v944 c1_i32_498 k0_t47
  let c512_i32_506 : BitVec 32 := 512#32
  let v960 : BitVec 32 := Scalar.muli arg18 c512_i32_506
  let v961 : BitVec 32 := v960
  let v962 : Index := Scalar.indexCast v961
  let c0_507 : Index := 0#32
  ![v962.toNat, 0]
def k0_off366 (i : grid0.Coords) (k0_t47 : Fin (k0_t47_loop i).trips) : Fin 3 → Nat :=
  let c0_509 : Index := 0#32
  let c0_510 : Index := 0#32
  let arg1 : BitVec 32 := BitVec.ofNat 32 (i 1).val
  let c1_i32 : BitVec 32 := 1#32
  let v0 : BitVec 32 := Scalar.addi arg1 c1_i32
  let c0_i32_485 : BitVec 32 := 0#32
  let v916 : BitVec 1 := Scalar.cmpi .sgt v0 c0_i32_485
  let v917 : BitVec 32 := Scalar.extui v916
  let c0_i32_486 : BitVec 32 := 0#32
  let v918 : BitVec 1 := Scalar.cmpi .slt v0 c0_i32_486
  let v919 : BitVec 32 := Scalar.extui v918
  let v920 : BitVec 32 := Scalar.subi v917 v919
  let c2_i32_484 : BitVec 32 := 2#32
  let c0_i32_487 : BitVec 32 := 0#32
  let v921 : BitVec 1 := Scalar.cmpi .sgt c2_i32_484 c0_i32_487
  let v922 : BitVec 32 := Scalar.extui v921
  let c0_i32_488 : BitVec 32 := 0#32
  let v923 : BitVec 1 := Scalar.cmpi .slt c2_i32_484 c0_i32_488
  let v924 : BitVec 32 := Scalar.extui v923
  let v925 : BitVec 32 := Scalar.subi v922 v924
  let v926 : BitVec 1 := Scalar.cmpi .ne v920 v925
  let v927 : BitVec 32 := Scalar.remsi v0 c2_i32_484
  let c0_i32_489 : BitVec 32 := 0#32
  let v928 : BitVec 1 := Scalar.cmpi .ne v927 c0_i32_489
  let v929 : BitVec 1 := Scalar.andi v926 v928
  let v915 : BitVec 32 := Scalar.divsi v0 c2_i32_484
  let c1_i32_490 : BitVec 32 := 1#32
  let v930 : BitVec 32 := Scalar.subi v915 c1_i32_490
  let v931 : BitVec 32 := Scalar.select v929 v930 v915
  let c2_i32_495 : BitVec 32 := 2#32
  let v939 : BitVec 32 := Scalar.muli v931 c2_i32_495
  let v940 : BitVec 32 := Scalar.subi v0 v939
  let c1_i32_496 : BitVec 32 := 1#32
  let v942 : BitVec 32 := Scalar.divsi v940 c1_i32_496
  let v943 : BitVec 32 := Scalar.muli v942 c1_i32_496
  let v944 : BitVec 32 := Scalar.addi v939 v943
  let c1_i32_498 : BitVec 32 := 1#32
  let arg18 : BitVec 32 := Scf.iv v944 c1_i32_498 k0_t47
  let c512_i32_506 : BitVec 32 := 512#32
  let v960 : BitVec 32 := Scalar.muli arg18 c512_i32_506
  let v961 : BitVec 32 := v960
  let v970 : Index := Scalar.indexCast v961
  ![0, 0, v970.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S16x4096x6x96 : Shape := ⟨4, ![16, 4096, 6, 96]⟩
abbrev S16x4096x6x64 : Shape := ⟨4, ![16, 4096, 6, 64]⟩
abbrev S_ : Shape := ⟨0, ![]⟩
abbrev S16x4096x6x128 : Shape := ⟨4, ![16, 4096, 6, 128]⟩
abbrev S16x6x128x4096 : Shape := ⟨4, ![16, 6, 128, 4096]⟩
abbrev S16x768x4096 : Shape := ⟨3, ![16, 768, 4096]⟩
abbrev S16x6x4096x128 : Shape := ⟨4, ![16, 6, 4096, 128]⟩
abbrev S16x6x64x4096 : Shape := ⟨4, ![16, 6, 64, 4096]⟩
abbrev S16x384x4096 : Shape := ⟨3, ![16, 384, 4096]⟩
abbrev S16x4096x384 : Shape := ⟨3, ![16, 4096, 384]⟩
abbrev S1x768x512 : Shape := ⟨3, ![1, 768, 512]⟩
abbrev S1x6x4096x128 : Shape := ⟨4, ![1, 6, 4096, 128]⟩
abbrev S1x384x4096 : Shape := ⟨3, ![1, 384, 4096]⟩
abbrev S1x512x384 : Shape := ⟨3, ![1, 512, 384]⟩
abbrev S4096x512 : Shape := ⟨2, ![4096, 512]⟩
abbrev S384x512 : Shape := ⟨2, ![384, 512]⟩
abbrev S512x512 : Shape := ⟨2, ![512, 512]⟩
abbrev S8x512 : Shape := ⟨2, ![8, 512]⟩
abbrev S64x512 : Shape := ⟨2, ![64, 512]⟩
abbrev S1x1x512x128 : Shape := ⟨4, ![1, 1, 512, 128]⟩
abbrev S512x128 : Shape := ⟨2, ![512, 128]⟩
abbrev S1x128x512 : Shape := ⟨3, ![1, 128, 512]⟩
abbrev S128x512 : Shape := ⟨2, ![128, 512]⟩
abbrev S64x8x512 : Shape := ⟨3, ![64, 8, 512]⟩
abbrev S512 : Shape := ⟨1, ![512]⟩
abbrev S1x512 : Shape := ⟨2, ![1, 512]⟩
abbrev S1x64x512 : Shape := ⟨3, ![1, 64, 512]⟩
abbrev S512x384 : Shape := ⟨2, ![512, 384]⟩

abbrev nBuf : Space → Nat
  | .hbm => 25
  | .vmem => 11
  | .smem => 0
  | _ => 0

abbrev bufTy : (tb : Table) → Fin (tcTables nBuf tb) → BufTy
  | .hbm, ⟨0, _⟩ => ⟨S16x4096x6x96, .f32⟩
  | .hbm, ⟨1, _⟩ => ⟨S16x4096x6x96, .f32⟩
  | .hbm, ⟨2, _⟩ => ⟨S16x4096x6x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x4096x6x96, .f32⟩
  | .hbm, ⟨9, _⟩ => ⟨S16x4096x6x96, .f32⟩
  | .hbm, ⟨10, _⟩ => ⟨S_, .i32⟩
  | .hbm, ⟨11, _⟩ => ⟨S_, .f32⟩
  | .hbm, ⟨12, _⟩ => ⟨S16x4096x6x128, .f32⟩
  | .hbm, ⟨13, _⟩ => ⟨S16x6x128x4096, .f32⟩
  | .hbm, ⟨14, _⟩ => ⟨S16x768x4096, .f32⟩
  | .hbm, ⟨15, _⟩ => ⟨S16x768x4096, .bf16⟩
  | .hbm, ⟨16, _⟩ => ⟨S_, .i32⟩
  | .hbm, ⟨17, _⟩ => ⟨S_, .f32⟩
  | .hbm, ⟨18, _⟩ => ⟨S16x4096x6x128, .f32⟩
  | .hbm, ⟨19, _⟩ => ⟨S16x6x4096x128, .f32⟩
  | .hbm, ⟨20, _⟩ => ⟨S16x6x4096x128, .bf16⟩
  | .hbm, ⟨21, _⟩ => ⟨S16x6x64x4096, .f32⟩
  | .hbm, ⟨22, _⟩ => ⟨S16x384x4096, .f32⟩
  | .hbm, ⟨23, _⟩ => ⟨S16x384x4096, .bf16⟩
  | .hbm, ⟨24, _⟩ => ⟨S16x4096x384, .bf16⟩
  | .local _ .vmem, ⟨0, _⟩ => ⟨S1x768x512, .bf16⟩
  | .local _ .vmem, ⟨1, _⟩ => ⟨S1x768x512, .bf16⟩
  | .local _ .vmem, ⟨2, _⟩ => ⟨S1x6x4096x128, .bf16⟩
  | .local _ .vmem, ⟨3, _⟩ => ⟨S1x6x4096x128, .bf16⟩
  | .local _ .vmem, ⟨4, _⟩ => ⟨S1x384x4096, .bf16⟩
  | .local _ .vmem, ⟨5, _⟩ => ⟨S1x384x4096, .bf16⟩
  | .local _ .vmem, ⟨6, _⟩ => ⟨S1x512x384, .bf16⟩
  | .local _ .vmem, ⟨7, _⟩ => ⟨S1x512x384, .bf16⟩
  | .local _ .vmem, ⟨8, _⟩ => ⟨S4096x512, .f32⟩
  | .local _ .vmem, ⟨9, _⟩ => ⟨S4096x512, .f32⟩
  | .local _ .vmem, ⟨10, _⟩ => ⟨S384x512, .f32⟩
  | _, _ => ⟨S16x4096x6x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_21 : BitVec 32 := 0#32
  let arg1 : BitVec 32 := BitVec.ofNat 32 (i 1).val
  let c0_i32_15 : BitVec 32 := 0#32
  let v58 : BitVec 1 := Scalar.cmpi .sgt arg1 c0_i32_15
  let v59 : BitVec 32 := Scalar.extui v58
  let c0_i32_16 : BitVec 32 := 0#32
  let v60 : BitVec 1 := Scalar.cmpi .slt arg1 c0_i32_16
  let v61 : BitVec 32 := Scalar.extui v60
  let v62 : BitVec 32 := Scalar.subi v59 v61
  let c2_i32 : BitVec 32 := 2#32
  let c0_i32_17 : BitVec 32 := 0#32
  let v63 : BitVec 1 := Scalar.cmpi .sgt c2_i32 c0_i32_17
  let v64 : BitVec 32 := Scalar.extui v63
  let c0_i32_18 : BitVec 32 := 0#32
  let v65 : BitVec 1 := Scalar.cmpi .slt c2_i32 c0_i32_18
  let v66 : BitVec 32 := Scalar.extui v65
  let v67 : BitVec 32 := Scalar.subi v64 v66
  let v68 : BitVec 1 := Scalar.cmpi .ne v62 v67
  let v69 : BitVec 32 := Scalar.remsi arg1 c2_i32
  let c0_i32_19 : BitVec 32 := 0#32
  let v70 : BitVec 1 := Scalar.cmpi .ne v69 c0_i32_19
  let v71 : BitVec 1 := Scalar.andi v68 v70
  let v57 : BitVec 32 := Scalar.divsi arg1 c2_i32
  let c1_i32_20 : BitVec 32 := 1#32
  let v72 : BitVec 32 := Scalar.subi v57 c1_i32_20
  let v73 : BitVec 32 := Scalar.select v71 v72 v57
  let v74 : BitVec 32 := Scalar.subi v73 c0_i32_21
  let c1_i32_22 : BitVec 32 := 1#32
  let v76 : BitVec 32 := Scalar.divsi v74 c1_i32_22
  let v77 : BitVec 32 := Scalar.muli v76 c1_i32_22
  let v78 : BitVec 32 := Scalar.addi c0_i32_21 v77
  let c1_i32_23 : BitVec 32 := 1#32
  ⟨c0_i32_21, v78, c1_i32_23⟩
def k0_mult1 (i : grid0.Coords) (k0_t1 : Fin (k0_t1_loop i).trips) : BitVec 32 :=
  let c0_i32_21 : BitVec 32 := 0#32
  let c1_i32_23 : BitVec 32 := 1#32
  let arg9 : BitVec 32 := Scf.iv c0_i32_21 c1_i32_23 k0_t1
  let c2_i32_242 : BitVec 32 := 2#32
  let v541 : BitVec 32 := Scalar.muli arg9 c2_i32_242
  let c0_i32_243 : BitVec 32 := 0#32
  let v542 : BitVec 32 := Scalar.addi v541 c0_i32_243
  let c512_i32_244 : BitVec 32 := 512#32
  let v543 : BitVec 32 := Scalar.muli v542 c512_i32_244
  v543
def k0_off1 (i : grid0.Coords) (k0_t1 : Fin (k0_t1_loop i).trips) (c0_i32_243 : BitVec 32) : Fin 4 → Nat :=
  let c0_245 : Index := 0#32
  let c0_246 : Index := 0#32
  let c0_i32_21 : BitVec 32 := 0#32
  let c1_i32_23 : BitVec 32 := 1#32
  let arg9 : BitVec 32 := Scf.iv c0_i32_21 c1_i32_23 k0_t1
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v545 : Index := Scalar.indexCast v544
  let c0_247 : Index := 0#32
  ![0, 0, v545.toNat, 0]
def k0_off2 (i : grid0.Coords) (k0_t1 : Fin (k0_t1_loop i).trips) (c0_i32_243 : BitVec 32) : Fin 2 → Nat :=
  let c0_i32_21 : BitVec 32 := 0#32
  let c1_i32_23 : BitVec 32 := 1#32
  let arg9 : BitVec 32 := Scf.iv c0_i32_21 c1_i32_23 k0_t1
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v551 : Index := Scalar.indexCast v544
  let c0_252 : Index := 0#32
  ![v551.toNat, 0]
def k0_mult2 (i : grid0.Coords) (k0_t1 : Fin (k0_t1_loop i).trips) : BitVec 32 :=
  let c0_i32_21 : BitVec 32 := 0#32
  let c1_i32_23 : BitVec 32 := 1#32
  let arg9 : BitVec 32 := Scf.iv c0_i32_21 c1_i32_23 k0_t1
  let c2_i32_254 : BitVec 32 := 2#32
  let v558 : BitVec 32 := Scalar.muli arg9 c2_i32_254
  let c1_i32_255 : BitVec 32 := 1#32
  let v559 : BitVec 32 := Scalar.addi v558 c1_i32_255
  let c512_i32_256 : BitVec 32 := 512#32
  let v560 : BitVec 32 := Scalar.muli v559 c512_i32_256
  v560
@[reducible] def k0_t2_loop (i : grid0.Coords) : Scf.Loop 32 :=
  let c0_i32_21 : BitVec 32 := 0#32
  let arg1 : BitVec 32 := BitVec.ofNat 32 (i 1).val
  let c0_i32_15 : BitVec 32 := 0#32
  let v58 : BitVec 1 := Scalar.cmpi .sgt arg1 c0_i32_15
  let v59 : BitVec 32 := Scalar.extui v58
  let c0_i32_16 : BitVec 32 := 0#32
  let v60 : BitVec 1 := Scalar.cmpi .slt arg1 c0_i32_16
  let v61 : BitVec 32 := Scalar.extui v60
  let v62 : BitVec 32 := Scalar.subi v59 v61
  let c2_i32 : BitVec 32 := 2#32
  let c0_i32_17 : BitVec 32 := 0#32
  let v63 : BitVec 1 := Scalar.cmpi .sgt c2_i32 c0_i32_17
  let v64 : BitVec 32 := Scalar.extui v63
  let c0_i32_18 : BitVec 32 := 0#32
  let v65 : BitVec 1 := Scalar.cmpi .slt c2_i32 c0_i32_18
  let v66 : BitVec 32 := Scalar.extui v65
  let v67 : BitVec 32 := Scalar.subi v64 v66
  let v68 : BitVec 1 := Scalar.cmpi .ne v62 v67
  let v69 : BitVec 32 := Scalar.remsi arg1 c2_i32
  let c0_i32_19 : BitVec 32 := 0#32
  let v70 : BitVec 1 := Scalar.cmpi .ne v69 c0_i32_19
  let v71 : BitVec 1 := Scalar.andi v68 v70
  let v57 : BitVec 32 := Scalar.divsi arg1 c2_i32
  let c1_i32_20 : BitVec 32 := 1#32
  let v72 : BitVec 32 := Scalar.subi v57 c1_i32_20
  let v73 : BitVec 32 := Scalar.select v71 v72 v57
  let v74 : BitVec 32 := Scalar.subi v73 c0_i32_21
  let c1_i32_22 : BitVec 32 := 1#32
  let v76 : BitVec 32 := Scalar.divsi v74 c1_i32_22
  let v77 : BitVec 32 := Scalar.muli v76 c1_i32_22
  let v78 : BitVec 32 := Scalar.addi c0_i32_21 v77
  let v75 : BitVec 32 := Scalar.addi c0_i32_21 v74
  let c1_i32_24 : BitVec 32 := 1#32
  ⟨v78, v75, c1_i32_24⟩
def k0_mult3 (i : grid0.Coords) (k0_t2 : Fin (k0_t2_loop i).trips) : BitVec 32 :=
  let c0_i32_21 : BitVec 32 := 0#32
  let arg1 : BitVec 32 := BitVec.ofNat 32 (i 1).val
  let c0_i32_15 : BitVec 32 := 0#32
  let v58 : BitVec 1 := Scalar.cmpi .sgt arg1 c0_i32_15
  let v59 : BitVec 32 := Scalar.extui v58
  let c0_i32_16 : BitVec 32 := 0#32
  let v60 : BitVec 1 := Scalar.cmpi .slt arg1 c0_i32_16
  let v61 : BitVec 32 := Scalar.extui v60
  let v62 : BitVec 32 := Scalar.subi v59 v61
  let c2_i32 : BitVec 32 := 2#32
  let c0_i32_17 : BitVec 32 := 0#32
  let v63 : BitVec 1 := Scalar.cmpi .sgt c2_i32 c0_i32_17
  let v64 : BitVec 32 := Scalar.extui v63
  let c0_i32_18 : BitVec 32 := 0#32
  let v65 : BitVec 1 := Scalar.cmpi .slt c2_i32 c0_i32_18
  let v66 : BitVec 32 := Scalar.extui v65
  let v67 : BitVec 32 := Scalar.subi v64 v66
  let v68 : BitVec 1 := Scalar.cmpi .ne v62 v67
  let v69 : BitVec 32 := Scalar.remsi arg1 c2_i32
  let c0_i32_19 : BitVec 32 := 0#32
  let v70 : BitVec 1 := Scalar.cmpi .ne v69 c0_i32_19
  let v71 : BitVec 1 := Scalar.andi v68 v70
  let v57 : BitVec 32 := Scalar.divsi arg1 c2_i32
  let c1_i32_20 : BitVec 32 := 1#32
  let v72 : BitVec 32 := Scalar.subi v57 c1_i32_20
  let v73 : BitVec 32 := Scalar.select v71 v72 v57
  let v74 : BitVec 32 := Scalar.subi v73 c0_i32_21
  let c1_i32_22 : BitVec 32 := 1#32
  let v76 : BitVec 32 := Scalar.divsi v74 c1_i32_22
  let v77 : BitVec 32 := Scalar.muli v76 c1_i32_22
  let v78 : BitVec 32 := Scalar.addi c0_i32_21 v77
  let c1_i32_24 : BitVec 32 := 1#32
  let arg9 : BitVec 32 := Scf.iv v78 c1_i32_24 k0_t2
  let c2_i32_242 : BitVec 32 := 2#32
  let v541 : BitVec 32 := Scalar.muli arg9 c2_i32_242
  let c0_i32_243 : BitVec 32 := 0#32
  let v542 : BitVec 32 := Scalar.addi v541 c0_i32_243
  let c512_i32_244 : BitVec 32 := 512#32
  let v543 : BitVec 32 := Scalar.muli v542 c512_i32_244
  v543
def k0_off3 (i : grid0.Coords) (k0_t2 : Fin (k0_t2_loop i).trips) (c0_i32_243 : BitVec 32) : Fin 4 → Nat :=
  let c0_245 : Index := 0#32
  let c0_246 : Index := 0#32
  let c0_i32_21 : BitVec 32 := 0#32
  let arg1 : BitVec 32 := BitVec.ofNat 32 (i 1).val
  let c0_i32_15 : BitVec 32 := 0#32
  let v58 : BitVec 1 := Scalar.cmpi .sgt arg1 c0_i32_15
  let v59 : BitVec 32 := Scalar.extui v58
  let c0_i32_16 : BitVec 32 := 0#32
  let v60 : BitVec 1 := Scalar.cmpi .slt arg1 c0_i32_16
  let v61 : BitVec 32 := Scalar.extui v60
  let v62 : BitVec 32 := Scalar.subi v59 v61
  let c2_i32 : BitVec 32 := 2#32
  let c0_i32_17 : BitVec 32 := 0#32
  let v63 : BitVec 1 := Scalar.cmpi .sgt c2_i32 c0_i32_17
  let v64 : BitVec 32 := Scalar.extui v63
  let c0_i32_18 : BitVec 32 := 0#32
  let v65 : BitVec 1 := Scalar.cmpi .slt c2_i32 c0_i32_18
  let v66 : BitVec 32 := Scalar.extui v65
  let v67 : BitVec 32 := Scalar.subi v64 v66
  let v68 : BitVec 1 := Scalar.cmpi .ne v62 v67
  let v69 : BitVec 32 := Scalar.remsi arg1 c2_i32
  let c0_i32_19 : BitVec 32 := 0#32
  let v70 : BitVec 1 := Scalar.cmpi .ne v69 c0_i32_19
  let v71 : BitVec 1 := Scalar.andi v68 v70
  let v57 : BitVec 32 := Scalar.divsi arg1 c2_i32
  let c1_i32_20 : BitVec 32 := 1#32
  let v72 : BitVec 32 := Scalar.subi v57 c1_i32_20
  let v73 : BitVec 32 := Scalar.select v71 v72 v57
  let v74 : BitVec 32 := Scalar.subi v73 c0_i32_21
  let c1_i32_22 : BitVec 32 := 1#32
  let v76 : BitVec 32 := Scalar.divsi v74 c1_i32_22
  let v77 : BitVec 32 := Scalar.muli v76 c1_i32_22
  let v78 : BitVec 32 := Scalar.addi c0_i32_21 v77
  let c1_i32_24 : BitVec 32 := 1#32
  let arg9 : BitVec 32 := Scf.iv v78 c1_i32_24 k0_t2
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v545 : Index := Scalar.indexCast v544
  let c0_247 : Index := 0#32
  ![0, 0, v545.toNat, 0]
def k0_off4 (i : grid0.Coords) (k0_t2 : Fin (k0_t2_loop i).trips) (c0_i32_243 : BitVec 32) : Fin 2 → Nat :=
  let c0_i32_21 : BitVec 32 := 0#32
  let arg1 : BitVec 32 := BitVec.ofNat 32 (i 1).val
  let c0_i32_15 : BitVec 32 := 0#32
  let v58 : BitVec 1 := Scalar.cmpi .sgt arg1 c0_i32_15
  let v59 : BitVec 32 := Scalar.extui v58
  let c0_i32_16 : BitVec 32 := 0#32
  let v60 : BitVec 1 := Scalar.cmpi .slt arg1 c0_i32_16
  let v61 : BitVec 32 := Scalar.extui v60
  let v62 : BitVec 32 := Scalar.subi v59 v61
  let c2_i32 : BitVec 32 := 2#32
  let c0_i32_17 : BitVec 32 := 0#32
  let v63 : BitVec 1 := Scalar.cmpi .sgt c2_i32 c0_i32_17
  let v64 : BitVec 32 := Scalar.extui v63
  let c0_i32_18 : BitVec 32 := 0#32
  let v65 : BitVec 1 := Scalar.cmpi .slt c2_i32 c0_i32_18
  let v66 : BitVec 32 := Scalar.extui v65
  let v67 : BitVec 32 := Scalar.subi v64 v66
  let v68 : BitVec 1 := Scalar.cmpi .ne v62 v67
  let v69 : BitVec 32 := Scalar.remsi arg1 c2_i32
  let c0_i32_19 : BitVec 32 := 0#32
  let v70 : BitVec 1 := Scalar.cmpi .ne v69 c0_i32_19
  let v71 : BitVec 1 := Scalar.andi v68 v70
  let v57 : BitVec 32 := Scalar.divsi arg1 c2_i32
  let c1_i32_20 : BitVec 32 := 1#32
  let v72 : BitVec 32 := Scalar.subi v57 c1_i32_20
  let v73 : BitVec 32 := Scalar.select v71 v72 v57
  let v74 : BitVec 32 := Scalar.subi v73 c0_i32_21
  let c1_i32_22 : BitVec 32 := 1#32
  let v76 : BitVec 32 := Scalar.divsi v74 c1_i32_22
  let v77 : BitVec 32 := Scalar.muli v76 c1_i32_22
  let v78 : BitVec 32 := Scalar.addi c0_i32_21 v77
  let c1_i32_24 : BitVec 32 := 1#32
  let arg9 : BitVec 32 := Scf.iv v78 c1_i32_24 k0_t2
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v551 : Index := Scalar.indexCast v544
  let c0_252 : Index := 0#32
  ![v551.toNat, 0]
def k0_mult4 (i : grid0.Coords) (k0_t2 : Fin (k0_t2_loop i).trips) : BitVec 32 :=
  let c0_i32_21 : BitVec 32 := 0#32
  let arg1 : BitVec 32 := BitVec.ofNat 32 (i 1).val
  let c0_i32_15 : BitVec 32 := 0#32
  let v58 : BitVec 1 := Scalar.cmpi .sgt arg1 c0_i32_15
  let v59 : BitVec 32 := Scalar.extui v58
  let c0_i32_16 : BitVec 32 := 0#32
  let v60 : BitVec 1 := Scalar.cmpi .slt arg1 c0_i32_16
  let v61 : BitVec 32 := Scalar.extui v60
  let v62 : BitVec 32 := Scalar.subi v59 v61
  let c2_i32 : BitVec 32 := 2#32
  let c0_i32_17 : BitVec 32 := 0#32
  let v63 : BitVec 1 := Scalar.cmpi .sgt c2_i32 c0_i32_17
  let v64 : BitVec 32 := Scalar.extui v63
  let c0_i32_18 : BitVec 32 := 0#32
  let v65 : BitVec 1 := Scalar.cmpi .slt c2_i32 c0_i32_18
  let v66 : BitVec 32 := Scalar.extui v65
  let v67 : BitVec 32 := Scalar.subi v64 v66
  let v68 : BitVec 1 := Scalar.cmpi .ne v62 v67
  let v69 : BitVec 32 := Scalar.remsi arg1 c2_i32
  let c0_i32_19 : BitVec 32 := 0#32
  let v70 : BitVec 1 := Scalar.cmpi .ne v69 c0_i32_19
  let v71 : BitVec 1 := Scalar.andi v68 v70
  let v57 : BitVec 32 := Scalar.divsi arg1 c2_i32
  let c1_i32_20 : BitVec 32 := 1#32
  let v72 : BitVec 32 := Scalar.subi v57 c1_i32_20
  let v73 : BitVec 32 := Scalar.select v71 v72 v57
  let v74 : BitVec 32 := Scalar.subi v73 c0_i32_21
  let c1_i32_22 : BitVec 32 := 1#32
  let v76 : BitVec 32 := Scalar.divsi v74 c1_i32_22
  let v77 : BitVec 32 := Scalar.muli v76 c1_i32_22
  let v78 : BitVec 32 := Scalar.addi c0_i32_21 v77
  let c1_i32_24 : BitVec 32 := 1#32
  let arg9 : BitVec 32 := Scf.iv v78 c1_i32_24 k0_t2
  let c2_i32_254 : BitVec 32 := 2#32
  let v558 : BitVec 32 := Scalar.muli arg9 c2_i32_254
  let c1_i32_255 : BitVec 32 := 1#32
  let v559 : BitVec 32 := Scalar.addi v558 c1_i32_255
  let c512_i32_256 : BitVec 32 := 512#32
  let v560 : BitVec 32 := Scalar.muli v559 c512_i32_256
  v560
@[reducible] def k0_t3_loop (i : grid0.Coords) : Scf.Loop 32 :=
  let arg1 : BitVec 32 := BitVec.ofNat 32 (i 1).val
  let c0_i32_15 : BitVec 32 := 0#32
  let v58 : BitVec 1 := Scalar.cmpi .sgt arg1 c0_i32_15
  let v59 : BitVec 32 := Scalar.extui v58
  let c0_i32_16 : BitVec 32 := 0#32
  let v60 : BitVec 1 := Scalar.cmpi .slt arg1 c0_i32_16
  let v61 : BitVec 32 := Scalar.extui v60
  let v62 : BitVec 32 := Scalar.subi v59 v61
  let c2_i32 : BitVec 32 := 2#32
  let c0_i32_17 : BitVec 32 := 0#32
  let v63 : BitVec 1 := Scalar.cmpi .sgt c2_i32 c0_i32_17
  let v64 : BitVec 32 := Scalar.extui v63
  let c0_i32_18 : BitVec 32 := 0#32
  let v65 : BitVec 1 := Scalar.cmpi .slt c2_i32 c0_i32_18
  let v66 : BitVec 32 := Scalar.extui v65
  let v67 : BitVec 32 := Scalar.subi v64 v66
  let v68 : BitVec 1 := Scalar.cmpi .ne v62 v67
  let v69 : BitVec 32 := Scalar.remsi arg1 c2_i32
  let c0_i32_19 : BitVec 32 := 0#32
  let v70 : BitVec 1 := Scalar.cmpi .ne v69 c0_i32_19
  let v71 : BitVec 1 := Scalar.andi v68 v70
  let v57 : BitVec 32 := Scalar.divsi arg1 c2_i32
  let c1_i32_20 : BitVec 32 := 1#32
  let v72 : BitVec 32 := Scalar.subi v57 c1_i32_20
  let v73 : BitVec 32 := Scalar.select v71 v72 v57
  let c2_i32_25 : BitVec 32 := 2#32
  let v81 : BitVec 32 := Scalar.muli v73 c2_i32_25
  let v82 : BitVec 32 := Scalar.subi arg1 v81
  let c1_i32_26 : BitVec 32 := 1#32
  let v84 : BitVec 32 := Scalar.divsi v82 c1_i32_26
  let v85 : BitVec 32 := Scalar.muli v84 c1_i32_26
  let v86 : BitVec 32 := Scalar.addi v81 v85
  let c1_i32_27 : BitVec 32 := 1#32
  ⟨v81, v86, c1_i32_27⟩
def k0_mult5 (i : grid0.Coords) (k0_t3 : Fin (k0_t3_loop i).trips) : BitVec 32 :=
  let arg1 : BitVec 32 := BitVec.ofNat 32 (i 1).val
  let c0_i32_15 : BitVec 32 := 0#32
  let v58 : BitVec 1 := Scalar.cmpi .sgt arg1 c0_i32_15
  let v59 : BitVec 32 := Scalar.extui v58
  let c0_i32_16 : BitVec 32 := 0#32
  let v60 : BitVec 1 := Scalar.cmpi .slt arg1 c0_i32_16
  let v61 : BitVec 32 := Scalar.extui v60
  let v62 : BitVec 32 := Scalar.subi v59 v61
  let c2_i32 : BitVec 32 := 2#32
  let c0_i32_17 : BitVec 32 := 0#32
  let v63 : BitVec 1 := Scalar.cmpi .sgt c2_i32 c0_i32_17
  let v64 : BitVec 32 := Scalar.extui v63
  let c0_i32_18 : BitVec 32 := 0#32
  let v65 : BitVec 1 := Scalar.cmpi .slt c2_i32 c0_i32_18
  let v66 : BitVec 32 := Scalar.extui v65
  let v67 : BitVec 32 := Scalar.subi v64 v66
  let v68 : BitVec 1 := Scalar.cmpi .ne v62 v67
  let v69 : BitVec 32 := Scalar.remsi arg1 c2_i32
  let c0_i32_19 : BitVec 32 := 0#32
  let v70 : BitVec 1 := Scalar.cmpi .ne v69 c0_i32_19
  let v71 : BitVec 1 := Scalar.andi v68 v70
  let v57 : BitVec 32 := Scalar.divsi arg1 c2_i32
  let c1_i32_20 : BitVec 32 := 1#32
  let v72 : BitVec 32 := Scalar.subi v57 c1_i32_20
  let v73 : BitVec 32 := Scalar.select v71 v72 v57
  let c2_i32_25 : BitVec 32 := 2#32
  let v81 : BitVec 32 := Scalar.muli v73 c2_i32_25
  let c1_i32_27 : BitVec 32 := 1#32
  let arg9 : BitVec 32 := Scf.iv v81 c1_i32_27 k0_t3
  let c512_i32_242 : BitVec 32 := 512#32
  let v541 : BitVec 32 := Scalar.muli arg9 c512_i32_242
  v541
def k0_off5 (i : grid0.Coords) (k0_t3 : Fin (k0_t3_loop i).trips) : Fin 4 → Nat :=
  let c0_243 : Index := 0#32
  let c0_244 : Index := 0#32
  let arg1 : BitVec 32 := BitVec.ofNat 32 (i 1).val
  let c0_i32_15 : BitVec 32 := 0#32
  let v58 : BitVec 1 := Scalar.cmpi .sgt arg1 c0_i32_15
  let v59 : BitVec 32 := Scalar.extui v58
  let c0_i32_16 : BitVec 32 := 0#32
  let v60 : BitVec 1 := Scalar.cmpi .slt arg1 c0_i32_16
  let v61 : BitVec 32 := Scalar.extui v60
  let v62 : BitVec 32 := Scalar.subi v59 v61
  let c2_i32 : BitVec 32 := 2#32
  let c0_i32_17 : BitVec 32 := 0#32
  let v63 : BitVec 1 := Scalar.cmpi .sgt c2_i32 c0_i32_17
  let v64 : BitVec 32 := Scalar.extui v63
  let c0_i32_18 : BitVec 32 := 0#32
  let v65 : BitVec 1 := Scalar.cmpi .slt c2_i32 c0_i32_18
  let v66 : BitVec 32 := Scalar.extui v65
  let v67 : BitVec 32 := Scalar.subi v64 v66
  let v68 : BitVec 1 := Scalar.cmpi .ne v62 v67
  let v69 : BitVec 32 := Scalar.remsi arg1 c2_i32
  let c0_i32_19 : BitVec 32 := 0#32
  let v70 : BitVec 1 := Scalar.cmpi .ne v69 c0_i32_19
  let v71 : BitVec 1 := Scalar.andi v68 v70
  let v57 : BitVec 32 := Scalar.divsi arg1 c2_i32
  let c1_i32_20 : BitVec 32 := 1#32
  let v72 : BitVec 32 := Scalar.subi v57 c1_i32_20
  let v73 : BitVec 32 := Scalar.select v71 v72 v57
  let c2_i32_25 : BitVec 32 := 2#32
  let v81 : BitVec 32 := Scalar.muli v73 c2_i32_25
  let c1_i32_27 : BitVec 32 := 1#32
  let arg9 : BitVec 32 := Scf.iv v81 c1_i32_27 k0_t3
  let c512_i32_242 : BitVec 32 := 512#32
  let v541 : BitVec 32 := Scalar.muli arg9 c512_i32_242
  let v542 : BitVec 32 := v541
  let v543 : Index := Scalar.indexCast v542
  let c0_245 : Index := 0#32
  ![0, 0, v543.toNat, 0]
def k0_off6 (i : grid0.Coords) (k0_t3 : Fin (k0_t3_loop i).trips) : Fin 2 → Nat :=
  let arg1 : BitVec 32 := BitVec.ofNat 32 (i 1).val
  let c0_i32_15 : BitVec 32 := 0#32
  let v58 : BitVec 1 := Scalar.cmpi .sgt arg1 c0_i32_15
  let v59 : BitVec 32 := Scalar.extui v58
  let c0_i32_16 : BitVec 32 := 0#32
  let v60 : BitVec 1 := Scalar.cmpi .slt arg1 c0_i32_16
  let v61 : BitVec 32 := Scalar.extui v60
  let v62 : BitVec 32 := Scalar.subi v59 v61
  let c2_i32 : BitVec 32 := 2#32
  let c0_i32_17 : BitVec 32 := 0#32
  let v63 : BitVec 1 := Scalar.cmpi .sgt c2_i32 c0_i32_17
  let v64 : BitVec 32 := Scalar.extui v63
  let c0_i32_18 : BitVec 32 := 0#32
  let v65 : BitVec 1 := Scalar.cmpi .slt c2_i32 c0_i32_18
  let v66 : BitVec 32 := Scalar.extui v65
  let v67 : BitVec 32 := Scalar.subi v64 v66
  let v68 : BitVec 1 := Scalar.cmpi .ne v62 v67
  let v69 : BitVec 32 := Scalar.remsi arg1 c2_i32
  let c0_i32_19 : BitVec 32 := 0#32
  let v70 : BitVec 1 := Scalar.cmpi .ne v69 c0_i32_19
  let v71 : BitVec 1 := Scalar.andi v68 v70
  let v57 : BitVec 32 := Scalar.divsi arg1 c2_i32
  let c1_i32_20 : BitVec 32 := 1#32
  let v72 : BitVec 32 := Scalar.subi v57 c1_i32_20
  let v73 : BitVec 32 := Scalar.select v71 v72 v57
  let c2_i32_25 : BitVec 32 := 2#32
  let v81 : BitVec 32 := Scalar.muli v73 c2_i32_25
  let c1_i32_27 : BitVec 32 := 1#32
  let arg9 : BitVec 32 := Scf.iv v81 c1_i32_27 k0_t3
  let c512_i32_242 : BitVec 32 := 512#32
  let v541 : BitVec 32 := Scalar.muli arg9 c512_i32_242
  let v542 : BitVec 32 := v541
  let v549 : Index := Scalar.indexCast v542
  let c0_250 : Index := 0#32
  ![v549.toNat, 0]
@[reducible] def k0_t4_loop (i : grid0.Coords) : Scf.Loop 32 :=
  let arg1 : BitVec 32 := BitVec.ofNat 32 (i 1).val
  let c0_i32_15 : BitVec 32 := 0#32
  let v58 : BitVec 1 := Scalar.cmpi .sgt arg1 c0_i32_15
  let v59 : BitVec 32 := Scalar.extui v58
  let c0_i32_16 : BitVec 32 := 0#32
  let v60 : BitVec 1 := Scalar.cmpi .slt arg1 c0_i32_16
  let v61 : BitVec 32 := Scalar.extui v60
  let v62 : BitVec 32 := Scalar.subi v59 v61
  let c2_i32 : BitVec 32 := 2#32
  let c0_i32_17 : BitVec 32 := 0#32
  let v63 : BitVec 1 := Scalar.cmpi .sgt c2_i32 c0_i32_17
  let v64 : BitVec 32 := Scalar.extui v63
  let c0_i32_18 : BitVec 32 := 0#32
  let v65 : BitVec 1 := Scalar.cmpi .slt c2_i32 c0_i32_18
  let v66 : BitVec 32 := Scalar.extui v65
  let v67 : BitVec 32 := Scalar.subi v64 v66
  let v68 : BitVec 1 := Scalar.cmpi .ne v62 v67
  let v69 : BitVec 32 := Scalar.remsi arg1 c2_i32
  let c0_i32_19 : BitVec 32 := 0#32
  let v70 : BitVec 1 := Scalar.cmpi .ne v69 c0_i32_19
  let v71 : BitVec 1 := Scalar.andi v68 v70
  let v57 : BitVec 32 := Scalar.divsi arg1 c2_i32
  let c1_i32_20 : BitVec 32 := 1#32
  let v72 : BitVec 32 := Scalar.subi v57 c1_i32_20
  let v73 : BitVec 32 := Scalar.select v71 v72 v57
  let c2_i32_25 : BitVec 32 := 2#32
  let v81 : BitVec 32 := Scalar.muli v73 c2_i32_25
  let v82 : BitVec 32 := Scalar.subi arg1 v81
  let c1_i32_26 : BitVec 32 := 1#32
  let v84 : BitVec 32 := Scalar.divsi v82 c1_i32_26
  let v85 : BitVec 32 := Scalar.muli v84 c1_i32_26
  let v86 : BitVec 32 := Scalar.addi v81 v85
  let v83 : BitVec 32 := Scalar.addi v81 v82
  let c1_i32_28 : BitVec 32 := 1#32
  ⟨v86, v83, c1_i32_28⟩
def k0_mult6 (i : grid0.Coords) (k0_t4 : Fin (k0_t4_loop i).trips) : BitVec 32 :=
  let arg1 : BitVec 32 := BitVec.ofNat 32 (i 1).val
  let c0_i32_15 : BitVec 32 := 0#32
  let v58 : BitVec 1 := Scalar.cmpi .sgt arg1 c0_i32_15
  let v59 : BitVec 32 := Scalar.extui v58
  let c0_i32_16 : BitVec 32 := 0#32
  let v60 : BitVec 1 := Scalar.cmpi .slt arg1 c0_i32_16
  let v61 : BitVec 32 := Scalar.extui v60
  let v62 : BitVec 32 := Scalar.subi v59 v61
  let c2_i32 : BitVec 32 := 2#32
  let c0_i32_17 : BitVec 32 := 0#32
  let v63 : BitVec 1 := Scalar.cmpi .sgt c2_i32 c0_i32_17
  let v64 : BitVec 32 := Scalar.extui v63
  let c0_i32_18 : BitVec 32 := 0#32
  let v65 : BitVec 1 := Scalar.cmpi .slt c2_i32 c0_i32_18
  let v66 : BitVec 32 := Scalar.extui v65
  let v67 : BitVec 32 := Scalar.subi v64 v66
  let v68 : BitVec 1 := Scalar.cmpi .ne v62 v67
  let v69 : BitVec 32 := Scalar.remsi arg1 c2_i32
  let c0_i32_19 : BitVec 32 := 0#32
  let v70 : BitVec 1 := Scalar.cmpi .ne v69 c0_i32_19
  let v71 : BitVec 1 := Scalar.andi v68 v70
  let v57 : BitVec 32 := Scalar.divsi arg1 c2_i32
  let c1_i32_20 : BitVec 32 := 1#32
  let v72 : BitVec 32 := Scalar.subi v57 c1_i32_20
  let v73 : BitVec 32 := Scalar.select v71 v72 v57
  let c2_i32_25 : BitVec 32 := 2#32
  let v81 : BitVec 32 := Scalar.muli v73 c2_i32_25
  let v82 : BitVec 32 := Scalar.subi arg1 v81
  let c1_i32_26 : BitVec 32 := 1#32
  let v84 : BitVec 32 := Scalar.divsi v82 c1_i32_26
  let v85 : BitVec 32 := Scalar.muli v84 c1_i32_26
  let v86 : BitVec 32 := Scalar.addi v81 v85
  let c1_i32_28 : BitVec 32 := 1#32
  let arg9 : BitVec 32 := Scf.iv v86 c1_i32_28 k0_t4
  let c512_i32_242 : BitVec 32 := 512#32
  let v541 : BitVec 32 := Scalar.muli arg9 c512_i32_242
  v541
def k0_off7 (i : grid0.Coords) (k0_t4 : Fin (k0_t4_loop i).trips) : Fin 4 → Nat :=
  let c0_243 : Index := 0#32
  let c0_244 : Index := 0#32
  let arg1 : BitVec 32 := BitVec.ofNat 32 (i 1).val
  let c0_i32_15 : BitVec 32 := 0#32
  let v58 : BitVec 1 := Scalar.cmpi .sgt arg1 c0_i32_15
  let v59 : BitVec 32 := Scalar.extui v58
  let c0_i32_16 : BitVec 32 := 0#32
  let v60 : BitVec 1 := Scalar.cmpi .slt arg1 c0_i32_16
  let v61 : BitVec 32 := Scalar.extui v60
  let v62 : BitVec 32 := Scalar.subi v59 v61
  let c2_i32 : BitVec 32 := 2#32
  let c0_i32_17 : BitVec 32 := 0#32
  let v63 : BitVec 1 := Scalar.cmpi .sgt c2_i32 c0_i32_17
  let v64 : BitVec 32 := Scalar.extui v63
  let c0_i32_18 : BitVec 32 := 0#32
  let v65 : BitVec 1 := Scalar.cmpi .slt c2_i32 c0_i32_18
  let v66 : BitVec 32 := Scalar.extui v65
  let v67 : BitVec 32 := Scalar.subi v64 v66
  let v68 : BitVec 1 := Scalar.cmpi .ne v62 v67
  let v69 : BitVec 32 := Scalar.remsi arg1 c2_i32
  let c0_i32_19 : BitVec 32 := 0#32
  let v70 : BitVec 1 := Scalar.cmpi .ne v69 c0_i32_19
  let v71 : BitVec 1 := Scalar.andi v68 v70
  let v57 : BitVec 32 := Scalar.divsi arg1 c2_i32
  let c1_i32_20 : BitVec 32 := 1#32
  let v72 : BitVec 32 := Scalar.subi v57 c1_i32_20
  let v73 : BitVec 32 := Scalar.select v71 v72 v57
  let c2_i32_25 : BitVec 32 := 2#32
  let v81 : BitVec 32 := Scalar.muli v73 c2_i32_25
  let v82 : BitVec 32 := Scalar.subi arg1 v81
  let c1_i32_26 : BitVec 32 := 1#32
  let v84 : BitVec 32 := Scalar.divsi v82 c1_i32_26
  let v85 : BitVec 32 := Scalar.muli v84 c1_i32_26
  let v86 : BitVec 32 := Scalar.addi v81 v85
  let c1_i32_28 : BitVec 32 := 1#32
  let arg9 : BitVec 32 := Scf.iv v86 c1_i32_28 k0_t4
  let c512_i32_242 : BitVec 32 := 512#32
  let v541 : BitVec 32 := Scalar.muli arg9 c512_i32_242
  let v542 : BitVec 32 := v541
  let v543 : Index := Scalar.indexCast v542
  let c0_245 : Index := 0#32
  ![0, 0, v543.toNat, 0]
def k0_off8 (i : grid0.Coords) (k0_t4 : Fin (k0_t4_loop i).trips) : Fin 2 → Nat :=
  let arg1 : BitVec 32 := BitVec.ofNat 32 (i 1).val
  let c0_i32_15 : BitVec 32 := 0#32
  let v58 : BitVec 1 := Scalar.cmpi .sgt arg1 c0_i32_15
  let v59 : BitVec 32 := Scalar.extui v58
  let c0_i32_16 : BitVec 32 := 0#32
  let v60 : BitVec 1 := Scalar.cmpi .slt arg1 c0_i32_16
  let v61 : BitVec 32 := Scalar.extui v60
  let v62 : BitVec 32 := Scalar.subi v59 v61
  let c2_i32 : BitVec 32 := 2#32
  let c0_i32_17 : BitVec 32 := 0#32
  let v63 : BitVec 1 := Scalar.cmpi .sgt c2_i32 c0_i32_17
  let v64 : BitVec 32 := Scalar.extui v63
  let c0_i32_18 : BitVec 32 := 0#32
  let v65 : BitVec 1 := Scalar.cmpi .slt c2_i32 c0_i32_18
  let v66 : BitVec 32 := Scalar.extui v65
  let v67 : BitVec 32 := Scalar.subi v64 v66
  let v68 : BitVec 1 := Scalar.cmpi .ne v62 v67
  let v69 : BitVec 32 := Scalar.remsi arg1 c2_i32
  let c0_i32_19 : BitVec 32 := 0#32
  let v70 : BitVec 1 := Scalar.cmpi .ne v69 c0_i32_19
  let v71 : BitVec 1 := Scalar.andi v68 v70
  let v57 : BitVec 32 := Scalar.divsi arg1 c2_i32
  let c1_i32_20 : BitVec 32 := 1#32
  let v72 : BitVec 32 := Scalar.subi v57 c1_i32_20
  let v73 : BitVec 32 := Scalar.select v71 v72 v57
  let c2_i32_25 : BitVec 32 := 2#32
  let v81 : BitVec 32 := Scalar.muli v73 c2_i32_25
  let v82 : BitVec 32 := Scalar.subi arg1 v81
  let c1_i32_26 : BitVec 32 := 1#32
  let v84 : BitVec 32 := Scalar.divsi v82 c1_i32_26
  let v85 : BitVec 32 := Scalar.muli v84 c1_i32_26
  let v86 : BitVec 32 := Scalar.addi v81 v85
  let c1_i32_28 : BitVec 32 := 1#32
  let arg9 : BitVec 32 := Scf.iv v86 c1_i32_28 k0_t4
  let c512_i32_242 : BitVec 32 := 512#32
  let v541 : BitVec 32 := Scalar.muli arg9 c512_i32_242
  let v542 : BitVec 32 := v541
  let v549 : Index := Scalar.indexCast v542
  let c0_250 : Index := 0#32
  ![v549.toNat, 0]
def k0_mult7 (i : grid0.Coords) : BitVec 32 :=
  let arg1 : BitVec 32 := BitVec.ofNat 32 (i 1).val
  let c512_i32 : BitVec 32 := 512#32
  let v89 : BitVec 32 := Scalar.muli arg1 c512_i32
  v89
def k0_off9 (i : grid0.Coords) : Fin 4 → Nat :=
  let c0 : Index := 0#32
  let c0_29 : Index := 0#32
  let arg1 : BitVec 32 := BitVec.ofNat 32 (i 1).val
  let c512_i32 : BitVec 32 := 512#32
  let v89 : BitVec 32 := Scalar.muli arg1 c512_i32
  let v90 : BitVec 32 := v89
  let v91 : Index := Scalar.indexCast v90
  let c0_30 : Index := 0#32
  ![0, 0, v91.toNat, 0]
def k0_off10 (i : grid0.Coords) : Fin 2 → Nat :=
  let arg1 : BitVec 32 := BitVec.ofNat 32 (i 1).val
  let c512_i32 : BitVec 32 := 512#32
  let v89 : BitVec 32 := Scalar.muli arg1 c512_i32
  let v90 : BitVec 32 := v89
  let v98 : Index := Scalar.indexCast v90
  let c0_35 : Index := 0#32
  ![v98.toNat, 0]
@[reducible] def k0_t5_loop (i : grid0.Coords) : Scf.Loop 32 :=
  let c0_i32_48 : BitVec 32 := 0#32
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let v127 : BitVec 32 := Scalar.subi v126 c0_i32_48
  let c1_i32_49 : BitVec 32 := 1#32
  let v129 : BitVec 32 := Scalar.divsi v127 c1_i32_49
  let v130 : BitVec 32 := Scalar.muli v129 c1_i32_49
  let v131 : BitVec 32 := Scalar.addi c0_i32_48 v130
  let c1_i32_50 : BitVec 32 := 1#32
  ⟨c0_i32_48, v131, c1_i32_50⟩
def k0_mult8 (i : grid0.Coords) (k0_t5 : Fin (k0_t5_loop i).trips) : BitVec 32 :=
  let c0_i32_48 : BitVec 32 := 0#32
  let c1_i32_50 : BitVec 32 := 1#32
  let arg9 : BitVec 32 := Scf.iv c0_i32_48 c1_i32_50 k0_t5
  let c2_i32_242 : BitVec 32 := 2#32
  let v541 : BitVec 32 := Scalar.muli arg9 c2_i32_242
  let c0_i32_243 : BitVec 32 := 0#32
  let v542 : BitVec 32 := Scalar.addi v541 c0_i32_243
  let c512_i32_244 : BitVec 32 := 512#32
  let v543 : BitVec 32 := Scalar.muli v542 c512_i32_244
  v543
def k0_off11 (i : grid0.Coords) (k0_t5 : Fin (k0_t5_loop i).trips) (c0_i32_243 : BitVec 32) : Fin 4 → Nat :=
  let c0_245 : Index := 0#32
  let c1_246 : Index := 1#32
  let c0_i32_48 : BitVec 32 := 0#32
  let c1_i32_50 : BitVec 32 := 1#32
  let arg9 : BitVec 32 := Scf.iv c0_i32_48 c1_i32_50 k0_t5
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v545 : Index := Scalar.indexCast v544
  let c0_247 : Index := 0#32
  ![0, 1, v545.toNat, 0]
def k0_off12 (i : grid0.Coords) (k0_t5 : Fin (k0_t5_loop i).trips) (c0_i32_243 : BitVec 32) : Fin 2 → Nat :=
  let c0_i32_48 : BitVec 32 := 0#32
  let c1_i32_50 : BitVec 32 := 1#32
  let arg9 : BitVec 32 := Scf.iv c0_i32_48 c1_i32_50 k0_t5
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v551 : Index := Scalar.indexCast v544
  let c0_252 : Index := 0#32
  ![v551.toNat, 0]
def k0_off13 (i : grid0.Coords) (k0_t5 : Fin (k0_t5_loop i).trips) (c0_i32_243 : BitVec 32) : Fin 3 → Nat :=
  let c0_256 : Index := 0#32
  let c0_257 : Index := 0#32
  let c0_i32_48 : BitVec 32 := 0#32
  let c1_i32_50 : BitVec 32 := 1#32
  let arg9 : BitVec 32 := Scf.iv c0_i32_48 c1_i32_50 k0_t5
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v566 : Index := Scalar.indexCast v544
  ![0, 0, v566.toNat]
def k0_mult9 (i : grid0.Coords) (k0_t5 : Fin (k0_t5_loop i).trips) : BitVec 32 :=
  let c0_i32_48 : BitVec 32 := 0#32
  let c1_i32_50 : BitVec 32 := 1#32
  let arg9 : BitVec 32 := Scf.iv c0_i32_48 c1_i32_50 k0_t5
  let c2_i32_259 : BitVec 32 := 2#32
  let v572 : BitVec 32 := Scalar.muli arg9 c2_i32_259
  let c1_i32_260 : BitVec 32 := 1#32
  let v573 : BitVec 32 := Scalar.addi v572 c1_i32_260
  let c512_i32_261 : BitVec 32 := 512#32
  let v574 : BitVec 32 := Scalar.muli v573 c512_i32_261
  v574
@[reducible] def k0_t6_loop (i : grid0.Coords) : Scf.Loop 32 :=
  let c0_i32_48 : BitVec 32 := 0#32
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let v127 : BitVec 32 := Scalar.subi v126 c0_i32_48
  let c1_i32_49 : BitVec 32 := 1#32
  let v129 : BitVec 32 := Scalar.divsi v127 c1_i32_49
  let v130 : BitVec 32 := Scalar.muli v129 c1_i32_49
  let v131 : BitVec 32 := Scalar.addi c0_i32_48 v130
  let v128 : BitVec 32 := Scalar.addi c0_i32_48 v127
  let c1_i32_51 : BitVec 32 := 1#32
  ⟨v131, v128, c1_i32_51⟩
def k0_mult10 (i : grid0.Coords) (k0_t6 : Fin (k0_t6_loop i).trips) : BitVec 32 :=
  let c0_i32_48 : BitVec 32 := 0#32
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let v127 : BitVec 32 := Scalar.subi v126 c0_i32_48
  let c1_i32_49 : BitVec 32 := 1#32
  let v129 : BitVec 32 := Scalar.divsi v127 c1_i32_49
  let v130 : BitVec 32 := Scalar.muli v129 c1_i32_49
  let v131 : BitVec 32 := Scalar.addi c0_i32_48 v130
  let c1_i32_51 : BitVec 32 := 1#32
  let arg9 : BitVec 32 := Scf.iv v131 c1_i32_51 k0_t6
  let c2_i32_242 : BitVec 32 := 2#32
  let v541 : BitVec 32 := Scalar.muli arg9 c2_i32_242
  let c0_i32_243 : BitVec 32 := 0#32
  let v542 : BitVec 32 := Scalar.addi v541 c0_i32_243
  let c512_i32_244 : BitVec 32 := 512#32
  let v543 : BitVec 32 := Scalar.muli v542 c512_i32_244
  v543
def k0_off14 (i : grid0.Coords) (k0_t6 : Fin (k0_t6_loop i).trips) (c0_i32_243 : BitVec 32) : Fin 4 → Nat :=
  let c0_245 : Index := 0#32
  let c1_246 : Index := 1#32
  let c0_i32_48 : BitVec 32 := 0#32
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let v127 : BitVec 32 := Scalar.subi v126 c0_i32_48
  let c1_i32_49 : BitVec 32 := 1#32
  let v129 : BitVec 32 := Scalar.divsi v127 c1_i32_49
  let v130 : BitVec 32 := Scalar.muli v129 c1_i32_49
  let v131 : BitVec 32 := Scalar.addi c0_i32_48 v130
  let c1_i32_51 : BitVec 32 := 1#32
  let arg9 : BitVec 32 := Scf.iv v131 c1_i32_51 k0_t6
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v545 : Index := Scalar.indexCast v544
  let c0_247 : Index := 0#32
  ![0, 1, v545.toNat, 0]
def k0_off15 (i : grid0.Coords) (k0_t6 : Fin (k0_t6_loop i).trips) (c0_i32_243 : BitVec 32) : Fin 2 → Nat :=
  let c0_i32_48 : BitVec 32 := 0#32
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let v127 : BitVec 32 := Scalar.subi v126 c0_i32_48
  let c1_i32_49 : BitVec 32 := 1#32
  let v129 : BitVec 32 := Scalar.divsi v127 c1_i32_49
  let v130 : BitVec 32 := Scalar.muli v129 c1_i32_49
  let v131 : BitVec 32 := Scalar.addi c0_i32_48 v130
  let c1_i32_51 : BitVec 32 := 1#32
  let arg9 : BitVec 32 := Scf.iv v131 c1_i32_51 k0_t6
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v551 : Index := Scalar.indexCast v544
  let c0_252 : Index := 0#32
  ![v551.toNat, 0]
def k0_off16 (i : grid0.Coords) (k0_t6 : Fin (k0_t6_loop i).trips) (c0_i32_243 : BitVec 32) : Fin 3 → Nat :=
  let c0_256 : Index := 0#32
  let c0_257 : Index := 0#32
  let c0_i32_48 : BitVec 32 := 0#32
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let v127 : BitVec 32 := Scalar.subi v126 c0_i32_48
  let c1_i32_49 : BitVec 32 := 1#32
  let v129 : BitVec 32 := Scalar.divsi v127 c1_i32_49
  let v130 : BitVec 32 := Scalar.muli v129 c1_i32_49
  let v131 : BitVec 32 := Scalar.addi c0_i32_48 v130
  let c1_i32_51 : BitVec 32 := 1#32
  let arg9 : BitVec 32 := Scf.iv v131 c1_i32_51 k0_t6
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v566 : Index := Scalar.indexCast v544
  ![0, 0, v566.toNat]
def k0_mult11 (i : grid0.Coords) (k0_t6 : Fin (k0_t6_loop i).trips) : BitVec 32 :=
  let c0_i32_48 : BitVec 32 := 0#32
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let v127 : BitVec 32 := Scalar.subi v126 c0_i32_48
  let c1_i32_49 : BitVec 32 := 1#32
  let v129 : BitVec 32 := Scalar.divsi v127 c1_i32_49
  let v130 : BitVec 32 := Scalar.muli v129 c1_i32_49
  let v131 : BitVec 32 := Scalar.addi c0_i32_48 v130
  let c1_i32_51 : BitVec 32 := 1#32
  let arg9 : BitVec 32 := Scf.iv v131 c1_i32_51 k0_t6
  let c2_i32_259 : BitVec 32 := 2#32
  let v572 : BitVec 32 := Scalar.muli arg9 c2_i32_259
  let c1_i32_260 : BitVec 32 := 1#32
  let v573 : BitVec 32 := Scalar.addi v572 c1_i32_260
  let c512_i32_261 : BitVec 32 := 512#32
  let v574 : BitVec 32 := Scalar.muli v573 c512_i32_261
  v574
@[reducible] def k0_t7_loop (i : grid0.Coords) : Scf.Loop 32 :=
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let c2_i32_52 : BitVec 32 := 2#32
  let v134 : BitVec 32 := Scalar.muli v126 c2_i32_52
  let v135 : BitVec 32 := Scalar.subi arg1 v134
  let c1_i32_53 : BitVec 32 := 1#32
  let v137 : BitVec 32 := Scalar.divsi v135 c1_i32_53
  let v138 : BitVec 32 := Scalar.muli v137 c1_i32_53
  let v139 : BitVec 32 := Scalar.addi v134 v138
  let c1_i32_54 : BitVec 32 := 1#32
  ⟨v134, v139, c1_i32_54⟩
def k0_mult12 (i : grid0.Coords) (k0_t7 : Fin (k0_t7_loop i).trips) : BitVec 32 :=
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let c2_i32_52 : BitVec 32 := 2#32
  let v134 : BitVec 32 := Scalar.muli v126 c2_i32_52
  let c1_i32_54 : BitVec 32 := 1#32
  let arg9 : BitVec 32 := Scf.iv v134 c1_i32_54 k0_t7
  let c512_i32_242 : BitVec 32 := 512#32
  let v541 : BitVec 32 := Scalar.muli arg9 c512_i32_242
  v541
def k0_off17 (i : grid0.Coords) (k0_t7 : Fin (k0_t7_loop i).trips) : Fin 4 → Nat :=
  let c0_243 : Index := 0#32
  let c1_244 : Index := 1#32
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let c2_i32_52 : BitVec 32 := 2#32
  let v134 : BitVec 32 := Scalar.muli v126 c2_i32_52
  let c1_i32_54 : BitVec 32 := 1#32
  let arg9 : BitVec 32 := Scf.iv v134 c1_i32_54 k0_t7
  let c512_i32_242 : BitVec 32 := 512#32
  let v541 : BitVec 32 := Scalar.muli arg9 c512_i32_242
  let v542 : BitVec 32 := v541
  let v543 : Index := Scalar.indexCast v542
  let c0_245 : Index := 0#32
  ![0, 1, v543.toNat, 0]
def k0_off18 (i : grid0.Coords) (k0_t7 : Fin (k0_t7_loop i).trips) : Fin 2 → Nat :=
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let c2_i32_52 : BitVec 32 := 2#32
  let v134 : BitVec 32 := Scalar.muli v126 c2_i32_52
  let c1_i32_54 : BitVec 32 := 1#32
  let arg9 : BitVec 32 := Scf.iv v134 c1_i32_54 k0_t7
  let c512_i32_242 : BitVec 32 := 512#32
  let v541 : BitVec 32 := Scalar.muli arg9 c512_i32_242
  let v542 : BitVec 32 := v541
  let v549 : Index := Scalar.indexCast v542
  let c0_250 : Index := 0#32
  ![v549.toNat, 0]
def k0_off19 (i : grid0.Coords) (k0_t7 : Fin (k0_t7_loop i).trips) : Fin 3 → Nat :=
  let c0_254 : Index := 0#32
  let c0_255 : Index := 0#32
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let c2_i32_52 : BitVec 32 := 2#32
  let v134 : BitVec 32 := Scalar.muli v126 c2_i32_52
  let c1_i32_54 : BitVec 32 := 1#32
  let arg9 : BitVec 32 := Scf.iv v134 c1_i32_54 k0_t7
  let c512_i32_242 : BitVec 32 := 512#32
  let v541 : BitVec 32 := Scalar.muli arg9 c512_i32_242
  let v542 : BitVec 32 := v541
  let v564 : Index := Scalar.indexCast v542
  ![0, 0, v564.toNat]
@[reducible] def k0_t8_loop (i : grid0.Coords) : Scf.Loop 32 :=
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let c2_i32_52 : BitVec 32 := 2#32
  let v134 : BitVec 32 := Scalar.muli v126 c2_i32_52
  let v135 : BitVec 32 := Scalar.subi arg1 v134
  let c1_i32_53 : BitVec 32 := 1#32
  let v137 : BitVec 32 := Scalar.divsi v135 c1_i32_53
  let v138 : BitVec 32 := Scalar.muli v137 c1_i32_53
  let v139 : BitVec 32 := Scalar.addi v134 v138
  let v136 : BitVec 32 := Scalar.addi v134 v135
  let c1_i32_55 : BitVec 32 := 1#32
  ⟨v139, v136, c1_i32_55⟩
def k0_mult13 (i : grid0.Coords) (k0_t8 : Fin (k0_t8_loop i).trips) : BitVec 32 :=
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let c2_i32_52 : BitVec 32 := 2#32
  let v134 : BitVec 32 := Scalar.muli v126 c2_i32_52
  let v135 : BitVec 32 := Scalar.subi arg1 v134
  let c1_i32_53 : BitVec 32 := 1#32
  let v137 : BitVec 32 := Scalar.divsi v135 c1_i32_53
  let v138 : BitVec 32 := Scalar.muli v137 c1_i32_53
  let v139 : BitVec 32 := Scalar.addi v134 v138
  let c1_i32_55 : BitVec 32 := 1#32
  let arg9 : BitVec 32 := Scf.iv v139 c1_i32_55 k0_t8
  let c512_i32_242 : BitVec 32 := 512#32
  let v541 : BitVec 32 := Scalar.muli arg9 c512_i32_242
  v541
def k0_off20 (i : grid0.Coords) (k0_t8 : Fin (k0_t8_loop i).trips) : Fin 4 → Nat :=
  let c0_243 : Index := 0#32
  let c1_244 : Index := 1#32
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let c2_i32_52 : BitVec 32 := 2#32
  let v134 : BitVec 32 := Scalar.muli v126 c2_i32_52
  let v135 : BitVec 32 := Scalar.subi arg1 v134
  let c1_i32_53 : BitVec 32 := 1#32
  let v137 : BitVec 32 := Scalar.divsi v135 c1_i32_53
  let v138 : BitVec 32 := Scalar.muli v137 c1_i32_53
  let v139 : BitVec 32 := Scalar.addi v134 v138
  let c1_i32_55 : BitVec 32 := 1#32
  let arg9 : BitVec 32 := Scf.iv v139 c1_i32_55 k0_t8
  let c512_i32_242 : BitVec 32 := 512#32
  let v541 : BitVec 32 := Scalar.muli arg9 c512_i32_242
  let v542 : BitVec 32 := v541
  let v543 : Index := Scalar.indexCast v542
  let c0_245 : Index := 0#32
  ![0, 1, v543.toNat, 0]
def k0_off21 (i : grid0.Coords) (k0_t8 : Fin (k0_t8_loop i).trips) : Fin 2 → Nat :=
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let c2_i32_52 : BitVec 32 := 2#32
  let v134 : BitVec 32 := Scalar.muli v126 c2_i32_52
  let v135 : BitVec 32 := Scalar.subi arg1 v134
  let c1_i32_53 : BitVec 32 := 1#32
  let v137 : BitVec 32 := Scalar.divsi v135 c1_i32_53
  let v138 : BitVec 32 := Scalar.muli v137 c1_i32_53
  let v139 : BitVec 32 := Scalar.addi v134 v138
  let c1_i32_55 : BitVec 32 := 1#32
  let arg9 : BitVec 32 := Scf.iv v139 c1_i32_55 k0_t8
  let c512_i32_242 : BitVec 32 := 512#32
  let v541 : BitVec 32 := Scalar.muli arg9 c512_i32_242
  let v542 : BitVec 32 := v541
  let v549 : Index := Scalar.indexCast v542
  let c0_250 : Index := 0#32
  ![v549.toNat, 0]
def k0_off22 (i : grid0.Coords) (k0_t8 : Fin (k0_t8_loop i).trips) : Fin 3 → Nat :=
  let c0_254 : Index := 0#32
  let c0_255 : Index := 0#32
  let arg1 : BitVec 32 := BitVec.ofNat 32 (i 1).val
  let c0_i32_42 : BitVec 32 := 0#32
  let v111 : BitVec 1 := Scalar.cmpi .sgt arg1 c0_i32_42
  let v112 : BitVec 32 := Scalar.extui v111
  let c0_i32_43 : BitVec 32 := 0#32
  let v113 : BitVec 1 := Scalar.cmpi .slt arg1 c0_i32_43
  let v114 : BitVec 32 := Scalar.extui v113
  let v115 : BitVec 32 := Scalar.subi v112 v114
  let c2_i32_41 : BitVec 32 := 2#32
  let c0_i32_44 : BitVec 32 := 0#32
  let v116 : BitVec 1 := Scalar.cmpi .sgt c2_i32_41 c0_i32_44
  let v117 : BitVec 32 := Scalar.extui v116
  let c0_i32_45 : BitVec 32 := 0#32
  let v118 : BitVec 1 := Scalar.cmpi .slt c2_i32_41 c0_i32_45
  let v119 : BitVec 32 := Scalar.extui v118
  let v120 : BitVec 32 := Scalar.subi v117 v119
  let v121 : BitVec 1 := Scalar.cmpi .ne v115 v120
  let v122 : BitVec 32 := Scalar.remsi arg1 c2_i32_41
  let c0_i32_46 : BitVec 32 := 0#32
  let v123 : BitVec 1 := Scalar.cmpi .ne v122 c0_i32_46
  let v124 : BitVec 1 := Scalar.andi v121 v123
  let v110 : BitVec 32 := Scalar.divsi arg1 c2_i32_41
  let c1_i32_47 : BitVec 32 := 1#32
  let v125 : BitVec 32 := Scalar.subi v110 c1_i32_47
  let v126 : BitVec 32 := Scalar.select v124 v125 v110
  let c2_i32_52 : BitVec 32 := 2#32
  let v134 : BitVec 32 := Scalar.muli v126 c2_i32_52
  let v135 : BitVec 32 := Scalar.subi arg1 v134
  let c1_i32_53 : BitVec 32 := 1#32
  let v137 : BitVec 32 := Scalar.divsi v135 c1_i32_53
  let v138 : BitVec 32 := Scalar.muli v137 c1_i32_53
  let v139 : BitVec 32 := Scalar.addi v134 v138
  let c1_i32_55 : BitVec 32 := 1#32
  let arg9 : BitVec 32 := Scf.iv v139 c1_i32_55 k0_t8
  let c512_i32_242 : BitVec 32 := 512#32
  let v541 : BitVec 32 := Scalar.muli arg9 c512_i32_242
  let v542 : BitVec 32 := v541
  let v564 : Index := Scalar.indexCast v542
  ![0, 0, v564.toNat]
def k0_mult14 (i : grid0.Coords) : BitVec 32 :=
  let arg1 : BitVec 32 := BitVec.ofNat 32 (i 1).val
  let c512_i32_56 : BitVec 32 := 512#32
  let v142 : BitVec 32 := Scalar.muli arg1 c512_i32_56
  v142
def k0_off23 (i : grid0.Coords) : Fin 4 → Nat :=
  let c0_57 : Index := 0#32
  let c1 : Index := 1#32
  let arg1 : BitVec 32 := BitVec.ofNat 32 (i 1).val
  let c512_i32_56 : BitVec 32 := 512#32
  let v142 : BitVec 32 := Scalar.muli arg1 c512_i32_56
  let v143 : BitVec 32 := v142
  let v144 : Index := Scalar.indexCast v143
  let c0_58 : Index := 0#32
  ![0, 1, v144.toNat, 0]
def k0_off24 (i : grid0.Coords) : Fin 3 → Nat :=
  let c0_66 : Index := 0#32
  let c0_67 : Index := 0#32
  let arg1 : BitVec 32 := BitVec.ofNat 32 (i 1).val
  let c512_i32_56 : BitVec 32 := 512#32
  let v142 : BitVec 32 := Scalar.muli arg1 c512_i32_56
  let v143 : BitVec 32 := v142
  let v166 : Index := Scalar.indexCast v143
  ![0, 0, v166.toNat]
@[reducible] def k0_t9_loop (i : grid0.Coords) : Scf.Loop 32 :=
  let c0_i32_83 : BitVec 32 := 0#32
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let v201 : BitVec 32 := Scalar.subi v200 c0_i32_83
  let c1_i32_84 : BitVec 32 := 1#32
  let v203 : BitVec 32 := Scalar.divsi v201 c1_i32_84
  let v204 : BitVec 32 := Scalar.muli v203 c1_i32_84
  let v205 : BitVec 32 := Scalar.addi c0_i32_83 v204
  let c1_i32_85 : BitVec 32 := 1#32
  ⟨c0_i32_83, v205, c1_i32_85⟩
def k0_mult15 (i : grid0.Coords) (k0_t9 : Fin (k0_t9_loop i).trips) : BitVec 32 :=
  let c0_i32_83 : BitVec 32 := 0#32
  let c1_i32_85 : BitVec 32 := 1#32
  let arg9 : BitVec 32 := Scf.iv c0_i32_83 c1_i32_85 k0_t9
  let c2_i32_242 : BitVec 32 := 2#32
  let v541 : BitVec 32 := Scalar.muli arg9 c2_i32_242
  let c0_i32_243 : BitVec 32 := 0#32
  let v542 : BitVec 32 := Scalar.addi v541 c0_i32_243
  let c512_i32_244 : BitVec 32 := 512#32
  let v543 : BitVec 32 := Scalar.muli v542 c512_i32_244
  v543
def k0_off25 (i : grid0.Coords) (k0_t9 : Fin (k0_t9_loop i).trips) (c0_i32_243 : BitVec 32) : Fin 4 → Nat :=
  let c0_245 : Index := 0#32
  let c2_246 : Index := 2#32
  let c0_i32_83 : BitVec 32 := 0#32
  let c1_i32_85 : BitVec 32 := 1#32
  let arg9 : BitVec 32 := Scf.iv c0_i32_83 c1_i32_85 k0_t9
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v545 : Index := Scalar.indexCast v544
  let c0_247 : Index := 0#32
  ![0, 2, v545.toNat, 0]
def k0_off26 (i : grid0.Coords) (k0_t9 : Fin (k0_t9_loop i).trips) (c0_i32_243 : BitVec 32) : Fin 2 → Nat :=
  let c0_i32_83 : BitVec 32 := 0#32
  let c1_i32_85 : BitVec 32 := 1#32
  let arg9 : BitVec 32 := Scf.iv c0_i32_83 c1_i32_85 k0_t9
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v551 : Index := Scalar.indexCast v544
  let c0_252 : Index := 0#32
  ![v551.toNat, 0]
def k0_off27 (i : grid0.Coords) (k0_t9 : Fin (k0_t9_loop i).trips) (c0_i32_243 : BitVec 32) : Fin 3 → Nat :=
  let c0_256 : Index := 0#32
  let c64_257 : Index := 64#32
  let c0_i32_83 : BitVec 32 := 0#32
  let c1_i32_85 : BitVec 32 := 1#32
  let arg9 : BitVec 32 := Scf.iv c0_i32_83 c1_i32_85 k0_t9
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v566 : Index := Scalar.indexCast v544
  ![0, 64, v566.toNat]
def k0_mult16 (i : grid0.Coords) (k0_t9 : Fin (k0_t9_loop i).trips) : BitVec 32 :=
  let c0_i32_83 : BitVec 32 := 0#32
  let c1_i32_85 : BitVec 32 := 1#32
  let arg9 : BitVec 32 := Scf.iv c0_i32_83 c1_i32_85 k0_t9
  let c2_i32_259 : BitVec 32 := 2#32
  let v572 : BitVec 32 := Scalar.muli arg9 c2_i32_259
  let c1_i32_260 : BitVec 32 := 1#32
  let v573 : BitVec 32 := Scalar.addi v572 c1_i32_260
  let c512_i32_261 : BitVec 32 := 512#32
  let v574 : BitVec 32 := Scalar.muli v573 c512_i32_261
  v574
@[reducible] def k0_t10_loop (i : grid0.Coords) : Scf.Loop 32 :=
  let c0_i32_83 : BitVec 32 := 0#32
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let v201 : BitVec 32 := Scalar.subi v200 c0_i32_83
  let c1_i32_84 : BitVec 32 := 1#32
  let v203 : BitVec 32 := Scalar.divsi v201 c1_i32_84
  let v204 : BitVec 32 := Scalar.muli v203 c1_i32_84
  let v205 : BitVec 32 := Scalar.addi c0_i32_83 v204
  let v202 : BitVec 32 := Scalar.addi c0_i32_83 v201
  let c1_i32_86 : BitVec 32 := 1#32
  ⟨v205, v202, c1_i32_86⟩
def k0_mult17 (i : grid0.Coords) (k0_t10 : Fin (k0_t10_loop i).trips) : BitVec 32 :=
  let c0_i32_83 : BitVec 32 := 0#32
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let v201 : BitVec 32 := Scalar.subi v200 c0_i32_83
  let c1_i32_84 : BitVec 32 := 1#32
  let v203 : BitVec 32 := Scalar.divsi v201 c1_i32_84
  let v204 : BitVec 32 := Scalar.muli v203 c1_i32_84
  let v205 : BitVec 32 := Scalar.addi c0_i32_83 v204
  let c1_i32_86 : BitVec 32 := 1#32
  let arg9 : BitVec 32 := Scf.iv v205 c1_i32_86 k0_t10
  let c2_i32_242 : BitVec 32 := 2#32
  let v541 : BitVec 32 := Scalar.muli arg9 c2_i32_242
  let c0_i32_243 : BitVec 32 := 0#32
  let v542 : BitVec 32 := Scalar.addi v541 c0_i32_243
  let c512_i32_244 : BitVec 32 := 512#32
  let v543 : BitVec 32 := Scalar.muli v542 c512_i32_244
  v543
def k0_off28 (i : grid0.Coords) (k0_t10 : Fin (k0_t10_loop i).trips) (c0_i32_243 : BitVec 32) : Fin 4 → Nat :=
  let c0_245 : Index := 0#32
  let c2_246 : Index := 2#32
  let c0_i32_83 : BitVec 32 := 0#32
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let v201 : BitVec 32 := Scalar.subi v200 c0_i32_83
  let c1_i32_84 : BitVec 32 := 1#32
  let v203 : BitVec 32 := Scalar.divsi v201 c1_i32_84
  let v204 : BitVec 32 := Scalar.muli v203 c1_i32_84
  let v205 : BitVec 32 := Scalar.addi c0_i32_83 v204
  let c1_i32_86 : BitVec 32 := 1#32
  let arg9 : BitVec 32 := Scf.iv v205 c1_i32_86 k0_t10
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v545 : Index := Scalar.indexCast v544
  let c0_247 : Index := 0#32
  ![0, 2, v545.toNat, 0]
def k0_off29 (i : grid0.Coords) (k0_t10 : Fin (k0_t10_loop i).trips) (c0_i32_243 : BitVec 32) : Fin 2 → Nat :=
  let c0_i32_83 : BitVec 32 := 0#32
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let v201 : BitVec 32 := Scalar.subi v200 c0_i32_83
  let c1_i32_84 : BitVec 32 := 1#32
  let v203 : BitVec 32 := Scalar.divsi v201 c1_i32_84
  let v204 : BitVec 32 := Scalar.muli v203 c1_i32_84
  let v205 : BitVec 32 := Scalar.addi c0_i32_83 v204
  let c1_i32_86 : BitVec 32 := 1#32
  let arg9 : BitVec 32 := Scf.iv v205 c1_i32_86 k0_t10
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v551 : Index := Scalar.indexCast v544
  let c0_252 : Index := 0#32
  ![v551.toNat, 0]
def k0_off30 (i : grid0.Coords) (k0_t10 : Fin (k0_t10_loop i).trips) (c0_i32_243 : BitVec 32) : Fin 3 → Nat :=
  let c0_256 : Index := 0#32
  let c64_257 : Index := 64#32
  let c0_i32_83 : BitVec 32 := 0#32
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let v201 : BitVec 32 := Scalar.subi v200 c0_i32_83
  let c1_i32_84 : BitVec 32 := 1#32
  let v203 : BitVec 32 := Scalar.divsi v201 c1_i32_84
  let v204 : BitVec 32 := Scalar.muli v203 c1_i32_84
  let v205 : BitVec 32 := Scalar.addi c0_i32_83 v204
  let c1_i32_86 : BitVec 32 := 1#32
  let arg9 : BitVec 32 := Scf.iv v205 c1_i32_86 k0_t10
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v566 : Index := Scalar.indexCast v544
  ![0, 64, v566.toNat]
def k0_mult18 (i : grid0.Coords) (k0_t10 : Fin (k0_t10_loop i).trips) : BitVec 32 :=
  let c0_i32_83 : BitVec 32 := 0#32
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let v201 : BitVec 32 := Scalar.subi v200 c0_i32_83
  let c1_i32_84 : BitVec 32 := 1#32
  let v203 : BitVec 32 := Scalar.divsi v201 c1_i32_84
  let v204 : BitVec 32 := Scalar.muli v203 c1_i32_84
  let v205 : BitVec 32 := Scalar.addi c0_i32_83 v204
  let c1_i32_86 : BitVec 32 := 1#32
  let arg9 : BitVec 32 := Scf.iv v205 c1_i32_86 k0_t10
  let c2_i32_259 : BitVec 32 := 2#32
  let v572 : BitVec 32 := Scalar.muli arg9 c2_i32_259
  let c1_i32_260 : BitVec 32 := 1#32
  let v573 : BitVec 32 := Scalar.addi v572 c1_i32_260
  let c512_i32_261 : BitVec 32 := 512#32
  let v574 : BitVec 32 := Scalar.muli v573 c512_i32_261
  v574
@[reducible] def k0_t11_loop (i : grid0.Coords) : Scf.Loop 32 :=
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let c2_i32_87 : BitVec 32 := 2#32
  let v208 : BitVec 32 := Scalar.muli v200 c2_i32_87
  let v209 : BitVec 32 := Scalar.subi arg1 v208
  let c1_i32_88 : BitVec 32 := 1#32
  let v211 : BitVec 32 := Scalar.divsi v209 c1_i32_88
  let v212 : BitVec 32 := Scalar.muli v211 c1_i32_88
  let v213 : BitVec 32 := Scalar.addi v208 v212
  let c1_i32_89 : BitVec 32 := 1#32
  ⟨v208, v213, c1_i32_89⟩
def k0_mult19 (i : grid0.Coords) (k0_t11 : Fin (k0_t11_loop i).trips) : BitVec 32 :=
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let c2_i32_87 : BitVec 32 := 2#32
  let v208 : BitVec 32 := Scalar.muli v200 c2_i32_87
  let c1_i32_89 : BitVec 32 := 1#32
  let arg9 : BitVec 32 := Scf.iv v208 c1_i32_89 k0_t11
  let c512_i32_242 : BitVec 32 := 512#32
  let v541 : BitVec 32 := Scalar.muli arg9 c512_i32_242
  v541
def k0_off31 (i : grid0.Coords) (k0_t11 : Fin (k0_t11_loop i).trips) : Fin 4 → Nat :=
  let c0_243 : Index := 0#32
  let c2_244 : Index := 2#32
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let c2_i32_87 : BitVec 32 := 2#32
  let v208 : BitVec 32 := Scalar.muli v200 c2_i32_87
  let c1_i32_89 : BitVec 32 := 1#32
  let arg9 : BitVec 32 := Scf.iv v208 c1_i32_89 k0_t11
  let c512_i32_242 : BitVec 32 := 512#32
  let v541 : BitVec 32 := Scalar.muli arg9 c512_i32_242
  let v542 : BitVec 32 := v541
  let v543 : Index := Scalar.indexCast v542
  let c0_245 : Index := 0#32
  ![0, 2, v543.toNat, 0]
def k0_off32 (i : grid0.Coords) (k0_t11 : Fin (k0_t11_loop i).trips) : Fin 2 → Nat :=
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let c2_i32_87 : BitVec 32 := 2#32
  let v208 : BitVec 32 := Scalar.muli v200 c2_i32_87
  let c1_i32_89 : BitVec 32 := 1#32
  let arg9 : BitVec 32 := Scf.iv v208 c1_i32_89 k0_t11
  let c512_i32_242 : BitVec 32 := 512#32
  let v541 : BitVec 32 := Scalar.muli arg9 c512_i32_242
  let v542 : BitVec 32 := v541
  let v549 : Index := Scalar.indexCast v542
  let c0_250 : Index := 0#32
  ![v549.toNat, 0]
def k0_off33 (i : grid0.Coords) (k0_t11 : Fin (k0_t11_loop i).trips) : Fin 3 → Nat :=
  let c0_254 : Index := 0#32
  let c64_255 : Index := 64#32
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let c2_i32_87 : BitVec 32 := 2#32
  let v208 : BitVec 32 := Scalar.muli v200 c2_i32_87
  let c1_i32_89 : BitVec 32 := 1#32
  let arg9 : BitVec 32 := Scf.iv v208 c1_i32_89 k0_t11
  let c512_i32_242 : BitVec 32 := 512#32
  let v541 : BitVec 32 := Scalar.muli arg9 c512_i32_242
  let v542 : BitVec 32 := v541
  let v564 : Index := Scalar.indexCast v542
  ![0, 64, v564.toNat]
@[reducible] def k0_t12_loop (i : grid0.Coords) : Scf.Loop 32 :=
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let c2_i32_87 : BitVec 32 := 2#32
  let v208 : BitVec 32 := Scalar.muli v200 c2_i32_87
  let v209 : BitVec 32 := Scalar.subi arg1 v208
  let c1_i32_88 : BitVec 32 := 1#32
  let v211 : BitVec 32 := Scalar.divsi v209 c1_i32_88
  let v212 : BitVec 32 := Scalar.muli v211 c1_i32_88
  let v213 : BitVec 32 := Scalar.addi v208 v212
  let v210 : BitVec 32 := Scalar.addi v208 v209
  let c1_i32_90 : BitVec 32 := 1#32
  ⟨v213, v210, c1_i32_90⟩
def k0_mult20 (i : grid0.Coords) (k0_t12 : Fin (k0_t12_loop i).trips) : BitVec 32 :=
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let c2_i32_87 : BitVec 32 := 2#32
  let v208 : BitVec 32 := Scalar.muli v200 c2_i32_87
  let v209 : BitVec 32 := Scalar.subi arg1 v208
  let c1_i32_88 : BitVec 32 := 1#32
  let v211 : BitVec 32 := Scalar.divsi v209 c1_i32_88
  let v212 : BitVec 32 := Scalar.muli v211 c1_i32_88
  let v213 : BitVec 32 := Scalar.addi v208 v212
  let c1_i32_90 : BitVec 32 := 1#32
  let arg9 : BitVec 32 := Scf.iv v213 c1_i32_90 k0_t12
  let c512_i32_242 : BitVec 32 := 512#32
  let v541 : BitVec 32 := Scalar.muli arg9 c512_i32_242
  v541
def k0_off34 (i : grid0.Coords) (k0_t12 : Fin (k0_t12_loop i).trips) : Fin 4 → Nat :=
  let c0_243 : Index := 0#32
  let c2_244 : Index := 2#32
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let c2_i32_87 : BitVec 32 := 2#32
  let v208 : BitVec 32 := Scalar.muli v200 c2_i32_87
  let v209 : BitVec 32 := Scalar.subi arg1 v208
  let c1_i32_88 : BitVec 32 := 1#32
  let v211 : BitVec 32 := Scalar.divsi v209 c1_i32_88
  let v212 : BitVec 32 := Scalar.muli v211 c1_i32_88
  let v213 : BitVec 32 := Scalar.addi v208 v212
  let c1_i32_90 : BitVec 32 := 1#32
  let arg9 : BitVec 32 := Scf.iv v213 c1_i32_90 k0_t12
  let c512_i32_242 : BitVec 32 := 512#32
  let v541 : BitVec 32 := Scalar.muli arg9 c512_i32_242
  let v542 : BitVec 32 := v541
  let v543 : Index := Scalar.indexCast v542
  let c0_245 : Index := 0#32
  ![0, 2, v543.toNat, 0]
def k0_off35 (i : grid0.Coords) (k0_t12 : Fin (k0_t12_loop i).trips) : Fin 2 → Nat :=
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let c2_i32_87 : BitVec 32 := 2#32
  let v208 : BitVec 32 := Scalar.muli v200 c2_i32_87
  let v209 : BitVec 32 := Scalar.subi arg1 v208
  let c1_i32_88 : BitVec 32 := 1#32
  let v211 : BitVec 32 := Scalar.divsi v209 c1_i32_88
  let v212 : BitVec 32 := Scalar.muli v211 c1_i32_88
  let v213 : BitVec 32 := Scalar.addi v208 v212
  let c1_i32_90 : BitVec 32 := 1#32
  let arg9 : BitVec 32 := Scf.iv v213 c1_i32_90 k0_t12
  let c512_i32_242 : BitVec 32 := 512#32
  let v541 : BitVec 32 := Scalar.muli arg9 c512_i32_242
  let v542 : BitVec 32 := v541
  let v549 : Index := Scalar.indexCast v542
  let c0_250 : Index := 0#32
  ![v549.toNat, 0]
def k0_off36 (i : grid0.Coords) (k0_t12 : Fin (k0_t12_loop i).trips) : Fin 3 → Nat :=
  let c0_254 : Index := 0#32
  let c64_255 : Index := 64#32
  let arg1 : BitVec 32 := BitVec.ofNat 32 (i 1).val
  let c0_i32_77 : BitVec 32 := 0#32
  let v185 : BitVec 1 := Scalar.cmpi .sgt arg1 c0_i32_77
  let v186 : BitVec 32 := Scalar.extui v185
  let c0_i32_78 : BitVec 32 := 0#32
  let v187 : BitVec 1 := Scalar.cmpi .slt arg1 c0_i32_78
  let v188 : BitVec 32 := Scalar.extui v187
  let v189 : BitVec 32 := Scalar.subi v186 v188
  let c2_i32_76 : BitVec 32 := 2#32
  let c0_i32_79 : BitVec 32 := 0#32
  let v190 : BitVec 1 := Scalar.cmpi .sgt c2_i32_76 c0_i32_79
  let v191 : BitVec 32 := Scalar.extui v190
  let c0_i32_80 : BitVec 32 := 0#32
  let v192 : BitVec 1 := Scalar.cmpi .slt c2_i32_76 c0_i32_80
  let v193 : BitVec 32 := Scalar.extui v192
  let v194 : BitVec 32 := Scalar.subi v191 v193
  let v195 : BitVec 1 := Scalar.cmpi .ne v189 v194
  let v196 : BitVec 32 := Scalar.remsi arg1 c2_i32_76
  let c0_i32_81 : BitVec 32 := 0#32
  let v197 : BitVec 1 := Scalar.cmpi .ne v196 c0_i32_81
  let v198 : BitVec 1 := Scalar.andi v195 v197
  let v184 : BitVec 32 := Scalar.divsi arg1 c2_i32_76
  let c1_i32_82 : BitVec 32 := 1#32
  let v199 : BitVec 32 := Scalar.subi v184 c1_i32_82
  let v200 : BitVec 32 := Scalar.select v198 v199 v184
  let c2_i32_87 : BitVec 32 := 2#32
  let v208 : BitVec 32 := Scalar.muli v200 c2_i32_87
  let v209 : BitVec 32 := Scalar.subi arg1 v208
  let c1_i32_88 : BitVec 32 := 1#32
  let v211 : BitVec 32 := Scalar.divsi v209 c1_i32_88
  let v212 : BitVec 32 := Scalar.muli v211 c1_i32_88
  let v213 : BitVec 32 := Scalar.addi v208 v212
  let c1_i32_90 : BitVec 32 := 1#32
  let arg9 : BitVec 32 := Scf.iv v213 c1_i32_90 k0_t12
  let c512_i32_242 : BitVec 32 := 512#32
  let v541 : BitVec 32 := Scalar.muli arg9 c512_i32_242
  let v542 : BitVec 32 := v541
  let v564 : Index := Scalar.indexCast v542
  ![0, 64, v564.toNat]
def k0_mult21 (i : grid0.Coords) : BitVec 32 :=
  let arg1 : BitVec 32 := BitVec.ofNat 32 (i 1).val
  let c512_i32_91 : BitVec 32 := 512#32
  let v216 : BitVec 32 := Scalar.muli arg1 c512_i32_91
  v216
def k0_off37 (i : grid0.Coords) : Fin 4 → Nat :=
  let c0_92 : Index := 0#32
  let c2 : Index := 2#32
  let arg1 : BitVec 32 := BitVec.ofNat 32 (i 1).val
  let c512_i32_91 : BitVec 32 := 512#32
  let v216 : BitVec 32 := Scalar.muli arg1 c512_i32_91
  let v217 : BitVec 32 := v216
  let v218 : Index := Scalar.indexCast v217
  let c0_93 : Index := 0#32
  ![0, 2, v218.toNat, 0]
def k0_off38 (i : grid0.Coords) : Fin 3 → Nat :=
  let c0_101 : Index := 0#32
  let c64 : Index := 64#32
  let arg1 : BitVec 32 := BitVec.ofNat 32 (i 1).val
  let c512_i32_91 : BitVec 32 := 512#32
  let v216 : BitVec 32 := Scalar.muli arg1 c512_i32_91
  let v217 : BitVec 32 := v216
  let v240 : Index := Scalar.indexCast v217
  ![0, 64, v240.toNat]
@[reducible] def k0_t13_loop (i : grid0.Coords) : Scf.Loop 32 :=
  let c0_i32_117 : BitVec 32 := 0#32
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let v275 : BitVec 32 := Scalar.subi v274 c0_i32_117
  let c1_i32_118 : BitVec 32 := 1#32
  let v277 : BitVec 32 := Scalar.divsi v275 c1_i32_118
  let v278 : BitVec 32 := Scalar.muli v277 c1_i32_118
  let v279 : BitVec 32 := Scalar.addi c0_i32_117 v278
  let c1_i32_119 : BitVec 32 := 1#32
  ⟨c0_i32_117, v279, c1_i32_119⟩
def k0_mult22 (i : grid0.Coords) (k0_t13 : Fin (k0_t13_loop i).trips) : BitVec 32 :=
  let c0_i32_117 : BitVec 32 := 0#32
  let c1_i32_119 : BitVec 32 := 1#32
  let arg9 : BitVec 32 := Scf.iv c0_i32_117 c1_i32_119 k0_t13
  let c2_i32_242 : BitVec 32 := 2#32
  let v541 : BitVec 32 := Scalar.muli arg9 c2_i32_242
  let c0_i32_243 : BitVec 32 := 0#32
  let v542 : BitVec 32 := Scalar.addi v541 c0_i32_243
  let c512_i32_244 : BitVec 32 := 512#32
  let v543 : BitVec 32 := Scalar.muli v542 c512_i32_244
  v543
def k0_off39 (i : grid0.Coords) (k0_t13 : Fin (k0_t13_loop i).trips) (c0_i32_243 : BitVec 32) : Fin 4 → Nat :=
  let c0_245 : Index := 0#32
  let c3_246 : Index := 3#32
  let c0_i32_117 : BitVec 32 := 0#32
  let c1_i32_119 : BitVec 32 := 1#32
  let arg9 : BitVec 32 := Scf.iv c0_i32_117 c1_i32_119 k0_t13
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v545 : Index := Scalar.indexCast v544
  let c0_247 : Index := 0#32
  ![0, 3, v545.toNat, 0]
def k0_off40 (i : grid0.Coords) (k0_t13 : Fin (k0_t13_loop i).trips) (c0_i32_243 : BitVec 32) : Fin 2 → Nat :=
  let c0_i32_117 : BitVec 32 := 0#32
  let c1_i32_119 : BitVec 32 := 1#32
  let arg9 : BitVec 32 := Scf.iv c0_i32_117 c1_i32_119 k0_t13
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v551 : Index := Scalar.indexCast v544
  let c0_252 : Index := 0#32
  ![v551.toNat, 0]
def k0_off41 (i : grid0.Coords) (k0_t13 : Fin (k0_t13_loop i).trips) (c0_i32_243 : BitVec 32) : Fin 3 → Nat :=
  let c0_256 : Index := 0#32
  let c128_257 : Index := 128#32
  let c0_i32_117 : BitVec 32 := 0#32
  let c1_i32_119 : BitVec 32 := 1#32
  let arg9 : BitVec 32 := Scf.iv c0_i32_117 c1_i32_119 k0_t13
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v566 : Index := Scalar.indexCast v544
  ![0, 128, v566.toNat]
def k0_mult23 (i : grid0.Coords) (k0_t13 : Fin (k0_t13_loop i).trips) : BitVec 32 :=
  let c0_i32_117 : BitVec 32 := 0#32
  let c1_i32_119 : BitVec 32 := 1#32
  let arg9 : BitVec 32 := Scf.iv c0_i32_117 c1_i32_119 k0_t13
  let c2_i32_259 : BitVec 32 := 2#32
  let v572 : BitVec 32 := Scalar.muli arg9 c2_i32_259
  let c1_i32_260 : BitVec 32 := 1#32
  let v573 : BitVec 32 := Scalar.addi v572 c1_i32_260
  let c512_i32_261 : BitVec 32 := 512#32
  let v574 : BitVec 32 := Scalar.muli v573 c512_i32_261
  v574
@[reducible] def k0_t14_loop (i : grid0.Coords) : Scf.Loop 32 :=
  let c0_i32_117 : BitVec 32 := 0#32
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let v275 : BitVec 32 := Scalar.subi v274 c0_i32_117
  let c1_i32_118 : BitVec 32 := 1#32
  let v277 : BitVec 32 := Scalar.divsi v275 c1_i32_118
  let v278 : BitVec 32 := Scalar.muli v277 c1_i32_118
  let v279 : BitVec 32 := Scalar.addi c0_i32_117 v278
  let v276 : BitVec 32 := Scalar.addi c0_i32_117 v275
  let c1_i32_120 : BitVec 32 := 1#32
  ⟨v279, v276, c1_i32_120⟩
def k0_mult24 (i : grid0.Coords) (k0_t14 : Fin (k0_t14_loop i).trips) : BitVec 32 :=
  let c0_i32_117 : BitVec 32 := 0#32
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let v275 : BitVec 32 := Scalar.subi v274 c0_i32_117
  let c1_i32_118 : BitVec 32 := 1#32
  let v277 : BitVec 32 := Scalar.divsi v275 c1_i32_118
  let v278 : BitVec 32 := Scalar.muli v277 c1_i32_118
  let v279 : BitVec 32 := Scalar.addi c0_i32_117 v278
  let c1_i32_120 : BitVec 32 := 1#32
  let arg9 : BitVec 32 := Scf.iv v279 c1_i32_120 k0_t14
  let c2_i32_242 : BitVec 32 := 2#32
  let v541 : BitVec 32 := Scalar.muli arg9 c2_i32_242
  let c0_i32_243 : BitVec 32 := 0#32
  let v542 : BitVec 32 := Scalar.addi v541 c0_i32_243
  let c512_i32_244 : BitVec 32 := 512#32
  let v543 : BitVec 32 := Scalar.muli v542 c512_i32_244
  v543
def k0_off42 (i : grid0.Coords) (k0_t14 : Fin (k0_t14_loop i).trips) (c0_i32_243 : BitVec 32) : Fin 4 → Nat :=
  let c0_245 : Index := 0#32
  let c3_246 : Index := 3#32
  let c0_i32_117 : BitVec 32 := 0#32
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let v275 : BitVec 32 := Scalar.subi v274 c0_i32_117
  let c1_i32_118 : BitVec 32 := 1#32
  let v277 : BitVec 32 := Scalar.divsi v275 c1_i32_118
  let v278 : BitVec 32 := Scalar.muli v277 c1_i32_118
  let v279 : BitVec 32 := Scalar.addi c0_i32_117 v278
  let c1_i32_120 : BitVec 32 := 1#32
  let arg9 : BitVec 32 := Scf.iv v279 c1_i32_120 k0_t14
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v545 : Index := Scalar.indexCast v544
  let c0_247 : Index := 0#32
  ![0, 3, v545.toNat, 0]
def k0_off43 (i : grid0.Coords) (k0_t14 : Fin (k0_t14_loop i).trips) (c0_i32_243 : BitVec 32) : Fin 2 → Nat :=
  let c0_i32_117 : BitVec 32 := 0#32
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let v275 : BitVec 32 := Scalar.subi v274 c0_i32_117
  let c1_i32_118 : BitVec 32 := 1#32
  let v277 : BitVec 32 := Scalar.divsi v275 c1_i32_118
  let v278 : BitVec 32 := Scalar.muli v277 c1_i32_118
  let v279 : BitVec 32 := Scalar.addi c0_i32_117 v278
  let c1_i32_120 : BitVec 32 := 1#32
  let arg9 : BitVec 32 := Scf.iv v279 c1_i32_120 k0_t14
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v551 : Index := Scalar.indexCast v544
  let c0_252 : Index := 0#32
  ![v551.toNat, 0]
def k0_off44 (i : grid0.Coords) (k0_t14 : Fin (k0_t14_loop i).trips) (c0_i32_243 : BitVec 32) : Fin 3 → Nat :=
  let c0_256 : Index := 0#32
  let c128_257 : Index := 128#32
  let c0_i32_117 : BitVec 32 := 0#32
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let v275 : BitVec 32 := Scalar.subi v274 c0_i32_117
  let c1_i32_118 : BitVec 32 := 1#32
  let v277 : BitVec 32 := Scalar.divsi v275 c1_i32_118
  let v278 : BitVec 32 := Scalar.muli v277 c1_i32_118
  let v279 : BitVec 32 := Scalar.addi c0_i32_117 v278
  let c1_i32_120 : BitVec 32 := 1#32
  let arg9 : BitVec 32 := Scf.iv v279 c1_i32_120 k0_t14
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v566 : Index := Scalar.indexCast v544
  ![0, 128, v566.toNat]
def k0_mult25 (i : grid0.Coords) (k0_t14 : Fin (k0_t14_loop i).trips) : BitVec 32 :=
  let c0_i32_117 : BitVec 32 := 0#32
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let v275 : BitVec 32 := Scalar.subi v274 c0_i32_117
  let c1_i32_118 : BitVec 32 := 1#32
  let v277 : BitVec 32 := Scalar.divsi v275 c1_i32_118
  let v278 : BitVec 32 := Scalar.muli v277 c1_i32_118
  let v279 : BitVec 32 := Scalar.addi c0_i32_117 v278
  let c1_i32_120 : BitVec 32 := 1#32
  let arg9 : BitVec 32 := Scf.iv v279 c1_i32_120 k0_t14
  let c2_i32_259 : BitVec 32 := 2#32
  let v572 : BitVec 32 := Scalar.muli arg9 c2_i32_259
  let c1_i32_260 : BitVec 32 := 1#32
  let v573 : BitVec 32 := Scalar.addi v572 c1_i32_260
  let c512_i32_261 : BitVec 32 := 512#32
  let v574 : BitVec 32 := Scalar.muli v573 c512_i32_261
  v574
@[reducible] def k0_t15_loop (i : grid0.Coords) : Scf.Loop 32 :=
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let c2_i32_121 : BitVec 32 := 2#32
  let v282 : BitVec 32 := Scalar.muli v274 c2_i32_121
  let v283 : BitVec 32 := Scalar.subi arg1 v282
  let c1_i32_122 : BitVec 32 := 1#32
  let v285 : BitVec 32 := Scalar.divsi v283 c1_i32_122
  let v286 : BitVec 32 := Scalar.muli v285 c1_i32_122
  let v287 : BitVec 32 := Scalar.addi v282 v286
  let c1_i32_123 : BitVec 32 := 1#32
  ⟨v282, v287, c1_i32_123⟩
def k0_mult26 (i : grid0.Coords) (k0_t15 : Fin (k0_t15_loop i).trips) : BitVec 32 :=
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let c2_i32_121 : BitVec 32 := 2#32
  let v282 : BitVec 32 := Scalar.muli v274 c2_i32_121
  let c1_i32_123 : BitVec 32 := 1#32
  let arg9 : BitVec 32 := Scf.iv v282 c1_i32_123 k0_t15
  let c512_i32_242 : BitVec 32 := 512#32
  let v541 : BitVec 32 := Scalar.muli arg9 c512_i32_242
  v541
def k0_off45 (i : grid0.Coords) (k0_t15 : Fin (k0_t15_loop i).trips) : Fin 4 → Nat :=
  let c0_243 : Index := 0#32
  let c3_244 : Index := 3#32
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let c2_i32_121 : BitVec 32 := 2#32
  let v282 : BitVec 32 := Scalar.muli v274 c2_i32_121
  let c1_i32_123 : BitVec 32 := 1#32
  let arg9 : BitVec 32 := Scf.iv v282 c1_i32_123 k0_t15
  let c512_i32_242 : BitVec 32 := 512#32
  let v541 : BitVec 32 := Scalar.muli arg9 c512_i32_242
  let v542 : BitVec 32 := v541
  let v543 : Index := Scalar.indexCast v542
  let c0_245 : Index := 0#32
  ![0, 3, v543.toNat, 0]
def k0_off46 (i : grid0.Coords) (k0_t15 : Fin (k0_t15_loop i).trips) : Fin 2 → Nat :=
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let c2_i32_121 : BitVec 32 := 2#32
  let v282 : BitVec 32 := Scalar.muli v274 c2_i32_121
  let c1_i32_123 : BitVec 32 := 1#32
  let arg9 : BitVec 32 := Scf.iv v282 c1_i32_123 k0_t15
  let c512_i32_242 : BitVec 32 := 512#32
  let v541 : BitVec 32 := Scalar.muli arg9 c512_i32_242
  let v542 : BitVec 32 := v541
  let v549 : Index := Scalar.indexCast v542
  let c0_250 : Index := 0#32
  ![v549.toNat, 0]
def k0_off47 (i : grid0.Coords) (k0_t15 : Fin (k0_t15_loop i).trips) : Fin 3 → Nat :=
  let c0_254 : Index := 0#32
  let c128_255 : Index := 128#32
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let c2_i32_121 : BitVec 32 := 2#32
  let v282 : BitVec 32 := Scalar.muli v274 c2_i32_121
  let c1_i32_123 : BitVec 32 := 1#32
  let arg9 : BitVec 32 := Scf.iv v282 c1_i32_123 k0_t15
  let c512_i32_242 : BitVec 32 := 512#32
  let v541 : BitVec 32 := Scalar.muli arg9 c512_i32_242
  let v542 : BitVec 32 := v541
  let v564 : Index := Scalar.indexCast v542
  ![0, 128, v564.toNat]
@[reducible] def k0_t16_loop (i : grid0.Coords) : Scf.Loop 32 :=
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let c2_i32_121 : BitVec 32 := 2#32
  let v282 : BitVec 32 := Scalar.muli v274 c2_i32_121
  let v283 : BitVec 32 := Scalar.subi arg1 v282
  let c1_i32_122 : BitVec 32 := 1#32
  let v285 : BitVec 32 := Scalar.divsi v283 c1_i32_122
  let v286 : BitVec 32 := Scalar.muli v285 c1_i32_122
  let v287 : BitVec 32 := Scalar.addi v282 v286
  let v284 : BitVec 32 := Scalar.addi v282 v283
  let c1_i32_124 : BitVec 32 := 1#32
  ⟨v287, v284, c1_i32_124⟩
def k0_mult27 (i : grid0.Coords) (k0_t16 : Fin (k0_t16_loop i).trips) : BitVec 32 :=
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let c2_i32_121 : BitVec 32 := 2#32
  let v282 : BitVec 32 := Scalar.muli v274 c2_i32_121
  let v283 : BitVec 32 := Scalar.subi arg1 v282
  let c1_i32_122 : BitVec 32 := 1#32
  let v285 : BitVec 32 := Scalar.divsi v283 c1_i32_122
  let v286 : BitVec 32 := Scalar.muli v285 c1_i32_122
  let v287 : BitVec 32 := Scalar.addi v282 v286
  let c1_i32_124 : BitVec 32 := 1#32
  let arg9 : BitVec 32 := Scf.iv v287 c1_i32_124 k0_t16
  let c512_i32_242 : BitVec 32 := 512#32
  let v541 : BitVec 32 := Scalar.muli arg9 c512_i32_242
  v541
def k0_off48 (i : grid0.Coords) (k0_t16 : Fin (k0_t16_loop i).trips) : Fin 4 → Nat :=
  let c0_243 : Index := 0#32
  let c3_244 : Index := 3#32
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let c2_i32_121 : BitVec 32 := 2#32
  let v282 : BitVec 32 := Scalar.muli v274 c2_i32_121
  let v283 : BitVec 32 := Scalar.subi arg1 v282
  let c1_i32_122 : BitVec 32 := 1#32
  let v285 : BitVec 32 := Scalar.divsi v283 c1_i32_122
  let v286 : BitVec 32 := Scalar.muli v285 c1_i32_122
  let v287 : BitVec 32 := Scalar.addi v282 v286
  let c1_i32_124 : BitVec 32 := 1#32
  let arg9 : BitVec 32 := Scf.iv v287 c1_i32_124 k0_t16
  let c512_i32_242 : BitVec 32 := 512#32
  let v541 : BitVec 32 := Scalar.muli arg9 c512_i32_242
  let v542 : BitVec 32 := v541
  let v543 : Index := Scalar.indexCast v542
  let c0_245 : Index := 0#32
  ![0, 3, v543.toNat, 0]
def k0_off49 (i : grid0.Coords) (k0_t16 : Fin (k0_t16_loop i).trips) : Fin 2 → Nat :=
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let c2_i32_121 : BitVec 32 := 2#32
  let v282 : BitVec 32 := Scalar.muli v274 c2_i32_121
  let v283 : BitVec 32 := Scalar.subi arg1 v282
  let c1_i32_122 : BitVec 32 := 1#32
  let v285 : BitVec 32 := Scalar.divsi v283 c1_i32_122
  let v286 : BitVec 32 := Scalar.muli v285 c1_i32_122
  let v287 : BitVec 32 := Scalar.addi v282 v286
  let c1_i32_124 : BitVec 32 := 1#32
  let arg9 : BitVec 32 := Scf.iv v287 c1_i32_124 k0_t16
  let c512_i32_242 : BitVec 32 := 512#32
  let v541 : BitVec 32 := Scalar.muli arg9 c512_i32_242
  let v542 : BitVec 32 := v541
  let v549 : Index := Scalar.indexCast v542
  let c0_250 : Index := 0#32
  ![v549.toNat, 0]
def k0_off50 (i : grid0.Coords) (k0_t16 : Fin (k0_t16_loop i).trips) : Fin 3 → Nat :=
  let c0_254 : Index := 0#32
  let c128_255 : Index := 128#32
  let arg1 : BitVec 32 := BitVec.ofNat 32 (i 1).val
  let c0_i32_111 : BitVec 32 := 0#32
  let v259 : BitVec 1 := Scalar.cmpi .sgt arg1 c0_i32_111
  let v260 : BitVec 32 := Scalar.extui v259
  let c0_i32_112 : BitVec 32 := 0#32
  let v261 : BitVec 1 := Scalar.cmpi .slt arg1 c0_i32_112
  let v262 : BitVec 32 := Scalar.extui v261
  let v263 : BitVec 32 := Scalar.subi v260 v262
  let c2_i32_110 : BitVec 32 := 2#32
  let c0_i32_113 : BitVec 32 := 0#32
  let v264 : BitVec 1 := Scalar.cmpi .sgt c2_i32_110 c0_i32_113
  let v265 : BitVec 32 := Scalar.extui v264
  let c0_i32_114 : BitVec 32 := 0#32
  let v266 : BitVec 1 := Scalar.cmpi .slt c2_i32_110 c0_i32_114
  let v267 : BitVec 32 := Scalar.extui v266
  let v268 : BitVec 32 := Scalar.subi v265 v267
  let v269 : BitVec 1 := Scalar.cmpi .ne v263 v268
  let v270 : BitVec 32 := Scalar.remsi arg1 c2_i32_110
  let c0_i32_115 : BitVec 32 := 0#32
  let v271 : BitVec 1 := Scalar.cmpi .ne v270 c0_i32_115
  let v272 : BitVec 1 := Scalar.andi v269 v271
  let v258 : BitVec 32 := Scalar.divsi arg1 c2_i32_110
  let c1_i32_116 : BitVec 32 := 1#32
  let v273 : BitVec 32 := Scalar.subi v258 c1_i32_116
  let v274 : BitVec 32 := Scalar.select v272 v273 v258
  let c2_i32_121 : BitVec 32 := 2#32
  let v282 : BitVec 32 := Scalar.muli v274 c2_i32_121
  let v283 : BitVec 32 := Scalar.subi arg1 v282
  let c1_i32_122 : BitVec 32 := 1#32
  let v285 : BitVec 32 := Scalar.divsi v283 c1_i32_122
  let v286 : BitVec 32 := Scalar.muli v285 c1_i32_122
  let v287 : BitVec 32 := Scalar.addi v282 v286
  let c1_i32_124 : BitVec 32 := 1#32
  let arg9 : BitVec 32 := Scf.iv v287 c1_i32_124 k0_t16
  let c512_i32_242 : BitVec 32 := 512#32
  let v541 : BitVec 32 := Scalar.muli arg9 c512_i32_242
  let v542 : BitVec 32 := v541
  let v564 : Index := Scalar.indexCast v542
  ![0, 128, v564.toNat]
def k0_mult28 (i : grid0.Coords) : BitVec 32 :=
  let arg1 : BitVec 32 := BitVec.ofNat 32 (i 1).val
  let c512_i32_125 : BitVec 32 := 512#32
  let v290 : BitVec 32 := Scalar.muli arg1 c512_i32_125
  v290
def k0_off51 (i : grid0.Coords) : Fin 4 → Nat :=
  let c0_126 : Index := 0#32
  let c3 : Index := 3#32
  let arg1 : BitVec 32 := BitVec.ofNat 32 (i 1).val
  let c512_i32_125 : BitVec 32 := 512#32
  let v290 : BitVec 32 := Scalar.muli arg1 c512_i32_125
  let v291 : BitVec 32 := v290
  let v292 : Index := Scalar.indexCast v291
  let c0_127 : Index := 0#32
  ![0, 3, v292.toNat, 0]
def k0_off52 (i : grid0.Coords) : Fin 3 → Nat :=
  let c0_135 : Index := 0#32
  let c128_136 : Index := 128#32
  let arg1 : BitVec 32 := BitVec.ofNat 32 (i 1).val
  let c512_i32_125 : BitVec 32 := 512#32
  let v290 : BitVec 32 := Scalar.muli arg1 c512_i32_125
  let v291 : BitVec 32 := v290
  let v314 : Index := Scalar.indexCast v291
  ![0, 128, v314.toNat]
@[reducible] def k0_t17_loop (i : grid0.Coords) : Scf.Loop 32 :=
  let c0_i32_152 : BitVec 32 := 0#32
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let v349 : BitVec 32 := Scalar.subi v348 c0_i32_152
  let c1_i32_153 : BitVec 32 := 1#32
  let v351 : BitVec 32 := Scalar.divsi v349 c1_i32_153
  let v352 : BitVec 32 := Scalar.muli v351 c1_i32_153
  let v353 : BitVec 32 := Scalar.addi c0_i32_152 v352
  let c1_i32_154 : BitVec 32 := 1#32
  ⟨c0_i32_152, v353, c1_i32_154⟩
def k0_mult29 (i : grid0.Coords) (k0_t17 : Fin (k0_t17_loop i).trips) : BitVec 32 :=
  let c0_i32_152 : BitVec 32 := 0#32
  let c1_i32_154 : BitVec 32 := 1#32
  let arg9 : BitVec 32 := Scf.iv c0_i32_152 c1_i32_154 k0_t17
  let c2_i32_242 : BitVec 32 := 2#32
  let v541 : BitVec 32 := Scalar.muli arg9 c2_i32_242
  let c0_i32_243 : BitVec 32 := 0#32
  let v542 : BitVec 32 := Scalar.addi v541 c0_i32_243
  let c512_i32_244 : BitVec 32 := 512#32
  let v543 : BitVec 32 := Scalar.muli v542 c512_i32_244
  v543
def k0_off53 (i : grid0.Coords) (k0_t17 : Fin (k0_t17_loop i).trips) (c0_i32_243 : BitVec 32) : Fin 4 → Nat :=
  let c0_245 : Index := 0#32
  let c4_246 : Index := 4#32
  let c0_i32_152 : BitVec 32 := 0#32
  let c1_i32_154 : BitVec 32 := 1#32
  let arg9 : BitVec 32 := Scf.iv c0_i32_152 c1_i32_154 k0_t17
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v545 : Index := Scalar.indexCast v544
  let c0_247 : Index := 0#32
  ![0, 4, v545.toNat, 0]
def k0_off54 (i : grid0.Coords) (k0_t17 : Fin (k0_t17_loop i).trips) (c0_i32_243 : BitVec 32) : Fin 2 → Nat :=
  let c0_i32_152 : BitVec 32 := 0#32
  let c1_i32_154 : BitVec 32 := 1#32
  let arg9 : BitVec 32 := Scf.iv c0_i32_152 c1_i32_154 k0_t17
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v551 : Index := Scalar.indexCast v544
  let c0_252 : Index := 0#32
  ![v551.toNat, 0]
def k0_off55 (i : grid0.Coords) (k0_t17 : Fin (k0_t17_loop i).trips) (c0_i32_243 : BitVec 32) : Fin 3 → Nat :=
  let c0_256 : Index := 0#32
  let c192_257 : Index := 192#32
  let c0_i32_152 : BitVec 32 := 0#32
  let c1_i32_154 : BitVec 32 := 1#32
  let arg9 : BitVec 32 := Scf.iv c0_i32_152 c1_i32_154 k0_t17
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v566 : Index := Scalar.indexCast v544
  ![0, 192, v566.toNat]
def k0_mult30 (i : grid0.Coords) (k0_t17 : Fin (k0_t17_loop i).trips) : BitVec 32 :=
  let c0_i32_152 : BitVec 32 := 0#32
  let c1_i32_154 : BitVec 32 := 1#32
  let arg9 : BitVec 32 := Scf.iv c0_i32_152 c1_i32_154 k0_t17
  let c2_i32_259 : BitVec 32 := 2#32
  let v572 : BitVec 32 := Scalar.muli arg9 c2_i32_259
  let c1_i32_260 : BitVec 32 := 1#32
  let v573 : BitVec 32 := Scalar.addi v572 c1_i32_260
  let c512_i32_261 : BitVec 32 := 512#32
  let v574 : BitVec 32 := Scalar.muli v573 c512_i32_261
  v574
@[reducible] def k0_t18_loop (i : grid0.Coords) : Scf.Loop 32 :=
  let c0_i32_152 : BitVec 32 := 0#32
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let v349 : BitVec 32 := Scalar.subi v348 c0_i32_152
  let c1_i32_153 : BitVec 32 := 1#32
  let v351 : BitVec 32 := Scalar.divsi v349 c1_i32_153
  let v352 : BitVec 32 := Scalar.muli v351 c1_i32_153
  let v353 : BitVec 32 := Scalar.addi c0_i32_152 v352
  let v350 : BitVec 32 := Scalar.addi c0_i32_152 v349
  let c1_i32_155 : BitVec 32 := 1#32
  ⟨v353, v350, c1_i32_155⟩
def k0_mult31 (i : grid0.Coords) (k0_t18 : Fin (k0_t18_loop i).trips) : BitVec 32 :=
  let c0_i32_152 : BitVec 32 := 0#32
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let v349 : BitVec 32 := Scalar.subi v348 c0_i32_152
  let c1_i32_153 : BitVec 32 := 1#32
  let v351 : BitVec 32 := Scalar.divsi v349 c1_i32_153
  let v352 : BitVec 32 := Scalar.muli v351 c1_i32_153
  let v353 : BitVec 32 := Scalar.addi c0_i32_152 v352
  let c1_i32_155 : BitVec 32 := 1#32
  let arg9 : BitVec 32 := Scf.iv v353 c1_i32_155 k0_t18
  let c2_i32_242 : BitVec 32 := 2#32
  let v541 : BitVec 32 := Scalar.muli arg9 c2_i32_242
  let c0_i32_243 : BitVec 32 := 0#32
  let v542 : BitVec 32 := Scalar.addi v541 c0_i32_243
  let c512_i32_244 : BitVec 32 := 512#32
  let v543 : BitVec 32 := Scalar.muli v542 c512_i32_244
  v543
def k0_off56 (i : grid0.Coords) (k0_t18 : Fin (k0_t18_loop i).trips) (c0_i32_243 : BitVec 32) : Fin 4 → Nat :=
  let c0_245 : Index := 0#32
  let c4_246 : Index := 4#32
  let c0_i32_152 : BitVec 32 := 0#32
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let v349 : BitVec 32 := Scalar.subi v348 c0_i32_152
  let c1_i32_153 : BitVec 32 := 1#32
  let v351 : BitVec 32 := Scalar.divsi v349 c1_i32_153
  let v352 : BitVec 32 := Scalar.muli v351 c1_i32_153
  let v353 : BitVec 32 := Scalar.addi c0_i32_152 v352
  let c1_i32_155 : BitVec 32 := 1#32
  let arg9 : BitVec 32 := Scf.iv v353 c1_i32_155 k0_t18
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v545 : Index := Scalar.indexCast v544
  let c0_247 : Index := 0#32
  ![0, 4, v545.toNat, 0]
def k0_off57 (i : grid0.Coords) (k0_t18 : Fin (k0_t18_loop i).trips) (c0_i32_243 : BitVec 32) : Fin 2 → Nat :=
  let c0_i32_152 : BitVec 32 := 0#32
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let v349 : BitVec 32 := Scalar.subi v348 c0_i32_152
  let c1_i32_153 : BitVec 32 := 1#32
  let v351 : BitVec 32 := Scalar.divsi v349 c1_i32_153
  let v352 : BitVec 32 := Scalar.muli v351 c1_i32_153
  let v353 : BitVec 32 := Scalar.addi c0_i32_152 v352
  let c1_i32_155 : BitVec 32 := 1#32
  let arg9 : BitVec 32 := Scf.iv v353 c1_i32_155 k0_t18
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v551 : Index := Scalar.indexCast v544
  let c0_252 : Index := 0#32
  ![v551.toNat, 0]
def k0_off58 (i : grid0.Coords) (k0_t18 : Fin (k0_t18_loop i).trips) (c0_i32_243 : BitVec 32) : Fin 3 → Nat :=
  let c0_256 : Index := 0#32
  let c192_257 : Index := 192#32
  let c0_i32_152 : BitVec 32 := 0#32
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let v349 : BitVec 32 := Scalar.subi v348 c0_i32_152
  let c1_i32_153 : BitVec 32 := 1#32
  let v351 : BitVec 32 := Scalar.divsi v349 c1_i32_153
  let v352 : BitVec 32 := Scalar.muli v351 c1_i32_153
  let v353 : BitVec 32 := Scalar.addi c0_i32_152 v352
  let c1_i32_155 : BitVec 32 := 1#32
  let arg9 : BitVec 32 := Scf.iv v353 c1_i32_155 k0_t18
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v566 : Index := Scalar.indexCast v544
  ![0, 192, v566.toNat]
def k0_mult32 (i : grid0.Coords) (k0_t18 : Fin (k0_t18_loop i).trips) : BitVec 32 :=
  let c0_i32_152 : BitVec 32 := 0#32
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let v349 : BitVec 32 := Scalar.subi v348 c0_i32_152
  let c1_i32_153 : BitVec 32 := 1#32
  let v351 : BitVec 32 := Scalar.divsi v349 c1_i32_153
  let v352 : BitVec 32 := Scalar.muli v351 c1_i32_153
  let v353 : BitVec 32 := Scalar.addi c0_i32_152 v352
  let c1_i32_155 : BitVec 32 := 1#32
  let arg9 : BitVec 32 := Scf.iv v353 c1_i32_155 k0_t18
  let c2_i32_259 : BitVec 32 := 2#32
  let v572 : BitVec 32 := Scalar.muli arg9 c2_i32_259
  let c1_i32_260 : BitVec 32 := 1#32
  let v573 : BitVec 32 := Scalar.addi v572 c1_i32_260
  let c512_i32_261 : BitVec 32 := 512#32
  let v574 : BitVec 32 := Scalar.muli v573 c512_i32_261
  v574
@[reducible] def k0_t19_loop (i : grid0.Coords) : Scf.Loop 32 :=
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let c2_i32_156 : BitVec 32 := 2#32
  let v356 : BitVec 32 := Scalar.muli v348 c2_i32_156
  let v357 : BitVec 32 := Scalar.subi arg1 v356
  let c1_i32_157 : BitVec 32 := 1#32
  let v359 : BitVec 32 := Scalar.divsi v357 c1_i32_157
  let v360 : BitVec 32 := Scalar.muli v359 c1_i32_157
  let v361 : BitVec 32 := Scalar.addi v356 v360
  let c1_i32_158 : BitVec 32 := 1#32
  ⟨v356, v361, c1_i32_158⟩
def k0_mult33 (i : grid0.Coords) (k0_t19 : Fin (k0_t19_loop i).trips) : BitVec 32 :=
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let c2_i32_156 : BitVec 32 := 2#32
  let v356 : BitVec 32 := Scalar.muli v348 c2_i32_156
  let c1_i32_158 : BitVec 32 := 1#32
  let arg9 : BitVec 32 := Scf.iv v356 c1_i32_158 k0_t19
  let c512_i32_242 : BitVec 32 := 512#32
  let v541 : BitVec 32 := Scalar.muli arg9 c512_i32_242
  v541
def k0_off59 (i : grid0.Coords) (k0_t19 : Fin (k0_t19_loop i).trips) : Fin 4 → Nat :=
  let c0_243 : Index := 0#32
  let c4_244 : Index := 4#32
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let c2_i32_156 : BitVec 32 := 2#32
  let v356 : BitVec 32 := Scalar.muli v348 c2_i32_156
  let c1_i32_158 : BitVec 32 := 1#32
  let arg9 : BitVec 32 := Scf.iv v356 c1_i32_158 k0_t19
  let c512_i32_242 : BitVec 32 := 512#32
  let v541 : BitVec 32 := Scalar.muli arg9 c512_i32_242
  let v542 : BitVec 32 := v541
  let v543 : Index := Scalar.indexCast v542
  let c0_245 : Index := 0#32
  ![0, 4, v543.toNat, 0]
def k0_off60 (i : grid0.Coords) (k0_t19 : Fin (k0_t19_loop i).trips) : Fin 2 → Nat :=
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let c2_i32_156 : BitVec 32 := 2#32
  let v356 : BitVec 32 := Scalar.muli v348 c2_i32_156
  let c1_i32_158 : BitVec 32 := 1#32
  let arg9 : BitVec 32 := Scf.iv v356 c1_i32_158 k0_t19
  let c512_i32_242 : BitVec 32 := 512#32
  let v541 : BitVec 32 := Scalar.muli arg9 c512_i32_242
  let v542 : BitVec 32 := v541
  let v549 : Index := Scalar.indexCast v542
  let c0_250 : Index := 0#32
  ![v549.toNat, 0]
def k0_off61 (i : grid0.Coords) (k0_t19 : Fin (k0_t19_loop i).trips) : Fin 3 → Nat :=
  let c0_254 : Index := 0#32
  let c192_255 : Index := 192#32
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let c2_i32_156 : BitVec 32 := 2#32
  let v356 : BitVec 32 := Scalar.muli v348 c2_i32_156
  let c1_i32_158 : BitVec 32 := 1#32
  let arg9 : BitVec 32 := Scf.iv v356 c1_i32_158 k0_t19
  let c512_i32_242 : BitVec 32 := 512#32
  let v541 : BitVec 32 := Scalar.muli arg9 c512_i32_242
  let v542 : BitVec 32 := v541
  let v564 : Index := Scalar.indexCast v542
  ![0, 192, v564.toNat]
@[reducible] def k0_t20_loop (i : grid0.Coords) : Scf.Loop 32 :=
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let c2_i32_156 : BitVec 32 := 2#32
  let v356 : BitVec 32 := Scalar.muli v348 c2_i32_156
  let v357 : BitVec 32 := Scalar.subi arg1 v356
  let c1_i32_157 : BitVec 32 := 1#32
  let v359 : BitVec 32 := Scalar.divsi v357 c1_i32_157
  let v360 : BitVec 32 := Scalar.muli v359 c1_i32_157
  let v361 : BitVec 32 := Scalar.addi v356 v360
  let v358 : BitVec 32 := Scalar.addi v356 v357
  let c1_i32_159 : BitVec 32 := 1#32
  ⟨v361, v358, c1_i32_159⟩
def k0_mult34 (i : grid0.Coords) (k0_t20 : Fin (k0_t20_loop i).trips) : BitVec 32 :=
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let c2_i32_156 : BitVec 32 := 2#32
  let v356 : BitVec 32 := Scalar.muli v348 c2_i32_156
  let v357 : BitVec 32 := Scalar.subi arg1 v356
  let c1_i32_157 : BitVec 32 := 1#32
  let v359 : BitVec 32 := Scalar.divsi v357 c1_i32_157
  let v360 : BitVec 32 := Scalar.muli v359 c1_i32_157
  let v361 : BitVec 32 := Scalar.addi v356 v360
  let c1_i32_159 : BitVec 32 := 1#32
  let arg9 : BitVec 32 := Scf.iv v361 c1_i32_159 k0_t20
  let c512_i32_242 : BitVec 32 := 512#32
  let v541 : BitVec 32 := Scalar.muli arg9 c512_i32_242
  v541
def k0_off62 (i : grid0.Coords) (k0_t20 : Fin (k0_t20_loop i).trips) : Fin 4 → Nat :=
  let c0_243 : Index := 0#32
  let c4_244 : Index := 4#32
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let c2_i32_156 : BitVec 32 := 2#32
  let v356 : BitVec 32 := Scalar.muli v348 c2_i32_156
  let v357 : BitVec 32 := Scalar.subi arg1 v356
  let c1_i32_157 : BitVec 32 := 1#32
  let v359 : BitVec 32 := Scalar.divsi v357 c1_i32_157
  let v360 : BitVec 32 := Scalar.muli v359 c1_i32_157
  let v361 : BitVec 32 := Scalar.addi v356 v360
  let c1_i32_159 : BitVec 32 := 1#32
  let arg9 : BitVec 32 := Scf.iv v361 c1_i32_159 k0_t20
  let c512_i32_242 : BitVec 32 := 512#32
  let v541 : BitVec 32 := Scalar.muli arg9 c512_i32_242
  let v542 : BitVec 32 := v541
  let v543 : Index := Scalar.indexCast v542
  let c0_245 : Index := 0#32
  ![0, 4, v543.toNat, 0]
def k0_off63 (i : grid0.Coords) (k0_t20 : Fin (k0_t20_loop i).trips) : Fin 2 → Nat :=
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let c2_i32_156 : BitVec 32 := 2#32
  let v356 : BitVec 32 := Scalar.muli v348 c2_i32_156
  let v357 : BitVec 32 := Scalar.subi arg1 v356
  let c1_i32_157 : BitVec 32 := 1#32
  let v359 : BitVec 32 := Scalar.divsi v357 c1_i32_157
  let v360 : BitVec 32 := Scalar.muli v359 c1_i32_157
  let v361 : BitVec 32 := Scalar.addi v356 v360
  let c1_i32_159 : BitVec 32 := 1#32
  let arg9 : BitVec 32 := Scf.iv v361 c1_i32_159 k0_t20
  let c512_i32_242 : BitVec 32 := 512#32
  let v541 : BitVec 32 := Scalar.muli arg9 c512_i32_242
  let v542 : BitVec 32 := v541
  let v549 : Index := Scalar.indexCast v542
  let c0_250 : Index := 0#32
  ![v549.toNat, 0]
def k0_off64 (i : grid0.Coords) (k0_t20 : Fin (k0_t20_loop i).trips) : Fin 3 → Nat :=
  let c0_254 : Index := 0#32
  let c192_255 : Index := 192#32
  let arg1 : BitVec 32 := BitVec.ofNat 32 (i 1).val
  let c0_i32_146 : BitVec 32 := 0#32
  let v333 : BitVec 1 := Scalar.cmpi .sgt arg1 c0_i32_146
  let v334 : BitVec 32 := Scalar.extui v333
  let c0_i32_147 : BitVec 32 := 0#32
  let v335 : BitVec 1 := Scalar.cmpi .slt arg1 c0_i32_147
  let v336 : BitVec 32 := Scalar.extui v335
  let v337 : BitVec 32 := Scalar.subi v334 v336
  let c2_i32_145 : BitVec 32 := 2#32
  let c0_i32_148 : BitVec 32 := 0#32
  let v338 : BitVec 1 := Scalar.cmpi .sgt c2_i32_145 c0_i32_148
  let v339 : BitVec 32 := Scalar.extui v338
  let c0_i32_149 : BitVec 32 := 0#32
  let v340 : BitVec 1 := Scalar.cmpi .slt c2_i32_145 c0_i32_149
  let v341 : BitVec 32 := Scalar.extui v340
  let v342 : BitVec 32 := Scalar.subi v339 v341
  let v343 : BitVec 1 := Scalar.cmpi .ne v337 v342
  let v344 : BitVec 32 := Scalar.remsi arg1 c2_i32_145
  let c0_i32_150 : BitVec 32 := 0#32
  let v345 : BitVec 1 := Scalar.cmpi .ne v344 c0_i32_150
  let v346 : BitVec 1 := Scalar.andi v343 v345
  let v332 : BitVec 32 := Scalar.divsi arg1 c2_i32_145
  let c1_i32_151 : BitVec 32 := 1#32
  let v347 : BitVec 32 := Scalar.subi v332 c1_i32_151
  let v348 : BitVec 32 := Scalar.select v346 v347 v332
  let c2_i32_156 : BitVec 32 := 2#32
  let v356 : BitVec 32 := Scalar.muli v348 c2_i32_156
  let v357 : BitVec 32 := Scalar.subi arg1 v356
  let c1_i32_157 : BitVec 32 := 1#32
  let v359 : BitVec 32 := Scalar.divsi v357 c1_i32_157
  let v360 : BitVec 32 := Scalar.muli v359 c1_i32_157
  let v361 : BitVec 32 := Scalar.addi v356 v360
  let c1_i32_159 : BitVec 32 := 1#32
  let arg9 : BitVec 32 := Scf.iv v361 c1_i32_159 k0_t20
  let c512_i32_242 : BitVec 32 := 512#32
  let v541 : BitVec 32 := Scalar.muli arg9 c512_i32_242
  let v542 : BitVec 32 := v541
  let v564 : Index := Scalar.indexCast v542
  ![0, 192, v564.toNat]
def k0_mult35 (i : grid0.Coords) : BitVec 32 :=
  let arg1 : BitVec 32 := BitVec.ofNat 32 (i 1).val
  let c512_i32_160 : BitVec 32 := 512#32
  let v364 : BitVec 32 := Scalar.muli arg1 c512_i32_160
  v364
def k0_off65 (i : grid0.Coords) : Fin 4 → Nat :=
  let c0_161 : Index := 0#32
  let c4 : Index := 4#32
  let arg1 : BitVec 32 := BitVec.ofNat 32 (i 1).val
  let c512_i32_160 : BitVec 32 := 512#32
  let v364 : BitVec 32 := Scalar.muli arg1 c512_i32_160
  let v365 : BitVec 32 := v364
  let v366 : Index := Scalar.indexCast v365
  let c0_162 : Index := 0#32
  ![0, 4, v366.toNat, 0]
def k0_off66 (i : grid0.Coords) : Fin 3 → Nat :=
  let c0_170 : Index := 0#32
  let c192 : Index := 192#32
  let arg1 : BitVec 32 := BitVec.ofNat 32 (i 1).val
  let c512_i32_160 : BitVec 32 := 512#32
  let v364 : BitVec 32 := Scalar.muli arg1 c512_i32_160
  let v365 : BitVec 32 := v364
  let v388 : Index := Scalar.indexCast v365
  ![0, 192, v388.toNat]
@[reducible] def k0_t21_loop (i : grid0.Coords) : Scf.Loop 32 :=
  let c0_i32_186 : BitVec 32 := 0#32
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let v423 : BitVec 32 := Scalar.subi v422 c0_i32_186
  let c1_i32_187 : BitVec 32 := 1#32
  let v425 : BitVec 32 := Scalar.divsi v423 c1_i32_187
  let v426 : BitVec 32 := Scalar.muli v425 c1_i32_187
  let v427 : BitVec 32 := Scalar.addi c0_i32_186 v426
  let c1_i32_188 : BitVec 32 := 1#32
  ⟨c0_i32_186, v427, c1_i32_188⟩
def k0_mult36 (i : grid0.Coords) (k0_t21 : Fin (k0_t21_loop i).trips) : BitVec 32 :=
  let c0_i32_186 : BitVec 32 := 0#32
  let c1_i32_188 : BitVec 32 := 1#32
  let arg9 : BitVec 32 := Scf.iv c0_i32_186 c1_i32_188 k0_t21
  let c2_i32_242 : BitVec 32 := 2#32
  let v541 : BitVec 32 := Scalar.muli arg9 c2_i32_242
  let c0_i32_243 : BitVec 32 := 0#32
  let v542 : BitVec 32 := Scalar.addi v541 c0_i32_243
  let c512_i32_244 : BitVec 32 := 512#32
  let v543 : BitVec 32 := Scalar.muli v542 c512_i32_244
  v543
def k0_off67 (i : grid0.Coords) (k0_t21 : Fin (k0_t21_loop i).trips) (c0_i32_243 : BitVec 32) : Fin 4 → Nat :=
  let c0_245 : Index := 0#32
  let c5_246 : Index := 5#32
  let c0_i32_186 : BitVec 32 := 0#32
  let c1_i32_188 : BitVec 32 := 1#32
  let arg9 : BitVec 32 := Scf.iv c0_i32_186 c1_i32_188 k0_t21
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v545 : Index := Scalar.indexCast v544
  let c0_247 : Index := 0#32
  ![0, 5, v545.toNat, 0]
def k0_off68 (i : grid0.Coords) (k0_t21 : Fin (k0_t21_loop i).trips) (c0_i32_243 : BitVec 32) : Fin 2 → Nat :=
  let c0_i32_186 : BitVec 32 := 0#32
  let c1_i32_188 : BitVec 32 := 1#32
  let arg9 : BitVec 32 := Scf.iv c0_i32_186 c1_i32_188 k0_t21
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v551 : Index := Scalar.indexCast v544
  let c0_252 : Index := 0#32
  ![v551.toNat, 0]
def k0_off69 (i : grid0.Coords) (k0_t21 : Fin (k0_t21_loop i).trips) (c0_i32_243 : BitVec 32) : Fin 3 → Nat :=
  let c0_256 : Index := 0#32
  let c256_257 : Index := 256#32
  let c0_i32_186 : BitVec 32 := 0#32
  let c1_i32_188 : BitVec 32 := 1#32
  let arg9 : BitVec 32 := Scf.iv c0_i32_186 c1_i32_188 k0_t21
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v566 : Index := Scalar.indexCast v544
  ![0, 256, v566.toNat]
def k0_mult37 (i : grid0.Coords) (k0_t21 : Fin (k0_t21_loop i).trips) : BitVec 32 :=
  let c0_i32_186 : BitVec 32 := 0#32
  let c1_i32_188 : BitVec 32 := 1#32
  let arg9 : BitVec 32 := Scf.iv c0_i32_186 c1_i32_188 k0_t21
  let c2_i32_259 : BitVec 32 := 2#32
  let v572 : BitVec 32 := Scalar.muli arg9 c2_i32_259
  let c1_i32_260 : BitVec 32 := 1#32
  let v573 : BitVec 32 := Scalar.addi v572 c1_i32_260
  let c512_i32_261 : BitVec 32 := 512#32
  let v574 : BitVec 32 := Scalar.muli v573 c512_i32_261
  v574
@[reducible] def k0_t22_loop (i : grid0.Coords) : Scf.Loop 32 :=
  let c0_i32_186 : BitVec 32 := 0#32
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let v423 : BitVec 32 := Scalar.subi v422 c0_i32_186
  let c1_i32_187 : BitVec 32 := 1#32
  let v425 : BitVec 32 := Scalar.divsi v423 c1_i32_187
  let v426 : BitVec 32 := Scalar.muli v425 c1_i32_187
  let v427 : BitVec 32 := Scalar.addi c0_i32_186 v426
  let v424 : BitVec 32 := Scalar.addi c0_i32_186 v423
  let c1_i32_189 : BitVec 32 := 1#32
  ⟨v427, v424, c1_i32_189⟩
def k0_mult38 (i : grid0.Coords) (k0_t22 : Fin (k0_t22_loop i).trips) : BitVec 32 :=
  let c0_i32_186 : BitVec 32 := 0#32
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let v423 : BitVec 32 := Scalar.subi v422 c0_i32_186
  let c1_i32_187 : BitVec 32 := 1#32
  let v425 : BitVec 32 := Scalar.divsi v423 c1_i32_187
  let v426 : BitVec 32 := Scalar.muli v425 c1_i32_187
  let v427 : BitVec 32 := Scalar.addi c0_i32_186 v426
  let c1_i32_189 : BitVec 32 := 1#32
  let arg9 : BitVec 32 := Scf.iv v427 c1_i32_189 k0_t22
  let c2_i32_242 : BitVec 32 := 2#32
  let v541 : BitVec 32 := Scalar.muli arg9 c2_i32_242
  let c0_i32_243 : BitVec 32 := 0#32
  let v542 : BitVec 32 := Scalar.addi v541 c0_i32_243
  let c512_i32_244 : BitVec 32 := 512#32
  let v543 : BitVec 32 := Scalar.muli v542 c512_i32_244
  v543
def k0_off70 (i : grid0.Coords) (k0_t22 : Fin (k0_t22_loop i).trips) (c0_i32_243 : BitVec 32) : Fin 4 → Nat :=
  let c0_245 : Index := 0#32
  let c5_246 : Index := 5#32
  let c0_i32_186 : BitVec 32 := 0#32
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let v423 : BitVec 32 := Scalar.subi v422 c0_i32_186
  let c1_i32_187 : BitVec 32 := 1#32
  let v425 : BitVec 32 := Scalar.divsi v423 c1_i32_187
  let v426 : BitVec 32 := Scalar.muli v425 c1_i32_187
  let v427 : BitVec 32 := Scalar.addi c0_i32_186 v426
  let c1_i32_189 : BitVec 32 := 1#32
  let arg9 : BitVec 32 := Scf.iv v427 c1_i32_189 k0_t22
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v545 : Index := Scalar.indexCast v544
  let c0_247 : Index := 0#32
  ![0, 5, v545.toNat, 0]
def k0_off71 (i : grid0.Coords) (k0_t22 : Fin (k0_t22_loop i).trips) (c0_i32_243 : BitVec 32) : Fin 2 → Nat :=
  let c0_i32_186 : BitVec 32 := 0#32
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let v423 : BitVec 32 := Scalar.subi v422 c0_i32_186
  let c1_i32_187 : BitVec 32 := 1#32
  let v425 : BitVec 32 := Scalar.divsi v423 c1_i32_187
  let v426 : BitVec 32 := Scalar.muli v425 c1_i32_187
  let v427 : BitVec 32 := Scalar.addi c0_i32_186 v426
  let c1_i32_189 : BitVec 32 := 1#32
  let arg9 : BitVec 32 := Scf.iv v427 c1_i32_189 k0_t22
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v551 : Index := Scalar.indexCast v544
  let c0_252 : Index := 0#32
  ![v551.toNat, 0]
def k0_off72 (i : grid0.Coords) (k0_t22 : Fin (k0_t22_loop i).trips) (c0_i32_243 : BitVec 32) : Fin 3 → Nat :=
  let c0_256 : Index := 0#32
  let c256_257 : Index := 256#32
  let c0_i32_186 : BitVec 32 := 0#32
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let v423 : BitVec 32 := Scalar.subi v422 c0_i32_186
  let c1_i32_187 : BitVec 32 := 1#32
  let v425 : BitVec 32 := Scalar.divsi v423 c1_i32_187
  let v426 : BitVec 32 := Scalar.muli v425 c1_i32_187
  let v427 : BitVec 32 := Scalar.addi c0_i32_186 v426
  let c1_i32_189 : BitVec 32 := 1#32
  let arg9 : BitVec 32 := Scf.iv v427 c1_i32_189 k0_t22
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v566 : Index := Scalar.indexCast v544
  ![0, 256, v566.toNat]
def k0_mult39 (i : grid0.Coords) (k0_t22 : Fin (k0_t22_loop i).trips) : BitVec 32 :=
  let c0_i32_186 : BitVec 32 := 0#32
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let v423 : BitVec 32 := Scalar.subi v422 c0_i32_186
  let c1_i32_187 : BitVec 32 := 1#32
  let v425 : BitVec 32 := Scalar.divsi v423 c1_i32_187
  let v426 : BitVec 32 := Scalar.muli v425 c1_i32_187
  let v427 : BitVec 32 := Scalar.addi c0_i32_186 v426
  let c1_i32_189 : BitVec 32 := 1#32
  let arg9 : BitVec 32 := Scf.iv v427 c1_i32_189 k0_t22
  let c2_i32_259 : BitVec 32 := 2#32
  let v572 : BitVec 32 := Scalar.muli arg9 c2_i32_259
  let c1_i32_260 : BitVec 32 := 1#32
  let v573 : BitVec 32 := Scalar.addi v572 c1_i32_260
  let c512_i32_261 : BitVec 32 := 512#32
  let v574 : BitVec 32 := Scalar.muli v573 c512_i32_261
  v574
@[reducible] def k0_t23_loop (i : grid0.Coords) : Scf.Loop 32 :=
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let c2_i32_190 : BitVec 32 := 2#32
  let v430 : BitVec 32 := Scalar.muli v422 c2_i32_190
  let v431 : BitVec 32 := Scalar.subi arg1 v430
  let c1_i32_191 : BitVec 32 := 1#32
  let v433 : BitVec 32 := Scalar.divsi v431 c1_i32_191
  let v434 : BitVec 32 := Scalar.muli v433 c1_i32_191
  let v435 : BitVec 32 := Scalar.addi v430 v434
  let c1_i32_192 : BitVec 32 := 1#32
  ⟨v430, v435, c1_i32_192⟩
def k0_mult40 (i : grid0.Coords) (k0_t23 : Fin (k0_t23_loop i).trips) : BitVec 32 :=
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let c2_i32_190 : BitVec 32 := 2#32
  let v430 : BitVec 32 := Scalar.muli v422 c2_i32_190
  let c1_i32_192 : BitVec 32 := 1#32
  let arg9 : BitVec 32 := Scf.iv v430 c1_i32_192 k0_t23
  let c512_i32_242 : BitVec 32 := 512#32
  let v541 : BitVec 32 := Scalar.muli arg9 c512_i32_242
  v541
def k0_off73 (i : grid0.Coords) (k0_t23 : Fin (k0_t23_loop i).trips) : Fin 4 → Nat :=
  let c0_243 : Index := 0#32
  let c5_244 : Index := 5#32
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let c2_i32_190 : BitVec 32 := 2#32
  let v430 : BitVec 32 := Scalar.muli v422 c2_i32_190
  let c1_i32_192 : BitVec 32 := 1#32
  let arg9 : BitVec 32 := Scf.iv v430 c1_i32_192 k0_t23
  let c512_i32_242 : BitVec 32 := 512#32
  let v541 : BitVec 32 := Scalar.muli arg9 c512_i32_242
  let v542 : BitVec 32 := v541
  let v543 : Index := Scalar.indexCast v542
  let c0_245 : Index := 0#32
  ![0, 5, v543.toNat, 0]
def k0_off74 (i : grid0.Coords) (k0_t23 : Fin (k0_t23_loop i).trips) : Fin 2 → Nat :=
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let c2_i32_190 : BitVec 32 := 2#32
  let v430 : BitVec 32 := Scalar.muli v422 c2_i32_190
  let c1_i32_192 : BitVec 32 := 1#32
  let arg9 : BitVec 32 := Scf.iv v430 c1_i32_192 k0_t23
  let c512_i32_242 : BitVec 32 := 512#32
  let v541 : BitVec 32 := Scalar.muli arg9 c512_i32_242
  let v542 : BitVec 32 := v541
  let v549 : Index := Scalar.indexCast v542
  let c0_250 : Index := 0#32
  ![v549.toNat, 0]
def k0_off75 (i : grid0.Coords) (k0_t23 : Fin (k0_t23_loop i).trips) : Fin 3 → Nat :=
  let c0_254 : Index := 0#32
  let c256_255 : Index := 256#32
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let c2_i32_190 : BitVec 32 := 2#32
  let v430 : BitVec 32 := Scalar.muli v422 c2_i32_190
  let c1_i32_192 : BitVec 32 := 1#32
  let arg9 : BitVec 32 := Scf.iv v430 c1_i32_192 k0_t23
  let c512_i32_242 : BitVec 32 := 512#32
  let v541 : BitVec 32 := Scalar.muli arg9 c512_i32_242
  let v542 : BitVec 32 := v541
  let v564 : Index := Scalar.indexCast v542
  ![0, 256, v564.toNat]
@[reducible] def k0_t24_loop (i : grid0.Coords) : Scf.Loop 32 :=
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let c2_i32_190 : BitVec 32 := 2#32
  let v430 : BitVec 32 := Scalar.muli v422 c2_i32_190
  let v431 : BitVec 32 := Scalar.subi arg1 v430
  let c1_i32_191 : BitVec 32 := 1#32
  let v433 : BitVec 32 := Scalar.divsi v431 c1_i32_191
  let v434 : BitVec 32 := Scalar.muli v433 c1_i32_191
  let v435 : BitVec 32 := Scalar.addi v430 v434
  let v432 : BitVec 32 := Scalar.addi v430 v431
  let c1_i32_193 : BitVec 32 := 1#32
  ⟨v435, v432, c1_i32_193⟩
def k0_mult41 (i : grid0.Coords) (k0_t24 : Fin (k0_t24_loop i).trips) : BitVec 32 :=
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let c2_i32_190 : BitVec 32 := 2#32
  let v430 : BitVec 32 := Scalar.muli v422 c2_i32_190
  let v431 : BitVec 32 := Scalar.subi arg1 v430
  let c1_i32_191 : BitVec 32 := 1#32
  let v433 : BitVec 32 := Scalar.divsi v431 c1_i32_191
  let v434 : BitVec 32 := Scalar.muli v433 c1_i32_191
  let v435 : BitVec 32 := Scalar.addi v430 v434
  let c1_i32_193 : BitVec 32 := 1#32
  let arg9 : BitVec 32 := Scf.iv v435 c1_i32_193 k0_t24
  let c512_i32_242 : BitVec 32 := 512#32
  let v541 : BitVec 32 := Scalar.muli arg9 c512_i32_242
  v541
def k0_off76 (i : grid0.Coords) (k0_t24 : Fin (k0_t24_loop i).trips) : Fin 4 → Nat :=
  let c0_243 : Index := 0#32
  let c5_244 : Index := 5#32
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let c2_i32_190 : BitVec 32 := 2#32
  let v430 : BitVec 32 := Scalar.muli v422 c2_i32_190
  let v431 : BitVec 32 := Scalar.subi arg1 v430
  let c1_i32_191 : BitVec 32 := 1#32
  let v433 : BitVec 32 := Scalar.divsi v431 c1_i32_191
  let v434 : BitVec 32 := Scalar.muli v433 c1_i32_191
  let v435 : BitVec 32 := Scalar.addi v430 v434
  let c1_i32_193 : BitVec 32 := 1#32
  let arg9 : BitVec 32 := Scf.iv v435 c1_i32_193 k0_t24
  let c512_i32_242 : BitVec 32 := 512#32
  let v541 : BitVec 32 := Scalar.muli arg9 c512_i32_242
  let v542 : BitVec 32 := v541
  let v543 : Index := Scalar.indexCast v542
  let c0_245 : Index := 0#32
  ![0, 5, v543.toNat, 0]
def k0_off77 (i : grid0.Coords) (k0_t24 : Fin (k0_t24_loop i).trips) : Fin 2 → Nat :=
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let c2_i32_190 : BitVec 32 := 2#32
  let v430 : BitVec 32 := Scalar.muli v422 c2_i32_190
  let v431 : BitVec 32 := Scalar.subi arg1 v430
  let c1_i32_191 : BitVec 32 := 1#32
  let v433 : BitVec 32 := Scalar.divsi v431 c1_i32_191
  let v434 : BitVec 32 := Scalar.muli v433 c1_i32_191
  let v435 : BitVec 32 := Scalar.addi v430 v434
  let c1_i32_193 : BitVec 32 := 1#32
  let arg9 : BitVec 32 := Scf.iv v435 c1_i32_193 k0_t24
  let c512_i32_242 : BitVec 32 := 512#32
  let v541 : BitVec 32 := Scalar.muli arg9 c512_i32_242
  let v542 : BitVec 32 := v541
  let v549 : Index := Scalar.indexCast v542
  let c0_250 : Index := 0#32
  ![v549.toNat, 0]
def k0_off78 (i : grid0.Coords) (k0_t24 : Fin (k0_t24_loop i).trips) : Fin 3 → Nat :=
  let c0_254 : Index := 0#32
  let c256_255 : Index := 256#32
  let arg1 : BitVec 32 := BitVec.ofNat 32 (i 1).val
  let c0_i32_180 : BitVec 32 := 0#32
  let v407 : BitVec 1 := Scalar.cmpi .sgt arg1 c0_i32_180
  let v408 : BitVec 32 := Scalar.extui v407
  let c0_i32_181 : BitVec 32 := 0#32
  let v409 : BitVec 1 := Scalar.cmpi .slt arg1 c0_i32_181
  let v410 : BitVec 32 := Scalar.extui v409
  let v411 : BitVec 32 := Scalar.subi v408 v410
  let c2_i32_179 : BitVec 32 := 2#32
  let c0_i32_182 : BitVec 32 := 0#32
  let v412 : BitVec 1 := Scalar.cmpi .sgt c2_i32_179 c0_i32_182
  let v413 : BitVec 32 := Scalar.extui v412
  let c0_i32_183 : BitVec 32 := 0#32
  let v414 : BitVec 1 := Scalar.cmpi .slt c2_i32_179 c0_i32_183
  let v415 : BitVec 32 := Scalar.extui v414
  let v416 : BitVec 32 := Scalar.subi v413 v415
  let v417 : BitVec 1 := Scalar.cmpi .ne v411 v416
  let v418 : BitVec 32 := Scalar.remsi arg1 c2_i32_179
  let c0_i32_184 : BitVec 32 := 0#32
  let v419 : BitVec 1 := Scalar.cmpi .ne v418 c0_i32_184
  let v420 : BitVec 1 := Scalar.andi v417 v419
  let v406 : BitVec 32 := Scalar.divsi arg1 c2_i32_179
  let c1_i32_185 : BitVec 32 := 1#32
  let v421 : BitVec 32 := Scalar.subi v406 c1_i32_185
  let v422 : BitVec 32 := Scalar.select v420 v421 v406
  let c2_i32_190 : BitVec 32 := 2#32
  let v430 : BitVec 32 := Scalar.muli v422 c2_i32_190
  let v431 : BitVec 32 := Scalar.subi arg1 v430
  let c1_i32_191 : BitVec 32 := 1#32
  let v433 : BitVec 32 := Scalar.divsi v431 c1_i32_191
  let v434 : BitVec 32 := Scalar.muli v433 c1_i32_191
  let v435 : BitVec 32 := Scalar.addi v430 v434
  let c1_i32_193 : BitVec 32 := 1#32
  let arg9 : BitVec 32 := Scf.iv v435 c1_i32_193 k0_t24
  let c512_i32_242 : BitVec 32 := 512#32
  let v541 : BitVec 32 := Scalar.muli arg9 c512_i32_242
  let v542 : BitVec 32 := v541
  let v564 : Index := Scalar.indexCast v542
  ![0, 256, v564.toNat]
def k0_mult42 (i : grid0.Coords) : BitVec 32 :=
  let arg1 : BitVec 32 := BitVec.ofNat 32 (i 1).val
  let c512_i32_194 : BitVec 32 := 512#32
  let v438 : BitVec 32 := Scalar.muli arg1 c512_i32_194
  v438
def k0_off79 (i : grid0.Coords) : Fin 4 → Nat :=
  let c0_195 : Index := 0#32
  let c5 : Index := 5#32
  let arg1 : BitVec 32 := BitVec.ofNat 32 (i 1).val
  let c512_i32_194 : BitVec 32 := 512#32
  let v438 : BitVec 32 := Scalar.muli arg1 c512_i32_194
  let v439 : BitVec 32 := v438
  let v440 : Index := Scalar.indexCast v439
  let c0_196 : Index := 0#32
  ![0, 5, v440.toNat, 0]
def k0_off80 (i : grid0.Coords) : Fin 3 → Nat :=
  let c0_204 : Index := 0#32
  let c256_205 : Index := 256#32
  let arg1 : BitVec 32 := BitVec.ofNat 32 (i 1).val
  let c512_i32_194 : BitVec 32 := 512#32
  let v438 : BitVec 32 := Scalar.muli arg1 c512_i32_194
  let v439 : BitVec 32 := v438
  let v462 : Index := Scalar.indexCast v439
  ![0, 256, v462.toNat]
@[reducible] def k0_t25_loop (i : grid0.Coords) : Scf.Loop 32 :=
  let c0_i32_221 : BitVec 32 := 0#32
  let arg1 : BitVec 32 := BitVec.ofNat 32 (i 1).val
  let c0_i32_215 : BitVec 32 := 0#32
  let v481 : BitVec 1 := Scalar.cmpi .sgt arg1 c0_i32_215
  let v482 : BitVec 32 := Scalar.extui v481
  let c0_i32_216 : BitVec 32 := 0#32
  let v483 : BitVec 1 := Scalar.cmpi .slt arg1 c0_i32_216
  let v484 : BitVec 32 := Scalar.extui v483
  let v485 : BitVec 32 := Scalar.subi v482 v484
  let c2_i32_214 : BitVec 32 := 2#32
  let c0_i32_217 : BitVec 32 := 0#32
  let v486 : BitVec 1 := Scalar.cmpi .sgt c2_i32_214 c0_i32_217
  let v487 : BitVec 32 := Scalar.extui v486
  let c0_i32_218 : BitVec 32 := 0#32
  let v488 : BitVec 1 := Scalar.cmpi .slt c2_i32_214 c0_i32_218
  let v489 : BitVec 32 := Scalar.extui v488
  let v490 : BitVec 32 := Scalar.subi v487 v489
  let v491 : BitVec 1 := Scalar.cmpi .ne v485 v490
  let v492 : BitVec 32 := Scalar.remsi arg1 c2_i32_214
  let c0_i32_219 : BitVec 32 := 0#32
  let v493 : BitVec 1 := Scalar.cmpi .ne v492 c0_i32_219
  let v494 : BitVec 1 := Scalar.andi v491 v493
  let v480 : BitVec 32 := Scalar.divsi arg1 c2_i32_214
  let c1_i32_220 : BitVec 32 := 1#32
  let v495 : BitVec 32 := Scalar.subi v480 c1_i32_220
  let v496 : BitVec 32 := Scalar.select v494 v495 v480
  let v497 : BitVec 32 := Scalar.subi v496 c0_i32_221
  let c1_i32_222 : BitVec 32 := 1#32
  let v499 : BitVec 32 := Scalar.divsi v497 c1_i32_222
  let v500 : BitVec 32 := Scalar.muli v499 c1_i32_222
  let v501 : BitVec 32 := Scalar.addi c0_i32_221 v500
  let c1_i32_223 : BitVec 32 := 1#32
  ⟨c0_i32_221, v501, c1_i32_223⟩
def k0_mult43 (i : grid0.Coords) (k0_t25 : Fin (k0_t25_loop i).trips) : BitVec 32 :=
  let c0_i32_221 : BitVec 32 := 0#32
  let c1_i32_223 : BitVec 32 := 1#32
  let arg9 : BitVec 32 := Scf.iv c0_i32_221 c1_i32_223 k0_t25
  let c2_i32_242 : BitVec 32 := 2#32
  let v541 : BitVec 32 := Scalar.muli arg9 c2_i32_242
  let c0_i32_243 : BitVec 32 := 0#32
  let v542 : BitVec 32 := Scalar.addi v541 c0_i32_243
  let c512_i32_244 : BitVec 32 := 512#32
  let v543 : BitVec 32 := Scalar.muli v542 c512_i32_244
  v543
def k0_off81 (i : grid0.Coords) (k0_t25 : Fin (k0_t25_loop i).trips) (c0_i32_243 : BitVec 32) : Fin 2 → Nat :=
  let c0_i32_221 : BitVec 32 := 0#32
  let c1_i32_223 : BitVec 32 := 1#32
  let arg9 : BitVec 32 := Scf.iv c0_i32_221 c1_i32_223 k0_t25
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v545 : Index := Scalar.indexCast v544
  let c0_245 : Index := 0#32
  ![v545.toNat, 0]
def k0_off82 (i : grid0.Coords) (k0_t25 : Fin (k0_t25_loop i).trips) (c0_i32_243 : BitVec 32) : Fin 3 → Nat :=
  let c0_247 : Index := 0#32
  let c320_248 : Index := 320#32
  let c0_i32_221 : BitVec 32 := 0#32
  let c1_i32_223 : BitVec 32 := 1#32
  let arg9 : BitVec 32 := Scf.iv c0_i32_221 c1_i32_223 k0_t25
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v553 : Index := Scalar.indexCast v544
  ![0, 320, v553.toNat]
def k0_mult44 (i : grid0.Coords) (k0_t25 : Fin (k0_t25_loop i).trips) : BitVec 32 :=
  let c0_i32_221 : BitVec 32 := 0#32
  let c1_i32_223 : BitVec 32 := 1#32
  let arg9 : BitVec 32 := Scf.iv c0_i32_221 c1_i32_223 k0_t25
  let c2_i32_250 : BitVec 32 := 2#32
  let v559 : BitVec 32 := Scalar.muli arg9 c2_i32_250
  let c1_i32_251 : BitVec 32 := 1#32
  let v560 : BitVec 32 := Scalar.addi v559 c1_i32_251
  let c512_i32_252 : BitVec 32 := 512#32
  let v561 : BitVec 32 := Scalar.muli v560 c512_i32_252
  v561
@[reducible] def k0_t26_loop (i : grid0.Coords) : Scf.Loop 32 :=
  let c0_i32_221 : BitVec 32 := 0#32
  let arg1 : BitVec 32 := BitVec.ofNat 32 (i 1).val
  let c0_i32_215 : BitVec 32 := 0#32
  let v481 : BitVec 1 := Scalar.cmpi .sgt arg1 c0_i32_215
  let v482 : BitVec 32 := Scalar.extui v481
  let c0_i32_216 : BitVec 32 := 0#32
  let v483 : BitVec 1 := Scalar.cmpi .slt arg1 c0_i32_216
  let v484 : BitVec 32 := Scalar.extui v483
  let v485 : BitVec 32 := Scalar.subi v482 v484
  let c2_i32_214 : BitVec 32 := 2#32
  let c0_i32_217 : BitVec 32 := 0#32
  let v486 : BitVec 1 := Scalar.cmpi .sgt c2_i32_214 c0_i32_217
  let v487 : BitVec 32 := Scalar.extui v486
  let c0_i32_218 : BitVec 32 := 0#32
  let v488 : BitVec 1 := Scalar.cmpi .slt c2_i32_214 c0_i32_218
  let v489 : BitVec 32 := Scalar.extui v488
  let v490 : BitVec 32 := Scalar.subi v487 v489
  let v491 : BitVec 1 := Scalar.cmpi .ne v485 v490
  let v492 : BitVec 32 := Scalar.remsi arg1 c2_i32_214
  let c0_i32_219 : BitVec 32 := 0#32
  let v493 : BitVec 1 := Scalar.cmpi .ne v492 c0_i32_219
  let v494 : BitVec 1 := Scalar.andi v491 v493
  let v480 : BitVec 32 := Scalar.divsi arg1 c2_i32_214
  let c1_i32_220 : BitVec 32 := 1#32
  let v495 : BitVec 32 := Scalar.subi v480 c1_i32_220
  let v496 : BitVec 32 := Scalar.select v494 v495 v480
  let v497 : BitVec 32 := Scalar.subi v496 c0_i32_221
  let c1_i32_222 : BitVec 32 := 1#32
  let v499 : BitVec 32 := Scalar.divsi v497 c1_i32_222
  let v500 : BitVec 32 := Scalar.muli v499 c1_i32_222
  let v501 : BitVec 32 := Scalar.addi c0_i32_221 v500
  let v498 : BitVec 32 := Scalar.addi c0_i32_221 v497
  let c1_i32_224 : BitVec 32 := 1#32
  ⟨v501, v498, c1_i32_224⟩
def k0_mult45 (i : grid0.Coords) (k0_t26 : Fin (k0_t26_loop i).trips) : BitVec 32 :=
  let c0_i32_221 : BitVec 32 := 0#32
  let arg1 : BitVec 32 := BitVec.ofNat 32 (i 1).val
  let c0_i32_215 : BitVec 32 := 0#32
  let v481 : BitVec 1 := Scalar.cmpi .sgt arg1 c0_i32_215
  let v482 : BitVec 32 := Scalar.extui v481
  let c0_i32_216 : BitVec 32 := 0#32
  let v483 : BitVec 1 := Scalar.cmpi .slt arg1 c0_i32_216
  let v484 : BitVec 32 := Scalar.extui v483
  let v485 : BitVec 32 := Scalar.subi v482 v484
  let c2_i32_214 : BitVec 32 := 2#32
  let c0_i32_217 : BitVec 32 := 0#32
  let v486 : BitVec 1 := Scalar.cmpi .sgt c2_i32_214 c0_i32_217
  let v487 : BitVec 32 := Scalar.extui v486
  let c0_i32_218 : BitVec 32 := 0#32
  let v488 : BitVec 1 := Scalar.cmpi .slt c2_i32_214 c0_i32_218
  let v489 : BitVec 32 := Scalar.extui v488
  let v490 : BitVec 32 := Scalar.subi v487 v489
  let v491 : BitVec 1 := Scalar.cmpi .ne v485 v490
  let v492 : BitVec 32 := Scalar.remsi arg1 c2_i32_214
  let c0_i32_219 : BitVec 32 := 0#32
  let v493 : BitVec 1 := Scalar.cmpi .ne v492 c0_i32_219
  let v494 : BitVec 1 := Scalar.andi v491 v493
  let v480 : BitVec 32 := Scalar.divsi arg1 c2_i32_214
  let c1_i32_220 : BitVec 32 := 1#32
  let v495 : BitVec 32 := Scalar.subi v480 c1_i32_220
  let v496 : BitVec 32 := Scalar.select v494 v495 v480
  let v497 : BitVec 32 := Scalar.subi v496 c0_i32_221
  let c1_i32_222 : BitVec 32 := 1#32
  let v499 : BitVec 32 := Scalar.divsi v497 c1_i32_222
  let v500 : BitVec 32 := Scalar.muli v499 c1_i32_222
  let v501 : BitVec 32 := Scalar.addi c0_i32_221 v500
  let c1_i32_224 : BitVec 32 := 1#32
  let arg9 : BitVec 32 := Scf.iv v501 c1_i32_224 k0_t26
  let c2_i32_242 : BitVec 32 := 2#32
  let v541 : BitVec 32 := Scalar.muli arg9 c2_i32_242
  let c0_i32_243 : BitVec 32 := 0#32
  let v542 : BitVec 32 := Scalar.addi v541 c0_i32_243
  let c512_i32_244 : BitVec 32 := 512#32
  let v543 : BitVec 32 := Scalar.muli v542 c512_i32_244
  v543
def k0_off83 (i : grid0.Coords) (k0_t26 : Fin (k0_t26_loop i).trips) (c0_i32_243 : BitVec 32) : Fin 2 → Nat :=
  let c0_i32_221 : BitVec 32 := 0#32
  let arg1 : BitVec 32 := BitVec.ofNat 32 (i 1).val
  let c0_i32_215 : BitVec 32 := 0#32
  let v481 : BitVec 1 := Scalar.cmpi .sgt arg1 c0_i32_215
  let v482 : BitVec 32 := Scalar.extui v481
  let c0_i32_216 : BitVec 32 := 0#32
  let v483 : BitVec 1 := Scalar.cmpi .slt arg1 c0_i32_216
  let v484 : BitVec 32 := Scalar.extui v483
  let v485 : BitVec 32 := Scalar.subi v482 v484
  let c2_i32_214 : BitVec 32 := 2#32
  let c0_i32_217 : BitVec 32 := 0#32
  let v486 : BitVec 1 := Scalar.cmpi .sgt c2_i32_214 c0_i32_217
  let v487 : BitVec 32 := Scalar.extui v486
  let c0_i32_218 : BitVec 32 := 0#32
  let v488 : BitVec 1 := Scalar.cmpi .slt c2_i32_214 c0_i32_218
  let v489 : BitVec 32 := Scalar.extui v488
  let v490 : BitVec 32 := Scalar.subi v487 v489
  let v491 : BitVec 1 := Scalar.cmpi .ne v485 v490
  let v492 : BitVec 32 := Scalar.remsi arg1 c2_i32_214
  let c0_i32_219 : BitVec 32 := 0#32
  let v493 : BitVec 1 := Scalar.cmpi .ne v492 c0_i32_219
  let v494 : BitVec 1 := Scalar.andi v491 v493
  let v480 : BitVec 32 := Scalar.divsi arg1 c2_i32_214
  let c1_i32_220 : BitVec 32 := 1#32
  let v495 : BitVec 32 := Scalar.subi v480 c1_i32_220
  let v496 : BitVec 32 := Scalar.select v494 v495 v480
  let v497 : BitVec 32 := Scalar.subi v496 c0_i32_221
  let c1_i32_222 : BitVec 32 := 1#32
  let v499 : BitVec 32 := Scalar.divsi v497 c1_i32_222
  let v500 : BitVec 32 := Scalar.muli v499 c1_i32_222
  let v501 : BitVec 32 := Scalar.addi c0_i32_221 v500
  let c1_i32_224 : BitVec 32 := 1#32
  let arg9 : BitVec 32 := Scf.iv v501 c1_i32_224 k0_t26
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v545 : Index := Scalar.indexCast v544
  let c0_245 : Index := 0#32
  ![v545.toNat, 0]
def k0_off84 (i : grid0.Coords) (k0_t26 : Fin (k0_t26_loop i).trips) (c0_i32_243 : BitVec 32) : Fin 3 → Nat :=
  let c0_247 : Index := 0#32
  let c320_248 : Index := 320#32
  let c0_i32_221 : BitVec 32 := 0#32
  let arg1 : BitVec 32 := BitVec.ofNat 32 (i 1).val
  let c0_i32_215 : BitVec 32 := 0#32
  let v481 : BitVec 1 := Scalar.cmpi .sgt arg1 c0_i32_215
  let v482 : BitVec 32 := Scalar.extui v481
  let c0_i32_216 : BitVec 32 := 0#32
  let v483 : BitVec 1 := Scalar.cmpi .slt arg1 c0_i32_216
  let v484 : BitVec 32 := Scalar.extui v483
  let v485 : BitVec 32 := Scalar.subi v482 v484
  let c2_i32_214 : BitVec 32 := 2#32
  let c0_i32_217 : BitVec 32 := 0#32
  let v486 : BitVec 1 := Scalar.cmpi .sgt c2_i32_214 c0_i32_217
  let v487 : BitVec 32 := Scalar.extui v486
  let c0_i32_218 : BitVec 32 := 0#32
  let v488 : BitVec 1 := Scalar.cmpi .slt c2_i32_214 c0_i32_218
  let v489 : BitVec 32 := Scalar.extui v488
  let v490 : BitVec 32 := Scalar.subi v487 v489
  let v491 : BitVec 1 := Scalar.cmpi .ne v485 v490
  let v492 : BitVec 32 := Scalar.remsi arg1 c2_i32_214
  let c0_i32_219 : BitVec 32 := 0#32
  let v493 : BitVec 1 := Scalar.cmpi .ne v492 c0_i32_219
  let v494 : BitVec 1 := Scalar.andi v491 v493
  let v480 : BitVec 32 := Scalar.divsi arg1 c2_i32_214
  let c1_i32_220 : BitVec 32 := 1#32
  let v495 : BitVec 32 := Scalar.subi v480 c1_i32_220
  let v496 : BitVec 32 := Scalar.select v494 v495 v480
  let v497 : BitVec 32 := Scalar.subi v496 c0_i32_221
  let c1_i32_222 : BitVec 32 := 1#32
  let v499 : BitVec 32 := Scalar.divsi v497 c1_i32_222
  let v500 : BitVec 32 := Scalar.muli v499 c1_i32_222
  let v501 : BitVec 32 := Scalar.addi c0_i32_221 v500
  let c1_i32_224 : BitVec 32 := 1#32
  let arg9 : BitVec 32 := Scf.iv v501 c1_i32_224 k0_t26
  let c2_i32_242 : BitVec 32 := 2#32
  let v541 : BitVec 32 := Scalar.muli arg9 c2_i32_242
  let v542 : BitVec 32 := Scalar.addi v541 c0_i32_243
  let c512_i32_244 : BitVec 32 := 512#32
  let v543 : BitVec 32 := Scalar.muli v542 c512_i32_244
  let v544 : BitVec 32 := v543
  let v553 : Index := Scalar.indexCast v544
  ![0, 320, v553.toNat]
def k0_mult46 (i : grid0.Coords) (k0_t26 : Fin (k0_t26_loop i).trips) : BitVec 32 :=
  let c0_i32_221 : BitVec 32 := 0#32
  let arg1 : BitVec 32 := BitVec.ofNat 32 (i 1).val
  let c0_i32_215 : BitVec 32 := 0#32
  let v481 : BitVec 1 := Scalar.cmpi .sgt arg1 c0_i32_215
  let v482 : BitVec 32 := Scalar.extui v481
  let c0_i32_216 : BitVec 32 := 0#32
  let v483 : BitVec 1 := Scalar.cmpi .slt arg1 c0_i32_216
  let v484 : BitVec 32 := Scalar.extui v483
  let v485 : BitVec 32 := Scalar.subi v482 v484
  let c2_i32_214 : BitVec 32 := 2#32
  let c0_i32_217 : BitVec 32 := 0#32
  let v486 : BitVec 1 := Scalar.cmpi .sgt c2_i32_214 c0_i32_217
  let v487 : BitVec 32 := Scalar.extui v486
  let c0_i32_218 : BitVec 32 := 0#32
  let v488 : BitVec 1 := Scalar.cmpi .slt c2_i32_214 c0_i32_218
  let v489 : BitVec 32 := Scalar.extui v488
  let v490 : BitVec 32 := Scalar.subi v487 v489
  let v491 : BitVec 1 := Scalar.cmpi .ne v485 v490
  let v492 : BitVec 32 := Scalar.remsi arg1 c2_i32_214
  let c0_i32_219 : BitVec 32 := 0#32
  let v493 : BitVec 1 := Scalar.cmpi .ne v492 c0_i32_219
  let v494 : BitVec 1 := Scalar.andi v491 v493
  let v480 : BitVec 32 := Scalar.divsi arg1 c2_i32_214
  let c1_i32_220 : BitVec 32 := 1#32
  let v495 : BitVec 32 := Scalar.subi v480 c1_i32_220
  let v496 : BitVec 32 := Scalar.select v494 v495 v480
  let v497 : BitVec 32 := Scalar.subi v496 c0_i32_221
  let c1_i32_222 : BitVec 32 := 1#32
  let v499 : BitVec 32 := Scalar.divsi v497 c1_i32_222
  let v500 : BitVec 32 := Scalar.muli v499 c1_i32_222
  let v501 : BitVec 32 := Scalar.addi c0_i32_221 v500
  let c1_i32_224 : BitVec 32 := 1#32
  let arg9 : BitVec 32 := Scf.iv v501 c1_i32_224 k0_t26
  let c2_i32_250 : BitVec 32 := 2#32
  let v559 : BitVec 32 := Scalar.muli arg9 c2_i32_250
  let c1_i32_251 : BitVec 32 := 1#32
  let v560 : BitVec 32 := Scalar.addi v559 c1_i32_251
  let c512_i32_252 : BitVec 32 := 512#32
  let v561 : BitVec 32 := Scalar.muli v560 c512_i32_252
  v561
@[reducible] def k0_t27_loop (i : grid0.Coords) : Scf.Loop 32 :=
  let arg1 : BitVec 32 := BitVec.ofNat 32 (i 1).val
  let c0_i32_215 : BitVec 32 := 0#32
  let v481 : BitVec 1 := Scalar.cmpi .sgt arg1 c0_i32_215
  let v482 : BitVec 32 := Scalar.extui v481
  let c0_i32_216 : BitVec 32 := 0#32
  let v483 : BitVec 1 := Scalar.cmpi .slt arg1 c0_i32_216
  let v484 : BitVec 32 := Scalar.extui v483
  let v485 : BitVec 32 := Scalar.subi v482 v484
  let c2_i32_214 : BitVec 32 := 2#32
  let c0_i32_217 : BitVec 32 := 0#32
  let v486 : BitVec 1 := Scalar.cmpi .sgt c2_i32_214 c0_i32_217
  let v487 : BitVec 32 := Scalar.extui v486
  let c0_i32_218 : BitVec 32 := 0#32
  let v488 : BitVec 1 := Scalar.cmpi .slt c2_i32_214 c0_i32_218
  let v489 : BitVec 32 := Scalar.extui v488
  let v490 : BitVec 32 := Scalar.subi v487 v489
  let v491 : BitVec 1 := Scalar.cmpi .ne v485 v490
  let v492 : BitVec 32 := Scalar.remsi arg1 c2_i32_214
  let c0_i32_219 : BitVec 32 := 0#32
  let v493 : BitVec 1 := Scalar.cmpi .ne v492 c0_i32_219
  let v494 : BitVec 1 := Scalar.andi v491 v493
  let v480 : BitVec 32 := Scalar.divsi arg1 c2_i32_214
  let c1_i32_220 : BitVec 32 := 1#32
  let v495 : BitVec 32 := Scalar.subi v480 c1_i32_220
  let v496 : BitVec 32 := Scalar.select v494 v495 v480
  let c2_i32_225 : BitVec 32 := 2#32
  let v504 : BitVec 32 := Scalar.muli v496 c2_i32_225
  let v505 : BitVec 32 := Scalar.subi arg1 v504
  let c1_i32_226 : BitVec 32 := 1#32
  let v507 : BitVec 32 := Scalar.divsi v505 c1_i32_226
  let v508 : BitVec 32 := Scalar.muli v507 c1_i32_226
  let v509 : BitVec 32 := Scalar.addi v504 v508
  let c1_i32_227 : BitVec 32 := 1#32
  ⟨v504, v509, c1_i32_227⟩
def k0_mult47 (i : grid0.Coords) (k0_t27 : Fin (k0_t27_loop i).trips) : BitVec 32 :=
  let arg1 : BitVec 32 := BitVec.ofNat 32 (i 1).val
  let c0_i32_215 : BitVec 32 := 0#32
  let v481 : BitVec 1 := Scalar.cmpi .sgt arg1 c0_i32_215
  let v482 : BitVec 32 := Scalar.extui v481
  let c0_i32_216 : BitVec 32 := 0#32
  let v483 : BitVec 1 := Scalar.cmpi .slt arg1 c0_i32_216
  let v484 : BitVec 32 := Scalar.extui v483
  let v485 : BitVec 32 := Scalar.subi v482 v484
  let c2_i32_214 : BitVec 32 := 2#32
  let c0_i32_217 : BitVec 32 := 0#32
  let v486 : BitVec 1 := Scalar.cmpi .sgt c2_i32_214 c0_i32_217
  let v487 : BitVec 32 := Scalar.extui v486
  let c0_i32_218 : BitVec 32 := 0#32
  let v488 : BitVec 1 := Scalar.cmpi .slt c2_i32_214 c0_i32_218
  let v489 : BitVec 32 := Scalar.extui v488
  let v490 : BitVec 32 := Scalar.subi v487 v489
  let v491 : BitVec 1 := Scalar.cmpi .ne v485 v490
  let v492 : BitVec 32 := Scalar.remsi arg1 c2_i32_214
  let c0_i32_219 : BitVec 32 := 0#32
  let v493 : BitVec 1 := Scalar.cmpi .ne v492 c0_i32_219
  let v494 : BitVec 1 := Scalar.andi v491 v493
  let v480 : BitVec 32 := Scalar.divsi arg1 c2_i32_214
  let c1_i32_220 : BitVec 32 := 1#32
  let v495 : BitVec 32 := Scalar.subi v480 c1_i32_220
  let v496 : BitVec 32 := Scalar.select v494 v495 v480
  let c2_i32_225 : BitVec 32 := 2#32
  let v504 : BitVec 32 := Scalar.muli v496 c2_i32_225
  let c1_i32_227 : BitVec 32 := 1#32
  let arg9 : BitVec 32 := Scf.iv v504 c1_i32_227 k0_t27
  let c512_i32_242 : BitVec 32 := 512#32
  let v541 : BitVec 32 := Scalar.muli arg9 c512_i32_242
  v541
def k0_off85 (i : grid0.Coords) (k0_t27 : Fin (k0_t27_loop i).trips) : Fin 2 → Nat :=
  let arg1 : BitVec 32 := BitVec.ofNat 32 (i 1).val
  let c0_i32_215 : BitVec 32 := 0#32
  let v481 : BitVec 1 := Scalar.cmpi .sgt arg1 c0_i32_215
  let v482 : BitVec 32 := Scalar.extui v481
  let c0_i32_216 : BitVec 32 := 0#32
  let v483 : BitVec 1 := Scalar.cmpi .slt arg1 c0_i32_216
  let v484 : BitVec 32 := Scalar.extui v483
  let v485 : BitVec 32 := Scalar.subi v482 v484
  let c2_i32_214 : BitVec 32 := 2#32
  let c0_i32_217 : BitVec 32 := 0#32
  let v486 : BitVec 1 := Scalar.cmpi .sgt c2_i32_214 c0_i32_217
  let v487 : BitVec 32 := Scalar.extui v486
  let c0_i32_218 : BitVec 32 := 0#32
  let v488 : BitVec 1 := Scalar.cmpi .slt c2_i32_214 c0_i32_218
  let v489 : BitVec 32 := Scalar.extui v488
  let v490 : BitVec 32 := Scalar.subi v487 v489
  let v491 : BitVec 1 := Scalar.cmpi .ne v485 v490
  let v492 : BitVec 32 := Scalar.remsi arg1 c2_i32_214
  let c0_i32_219 : BitVec 32 := 0#32
  let v493 : BitVec 1 := Scalar.cmpi .ne v492 c0_i32_219
  let v494 : BitVec 1 := Scalar.andi v491 v493
  let v480 : BitVec 32 := Scalar.divsi arg1 c2_i32_214
  let c1_i32_220 : BitVec 32 := 1#32
  let v495 : BitVec 32 := Scalar.subi v480 c1_i32_220
  let v496 : BitVec 32 := Scalar.select v494 v495 v480
  let c2_i32_225 : BitVec 32 := 2#32
  let v504 : BitVec 32 := Scalar.muli v496 c2_i32_225
  let c1_i32_227 : BitVec 32 := 1#32
  let arg9 : BitVec 32 := Scf.iv v504 c1_i32_227 k0_t27
  let c512_i32_242 : BitVec 32 := 512#32
  let v541 : BitVec 32 := Scalar.muli arg9 c512_i32_242
  let v542 : BitVec 32 := v541
  let v543 : Index := Scalar.indexCast v542
  let c0_243 : Index := 0#32
  ![v543.toNat, 0]
def k0_off86 (i : grid0.Coords) (k0_t27 : Fin (k0_t27_loop i).trips) : Fin 3 → Nat :=
  let c0_245 : Index := 0#32
  let c320_246 : Index := 320#32
  let arg1 : BitVec 32 := BitVec.ofNat 32 (i 1).val
  let c0_i32_215 : BitVec 32 := 0#32
  let v481 : BitVec 1 := Scalar.cmpi .sgt arg1 c0_i32_215
  let v482 : BitVec 32 := Scalar.extui v481
  let c0_i32_216 : BitVec 32 := 0#32
  let v483 : BitVec 1 := Scalar.cmpi .slt arg1 c0_i32_216
  let v484 : BitVec 32 := Scalar.extui v483
  let v485 : BitVec 32 := Scalar.subi v482 v484
  let c2_i32_214 : BitVec 32 := 2#32
  let c0_i32_217 : BitVec 32 := 0#32
  let v486 : BitVec 1 := Scalar.cmpi .sgt c2_i32_214 c0_i32_217
  let v487 : BitVec 32 := Scalar.extui v486
  let c0_i32_218 : BitVec 32 := 0#32
  let v488 : BitVec 1 := Scalar.cmpi .slt c2_i32_214 c0_i32_218
  let v489 : BitVec 32 := Scalar.extui v488
  let v490 : BitVec 32 := Scalar.subi v487 v489
  let v491 : BitVec 1 := Scalar.cmpi .ne v485 v490
  let v492 : BitVec 32 := Scalar.remsi arg1 c2_i32_214
  let c0_i32_219 : BitVec 32 := 0#32
  let v493 : BitVec 1 := Scalar.cmpi .ne v492 c0_i32_219
  let v494 : BitVec 1 := Scalar.andi v491 v493
  let v480 : BitVec 32 := Scalar.divsi arg1 c2_i32_214
  let c1_i32_220 : BitVec 32 := 1#32
  let v495 : BitVec 32 := Scalar.subi v480 c1_i32_220
  let v496 : BitVec 32 := Scalar.select v494 v495 v480
  let c2_i32_225 : BitVec 32 := 2#32
  let v504 : BitVec 32 := Scalar.muli v496 c2_i32_225
  let c1_i32_227 : BitVec 32 := 1#32
  let arg9 : BitVec 32 := Scf.iv v504 c1_i32_227 k0_t27
  let c512_i32_242 : BitVec 32 := 512#32
  let v541 : BitVec 32 := Scalar.muli arg9 c512_i32_242
  let v542 : BitVec 32 := v541
  let v551 : Index := Scalar.indexCast v542
  ![0, 320, v551.toNat]
@[reducible] def k0_t28_loop (i : grid0.Coords) : Scf.Loop 32 :=
  let arg1 : BitVec 32 := BitVec.ofNat 32 (i 1).val
  let c0_i32_215 : BitVec 32 := 0#32
  let v481 : BitVec 1 := Scalar.cmpi .sgt arg1 c0_i32_215
  let v482 : BitVec 32 := Scalar.extui v481
  let c0_i32_216 : BitVec 32 := 0#32
  let v483 : BitVec 1 := Scalar.cmpi .slt arg1 c0_i32_216
  let v484 : BitVec 32 := Scalar.extui v483
  let v485 : BitVec 32 := Scalar.subi v482 v484
  let c2_i32_214 : BitVec 32 := 2#32
  let c0_i32_217 : BitVec 32 := 0#32
  let v486 : BitVec 1 := Scalar.cmpi .sgt c2_i32_214 c0_i32_217
  let v487 : BitVec 32 := Scalar.extui v486
  let c0_i32_218 : BitVec 32 := 0#32
  let v488 : BitVec 1 := Scalar.cmpi .slt c2_i32_214 c0_i32_218
  let v489 : BitVec 32 := Scalar.extui v488
  let v490 : BitVec 32 := Scalar.subi v487 v489
  let v491 : BitVec 1 := Scalar.cmpi .ne v485 v490
  let v492 : BitVec 32 := Scalar.remsi arg1 c2_i32_214
  let c0_i32_219 : BitVec 32 := 0#32
  let v493 : BitVec 1 := Scalar.cmpi .ne v492 c0_i32_219
  let v494 : BitVec 1 := Scalar.andi v491 v493
  let v480 : BitVec 32 := Scalar.divsi arg1 c2_i32_214
  let c1_i32_220 : BitVec 32 := 1#32
  let v495 : BitVec 32 := Scalar.subi v480 c1_i32_220
  let v496 : BitVec 32 := Scalar.select v494 v495 v480
  let c2_i32_225 : BitVec 32 := 2#32
  let v504 : BitVec 32 := Scalar.muli v496 c2_i32_225
  let v505 : BitVec 32 := Scalar.subi arg1 v504
  let c1_i32_226 : BitVec 32 := 1#32
  let v507 : BitVec 32 := Scalar.divsi v505 c1_i32_226
  let v508 : BitVec 32 := Scalar.muli v507 c1_i32_226
  let v509 : BitVec 32 := Scalar.addi v504 v508
  let v506 : BitVec 32 := Scalar.addi v504 v505
  let c1_i32_228 : BitVec 32 := 1#32
  ⟨v509, v506, c1_i32_228⟩
def k0_mult48 (i : grid0.Coords) (k0_t28 : Fin (k0_t28_loop i).trips) : BitVec 32 :=
  let arg1 : BitVec 32 := BitVec.ofNat 32 (i 1).val
  let c0_i32_215 : BitVec 32 := 0#32
  let v481 : BitVec 1 := Scalar.cmpi .sgt arg1 c0_i32_215
  let v482 : BitVec 32 := Scalar.extui v481
  let c0_i32_216 : BitVec 32 := 0#32
  let v483 : BitVec 1 := Scalar.cmpi .slt arg1 c0_i32_216
  let v484 : BitVec 32 := Scalar.extui v483
  let v485 : BitVec 32 := Scalar.subi v482 v484
  let c2_i32_214 : BitVec 32 := 2#32
  let c0_i32_217 : BitVec 32 := 0#32
  let v486 : BitVec 1 := Scalar.cmpi .sgt c2_i32_214 c0_i32_217
  let v487 : BitVec 32 := Scalar.extui v486
  let c0_i32_218 : BitVec 32 := 0#32
  let v488 : BitVec 1 := Scalar.cmpi .slt c2_i32_214 c0_i32_218
  let v489 : BitVec 32 := Scalar.extui v488
  let v490 : BitVec 32 := Scalar.subi v487 v489
  let v491 : BitVec 1 := Scalar.cmpi .ne v485 v490
  let v492 : BitVec 32 := Scalar.remsi arg1 c2_i32_214
  let c0_i32_219 : BitVec 32 := 0#32
  let v493 : BitVec 1 := Scalar.cmpi .ne v492 c0_i32_219
  let v494 : BitVec 1 := Scalar.andi v491 v493
  let v480 : BitVec 32 := Scalar.divsi arg1 c2_i32_214
  let c1_i32_220 : BitVec 32 := 1#32
  let v495 : BitVec 32 := Scalar.subi v480 c1_i32_220
  let v496 : BitVec 32 := Scalar.select v494 v495 v480
  let c2_i32_225 : BitVec 32 := 2#32
  let v504 : BitVec 32 := Scalar.muli v496 c2_i32_225
  let v505 : BitVec 32 := Scalar.subi arg1 v504
  let c1_i32_226 : BitVec 32 := 1#32
  let v507 : BitVec 32 := Scalar.divsi v505 c1_i32_226
  let v508 : BitVec 32 := Scalar.muli v507 c1_i32_226
  let v509 : BitVec 32 := Scalar.addi v504 v508
  let c1_i32_228 : BitVec 32 := 1#32
  let arg9 : BitVec 32 := Scf.iv v509 c1_i32_228 k0_t28
  let c512_i32_242 : BitVec 32 := 512#32
  let v541 : BitVec 32 := Scalar.muli arg9 c512_i32_242
  v541
def k0_off87 (i : grid0.Coords) (k0_t28 : Fin (k0_t28_loop i).trips) : Fin 2 → Nat :=
  let arg1 : BitVec 32 := BitVec.ofNat 32 (i 1).val
  let c0_i32_215 : BitVec 32 := 0#32
  let v481 : BitVec 1 := Scalar.cmpi .sgt arg1 c0_i32_215
  let v482 : BitVec 32 := Scalar.extui v481
  let c0_i32_216 : BitVec 32 := 0#32
  let v483 : BitVec 1 := Scalar.cmpi .slt arg1 c0_i32_216
  let v484 : BitVec 32 := Scalar.extui v483
  let v485 : BitVec 32 := Scalar.subi v482 v484
  let c2_i32_214 : BitVec 32 := 2#32
  let c0_i32_217 : BitVec 32 := 0#32
  let v486 : BitVec 1 := Scalar.cmpi .sgt c2_i32_214 c0_i32_217
  let v487 : BitVec 32 := Scalar.extui v486
  let c0_i32_218 : BitVec 32 := 0#32
  let v488 : BitVec 1 := Scalar.cmpi .slt c2_i32_214 c0_i32_218
  let v489 : BitVec 32 := Scalar.extui v488
  let v490 : BitVec 32 := Scalar.subi v487 v489
  let v491 : BitVec 1 := Scalar.cmpi .ne v485 v490
  let v492 : BitVec 32 := Scalar.remsi arg1 c2_i32_214
  let c0_i32_219 : BitVec 32 := 0#32
  let v493 : BitVec 1 := Scalar.cmpi .ne v492 c0_i32_219
  let v494 : BitVec 1 := Scalar.andi v491 v493
  let v480 : BitVec 32 := Scalar.divsi arg1 c2_i32_214
  let c1_i32_220 : BitVec 32 := 1#32
  let v495 : BitVec 32 := Scalar.subi v480 c1_i32_220
  let v496 : BitVec 32 := Scalar.select v494 v495 v480
  let c2_i32_225 : BitVec 32 := 2#32
  let v504 : BitVec 32 := Scalar.muli v496 c2_i32_225
  let v505 : BitVec 32 := Scalar.subi arg1 v504
  let c1_i32_226 : BitVec 32 := 1#32
  let v507 : BitVec 32 := Scalar.divsi v505 c1_i32_226
  let v508 : BitVec 32 := Scalar.muli v507 c1_i32_226
  let v509 : BitVec 32 := Scalar.addi v504 v508
  let c1_i32_228 : BitVec 32 := 1#32
  let arg9 : BitVec 32 := Scf.iv v509 c1_i32_228 k0_t28
  let c512_i32_242 : BitVec 32 := 512#32
  let v541 : BitVec 32 := Scalar.muli arg9 c512_i32_242
  let v542 : BitVec 32 := v541
  let v543 : Index := Scalar.indexCast v542
  let c0_243 : Index := 0#32
  ![v543.toNat, 0]
def k0_off88 (i : grid0.Coords) (k0_t28 : Fin (k0_t28_loop i).trips) : Fin 3 → Nat :=
  let c0_245 : Index := 0#32
  let c320_246 : Index := 320#32
  let arg1 : BitVec 32 := BitVec.ofNat 32 (i 1).val
  let c0_i32_215 : BitVec 32 := 0#32
  let v481 : BitVec 1 := Scalar.cmpi .sgt arg1 c0_i32_215
  let v482 : BitVec 32 := Scalar.extui v481
  let c0_i32_216 : BitVec 32 := 0#32
  let v483 : BitVec 1 := Scalar.cmpi .slt arg1 c0_i32_216
  let v484 : BitVec 32 := Scalar.extui v483
  let v485 : BitVec 32 := Scalar.subi v482 v484
  let c2_i32_214 : BitVec 32 := 2#32
  let c0_i32_217 : BitVec 32 := 0#32
  let v486 : BitVec 1 := Scalar.cmpi .sgt c2_i32_214 c0_i32_217
  let v487 : BitVec 32 := Scalar.extui v486
  let c0_i32_218 : BitVec 32 := 0#32
  let v488 : BitVec 1 := Scalar.cmpi .slt c2_i32_214 c0_i32_218
  let v489 : BitVec 32 := Scalar.extui v488
  let v490 : BitVec 32 := Scalar.subi v487 v489
  let v491 : BitVec 1 := Scalar.cmpi .ne v485 v490
  let v492 : BitVec 32 := Scalar.remsi arg1 c2_i32_214
  let c0_i32_219 : BitVec 32 := 0#32
  let v493 : BitVec 1 := Scalar.cmpi .ne v492 c0_i32_219
  let v494 : BitVec 1 := Scalar.andi v491 v493
  let v480 : BitVec 32 := Scalar.divsi arg1 c2_i32_214
  let c1_i32_220 : BitVec 32 := 1#32
  let v495 : BitVec 32 := Scalar.subi v480 c1_i32_220
  let v496 : BitVec 32 := Scalar.select v494 v495 v480
  let c2_i32_225 : BitVec 32 := 2#32
  let v504 : BitVec 32 := Scalar.muli v496 c2_i32_225
  let v505 : BitVec 32 := Scalar.subi arg1 v504
  let c1_i32_226 : BitVec 32 := 1#32
  let v507 : BitVec 32 := Scalar.divsi v505 c1_i32_226
  let v508 : BitVec 32 := Scalar.muli v507 c1_i32_226
  let v509 : BitVec 32 := Scalar.addi v504 v508
  let c1_i32_228 : BitVec 32 := 1#32
  let arg9 : BitVec 32 := Scf.iv v509 c1_i32_228 k0_t28
  let c512_i32_242 : BitVec 32 := 512#32
  let v541 : BitVec 32 := Scalar.muli arg9 c512_i32_242
  let v542 : BitVec 32 := v541
  let v551 : Index := Scalar.indexCast v542
  ![0, 320, v551.toNat]
def k0_mult49 (i : grid0.Coords) : BitVec 32 :=
  let arg1 : BitVec 32 := BitVec.ofNat 32 (i 1).val
  let c512_i32_229 : BitVec 32 := 512#32
  let v512 : BitVec 32 := Scalar.muli arg1 c512_i32_229
  v512
def k0_off89 (i : grid0.Coords) : Fin 3 → Nat :=
  let c0_232 : Index := 0#32
  let c320 : Index := 320#32
  let arg1 : BitVec 32 := BitVec.ofNat 32 (i 1).val
  let c512_i32_229 : BitVec 32 := 512#32
  let v512 : BitVec 32 := Scalar.muli arg1 c512_i32_229
  let v513 : BitVec 32 := v512
  let v522 : Index := Scalar.indexCast v513
  ![0, 320, v522.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x384x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2.lean ====
abbrev S16x4096x6x96 : Shape := ⟨4, ![16, 4096, 6, 96]⟩
abbrev S16x4096x6x64 : Shape := ⟨4, ![16, 4096, 6, 64]⟩
abbrev S4096 : Shape := ⟨1, ![4096]⟩
abbrev S_ : Shape := ⟨0, ![]⟩
abbrev S16x6x4096x4096 : Shape := ⟨4, ![16, 6, 4096, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S16x6x4096 : Shape := ⟨3, ![16, 6, 4096]⟩
abbrev S16x6x4096x1 : Shape := ⟨4, ![16, 6, 4096, 1]⟩
abbrev S16x6x64x4096 : Shape := ⟨4, ![16, 6, 64, 4096]⟩
abbrev S16x4096x384 : Shape := ⟨3, ![16, 4096, 384]⟩

abbrev nBuf : Space → Nat
  | .hbm => 61
  | .vmem => 0
  | .smem => 0
  | _ => 0

abbrev bufTy : (tb : Table) → Fin (tcTables nBuf tb) → BufTy
  | .hbm, ⟨0, _⟩ => ⟨S16x4096x6x96, .f32⟩
  | .hbm, ⟨1, _⟩ => ⟨S16x4096x6x96, .f32⟩
  | .hbm, ⟨2, _⟩ => ⟨S16x4096x6x64, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S16x6x4096x4096, .f32⟩
  | .hbm, ⟨29, _⟩ => ⟨S_, .f32⟩
  | .hbm, ⟨30, _⟩ => ⟨S16x6x4096x4096, .f32⟩
  | .hbm, ⟨31, _⟩ => ⟨S16x6x4096x4096, .f32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S1x1x4096x4096, .i1⟩
  | .hbm, ⟨38, _⟩ => ⟨S_, .f32⟩
  | .hbm, ⟨39, _⟩ => ⟨S_, .f32⟩
  | .hbm, ⟨40, _⟩ => ⟨S16x6x4096x4096, .i1⟩
  | .hbm, ⟨41, _⟩ => ⟨S16x6x4096x4096, .f32⟩
  | .hbm, ⟨42, _⟩ => ⟨S16x6x4096x4096, .f32⟩
  | .hbm, ⟨43, _⟩ => ⟨S_, .f32⟩
  | .hbm, ⟨44, _⟩ => ⟨S16x6x4096, .f32⟩
  | .hbm, ⟨45, _⟩ => ⟨S_, .f32⟩
  | .hbm, ⟨46, _⟩ => ⟨S16x6x4096, .f32⟩
  | .hbm, ⟨47, _⟩ => ⟨S16x6x4096, .f32⟩
  | .hbm, ⟨48, _⟩ => ⟨S16x6x4096x1, .f32⟩
  | .hbm, ⟨49, _⟩ => ⟨S16x6x4096x4096, .f32⟩
  | .hbm, ⟨50, _⟩ => ⟨S16x6x4096x4096, .f32⟩
  | .hbm, ⟨51, _⟩ => ⟨S16x6x4096x4096, .f32⟩
  | .hbm, ⟨52, _⟩ => ⟨S_, .f32⟩
  | .hbm, ⟨53, _⟩ => ⟨S16x6x4096, .f32⟩
  | .hbm, ⟨54, _⟩ => ⟨S16x6x4096x1, .f32⟩
  | .hbm, ⟨55, _⟩ => ⟨S16x6x4096x4096, .f32⟩
  | .hbm, ⟨56, _⟩ => ⟨S16x6x4096x4096, .f32⟩
  | .hbm, ⟨57, _⟩ => ⟨S16x6x64x4096, .f32⟩
  | .hbm, ⟨58, _⟩ => ⟨S16x4096x6x64, .f32⟩
  | .hbm, ⟨59, _⟩ => ⟨S16x4096x384, .f32⟩
  | .hbm, ⟨60, _⟩ => ⟨S16x4096x384, .bf16⟩
  | _, _ => ⟨S16x4096x6x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_c_1 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v15 : Ref sig .tc := ⟨.hbm, 42, rfl⟩
abbrev main_cst_3 : Ref sig .tc := ⟨.hbm, 43, rfl⟩
abbrev main_v16 : Ref sig .tc := ⟨.hbm, 44, rfl⟩
abbrev main_cst_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_5 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x4096x384 : Shape := ⟨3, ![16, 4096, 384]⟩
abbrev S16x4096x256 : Shape := ⟨3, ![16, 4096, 256]⟩
abbrev S1024x1024 : Shape := ⟨2, ![1024, 1024]⟩
abbrev S4096x16x256 : Shape := ⟨3, ![4096, 16, 256]⟩
abbrev S4096x4096 : Shape := ⟨2, ![4096, 4096]⟩
abbrev S1x512x1024 : Shape := ⟨3, ![1, 512, 1024]⟩
abbrev S1x512x384 : Shape := ⟨3, ![1, 512, 384]⟩
abbrev S512x256 : Shape := ⟨2, ![512, 256]⟩
abbrev S512x1024 : Shape := ⟨2, ![512, 1024]⟩
abbrev S512x384 : Shape := ⟨2, ![512, 384]⟩
abbrev S384x1024 : Shape := ⟨2, ![384, 1024]⟩
abbrev S256x1024 : Shape := ⟨2, ![256, 1024]⟩

abbrev nBuf : Space → Nat
  | .hbm => 17
  | .vmem => 13
  | .smem => 0
  | _ => 0

abbrev bufTy : (tb : Table) → Fin (tcTables nBuf tb) → BufTy
  | .hbm, ⟨0, _⟩ => ⟨S16x4096x1024, .f32⟩
  | .hbm, ⟨1, _⟩ => ⟨S16x4096x384, .f32⟩
  | .hbm, ⟨2, _⟩ => ⟨S16x4096x256, .f32⟩
  | .hbm, ⟨3, _⟩ => ⟨S16x4096x384, .f32⟩
  | .hbm, ⟨4, _⟩ => ⟨S16x4096x384, .f32⟩
  | .hbm, ⟨5, _⟩ => ⟨S16x4096x256, .f32⟩
  | .hbm, ⟨6, _⟩ => ⟨S16x4096x384, .f32⟩
  | .hbm, ⟨7, _⟩ => ⟨S1024x1024, .f32⟩
  | .hbm, ⟨8, _⟩ => ⟨S16x4096x1024, .f32⟩
  | .hbm, ⟨9, _⟩ => ⟨S16x4096x1024, .bf16⟩
  | .hbm, ⟨10, _⟩ => ⟨S4096x16x256, .f32⟩
  | .hbm, ⟨11, _⟩ => ⟨S4096x4096, .f32⟩
  | .hbm, ⟨12, _⟩ => ⟨S4096x4096, .bf16⟩
  | .hbm, ⟨13, _⟩ => ⟨S16x4096x384, .bf16⟩
  | .hbm, ⟨14, _⟩ => ⟨S16x4096x384, .bf16⟩
  | .hbm, ⟨15, _⟩ => ⟨S1024x1024, .bf16⟩
  | .hbm, ⟨16, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x384, .bf16⟩
  | .local _ .vmem, ⟨5, _⟩ => ⟨S1x512x384, .bf16⟩
  | .local _ .vmem, ⟨6, _⟩ => ⟨S512x256, .bf16⟩
  | .local _ .vmem, ⟨7, _⟩ => ⟨S512x256, .bf16⟩
  | .local _ .vmem, ⟨8, _⟩ => ⟨S1x512x384, .bf16⟩
  | .local _ .vmem, ⟨9, _⟩ => ⟨S1x512x384, .bf16⟩
  | .local _ .vmem, ⟨10, _⟩ => ⟨S1024x1024, .bf16⟩
  | .local _ .vmem, ⟨11, _⟩ => ⟨S1x512x1024, .f32⟩
  | .local _ .vmem, ⟨12, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3.lean ====
abbrev S16x4096x1024 : Shape := ⟨3, ![16, 4096, 1024]⟩
abbrev S16x4096x384 : Shape := ⟨3, ![16, 4096, 384]⟩
abbrev S16x4096x256 : Shape := ⟨3, ![16, 4096, 256]⟩
abbrev S1024x1024 : Shape := ⟨2, ![1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x384, .f32⟩
  | .hbm, ⟨2, _⟩ => ⟨S16x4096x256, .f32⟩
  | .hbm, ⟨3, _⟩ => ⟨S16x4096x384, .f32⟩
  | .hbm, ⟨4, _⟩ => ⟨S16x4096x384, .f32⟩
  | .hbm, ⟨5, _⟩ => ⟨S16x4096x256, .f32⟩
  | .hbm, ⟨6, _⟩ => ⟨S16x4096x384, .f32⟩
  | .hbm, ⟨7, _⟩ => ⟨S1024x1024, .f32⟩
  | .hbm, ⟨8, _⟩ => ⟨S16x4096x384, .f32⟩
  | .hbm, ⟨9, _⟩ => ⟨S16x4096x384, .f32⟩
  | .hbm, ⟨10, _⟩ => ⟨S_, .f32⟩
  | .hbm, ⟨11, _⟩ => ⟨S16x4096x384, .f32⟩
  | .hbm, ⟨12, _⟩ => ⟨S16x4096x384, .f32⟩
  | .hbm, ⟨13, _⟩ => ⟨S_, .f32⟩
  | .hbm, ⟨14, _⟩ => ⟨S16x4096x384, .f32⟩
  | .hbm, ⟨15, _⟩ => ⟨S16x4096x384, .f32⟩
  | .hbm, ⟨16, _⟩ => ⟨S16x4096x384, .f32⟩
  | .hbm, ⟨17, _⟩ => ⟨S16x4096x384, .f32⟩
  | .hbm, ⟨18, _⟩ => ⟨S16x4096x256, .f32⟩
  | .hbm, ⟨19, _⟩ => ⟨S16x4096x256, .f32⟩
  | .hbm, ⟨20, _⟩ => ⟨S_, .f32⟩
  | .hbm, ⟨21, _⟩ => ⟨S16x4096x256, .f32⟩
  | .hbm, ⟨22, _⟩ => ⟨S16x4096x256, .f32⟩
  | .hbm, ⟨23, _⟩ => ⟨S_, .f32⟩
  | .hbm, ⟨24, _⟩ => ⟨S16x4096x256, .f32⟩
  | .hbm, ⟨25, _⟩ => ⟨S16x4096x256, .f32⟩
  | .hbm, ⟨26, _⟩ => ⟨S16x4096x256, .f32⟩
  | .hbm, ⟨27, _⟩ => ⟨S16x4096x256, .f32⟩
  | .hbm, ⟨28, _⟩ => ⟨S16x4096x384, .f32⟩
  | .hbm, ⟨29, _⟩ => ⟨S16x4096x384, .f32⟩
  | .hbm, ⟨30, _⟩ => ⟨S_, .f32⟩
  | .hbm, ⟨31, _⟩ => ⟨S16x4096x384, .f32⟩
  | .hbm, ⟨32, _⟩ => ⟨S16x4096x384, .f32⟩
  | .hbm, ⟨33, _⟩ => ⟨S_, .f32⟩
  | .hbm, ⟨34, _⟩ => ⟨S16x4096x384, .f32⟩
  | .hbm, ⟨35, _⟩ => ⟨S16x4096x384, .f32⟩
  | .hbm, ⟨36, _⟩ => ⟨S16x4096x384, .f32⟩
  | .hbm, ⟨37, _⟩ => ⟨S16x4096x384, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v2 : Ref sig .tc := ⟨.hbm, 26, rfl⟩
abbrev main_v3 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩

abbrev nD : Nat := 1
abbrev τ : Topo := Topo.v7x

variable {F : FTy → Type} [FloatOps F]
-- ==== Kernel4.lean ====
abbrev S16x4096x1024 : Shape := ⟨3, ![16, 4096, 1024]⟩
abbrev S1024 : Shape := ⟨1, ![1024]⟩
abbrev S1024x2504 : Shape := ⟨2, ![1024, 2504]⟩
abbrev S64 : Shape := ⟨1, ![64]⟩
abbrev S256 : Shape := ⟨1, ![256]⟩
abbrev S128 : Shape := ⟨1, ![128]⟩
abbrev S256x576 : Shape := ⟨2, ![256, 576]⟩
abbrev S128x768 : Shape := ⟨2, ![128, 768]⟩
abbrev S96 : Shape := ⟨1, ![96]⟩
abbrev S1024x384 : Shape := ⟨2, ![1024, 384]⟩
abbrev S1024x64 : Shape := ⟨2, ![1024, 64]⟩
abbrev S1024x256 : Shape := ⟨2, ![1024, 256]⟩
abbrev S1024x32 : Shape := ⟨2, ![1024, 32]⟩
abbrev S1024x8 : Shape := ⟨2, ![1024, 8]⟩
abbrev S1024x128 : Shape := ⟨2, ![1024, 128]⟩
abbrev S1024x1280 : Shape := ⟨2, ![1024, 1280]⟩
abbrev S_ : Shape := ⟨0, ![]⟩
abbrev S1024x1232 : Shape := ⟨2, ![1024, 1232]⟩
abbrev S1232x1024 : Shape := ⟨2, ![1232, 1024]⟩
abbrev S704 : Shape := ⟨1, ![704]⟩
abbrev S704x1 : Shape := ⟨2, ![704, 1]⟩
abbrev S576x256 : Shape := ⟨2, ![576, 256]⟩
abbrev S6x96x256 : Shape := ⟨3, ![6, 96, 256]⟩
abbrev S6x128x256 : Shape := ⟨3, ![6, 128, 256]⟩
abbrev S768x256 : Shape := ⟨2, ![768, 256]⟩
abbrev S768x128 : Shape := ⟨2, ![768, 128]⟩
abbrev S1x1024 : Shape := ⟨2, ![1, 1024]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S32x4096 : Shape := ⟨2, ![32, 4096]⟩
abbrev S16 : Shape := ⟨1, ![16]⟩
abbrev S1x16 : Shape := ⟨2, ![1, 16]⟩
abbrev S4096x16 : Shape := ⟨2, ![4096, 16]⟩
abbrev S16x4096 : Shape := ⟨2, ![16, 4096]⟩
abbrev S96x4096 : Shape := ⟨2, ![96, 4096]⟩
abbrev S4096x4096 : Shape := ⟨2, ![4096, 4096]⟩
abbrev S16x384x4096 : Shape := ⟨3, ![16, 384, 4096]⟩
abbrev S16x4096x64 : Shape := ⟨3, ![16, 4096, 64]⟩
abbrev S16x64x4096 : Shape := ⟨3, ![16, 64, 4096]⟩
abbrev S16x256x4096 : Shape := ⟨3, ![16, 256, 4096]⟩
abbrev S16x4096x32 : Shape := ⟨3, ![16, 4096, 32]⟩
abbrev S16x8x4096 : Shape := ⟨3, ![16, 8, 4096]⟩
abbrev S16x768x4096 : Shape := ⟨3, ![16, 768, 4096]⟩
abbrev S16x6x4096x128 : Shape := ⟨4, ![16, 6, 4096, 128]⟩
abbrev S1x512x1024 : Shape := ⟨3, ![1, 512, 1024]⟩
abbrev S96x512 : Shape := ⟨2, ![96, 512]⟩
abbrev S512x256 : Shape := ⟨2, ![512, 256]⟩
abbrev S1x384x512 : Shape := ⟨3, ![1, 384, 512]⟩
abbrev S1x512x64 : Shape := ⟨3, ![1, 512, 64]⟩
abbrev S1x64x512 : Shape := ⟨3, ![1, 64, 512]⟩
abbrev S1x256x512 : Shape := ⟨3, ![1, 256, 512]⟩
abbrev S1x512x32 : Shape := ⟨3, ![1, 512, 32]⟩
abbrev S1x8x512 : Shape := ⟨3, ![1, 8, 512]⟩
abbrev S1x768x512 : Shape := ⟨3, ![1, 768, 512]⟩
abbrev S1x6x512x128 : Shape := ⟨4, ![1, 6, 512, 128]⟩
abbrev S512x1024 : Shape := ⟨2, ![512, 1024]⟩
abbrev S512 : Shape := ⟨1, ![512]⟩
abbrev S512x1 : Shape := ⟨2, ![512, 1]⟩
abbrev S512x1280 : Shape := ⟨2, ![512, 1280]⟩
abbrev S32x512 : Shape := ⟨2, ![32, 512]⟩
abbrev S16x512 : Shape := ⟨2, ![16, 512]⟩
abbrev S512x512 : Shape := ⟨2, ![512, 512]⟩
abbrev S64x1 : Shape := ⟨2, ![64, 1]⟩
abbrev S64x512 : Shape := ⟨2, ![64, 512]⟩
abbrev S1x512 : Shape := ⟨2, ![1, 512]⟩
abbrev S128x512 : Shape := ⟨2, ![128, 512]⟩
abbrev S512x128 : Shape := ⟨2, ![512, 128]⟩
abbrev S512x64 : Shape := ⟨2, ![512, 64]⟩
abbrev S288x1024 : Shape := ⟨2, ![288, 1024]⟩
abbrev S288x512 : Shape := ⟨2, ![288, 512]⟩
abbrev S1x32x512 : Shape := ⟨3, ![1, 32, 512]⟩
abbrev S512x32 : Shape := ⟨2, ![512, 32]⟩
abbrev S432x1024 : Shape := ⟨2, ![432, 1024]⟩
abbrev S432x512 : Shape := ⟨2, ![432, 512]⟩
abbrev S8x512 : Shape := ⟨2, ![8, 512]⟩
abbrev S256x512 : Shape := ⟨2, ![256, 512]⟩
abbrev S256x1 : Shape := ⟨2, ![256, 1]⟩
abbrev S768x512 : Shape := ⟨2, ![768, 512]⟩
abbrev S96x1 : Shape := ⟨2, ![96, 1]⟩
abbrev S1x128x512 : Shape := ⟨3, ![1, 128, 512]⟩
abbrev S128x1 : Shape := ⟨2, ![128, 1]⟩
abbrev S32x1 : Shape := ⟨2, ![32, 1]⟩
abbrev S1x1x512x128 : Shape := ⟨4, ![1, 1, 512, 128]⟩

abbrev nBuf : Space → Nat
  | .hbm => 97
  | .vmem => 32
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2504, .f32⟩
  | .hbm, ⟨3, _⟩ => ⟨S64, .f32⟩
  | .hbm, ⟨4, _⟩ => ⟨S64, .f32⟩
  | .hbm, ⟨5, _⟩ => ⟨S256, .f32⟩
  | .hbm, ⟨6, _⟩ => ⟨S128, .f32⟩
  | .hbm, ⟨7, _⟩ => ⟨S256x576, .f32⟩
  | .hbm, ⟨8, _⟩ => ⟨S128x768, .f32⟩
  | .hbm, ⟨9, _⟩ => ⟨S96, .f32⟩
  | .hbm, ⟨10, _⟩ => ⟨S96, .f32⟩
  | .hbm, ⟨11, _⟩ => ⟨S1024x384, .f32⟩
  | .hbm, ⟨12, _⟩ => ⟨S1024x64, .f32⟩
  | .hbm, ⟨13, _⟩ => ⟨S1024x64, .f32⟩
  | .hbm, ⟨14, _⟩ => ⟨S1024x256, .f32⟩
  | .hbm, ⟨15, _⟩ => ⟨S1024x32, .f32⟩
  | .hbm, ⟨16, _⟩ => ⟨S1024x8, .f32⟩
  | .hbm, ⟨17, _⟩ => ⟨S1024x384, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S1024x128, .f32⟩
  | .hbm, ⟨22, _⟩ => ⟨S1024x32, .f32⟩
  | .hbm, ⟨23, _⟩ => ⟨S1024x384, .f32⟩
  | .hbm, ⟨24, _⟩ => ⟨S1024x1280, .f32⟩
  | .hbm, ⟨25, _⟩ => ⟨S1024x1280, .bf16⟩
  | .hbm, ⟨26, _⟩ => ⟨S_, .f32⟩
  | .hbm, ⟨27, _⟩ => ⟨S1024x8, .f32⟩
  | .hbm, ⟨28, _⟩ => ⟨S1024x1232, .f32⟩
  | .hbm, ⟨29, _⟩ => ⟨S1232x1024, .f32⟩
  | .hbm, ⟨30, _⟩ => ⟨S1232x1024, .bf16⟩
  | .hbm, ⟨31, _⟩ => ⟨S704, .f32⟩
  | .hbm, ⟨32, _⟩ => ⟨S704x1, .f32⟩
  | .hbm, ⟨33, _⟩ => ⟨S576x256, .f32⟩
  | .hbm, ⟨34, _⟩ => ⟨S6x96x256, .f32⟩
  | .hbm, ⟨35, _⟩ => ⟨S_, .i32⟩
  | .hbm, ⟨36, _⟩ => ⟨S_, .f32⟩
  | .hbm, ⟨37, _⟩ => ⟨S6x128x256, .f32⟩
  | .hbm, ⟨38, _⟩ => ⟨S768x256, .f32⟩
  | .hbm, ⟨39, _⟩ => ⟨S768x256, .bf16⟩
  | .hbm, ⟨40, _⟩ => ⟨S768x128, .f32⟩
  | .hbm, ⟨41, _⟩ => ⟨S768x128, .bf16⟩
  | .hbm, ⟨42, _⟩ => ⟨S1x1024, .f32⟩
  | .hbm, ⟨43, _⟩ => ⟨S4096, .i32⟩
  | .hbm, ⟨44, _⟩ => ⟨S4096, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S4096x1, .f32⟩
  | .hbm, ⟨57, _⟩ => ⟨S1x32, .f32⟩
  | .hbm, ⟨58, _⟩ => ⟨S4096x32, .f32⟩
  | .hbm, ⟨59, _⟩ => ⟨S4096x32, .f32⟩
  | .hbm, ⟨60, _⟩ => ⟨S4096x32, .f32⟩
  | .hbm, ⟨61, _⟩ => ⟨S4096x32, .f32⟩
  | .hbm, ⟨62, _⟩ => ⟨S32x4096, .f32⟩
  | .hbm, ⟨63, _⟩ => ⟨S4096x32, .f32⟩
  | .hbm, ⟨64, _⟩ => ⟨S32x4096, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S4096x1, .f32⟩
  | .hbm, ⟨77, _⟩ => ⟨S1x16, .f32⟩
  | .hbm, ⟨78, _⟩ => ⟨S4096x16, .f32⟩
  | .hbm, ⟨79, _⟩ => ⟨S4096x16, .f32⟩
  | .hbm, ⟨80, _⟩ => ⟨S4096x16, .f32⟩
  | .hbm, ⟨81, _⟩ => ⟨S4096x16, .f32⟩
  | .hbm, ⟨82, _⟩ => ⟨S16x4096, .f32⟩
  | .hbm, ⟨83, _⟩ => ⟨S4096x16, .f32⟩
  | .hbm, ⟨84, _⟩ => ⟨S16x4096, .f32⟩
  | .hbm, ⟨85, _⟩ => ⟨S96x4096, .f32⟩
  | .hbm, ⟨86, _⟩ => ⟨S16x4096x1024, .bf16⟩
  | .hbm, ⟨87, _⟩ => ⟨S4096x4096, .f32⟩
  | .hbm, ⟨88, _⟩ => ⟨S16x384x4096, .bf16⟩
  | .hbm, ⟨89, _⟩ => ⟨S16x4096x64, .bf16⟩
  | .hbm, ⟨90, _⟩ => ⟨S16x64x4096, .bf16⟩
  | .hbm, ⟨91, _⟩ => ⟨S16x256x4096, .bf16⟩
  | .hbm, ⟨92, _⟩ => ⟨S16x4096x32, .bf16⟩
  | .hbm, ⟨93, _⟩ => ⟨S16x8x4096, .f32⟩
  | .hbm, ⟨94, _⟩ => ⟨S16x768x4096, .bf16⟩
  | .hbm, ⟨95, _⟩ => ⟨S16x6x4096x128, .bf16⟩
  | .hbm, ⟨96, _⟩ => ⟨S16x384x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1280, .bf16⟩
  | .local _ .vmem, ⟨4, _⟩ => ⟨S1232x1024, .bf16⟩
  | .local _ .vmem, ⟨5, _⟩ => ⟨S704x1, .f32⟩
  | .local _ .vmem, ⟨6, _⟩ => ⟨S96x512, .f32⟩
  | .local _ .vmem, ⟨7, _⟩ => ⟨S96x512, .f32⟩
  | .local _ .vmem, ⟨8, _⟩ => ⟨S768x256, .bf16⟩
  | .local _ .vmem, ⟨9, _⟩ => ⟨S768x128, .bf16⟩
  | .local _ .vmem, ⟨10, _⟩ => ⟨S1x512x1024, .bf16⟩
  | .local _ .vmem, ⟨11, _⟩ => ⟨S1x512x1024, .bf16⟩
  | .local _ .vmem, ⟨12, _⟩ => ⟨S512x256, .f32⟩
  | .local _ .vmem, ⟨13, _⟩ => ⟨S512x256, .f32⟩
  | .local _ .vmem, ⟨14, _⟩ => ⟨S1x384x512, .bf16⟩
  | .local _ .vmem, ⟨15, _⟩ => ⟨S1x384x512, .bf16⟩
  | .local _ .vmem, ⟨16, _⟩ => ⟨S1x512x64, .bf16⟩
  | .local _ .vmem, ⟨17, _⟩ => ⟨S1x512x64, .bf16⟩
  | .local _ .vmem, ⟨18, _⟩ => ⟨S1x64x512, .bf16⟩
  | .local _ .vmem, ⟨19, _⟩ => ⟨S1x64x512, .bf16⟩
  | .local _ .vmem, ⟨20, _⟩ => ⟨S1x256x512, .bf16⟩
  | .local _ .vmem, ⟨21, _⟩ => ⟨S1x256x512, .bf16⟩
  | .local _ .vmem, ⟨22, _⟩ => ⟨S1x512x32, .bf16⟩
  | .local _ .vmem, ⟨23, _⟩ => ⟨S1x512x32, .bf16⟩
  | .local _ .vmem, ⟨24, _⟩ => ⟨S1x8x512, .f32⟩
  | .local _ .vmem, ⟨25, _⟩ => ⟨S1x8x512, .f32⟩
  | .local _ .vmem, ⟨26, _⟩ => ⟨S1x768x512, .bf16⟩
  | .local _ .vmem, ⟨27, _⟩ => ⟨S1x768x512, .bf16⟩
  | .local _ .vmem, ⟨28, _⟩ => ⟨S1x6x512x128, .bf16⟩
  | .local _ .vmem, ⟨29, _⟩ => ⟨S1x6x512x128, .bf16⟩
  | .local _ .vmem, ⟨30, _⟩ => ⟨S1x384x512, .bf16⟩
  | .local _ .vmem, ⟨31, _⟩ => ⟨S1x384x512, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_0 : Ref sig .tc := ⟨.hbm, 47, rfl⟩
abbrev main_v33 : Ref sig .tc := ⟨.hbm, 48, rfl⟩
abbrev main_v34 : Ref sig .tc := ⟨.hbm, 49, rfl⟩
abbrev main_cst_1 : Ref sig .tc := ⟨.hbm, 50, rfl⟩
abbrev main_v35 : Ref sig .tc := ⟨.hbm, 51, rfl⟩
abbrev main_v36 : Ref sig .tc := ⟨.hbm, 52, rfl⟩
abbrev main_cst_2 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_3 : Ref sig .tc := ⟨.hbm, 67, rfl⟩
abbrev main_v50 : Ref sig .tc := ⟨.hbm, 68, rfl⟩
abbrev main_v51 : Ref sig .tc := ⟨.hbm, 69, rfl⟩
abbrev main_cst_4 : Ref sig .tc := ⟨.hbm, 70, rfl⟩
abbrev main_v52 : Ref sig .tc := ⟨.hbm, 71, rfl⟩
abbrev main_v53 : Ref sig .tc := ⟨.hbm, 72, rfl⟩
abbrev main_cst_5 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66_0 : Ref sig .tc := ⟨.hbm, 86, rfl⟩
abbrev main_v66_1 : Ref sig .tc := ⟨.hbm, 87, rfl⟩
abbrev main_v66_2 : Ref sig .tc := ⟨.hbm, 88, rfl⟩
abbrev main_v66_3 : Ref sig .tc := ⟨.hbm, 89, rfl⟩
abbrev main_v66_4 : Ref sig .tc := ⟨.hbm, 90, rfl⟩
abbrev main_v66_5 : Ref sig .tc := ⟨.hbm, 91, rfl⟩
abbrev main_v66_6 : Ref sig .tc := ⟨.hbm, 92, rfl⟩
abbrev main_v66_7 : Ref sig .tc := ⟨.hbm, 93, rfl⟩
abbrev main_v66_8 : Ref sig .tc := ⟨.hbm, 94, rfl⟩
abbrev main_v66_9 : Ref sig .tc := ⟨.hbm, 95, rfl⟩
abbrev main_v66_10 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1232x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S704x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S96x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S768x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x384x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x32 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x768x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x6x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x384x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Kernel4Ideal.lean ====
variable {F : FTy → Type} [FloatOps F] [Named F]
def κ : String → Option EReal := fun
  | "inv_qk" => some ((1 / 96 : ℝ) : EReal)
  | "scale_a" => some ((((Real.sqrt 64) * (Real.log 2))⁻¹ : ℝ) : EReal)
  | "scale_c" => some ((((Real.sqrt 96) * (Real.log 2))⁻¹ : ℝ) : EReal)
  | _ => none
-- ==== Reference4.lean ====
abbrev S16x4096x1024 : Shape := ⟨3, ![16, 4096, 1024]⟩
abbrev S1024 : Shape := ⟨1, ![1024]⟩
abbrev S1024x2504 : Shape := ⟨2, ![1024, 2504]⟩
abbrev S64 : Shape := ⟨1, ![64]⟩
abbrev S256 : Shape := ⟨1, ![256]⟩
abbrev S128 : Shape := ⟨1, ![128]⟩
abbrev S256x576 : Shape := ⟨2, ![256, 576]⟩
abbrev S128x768 : Shape := ⟨2, ![128, 768]⟩
abbrev S96 : Shape := ⟨1, ![96]⟩
abbrev S4096 : Shape := ⟨1, ![4096]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2504 : Shape := ⟨3, ![16, 4096, 2504]⟩
abbrev S16x4096x384 : Shape := ⟨3, ![16, 4096, 384]⟩
abbrev S16x4096x64 : Shape := ⟨3, ![16, 4096, 64]⟩
abbrev S16x4096x256 : Shape := ⟨3, ![16, 4096, 256]⟩
abbrev S16x4096x32 : Shape := ⟨3, ![16, 4096, 32]⟩
abbrev S16x4096x8 : Shape := ⟨3, ![16, 4096, 8]⟩
abbrev S16x4096x128 : Shape := ⟨3, ![16, 4096, 128]⟩
abbrev S16x4096x6x64 : Shape := ⟨4, ![16, 4096, 6, 64]⟩
abbrev S16x4096x6 : Shape := ⟨3, ![16, 4096, 6]⟩
abbrev S16x4096x6x1 : Shape := ⟨4, ![16, 4096, 6, 1]⟩
abbrev S1x1x1x64 : Shape := ⟨4, ![1, 1, 1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S16x4096x6x32 : Shape := ⟨4, ![16, 4096, 6, 32]⟩
abbrev S1x4096x1x32 : Shape := ⟨4, ![1, 4096, 1, 32]⟩
abbrev S16x4096x1x64 : Shape := ⟨4, ![16, 4096, 1, 64]⟩
abbrev S16x4096x1x1 : Shape := ⟨4, ![16, 4096, 1, 1]⟩
abbrev S16x4096x1x32 : Shape := ⟨4, ![16, 4096, 1, 32]⟩
abbrev S16x4096x8x32 : Shape := ⟨4, ![16, 4096, 8, 32]⟩
abbrev S16 : Shape := ⟨1, ![16]⟩
abbrev S1x16 : Shape := ⟨2, ![1, 16]⟩
abbrev S4096x16 : Shape := ⟨2, ![4096, 16]⟩
abbrev S4096x1x16 : Shape := ⟨3, ![4096, 1, 16]⟩
abbrev S16x4096x8x16 : Shape := ⟨4, ![16, 4096, 8, 16]⟩
abbrev S1x4096x1x16 : Shape := ⟨4, ![1, 4096, 1, 16]⟩
abbrev S16x4096x1x16 : Shape := ⟨4, ![16, 4096, 1, 16]⟩
abbrev S1x1x256 : Shape := ⟨3, ![1, 1, 256]⟩
abbrev S16x4096x576 : Shape := ⟨3, ![16, 4096, 576]⟩
abbrev S16x4096x6x96 : Shape := ⟨4, ![16, 4096, 6, 96]⟩
abbrev S1x1x128 : Shape := ⟨3, ![1, 1, 128]⟩
abbrev S16x4096x768 : Shape := ⟨3, ![16, 4096, 768]⟩
abbrev S16x4096x6x128 : Shape := ⟨4, ![16, 4096, 6, 128]⟩
abbrev S1x1x1x96 : Shape := ⟨4, ![1, 1, 1, 96]⟩
abbrev S16x4096x6x16 : Shape := ⟨4, ![16, 4096, 6, 16]⟩
abbrev S4096x16x256 : Shape := ⟨3, ![4096, 16, 256]⟩
abbrev S4096x4096 : Shape := ⟨2, ![4096, 4096]⟩
abbrev S16x384x4096 : Shape := ⟨3, ![16, 384, 4096]⟩
abbrev S16x64x4096 : Shape := ⟨3, ![16, 64, 4096]⟩
abbrev S16x256x4096 : Shape := ⟨3, ![16, 256, 4096]⟩
abbrev S16x8x4096 : Shape := ⟨3, ![16, 8, 4096]⟩
abbrev S16x768x4096 : Shape := ⟨3, ![16, 768, 4096]⟩
abbrev S16x6x4096x128 : Shape := ⟨4, ![16, 6, 4096, 128]⟩

abbrev nBuf : Space → Nat
  | .hbm => 433
  | .vmem => 0
  | .smem => 0
  | _ => 0

abbrev hbmTy0_0 (i : Nat) : BufTy := match i % 128 with
  | 0 => ⟨S16x4096x1024, .f32⟩
  | 1 => ⟨S1024, .f32⟩
  | 2 => ⟨S1024x2504, .f32⟩
  | 3 => ⟨S64, .f32⟩
  | 4 => ⟨S64, .f32⟩
  | 5 => ⟨S256, .f32⟩
  | 6 => ⟨S128, .f32⟩
  | 7 => ⟨S256x576, .f32⟩
  | 8 => ⟨S128x768, .f32⟩
  | 9 => ⟨S96, .f32⟩
  | 10 => ⟨S96, .f32⟩
  | 11 => ⟨S4096, .i32⟩
  | 12 => ⟨S16x4096x1024, .f32⟩
  | 13 => ⟨S_, .f32⟩
  | 14 => ⟨S16x4096, .f32⟩
  | 15 => ⟨S16x4096x1, .f32⟩
  | 16 => ⟨S_, .f32⟩
  | 17 => ⟨S16x4096x1, .f32⟩
  | 18 => ⟨S16x4096x1, .f32⟩
  | 19 => ⟨S_, .f32⟩
  | 20 => ⟨S16x4096x1, .f32⟩
  | 21 => ⟨S16x4096x1, .f32⟩
  | 22 => ⟨S16x4096x1, .f32⟩
  | 23 => ⟨S16x4096x1024, .f32⟩
  | 24 => ⟨S16x4096x1024, .f32⟩
  | 25 => ⟨S1x1x1024, .f32⟩
  | 26 => ⟨S16x4096x1024, .f32⟩
  | 27 => ⟨S16x4096x1024, .f32⟩
  | 28 => ⟨S16x4096x2504, .f32⟩
  | 29 => ⟨S16x4096x384, .f32⟩
  | 30 => ⟨S16x4096x64, .f32⟩
  | 31 => ⟨S16x4096x64, .f32⟩
  | 32 => ⟨S16x4096x256, .f32⟩
  | 33 => ⟨S16x4096x32, .f32⟩
  | 34 => ⟨S16x4096x8, .f32⟩
  | 35 => ⟨S16x4096x384, .f32⟩
  | 36 => ⟨S16x4096x256, .f32⟩
  | 37 => ⟨S16x4096x256, .f32⟩
  | 38 => ⟨S16x4096x256, .f32⟩
  | 39 => ⟨S16x4096x128, .f32⟩
  | 40 => ⟨S16x4096x32, .f32⟩
  | 41 => ⟨S16x4096x384, .f32⟩
  | 42 => ⟨S16x4096x6x64, .f32⟩
  | 43 => ⟨S16x4096x6x64, .f32⟩
  | 44 => ⟨S_, .f32⟩
  | 45 => ⟨S16x4096x6, .f32⟩
  | 46 => ⟨S16x4096x6x1, .f32⟩
  | 47 => ⟨S_, .f32⟩
  | 48 => ⟨S16x4096x6x1, .f32⟩
  | 49 => ⟨S16x4096x6x1, .f32⟩
  | 50 => ⟨S_, .f32⟩
  | 51 => ⟨S16x4096x6x1, .f32⟩
  | 52 => ⟨S16x4096x6x1, .f32⟩
  | 53 => ⟨S16x4096x6x1, .f32⟩
  | 54 => ⟨S16x4096x6x64, .f32⟩
  | 55 => ⟨S16x4096x6x64, .f32⟩
  | 56 => ⟨S1x1x1x64, .f32⟩
  | 57 => ⟨S16x4096x6x64, .f32⟩
  | 58 => ⟨S16x4096x6x64, .f32⟩
  | 59 => ⟨S32, .f32⟩
  | 60 => ⟨S32, .f32⟩
  | 61 => ⟨S_, .f32⟩
  | 62 => ⟨S32, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S32, .f32⟩
  | 70 => ⟨S4096, .f32⟩
  | 71 => ⟨S4096x1, .f32⟩
  | 72 => ⟨S1x32, .f32⟩
  | 73 => ⟨S4096x32, .f32⟩
  | 74 => ⟨S4096x32, .f32⟩
  | 75 => ⟨S4096x32, .f32⟩
  | 76 => ⟨S4096x32, .f32⟩
  | 77 => ⟨S4096x1x32, .f32⟩
  | 78 => ⟨S4096x32, .f32⟩
  | 79 => ⟨S4096x1x32, .f32⟩
  | 80 => ⟨S16x4096x6x32, .f32⟩
  | 81 => ⟨S16x4096x6x32, .f32⟩
  | 82 => ⟨S1x4096x1x32, .f32⟩
  | 83 => ⟨S16x4096x6x32, .f32⟩
  | 84 => ⟨S16x4096x6x32, .f32⟩
  | 85 => ⟨S1x4096x1x32, .f32⟩
  | 86 => ⟨S16x4096x6x32, .f32⟩
  | 87 => ⟨S16x4096x6x32, .f32⟩
  | 88 => ⟨S16x4096x6x32, .f32⟩
  | 89 => ⟨S1x4096x1x32, .f32⟩
  | 90 => ⟨S16x4096x6x32, .f32⟩
  | 91 => ⟨S16x4096x6x32, .f32⟩
  | 92 => ⟨S1x4096x1x32, .f32⟩
  | 93 => ⟨S16x4096x6x32, .f32⟩
  | 94 => ⟨S16x4096x6x32, .f32⟩
  | 95 => ⟨S16x4096x6x32, .f32⟩
  | 96 => ⟨S16x4096x6x64, .f32⟩
  | 97 => ⟨S16x4096x1x64, .f32⟩
  | 98 => ⟨S16x4096x1x64, .f32⟩
  | 99 => ⟨S_, .f32⟩
  | 100 => ⟨S16x4096x1, .f32⟩
  | 101 => ⟨S16x4096x1x1, .f32⟩
  | 102 => ⟨S_, .f32⟩
  | 103 => ⟨S16x4096x1x1, .f32⟩
  | 104 => ⟨S16x4096x1x1, .f32⟩
  | 105 => ⟨S_, .f32⟩
  | 106 => ⟨S16x4096x1x1, .f32⟩
  | 107 => ⟨S16x4096x1x1, .f32⟩
  | 108 => ⟨S16x4096x1x1, .f32⟩
  | 109 => ⟨S16x4096x1x64, .f32⟩
  | 110 => ⟨S16x4096x1x64, .f32⟩
  | 111 => ⟨S1x1x1x64, .f32⟩
  | 112 => ⟨S16x4096x1x64, .f32⟩
  | 113 => ⟨S16x4096x1x64, .f32⟩
  | 114 => ⟨S32, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S4096, .f32⟩
  | 126 => ⟨S4096x1, .f32⟩
  | 127 => ⟨S1x32, .f32⟩
  | _ => ⟨S16x4096x1024, .f32⟩

abbrev hbmTy0_1 (i : Nat) : BufTy := match i % 128 with
  | 0 => ⟨S4096x32, .f32⟩
  | 1 => ⟨S4096x32, .f32⟩
  | 2 => ⟨S4096x32, .f32⟩
  | 3 => ⟨S4096x32, .f32⟩
  | 4 => ⟨S4096x1x32, .f32⟩
  | 5 => ⟨S4096x32, .f32⟩
  | 6 => ⟨S4096x1x32, .f32⟩
  | 7 => ⟨S16x4096x1x32, .f32⟩
  | 8 => ⟨S16x4096x1x32, .f32⟩
  | 9 => ⟨S1x4096x1x32, .f32⟩
  | 10 => ⟨S16x4096x1x32, .f32⟩
  | 11 => ⟨S16x4096x1x32, .f32⟩
  | 12 => ⟨S1x4096x1x32, .f32⟩
  | 13 => ⟨S16x4096x1x32, .f32⟩
  | 14 => ⟨S16x4096x1x32, .f32⟩
  | 15 => ⟨S16x4096x1x32, .f32⟩
  | 16 => ⟨S1x4096x1x32, .f32⟩
  | 17 => ⟨S16x4096x1x32, .f32⟩
  | 18 => ⟨S16x4096x1x32, .f32⟩
  | 19 => ⟨S1x4096x1x32, .f32⟩
  | 20 => ⟨S16x4096x1x32, .f32⟩
  | 21 => ⟨S16x4096x1x32, .f32⟩
  | 22 => ⟨S16x4096x1x32, .f32⟩
  | 23 => ⟨S16x4096x1x64, .f32⟩
  | 24 => ⟨S16x4096x64, .f32⟩
  | 25 => ⟨S16x4096x8x32, .f32⟩
  | 26 => ⟨S16, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S4096, .f32⟩
  | 38 => ⟨S4096x1, .f32⟩
  | 39 => ⟨S1x16, .f32⟩
  | 40 => ⟨S4096x16, .f32⟩
  | 41 => ⟨S4096x16, .f32⟩
  | 42 => ⟨S4096x16, .f32⟩
  | 43 => ⟨S4096x16, .f32⟩
  | 44 => ⟨S4096x1x16, .f32⟩
  | 45 => ⟨S4096x16, .f32⟩
  | 46 => ⟨S4096x1x16, .f32⟩
  | 47 => ⟨S16x4096x8x16, .f32⟩
  | 48 => ⟨S16x4096x8x16, .f32⟩
  | 49 => ⟨S1x4096x1x16, .f32⟩
  | 50 => ⟨S16x4096x8x16, .f32⟩
  | 51 => ⟨S16x4096x8x16, .f32⟩
  | 52 => ⟨S1x4096x1x16, .f32⟩
  | 53 => ⟨S16x4096x8x16, .f32⟩
  | 54 => ⟨S16x4096x8x16, .f32⟩
  | 55 => ⟨S16x4096x8x16, .f32⟩
  | 56 => ⟨S1x4096x1x16, .f32⟩
  | 57 => ⟨S16x4096x8x16, .f32⟩
  | 58 => ⟨S16x4096x8x16, .f32⟩
  | 59 => ⟨S1x4096x1x16, .f32⟩
  | 60 => ⟨S16x4096x8x16, .f32⟩
  | 61 => ⟨S16x4096x8x16, .f32⟩
  | 62 => ⟨S16x4096x8x16, .f32⟩
  | 63 => ⟨S16x4096x8x32, .f32⟩
  | 64 => ⟨S16x4096x1x32, .f32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S4096, .f32⟩
  | 77 => ⟨S4096x1, .f32⟩
  | 78 => ⟨S1x16, .f32⟩
  | 79 => ⟨S4096x16, .f32⟩
  | 80 => ⟨S4096x16, .f32⟩
  | 81 => ⟨S4096x16, .f32⟩
  | 82 => ⟨S4096x16, .f32⟩
  | 83 => ⟨S4096x1x16, .f32⟩
  | 84 => ⟨S4096x16, .f32⟩
  | 85 => ⟨S4096x1x16, .f32⟩
  | 86 => ⟨S16x4096x1x16, .f32⟩
  | 87 => ⟨S16x4096x1x16, .f32⟩
  | 88 => ⟨S1x4096x1x16, .f32⟩
  | 89 => ⟨S16x4096x1x16, .f32⟩
  | 90 => ⟨S16x4096x1x16, .f32⟩
  | 91 => ⟨S1x4096x1x16, .f32⟩
  | 92 => ⟨S16x4096x1x16, .f32⟩
  | 93 => ⟨S16x4096x1x16, .f32⟩
  | 94 => ⟨S16x4096x1x16, .f32⟩
  | 95 => ⟨S1x4096x1x16, .f32⟩
  | 96 => ⟨S16x4096x1x16, .f32⟩
  | 97 => ⟨S16x4096x1x16, .f32⟩
  | 98 => ⟨S1x4096x1x16, .f32⟩
  | 99 => ⟨S16x4096x1x16, .f32⟩
  | 100 => ⟨S16x4096x1x16, .f32⟩
  | 101 => ⟨S16x4096x1x16, .f32⟩
  | 102 => ⟨S16x4096x1x32, .f32⟩
  | 103 => ⟨S16x4096x32, .f32⟩
  | 104 => ⟨S_, .f32⟩
  | 105 => ⟨S16x4096x8, .f32⟩
  | 106 => ⟨S16x4096x8, .f32⟩
  | 107 => ⟨S16x4096x256, .f32⟩
  | 108 => ⟨S_, .f32⟩
  | 109 => ⟨S16x4096, .f32⟩
  | 110 => ⟨S16x4096x1, .f32⟩
  | 111 => ⟨S_, .f32⟩
  | 112 => ⟨S16x4096x1, .f32⟩
  | 113 => ⟨S16x4096x1, .f32⟩
  | 114 => ⟨S_, .f32⟩
  | 115 => ⟨S16x4096x1, .f32⟩
  | 116 => ⟨S16x4096x1, .f32⟩
  | 117 => ⟨S16x4096x1, .f32⟩
  | 118 => ⟨S16x4096x256, .f32⟩
  | 119 => ⟨S16x4096x256, .f32⟩
  | 120 => ⟨S1x1x256, .f32⟩
  | 121 => ⟨S16x4096x256, .f32⟩
  | 122 => ⟨S16x4096x256, .f32⟩
  | 123 => ⟨S16x4096x576, .f32⟩
  | 124 => ⟨S16x4096x6x96, .f32⟩
  | 125 => ⟨S16x4096x128, .f32⟩
  | 126 => ⟨S_, .f32⟩
  | 127 => ⟨S16x4096, .f32⟩
  | _ => ⟨S16x4096x1024, .f32⟩

abbrev hbmTy0_2 (i : Nat) : BufTy := match i % 128 with
  | 0 => ⟨S16x4096x1, .f32⟩
  | 1 => ⟨S_, .f32⟩
  | 2 => ⟨S16x4096x1, .f32⟩
  | 3 => ⟨S16x4096x1, .f32⟩
  | 4 => ⟨S_, .f32⟩
  | 5 => ⟨S16x4096x1, .f32⟩
  | 6 => ⟨S16x4096x1, .f32⟩
  | 7 => ⟨S16x4096x1, .f32⟩
  | 8 => ⟨S16x4096x128, .f32⟩
  | 9 => ⟨S16x4096x128, .f32⟩
  | 10 => ⟨S1x1x128, .f32⟩
  | 11 => ⟨S16x4096x128, .f32⟩
  | 12 => ⟨S16x4096x128, .f32⟩
  | 13 => ⟨S16x4096x768, .f32⟩
  | 14 => ⟨S16x4096x6x128, .f32⟩
  | 15 => ⟨S16x4096x6x64, .f32⟩
  | 16 => ⟨S16x4096x6x64, .f32⟩
  | 17 => ⟨S16x4096x1x32, .f32⟩
  | 18 => ⟨S16x4096x6x32, .f32⟩
  | 19 => ⟨S16x4096x6x96, .f32⟩
  | 20 => ⟨S16x4096x6x96, .f32⟩
  | 21 => ⟨S_, .f32⟩
  | 22 => ⟨S16x4096x6, .f32⟩
  | 23 => ⟨S16x4096x6x1, .f32⟩
  | 24 => ⟨S_, .f32⟩
  | 25 => ⟨S16x4096x6x1, .f32⟩
  | 26 => ⟨S16x4096x6x1, .f32⟩
  | 27 => ⟨S_, .f32⟩
  | 28 => ⟨S16x4096x6x1, .f32⟩
  | 29 => ⟨S16x4096x6x1, .f32⟩
  | 30 => ⟨S16x4096x6x1, .f32⟩
  | 31 => ⟨S16x4096x6x96, .f32⟩
  | 32 => ⟨S16x4096x6x96, .f32⟩
  | 33 => ⟨S1x1x1x96, .f32⟩
  | 34 => ⟨S16x4096x6x96, .f32⟩
  | 35 => ⟨S16x4096x6x96, .f32⟩
  | 36 => ⟨S16x4096x6x96, .f32⟩
  | 37 => ⟨S_, .f32⟩
  | 38 => ⟨S16x4096x6, .f32⟩
  | 39 => ⟨S16x4096x6x1, .f32⟩
  | 40 => ⟨S_, .f32⟩
  | 41 => ⟨S16x4096x6x1, .f32⟩
  | 42 => ⟨S16x4096x6x1, .f32⟩
  | 43 => ⟨S_, .f32⟩
  | 44 => ⟨S16x4096x6x1, .f32⟩
  | 45 => ⟨S16x4096x6x1, .f32⟩
  | 46 => ⟨S16x4096x6x1, .f32⟩
  | 47 => ⟨S16x4096x6x96, .f32⟩
  | 48 => ⟨S16x4096x6x96, .f32⟩
  | 49 => ⟨S1x1x1x96, .f32⟩
  | 50 => ⟨S16x4096x6x96, .f32⟩
  | 51 => ⟨S16x4096x6x96, .f32⟩
  | 52 => ⟨S16x4096x6x64, .f32⟩
  | 53 => ⟨S16x4096x6x32, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S4096, .f32⟩
  | 66 => ⟨S4096x1, .f32⟩
  | 67 => ⟨S1x16, .f32⟩
  | 68 => ⟨S4096x16, .f32⟩
  | 69 => ⟨S4096x16, .f32⟩
  | 70 => ⟨S4096x16, .f32⟩
  | 71 => ⟨S4096x16, .f32⟩
  | 72 => ⟨S4096x1x16, .f32⟩
  | 73 => ⟨S4096x16, .f32⟩
  | 74 => ⟨S4096x1x16, .f32⟩
  | 75 => ⟨S16x4096x6x16, .f32⟩
  | 76 => ⟨S16x4096x6x16, .f32⟩
  | 77 => ⟨S1x4096x1x16, .f32⟩
  | 78 => ⟨S16x4096x6x16, .f32⟩
  | 79 => ⟨S16x4096x6x16, .f32⟩
  | 80 => ⟨S1x4096x1x16, .f32⟩
  | 81 => ⟨S16x4096x6x16, .f32⟩
  | 82 => ⟨S16x4096x6x16, .f32⟩
  | 83 => ⟨S16x4096x6x16, .f32⟩
  | 84 => ⟨S1x4096x1x16, .f32⟩
  | 85 => ⟨S16x4096x6x16, .f32⟩
  | 86 => ⟨S16x4096x6x16, .f32⟩
  | 87 => ⟨S1x4096x1x16, .f32⟩
  | 88 => ⟨S16x4096x6x16, .f32⟩
  | 89 => ⟨S16x4096x6x16, .f32⟩
  | 90 => ⟨S16x4096x6x16, .f32⟩
  | 91 => ⟨S16x4096x6x32, .f32⟩
  | 92 => ⟨S16x4096x6x96, .f32⟩
  | 93 => ⟨S16x4096x6x64, .f32⟩
  | 94 => ⟨S16x4096x6x32, .f32⟩
  | 95 => ⟨S16, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S_, .f32⟩
  | 104 => ⟨S16, .f32⟩
  | 105 => ⟨S16, .f32⟩
  | 106 => ⟨S4096, .f32⟩
  | 107 => ⟨S4096x1, .f32⟩
  | 108 => ⟨S1x16, .f32⟩
  | 109 => ⟨S4096x16, .f32⟩
  | 110 => ⟨S4096x16, .f32⟩
  | 111 => ⟨S4096x16, .f32⟩
  | 112 => ⟨S4096x16, .f32⟩
  | 113 => ⟨S4096x1x16, .f32⟩
  | 114 => ⟨S4096x16, .f32⟩
  | 115 => ⟨S4096x1x16, .f32⟩
  | 116 => ⟨S16x4096x6x16, .f32⟩
  | 117 => ⟨S16x4096x6x16, .f32⟩
  | 118 => ⟨S1x4096x1x16, .f32⟩
  | 119 => ⟨S16x4096x6x16, .f32⟩
  | 120 => ⟨S16x4096x6x16, .f32⟩
  | 121 => ⟨S1x4096x1x16, .f32⟩
  | 122 => ⟨S16x4096x6x16, .f32⟩
  | 123 => ⟨S16x4096x6x16, .f32⟩
  | 124 => ⟨S16x4096x6x16, .f32⟩
  | 125 => ⟨S1x4096x1x16, .f32⟩
  | 126 => ⟨S16x4096x6x16, .f32⟩
  | 127 => ⟨S16x4096x6x16, .f32⟩
  | _ => ⟨S16x4096x1024, .f32⟩

abbrev hbmTy0_3 (i : Nat) : BufTy := match i % 128 with
  | 0 => ⟨S1x4096x1x16, .f32⟩
  | 1 => ⟨S16x4096x6x16, .f32⟩
  | 2 => ⟨S16x4096x6x16, .f32⟩
  | 3 => ⟨S16x4096x6x16, .f32⟩
  | 4 => ⟨S16x4096x6x32, .f32⟩
  | 5 => ⟨S16x4096x6x96, .f32⟩
  | 6 => ⟨S_, .f32⟩
  | 7 => ⟨S_, .f32⟩
  | 8 => ⟨S_, .f32⟩
  | 9 => ⟨S_, .f32⟩
  | 10 => ⟨S_, .f32⟩
  | 11 => ⟨S16x4096x6x64, .f32⟩
  | 12 => ⟨S16x4096x6x64, .f32⟩
  | 13 => ⟨S_, .f32⟩
  | 14 => ⟨S_, .f32⟩
  | 15 => ⟨S_, .f32⟩
  | 16 => ⟨S_, .f32⟩
  | 17 => ⟨S_, .f32⟩
  | 18 => ⟨S16x4096x6x96, .f32⟩
  | 19 => ⟨S16x4096x6x96, .f32⟩
  | 20 => ⟨S16x4096x1024, .f32⟩
  | 21 => ⟨S16x4096x1024, .bf16⟩
  | 22 => ⟨S4096x16x256, .f32⟩
  | 23 => ⟨S4096x4096, .f32⟩
  | 24 => ⟨S16x4096x384, .f32⟩
  | 25 => ⟨S16x384x4096, .f32⟩
  | 26 => ⟨S16x384x4096, .bf16⟩
  | 27 => ⟨S16x4096x64, .bf16⟩
  | 28 => ⟨S16x64x4096, .f32⟩
  | 29 => ⟨S16x64x4096, .bf16⟩
  | 30 => ⟨S16x4096x256, .f32⟩
  | 31 => ⟨S16x256x4096, .f32⟩
  | 32 => ⟨S16x256x4096, .bf16⟩
  | 33 => ⟨S16x4096x32, .bf16⟩
  | 34 => ⟨S16x8x4096, .f32⟩
  | 35 => ⟨S_, .i32⟩
  | 36 => ⟨S_, .f32⟩
  | 37 => ⟨S16x4096x6x128, .f32⟩
  | 38 => ⟨S16x4096x768, .f32⟩
  | 39 => ⟨S16x768x4096, .f32⟩
  | 40 => ⟨S16x768x4096, .bf16⟩
  | 41 => ⟨S_, .i32⟩
  | 42 => ⟨S_, .f32⟩
  | 43 => ⟨S16x4096x6x128, .f32⟩
  | 44 => ⟨S16x6x4096x128, .f32⟩
  | 45 => ⟨S16x6x4096x128, .bf16⟩
  | 46 => ⟨S16x4096x384, .f32⟩
  | 47 => ⟨S16x384x4096, .f32⟩
  | 48 => ⟨S16x384x4096, .bf16⟩
  | _ => ⟨S16x4096x1024, .f32⟩

abbrev hbmTy (i : Nat) : BufTy := match i / 128 with
  | 0 => hbmTy0_0 i
  | 1 => hbmTy0_1 i
  | 2 => hbmTy0_2 i
  | 3 => hbmTy0_3 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_8 : Ref sig .tc := ⟨.hbm, 99, rfl⟩
abbrev main_v79 : Ref sig .tc := ⟨.hbm, 100, rfl⟩
abbrev main_v80 : Ref sig .tc := ⟨.hbm, 101, rfl⟩
abbrev main_cst_9 : Ref sig .tc := ⟨.hbm, 102, rfl⟩
abbrev main_v81 : Ref sig .tc := ⟨.hbm, 103, rfl⟩
abbrev main_v82 : Ref sig .tc := ⟨.hbm, 104, rfl⟩
abbrev main_cst_10 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_11 : Ref sig .tc := ⟨.hbm, 116, rfl⟩
abbrev main_v93 : Ref sig .tc := ⟨.hbm, 117, rfl⟩
abbrev main_v94 : Ref sig .tc := ⟨.hbm, 118, rfl⟩
abbrev main_cst_12 : Ref sig .tc := ⟨.hbm, 119, rfl⟩
abbrev main_v95 : Ref sig .tc := ⟨.hbm, 120, rfl⟩
abbrev main_v96 : Ref sig .tc := ⟨.hbm, 121, rfl⟩
abbrev main_cst_13 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_cst_14 : Ref sig .tc := ⟨.hbm, 156, rfl⟩
abbrev main_v130 : Ref sig .tc := ⟨.hbm, 157, rfl⟩
abbrev main_v131 : Ref sig .tc := ⟨.hbm, 158, rfl⟩
abbrev main_cst_15 : Ref sig .tc := ⟨.hbm, 159, rfl⟩
abbrev main_v132 : Ref sig .tc := ⟨.hbm, 160, rfl⟩
abbrev main_v133 : Ref sig .tc := ⟨.hbm, 161, rfl⟩
abbrev main_cst_16 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_cst_17 : Ref sig .tc := ⟨.hbm, 195, rfl⟩
abbrev main_v166 : Ref sig .tc := ⟨.hbm, 196, rfl⟩
abbrev main_v167 : Ref sig .tc := ⟨.hbm, 197, rfl⟩
abbrev main_cst_18 : Ref sig .tc := ⟨.hbm, 198, rfl⟩
abbrev main_v168 : Ref sig .tc := ⟨.hbm, 199, rfl⟩
abbrev main_v169 : Ref sig .tc := ⟨.hbm, 200, rfl⟩
abbrev main_cst_19 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_cst_20 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_cst_21 : Ref sig .tc := ⟨.hbm, 236, rfl⟩
abbrev main_v203 : Ref sig .tc := ⟨.hbm, 237, rfl⟩
abbrev main_v204 : Ref sig .tc := ⟨.hbm, 238, rfl⟩
abbrev main_cst_22 : Ref sig .tc := ⟨.hbm, 239, rfl⟩
abbrev main_v205 : Ref sig .tc := ⟨.hbm, 240, rfl⟩
abbrev main_v206 : Ref sig .tc := ⟨.hbm, 241, rfl⟩
abbrev main_cst_23 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_cst_24 : Ref sig .tc := ⟨.hbm, 254, rfl⟩
abbrev main_v218 : Ref sig .tc := ⟨.hbm, 255, rfl⟩
abbrev main_v219 : Ref sig .tc := ⟨.hbm, 256, rfl⟩
abbrev main_cst_25 : Ref sig .tc := ⟨.hbm, 257, rfl⟩
abbrev main_v220 : Ref sig .tc := ⟨.hbm, 258, rfl⟩
abbrev main_v221 : Ref sig .tc := ⟨.hbm, 259, rfl⟩
abbrev main_cst_26 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_cst_27 : Ref sig .tc := ⟨.hbm, 277, rfl⟩
abbrev main_v238 : Ref sig .tc := ⟨.hbm, 278, rfl⟩
abbrev main_v239 : Ref sig .tc := ⟨.hbm, 279, rfl⟩
abbrev main_cst_28 : Ref sig .tc := ⟨.hbm, 280, rfl⟩
abbrev main_v240 : Ref sig .tc := ⟨.hbm, 281, rfl⟩
abbrev main_v241 : Ref sig .tc := ⟨.hbm, 282, rfl⟩
abbrev main_cst_29 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_cst_30 : Ref sig .tc := ⟨.hbm, 293, rfl⟩
abbrev main_v251 : Ref sig .tc := ⟨.hbm, 294, rfl⟩
abbrev main_v252 : Ref sig .tc := ⟨.hbm, 295, rfl⟩
abbrev main_cst_31 : Ref sig .tc := ⟨.hbm, 296, rfl⟩
abbrev main_v253 : Ref sig .tc := ⟨.hbm, 297, rfl⟩
abbrev main_v254 : Ref sig .tc := ⟨.hbm, 298, rfl⟩
abbrev main_cst_32 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_v265 : Ref sig .tc := ⟨.hbm, 310, rfl⟩
abbrev main_v266 : Ref sig .tc := ⟨.hbm, 311, rfl⟩
abbrev main_cst_33 : Ref sig .tc := ⟨.hbm, 312, rfl⟩
abbrev main_v267 : Ref sig .tc := ⟨.hbm, 313, rfl⟩
abbrev main_v268 : Ref sig .tc := ⟨.hbm, 314, rfl⟩
abbrev main_cst_34 : Ref sig .tc := ⟨.hbm, 315, rfl⟩
abbrev main_v269 : Ref sig .tc := ⟨.hbm, 316, rfl⟩
abbrev main_v270 : Ref sig .tc := ⟨.hbm, 317, rfl⟩
abbrev main_cst_35 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_v281 : Ref sig .tc := ⟨.hbm, 329, rfl⟩
abbrev main_v282 : Ref sig .tc := ⟨.hbm, 330, rfl⟩
abbrev main_v283 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_v291 : Ref sig .tc := ⟨.hbm, 339, rfl⟩
abbrev main_v292 : Ref sig .tc := ⟨.hbm, 340, rfl⟩
abbrev main_v293 : Ref sig .tc := ⟨.hbm, 341, rfl⟩
abbrev main_v294 : Ref sig .tc := ⟨.hbm, 342, rfl⟩
abbrev main_v295 : Ref sig .tc := ⟨.hbm, 343, rfl⟩
abbrev main_v296 : Ref sig .tc := ⟨.hbm, 344, rfl⟩
abbrev main_v297 : Ref sig .tc := ⟨.hbm, 345, rfl⟩
abbrev main_v298 : Ref sig .tc := ⟨.hbm, 346, rfl⟩
abbrev main_v299 : Ref sig .tc := ⟨.hbm, 347, rfl⟩
abbrev main_v300 : Ref sig .tc := ⟨.hbm, 348, rfl⟩
abbrev main_v301 : Ref sig .tc := ⟨.hbm, 349, rfl⟩
abbrev main_v302 : Ref sig .tc := ⟨.hbm, 350, rfl⟩
abbrev main_v303 : Ref sig .tc := ⟨.hbm, 351, rfl⟩
abbrev main_v304 : Ref sig .tc := ⟨.hbm, 352, rfl⟩
abbrev main_cst_36 : Ref sig .tc := ⟨.hbm, 353, rfl⟩
abbrev main_v305 : Ref sig .tc := ⟨.hbm, 354, rfl⟩
abbrev main_v306 : Ref sig .tc := ⟨.hbm, 355, rfl⟩
abbrev main_cst_37 : Ref sig .tc := ⟨.hbm, 356, rfl⟩
abbrev main_v307 : Ref sig .tc := ⟨.hbm, 357, rfl⟩
abbrev main_v308 : Ref sig .tc := ⟨.hbm, 358, rfl⟩
abbrev main_cst_38 : Ref sig .tc := ⟨.hbm, 359, rfl⟩
abbrev main_v309 : Ref sig .tc := ⟨.hbm, 360, rfl⟩
abbrev main_v310 : Ref sig .tc := ⟨.hbm, 361, rfl⟩
abbrev main_v311 : Ref sig .tc := ⟨.hbm, 362, rfl⟩
abbrev main_v312 : Ref sig .tc := ⟨.hbm, 363, rfl⟩
abbrev main_v313 : Ref sig .tc := ⟨.hbm, 364, rfl⟩
abbrev main_v314 : Ref sig .tc := ⟨.hbm, 365, rfl⟩
abbrev main_v315 : Ref sig .tc := ⟨.hbm, 366, rfl⟩
abbrev main_v316 : Ref sig .tc := ⟨.hbm, 367, rfl⟩
abbrev main_v317 : Ref sig .tc := ⟨.hbm, 368, rfl⟩
abbrev main_v318 : Ref sig .tc := ⟨.hbm, 369, rfl⟩
abbrev main_v319 : Ref sig .tc := ⟨.hbm, 370, rfl⟩
abbrev main_v320 : Ref sig .tc := ⟨.hbm, 371, rfl⟩
abbrev main_v321 : Ref sig .tc := ⟨.hbm, 372, rfl⟩
abbrev main_v322 : Ref sig .tc := ⟨.hbm, 373, rfl⟩
abbrev main_v323 : Ref sig .tc := ⟨.hbm, 374, rfl⟩
abbrev main_v324 : Ref sig .tc := ⟨.hbm, 375, rfl⟩
abbrev main_v325 : Ref sig .tc := ⟨.hbm, 376, rfl⟩
abbrev main_v326 : Ref sig .tc := ⟨.hbm, 377, rfl⟩
abbrev main_v327 : Ref sig .tc := ⟨.hbm, 378, rfl⟩
abbrev main_v328 : Ref sig .tc := ⟨.hbm, 379, rfl⟩
abbrev main_v329 : Ref sig .tc := ⟨.hbm, 380, rfl⟩
abbrev main_v330 : Ref sig .tc := ⟨.hbm, 381, rfl⟩
abbrev main_v331 : Ref sig .tc := ⟨.hbm, 382, rfl⟩
abbrev main_v332 : Ref sig .tc := ⟨.hbm, 383, rfl⟩
abbrev main_v333 : Ref sig .tc := ⟨.hbm, 384, rfl⟩
abbrev main_v334 : Ref sig .tc := ⟨.hbm, 385, rfl⟩
abbrev main_v335 : Ref sig .tc := ⟨.hbm, 386, rfl⟩
abbrev main_v336 : Ref sig .tc := ⟨.hbm, 387, rfl⟩
abbrev main_v337 : Ref sig .tc := ⟨.hbm, 388, rfl⟩
abbrev main_v338 : Ref sig .tc := ⟨.hbm, 389, rfl⟩
abbrev main_cst_39 : Ref sig .tc := ⟨.hbm, 390, rfl⟩
abbrev main_v339 : Ref sig .tc := ⟨.hbm, 391, rfl⟩
abbrev main_cst_40 : Ref sig .tc := ⟨.hbm, 392, rfl⟩
abbrev main_v340 : Ref sig .tc := ⟨.hbm, 393, rfl⟩
abbrev main_v341 : Ref sig .tc := ⟨.hbm, 394, rfl⟩
abbrev main_v342 : Ref sig .tc := ⟨.hbm, 395, rfl⟩
abbrev main_v343 : Ref sig .tc := ⟨.hbm, 396, rfl⟩
abbrev main_cst_41 : Ref sig .tc := ⟨.hbm, 397, rfl⟩
abbrev main_v344 : Ref sig .tc := ⟨.hbm, 398, rfl⟩
abbrev main_cst_42 : Ref sig .tc := ⟨.hbm, 399, rfl⟩
abbrev main_v345 : Ref sig .tc := ⟨.hbm, 400, rfl⟩
abbrev main_v346 : Ref sig .tc := ⟨.hbm, 401, rfl⟩
abbrev main_v347 : Ref sig .tc := ⟨.hbm, 402, rfl⟩
abbrev main_v348 : Ref sig .tc := ⟨.hbm, 403, rfl⟩
abbrev main_v349 : Ref sig .tc := ⟨.hbm, 404, rfl⟩
abbrev main_v350 : Ref sig .tc := ⟨.hbm, 405, rfl⟩
abbrev main_v351 : Ref sig .tc := ⟨.hbm, 406, rfl⟩
abbrev main_v352 : Ref sig .tc := ⟨.hbm, 407, rfl⟩
abbrev main_v353 : Ref sig .tc := ⟨.hbm, 408, rfl⟩
abbrev main_v354 : Ref sig .tc := ⟨.hbm, 409, rfl⟩
abbrev main_v355 : Ref sig .tc := ⟨.hbm, 410, rfl⟩
abbrev main_v356 : Ref sig .tc := ⟨.hbm, 411, rfl⟩
abbrev main_v357 : Ref sig .tc := ⟨.hbm, 412, rfl⟩
abbrev main_v358 : Ref sig .tc := ⟨.hbm, 413, rfl⟩
abbrev main_v359 : Ref sig .tc := ⟨.hbm, 414, rfl⟩
abbrev main_v360 : Ref sig .tc := ⟨.hbm, 415, rfl⟩
abbrev main_v361 : Ref sig .tc := ⟨.hbm, 416, rfl⟩
abbrev main_v362 : Ref sig .tc := ⟨.hbm, 417, rfl⟩
abbrev main_v363 : Ref sig .tc := ⟨.hbm, 418, rfl⟩
abbrev main_c : Ref sig .tc := ⟨.hbm, 419, rfl⟩
abbrev main_call0_v0 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_c_43 : Ref sig .tc := ⟨.hbm, 425, rfl⟩
abbrev main_call1_v0 : Ref sig .tc := ⟨.hbm, 426, rfl⟩
abbrev main_v368 : Ref sig .tc := ⟨.hbm, 427, rfl⟩
abbrev main_v369 : Ref sig .tc := ⟨.hbm, 428, rfl⟩
abbrev main_v370 : Ref sig .tc := ⟨.hbm, 429, rfl⟩
abbrev main_v371 : Ref sig .tc := ⟨.hbm, 430, rfl⟩
abbrev main_v372 : Ref sig .tc := ⟨.hbm, 431, rfl⟩
abbrev main_v373 : Ref sig .tc := ⟨.hbm, 432, rfl⟩

abbrev nD : Nat := 1
abbrev τ : Topo := Topo.v7x

variable {F : FTy → Type} [FloatOps F]
-- ==== Proof.Keep.lean ====
/- A small calculus for a kernel's frame: a program KEEPS a resource `R` when, run from `R`, it returns with `R` again,
   whatever it returns. With `R` the kernel's buffers, each held at some contents, a body that only loads, stores, loops
   and branches keeps `R` whatever the values it computes, so that its frame is a walk along its text. -/
module

public import Idealize.ShloMosaic.Lib.Tactic
public import Idealize.ShloMosaic.Lib.Memref

@[expose] public section

noncomputable section

namespace Cert.Proof.Keep

open Idealize.ShloMosaic
open Idealize.SL
open Idealize.SL.RA Idealize.SL.Sem Idealize.SL.ProofMode
open Idealize.SL.BI (sProp bigSep)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} {𝒱 : Variants} {c : Thread nD τ} {bd : Option 𝒱.V} {E : Set Name}

local notation "𝕄" => MT nD τ sig Ix Val Name U Lvl

/-- `p`, run from `R`, returns with `R`, whatever it returns. -/
def Keeps (defs : Defs nD τ sig Val Λ) (𝒱 : Variants) (c : Thread nD τ) (bd : Option 𝒱.V) (E : Set Name)
    (R : sProp 𝕄) {α : Type} (p : Prog (TpuEff nD τ sig Val Λ c.2) α) : Prop :=
  R ⊢ wp frame (wpE defs 𝒱 c bd) E p (fun _ => R)

/-- From `R` any part of the buffer of `m` may be loaded, and `R` is left. -/
class Reads (defs : Defs nD τ sig Val Λ) (𝒱 : Variants) (c : Thread nD τ) (bd : Option 𝒱.V) (E : Set Name)
    (R : sProp 𝕄) {cs : CoreSpace} {s : Shape} {e : EltTy} (m : Memref sig c.2.kind cs s e) : Prop where
  keeps : ∀ (r : LoadRect s) (hl : m.view.LoadsAt r), Keeps defs 𝒱 c bd E R (Prog.lift (.load m r hl))

/-- From `R` any part of the buffer of `m` may be stored into, and `R` is left. -/
class Writes (defs : Defs nD τ sig Val Λ) (𝒱 : Variants) (c : Thread nD τ) (bd : Option 𝒱.V) (E : Set Name)
    (R : sProp 𝕄) {cs : CoreSpace} {s : Shape} {e : EltTy} (m : Memref sig c.2.kind cs s e) : Prop where
  keeps : ∀ (r : Rect s) (w : r.shape.Idx → Val e) (Mk : Finset r.shape.Idx) (hx : (m.access r).Stores Mk)
    (hm : Mk = Finset.univ ∨ ∀ a, r.stride a = 1), Keeps defs 𝒱 c bd E R (Prog.lift (.store m r w Mk hx hm))

section Steps

variable {α β : Type} {R S : sProp (MT nD τ sig Ix Val Name U Lvl)}

theorem keeps_pure (a : α) : Keeps defs 𝒱 c bd E R (pure a) :=
  le_wp_ret frame (wpE defs 𝒱 c bd) E a (fun _ => R)

theorem keeps_bind {p : Prog (TpuEff nD τ sig Val Λ c.2) β} {k : β → Prog (TpuEff nD τ sig Val Λ c.2) α}
    (hp : Keeps defs 𝒱 c bd E R p) (hk : ∀ b, Keeps defs 𝒱 c bd E R (k b)) : Keeps defs 𝒱 c bd E R (p >>= k) :=
  exec_bind 𝒱 c bd E p k (hp.trans (wp_mono _ _ _ fun b => hk b))

theorem keeps_load {cs : CoreSpace} {s : Shape} {e : EltTy} {m : Memref sig c.2.kind cs s e} [h : Reads defs 𝒱 c bd E R m]
    {r : LoadRect s} {hl : m.view.LoadsAt r} : Keeps defs 𝒱 c bd E R (Prog.lift (.load m r hl)) := h.keeps r hl

theorem keeps_store {cs : CoreSpace} {s : Shape} {e : EltTy} {m : Memref sig c.2.kind cs s e} [h : Writes defs 𝒱 c bd E R m]
    {r : Rect s} {w : r.shape.Idx → Val e} {Mk : Finset r.shape.Idx} {hx : (m.access r).Stores Mk}
    {hm : Mk = Finset.univ ∨ ∀ a, r.stride a = 1} : Keeps defs 𝒱 c bd E R (Prog.lift (.store m r w Mk hx hm)) :=
  h.keeps r w Mk hx hm

theorem keeps_for {w : Nat} {lb ub st : BitVec w} {hok : Scf.OK lb ub st} {init : α}
    {body : Fin (Scf.trips lb ub st) → α → Prog (TpuEff nD τ sig Val Λ c.2) α}
    (hb : ∀ (k : Fin (Scf.trips lb ub st)) (acc : α), Keeps defs 𝒱 c bd E R (body k acc)) : Keeps defs 𝒱 c bd E R (Scf.for lb ub st hok init body) := by
  refine Entails.trans ?_ (Scf.wp_for _ _ _ lb ub st hok init body (fun _ _ => R) hb)
  iintro H
  isplitl [H]
  · iexact H
  · iintro %_ H
    iexact H

theorem keeps_dite {C : Prop} [Decidable C] {p : C → Prog (TpuEff nD τ sig Val Λ c.2) α}
    {q : ¬ C → Prog (TpuEff nD τ sig Val Λ c.2) α} (hp : ∀ h : C, Keeps defs 𝒱 c bd E R (p h))
    (hq : ∀ h : ¬ C, Keeps defs 𝒱 c bd E R (q h)) : Keeps defs 𝒱 c bd E R (if h : C then p h else q h) := by
  split
  · exact hp _
  · exact hq _

theorem keeps_left {p : Prog (TpuEff nD τ sig Val Λ c.2) α} (h : Keeps defs 𝒱 c bd E R p) :
    Keeps defs 𝒱 c bd E (iprop(R ∗ S) : sProp 𝕄) p := by
  unfold Keeps at h
  refine Entails.trans ?_ (wp_wand_r (Q := fun _ => R) frame (wpE defs 𝒱 c bd) E)
  iintro ⟨HR, HS⟩
  isplitl [HR]
  · iapply h $$ HR
  · iintro %_ HR
    isplitl [HR]
    · iexact HR
    · iexact HS

theorem keeps_right {p : Prog (TpuEff nD τ sig Val Λ c.2) α} (h : Keeps defs 𝒱 c bd E S p) :
    Keeps defs 𝒱 c bd E (iprop(R ∗ S) : sProp 𝕄) p := by
  unfold Keeps at h
  refine Entails.trans ?_ (wp_wand_r (Q := fun _ => S) frame (wpE defs 𝒱 c bd) E)
  iintro ⟨HR, HS⟩
  isplitl [HS]
  · iapply h $$ HS
  · iintro %_ HS
    isplitl [HR]
    · iexact HR
    · iexact HS

end Steps

/-! ## The resources -/

section Resources

variable {cs : CoreSpace} {s : Shape} {e : EltTy}

/-- The buffer of `m` held whole, at some contents. -/
def anyOf (c : Thread nD τ) (m : Memref sig c.2.kind cs s e) : sProp 𝕄 := iprop(∃ X, owns c m fullShare X)

variable {R R' : sProp (MT nD τ sig Ix Val Name U Lvl)} (m : Memref sig c.2.kind cs s e)

instance reads_owns {X : s.Idx → Val e} {q : PosShare TreeShare} : Reads defs 𝒱 c bd E (owns c m q X : sProp 𝕄) m where
  keeps r hl := by
    unfold Keeps Prog.lift owns
    iintro ⟨%f, %hf, H⟩
    iapply (wp_load 𝒱 c bd E (S := m.view.set) (m.view.setOn_subset_set _)) $$ H
    iintro H
    rw [wp_ret]
    imodintro
    iexists f
    isplitr
    · ipureintro; exact hf
    · iexact H

instance reads_any : Reads defs 𝒱 c bd E (anyOf c m : sProp 𝕄) m where
  keeps r hl := by
    have h : ∀ X, Keeps defs 𝒱 c bd E (owns c m fullShare X : sProp 𝕄) (Prog.lift (.load m r hl)) := fun X =>
      (reads_owns m).keeps r hl
    unfold Keeps anyOf at *
    iintro ⟨%X, H⟩
    iapply (wp_wand_r (Q := fun _ => (owns c m fullShare X : sProp 𝕄)) frame (wpE defs 𝒱 c bd) E)
    isplitl [H]
    · iapply (h X) $$ H
    · iintro %_ H
      iexists X
      iexact H

instance writes_any : Writes defs 𝒱 c bd E (anyOf c m : sProp 𝕄) m where
  keeps r w Mk hx hm := by
    unfold Keeps Prog.lift anyOf owns
    iintro ⟨%X, %f, %hf, H⟩
    iapply (wp_store 𝒱 c bd E (S := m.view.set) (f := f) (w := w) (hx := hx) (hm := hm)
      (((m.access r).setOn_subset_set Mk).trans (m.view.set_slice_subset r))) $$ H
    iintro H
    rw [wp_ret]
    imodintro
    iexists m.view.read Val ((m.access r).write Val f w Mk)
    iexists (m.access r).write Val f w Mk
    isplitr
    · ipureintro; rfl
    · iexact H

instance reads_left [h : Reads defs 𝒱 c bd E R m] : Reads defs 𝒱 c bd E (iprop(R ∗ R') : sProp 𝕄) m where
  keeps r hl := keeps_left (h.keeps r hl)

instance reads_right [h : Reads defs 𝒱 c bd E R' m] : Reads defs 𝒱 c bd E (iprop(R ∗ R') : sProp 𝕄) m where
  keeps r hl := keeps_right (h.keeps r hl)

instance writes_left [h : Writes defs 𝒱 c bd E R m] : Writes defs 𝒱 c bd E (iprop(R ∗ R') : sProp 𝕄) m where
  keeps r w Mk hx hm := keeps_left (h.keeps r w Mk hx hm)

instance writes_right [h : Writes defs 𝒱 c bd E R' m] : Writes defs 𝒱 c bd E (iprop(R ∗ R') : sProp 𝕄) m where
  keeps r w Mk hx hm := keeps_right (h.keeps r w Mk hx hm)

end Resources

end Cert.Proof.Keep

end
-- ==== Proof.KeepsBase.lean ====
/- What it is for the kernel's body to keep its buffers. -/
module

public import proofs.«01_k».proof.Proof.Gen.Kernel.Skeleton
public import proofs.«01_k».proof.Proof.Keep
public import Idealize.ShloMosaic.Lib.Pipeline.FrameBody

@[expose] public section

noncomputable section

namespace Cert.Proof.KernelKeeps

open Idealize.ShloMosaic Idealize.ShloMosaic.TcCoe
open Idealize.SL Idealize.SL.RA Idealize.SL.BI Idealize.SL.Sem
open Cert.Kernel Cert.Kernel.Gen Cert.Proof.Keep

/-- The kernel's body, or a part of it, keeps `R` on core `c`. -/
def K {F : FTy → Type} [BitOps F] (c : Dev nD) (R : sProp (MT nD τ sig Unit (Elt F) ℕ (UR sig nD τ) ℕ)) {α : Type}
    (p : Prog (TpuEff nD τ sig (Elt F) Λ₀ .tc) α) : Prop :=
  Keeps (defs₀ (F := F)) Variants.none (c : Thread nD τ) none Set.univ R p

variable {F : FTy → Type} [BitOps F] {c : Dev nD} {R : sProp (MT nD τ sig Unit (Elt F) ℕ (UR sig nD τ) ℕ)}
variable {α β : Type}

theorem k_pure (a : α) : K (F := F) c R (pure a) := keeps_pure a

theorem k_bind {p : Prog (TpuEff nD τ sig (Elt F) Λ₀ .tc) β} {k : β → Prog (TpuEff nD τ sig (Elt F) Λ₀ .tc) α}
    (hp : K c R p) (hk : ∀ b, K c R (k b)) : K c R (p >>= k) := keeps_bind hp hk

/-- From `R` any part of the buffer of `m` may be loaded, and `R` is left. -/
class KReads (c : Dev nD) (R : sProp (MT nD τ sig Unit (Elt F) ℕ (UR sig nD τ) ℕ)) {cs : CoreSpace} {s : Shape} {e : EltTy}
    (m : Memref sig .tc cs s e) : Prop where
  reads : Reads (defs₀ (F := F)) Variants.none (c : Thread nD τ) none Set.univ R (cs := cs) m

/-- From `R` any part of the buffer of `m` may be stored into, and `R` is left. -/
class KWrites (c : Dev nD) (R : sProp (MT nD τ sig Unit (Elt F) ℕ (UR sig nD τ) ℕ)) {cs : CoreSpace} {s : Shape} {e : EltTy}
    (m : Memref sig .tc cs s e) : Prop where
  writes : Writes (defs₀ (F := F)) Variants.none (c : Thread nD τ) none Set.univ R (cs := cs) m

theorem k_load {cs : CoreSpace} {s : Shape} {e : EltTy} {m : Memref sig .tc cs s e} [h : KReads c R m]
    {r : LoadRect s} {hl : m.view.LoadsAt r} : K (F := F) c R (Prog.lift (.load m r hl)) := h.reads.keeps r hl

theorem k_store {cs : CoreSpace} {s : Shape} {e : EltTy} {m : Memref sig .tc cs s e} [h : KWrites c R m]
    {r : Rect s} {w : r.shape.Idx → Elt F e} {Mk : Finset r.shape.Idx} {hx : (m.access r).Stores Mk}
    {hm : Mk = Finset.univ ∨ ∀ a, r.stride a = 1} : K (F := F) c R (Prog.lift (.store m r w Mk hx hm)) :=
  h.writes.keeps r w Mk hx hm

/-- A word read from scalar memory: one load, and one of the elements it gives. -/
theorem k_smemLoad {s : Shape} {e : EltTy} {m : Memref sig .tc .smem s e} [h : KReads c R m] {r : Rect s}
    {h1 : r.shape.numel = 1} {hp : e.packing = 1} : K (F := F) c R (smemLoad m r h1 hp) :=
  k_bind (k_load (h := h) (hl := View.loadsAt_rect (View.loads_smem_one hp h1))) fun f =>
    k_pure (f (Shape.Idx.first (h1.symm ▸ Nat.one_pos)))

theorem k_for {w : Nat} {lb ub st : BitVec w} {hok : Scf.OK lb ub st} {init : α}
    {body : Fin (Scf.trips lb ub st) → α → Prog (TpuEff nD τ sig (Elt F) Λ₀ .tc) α}
    (hb : ∀ (k : Fin (Scf.trips lb ub st)) (acc : α), K c R (body k acc)) : K c R (Scf.for lb ub st hok init body) :=
  keeps_for hb

theorem k_dite {C : Prop} [Decidable C] {p : C → Prog (TpuEff nD τ sig (Elt F) Λ₀ .tc) α}
    {q : ¬ C → Prog (TpuEff nD τ sig (Elt F) Λ₀ .tc) α} (hp : ∀ h : C, K c R (p h))
    (hq : ∀ h : ¬ C, K c R (q h)) : K c R (if h : C then p h else q h) := keeps_dite hp hq

theorem k_ite {C : Prop} [Decidable C] {p q : Prog (TpuEff nD τ sig (Elt F) Λ₀ .tc) α} (hp : K c R p) (hq : K c R q) :
    K c R (if C then p else q) := by split <;> assumption

end Cert.Proof.KernelKeeps

end
-- ==== Proof.Keeps1.lean ====
/- The walk along the kernel's text: each part of the body keeps the kernel's buffers (Keep.lean). -/
module

public import proofs.«01_k».proof.Proof.Gen.Kernel.Skeleton
public import proofs.«01_k».proof.Proof.Keep
public import Idealize.ShloMosaic.Lib.Pipeline.FrameBody
public import proofs.«01_k».proof.Proof.KeepsBase

@[expose] public section

noncomputable section

namespace Cert.Proof.KernelKeeps

open Idealize.ShloMosaic Idealize.ShloMosaic.TcCoe
open Idealize.SL Idealize.SL.RA Idealize.SL.BI Idealize.SL.Sem
open Cert.Kernel Cert.Kernel.Gen Cert.Proof.Keep

variable {F : FTy → Type} [BitOps F] {c : Dev nD} {R : sProp (MT nD τ sig Unit (Elt F) ℕ (UR sig nD τ) ℕ)}

variable (i : grid0.Coords)
  (m2 : Memref sig .tc .vmem S1x256x512 .bf16) (h2 : m2.IsWhole)
  (m3 : Memref sig .tc .vmem S1x8x512 .f32) (h3 : m3.IsWhole)
  (m4 : Memref sig .tc .vmem S1x4096x32 .bf16) (h4 : m4.IsWhole)
  (m5 : Memref sig .tc .vmem S1x384x512 .bf16) (h5 : m5.IsWhole)
  (m6 : Memref sig .tc .vmem S1x4096x64 .bf16) (h6 : m6.IsWhole)
  (m7 : Memref sig .tc .vmem S1x64x4096 .bf16) (h7 : m7.IsWhole)
  (m8 : Memref sig .tc .vmem S1x512x384 .bf16) (h8 : m8.IsWhole)
  (m9 : Memref sig .tc .vmem S4096x512 .i32) (h9 : m9.IsWhole)
  (m10 : Memref sig .tc .vmem S32x128x512 .i32) (h10 : m10.IsWhole)
  (m11 : Memref sig .tc .vmem S128x512 .i32) (h11 : m11.IsWhole)
  (m12 : Memref sig .tc .vmem S4096x512 .f32) (h12 : m12.IsWhole)
  (m13 : Memref sig .tc .vmem S4096x512 .f32) (h13 : m13.IsWhole)
  (m14 : Memref sig .tc .vmem S384x512 .f32) (h14 : m14.IsWhole)
  (m15 : Memref sig .tc .vmem S1x512 .i32) (h15 : m15.IsWhole)
  (m16 : Memref sig .tc .vmem S1x512 .i32) (h16 : m16.IsWhole)
  (m17 : Memref sig .tc .smem S1 .i32) (h17 : m17.IsWhole)
variable [KReads (F := F) c R m2]
variable [KReads (F := F) c R m3]
variable [KReads (F := F) c R m4]
variable [KReads (F := F) c R m5]
variable [KReads (F := F) c R m6]
variable [KReads (F := F) c R m7]
variable [KReads (F := F) c R m8]
variable [KWrites (F := F) c R m8]
variable [KReads (F := F) c R m9]
variable [KWrites (F := F) c R m9]
variable [KReads (F := F) c R m10]
variable [KWrites (F := F) c R m10]
variable [KReads (F := F) c R m11]
variable [KWrites (F := F) c R m11]
variable [KReads (F := F) c R m12]
variable [KWrites (F := F) c R m12]
variable [KReads (F := F) c R m13]
variable [KWrites (F := F) c R m13]
variable [KReads (F := F) c R m14]
variable [KWrites (F := F) c R m14]
variable [KReads (F := F) c R m15]
variable [KWrites (F := F) c R m15]
variable [KReads (F := F) c R m16]
variable [KWrites (F := F) c R m16]
variable [KReads (F := F) c R m17]
variable [KWrites (F := F) c R m17]

theorem keeps_part10 : ∀ x0 x1 x2, K c R (k0_part10 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part10_eq_skeleton]
  unfold k0_part10_skel
  repeat' with_reducible first
    | exact k_load
    | exact k_store
    | exact k_pure _
    | refine k_bind ?_ (fun _ => ?_)
    | split

theorem keeps_part5 : ∀ x0 x1 x2, K c R (k0_part5 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part5_eq_skeleton]
  unfold k0_part5_skel
  repeat' with_reducible first
    | exact k_load
    | exact k_store
    | exact k_pure _
    | refine k_bind ?_ (fun _ => ?_)
    | split

theorem keeps_part13 : ∀ x0 x1 x2, K c R (k0_part13 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part13_eq_skeleton]
  unfold k0_part13_skel
  repeat' with_reducible first
    | exact k_load
    | exact k_store
    | exact k_pure _
    | refine k_bind ?_ (fun _ => ?_)
    | split

theorem keeps_part19 : ∀ x0 x1 x2 x3, K c R (k0_part19 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part19_eq_skeleton]
  unfold k0_part19_skel
  repeat' with_reducible first
    | exact k_load
    | exact k_store
    | exact k_pure _
    | refine k_bind ?_ (fun _ => ?_)
    | split

theorem keeps_part237 : ∀ x0 x1, K c R (k0_part237 i m2 h2 m3 h3 m4 h4 m5 h5 m6 h6 m7 h7 m8 h8 m9 h9 m10 h10 m11 h11 m12 h12 m13 h13 m14 h14 m15 h15 m16 h16 m17 h17 x0 x1) := by
  intro _ _
  rw [k0_part237_eq_skeleton]
  unfold k0_part237_skel
  repeat' with_reducible first
    | exact k_load
    | exact k_store
    | exact k_pure _
    | refine k_bind ?_ (fun _ => ?_)
    | split

theorem keeps_part243 : ∀ x0 x1, K c R (k0_part243 i m2 h2 m3 h3 m4 h4 m5 h5 m6 h6 m7 h7 m8 h8 m9 h9 m10 h10 m11 h11 m12 h12 m13 h13 m14 h14 m15 h15 m16 h16 m17 h17 x0 x1) := by
  intro _ _
  rw [k0_part243_eq_skeleton]
  unfold k0_part243_skel
  repeat' with_reducible first
    | exact k_load
    | exact k_store
    | exact k_pure _
    | refine k_bind ?_ (fun _ => ?_)
    | split

theorem keeps_part249 : ∀ x0 x1, K c R (k0_part249 i m2 h2 m3 h3 m4 h4 m5 h5 m6 h6 m7 h7 m8 h8 m9 h9 m10 h10 m11 h11 m12 h12 m13 h13 m14 h14 m15 h15 m16 h16 m17 h17 x0 x1) := by
  intro _ _
  rw [k0_part249_eq_skeleton]
  unfold k0_part249_skel
  repeat' with_reducible first
    | exact k_load
    | exact k_store
    | exact k_pure _
    | refine k_bind ?_ (fun _ => ?_)
    | split

theorem keeps_part104 : ∀ x0 x1 x2 x3 x4 x5 x6 x7 x8 x9 x10, K c R (k0_part104 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part104_eq_skeleton]
  unfold k0_part104_skel
  repeat' with_reducible first
    | exact k_load
    | exact k_store
    | exact k_pure _
    | refine k_bind ?_ (fun _ => ?_)
    | split

theorem keeps_part110 : ∀ x0 x1 x2 x3 x4 x5 x6 x7 x8 x9 x10, K c R (k0_part110 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part110_eq_skeleton]
  unfold k0_part110_skel
  repeat' with_reducible first
    | exact k_load
    | exact k_store
    | exact k_pure _
    | refine k_bind ?_ (fun _ => ?_)
    | split

theorem keeps_part116 : ∀ x0 x1 x2 x3 x4 x5 x6 x7 x8 x9 x10 x11, K c R (k0_part116 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part116_eq_skeleton]
  unfold k0_part116_skel
  repeat' with_reducible first
    | exact k_load
    | exact k_store
    | exact k_pure _
    | refine k_bind ?_ (fun _ => ?_)
    | split

theorem keeps_part26 : ∀ x0 x1 x2 x3, K c R (k0_part26 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part26_eq_skeleton]
  unfold k0_part26_skel
  repeat' with_reducible first
    | exact k_load
    | exact k_store
    | exact k_pure _
    | refine k_bind ?_ (fun _ => ?_)
    | split

theorem keeps_part32 : ∀ x0 x1 x2 x3 x4 x5 x6 x7 x8 x9 x10, K c R (k0_part32 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part32_eq_skeleton]
  unfold k0_part32_skel
  repeat' with_reducible first
    | exact k_load
    | exact k_store
    | exact k_pure _
    | refine k_bind ?_ (fun _ => ?_)
    | split

theorem keeps_part38 : ∀ x0 x1 x2 x3 x4 x5 x6 x7 x8 x9 x10, K c R (k0_part38 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part38_eq_skeleton]
  unfold k0_part38_skel
  repeat' with_reducible first
    | exact k_load
    | exact k_store
    | exact k_pure _
    | refine k_bind ?_ (fun _ => ?_)
    | split

theorem keeps_part44 : ∀ x0 x1 x2 x3 x4 x5 x6 x7 x8 x9 x10 x11, K c R (k0_part44 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part44_eq_skeleton]
  unfold k0_part44_skel
  repeat' with_reducible first
    | exact k_load
    | exact k_store
    | exact k_pure _
    | refine k_bind ?_ (fun _ => ?_)
    | split

theorem keeps_part50 : ∀ x0 x1 x2 x3, K c R (k0_part50 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part50_eq_skeleton]
  unfold k0_part50_skel
  repeat' with_reducible first
    | exact k_load
    | exact k_store
    | exact k_pure _
    | refine k_bind ?_ (fun _ => ?_)
    | split

theorem keeps_part56 : ∀ x0 x1 x2 x3 x4 x5 x6 x7 x8 x9 x10, K c R (k0_part56 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part56_eq_skeleton]
  unfold k0_part56_skel
  repeat' with_reducible first
    | exact k_load
    | exact k_store
    | exact k_pure _
    | refine k_bind ?_ (fun _ => ?_)
    | split

theorem keeps_part62 : ∀ x0 x1 x2 x3 x4 x5 x6 x7 x8 x9 x10, K c R (k0_part62 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part62_eq_skeleton]
  unfold k0_part62_skel
  repeat' with_reducible first
    | exact k_load
    | exact k_store
    | exact k_pure _
    | refine k_bind ?_ (fun _ => ?_)
    | split

theorem keeps_part68 : ∀ x0 x1 x2 x3 x4 x5 x6 x7 x8 x9 x10 x11, K c R (k0_part68 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part68_eq_skeleton]
  unfold k0_part68_skel
  repeat' with_reducible first
    | exact k_load
    | exact k_store
    | exact k_pure _
    | refine k_bind ?_ (fun _ => ?_)
    | split

theorem keeps_part74 : ∀ x0 x1 x2 x3, K c R (k0_part74 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part74_eq_skeleton]
  unfold k0_part74_skel
  repeat' with_reducible first
    | exact k_load
    | exact k_store
    | exact k_pure _
    | refine k_bind ?_ (fun _ => ?_)
    | split

theorem keeps_part80 : ∀ x0 x1 x2 x3 x4 x5 x6 x7 x8 x9 x10, K c R (k0_part80 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part80_eq_skeleton]
  unfold k0_part80_skel
  repeat' with_reducible first
    | exact k_load
    | exact k_store
    | exact k_pure _
    | refine k_bind ?_ (fun _ => ?_)
    | split

theorem keeps_part86 : ∀ x0 x1 x2 x3 x4 x5 x6 x7 x8 x9 x10, K c R (k0_part86 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part86_eq_skeleton]
  unfold k0_part86_skel
  repeat' with_reducible first
    | exact k_load
    | exact k_store
    | exact k_pure _
    | refine k_bind ?_ (fun _ => ?_)
    | split

theorem keeps_part92 : ∀ x0 x1 x2 x3 x4 x5 x6 x7 x8 x9 x10 x11, K c R (k0_part92 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part92_eq_skeleton]
  unfold k0_part92_skel
  repeat' with_reducible first
    | exact k_load
    | exact k_store
    | exact k_pure _
    | refine k_bind ?_ (fun _ => ?_)
    | split

theorem keeps_part98 : ∀ x0 x1 x2 x3, K c R (k0_part98 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part98_eq_skeleton]
  unfold k0_part98_skel
  repeat' with_reducible first
    | exact k_load
    | exact k_store
    | exact k_pure _
    | refine k_bind ?_ (fun _ => ?_)
    | split

theorem keeps_part184 : ∀ x0 x1 x2 x3 x4 x5 x6 x7 x8 x9 x10, K c R (k0_part184 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part184_eq_skeleton]
  unfold k0_part184_skel
  repeat' with_reducible first
    | exact k_load
    | exact k_store
    | exact k_pure _
    | refine k_bind ?_ (fun _ => ?_)
    | split

theorem keeps_part190 : ∀ x0 x1 x2 x3 x4 x5 x6 x7 x8 x9 x10 x11, K c R (k0_part190 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part190_eq_skeleton]
  unfold k0_part190_skel
  repeat' with_reducible first
    | exact k_load
    | exact k_store
    | exact k_pure _
    | refine k_bind ?_ (fun _ => ?_)
    | split

theorem keeps_part196 : ∀ x0 x1 x2 x3 x4 x5 x6 x7 x8 x9, K c R (k0_part196 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9) := by
  intro _ _ _ _ _ _ _ _ _ _
  rw [k0_part196_eq_skeleton]
  unfold k0_part196_skel
  repeat' with_reducible first
    | exact k_load
    | exact k_store
    | exact k_pure _
    | refine k_bind ?_ (fun _ => ?_)
    | split

theorem keeps_part202 : ∀ x0 x1 x2 x3 x4 x5 x6 x7 x8 x9 x10, K c R (k0_part202 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part202_eq_skeleton]
  unfold k0_part202_skel
  repeat' with_reducible first
    | exact k_load
    | exact k_store
    | exact k_pure _
    | refine k_bind ?_ (fun _ => ?_)
    | split

theorem keeps_part208 : ∀ x0 x1 x2 x3 x4 x5 x6 x7 x8 x9 x10, K c R (k0_part208 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part208_eq_skeleton]
  unfold k0_part208_skel
  repeat' with_reducible first
    | exact k_load
    | exact k_store
    | exact k_pure _
    | refine k_bind ?_ (fun _ => ?_)
    | split

theorem keeps_part214 : ∀ x0 x1 x2 x3 x4 x5 x6 x7 x8 x9 x10 x11, K c R (k0_part214 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part214_eq_skeleton]
  unfold k0_part214_skel
  repeat' with_reducible first
    | exact k_load
    | exact k_store
    | exact k_pure _
    | refine k_bind ?_ (fun _ => ?_)
    | split

theorem keeps_part124 : ∀ x0 x1 x2 x3 x4 x5 x6 x7 x8 x9, K c R (k0_part124 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9) := by
  intro _ _ _ _ _ _ _ _ _ _
  rw [k0_part124_eq_skeleton]
  unfold k0_part124_skel
  repeat' with_reducible first
    | exact k_load
    | exact k_store
    | exact k_pure _
    | refine k_bind ?_ (fun _ => ?_)
    | split

theorem keeps_part130 : ∀ x0 x1 x2 x3 x4 x5 x6 x7 x8 x9 x10, K c R (k0_part130 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part130_eq_skeleton]
  unfold k0_part130_skel
  repeat' with_reducible first
    | exact k_load
    | exact k_store
    | exact k_pure _
    | refine k_bind ?_ (fun _ => ?_)
    | split

theorem keeps_part136 : ∀ x0 x1 x2 x3 x4 x5 x6 x7 x8 x9 x10, K c R (k0_part136 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part136_eq_skeleton]
  unfold k0_part136_skel
  repeat' with_reducible first
    | exact k_load
    | exact k_store
    | exact k_pure _
    | refine k_bind ?_ (fun _ => ?_)
    | split

theorem keeps_part142 : ∀ x0 x1 x2 x3 x4 x5 x6 x7 x8 x9 x10 x11, K c R (k0_part142 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part142_eq_skeleton]
  unfold k0_part142_skel
  repeat' with_reducible first
    | exact k_load
    | exact k_store
    | exact k_pure _
    | refine k_bind ?_ (fun _ => ?_)
    | split

theorem keeps_part148 : ∀ x0 x1 x2 x3 x4 x5 x6 x7 x8 x9, K c R (k0_part148 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9) := by
  intro _ _ _ _ _ _ _ _ _ _
  rw [k0_part148_eq_skeleton]
  unfold k0_part148_skel
  repeat' with_reducible first
    | exact k_load
    | exact k_store
    | exact k_pure _
    | refine k_bind ?_ (fun _ => ?_)
    | split

theorem keeps_part154 : ∀ x0 x1 x2 x3 x4 x5 x6 x7 x8 x9 x10, K c R (k0_part154 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part154_eq_skeleton]
  unfold k0_part154_skel
  repeat' with_reducible first
    | exact k_load
    | exact k_store
    | exact k_pure _
    | refine k_bind ?_ (fun _ => ?_)
    | split

theorem keeps_part160 : ∀ x0 x1 x2 x3 x4 x5 x6 x7 x8 x9 x10, K c R (k0_part160 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part160_eq_skeleton]
  unfold k0_part160_skel
  repeat' with_reducible first
    | exact k_load
    | exact k_store
    | exact k_pure _
    | refine k_bind ?_ (fun _ => ?_)
    | split

theorem keeps_part166 : ∀ x0 x1 x2 x3 x4 x5 x6 x7 x8 x9 x10 x11, K c R (k0_part166 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part166_eq_skeleton]
  unfold k0_part166_skel
  repeat' with_reducible first
    | exact k_load
    | exact k_store
    | exact k_pure _
    | refine k_bind ?_ (fun _ => ?_)
    | split

theorem keeps_part172 : ∀ x0 x1 x2 x3 x4 x5 x6 x7 x8 x9, K c R (k0_part172 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9) := by
  intro _ _ _ _ _ _ _ _ _ _
  rw [k0_part172_eq_skeleton]
  unfold k0_part172_skel
  repeat' with_reducible first
    | exact k_load
    | exact k_store
    | exact k_pure _
    | refine k_bind ?_ (fun _ => ?_)
    | split

theorem keeps_part178 : ∀ x0 x1 x2 x3 x4 x5 x6 x7 x8 x9 x10, K c R (k0_part178 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part178_eq_skeleton]
  unfold k0_part178_skel
  repeat' with_reducible first
    | exact k_load
    | exact k_store
    | exact k_pure _
    | refine k_bind ?_ (fun _ => ?_)
    | split

theorem keeps_t14 : ∀ x0 x1 x2 x3 x4 k acc, K c R (k0_t14_body i m2 h2 m3 h3 m4 h4 m5 h5 m6 h6 m7 h7 m8 h8 m9 h9 m10 h10 m11 h11 m12 h12 m13 h13 m14 h14 m15 h15 m16 h16 m17 h17 x0 x1 x2 x3 x4 k acc) := by
  intro _ _ _ _ _ _ _
  unfold k0_t14_body
  repeat' with_reducible first
    | exact k_load
    | exact k_store
    | exact k_pure _
    | refine k_bind ?_ (fun _ => ?_)
    | split

theorem keeps_t10 : ∀ x0 x1 x2 x3 x4 x5 x6 x7 k acc, K c R (k0_t10_body i m2 h2 m3 h3 m4 h4 m5 h5 m6 h6 m7 h7 m8 h8 m9 h9 m10 h10 m11 h11 m12 h12 m13 h13 m14 h14 m15 h15 m16 h16 m17 h17 x0 x1 x2 x3 x4 x5 x6 x7 k acc) := by
  intro _ _ _ _ _ _ _ _ _ _
  unfold k0_t10_body
  repeat' with_reducible first
    | exact k_load
    | exact k_store
    | exact k_pure _
    | refine k_bind ?_ (fun _ => ?_)
    | split

theorem keeps_t22 : ∀ x0 x1 x2 x3 x4 k acc, K c R (k0_t22_body i m2 h2 m3 h3 m4 h4 m5 h5 m6 h6 m7 h7 m8 h8 m9 h9 m10 h10 m11 h11 m12 h12 m13 h13 m14 h14 m15 h15 m16 h16 m17 h17 x0 x1 x2 x3 x4 k acc) := by
  intro _ _ _ _ _ _ _
  unfold k0_t22_body
  repeat' with_reducible first
    | exact k_load
    | exact k_store
    | exact k_pure _
    | refine k_bind ?_ (fun _ => ?_)
    | split

theorem keeps_part226 : ∀ x0 x1 x2 x3 x4 x5 x6, K c R (k0_part226 i m2 h2 m3 h3 m4 h4 m5 h5 m6 h6 m7 h7 m8 h8 m9 h9 m10 h10 m11 h11 m12 h12 m13 h13 m14 h14 m15 h15 m16 h16 m17 h17 x0 x1 x2 x3 x4 x5 x6) := by
  intro _ _ _ _ _ _ _
  rw [k0_part226_eq_skeleton]
  unfold k0_part226_skel
  repeat' with_reducible first
    | exact k_load
    | exact k_store
    | exact k_pure _
    | refine k_bind ?_ (fun _ => ?_)
    | split

theorem keeps_t34 : ∀ x0 x1 x2 x3 x4 x5 x6 x7 x8 k acc, K c R (k0_t34_body i m2 h2 m3 h3 m4 h4 m5 h5 m6 h6 m7 h7 m8 h8 m9 h9 m10 h10 m11 h11 m12 h12 m13 h13 m14 h14 m15 h15 m16 h16 m17 h17 x0 x1 x2 x3 x4 x5 x6 x7 x8 k acc) := by
  intro _ _ _ _ _ _ _ _ _ _ _
  unfold k0_t34_body
  repeat' with_reducible first
    | exact k_load
    | exact k_store
    | exact k_pure _
    | refine k_bind ?_ (fun _ => ?_)
    | split

theorem keeps_part232 : ∀ x0 x1 x2 x3 x4 x5 x6, K c R (k0_part232 i m2 h2 m3 h3 m4 h4 m5 h5 m6 h6 m7 h7 m8 h8 m9 h9 m10 h10 m11 h11 m12 h12 m13 h13 m14 h14 m15 h15 m16 h16 m17 h17 x0 x1 x2 x3 x4 x5 x6) := by
  intro _ _ _ _ _ _ _
  rw [k0_part232_eq_skeleton]
  unfold k0_part232_skel
  repeat' with_reducible first
    | exact k_load
    | exact k_store
    | exact k_pure _
    | refine k_bind ?_ (fun _ => ?_)
    | split

theorem keeps_t46 : ∀ x0 x1 k acc, K c R (k0_t46_body i m2 h2 m3 h3 m4 h4 m5 h5 m6 h6 m7 h7 m8 h8 m9 h9 m10 h10 m11 h11 m12 h12 m13 h13 m14 h14 m15 h15 m16 h16 m17 h17 x0 x1 k acc) := by
  intro _ _ _ _
  unfold k0_t46_body
  repeat' with_reducible first
    | exact k_load
    | exact k_store
    | exact k_pure _
    | refine k_bind ?_ (fun _ => ?_)
    | split

end Cert.Proof.KernelKeeps

end
-- ==== Proof.Keeps2.lean ====
/- The walk along the kernel's text: each part of the body keeps the kernel's buffers (Keep.lean). -/
module

public import proofs.«01_k».proof.Proof.Gen.Kernel.Skeleton
public import proofs.«01_k».proof.Proof.Keep
public import Idealize.ShloMosaic.Lib.Pipeline.FrameBody
public import proofs.«01_k».proof.Proof.KeepsBase

@[expose] public section

noncomputable section

namespace Cert.Proof.KernelKeeps

open Idealize.ShloMosaic Idealize.ShloMosaic.TcCoe
open Idealize.SL Idealize.SL.RA Idealize.SL.BI Idealize.SL.Sem
open Cert.Kernel Cert.Kernel.Gen Cert.Proof.Keep

variable {F : FTy → Type} [BitOps F] {c : Dev nD} {R : sProp (MT nD τ sig Unit (Elt F) ℕ (UR sig nD τ) ℕ)}

variable (i : grid0.Coords)
  (m2 : Memref sig .tc .vmem S1x256x512 .bf16) (h2 : m2.IsWhole)
  (m3 : Memref sig .tc .vmem S1x8x512 .f32) (h3 : m3.IsWhole)
  (m4 : Memref sig .tc .vmem S1x4096x32 .bf16) (h4 : m4.IsWhole)
  (m5 : Memref sig .tc .vmem S1x384x512 .bf16) (h5 : m5.IsWhole)
  (m6 : Memref sig .tc .vmem S1x4096x64 .bf16) (h6 : m6.IsWhole)
  (m7 : Memref sig .tc .vmem S1x64x4096 .bf16) (h7 : m7.IsWhole)
  (m8 : Memref sig .tc .vmem S1x512x384 .bf16) (h8 : m8.IsWhole)
  (m9 : Memref sig .tc .vmem S4096x512 .i32) (h9 : m9.IsWhole)
  (m10 : Memref sig .tc .vmem S32x128x512 .i32) (h10 : m10.IsWhole)
  (m11 : Memref sig .tc .vmem S128x512 .i32) (h11 : m11.IsWhole)
  (m12 : Memref sig .tc .vmem S4096x512 .f32) (h12 : m12.IsWhole)
  (m13 : Memref sig .tc .vmem S4096x512 .f32) (h13 : m13.IsWhole)
  (m14 : Memref sig .tc .vmem S384x512 .f32) (h14 : m14.IsWhole)
  (m15 : Memref sig .tc .vmem S1x512 .i32) (h15 : m15.IsWhole)
  (m16 : Memref sig .tc .vmem S1x512 .i32) (h16 : m16.IsWhole)
  (m17 : Memref sig .tc .smem S1 .i32) (h17 : m17.IsWhole)
variable [KReads (F := F) c R m2]
variable [KReads (F := F) c R m3]
variable [KReads (F := F) c R m4]
variable [KReads (F := F) c R m5]
variable [KReads (F := F) c R m6]
variable [KReads (F := F) c R m7]
variable [KReads (F := F) c R m8]
variable [KWrites (F := F) c R m8]
variable [KReads (F := F) c R m9]
variable [KWrites (F := F) c R m9]
variable [KReads (F := F) c R m10]
variable [KWrites (F := F) c R m10]
variable [KReads (F := F) c R m11]
variable [KWrites (F := F) c R m11]
variable [KReads (F := F) c R m12]
variable [KWrites (F := F) c R m12]
variable [KReads (F := F) c R m13]
variable [KWrites (F := F) c R m13]
variable [KReads (F := F) c R m14]
variable [KWrites (F := F) c R m14]
variable [KReads (F := F) c R m15]
variable [KWrites (F := F) c R m15]
variable [KReads (F := F) c R m16]
variable [KWrites (F := F) c R m16]
variable [KReads (F := F) c R m17]
variable [KWrites (F := F) c R m17]

theorem keeps_part11 : ∀ x0 x1 x2, K c R (k0_part11 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part11_eq_skeleton]
  unfold k0_part11_skel
  repeat' with_reducible first
    | exact k_load
    | exact k_store
    | exact k_pure _
    | refine k_bind ?_ (fun _ => ?_)
    | split

theorem keeps_part6 : ∀ x0 x1 x2 x3 x4 x5, K c R (k0_part6 i m2 h2 m3 h3 m4 h4 m5 h5 m6 h6 m7 h7 m8 h8 m9 h9 m10 h10 m11 h11 m12 h12 m13 h13 m14 h14 m15 h15 m16 h16 m17 h17 x0 x1 x2 x3 x4 x5) := by
  intro _ _ _ _ _ _
  rw [k0_part6_eq_skeleton]
  unfold k0_part6_skel
  repeat' with_reducible first
    | exact k_load
    | exact k_store
    | exact k_pure _
    | refine k_bind ?_ (fun _ => ?_)
    | split

theorem keeps_part14 : ∀ x0 x1 x2 x3 x4 x5 x6, K c R (k0_part14 i m2 h2 m3 h3 m4 h4 m5 h5 m6 h6 m7 h7 m8 h8 m9 h9 m10 h10 m11 h11 m12 h12 m13 h13 m14 h14 m15 h15 m16 h16 m17 h17 x0 x1 x2 x3 x4 x5 x6) := by
  intro _ _ _ _ _ _ _
  rw [k0_part14_eq_skeleton]
  unfold k0_part14_skel
  repeat' with_reducible first
    | exact k_load
    | exact k_store
    | exact k_pure _
    | refine k_bind ?_ (fun _ => ?_)
    | split

theorem keeps_part20 : ∀ x0 x1 x2 x3 x4 x5, K c R (k0_part20 i m2 h2 m3 h3 m4 h4 m5 h5 m6 h6 m7 h7 m8 h8 m9 h9 m10 h10 m11 h11 m12 h12 m13 h13 m14 h14 m15 h15 m16 h16 m17 h17 x0 x1 x2 x3 x4 x5) := by
  intro _ _ _ _ _ _
  rw [k0_part20_eq_skeleton]
  unfold k0_part20_skel
  repeat' with_reducible first
    | exact k_load
    | exact k_store
    | exact k_pure _
    | refine k_bind ?_ (fun _ => ?_)
    | split

theorem keeps_part238 : ∀ x0 x1 x2 x3 x4 x5 x6 x7 x8, K c R (k0_part238 i m2 h2 m3 h3 m4 h4 m5 h5 m6 h6 m7 h7 m8 h8 m9 h9 m10 h10 m11 h11 m12 h12 m13 h13 m14 h14 m15 h15 m16 h16 m17 h17 x0 x1 x2 x3 x4 x5 x6 x7 x8) := by
  intro _ _ _ _ _ _ _ _ _
  rw [k0_part238_eq_skeleton]
  unfold k0_part238_skel
  repeat' with_reducible first
    | exact k_load
    | exact k_store
    | exact k_pure _
    | refine k_bind ?_ (fun _ => ?_)
    | split

theorem keeps_part244 : ∀ x0 x1 x2, K c R (k0_part244 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part244_eq_skeleton]
  unfold k0_part244_skel
  repeat' with_reducible first
    | exact k_load
    | exact k_store
    | exact k_pure _
    | refine k_bind ?_ (fun _ => ?_)
    | split

theorem keeps_t3 : ∀ x0 x1 x2 x3 x4 x5 x6 x7 k acc, K c R (k0_t3_body i m2 h2 m3 h3 m4 h4 m5 h5 m6 h6 m7 h7 m8 h8 m9 h9 m10 h10 m11 h11 m12 h12 m13 h13 m14 h14 m15 h15 m16 h16 m17 h17 x0 x1 x2 x3 x4 x5 x6 x7 k acc) := by
  intro _ _ _ _ _ _ _ _ _ _
  unfold k0_t3_body
  repeat' with_reducible first
    | exact k_load
    | exact k_store
    | exact k_pure _
    | refine k_bind ?_ (fun _ => ?_)
    | split

theorem keeps_part105 : ∀ x0 x1 x2 x3 x4 x5 x6 x7 x8 x9 x10, K c R (k0_part105 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part105_eq_skeleton]
  unfold k0_part105_skel
  repeat' with_reducible first
    | exact k_load
    | exact k_store
    | exact k_pure _
    | refine k_bind ?_ (fun _ => ?_)
    | split

theorem keeps_part111 : ∀ x0 x1 x2 x3 x4 x5 x6 x7 x8 x9 x10, K c R (k0_part111 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part111_eq_skeleton]
  unfold k0_part111_skel
  repeat' with_reducible first
    | exact k_load
    | exact k_store
    | exact k_pure _
    | refine k_bind ?_ (fun _ => ?_)
    | split

theorem keeps_part117 : ∀ x0 x1 x2 x3 x4 x5 x6 x7 x8 x9 x10 x11, K c R (k0_part117 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part117_eq_skeleton]
  unfold k0_part117_skel
  repeat' with_reducible first
    | exact k_load
    | exact k_store
    | exact k_pure _
    | refine k_bind ?_ (fun _ => ?_)
    | split

theorem keeps_part27 : ∀ x0 x1 x2 x3 x4 x5 x6 x7 x8 x9, K c R (k0_part27 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9) := by
  intro _ _ _ _ _ _ _ _ _ _
  rw [k0_part27_eq_skeleton]
  unfold k0_part27_skel
  repeat' with_reducible first
    | exact k_load
    | exact k_store
    | exact k_pure _
    | refine k_bind ?_ (fun _ => ?_)
    | split

theorem keeps_part33 : ∀ x0 x1 x2 x3 x4 x5 x6 x7 x8 x9 x10, K c R (k0_part33 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part33_eq_skeleton]
  unfold k0_part33_skel
  repeat' with_reducible first
    | exact k_load
    | exact k_store
    | exact k_pure _
    | refine k_bind ?_ (fun _ => ?_)
    | split

theorem keeps_part39 : ∀ x0 x1 x2 x3 x4 x5 x6 x7 x8 x9 x10, K c R (k0_part39 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part39_eq_skeleton]
  unfold k0_part39_skel
  repeat' with_reducible first
    | exact k_load
    | exact k_store
    | exact k_pure _
    | refine k_bind ?_ (fun _ => ?_)
    | split

theorem keeps_part45 : ∀ x0 x1 x2 x3 x4 x5 x6 x7 x8 x9 x10 x11, K c R (k0_part45 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part45_eq_skeleton]
  unfold k0_part45_skel
  repeat' with_reducible first
    | exact k_load
    | exact k_store
    | exact k_pure _
    | refine k_bind ?_ (fun _ => ?_)
    | split

theorem keeps_part51 : ∀ x0 x1 x2 x3 x4 x5 x6 x7 x8 x9, K c R (k0_part51 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9) := by
  intro _ _ _ _ _ _ _ _ _ _
  rw [k0_part51_eq_skeleton]
  unfold k0_part51_skel
  repeat' with_reducible first
    | exact k_load
    | exact k_store
    | exact k_pure _
    | refine k_bind ?_ (fun _ => ?_)
    | split

theorem keeps_part57 : ∀ x0 x1 x2 x3 x4 x5 x6 x7 x8 x9 x10, K c R (k0_part57 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part57_eq_skeleton]
  unfold k0_part57_skel
  repeat' with_reducible first
    | exact k_load
    | exact k_store
    | exact k_pure _
    | refine k_bind ?_ (fun _ => ?_)
    | split

theorem keeps_part63 : ∀ x0 x1 x2 x3 x4 x5 x6 x7 x8 x9 x10, K c R (k0_part63 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part63_eq_skeleton]
  unfold k0_part63_skel
  repeat' with_reducible first
    | exact k_load
    | exact k_store
    | exact k_pure _
    | refine k_bind ?_ (fun _ => ?_)
    | split

theorem keeps_part69 : ∀ x0 x1 x2 x3 x4 x5 x6 x7 x8 x9 x10 x11, K c R (k0_part69 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part69_eq_skeleton]
  unfold k0_part69_skel
  repeat' with_reducible first
    | exact k_load
    | exact k_store
    | exact k_pure _
    | refine k_bind ?_ (fun _ => ?_)
    | split

theorem keeps_part75 : ∀ x0 x1 x2 x3 x4 x5 x6 x7 x8 x9, K c R (k0_part75 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9) := by
  intro _ _ _ _ _ _ _ _ _ _
  rw [k0_part75_eq_skeleton]
  unfold k0_part75_skel
  repeat' with_reducible first
    | exact k_load
    | exact k_store
    | exact k_pure _
    | refine k_bind ?_ (fun _ => ?_)
    | split

theorem keeps_part81 : ∀ x0 x1 x2 x3 x4 x5 x6 x7 x8 x9 x10, K c R (k0_part81 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part81_eq_skeleton]
  unfold k0_part81_skel
  repeat' with_reducible first
    | exact k_load
    | exact k_store
    | exact k_pure _
    | refine k_bind ?_ (fun _ => ?_)
    | split

theorem keeps_part87 : ∀ x0 x1 x2 x3 x4 x5 x6 x7 x8 x9 x10, K c R (k0_part87 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part87_eq_skeleton]
  unfold k0_part87_skel
  repeat' with_reducible first
    | exact k_load
    | exact k_store
    | exact k_pure _
    | refine k_bind ?_ (fun _ => ?_)
    | split

theorem keeps_part93 : ∀ x0 x1 x2 x3 x4 x5 x6 x7 x8 x9 x10 x11, K c R (k0_part93 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part93_eq_skeleton]
  unfold k0_part93_skel
  repeat' with_reducible first
    | exact k_load
    | exact k_store
    | exact k_pure _
    | refine k_bind ?_ (fun _ => ?_)
    | split

theorem keeps_part99 : ∀ x0 x1 x2 x3 x4 x5 x6 x7 x8 x9, K c R (k0_part99 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9) := by
  intro _ _ _ _ _ _ _ _ _ _
  rw [k0_part99_eq_skeleton]
  unfold k0_part99_skel
  repeat' with_reducible first
    | exact k_load
    | exact k_store
    | exact k_pure _
    | refine k_bind ?_ (fun _ => ?_)
    | split

theorem keeps_part185 : ∀ x0 x1 x2 x3 x4 x5 x6 x7 x8 x9 x10, K c R (k0_part185 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part185_eq_skeleton]
  unfold k0_part185_skel
  repeat' with_reducible first
    | exact k_load
    | exact k_store
    | exact k_pure _
    | refine k_bind ?_ (fun _ => ?_)
    | split

theorem keeps_part191 : ∀ x0 x1 x2 x3 x4 x5 x6 x7 x8 x9 x10 x11, K c R (k0_part191 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part191_eq_skeleton]
  unfold k0_part191_skel
  repeat' with_reducible first
    | exact k_load
    | exact k_store
    | exact k_pure _
    | refine k_bind ?_ (fun _ => ?_)
    | split

theorem keeps_part197 : ∀ x0 x1 x2 x3 x4 x5 x6 x7 x8 x9 x10, K c R (k0_part197 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part197_eq_skeleton]
  unfold k0_part197_skel
  repeat' with_reducible first
    | exact k_load
    | exact k_store
    | exact k_pure _
    | refine k_bind ?_ (fun _ => ?_)
    | split

theorem keeps_part203 : ∀ x0 x1 x2 x3 x4 x5 x6 x7 x8 x9 x10, K c R (k0_part203 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part203_eq_skeleton]
  unfold k0_part203_skel
  repeat' with_reducible first
    | exact k_load
    | exact k_store
    | exact k_pure _
    | refine k_bind ?_ (fun _ => ?_)
    | split

theorem keeps_part209 : ∀ x0 x1 x2 x3 x4 x5 x6 x7 x8 x9 x10, K c R (k0_part209 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part209_eq_skeleton]
  unfold k0_part209_skel
  repeat' with_reducible first
    | exact k_load
    | exact k_store
    | exact k_pure _
    | refine k_bind ?_ (fun _ => ?_)
    | split

theorem keeps_part215 : ∀ x0 x1 x2 x3 x4 x5 x6 x7 x8 x9 x10 x11, K c R (k0_part215 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part215_eq_skeleton]
  unfold k0_part215_skel
  repeat' with_reducible first
    | exact k_load
    | exact k_store
    | exact k_pure _
    | refine k_bind ?_ (fun _ => ?_)
    | split

theorem keeps_part125 : ∀ x0 x1 x2 x3 x4 x5 x6 x7 x8 x9 x10, K c R (k0_part125 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part125_eq_skeleton]
  unfold k0_part125_skel
  repeat' with_reducible first
    | exact k_load
    | exact k_store
    | exact k_pure _
    | refine k_bind ?_ (fun _ => ?_)
    | split

theorem keeps_part131 : ∀ x0 x1 x2 x3 x4 x5 x6 x7 x8 x9 x10, K c R (k0_part131 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part131_eq_skeleton]
  unfold k0_part131_skel
  repeat' with_reducible first
    | exact k_load
    | exact k_store
    | exact k_pure _
    | refine k_bind ?_ (fun _ => ?_)
    | split

theorem keeps_part137 : ∀ x0 x1 x2 x3 x4 x5 x6 x7 x8 x9 x10, K c R (k0_part137 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part137_eq_skeleton]
  unfold k0_part137_skel
  repeat' with_reducible first
    | exact k_load
    | exact k_store
    | exact k_pure _
    | refine k_bind ?_ (fun _ => ?_)
    | split

theorem keeps_part143 : ∀ x0 x1 x2 x3 x4 x5 x6 x7 x8 x9 x10 x11, K c R (k0_part143 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part143_eq_skeleton]
  unfold k0_part143_skel
  repeat' with_reducible first
    | exact k_load
    | exact k_store
    | exact k_pure _
    | refine k_bind ?_ (fun _ => ?_)
    | split

theorem keeps_part149 : ∀ x0 x1 x2 x3 x4 x5 x6 x7 x8 x9 x10, K c R (k0_part149 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part149_eq_skeleton]
  unfold k0_part149_skel
  repeat' with_reducible first
    | exact k_load
    | exact k_store
    | exact k_pure _
    | refine k_bind ?_ (fun _ => ?_)
    | split

theorem keeps_part155 : ∀ x0 x1 x2 x3 x4 x5 x6 x7 x8 x9 x10, K c R (k0_part155 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part155_eq_skeleton]
  unfold k0_part155_skel
  repeat' with_reducible first
    | exact k_load
    | exact k_store
    | exact k_pure _
    | refine k_bind ?_ (fun _ => ?_)
    | split

theorem keeps_part161 : ∀ x0 x1 x2 x3 x4 x5 x6 x7 x8 x9 x10, K c R (k0_part161 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part161_eq_skeleton]
  unfold k0_part161_skel
  repeat' with_reducible first
    | exact k_load
    | exact k_store
    | exact k_pure _
    | refine k_bind ?_ (fun _ => ?_)
    | split

theorem keeps_part167 : ∀ x0 x1 x2 x3 x4 x5 x6 x7 x8 x9 x10 x11, K c R (k0_part167 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part167_eq_skeleton]
  unfold k0_part167_skel
  repeat' with_reducible first
    | exact k_load
    | exact k_store
    | exact k_pure _
    | refine k_bind ?_ (fun _ => ?_)
    | split

theorem keeps_part173 : ∀ x0 x1 x2 x3 x4 x5 x6 x7 x8 x9 x10, K c R (k0_part173 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part173_eq_skeleton]
  unfold k0_part173_skel
  repeat' with_reducible first
    | exact k_load
    | exact k_store
    | exact k_pure _
    | refine k_bind ?_ (fun _ => ?_)
    | split

theorem keeps_part179 : ∀ x0 x1 x2 x3 x4 x5 x6 x7 x8 x9 x10, K c R (k0_part179 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part179_eq_skeleton]
  unfold k0_part179_skel
  repeat' with_reducible first
    | exact k_load
    | exact k_store
    | exact k_pure _
    | refine k_bind ?_ (fun _ => ?_)
    | split

theorem keeps_t15 : ∀ x0 x1 x2 x3 x4 k acc, K c R (k0_t15_body i m2 h2 m3 h3 m4 h4 m5 h5 m6 h6 m7 h7 m8 h8 m9 h9 m10 h10 m11 h11 m12 h12 m13 h13 m14 h14 m15 h15 m16 h16 m17 h17 x0 x1 x2 x3 x4 k acc) := by
  intro _ _ _ _ _ _ _
  unfold k0_t15_body
  repeat' with_reducible first
    | exact k_load
    | exact k_store
    | exact k_pure _
    | refine k_bind ?_ (fun _ => ?_)
    | split

theorem keeps_t11 : ∀ x0 x1 x2 x3 x4 x5 x6 x7 k acc, K c R (k0_t11_body i m2 h2 m3 h3 m4 h4 m5 h5 m6 h6 m7 h7 m8 h8 m9 h9 m10 h10 m11 h11 m12 h12 m13 h13 m14 h14 m15 h15 m16 h16 m17 h17 x0 x1 x2 x3 x4 x5 x6 x7 k acc) := by
  intro _ _ _ _ _ _ _ _ _ _
  unfold k0_t11_body
  repeat' with_reducible first
    | exact k_load
    | exact k_store
    | exact k_pure _
    | refine k_bind ?_ (fun _ => ?_)
    | split

theorem keeps_t23 : ∀ x0 x1 x2 x3 x4 k acc, K c R (k0_t23_body i m2 h2 m3 h3 m4 h4 m5 h5 m6 h6 m7 h7 m8 h8 m9 h9 m10 h10 m11 h11 m12 h12 m13 h13 m14 h14 m15 h15 m16 h16 m17 h17 x0 x1 x2 x3 x4 k acc) := by
  intro _ _ _ _ _ _ _
  unfold k0_t23_body
  repeat' with_reducible first
    | exact k_load
    | exact k_store
    | exact k_pure _
    | refine k_bind ?_ (fun _ => ?_)
    | split

theorem keeps_part227 : ∀ x0 x1 x2 x3 x4 x5 x6, K c R (k0_part227 i m2 h2 m3 h3 m4 h4 m5 h5 m6 h6 m7 h7 m8 h8 m9 h9 m10 h10 m11 h11 m12 h12 m13 h13 m14 h14 m15 h15 m16 h16 m17 h17 x0 x1 x2 x3 x4 x5 x6) := by
  intro _ _ _ _ _ _ _
  rw [k0_part227_eq_skeleton]
  unfold k0_part227_skel
  repeat' with_reducible first
    | exact k_load
    | exact k_store
    | exact k_pure _
    | refine k_bind ?_ (fun _ => ?_)
    | split

theorem keeps_t35 : ∀ x0 x1 x2 x3 x4 x5 x6 x7 x8 k acc, K c R (k0_t35_body i m2 h2 m3 h3 m4 h4 m5 h5 m6 h6 m7 h7 m8 h8 m9 h9 m10 h10 m11 h11 m12 h12 m13 h13 m14 h14 m15 h15 m16 h16 m17 h17 x0 x1 x2 x3 x4 x5 x6 x7 x8 k acc) := by
  intro _ _ _ _ _ _ _ _ _ _ _
  unfold k0_t35_body
  repeat' with_reducible first
    | exact k_load
    | exact k_store
    | exact k_pure _
    | refine k_bind ?_ (fun _ => ?_)
    | split

theorem keeps_part233 : ∀ x0 x1 x2 x3 x4 x5 x6, K c R (k0_part233 i m2 h2 m3 h3 m4 h4 m5 h5 m6 h6 m7 h7 m8 h8 m9 h9 m10 h10 m11 h11 m12 h12 m13 h13 m14 h14 m15 h15 m16 h16 m17 h17 x0 x1 x2 x3 x4 x5 x6) := by
  intro _ _ _ _ _ _ _
  rw [k0_part233_eq_skeleton]
  unfold k0_part233_skel
  repeat' with_reducible first
    | exact k_load
    | exact k_store
    | exact k_pure _
    | refine k_bind ?_ (fun _ => ?_)
    | split

theorem keeps_t47 : ∀ x0 x1 k acc, K c R (k0_t47_body i m2 h2 m3 h3 m4 h4 m5 h5 m6 h6 m7 h7 m8 h8 m9 h9 m10 h10 m11 h11 m12 h12 m13 h13 m14 h14 m15 h15 m16 h16 m17 h17 x0 x1 k acc) := by
  intro _ _ _ _
  unfold k0_t47_body
  repeat' with_reducible first
    | exact k_load
    | exact k_store
    | exact k_pure _
    | refine k_bind ?_ (fun _ => ?_)
    | split

end Cert.Proof.KernelKeeps

end
-- ==== Proof.Keeps3.lean ====
/- The walk along the kernel's text: each part of the body keeps the kernel's buffers (Keep.lean). -/
module

public import proofs.«01_k».proof.Proof.Gen.Kernel.Skeleton
public import proofs.«01_k».proof.Proof.Keep
public import Idealize.ShloMosaic.Lib.Pipeline.FrameBody
public import proofs.«01_k».proof.Proof.KeepsBase

@[expose] public section

noncomputable section

namespace Cert.Proof.KernelKeeps

open Idealize.ShloMosaic Idealize.ShloMosaic.TcCoe
open Idealize.SL Idealize.SL.RA Idealize.SL.BI Idealize.SL.Sem
open Cert.Kernel Cert.Kernel.Gen Cert.Proof.Keep

variable {F : FTy → Type} [BitOps F] {c : Dev nD} {R : sProp (MT nD τ sig Unit (Elt F) ℕ (UR sig nD τ) ℕ)}

variable (i : grid0.Coords)
  (m2 : Memref sig .tc .vmem S1x256x512 .bf16) (h2 : m2.IsWhole)
  (m3 : Memref sig .tc .vmem S1x8x512 .f32) (h3 : m3.IsWhole)
  (m4 : Memref sig .tc .vmem S1x4096x32 .bf16) (h4 : m4.IsWhole)
  (m5 : Memref sig .tc .vmem S1x384x512 .bf16) (h5 : m5.IsWhole)
  (m6 : Memref sig .tc .vmem S1x4096x64 .bf16) (h6 : m6.IsWhole)
  (m7 : Memref sig .tc .vmem S1x64x4096 .bf16) (h7 : m7.IsWhole)
  (m8 : Memref sig .tc .vmem S1x512x384 .bf16) (h8 : m8.IsWhole)
  (m9 : Memref sig .tc .vmem S4096x512 .i32) (h9 : m9.IsWhole)
  (m10 : Memref sig .tc .vmem S32x128x512 .i32) (h10 : m10.IsWhole)
  (m11 : Memref sig .tc .vmem S128x512 .i32) (h11 : m11.IsWhole)
  (m12 : Memref sig .tc .vmem S4096x512 .f32) (h12 : m12.IsWhole)
  (m13 : Memref sig .tc .vmem S4096x512 .f32) (h13 : m13.IsWhole)
  (m14 : Memref sig .tc .vmem S384x512 .f32) (h14 : m14.IsWhole)
  (m15 : Memref sig .tc .vmem S1x512 .i32) (h15 : m15.IsWhole)
  (m16 : Memref sig .tc .vmem S1x512 .i32) (h16 : m16.IsWhole)
  (m17 : Memref sig .tc .smem S1 .i32) (h17 : m17.IsWhole)
variable [KReads (F := F) c R m2]
variable [KReads (F := F) c R m3]
variable [KReads (F := F) c R m4]
variable [KReads (F := F) c R m5]
variable [KReads (F := F) c R m6]
variable [KReads (F := F) c R m7]
variable [KReads (F := F) c R m8]
variable [KWrites (F := F) c R m8]
variable [KReads (F := F) c R m9]
variable [KWrites (F := F) c R m9]
variable [KReads (F := F) c R m10]
variable [KWrites (F := F) c R m10]
variable [KReads (F := F) c R m11]
variable [KWrites (F := F) c R m11]
variable [KReads (F := F) c R m12]
variable [KWrites (F := F) c R m12]
variable [KReads (F := F) c R m13]
variable [KWrites (F := F) c R m13]
variable [KReads (F := F) c R m14]
variable [KWrites (F := F) c R m14]
variable [KReads (F := F) c R m15]
variable [KWrites (F := F) c R m15]
variable [KReads (F := F) c R m16]
variable [KWrites (F := F) c R m16]
variable [KReads (F := F) c R m17]
variable [KWrites (F := F) c R m17]

theorem keeps_part1 : ∀ x0 x1 x2, K c R (k0_part1 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part1_eq_skeleton]
  unfold k0_part1_skel
  repeat' with_reducible first
    | exact k_load
    | exact k_store
    | exact k_pure _
    | refine k_bind ?_ (fun _ => ?_)
    | split

theorem keeps_part7 : ∀ x0 x1 x2, K c R (k0_part7 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part7_eq_skeleton]
  unfold k0_part7_skel
  repeat' with_reducible first
    | exact k_load
    | exact k_store
    | exact k_pure _
    | refine k_bind ?_ (fun _ => ?_)
    | split

theorem keeps_part15 : ∀ x0, K c R (k0_part15 i m2 h2 m3 h3 m4 h4 m5 h5 m6 h6 m7 h7 m8 h8 m9 h9 m10 h10 m11 h11 m12 h12 m13 h13 m14 h14 m15 h15 m16 h16 m17 h17 x0) := by
  intro _
  rw [k0_part15_eq_skeleton]
  unfold k0_part15_skel
  repeat' with_reducible first
    | exact k_load
    | exact k_store
    | exact k_pure _
    | refine k_bind ?_ (fun _ => ?_)
    | split

theorem keeps_part21 : ∀ x0 x1 x2, K c R (k0_part21 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part21_eq_skeleton]
  unfold k0_part21_skel
  repeat' with_reducible first
    | exact k_load
    | exact k_store
    | exact k_pure _
    | refine k_bind ?_ (fun _ => ?_)
    | split

theorem keeps_part239 : ∀ x0 x1 x2, K c R (k0_part239 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part239_eq_skeleton]
  unfold k0_part239_skel
  repeat' with_reducible first
    | exact k_load
    | exact k_store
    | exact k_pure _
    | refine k_bind ?_ (fun _ => ?_)
    | split

theorem keeps_part245 : ∀ x0 x1, K c R (k0_part245 i m2 h2 m3 h3 m4 h4 m5 h5 m6 h6 m7 h7 m8 h8 m9 h9 m10 h10 m11 h11 m12 h12 m13 h13 m14 h14 m15 h15 m16 h16 m17 h17 x0 x1) := by
  intro _ _
  rw [k0_part245_eq_skeleton]
  unfold k0_part245_skel
  repeat' with_reducible first
    | exact k_load
    | exact k_store
    | exact k_pure _
    | refine k_bind ?_ (fun _ => ?_)
    | split

theorem keeps_part100 : ∀ x0 x1 x2 x3 x4 x5 x6 x7 x8 x9 x10, K c R (k0_part100 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part100_eq_skeleton]
  unfold k0_part100_skel
  repeat' with_reducible first
    | exact k_load
    | exact k_store
    | exact k_pure _
    | refine k_bind ?_ (fun _ => ?_)
    | split

theorem keeps_part106 : ∀ x0 x1 x2 x3 x4 x5 x6 x7 x8 x9 x10, K c R (k0_part106 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part106_eq_skeleton]
  unfold k0_part106_skel
  repeat' with_reducible first
    | exact k_load
    | exact k_store
    | exact k_pure _
    | refine k_bind ?_ (fun _ => ?_)
    | split

theorem keeps_part112 : ∀ x0 x1 x2 x3 x4 x5 x6 x7 x8 x9 x10, K c R (k0_part112 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part112_eq_skeleton]
  unfold k0_part112_skel
  repeat' with_reducible first
    | exact k_load
    | exact k_store
    | exact k_pure _
    | refine k_bind ?_ (fun _ => ?_)
    | split

theorem keeps_part118 : ∀ x0 x1 x2 x3 x4 x5 x6 x7 x8 x9 x10 x11, K c R (k0_part118 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part118_eq_skeleton]
  unfold k0_part118_skel
  repeat' with_reducible first
    | exact k_load
    | exact k_store
    | exact k_pure _
    | refine k_bind ?_ (fun _ => ?_)
    | split

theorem keeps_part28 : ∀ x0 x1 x2 x3 x4 x5 x6 x7 x8 x9 x10, K c R (k0_part28 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part28_eq_skeleton]
  unfold k0_part28_skel
  repeat' with_reducible first
    | exact k_load
    | exact k_store
    | exact k_pure _
    | refine k_bind ?_ (fun _ => ?_)
    | split

theorem keeps_part34 : ∀ x0 x1 x2 x3 x4 x5 x6 x7 x8 x9 x10, K c R (k0_part34 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part34_eq_skeleton]
  unfold k0_part34_skel
  repeat' with_reducible first
    | exact k_load
    | exact k_store
    | exact k_pure _
    | refine k_bind ?_ (fun _ => ?_)
    | split

theorem keeps_part40 : ∀ x0 x1 x2 x3 x4 x5 x6 x7 x8 x9 x10, K c R (k0_part40 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part40_eq_skeleton]
  unfold k0_part40_skel
  repeat' with_reducible first
    | exact k_load
    | exact k_store
    | exact k_pure _
    | refine k_bind ?_ (fun _ => ?_)
    | split

theorem keeps_part46 : ∀ x0 x1 x2 x3 x4 x5 x6 x7 x8 x9 x10 x11, K c R (k0_part46 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part46_eq_skeleton]
  unfold k0_part46_skel
  repeat' with_reducible first
    | exact k_load
    | exact k_store
    | exact k_pure _
    | refine k_bind ?_ (fun _ => ?_)
    | split

theorem keeps_part52 : ∀ x0 x1 x2 x3 x4 x5 x6 x7 x8 x9 x10, K c R (k0_part52 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part52_eq_skeleton]
  unfold k0_part52_skel
  repeat' with_reducible first
    | exact k_load
    | exact k_store
    | exact k_pure _
    | refine k_bind ?_ (fun _ => ?_)
    | split

theorem keeps_part58 : ∀ x0 x1 x2 x3 x4 x5 x6 x7 x8 x9 x10, K c R (k0_part58 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part58_eq_skeleton]
  unfold k0_part58_skel
  repeat' with_reducible first
    | exact k_load
    | exact k_store
    | exact k_pure _
    | refine k_bind ?_ (fun _ => ?_)
    | split

theorem keeps_part64 : ∀ x0 x1 x2 x3 x4 x5 x6 x7 x8 x9 x10, K c R (k0_part64 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part64_eq_skeleton]
  unfold k0_part64_skel
  repeat' with_reducible first
    | exact k_load
    | exact k_store
    | exact k_pure _
    | refine k_bind ?_ (fun _ => ?_)
    | split

theorem keeps_part70 : ∀ x0 x1 x2 x3 x4 x5 x6 x7 x8 x9 x10 x11, K c R (k0_part70 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part70_eq_skeleton]
  unfold k0_part70_skel
  repeat' with_reducible first
    | exact k_load
    | exact k_store
    | exact k_pure _
    | refine k_bind ?_ (fun _ => ?_)
    | split

theorem keeps_part76 : ∀ x0 x1 x2 x3 x4 x5 x6 x7 x8 x9 x10, K c R (k0_part76 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part76_eq_skeleton]
  unfold k0_part76_skel
  repeat' with_reducible first
    | exact k_load
    | exact k_store
    | exact k_pure _
    | refine k_bind ?_ (fun _ => ?_)
    | split

theorem keeps_part82 : ∀ x0 x1 x2 x3 x4 x5 x6 x7 x8 x9 x10, K c R (k0_part82 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part82_eq_skeleton]
  unfold k0_part82_skel
  repeat' with_reducible first
    | exact k_load
    | exact k_store
    | exact k_pure _
    | refine k_bind ?_ (fun _ => ?_)
    | split

theorem keeps_part88 : ∀ x0 x1 x2 x3 x4 x5 x6 x7 x8 x9 x10, K c R (k0_part88 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part88_eq_skeleton]
  unfold k0_part88_skel
  repeat' with_reducible first
    | exact k_load
    | exact k_store
    | exact k_pure _
    | refine k_bind ?_ (fun _ => ?_)
    | split

theorem keeps_part94 : ∀ x0 x1 x2 x3 x4 x5 x6 x7 x8 x9 x10 x11, K c R (k0_part94 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part94_eq_skeleton]
  unfold k0_part94_skel
  repeat' with_reducible first
    | exact k_load
    | exact k_store
    | exact k_pure _
    | refine k_bind ?_ (fun _ => ?_)
    | split

theorem keeps_part180 : ∀ x0 x1 x2 x3 x4 x5 x6 x7 x8 x9 x10, K c R (k0_part180 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part180_eq_skeleton]
  unfold k0_part180_skel
  repeat' with_reducible first
    | exact k_load
    | exact k_store
    | exact k_pure _
    | refine k_bind ?_ (fun _ => ?_)
    | split

theorem keeps_part186 : ∀ x0 x1 x2 x3 x4 x5 x6 x7 x8 x9 x10, K c R (k0_part186 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part186_eq_skeleton]
  unfold k0_part186_skel
  repeat' with_reducible first
    | exact k_load
    | exact k_store
    | exact k_pure _
    | refine k_bind ?_ (fun _ => ?_)
    | split

theorem keeps_part192 : ∀ x0 x1 x2 x3 x4, K c R (k0_part192 i m2 h2 m3 h3 m4 h4 m5 h5 m6 h6 m7 h7 m8 h8 m9 h9 m10 h10 m11 h11 m12 h12 m13 h13 m14 h14 m15 h15 m16 h16 m17 h17 x0 x1 x2 x3 x4) := by
  intro _ _ _ _ _
  rw [k0_part192_eq_skeleton]
  unfold k0_part192_skel
  repeat' with_reducible first
    | exact k_load
    | exact k_store
    | exact k_pure _
    | refine k_bind ?_ (fun _ => ?_)
    | split

theorem keeps_part198 : ∀ x0 x1 x2 x3 x4 x5 x6 x7 x8 x9 x10, K c R (k0_part198 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part198_eq_skeleton]
  unfold k0_part198_skel
  repeat' with_reducible first
    | exact k_load
    | exact k_store
    | exact k_pure _
    | refine k_bind ?_ (fun _ => ?_)
    | split

theorem keeps_part204 : ∀ x0 x1 x2 x3 x4 x5 x6 x7 x8 x9 x10, K c R (k0_part204 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part204_eq_skeleton]
  unfold k0_part204_skel
  repeat' with_reducible first
    | exact k_load
    | exact k_store
    | exact k_pure _
    | refine k_bind ?_ (fun _ => ?_)
    | split

theorem keeps_part210 : ∀ x0 x1 x2 x3 x4 x5 x6 x7 x8 x9 x10, K c R (k0_part210 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part210_eq_skeleton]
  unfold k0_part210_skel
  repeat' with_reducible first
    | exact k_load
    | exact k_store
    | exact k_pure _
    | refine k_bind ?_ (fun _ => ?_)
    | split

theorem keeps_part120 : ∀ x0 x1 x2 x3, K c R (k0_part120 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part120_eq_skeleton]
  unfold k0_part120_skel
  repeat' with_reducible first
    | exact k_load
    | exact k_store
    | exact k_pure _
    | refine k_bind ?_ (fun _ => ?_)
    | split

theorem keeps_part126 : ∀ x0 x1 x2 x3 x4 x5 x6 x7 x8 x9 x10, K c R (k0_part126 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part126_eq_skeleton]
  unfold k0_part126_skel
  repeat' with_reducible first
    | exact k_load
    | exact k_store
    | exact k_pure _
    | refine k_bind ?_ (fun _ => ?_)
    | split

theorem keeps_part132 : ∀ x0 x1 x2 x3 x4 x5 x6 x7 x8 x9 x10, K c R (k0_part132 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part132_eq_skeleton]
  unfold k0_part132_skel
  repeat' with_reducible first
    | exact k_load
    | exact k_store
    | exact k_pure _
    | refine k_bind ?_ (fun _ => ?_)
    | split

theorem keeps_part138 : ∀ x0 x1 x2 x3 x4 x5 x6 x7 x8 x9 x10, K c R (k0_part138 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part138_eq_skeleton]
  unfold k0_part138_skel
  repeat' with_reducible first
    | exact k_load
    | exact k_store
    | exact k_pure _
    | refine k_bind ?_ (fun _ => ?_)
    | split

theorem keeps_part144 : ∀ x0 x1 x2 x3 x4, K c R (k0_part144 i m2 h2 m3 h3 m4 h4 m5 h5 m6 h6 m7 h7 m8 h8 m9 h9 m10 h10 m11 h11 m12 h12 m13 h13 m14 h14 m15 h15 m16 h16 m17 h17 x0 x1 x2 x3 x4) := by
  intro _ _ _ _ _
  rw [k0_part144_eq_skeleton]
  unfold k0_part144_skel
  repeat' with_reducible first
    | exact k_load
    | exact k_store
    | exact k_pure _
    | refine k_bind ?_ (fun _ => ?_)
    | split

theorem keeps_part150 : ∀ x0 x1 x2 x3 x4 x5 x6 x7 x8 x9 x10, K c R (k0_part150 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part150_eq_skeleton]
  unfold k0_part150_skel
  repeat' with_reducible first
    | exact k_load
    | exact k_store
    | exact k_pure _
    | refine k_bind ?_ (fun _ => ?_)
    | split

theorem keeps_part156 : ∀ x0 x1 x2 x3 x4 x5 x6 x7 x8 x9 x10, K c R (k0_part156 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part156_eq_skeleton]
  unfold k0_part156_skel
  repeat' with_reducible first
    | exact k_load
    | exact k_store
    | exact k_pure _
    | refine k_bind ?_ (fun _ => ?_)
    | split

theorem keeps_part162 : ∀ x0 x1 x2 x3 x4 x5 x6 x7 x8 x9 x10, K c R (k0_part162 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part162_eq_skeleton]
  unfold k0_part162_skel
  repeat' with_reducible first
    | exact k_load
    | exact k_store
    | exact k_pure _
    | refine k_bind ?_ (fun _ => ?_)
    | split

theorem keeps_part168 : ∀ x0 x1 x2 x3 x4, K c R (k0_part168 i m2 h2 m3 h3 m4 h4 m5 h5 m6 h6 m7 h7 m8 h8 m9 h9 m10 h10 m11 h11 m12 h12 m13 h13 m14 h14 m15 h15 m16 h16 m17 h17 x0 x1 x2 x3 x4) := by
  intro _ _ _ _ _
  rw [k0_part168_eq_skeleton]
  unfold k0_part168_skel
  repeat' with_reducible first
    | exact k_load
    | exact k_store
    | exact k_pure _
    | refine k_bind ?_ (fun _ => ?_)
    | split

theorem keeps_part174 : ∀ x0 x1 x2 x3 x4 x5 x6 x7 x8 x9 x10, K c R (k0_part174 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part174_eq_skeleton]
  unfold k0_part174_skel
  repeat' with_reducible first
    | exact k_load
    | exact k_store
    | exact k_pure _
    | refine k_bind ?_ (fun _ => ?_)
    | split

theorem keeps_t6 : ∀ x0 x1 x2 k acc, K c R (k0_t6_body i m2 h2 m3 h3 m4 h4 m5 h5 m6 h6 m7 h7 m8 h8 m9 h9 m10 h10 m11 h11 m12 h12 m13 h13 m14 h14 m15 h15 m16 h16 m17 h17 x0 x1 x2 k acc) := by
  intro _ _ _ _ _
  unfold k0_t6_body
  repeat' with_reducible first
    | exact k_load
    | exact k_store
    | exact k_pure _
    | refine k_bind ?_ (fun _ => ?_)
    | split

theorem keeps_part220 : ∀ x0 x1 x2 x3 x4, K c R (k0_part220 i m2 h2 m3 h3 m4 h4 m5 h5 m6 h6 m7 h7 m8 h8 m9 h9 m10 h10 m11 h11 m12 h12 m13 h13 m14 h14 m15 h15 m16 h16 m17 h17 x0 x1 x2 x3 x4) := by
  intro _ _ _ _ _
  rw [k0_part220_eq_skeleton]
  unfold k0_part220_skel
  repeat' with_reducible first
    | exact k_load
    | exact k_store
    | exact k_pure _
    | refine k_bind ?_ (fun _ => ?_)
    | split

theorem keeps_t8 : ∀ x0 x1 x2 x3 x4 x5 x6 x7 k acc, K c R (k0_t8_body i m2 h2 m3 h3 m4 h4 m5 h5 m6 h6 m7 h7 m8 h8 m9 h9 m10 h10 m11 h11 m12 h12 m13 h13 m14 h14 m15 h15 m16 h16 m17 h17 x0 x1 x2 x3 x4 x5 x6 x7 k acc) := by
  intro _ _ _ _ _ _ _ _ _ _
  unfold k0_t8_body
  repeat' with_reducible first
    | exact k_load
    | exact k_store
    | exact k_pure _
    | refine k_bind ?_ (fun _ => ?_)
    | split

theorem keeps_part224 : ∀ x0 x1 x2 x3 x4 x5 x6, K c R (k0_part224 i m2 h2 m3 h3 m4 h4 m5 h5 m6 h6 m7 h7 m8 h8 m9 h9 m10 h10 m11 h11 m12 h12 m13 h13 m14 h14 m15 h15 m16 h16 m17 h17 x0 x1 x2 x3 x4 x5 x6) := by
  intro _ _ _ _ _ _ _
  rw [k0_part224_eq_skeleton]
  unfold k0_part224_skel
  repeat' with_reducible first
    | exact k_load
    | exact k_store
    | exact k_pure _
    | refine k_bind ?_ (fun _ => ?_)
    | split

theorem keeps_t30 : ∀ x0 x1 x2 x3 x4 x5 x6 x7 x8 k acc, K c R (k0_t30_body i m2 h2 m3 h3 m4 h4 m5 h5 m6 h6 m7 h7 m8 h8 m9 h9 m10 h10 m11 h11 m12 h12 m13 h13 m14 h14 m15 h15 m16 h16 m17 h17 x0 x1 x2 x3 x4 x5 x6 x7 x8 k acc) := by
  intro _ _ _ _ _ _ _ _ _ _ _
  unfold k0_t30_body
  repeat' with_reducible first
    | exact k_load
    | exact k_store
    | exact k_pure _
    | refine k_bind ?_ (fun _ => ?_)
    | split

theorem keeps_part230 : ∀ x0 x1 x2 x3 x4 x5 x6, K c R (k0_part230 i m2 h2 m3 h3 m4 h4 m5 h5 m6 h6 m7 h7 m8 h8 m9 h9 m10 h10 m11 h11 m12 h12 m13 h13 m14 h14 m15 h15 m16 h16 m17 h17 x0 x1 x2 x3 x4 x5 x6) := by
  intro _ _ _ _ _ _ _
  rw [k0_part230_eq_skeleton]
  unfold k0_part230_skel
  repeat' with_reducible first
    | exact k_load
    | exact k_store
    | exact k_pure _
    | refine k_bind ?_ (fun _ => ?_)
    | split

theorem keeps_t42 : ∀ x0 x1 x2 x3 k acc, K c R (k0_t42_body i m2 h2 m3 h3 m4 h4 m5 h5 m6 h6 m7 h7 m8 h8 m9 h9 m10 h10 m11 h11 m12 h12 m13 h13 m14 h14 m15 h15 m16 h16 m17 h17 x0 x1 x2 x3 k acc) := by
  intro _ _ _ _ _ _
  unfold k0_t42_body
  repeat' with_reducible first
    | exact k_load
    | exact k_store
    | exact k_pure _
    | refine k_bind ?_ (fun _ => ?_)
    | split

end Cert.Proof.KernelKeeps

end
-- ==== Proof.Keeps4.lean ====
/- The walk along the kernel's text: each part of the body keeps the kernel's buffers (Keep.lean). -/
module

public import proofs.«01_k».proof.Proof.Gen.Kernel.Skeleton
public import proofs.«01_k».proof.Proof.Keep
public import Idealize.ShloMosaic.Lib.Pipeline.FrameBody
public import proofs.«01_k».proof.Proof.KeepsBase

@[expose] public section

noncomputable section

namespace Cert.Proof.KernelKeeps

open Idealize.ShloMosaic Idealize.ShloMosaic.TcCoe
open Idealize.SL Idealize.SL.RA Idealize.SL.BI Idealize.SL.Sem
open Cert.Kernel Cert.Kernel.Gen Cert.Proof.Keep

variable {F : FTy → Type} [BitOps F] {c : Dev nD} {R : sProp (MT nD τ sig Unit (Elt F) ℕ (UR sig nD τ) ℕ)}

variable (i : grid0.Coords)
  (m2 : Memref sig .tc .vmem S1x256x512 .bf16) (h2 : m2.IsWhole)
  (m3 : Memref sig .tc .vmem S1x8x512 .f32) (h3 : m3.IsWhole)
  (m4 : Memref sig .tc .vmem S1x4096x32 .bf16) (h4 : m4.IsWhole)
  (m5 : Memref sig .tc .vmem S1x384x512 .bf16) (h5 : m5.IsWhole)
  (m6 : Memref sig .tc .vmem S1x4096x64 .bf16) (h6 : m6.IsWhole)
  (m7 : Memref sig .tc .vmem S1x64x4096 .bf16) (h7 : m7.IsWhole)
  (m8 : Memref sig .tc .vmem S1x512x384 .bf16) (h8 : m8.IsWhole)
  (m9 : Memref sig .tc .vmem S4096x512 .i32) (h9 : m9.IsWhole)
  (m10 : Memref sig .tc .vmem S32x128x512 .i32) (h10 : m10.IsWhole)
  (m11 : Memref sig .tc .vmem S128x512 .i32) (h11 : m11.IsWhole)
  (m12 : Memref sig .tc .vmem S4096x512 .f32) (h12 : m12.IsWhole)
  (m13 : Memref sig .tc .vmem S4096x512 .f32) (h13 : m13.IsWhole)
  (m14 : Memref sig .tc .vmem S384x512 .f32) (h14 : m14.IsWhole)
  (m15 : Memref sig .tc .vmem S1x512 .i32) (h15 : m15.IsWhole)
  (m16 : Memref sig .tc .vmem S1x512 .i32) (h16 : m16.IsWhole)
  (m17 : Memref sig .tc .smem S1 .i32) (h17 : m17.IsWhole)
variable [KReads (F := F) c R m2]
variable [KReads (F := F) c R m3]
variable [KReads (F := F) c R m4]
variable [KReads (F := F) c R m5]
variable [KReads (F := F) c R m6]
variable [KReads (F := F) c R m7]
variable [KReads (F := F) c R m8]
variable [KWrites (F := F) c R m8]
variable [KReads (F := F) c R m9]
variable [KWrites (F := F) c R m9]
variable [KReads (F := F) c R m10]
variable [KWrites (F := F) c R m10]
variable [KReads (F := F) c R m11]
variable [KWrites (F := F) c R m11]
variable [KReads (F := F) c R m12]
variable [KWrites (F := F) c R m12]
variable [KReads (F := F) c R m13]
variable [KWrites (F := F) c R m13]
variable [KReads (F := F) c R m14]
variable [KWrites (F := F) c R m14]
variable [KReads (F := F) c R m15]
variable [KWrites (F := F) c R m15]
variable [KReads (F := F) c R m16]
variable [KWrites (F := F) c R m16]
variable [KReads (F := F) c R m17]
variable [KWrites (F := F) c R m17]

theorem keeps_part2 : ∀ x0 x1 x2, K c R (k0_part2 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part2_eq_skeleton]
  unfold k0_part2_skel
  repeat' with_reducible first
    | exact k_load
    | exact k_store
    | exact k_pure _
    | refine k_bind ?_ (fun _ => ?_)
    | split

theorem keeps_part8 : ∀ x0 x1 x2 x3, K c R (k0_part8 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part8_eq_skeleton]
  unfold k0_part8_skel
  repeat' with_reducible first
    | exact k_load
    | exact k_store
    | exact k_pure _
    | refine k_bind ?_ (fun _ => ?_)
    | split

theorem keeps_part16 : ∀ x0 x1 x2, K c R (k0_part16 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part16_eq_skeleton]
  unfold k0_part16_skel
  repeat' with_reducible first
    | exact k_load
    | exact k_store
    | exact k_pure _
    | refine k_bind ?_ (fun _ => ?_)
    | split

theorem keeps_part22 : ∀ x0 x1 x2, K c R (k0_part22 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part22_eq_skeleton]
  unfold k0_part22_skel
  repeat' with_reducible first
    | exact k_load
    | exact k_store
    | exact k_pure _
    | refine k_bind ?_ (fun _ => ?_)
    | split

theorem keeps_part240 : ∀ x0 x1 x2, K c R (k0_part240 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part240_eq_skeleton]
  unfold k0_part240_skel
  repeat' with_reducible first
    | exact k_load
    | exact k_store
    | exact k_pure _
    | refine k_bind ?_ (fun _ => ?_)
    | split

theorem keeps_part246 : ∀ x0 x1 x2 x3 x4 x5 x6 x7 x8, K c R (k0_part246 i m2 h2 m3 h3 m4 h4 m5 h5 m6 h6 m7 h7 m8 h8 m9 h9 m10 h10 m11 h11 m12 h12 m13 h13 m14 h14 m15 h15 m16 h16 m17 h17 x0 x1 x2 x3 x4 x5 x6 x7 x8) := by
  intro _ _ _ _ _ _ _ _ _
  rw [k0_part246_eq_skeleton]
  unfold k0_part246_skel
  repeat' with_reducible first
    | exact k_load
    | exact k_store
    | exact k_pure _
    | refine k_bind ?_ (fun _ => ?_)
    | split

theorem keeps_part101 : ∀ x0 x1 x2 x3 x4 x5 x6 x7 x8 x9 x10, K c R (k0_part101 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part101_eq_skeleton]
  unfold k0_part101_skel
  repeat' with_reducible first
    | exact k_load
    | exact k_store
    | exact k_pure _
    | refine k_bind ?_ (fun _ => ?_)
    | split

theorem keeps_part107 : ∀ x0 x1 x2 x3 x4 x5 x6 x7 x8 x9 x10, K c R (k0_part107 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part107_eq_skeleton]
  unfold k0_part107_skel
  repeat' with_reducible first
    | exact k_load
    | exact k_store
    | exact k_pure _
    | refine k_bind ?_ (fun _ => ?_)
    | split

theorem keeps_part113 : ∀ x0 x1 x2 x3 x4 x5 x6 x7 x8 x9 x10, K c R (k0_part113 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part113_eq_skeleton]
  unfold k0_part113_skel
  repeat' with_reducible first
    | exact k_load
    | exact k_store
    | exact k_pure _
    | refine k_bind ?_ (fun _ => ?_)
    | split

theorem keeps_part23 : ∀ x0 x1 x2 x3, K c R (k0_part23 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part23_eq_skeleton]
  unfold k0_part23_skel
  repeat' with_reducible first
    | exact k_load
    | exact k_store
    | exact k_pure _
    | refine k_bind ?_ (fun _ => ?_)
    | split

theorem keeps_part29 : ∀ x0 x1 x2 x3 x4 x5 x6 x7 x8 x9 x10, K c R (k0_part29 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part29_eq_skeleton]
  unfold k0_part29_skel
  repeat' with_reducible first
    | exact k_load
    | exact k_store
    | exact k_pure _
    | refine k_bind ?_ (fun _ => ?_)
    | split

theorem keeps_part35 : ∀ x0 x1 x2 x3 x4 x5 x6 x7 x8 x9 x10, K c R (k0_part35 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part35_eq_skeleton]
  unfold k0_part35_skel
  repeat' with_reducible first
    | exact k_load
    | exact k_store
    | exact k_pure _
    | refine k_bind ?_ (fun _ => ?_)
    | split

theorem keeps_part41 : ∀ x0 x1 x2 x3 x4 x5 x6 x7 x8 x9 x10, K c R (k0_part41 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part41_eq_skeleton]
  unfold k0_part41_skel
  repeat' with_reducible first
    | exact k_load
    | exact k_store
    | exact k_pure _
    | refine k_bind ?_ (fun _ => ?_)
    | split

theorem keeps_part47 : ∀ x0 x1 x2 x3 x4, K c R (k0_part47 i m2 h2 m3 h3 m4 h4 m5 h5 m6 h6 m7 h7 m8 h8 m9 h9 m10 h10 m11 h11 m12 h12 m13 h13 m14 h14 m15 h15 m16 h16 m17 h17 x0 x1 x2 x3 x4) := by
  intro _ _ _ _ _
  rw [k0_part47_eq_skeleton]
  unfold k0_part47_skel
  repeat' with_reducible first
    | exact k_load
    | exact k_store
    | exact k_pure _
    | refine k_bind ?_ (fun _ => ?_)
    | split

theorem keeps_part53 : ∀ x0 x1 x2 x3 x4 x5 x6 x7 x8 x9 x10, K c R (k0_part53 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part53_eq_skeleton]
  unfold k0_part53_skel
  repeat' with_reducible first
    | exact k_load
    | exact k_store
    | exact k_pure _
    | refine k_bind ?_ (fun _ => ?_)
    | split

theorem keeps_part59 : ∀ x0 x1 x2 x3 x4 x5 x6 x7 x8 x9 x10, K c R (k0_part59 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part59_eq_skeleton]
  unfold k0_part59_skel
  repeat' with_reducible first
    | exact k_load
    | exact k_store
    | exact k_pure _
    | refine k_bind ?_ (fun _ => ?_)
    | split

theorem keeps_part65 : ∀ x0 x1 x2 x3 x4 x5 x6 x7 x8 x9 x10, K c R (k0_part65 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part65_eq_skeleton]
  unfold k0_part65_skel
  repeat' with_reducible first
    | exact k_load
    | exact k_store
    | exact k_pure _
    | refine k_bind ?_ (fun _ => ?_)
    | split

theorem keeps_part71 : ∀ x0 x1 x2 x3 x4, K c R (k0_part71 i m2 h2 m3 h3 m4 h4 m5 h5 m6 h6 m7 h7 m8 h8 m9 h9 m10 h10 m11 h11 m12 h12 m13 h13 m14 h14 m15 h15 m16 h16 m17 h17 x0 x1 x2 x3 x4) := by
  intro _ _ _ _ _
  rw [k0_part71_eq_skeleton]
  unfold k0_part71_skel
  repeat' with_reducible first
    | exact k_load
    | exact k_store
    | exact k_pure _
    | refine k_bind ?_ (fun _ => ?_)
    | split

theorem keeps_part77 : ∀ x0 x1 x2 x3 x4 x5 x6 x7 x8 x9 x10, K c R (k0_part77 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part77_eq_skeleton]
  unfold k0_part77_skel
  repeat' with_reducible first
    | exact k_load
    | exact k_store
    | exact k_pure _
    | refine k_bind ?_ (fun _ => ?_)
    | split

theorem keeps_part83 : ∀ x0 x1 x2 x3 x4 x5 x6 x7 x8 x9 x10, K c R (k0_part83 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part83_eq_skeleton]
  unfold k0_part83_skel
  repeat' with_reducible first
    | exact k_load
    | exact k_store
    | exact k_pure _
    | refine k_bind ?_ (fun _ => ?_)
    | split

theorem keeps_part89 : ∀ x0 x1 x2 x3 x4 x5 x6 x7 x8 x9 x10, K c R (k0_part89 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part89_eq_skeleton]
  unfold k0_part89_skel
  repeat' with_reducible first
    | exact k_load
    | exact k_store
    | exact k_pure _
    | refine k_bind ?_ (fun _ => ?_)
    | split

theorem keeps_part95 : ∀ x0 x1 x2 x3 x4, K c R (k0_part95 i m2 h2 m3 h3 m4 h4 m5 h5 m6 h6 m7 h7 m8 h8 m9 h9 m10 h10 m11 h11 m12 h12 m13 h13 m14 h14 m15 h15 m16 h16 m17 h17 x0 x1 x2 x3 x4) := by
  intro _ _ _ _ _
  rw [k0_part95_eq_skeleton]
  unfold k0_part95_skel
  repeat' with_reducible first
    | exact k_load
    | exact k_store
    | exact k_pure _
    | refine k_bind ?_ (fun _ => ?_)
    | split

theorem keeps_part181 : ∀ x0 x1 x2 x3 x4 x5 x6 x7 x8 x9 x10, K c R (k0_part181 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part181_eq_skeleton]
  unfold k0_part181_skel
  repeat' with_reducible first
    | exact k_load
    | exact k_store
    | exact k_pure _
    | refine k_bind ?_ (fun _ => ?_)
    | split

theorem keeps_part187 : ∀ x0 x1 x2 x3 x4 x5 x6 x7 x8 x9 x10, K c R (k0_part187 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part187_eq_skeleton]
  unfold k0_part187_skel
  repeat' with_reducible first
    | exact k_load
    | exact k_store
    | exact k_pure _
    | refine k_bind ?_ (fun _ => ?_)
    | split

theorem keeps_part193 : ∀ x0 x1 x2 x3, K c R (k0_part193 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part193_eq_skeleton]
  unfold k0_part193_skel
  repeat' with_reducible first
    | exact k_load
    | exact k_store
    | exact k_pure _
    | refine k_bind ?_ (fun _ => ?_)
    | split

theorem keeps_part199 : ∀ x0 x1 x2 x3 x4 x5 x6 x7 x8 x9 x10, K c R (k0_part199 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part199_eq_skeleton]
  unfold k0_part199_skel
  repeat' with_reducible first
    | exact k_load
    | exact k_store
    | exact k_pure _
    | refine k_bind ?_ (fun _ => ?_)
    | split

theorem keeps_part205 : ∀ x0 x1 x2 x3 x4 x5 x6 x7 x8 x9 x10, K c R (k0_part205 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part205_eq_skeleton]
  unfold k0_part205_skel
  repeat' with_reducible first
    | exact k_load
    | exact k_store
    | exact k_pure _
    | refine k_bind ?_ (fun _ => ?_)
    | split

theorem keeps_part211 : ∀ x0 x1 x2 x3 x4 x5 x6 x7 x8 x9 x10, K c R (k0_part211 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part211_eq_skeleton]
  unfold k0_part211_skel
  repeat' with_reducible first
    | exact k_load
    | exact k_store
    | exact k_pure _
    | refine k_bind ?_ (fun _ => ?_)
    | split

theorem keeps_part121 : ∀ x0 x1 x2 x3, K c R (k0_part121 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part121_eq_skeleton]
  unfold k0_part121_skel
  repeat' with_reducible first
    | exact k_load
    | exact k_store
    | exact k_pure _
    | refine k_bind ?_ (fun _ => ?_)
    | split

theorem keeps_part127 : ∀ x0 x1 x2 x3 x4 x5 x6 x7 x8 x9 x10, K c R (k0_part127 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part127_eq_skeleton]
  unfold k0_part127_skel
  repeat' with_reducible first
    | exact k_load
    | exact k_store
    | exact k_pure _
    | refine k_bind ?_ (fun _ => ?_)
    | split

theorem keeps_part133 : ∀ x0 x1 x2 x3 x4 x5 x6 x7 x8 x9 x10, K c R (k0_part133 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part133_eq_skeleton]
  unfold k0_part133_skel
  repeat' with_reducible first
    | exact k_load
    | exact k_store
    | exact k_pure _
    | refine k_bind ?_ (fun _ => ?_)
    | split

theorem keeps_part139 : ∀ x0 x1 x2 x3 x4 x5 x6 x7 x8 x9 x10, K c R (k0_part139 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part139_eq_skeleton]
  unfold k0_part139_skel
  repeat' with_reducible first
    | exact k_load
    | exact k_store
    | exact k_pure _
    | refine k_bind ?_ (fun _ => ?_)
    | split

theorem keeps_part145 : ∀ x0 x1 x2 x3, K c R (k0_part145 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part145_eq_skeleton]
  unfold k0_part145_skel
  repeat' with_reducible first
    | exact k_load
    | exact k_store
    | exact k_pure _
    | refine k_bind ?_ (fun _ => ?_)
    | split

theorem keeps_part151 : ∀ x0 x1 x2 x3 x4 x5 x6 x7 x8 x9 x10, K c R (k0_part151 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part151_eq_skeleton]
  unfold k0_part151_skel
  repeat' with_reducible first
    | exact k_load
    | exact k_store
    | exact k_pure _
    | refine k_bind ?_ (fun _ => ?_)
    | split

theorem keeps_part157 : ∀ x0 x1 x2 x3 x4 x5 x6 x7 x8 x9 x10, K c R (k0_part157 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part157_eq_skeleton]
  unfold k0_part157_skel
  repeat' with_reducible first
    | exact k_load
    | exact k_store
    | exact k_pure _
    | refine k_bind ?_ (fun _ => ?_)
    | split

theorem keeps_part163 : ∀ x0 x1 x2 x3 x4 x5 x6 x7 x8 x9 x10, K c R (k0_part163 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part163_eq_skeleton]
  unfold k0_part163_skel
  repeat' with_reducible first
    | exact k_load
    | exact k_store
    | exact k_pure _
    | refine k_bind ?_ (fun _ => ?_)
    | split

theorem keeps_part169 : ∀ x0 x1 x2 x3, K c R (k0_part169 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part169_eq_skeleton]
  unfold k0_part169_skel
  repeat' with_reducible first
    | exact k_load
    | exact k_store
    | exact k_pure _
    | refine k_bind ?_ (fun _ => ?_)
    | split

theorem keeps_part175 : ∀ x0 x1 x2 x3 x4 x5 x6 x7 x8 x9 x10, K c R (k0_part175 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part175_eq_skeleton]
  unfold k0_part175_skel
  repeat' with_reducible first
    | exact k_load
    | exact k_store
    | exact k_pure _
    | refine k_bind ?_ (fun _ => ?_)
    | split

theorem keeps_part219 : ∀ x0 x1 x2 x3 x4 x5 x6, K c R (k0_part219 i m2 h2 m3 h3 m4 h4 m5 h5 m6 h6 m7 h7 m8 h8 m9 h9 m10 h10 m11 h11 m12 h12 m13 h13 m14 h14 m15 h15 m16 h16 m17 h17 x0 x1 x2 x3 x4 x5 x6) := by
  intro _ _ _ _ _ _ _
  rw [k0_part219_eq_skeleton]
  unfold k0_part219_skel
  repeat' first
    | with_reducible exact k_load
    | with_reducible exact k_store
    | with_reducible exact k_pure _
    | with_reducible refine k_bind ?_ (fun _ => ?_)
    | split
    | exact k_smemLoad

theorem keeps_part221 : ∀ x0 x1 x2 x3 x4, K c R (k0_part221 i m2 h2 m3 h3 m4 h4 m5 h5 m6 h6 m7 h7 m8 h8 m9 h9 m10 h10 m11 h11 m12 h12 m13 h13 m14 h14 m15 h15 m16 h16 m17 h17 x0 x1 x2 x3 x4) := by
  intro _ _ _ _ _
  rw [k0_part221_eq_skeleton]
  unfold k0_part221_skel
  repeat' with_reducible first
    | exact k_load
    | exact k_store
    | exact k_pure _
    | refine k_bind ?_ (fun _ => ?_)
    | split

theorem keeps_t9 : ∀ x0 x1 x2 x3 x4 x5 x6 x7 k acc, K c R (k0_t9_body i m2 h2 m3 h3 m4 h4 m5 h5 m6 h6 m7 h7 m8 h8 m9 h9 m10 h10 m11 h11 m12 h12 m13 h13 m14 h14 m15 h15 m16 h16 m17 h17 x0 x1 x2 x3 x4 x5 x6 x7 k acc) := by
  intro _ _ _ _ _ _ _ _ _ _
  unfold k0_t9_body
  repeat' with_reducible first
    | exact k_load
    | exact k_store
    | exact k_pure _
    | refine k_bind ?_ (fun _ => ?_)
    | split

theorem keeps_part225 : ∀ x0 x1 x2 x3 x4 x5 x6, K c R (k0_part225 i m2 h2 m3 h3 m4 h4 m5 h5 m6 h6 m7 h7 m8 h8 m9 h9 m10 h10 m11 h11 m12 h12 m13 h13 m14 h14 m15 h15 m16 h16 m17 h17 x0 x1 x2 x3 x4 x5 x6) := by
  intro _ _ _ _ _ _ _
  rw [k0_part225_eq_skeleton]
  unfold k0_part225_skel
  repeat' with_reducible first
    | exact k_load
    | exact k_store
    | exact k_pure _
    | refine k_bind ?_ (fun _ => ?_)
    | split

theorem keeps_t31 : ∀ x0 x1 x2 x3 x4 x5 x6 x7 x8 k acc, K c R (k0_t31_body i m2 h2 m3 h3 m4 h4 m5 h5 m6 h6 m7 h7 m8 h8 m9 h9 m10 h10 m11 h11 m12 h12 m13 h13 m14 h14 m15 h15 m16 h16 m17 h17 x0 x1 x2 x3 x4 x5 x6 x7 x8 k acc) := by
  intro _ _ _ _ _ _ _ _ _ _ _
  unfold k0_t31_body
  repeat' with_reducible first
    | exact k_load
    | exact k_store
    | exact k_pure _
    | refine k_bind ?_ (fun _ => ?_)
    | split

theorem keeps_part231 : ∀ x0 x1 x2 x3 x4 x5 x6, K c R (k0_part231 i m2 h2 m3 h3 m4 h4 m5 h5 m6 h6 m7 h7 m8 h8 m9 h9 m10 h10 m11 h11 m12 h12 m13 h13 m14 h14 m15 h15 m16 h16 m17 h17 x0 x1 x2 x3 x4 x5 x6) := by
  intro _ _ _ _ _ _ _
  rw [k0_part231_eq_skeleton]
  unfold k0_part231_skel
  repeat' with_reducible first
    | exact k_load
    | exact k_store
    | exact k_pure _
    | refine k_bind ?_ (fun _ => ?_)
    | split

theorem keeps_t43 : ∀ x0 x1 x2 x3 k acc, K c R (k0_t43_body i m2 h2 m3 h3 m4 h4 m5 h5 m6 h6 m7 h7 m8 h8 m9 h9 m10 h10 m11 h11 m12 h12 m13 h13 m14 h14 m15 h15 m16 h16 m17 h17 x0 x1 x2 x3 k acc) := by
  intro _ _ _ _ _ _
  unfold k0_t43_body
  repeat' with_reducible first
    | exact k_load
    | exact k_store
    | exact k_pure _
    | refine k_bind ?_ (fun _ => ?_)
    | split

end Cert.Proof.KernelKeeps

end
-- ==== Proof.Keeps5.lean ====
/- The walk along the kernel's text: each part of the body keeps the kernel's buffers (Keep.lean). -/
module

public import proofs.«01_k».proof.Proof.Gen.Kernel.Skeleton
public import proofs.«01_k».proof.Proof.Keep
public import Idealize.ShloMosaic.Lib.Pipeline.FrameBody
public import proofs.«01_k».proof.Proof.KeepsBase

@[expose] public section

noncomputable section

namespace Cert.Proof.KernelKeeps

open Idealize.ShloMosaic Idealize.ShloMosaic.TcCoe
open Idealize.SL Idealize.SL.RA Idealize.SL.BI Idealize.SL.Sem
open Cert.Kernel Cert.Kernel.Gen Cert.Proof.Keep

variable {F : FTy → Type} [BitOps F] {c : Dev nD} {R : sProp (MT nD τ sig Unit (Elt F) ℕ (UR sig nD τ) ℕ)}

variable (i : grid0.Coords)
  (m2 : Memref sig .tc .vmem S1x256x512 .bf16) (h2 : m2.IsWhole)
  (m3 : Memref sig .tc .vmem S1x8x512 .f32) (h3 : m3.IsWhole)
  (m4 : Memref sig .tc .vmem S1x4096x32 .bf16) (h4 : m4.IsWhole)
  (m5 : Memref sig .tc .vmem S1x384x512 .bf16) (h5 : m5.IsWhole)
  (m6 : Memref sig .tc .vmem S1x4096x64 .bf16) (h6 : m6.IsWhole)
  (m7 : Memref sig .tc .vmem S1x64x4096 .bf16) (h7 : m7.IsWhole)
  (m8 : Memref sig .tc .vmem S1x512x384 .bf16) (h8 : m8.IsWhole)
  (m9 : Memref sig .tc .vmem S4096x512 .i32) (h9 : m9.IsWhole)
  (m10 : Memref sig .tc .vmem S32x128x512 .i32) (h10 : m10.IsWhole)
  (m11 : Memref sig .tc .vmem S128x512 .i32) (h11 : m11.IsWhole)
  (m12 : Memref sig .tc .vmem S4096x512 .f32) (h12 : m12.IsWhole)
  (m13 : Memref sig .tc .vmem S4096x512 .f32) (h13 : m13.IsWhole)
  (m14 : Memref sig .tc .vmem S384x512 .f32) (h14 : m14.IsWhole)
  (m15 : Memref sig .tc .vmem S1x512 .i32) (h15 : m15.IsWhole)
  (m16 : Memref sig .tc .vmem S1x512 .i32) (h16 : m16.IsWhole)
  (m17 : Memref sig .tc .smem S1 .i32) (h17 : m17.IsWhole)
variable [KReads (F := F) c R m2]
variable [KReads (F := F) c R m3]
variable [KReads (F := F) c R m4]
variable [KReads (F := F) c R m5]
variable [KReads (F := F) c R m6]
variable [KReads (F := F) c R m7]
variable [KReads (F := F) c R m8]
variable [KWrites (F := F) c R m8]
variable [KReads (F := F) c R m9]
variable [KWrites (F := F) c R m9]
variable [KReads (F := F) c R m10]
variable [KWrites (F := F) c R m10]
variable [KReads (F := F) c R m11]
variable [KWrites (F := F) c R m11]
variable [KReads (F := F) c R m12]
variable [KWrites (F := F) c R m12]
variable [KReads (F := F) c R m13]
variable [KWrites (F := F) c R m13]
variable [KReads (F := F) c R m14]
variable [KWrites (F := F) c R m14]
variable [KReads (F := F) c R m15]
variable [KWrites (F := F) c R m15]
variable [KReads (F := F) c R m16]
variable [KWrites (F := F) c R m16]
variable [KReads (F := F) c R m17]
variable [KWrites (F := F) c R m17]

theorem keeps_part3 : ∀ x0 x1 x2 x3 x4 x5 x6, K c R (k0_part3 i m2 h2 m3 h3 m4 h4 m5 h5 m6 h6 m7 h7 m8 h8 m9 h9 m10 h10 m11 h11 m12 h12 m13 h13 m14 h14 m15 h15 m16 h16 m17 h17 x0 x1 x2 x3 x4 x5 x6) := by
  intro _ _ _ _ _ _ _
  rw [k0_part3_eq_skeleton]
  unfold k0_part3_skel
  repeat' with_reducible first
    | exact k_load
    | exact k_store
    | exact k_pure _
    | refine k_bind ?_ (fun _ => ?_)
    | split

theorem keeps_part9 : ∀ x0 x1 x2 x3 x4 x5, K c R (k0_part9 i m2 h2 m3 h3 m4 h4 m5 h5 m6 h6 m7 h7 m8 h8 m9 h9 m10 h10 m11 h11 m12 h12 m13 h13 m14 h14 m15 h15 m16 h16 m17 h17 x0 x1 x2 x3 x4 x5) := by
  intro _ _ _ _ _ _
  rw [k0_part9_eq_skeleton]
  unfold k0_part9_skel
  repeat' with_reducible first
    | exact k_load
    | exact k_store
    | exact k_pure _
    | refine k_bind ?_ (fun _ => ?_)
    | split

theorem keeps_part17 : ∀ x0 x1 x2 x3 x4 x5, K c R (k0_part17 i m2 h2 m3 h3 m4 h4 m5 h5 m6 h6 m7 h7 m8 h8 m9 h9 m10 h10 m11 h11 m12 h12 m13 h13 m14 h14 m15 h15 m16 h16 m17 h17 x0 x1 x2 x3 x4 x5) := by
  intro _ _ _ _ _ _
  rw [k0_part17_eq_skeleton]
  unfold k0_part17_skel
  repeat' with_reducible first
    | exact k_load
    | exact k_store
    | exact k_pure _
    | refine k_bind ?_ (fun _ => ?_)
    | split

theorem keeps_part235 : ∀ x0 x1 x2, K c R (k0_part235 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part235_eq_skeleton]
  unfold k0_part235_skel
  repeat' with_reducible first
    | exact k_load
    | exact k_store
    | exact k_pure _
    | refine k_bind ?_ (fun _ => ?_)
    | split

theorem keeps_part241 : ∀ x0 x1 x2, K c R (k0_part241 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part241_eq_skeleton]
  unfold k0_part241_skel
  repeat' with_reducible first
    | exact k_load
    | exact k_store
    | exact k_pure _
    | refine k_bind ?_ (fun _ => ?_)
    | split

theorem keeps_part247 : ∀ x0 x1 x2 x3, K c R (k0_part247 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part247_eq_skeleton]
  unfold k0_part247_skel
  repeat' with_reducible first
    | exact k_load
    | exact k_store
    | exact k_pure _
    | refine k_bind ?_ (fun _ => ?_)
    | split

theorem keeps_part102 : ∀ x0 x1 x2 x3 x4 x5 x6 x7 x8 x9 x10, K c R (k0_part102 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part102_eq_skeleton]
  unfold k0_part102_skel
  repeat' with_reducible first
    | exact k_load
    | exact k_store
    | exact k_pure _
    | refine k_bind ?_ (fun _ => ?_)
    | split

theorem keeps_part108 : ∀ x0 x1 x2 x3 x4 x5 x6 x7 x8 x9 x10, K c R (k0_part108 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part108_eq_skeleton]
  unfold k0_part108_skel
  repeat' with_reducible first
    | exact k_load
    | exact k_store
    | exact k_pure _
    | refine k_bind ?_ (fun _ => ?_)
    | split

theorem keeps_part114 : ∀ x0 x1 x2 x3 x4 x5 x6 x7 x8 x9 x10, K c R (k0_part114 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part114_eq_skeleton]
  unfold k0_part114_skel
  repeat' with_reducible first
    | exact k_load
    | exact k_store
    | exact k_pure _
    | refine k_bind ?_ (fun _ => ?_)
    | split

theorem keeps_part24 : ∀ x0 x1 x2 x3, K c R (k0_part24 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part24_eq_skeleton]
  unfold k0_part24_skel
  repeat' with_reducible first
    | exact k_load
    | exact k_store
    | exact k_pure _
    | refine k_bind ?_ (fun _ => ?_)
    | split

theorem keeps_part30 : ∀ x0 x1 x2 x3 x4 x5 x6 x7 x8 x9 x10, K c R (k0_part30 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part30_eq_skeleton]
  unfold k0_part30_skel
  repeat' with_reducible first
    | exact k_load
    | exact k_store
    | exact k_pure _
    | refine k_bind ?_ (fun _ => ?_)
    | split

theorem keeps_part36 : ∀ x0 x1 x2 x3 x4 x5 x6 x7 x8 x9 x10, K c R (k0_part36 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part36_eq_skeleton]
  unfold k0_part36_skel
  repeat' with_reducible first
    | exact k_load
    | exact k_store
    | exact k_pure _
    | refine k_bind ?_ (fun _ => ?_)
    | split

theorem keeps_part42 : ∀ x0 x1 x2 x3 x4 x5 x6 x7 x8 x9 x10, K c R (k0_part42 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part42_eq_skeleton]
  unfold k0_part42_skel
  repeat' with_reducible first
    | exact k_load
    | exact k_store
    | exact k_pure _
    | refine k_bind ?_ (fun _ => ?_)
    | split

theorem keeps_part48 : ∀ x0 x1 x2 x3, K c R (k0_part48 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part48_eq_skeleton]
  unfold k0_part48_skel
  repeat' with_reducible first
    | exact k_load
    | exact k_store
    | exact k_pure _
    | refine k_bind ?_ (fun _ => ?_)
    | split

theorem keeps_part54 : ∀ x0 x1 x2 x3 x4 x5 x6 x7 x8 x9 x10, K c R (k0_part54 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part54_eq_skeleton]
  unfold k0_part54_skel
  repeat' with_reducible first
    | exact k_load
    | exact k_store
    | exact k_pure _
    | refine k_bind ?_ (fun _ => ?_)
    | split

theorem keeps_part60 : ∀ x0 x1 x2 x3 x4 x5 x6 x7 x8 x9 x10, K c R (k0_part60 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part60_eq_skeleton]
  unfold k0_part60_skel
  repeat' with_reducible first
    | exact k_load
    | exact k_store
    | exact k_pure _
    | refine k_bind ?_ (fun _ => ?_)
    | split

theorem keeps_part66 : ∀ x0 x1 x2 x3 x4 x5 x6 x7 x8 x9 x10, K c R (k0_part66 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part66_eq_skeleton]
  unfold k0_part66_skel
  repeat' with_reducible first
    | exact k_load
    | exact k_store
    | exact k_pure _
    | refine k_bind ?_ (fun _ => ?_)
    | split

theorem keeps_part72 : ∀ x0 x1 x2 x3, K c R (k0_part72 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part72_eq_skeleton]
  unfold k0_part72_skel
  repeat' with_reducible first
    | exact k_load
    | exact k_store
    | exact k_pure _
    | refine k_bind ?_ (fun _ => ?_)
    | split

theorem keeps_part78 : ∀ x0 x1 x2 x3 x4 x5 x6 x7 x8 x9 x10, K c R (k0_part78 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part78_eq_skeleton]
  unfold k0_part78_skel
  repeat' with_reducible first
    | exact k_load
    | exact k_store
    | exact k_pure _
    | refine k_bind ?_ (fun _ => ?_)
    | split

theorem keeps_part84 : ∀ x0 x1 x2 x3 x4 x5 x6 x7 x8 x9 x10, K c R (k0_part84 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part84_eq_skeleton]
  unfold k0_part84_skel
  repeat' with_reducible first
    | exact k_load
    | exact k_store
    | exact k_pure _
    | refine k_bind ?_ (fun _ => ?_)
    | split

theorem keeps_part90 : ∀ x0 x1 x2 x3 x4 x5 x6 x7 x8 x9 x10, K c R (k0_part90 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part90_eq_skeleton]
  unfold k0_part90_skel
  repeat' with_reducible first
    | exact k_load
    | exact k_store
    | exact k_pure _
    | refine k_bind ?_ (fun _ => ?_)
    | split

theorem keeps_part96 : ∀ x0 x1 x2 x3, K c R (k0_part96 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part96_eq_skeleton]
  unfold k0_part96_skel
  repeat' with_reducible first
    | exact k_load
    | exact k_store
    | exact k_pure _
    | refine k_bind ?_ (fun _ => ?_)
    | split

theorem keeps_part182 : ∀ x0 x1 x2 x3 x4 x5 x6 x7 x8 x9 x10, K c R (k0_part182 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part182_eq_skeleton]
  unfold k0_part182_skel
  repeat' with_reducible first
    | exact k_load
    | exact k_store
    | exact k_pure _
    | refine k_bind ?_ (fun _ => ?_)
    | split

theorem keeps_part188 : ∀ x0 x1 x2 x3 x4 x5 x6 x7 x8 x9 x10 x11 x12, K c R (k0_part188 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11 x12) := by
  intro _ _ _ _ _ _ _ _ _ _ _ _ _
  rw [k0_part188_eq_skeleton]
  unfold k0_part188_skel
  repeat' with_reducible first
    | exact k_load
    | exact k_store
    | exact k_pure _
    | refine k_bind ?_ (fun _ => ?_)
    | split

theorem keeps_part194 : ∀ x0 x1 x2 x3, K c R (k0_part194 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part194_eq_skeleton]
  unfold k0_part194_skel
  repeat' with_reducible first
    | exact k_load
    | exact k_store
    | exact k_pure _
    | refine k_bind ?_ (fun _ => ?_)
    | split

theorem keeps_part200 : ∀ x0 x1 x2 x3 x4 x5 x6 x7 x8 x9 x10, K c R (k0_part200 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part200_eq_skeleton]
  unfold k0_part200_skel
  repeat' with_reducible first
    | exact k_load
    | exact k_store
    | exact k_pure _
    | refine k_bind ?_ (fun _ => ?_)
    | split

theorem keeps_part206 : ∀ x0 x1 x2 x3 x4 x5 x6 x7 x8 x9 x10, K c R (k0_part206 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part206_eq_skeleton]
  unfold k0_part206_skel
  repeat' with_reducible first
    | exact k_load
    | exact k_store
    | exact k_pure _
    | refine k_bind ?_ (fun _ => ?_)
    | split

theorem keeps_part212 : ∀ x0 x1 x2 x3 x4 x5 x6 x7 x8 x9 x10 x11 x12, K c R (k0_part212 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11 x12) := by
  intro _ _ _ _ _ _ _ _ _ _ _ _ _
  rw [k0_part212_eq_skeleton]
  unfold k0_part212_skel
  repeat' with_reducible first
    | exact k_load
    | exact k_store
    | exact k_pure _
    | refine k_bind ?_ (fun _ => ?_)
    | split

theorem keeps_part122 : ∀ x0 x1 x2 x3, K c R (k0_part122 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part122_eq_skeleton]
  unfold k0_part122_skel
  repeat' with_reducible first
    | exact k_load
    | exact k_store
    | exact k_pure _
    | refine k_bind ?_ (fun _ => ?_)
    | split

theorem keeps_part128 : ∀ x0 x1 x2 x3 x4 x5 x6 x7 x8 x9 x10, K c R (k0_part128 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part128_eq_skeleton]
  unfold k0_part128_skel
  repeat' with_reducible first
    | exact k_load
    | exact k_store
    | exact k_pure _
    | refine k_bind ?_ (fun _ => ?_)
    | split

theorem keeps_part134 : ∀ x0 x1 x2 x3 x4 x5 x6 x7 x8 x9 x10, K c R (k0_part134 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part134_eq_skeleton]
  unfold k0_part134_skel
  repeat' with_reducible first
    | exact k_load
    | exact k_store
    | exact k_pure _
    | refine k_bind ?_ (fun _ => ?_)
    | split

theorem keeps_part140 : ∀ x0 x1 x2 x3 x4 x5 x6 x7 x8 x9 x10 x11 x12, K c R (k0_part140 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11 x12) := by
  intro _ _ _ _ _ _ _ _ _ _ _ _ _
  rw [k0_part140_eq_skeleton]
  unfold k0_part140_skel
  repeat' with_reducible first
    | exact k_load
    | exact k_store
    | exact k_pure _
    | refine k_bind ?_ (fun _ => ?_)
    | split

theorem keeps_part146 : ∀ x0 x1 x2 x3, K c R (k0_part146 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part146_eq_skeleton]
  unfold k0_part146_skel
  repeat' with_reducible first
    | exact k_load
    | exact k_store
    | exact k_pure _
    | refine k_bind ?_ (fun _ => ?_)
    | split

theorem keeps_part152 : ∀ x0 x1 x2 x3 x4 x5 x6 x7 x8 x9 x10, K c R (k0_part152 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part152_eq_skeleton]
  unfold k0_part152_skel
  repeat' with_reducible first
    | exact k_load
    | exact k_store
    | exact k_pure _
    | refine k_bind ?_ (fun _ => ?_)
    | split

theorem keeps_part158 : ∀ x0 x1 x2 x3 x4 x5 x6 x7 x8 x9 x10, K c R (k0_part158 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part158_eq_skeleton]
  unfold k0_part158_skel
  repeat' with_reducible first
    | exact k_load
    | exact k_store
    | exact k_pure _
    | refine k_bind ?_ (fun _ => ?_)
    | split

theorem keeps_part164 : ∀ x0 x1 x2 x3 x4 x5 x6 x7 x8 x9 x10 x11 x12, K c R (k0_part164 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11 x12) := by
  intro _ _ _ _ _ _ _ _ _ _ _ _ _
  rw [k0_part164_eq_skeleton]
  unfold k0_part164_skel
  repeat' with_reducible first
    | exact k_load
    | exact k_store
    | exact k_pure _
    | refine k_bind ?_ (fun _ => ?_)
    | split

theorem keeps_part170 : ∀ x0 x1 x2 x3, K c R (k0_part170 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part170_eq_skeleton]
  unfold k0_part170_skel
  repeat' with_reducible first
    | exact k_load
    | exact k_store
    | exact k_pure _
    | refine k_bind ?_ (fun _ => ?_)
    | split

theorem keeps_part176 : ∀ x0 x1 x2 x3 x4 x5 x6 x7 x8 x9 x10, K c R (k0_part176 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part176_eq_skeleton]
  unfold k0_part176_skel
  repeat' with_reducible first
    | exact k_load
    | exact k_store
    | exact k_pure _
    | refine k_bind ?_ (fun _ => ?_)
    | split

theorem keeps_t12 : ∀ x0 x1 x2 x3 x4 k acc, K c R (k0_t12_body i m2 h2 m3 h3 m4 h4 m5 h5 m6 h6 m7 h7 m8 h8 m9 h9 m10 h10 m11 h11 m12 h12 m13 h13 m14 h14 m15 h15 m16 h16 m17 h17 x0 x1 x2 x3 x4 k acc) := by
  intro _ _ _ _ _ _ _
  unfold k0_t12_body
  repeat' with_reducible first
    | exact k_load
    | exact k_store
    | exact k_pure _
    | refine k_bind ?_ (fun _ => ?_)
    | split

theorem keeps_t18 : ∀ x0 x1 x2 x3 x4 x5 k acc, K c R (k0_t18_body i m2 h2 m3 h3 m4 h4 m5 h5 m6 h6 m7 h7 m8 h8 m9 h9 m10 h10 m11 h11 m12 h12 m13 h13 m14 h14 m15 h15 m16 h16 m17 h17 x0 x1 x2 x3 x4 x5 k acc) := by
  intro _ _ _ _ _ _ _ _
  unfold k0_t18_body
  repeat' with_reducible first
    | exact k_load
    | exact k_store
    | exact k_pure _
    | refine k_bind ?_ (fun _ => ?_)
    | split

theorem keeps_part222 : ∀ x0 x1 x2 x3, K c R (k0_part222 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part222_eq_skeleton]
  unfold k0_part222_skel
  repeat' with_reducible first
    | exact k_load
    | exact k_store
    | exact k_pure _
    | refine k_bind ?_ (fun _ => ?_)
    | split

theorem keeps_t26 : ∀ x0 x1 x2 x3 x4 x5 x6 x7 k acc, K c R (k0_t26_body i m2 h2 m3 h3 m4 h4 m5 h5 m6 h6 m7 h7 m8 h8 m9 h9 m10 h10 m11 h11 m12 h12 m13 h13 m14 h14 m15 h15 m16 h16 m17 h17 x0 x1 x2 x3 x4 x5 x6 x7 k acc) := by
  intro _ _ _ _ _ _ _ _ _ _
  unfold k0_t26_body
  repeat' with_reducible first
    | exact k_load
    | exact k_store
    | exact k_pure _
    | refine k_bind ?_ (fun _ => ?_)
    | split

theorem keeps_part228 : ∀ x0 x1 x2 x3 x4 x5 x6, K c R (k0_part228 i m2 h2 m3 h3 m4 h4 m5 h5 m6 h6 m7 h7 m8 h8 m9 h9 m10 h10 m11 h11 m12 h12 m13 h13 m14 h14 m15 h15 m16 h16 m17 h17 x0 x1 x2 x3 x4 x5 x6) := by
  intro _ _ _ _ _ _ _
  rw [k0_part228_eq_skeleton]
  unfold k0_part228_skel
  repeat' with_reducible first
    | exact k_load
    | exact k_store
    | exact k_pure _
    | refine k_bind ?_ (fun _ => ?_)
    | split

theorem keeps_t38 : ∀ x0 x1 x2 x3 x4 x5 x6 x7 k acc, K c R (k0_t38_body i m2 h2 m3 h3 m4 h4 m5 h5 m6 h6 m7 h7 m8 h8 m9 h9 m10 h10 m11 h11 m12 h12 m13 h13 m14 h14 m15 h15 m16 h16 m17 h17 x0 x1 x2 x3 x4 x5 x6 x7 k acc) := by
  intro _ _ _ _ _ _ _ _ _ _
  unfold k0_t38_body
  repeat' with_reducible first
    | exact k_load
    | exact k_store
    | exact k_pure _
    | refine k_bind ?_ (fun _ => ?_)
    | split

theorem keeps_t44 : ∀ x0 x1 k acc, K c R (k0_t44_body i m2 h2 m3 h3 m4 h4 m5 h5 m6 h6 m7 h7 m8 h8 m9 h9 m10 h10 m11 h11 m12 h12 m13 h13 m14 h14 m15 h15 m16 h16 m17 h17 x0 x1 k acc) := by
  intro _ _ _ _
  unfold k0_t44_body
  repeat' with_reducible first
    | exact k_load
    | exact k_store
    | exact k_pure _
    | refine k_bind ?_ (fun _ => ?_)
    | split

end Cert.Proof.KernelKeeps

end
-- ==== Proof.Keeps6.lean ====
/- The walk along the kernel's text: each part of the body keeps the kernel's buffers (Keep.lean). -/
module

public import proofs.«01_k».proof.Proof.Gen.Kernel.Skeleton
public import proofs.«01_k».proof.Proof.Keep
public import Idealize.ShloMosaic.Lib.Pipeline.FrameBody
public import proofs.«01_k».proof.Proof.KeepsBase

@[expose] public section

noncomputable section

namespace Cert.Proof.KernelKeeps

open Idealize.ShloMosaic Idealize.ShloMosaic.TcCoe
open Idealize.SL Idealize.SL.RA Idealize.SL.BI Idealize.SL.Sem
open Cert.Kernel Cert.Kernel.Gen Cert.Proof.Keep

variable {F : FTy → Type} [BitOps F] {c : Dev nD} {R : sProp (MT nD τ sig Unit (Elt F) ℕ (UR sig nD τ) ℕ)}

variable (i : grid0.Coords)
  (m2 : Memref sig .tc .vmem S1x256x512 .bf16) (h2 : m2.IsWhole)
  (m3 : Memref sig .tc .vmem S1x8x512 .f32) (h3 : m3.IsWhole)
  (m4 : Memref sig .tc .vmem S1x4096x32 .bf16) (h4 : m4.IsWhole)
  (m5 : Memref sig .tc .vmem S1x384x512 .bf16) (h5 : m5.IsWhole)
  (m6 : Memref sig .tc .vmem S1x4096x64 .bf16) (h6 : m6.IsWhole)
  (m7 : Memref sig .tc .vmem S1x64x4096 .bf16) (h7 : m7.IsWhole)
  (m8 : Memref sig .tc .vmem S1x512x384 .bf16) (h8 : m8.IsWhole)
  (m9 : Memref sig .tc .vmem S4096x512 .i32) (h9 : m9.IsWhole)
  (m10 : Memref sig .tc .vmem S32x128x512 .i32) (h10 : m10.IsWhole)
  (m11 : Memref sig .tc .vmem S128x512 .i32) (h11 : m11.IsWhole)
  (m12 : Memref sig .tc .vmem S4096x512 .f32) (h12 : m12.IsWhole)
  (m13 : Memref sig .tc .vmem S4096x512 .f32) (h13 : m13.IsWhole)
  (m14 : Memref sig .tc .vmem S384x512 .f32) (h14 : m14.IsWhole)
  (m15 : Memref sig .tc .vmem S1x512 .i32) (h15 : m15.IsWhole)
  (m16 : Memref sig .tc .vmem S1x512 .i32) (h16 : m16.IsWhole)
  (m17 : Memref sig .tc .smem S1 .i32) (h17 : m17.IsWhole)
variable [KReads (F := F) c R m2]
variable [KReads (F := F) c R m3]
variable [KReads (F := F) c R m4]
variable [KReads (F := F) c R m5]
variable [KReads (F := F) c R m6]
variable [KReads (F := F) c R m7]
variable [KReads (F := F) c R m8]
variable [KWrites (F := F) c R m8]
variable [KReads (F := F) c R m9]
variable [KWrites (F := F) c R m9]
variable [KReads (F := F) c R m10]
variable [KWrites (F := F) c R m10]
variable [KReads (F := F) c R m11]
variable [KWrites (F := F) c R m11]
variable [KReads (F := F) c R m12]
variable [KWrites (F := F) c R m12]
variable [KReads (F := F) c R m13]
variable [KWrites (F := F) c R m13]
variable [KReads (F := F) c R m14]
variable [KWrites (F := F) c R m14]
variable [KReads (F := F) c R m15]
variable [KWrites (F := F) c R m15]
variable [KReads (F := F) c R m16]
variable [KWrites (F := F) c R m16]
variable [KReads (F := F) c R m17]
variable [KWrites (F := F) c R m17]

theorem keeps_part4 : ∀ x0, K c R (k0_part4 i m2 h2 m3 h3 m4 h4 m5 h5 m6 h6 m7 h7 m8 h8 m9 h9 m10 h10 m11 h11 m12 h12 m13 h13 m14 h14 m15 h15 m16 h16 m17 h17 x0) := by
  intro _
  rw [k0_part4_eq_skeleton]
  unfold k0_part4_skel
  repeat' with_reducible first
    | exact k_load
    | exact k_store
    | exact k_pure _
    | refine k_bind ?_ (fun _ => ?_)
    | split

theorem keeps_part12 : ∀ x0 x1 x2, K c R (k0_part12 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part12_eq_skeleton]
  unfold k0_part12_skel
  repeat' with_reducible first
    | exact k_load
    | exact k_store
    | exact k_pure _
    | refine k_bind ?_ (fun _ => ?_)
    | split

theorem keeps_part18 : ∀ x0 x1 x2, K c R (k0_part18 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part18_eq_skeleton]
  unfold k0_part18_skel
  repeat' with_reducible first
    | exact k_load
    | exact k_store
    | exact k_pure _
    | refine k_bind ?_ (fun _ => ?_)
    | split

theorem keeps_part236 : ∀ x0 x1, K c R (k0_part236 i m2 h2 m3 h3 m4 h4 m5 h5 m6 h6 m7 h7 m8 h8 m9 h9 m10 h10 m11 h11 m12 h12 m13 h13 m14 h14 m15 h15 m16 h16 m17 h17 x0 x1) := by
  intro _ _
  rw [k0_part236_eq_skeleton]
  unfold k0_part236_skel
  repeat' with_reducible first
    | exact k_load
    | exact k_store
    | exact k_pure _
    | refine k_bind ?_ (fun _ => ?_)
    | split

theorem keeps_part242 : ∀ x0 x1 x2 x3 x4 x5 x6 x7 x8 x9, K c R (k0_part242 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9) := by
  intro _ _ _ _ _ _ _ _ _ _
  rw [k0_part242_eq_skeleton]
  unfold k0_part242_skel
  repeat' with_reducible first
    | exact k_load
    | exact k_store
    | exact k_pure _
    | refine k_bind ?_ (fun _ => ?_)
    | split

theorem keeps_part248 : ∀ x0 x1 x2 x3, K c R (k0_part248 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part248_eq_skeleton]
  unfold k0_part248_skel
  repeat' with_reducible first
    | exact k_load
    | exact k_store
    | exact k_pure _
    | refine k_bind ?_ (fun _ => ?_)
    | split

theorem keeps_part103 : ∀ x0 x1 x2 x3 x4 x5 x6 x7 x8 x9 x10, K c R (k0_part103 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part103_eq_skeleton]
  unfold k0_part103_skel
  repeat' with_reducible first
    | exact k_load
    | exact k_store
    | exact k_pure _
    | refine k_bind ?_ (fun _ => ?_)
    | split

theorem keeps_part109 : ∀ x0 x1 x2 x3 x4 x5 x6 x7 x8 x9 x10, K c R (k0_part109 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part109_eq_skeleton]
  unfold k0_part109_skel
  repeat' with_reducible first
    | exact k_load
    | exact k_store
    | exact k_pure _
    | refine k_bind ?_ (fun _ => ?_)
    | split

theorem keeps_part115 : ∀ x0 x1 x2 x3 x4 x5 x6 x7 x8 x9 x10 x11 x12, K c R (k0_part115 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11 x12) := by
  intro _ _ _ _ _ _ _ _ _ _ _ _ _
  rw [k0_part115_eq_skeleton]
  unfold k0_part115_skel
  repeat' with_reducible first
    | exact k_load
    | exact k_store
    | exact k_pure _
    | refine k_bind ?_ (fun _ => ?_)
    | split

theorem keeps_part25 : ∀ x0 x1 x2 x3, K c R (k0_part25 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part25_eq_skeleton]
  unfold k0_part25_skel
  repeat' with_reducible first
    | exact k_load
    | exact k_store
    | exact k_pure _
    | refine k_bind ?_ (fun _ => ?_)
    | split

theorem keeps_part31 : ∀ x0 x1 x2 x3 x4 x5 x6 x7 x8 x9 x10, K c R (k0_part31 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part31_eq_skeleton]
  unfold k0_part31_skel
  repeat' with_reducible first
    | exact k_load
    | exact k_store
    | exact k_pure _
    | refine k_bind ?_ (fun _ => ?_)
    | split

theorem keeps_part37 : ∀ x0 x1 x2 x3 x4 x5 x6 x7 x8 x9 x10, K c R (k0_part37 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part37_eq_skeleton]
  unfold k0_part37_skel
  repeat' with_reducible first
    | exact k_load
    | exact k_store
    | exact k_pure _
    | refine k_bind ?_ (fun _ => ?_)
    | split

theorem keeps_part43 : ∀ x0 x1 x2 x3 x4 x5 x6 x7 x8 x9 x10 x11 x12, K c R (k0_part43 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11 x12) := by
  intro _ _ _ _ _ _ _ _ _ _ _ _ _
  rw [k0_part43_eq_skeleton]
  unfold k0_part43_skel
  repeat' with_reducible first
    | exact k_load
    | exact k_store
    | exact k_pure _
    | refine k_bind ?_ (fun _ => ?_)
    | split

theorem keeps_part49 : ∀ x0 x1 x2 x3, K c R (k0_part49 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part49_eq_skeleton]
  unfold k0_part49_skel
  repeat' with_reducible first
    | exact k_load
    | exact k_store
    | exact k_pure _
    | refine k_bind ?_ (fun _ => ?_)
    | split

theorem keeps_part55 : ∀ x0 x1 x2 x3 x4 x5 x6 x7 x8 x9 x10, K c R (k0_part55 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part55_eq_skeleton]
  unfold k0_part55_skel
  repeat' with_reducible first
    | exact k_load
    | exact k_store
    | exact k_pure _
    | refine k_bind ?_ (fun _ => ?_)
    | split

theorem keeps_part61 : ∀ x0 x1 x2 x3 x4 x5 x6 x7 x8 x9 x10, K c R (k0_part61 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part61_eq_skeleton]
  unfold k0_part61_skel
  repeat' with_reducible first
    | exact k_load
    | exact k_store
    | exact k_pure _
    | refine k_bind ?_ (fun _ => ?_)
    | split

theorem keeps_part67 : ∀ x0 x1 x2 x3 x4 x5 x6 x7 x8 x9 x10 x11 x12, K c R (k0_part67 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11 x12) := by
  intro _ _ _ _ _ _ _ _ _ _ _ _ _
  rw [k0_part67_eq_skeleton]
  unfold k0_part67_skel
  repeat' with_reducible first
    | exact k_load
    | exact k_store
    | exact k_pure _
    | refine k_bind ?_ (fun _ => ?_)
    | split

theorem keeps_part73 : ∀ x0 x1 x2 x3, K c R (k0_part73 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part73_eq_skeleton]
  unfold k0_part73_skel
  repeat' with_reducible first
    | exact k_load
    | exact k_store
    | exact k_pure _
    | refine k_bind ?_ (fun _ => ?_)
    | split

theorem keeps_part79 : ∀ x0 x1 x2 x3 x4 x5 x6 x7 x8 x9 x10, K c R (k0_part79 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part79_eq_skeleton]
  unfold k0_part79_skel
  repeat' with_reducible first
    | exact k_load
    | exact k_store
    | exact k_pure _
    | refine k_bind ?_ (fun _ => ?_)
    | split

theorem keeps_part85 : ∀ x0 x1 x2 x3 x4 x5 x6 x7 x8 x9 x10, K c R (k0_part85 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part85_eq_skeleton]
  unfold k0_part85_skel
  repeat' with_reducible first
    | exact k_load
    | exact k_store
    | exact k_pure _
    | refine k_bind ?_ (fun _ => ?_)
    | split

theorem keeps_part91 : ∀ x0 x1 x2 x3 x4 x5 x6 x7 x8 x9 x10 x11 x12, K c R (k0_part91 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11 x12) := by
  intro _ _ _ _ _ _ _ _ _ _ _ _ _
  rw [k0_part91_eq_skeleton]
  unfold k0_part91_skel
  repeat' with_reducible first
    | exact k_load
    | exact k_store
    | exact k_pure _
    | refine k_bind ?_ (fun _ => ?_)
    | split

theorem keeps_part97 : ∀ x0 x1 x2 x3, K c R (k0_part97 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part97_eq_skeleton]
  unfold k0_part97_skel
  repeat' with_reducible first
    | exact k_load
    | exact k_store
    | exact k_pure _
    | refine k_bind ?_ (fun _ => ?_)
    | split

theorem keeps_part183 : ∀ x0 x1 x2 x3 x4 x5 x6 x7 x8 x9 x10, K c R (k0_part183 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part183_eq_skeleton]
  unfold k0_part183_skel
  repeat' with_reducible first
    | exact k_load
    | exact k_store
    | exact k_pure _
    | refine k_bind ?_ (fun _ => ?_)
    | split

theorem keeps_part189 : ∀ x0 x1 x2 x3 x4 x5 x6 x7 x8 x9 x10 x11, K c R (k0_part189 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part189_eq_skeleton]
  unfold k0_part189_skel
  repeat' with_reducible first
    | exact k_load
    | exact k_store
    | exact k_pure _
    | refine k_bind ?_ (fun _ => ?_)
    | split

theorem keeps_part195 : ∀ x0 x1 x2 x3, K c R (k0_part195 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part195_eq_skeleton]
  unfold k0_part195_skel
  repeat' with_reducible first
    | exact k_load
    | exact k_store
    | exact k_pure _
    | refine k_bind ?_ (fun _ => ?_)
    | split

theorem keeps_part201 : ∀ x0 x1 x2 x3 x4 x5 x6 x7 x8 x9 x10, K c R (k0_part201 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part201_eq_skeleton]
  unfold k0_part201_skel
  repeat' with_reducible first
    | exact k_load
    | exact k_store
    | exact k_pure _
    | refine k_bind ?_ (fun _ => ?_)
    | split

theorem keeps_part207 : ∀ x0 x1 x2 x3 x4 x5 x6 x7 x8 x9 x10, K c R (k0_part207 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part207_eq_skeleton]
  unfold k0_part207_skel
  repeat' with_reducible first
    | exact k_load
    | exact k_store
    | exact k_pure _
    | refine k_bind ?_ (fun _ => ?_)
    | split

theorem keeps_part213 : ∀ x0 x1 x2 x3 x4 x5 x6 x7 x8 x9 x10 x11, K c R (k0_part213 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part213_eq_skeleton]
  unfold k0_part213_skel
  repeat' with_reducible first
    | exact k_load
    | exact k_store
    | exact k_pure _
    | refine k_bind ?_ (fun _ => ?_)
    | split

theorem keeps_part123 : ∀ x0 x1 x2 x3, K c R (k0_part123 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part123_eq_skeleton]
  unfold k0_part123_skel
  repeat' with_reducible first
    | exact k_load
    | exact k_store
    | exact k_pure _
    | refine k_bind ?_ (fun _ => ?_)
    | split

theorem keeps_part129 : ∀ x0 x1 x2 x3 x4 x5 x6 x7 x8 x9 x10, K c R (k0_part129 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part129_eq_skeleton]
  unfold k0_part129_skel
  repeat' with_reducible first
    | exact k_load
    | exact k_store
    | exact k_pure _
    | refine k_bind ?_ (fun _ => ?_)
    | split

theorem keeps_part135 : ∀ x0 x1 x2 x3 x4 x5 x6 x7 x8 x9 x10, K c R (k0_part135 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part135_eq_skeleton]
  unfold k0_part135_skel
  repeat' with_reducible first
    | exact k_load
    | exact k_store
    | exact k_pure _
    | refine k_bind ?_ (fun _ => ?_)
    | split

theorem keeps_part141 : ∀ x0 x1 x2 x3 x4 x5 x6 x7 x8 x9 x10 x11, K c R (k0_part141 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part141_eq_skeleton]
  unfold k0_part141_skel
  repeat' with_reducible first
    | exact k_load
    | exact k_store
    | exact k_pure _
    | refine k_bind ?_ (fun _ => ?_)
    | split

theorem keeps_part147 : ∀ x0 x1 x2 x3, K c R (k0_part147 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part147_eq_skeleton]
  unfold k0_part147_skel
  repeat' with_reducible first
    | exact k_load
    | exact k_store
    | exact k_pure _
    | refine k_bind ?_ (fun _ => ?_)
    | split

theorem keeps_part153 : ∀ x0 x1 x2 x3 x4 x5 x6 x7 x8 x9 x10, K c R (k0_part153 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part153_eq_skeleton]
  unfold k0_part153_skel
  repeat' with_reducible first
    | exact k_load
    | exact k_store
    | exact k_pure _
    | refine k_bind ?_ (fun _ => ?_)
    | split

theorem keeps_part159 : ∀ x0 x1 x2 x3 x4 x5 x6 x7 x8 x9 x10, K c R (k0_part159 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part159_eq_skeleton]
  unfold k0_part159_skel
  repeat' with_reducible first
    | exact k_load
    | exact k_store
    | exact k_pure _
    | refine k_bind ?_ (fun _ => ?_)
    | split

theorem keeps_part165 : ∀ x0 x1 x2 x3 x4 x5 x6 x7 x8 x9 x10 x11, K c R (k0_part165 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10 x11) := by
  intro _ _ _ _ _ _ _ _ _ _ _ _
  rw [k0_part165_eq_skeleton]
  unfold k0_part165_skel
  repeat' with_reducible first
    | exact k_load
    | exact k_store
    | exact k_pure _
    | refine k_bind ?_ (fun _ => ?_)
    | split

theorem keeps_part171 : ∀ x0 x1 x2 x3, K c R (k0_part171 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part171_eq_skeleton]
  unfold k0_part171_skel
  repeat' with_reducible first
    | exact k_load
    | exact k_store
    | exact k_pure _
    | refine k_bind ?_ (fun _ => ?_)
    | split

theorem keeps_part177 : ∀ x0 x1 x2 x3 x4 x5 x6 x7 x8 x9 x10, K c R (k0_part177 i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 x10) := by
  intro _ _ _ _ _ _ _ _ _ _ _
  rw [k0_part177_eq_skeleton]
  unfold k0_part177_skel
  repeat' with_reducible first
    | exact k_load
    | exact k_store
    | exact k_pure _
    | refine k_bind ?_ (fun _ => ?_)
    | split

theorem keeps_t13 : ∀ x0 x1 x2 x3 x4 k acc, K c R (k0_t13_body i m2 h2 m3 h3 m4 h4 m5 h5 m6 h6 m7 h7 m8 h8 m9 h9 m10 h10 m11 h11 m12 h12 m13 h13 m14 h14 m15 h15 m16 h16 m17 h17 x0 x1 x2 x3 x4 k acc) := by
  intro _ _ _ _ _ _ _
  unfold k0_t13_body
  repeat' with_reducible first
    | exact k_load
    | exact k_store
    | exact k_pure _
    | refine k_bind ?_ (fun _ => ?_)
    | split

theorem keeps_t19 : ∀ x0 x1 x2 x3 x4 x5 k acc, K c R (k0_t19_body i m2 h2 m3 h3 m4 h4 m5 h5 m6 h6 m7 h7 m8 h8 m9 h9 m10 h10 m11 h11 m12 h12 m13 h13 m14 h14 m15 h15 m16 h16 m17 h17 x0 x1 x2 x3 x4 x5 k acc) := by
  intro _ _ _ _ _ _ _ _
  unfold k0_t19_body
  repeat' with_reducible first
    | exact k_load
    | exact k_store
    | exact k_pure _
    | refine k_bind ?_ (fun _ => ?_)
    | split

theorem keeps_part223 : ∀ x0 x1 x2 x3, K c R (k0_part223 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part223_eq_skeleton]
  unfold k0_part223_skel
  repeat' with_reducible first
    | exact k_load
    | exact k_store
    | exact k_pure _
    | refine k_bind ?_ (fun _ => ?_)
    | split

theorem keeps_t27 : ∀ x0 x1 x2 x3 x4 x5 x6 x7 k acc, K c R (k0_t27_body i m2 h2 m3 h3 m4 h4 m5 h5 m6 h6 m7 h7 m8 h8 m9 h9 m10 h10 m11 h11 m12 h12 m13 h13 m14 h14 m15 h15 m16 h16 m17 h17 x0 x1 x2 x3 x4 x5 x6 x7 k acc) := by
  intro _ _ _ _ _ _ _ _ _ _
  unfold k0_t27_body
  repeat' with_reducible first
    | exact k_load
    | exact k_store
    | exact k_pure _
    | refine k_bind ?_ (fun _ => ?_)
    | split

theorem keeps_part229 : ∀ x0 x1 x2 x3 x4 x5 x6, K c R (k0_part229 i m2 h2 m3 h3 m4 h4 m5 h5 m6 h6 m7 h7 m8 h8 m9 h9 m10 h10 m11 h11 m12 h12 m13 h13 m14 h14 m15 h15 m16 h16 m17 h17 x0 x1 x2 x3 x4 x5 x6) := by
  intro _ _ _ _ _ _ _
  rw [k0_part229_eq_skeleton]
  unfold k0_part229_skel
  repeat' with_reducible first
    | exact k_load
    | exact k_store
    | exact k_pure _
    | refine k_bind ?_ (fun _ => ?_)
    | split

theorem keeps_t39 : ∀ x0 x1 x2 x3 x4 x5 x6 x7 k acc, K c R (k0_t39_body i m2 h2 m3 h3 m4 h4 m5 h5 m6 h6 m7 h7 m8 h8 m9 h9 m10 h10 m11 h11 m12 h12 m13 h13 m14 h14 m15 h15 m16 h16 m17 h17 x0 x1 x2 x3 x4 x5 x6 x7 k acc) := by
  intro _ _ _ _ _ _ _ _ _ _
  unfold k0_t39_body
  repeat' with_reducible first
    | exact k_load
    | exact k_store
    | exact k_pure _
    | refine k_bind ?_ (fun _ => ?_)
    | split

theorem keeps_t45 : ∀ x0 x1 k acc, K c R (k0_t45_body i m2 h2 m3 h3 m4 h4 m5 h5 m6 h6 m7 h7 m8 h8 m9 h9 m10 h10 m11 h11 m12 h12 m13 h13 m14 h14 m15 h15 m16 h16 m17 h17 x0 x1 k acc) := by
  intro _ _ _ _
  unfold k0_t45_body
  repeat' with_reducible first
    | exact k_load
    | exact k_store
    | exact k_pure _
    | refine k_bind ?_ (fun _ => ?_)
    | split

end Cert.Proof.KernelKeeps

end
-- ==== Proof.KeepsBody.lean ====
/- The walk along the kernel's text: each part of the body keeps the kernel's buffers (Keep.lean). -/
module

public import proofs.«01_k».proof.Proof.Gen.Kernel.Skeleton
public import proofs.«01_k».proof.Proof.Keep
public import Idealize.ShloMosaic.Lib.Pipeline.FrameBody
public import proofs.«01_k».proof.Proof.Keeps1
public import proofs.«01_k».proof.Proof.Keeps2
public import proofs.«01_k».proof.Proof.Keeps3
public import proofs.«01_k».proof.Proof.Keeps4
public import proofs.«01_k».proof.Proof.Keeps5
public import proofs.«01_k».proof.Proof.Keeps6

@[expose] public section

noncomputable section

namespace Cert.Proof.KernelKeeps

open Idealize.ShloMosaic Idealize.ShloMosaic.TcCoe
open Idealize.SL Idealize.SL.RA Idealize.SL.BI Idealize.SL.Sem
open Cert.Kernel Cert.Kernel.Gen Cert.Proof.Keep

variable {F : FTy → Type} [BitOps F] {c : Dev nD} {R : sProp (MT nD τ sig Unit (Elt F) ℕ (UR sig nD τ) ℕ)}

variable (i : grid0.Coords)
  (m2 : Memref sig .tc .vmem S1x256x512 .bf16) (h2 : m2.IsWhole)
  (m3 : Memref sig .tc .vmem S1x8x512 .f32) (h3 : m3.IsWhole)
  (m4 : Memref sig .tc .vmem S1x4096x32 .bf16) (h4 : m4.IsWhole)
  (m5 : Memref sig .tc .vmem S1x384x512 .bf16) (h5 : m5.IsWhole)
  (m6 : Memref sig .tc .vmem S1x4096x64 .bf16) (h6 : m6.IsWhole)
  (m7 : Memref sig .tc .vmem S1x64x4096 .bf16) (h7 : m7.IsWhole)
  (m8 : Memref sig .tc .vmem S1x512x384 .bf16) (h8 : m8.IsWhole)
  (m9 : Memref sig .tc .vmem S4096x512 .i32) (h9 : m9.IsWhole)
  (m10 : Memref sig .tc .vmem S32x128x512 .i32) (h10 : m10.IsWhole)
  (m11 : Memref sig .tc .vmem S128x512 .i32) (h11 : m11.IsWhole)
  (m12 : Memref sig .tc .vmem S4096x512 .f32) (h12 : m12.IsWhole)
  (m13 : Memref sig .tc .vmem S4096x512 .f32) (h13 : m13.IsWhole)
  (m14 : Memref sig .tc .vmem S384x512 .f32) (h14 : m14.IsWhole)
  (m15 : Memref sig .tc .vmem S1x512 .i32) (h15 : m15.IsWhole)
  (m16 : Memref sig .tc .vmem S1x512 .i32) (h16 : m16.IsWhole)
  (m17 : Memref sig .tc .smem S1 .i32) (h17 : m17.IsWhole)
variable [KReads (F := F) c R m2]
variable [KReads (F := F) c R m3]
variable [KReads (F := F) c R m4]
variable [KReads (F := F) c R m5]
variable [KReads (F := F) c R m6]
variable [KReads (F := F) c R m7]
variable [KReads (F := F) c R m8]
variable [KWrites (F := F) c R m8]
variable [KReads (F := F) c R m9]
variable [KWrites (F := F) c R m9]
variable [KReads (F := F) c R m10]
variable [KWrites (F := F) c R m10]
variable [KReads (F := F) c R m11]
variable [KWrites (F := F) c R m11]
variable [KReads (F := F) c R m12]
variable [KWrites (F := F) c R m12]
variable [KReads (F := F) c R m13]
variable [KWrites (F := F) c R m13]
variable [KReads (F := F) c R m14]
variable [KWrites (F := F) c R m14]
variable [KReads (F := F) c R m15]
variable [KWrites (F := F) c R m15]
variable [KReads (F := F) c R m16]
variable [KWrites (F := F) c R m16]
variable [KReads (F := F) c R m17]
variable [KWrites (F := F) c R m17]

set_option maxHeartbeats 8000000 in
theorem keeps_t1 : ∀ k acc, K c R (k0_t1_body i m2 h2 m3 h3 m4 h4 m5 h5 m6 h6 m7 h7 m8 h8 m9 h9 m10 h10 m11 h11 m12 h12 m13 h13 m14 h14 m15 h15 m16 h16 m17 h17  k acc) := by
  intro _ _
  unfold k0_t1_body
  repeat' with_reducible first
    | exact k_load
    | exact k_store
    | exact k_pure _
    | exact keeps_part10 ..
    | exact keeps_part11 ..
    | exact keeps_part1 ..
    | exact keeps_part2 ..
    | exact keeps_part3 ..
    | exact keeps_part4 ..
    | exact keeps_part5 ..
    | exact keeps_part6 ..
    | exact keeps_part7 ..
    | exact keeps_part8 ..
    | exact keeps_part9 ..
    | refine k_bind ?_ (fun _ => ?_)
    | split

set_option maxHeartbeats 8000000 in
theorem keeps_t2 : ∀ x0 k acc, K c R (k0_t2_body i m2 h2 m3 h3 m4 h4 m5 h5 m6 h6 m7 h7 m8 h8 m9 h9 m10 h10 m11 h11 m12 h12 m13 h13 m14 h14 m15 h15 m16 h16 m17 h17 x0 k acc) := by
  intro _ _ _
  unfold k0_t2_body
  repeat' with_reducible first
    | exact k_load
    | exact k_store
    | exact k_pure _
    | exact keeps_part12 ..
    | exact keeps_part13 ..
    | exact keeps_part14 ..
    | exact keeps_part15 ..
    | exact keeps_part16 ..
    | exact keeps_part17 ..
    | exact keeps_part18 ..
    | exact keeps_part19 ..
    | exact keeps_part20 ..
    | exact keeps_part21 ..
    | exact keeps_part22 ..
    | refine k_bind ?_ (fun _ => ?_)
    | split

set_option maxHeartbeats 8000000 in
theorem keeps_part234 : K c R (k0_part234 i m2 h2 m3 h3 m4 h4 m5 h5 m6 h6 m7 h7 m8 h8 m9 h9 m10 h10 m11 h11 m12 h12 m13 h13 m14 h14 m15 h15 m16 h16 m17 h17) := by
  rw [k0_part234_eq_skeleton]
  unfold k0_part234_skel
  repeat' with_reducible first
    | exact k_load
    | exact k_store
    | exact k_pure _
    | exact keeps_t1 ..
    | exact keeps_t2 ..
    | refine k_bind ?_ (fun _ => ?_)
    | refine k_for (fun _ _ => ?_)
    | split

set_option maxHeartbeats 8000000 in
theorem keeps_part250 : ∀ x0 x1 x2 x3 x4 x5 x6, K c R (k0_part250 i m2 h2 m3 h3 m4 h4 m5 h5 m6 h6 m7 h7 m8 h8 m9 h9 m10 h10 m11 h11 m12 h12 m13 h13 m14 h14 m15 h15 m16 h16 m17 h17 x0 x1 x2 x3 x4 x5 x6) := by
  intro _ _ _ _ _ _ _
  rw [k0_part250_eq_skeleton]
  unfold k0_part250_skel
  repeat' with_reducible first
    | exact k_load
    | exact k_store
    | exact k_pure _
    | exact keeps_t3 ..
    | refine k_bind ?_ (fun _ => ?_)
    | refine k_for (fun _ _ => ?_)
    | refine k_dite (fun _ => ?_) (fun _ => ?_)
    | split

set_option maxHeartbeats 8000000 in
theorem keeps_part119 : ∀ x0 x1 x2 x3, K c R (k0_part119 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part119_eq_skeleton]
  unfold k0_part119_skel
  repeat' with_reducible first
    | exact k_load
    | exact k_store
    | exact k_pure _
    | exact keeps_part23 ..
    | exact keeps_part24 ..
    | exact keeps_part25 ..
    | exact keeps_part26 ..
    | exact keeps_part27 ..
    | exact keeps_part28 ..
    | exact keeps_part29 ..
    | exact keeps_part30 ..
    | exact keeps_part31 ..
    | exact keeps_part32 ..
    | exact keeps_part33 ..
    | exact keeps_part34 ..
    | exact keeps_part35 ..
    | exact keeps_part36 ..
    | exact keeps_part37 ..
    | exact keeps_part38 ..
    | exact keeps_part39 ..
    | exact keeps_part40 ..
    | exact keeps_part41 ..
    | exact keeps_part42 ..
    | exact keeps_part43 ..
    | exact keeps_part44 ..
    | exact keeps_part45 ..
    | exact keeps_part46 ..
    | exact keeps_part47 ..
    | exact keeps_part48 ..
    | exact keeps_part49 ..
    | exact keeps_part50 ..
    | exact keeps_part51 ..
    | exact keeps_part52 ..
    | exact keeps_part53 ..
    | exact keeps_part54 ..
    | exact keeps_part55 ..
    | exact keeps_part56 ..
    | exact keeps_part57 ..
    | exact keeps_part58 ..
    | exact keeps_part59 ..
    | exact keeps_part60 ..
    | exact keeps_part61 ..
    | exact keeps_part62 ..
    | exact keeps_part63 ..
    | exact keeps_part64 ..
    | exact keeps_part65 ..
    | exact keeps_part66 ..
    | exact keeps_part67 ..
    | exact keeps_part68 ..
    | exact keeps_part69 ..
    | exact keeps_part70 ..
    | exact keeps_part71 ..
    | exact keeps_part72 ..
    | exact keeps_part73 ..
    | exact keeps_part74 ..
    | exact keeps_part75 ..
    | exact keeps_part76 ..
    | exact keeps_part77 ..
    | exact keeps_part78 ..
    | exact keeps_part79 ..
    | exact keeps_part80 ..
    | exact keeps_part81 ..
    | exact keeps_part82 ..
    | refine k_bind ?_ (fun _ => ?_)
    | split

set_option maxHeartbeats 8000000 in
theorem keeps_t4 : ∀ x0 x1 x2 k acc, K c R (k0_t4_body i m2 h2 m3 h3 m4 h4 m5 h5 m6 h6 m7 h7 m8 h8 m9 h9 m10 h10 m11 h11 m12 h12 m13 h13 m14 h14 m15 h15 m16 h16 m17 h17 x0 x1 x2 k acc) := by
  intro _ _ _ _ _
  unfold k0_t4_body
  repeat' with_reducible first
    | exact k_load
    | exact k_store
    | exact k_pure _
    | exact keeps_part100 ..
    | exact keeps_part101 ..
    | exact keeps_part102 ..
    | exact keeps_part103 ..
    | exact keeps_part104 ..
    | exact keeps_part105 ..
    | exact keeps_part106 ..
    | exact keeps_part107 ..
    | exact keeps_part108 ..
    | exact keeps_part109 ..
    | exact keeps_part110 ..
    | exact keeps_part111 ..
    | exact keeps_part112 ..
    | exact keeps_part113 ..
    | exact keeps_part114 ..
    | exact keeps_part115 ..
    | exact keeps_part116 ..
    | exact keeps_part117 ..
    | exact keeps_part118 ..
    | exact keeps_part119 ..
    | exact keeps_part83 ..
    | exact keeps_part84 ..
    | exact keeps_part85 ..
    | exact keeps_part86 ..
    | exact keeps_part87 ..
    | exact keeps_part88 ..
    | exact keeps_part89 ..
    | exact keeps_part90 ..
    | exact keeps_part91 ..
    | exact keeps_part92 ..
    | exact keeps_part93 ..
    | exact keeps_part94 ..
    | exact keeps_part95 ..
    | exact keeps_part96 ..
    | exact keeps_part97 ..
    | exact keeps_part98 ..
    | exact keeps_part99 ..
    | refine k_bind ?_ (fun _ => ?_)
    | split

set_option maxHeartbeats 8000000 in
theorem keeps_part216 : ∀ x0 x1 x2 x3, K c R (k0_part216 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part216_eq_skeleton]
  unfold k0_part216_skel
  repeat' with_reducible first
    | exact k_load
    | exact k_store
    | exact k_pure _
    | exact keeps_part120 ..
    | exact keeps_part121 ..
    | exact keeps_part122 ..
    | exact keeps_part123 ..
    | exact keeps_part124 ..
    | exact keeps_part125 ..
    | exact keeps_part126 ..
    | exact keeps_part127 ..
    | exact keeps_part128 ..
    | exact keeps_part129 ..
    | exact keeps_part130 ..
    | exact keeps_part131 ..
    | exact keeps_part132 ..
    | exact keeps_part133 ..
    | exact keeps_part134 ..
    | exact keeps_part135 ..
    | exact keeps_part136 ..
    | exact keeps_part137 ..
    | exact keeps_part138 ..
    | exact keeps_part139 ..
    | exact keeps_part140 ..
    | exact keeps_part141 ..
    | exact keeps_part142 ..
    | exact keeps_part143 ..
    | exact keeps_part144 ..
    | exact keeps_part145 ..
    | exact keeps_part146 ..
    | exact keeps_part147 ..
    | exact keeps_part148 ..
    | exact keeps_part149 ..
    | exact keeps_part150 ..
    | exact keeps_part151 ..
    | exact keeps_part152 ..
    | exact keeps_part153 ..
    | exact keeps_part154 ..
    | exact keeps_part155 ..
    | exact keeps_part156 ..
    | exact keeps_part157 ..
    | exact keeps_part158 ..
    | exact keeps_part159 ..
    | exact keeps_part160 ..
    | exact keeps_part161 ..
    | exact keeps_part162 ..
    | exact keeps_part163 ..
    | exact keeps_part164 ..
    | exact keeps_part165 ..
    | exact keeps_part166 ..
    | exact keeps_part167 ..
    | exact keeps_part168 ..
    | exact keeps_part169 ..
    | exact keeps_part170 ..
    | exact keeps_part171 ..
    | exact keeps_part172 ..
    | exact keeps_part173 ..
    | exact keeps_part174 ..
    | exact keeps_part175 ..
    | exact keeps_part176 ..
    | exact keeps_part177 ..
    | exact keeps_part178 ..
    | exact keeps_part179 ..
    | refine k_bind ?_ (fun _ => ?_)
    | split

set_option maxHeartbeats 8000000 in
theorem keeps_t5 : ∀ x0 x1 x2 x3 k acc, K c R (k0_t5_body i m2 h2 m3 h3 m4 h4 m5 h5 m6 h6 m7 h7 m8 h8 m9 h9 m10 h10 m11 h11 m12 h12 m13 h13 m14 h14 m15 h15 m16 h16 m17 h17 x0 x1 x2 x3 k acc) := by
  intro _ _ _ _ _ _
  unfold k0_t5_body
  repeat' with_reducible first
    | exact k_load
    | exact k_store
    | exact k_pure _
    | exact keeps_part180 ..
    | exact keeps_part181 ..
    | exact keeps_part182 ..
    | exact keeps_part183 ..
    | exact keeps_part184 ..
    | exact keeps_part185 ..
    | exact keeps_part186 ..
    | exact keeps_part187 ..
    | exact keeps_part188 ..
    | exact keeps_part189 ..
    | exact keeps_part190 ..
    | exact keeps_part191 ..
    | exact keeps_part192 ..
    | exact keeps_part193 ..
    | exact keeps_part194 ..
    | exact keeps_part195 ..
    | exact keeps_part196 ..
    | exact keeps_part197 ..
    | exact keeps_part198 ..
    | exact keeps_part199 ..
    | exact keeps_part200 ..
    | exact keeps_part201 ..
    | exact keeps_part202 ..
    | exact keeps_part203 ..
    | exact keeps_part204 ..
    | exact keeps_part205 ..
    | exact keeps_part206 ..
    | exact keeps_part207 ..
    | exact keeps_part208 ..
    | exact keeps_part209 ..
    | exact keeps_part210 ..
    | exact keeps_part211 ..
    | exact keeps_part212 ..
    | exact keeps_part213 ..
    | exact keeps_part214 ..
    | exact keeps_part215 ..
    | exact keeps_part216 ..
    | refine k_bind ?_ (fun _ => ?_)
    | split

set_option maxHeartbeats 8000000 in
theorem keeps_part218 : ∀ x0 x1 x2, K c R (k0_part218 i m2 h2 m3 h3 m4 h4 m5 h5 m6 h6 m7 h7 m8 h8 m9 h9 m10 h10 m11 h11 m12 h12 m13 h13 m14 h14 m15 h15 m16 h16 m17 h17 x0 x1 x2) := by
  intro _ _ _
  rw [k0_part218_eq_skeleton]
  unfold k0_part218_skel
  repeat' with_reducible first
    | exact k_load
    | exact k_store
    | exact k_pure _
    | exact keeps_t4 ..
    | exact keeps_t5 ..
    | exact keeps_t6 ..
    | refine k_bind ?_ (fun _ => ?_)
    | refine k_for (fun _ _ => ?_)
    | split

set_option maxHeartbeats 8000000 in
theorem keeps_t16 : ∀ x0 x1 x2 x3 x4 x5 k acc, K c R (k0_t16_body i m2 h2 m3 h3 m4 h4 m5 h5 m6 h6 m7 h7 m8 h8 m9 h9 m10 h10 m11 h11 m12 h12 m13 h13 m14 h14 m15 h15 m16 h16 m17 h17 x0 x1 x2 x3 x4 x5 k acc) := by
  intro _ _ _ _ _ _ _ _
  unfold k0_t16_body
  repeat' with_reducible first
    | exact k_load
    | exact k_store
    | exact k_pure _
    | exact keeps_part220 ..
    | refine k_bind ?_ (fun _ => ?_)
    | split

set_option maxHeartbeats 8000000 in
theorem keeps_t17 : ∀ x0 x1 x2 x3 x4 x5 x6 k acc, K c R (k0_t17_body i m2 h2 m3 h3 m4 h4 m5 h5 m6 h6 m7 h7 m8 h8 m9 h9 m10 h10 m11 h11 m12 h12 m13 h13 m14 h14 m15 h15 m16 h16 m17 h17 x0 x1 x2 x3 x4 x5 x6 k acc) := by
  intro _ _ _ _ _ _ _ _ _
  unfold k0_t17_body
  repeat' with_reducible first
    | exact k_load
    | exact k_store
    | exact k_pure _
    | exact keeps_part221 ..
    | refine k_bind ?_ (fun _ => ?_)
    | split

set_option maxHeartbeats 8000000 in
theorem keeps_part217 : ∀ x0 x1 x2 x3 x4 x5 x6 x7, K c R (k0_part217 i m2 h2 m3 h3 m4 h4 m5 h5 m6 h6 m7 h7 m8 h8 m9 h9 m10 h10 m11 h11 m12 h12 m13 h13 m14 h14 m15 h15 m16 h16 m17 h17 x0 x1 x2 x3 x4 x5 x6 x7) := by
  intro _ _ _ _ _ _ _ _
  rw [k0_part217_eq_skeleton]
  unfold k0_part217_skel
  repeat' with_reducible first
    | exact k_load
    | exact k_store
    | exact k_pure _
    | exact keeps_t10 ..
    | exact keeps_t11 ..
    | exact keeps_t8 ..
    | exact keeps_t9 ..
    | refine k_bind ?_ (fun _ => ?_)
    | refine k_for (fun _ _ => ?_)
    | split

set_option maxHeartbeats 8000000 in
theorem keeps_t7 : ∀ x0 x1 x2 x3 x4 x5 x6 k acc, K c R (k0_t7_body i m2 h2 m3 h3 m4 h4 m5 h5 m6 h6 m7 h7 m8 h8 m9 h9 m10 h10 m11 h11 m12 h12 m13 h13 m14 h14 m15 h15 m16 h16 m17 h17 x0 x1 x2 x3 x4 x5 x6 k acc) := by
  intro _ _ _ _ _ _ _ _ _
  unfold k0_t7_body
  repeat' with_reducible first
    | exact k_load
    | exact k_store
    | exact k_pure _
    | exact keeps_part217 ..
    | refine k_bind ?_ (fun _ => ?_)
    | split

set_option maxHeartbeats 8000000 in
theorem keeps_part251 : ∀ x0 x1 x2 x3, K c R (k0_part251 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part251_eq_skeleton]
  unfold k0_part251_skel
  repeat' first
    | with_reducible exact k_load
    | with_reducible exact k_store
    | with_reducible exact k_pure _
    | with_reducible exact keeps_part218 i m2 h2 m3 h3 m4 h4 m5 h5 m6 h6 m7 h7 m8 h8 m9 h9 m10 h10 m11 h11 m12 h12 m13 h13 m14 h14 m15 h15 m16 h16 m17 h17 _ _ _
    | with_reducible exact keeps_part219 i m2 h2 m3 h3 m4 h4 m5 h5 m6 h6 m7 h7 m8 h8 m9 h9 m10 h10 m11 h11 m12 h12 m13 h13 m14 h14 m15 h15 m16 h16 m17 h17 _ _ _ _ _ _ _
    | with_reducible exact keeps_t12 i m2 h2 m3 h3 m4 h4 m5 h5 m6 h6 m7 h7 m8 h8 m9 h9 m10 h10 m11 h11 m12 h12 m13 h13 m14 h14 m15 h15 m16 h16 m17 h17 _ _ _ _ _ _ _
    | with_reducible exact keeps_t13 i m2 h2 m3 h3 m4 h4 m5 h5 m6 h6 m7 h7 m8 h8 m9 h9 m10 h10 m11 h11 m12 h12 m13 h13 m14 h14 m15 h15 m16 h16 m17 h17 _ _ _ _ _ _ _
    | with_reducible exact keeps_t14 i m2 h2 m3 h3 m4 h4 m5 h5 m6 h6 m7 h7 m8 h8 m9 h9 m10 h10 m11 h11 m12 h12 m13 h13 m14 h14 m15 h15 m16 h16 m17 h17 _ _ _ _ _ _ _
    | with_reducible exact keeps_t15 i m2 h2 m3 h3 m4 h4 m5 h5 m6 h6 m7 h7 m8 h8 m9 h9 m10 h10 m11 h11 m12 h12 m13 h13 m14 h14 m15 h15 m16 h16 m17 h17 _ _ _ _ _ _ _
    | with_reducible exact keeps_t16 i m2 h2 m3 h3 m4 h4 m5 h5 m6 h6 m7 h7 m8 h8 m9 h9 m10 h10 m11 h11 m12 h12 m13 h13 m14 h14 m15 h15 m16 h16 m17 h17 _ _ _ _ _ _ _ _
    | with_reducible exact keeps_t17 i m2 h2 m3 h3 m4 h4 m5 h5 m6 h6 m7 h7 m8 h8 m9 h9 m10 h10 m11 h11 m12 h12 m13 h13 m14 h14 m15 h15 m16 h16 m17 h17 _ _ _ _ _ _ _ _ _
    | with_reducible exact keeps_t18 i m2 h2 m3 h3 m4 h4 m5 h5 m6 h6 m7 h7 m8 h8 m9 h9 m10 h10 m11 h11 m12 h12 m13 h13 m14 h14 m15 h15 m16 h16 m17 h17 _ _ _ _ _ _ _ _
    | with_reducible exact keeps_t19 i m2 h2 m3 h3 m4 h4 m5 h5 m6 h6 m7 h7 m8 h8 m9 h9 m10 h10 m11 h11 m12 h12 m13 h13 m14 h14 m15 h15 m16 h16 m17 h17 _ _ _ _ _ _ _ _
    | with_reducible exact keeps_t7 i m2 h2 m3 h3 m4 h4 m5 h5 m6 h6 m7 h7 m8 h8 m9 h9 m10 h10 m11 h11 m12 h12 m13 h13 m14 h14 m15 h15 m16 h16 m17 h17 _ _ _ _ _ _ _ _ _
    | with_reducible refine k_bind ?_ (fun _ => ?_)
    | with_reducible refine k_for (fun _ _ => ?_)
    | with_reducible refine k_dite (fun _ => ?_) (fun _ => ?_)
    | split
    | with_reducible refine k_ite ?_ ?_
    | exact k_smemLoad

set_option maxHeartbeats 8000000 in
theorem keeps_t20 : ∀ x0 x1 x2 x3 x4 k acc, K c R (k0_t20_body i m2 h2 m3 h3 m4 h4 m5 h5 m6 h6 m7 h7 m8 h8 m9 h9 m10 h10 m11 h11 m12 h12 m13 h13 m14 h14 m15 h15 m16 h16 m17 h17 x0 x1 x2 x3 x4 k acc) := by
  intro _ _ _ _ _ _ _
  unfold k0_t20_body
  repeat' with_reducible first
    | exact k_load
    | exact k_store
    | exact k_pure _
    | exact keeps_part222 ..
    | refine k_bind ?_ (fun _ => ?_)
    | split

set_option maxHeartbeats 8000000 in
theorem keeps_t21 : ∀ x0 x1 x2 x3 x4 x5 k acc, K c R (k0_t21_body i m2 h2 m3 h3 m4 h4 m5 h5 m6 h6 m7 h7 m8 h8 m9 h9 m10 h10 m11 h11 m12 h12 m13 h13 m14 h14 m15 h15 m16 h16 m17 h17 x0 x1 x2 x3 x4 x5 k acc) := by
  intro _ _ _ _ _ _ _ _
  unfold k0_t21_body
  repeat' with_reducible first
    | exact k_load
    | exact k_store
    | exact k_pure _
    | exact keeps_part223 ..
    | refine k_bind ?_ (fun _ => ?_)
    | split

set_option maxHeartbeats 8000000 in
theorem keeps_part252 : ∀ x0 x1 x2 x3 x4, K c R (k0_part252 i m2 h2 m3 h3 m4 h4 m5 h5 m6 h6 m7 h7 m8 h8 m9 h9 m10 h10 m11 h11 m12 h12 m13 h13 m14 h14 m15 h15 m16 h16 m17 h17 x0 x1 x2 x3 x4) := by
  intro _ _ _ _ _
  rw [k0_part252_eq_skeleton]
  unfold k0_part252_skel
  repeat' with_reducible first
    | exact k_load
    | exact k_store
    | exact k_pure _
    | exact keeps_t20 ..
    | exact keeps_t21 ..
    | exact keeps_t22 ..
    | exact keeps_t23 ..
    | refine k_bind ?_ (fun _ => ?_)
    | refine k_for (fun _ _ => ?_)
    | split

set_option maxHeartbeats 8000000 in
theorem keeps_t24 : ∀ x0 x1 x2 x3 x4 x5 x6 x7 k acc, K c R (k0_t24_body i m2 h2 m3 h3 m4 h4 m5 h5 m6 h6 m7 h7 m8 h8 m9 h9 m10 h10 m11 h11 m12 h12 m13 h13 m14 h14 m15 h15 m16 h16 m17 h17 x0 x1 x2 x3 x4 x5 x6 x7 k acc) := by
  intro _ _ _ _ _ _ _ _ _ _
  unfold k0_t24_body
  repeat' with_reducible first
    | exact k_load
    | exact k_store
    | exact k_pure _
    | exact keeps_part224 ..
    | refine k_bind ?_ (fun _ => ?_)
    | split

set_option maxHeartbeats 8000000 in
theorem keeps_t25 : ∀ x0 x1 x2 x3 x4 x5 x6 x7 x8 k acc, K c R (k0_t25_body i m2 h2 m3 h3 m4 h4 m5 h5 m6 h6 m7 h7 m8 h8 m9 h9 m10 h10 m11 h11 m12 h12 m13 h13 m14 h14 m15 h15 m16 h16 m17 h17 x0 x1 x2 x3 x4 x5 x6 x7 x8 k acc) := by
  intro _ _ _ _ _ _ _ _ _ _ _
  unfold k0_t25_body
  repeat' with_reducible first
    | exact k_load
    | exact k_store
    | exact k_pure _
    | exact keeps_part225 ..
    | refine k_bind ?_ (fun _ => ?_)
    | split

set_option maxHeartbeats 8000000 in
theorem keeps_part253 : ∀ x0 x1 x2 x3 x4 x5 x6 x7, K c R (k0_part253 i m2 h2 m3 h3 m4 h4 m5 h5 m6 h6 m7 h7 m8 h8 m9 h9 m10 h10 m11 h11 m12 h12 m13 h13 m14 h14 m15 h15 m16 h16 m17 h17 x0 x1 x2 x3 x4 x5 x6 x7) := by
  intro _ _ _ _ _ _ _ _
  rw [k0_part253_eq_skeleton]
  unfold k0_part253_skel
  repeat' with_reducible first
    | exact k_load
    | exact k_store
    | exact k_pure _
    | exact keeps_t24 ..
    | exact keeps_t25 ..
    | exact keeps_t26 ..
    | exact keeps_t27 ..
    | refine k_bind ?_ (fun _ => ?_)
    | refine k_for (fun _ _ => ?_)
    | split

set_option maxHeartbeats 8000000 in
theorem keeps_t28 : ∀ x0 x1 x2 x3 x4 x5 x6 x7 x8 k acc, K c R (k0_t28_body i m2 h2 m3 h3 m4 h4 m5 h5 m6 h6 m7 h7 m8 h8 m9 h9 m10 h10 m11 h11 m12 h12 m13 h13 m14 h14 m15 h15 m16 h16 m17 h17 x0 x1 x2 x3 x4 x5 x6 x7 x8 k acc) := by
  intro _ _ _ _ _ _ _ _ _ _ _
  unfold k0_t28_body
  repeat' with_reducible first
    | exact k_load
    | exact k_store
    | exact k_pure _
    | exact keeps_part226 ..
    | refine k_bind ?_ (fun _ => ?_)
    | split

set_option maxHeartbeats 8000000 in
theorem keeps_t29 : ∀ x0 x1 x2 x3 x4 x5 x6 x7 x8 x9 k acc, K c R (k0_t29_body i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 k acc) := by
  intro _ _ _ _ _ _ _ _ _ _ _ _
  unfold k0_t29_body
  repeat' with_reducible first
    | exact k_load
    | exact k_store
    | exact k_pure _
    | exact keeps_part227 ..
    | refine k_bind ?_ (fun _ => ?_)
    | split

set_option maxHeartbeats 8000000 in
theorem keeps_part254 : ∀ x0 x1 x2 x3 x4 x5 x6 x7 x8, K c R (k0_part254 i m2 h2 m3 h3 m4 h4 m5 h5 m6 h6 m7 h7 m8 h8 m9 h9 m10 h10 m11 h11 m12 h12 m13 h13 m14 h14 m15 h15 m16 h16 m17 h17 x0 x1 x2 x3 x4 x5 x6 x7 x8) := by
  intro _ _ _ _ _ _ _ _ _
  rw [k0_part254_eq_skeleton]
  unfold k0_part254_skel
  repeat' with_reducible first
    | exact k_load
    | exact k_store
    | exact k_pure _
    | exact keeps_t28 ..
    | exact keeps_t29 ..
    | exact keeps_t30 ..
    | exact keeps_t31 ..
    | refine k_bind ?_ (fun _ => ?_)
    | refine k_for (fun _ _ => ?_)
    | split

set_option maxHeartbeats 8000000 in
theorem keeps_t32 : ∀ x0 x1 x2 x3 x4 x5 x6 x7 x8 k acc, K c R (k0_t32_body i m2 h2 m3 h3 m4 h4 m5 h5 m6 h6 m7 h7 m8 h8 m9 h9 m10 h10 m11 h11 m12 h12 m13 h13 m14 h14 m15 h15 m16 h16 m17 h17 x0 x1 x2 x3 x4 x5 x6 x7 x8 k acc) := by
  intro _ _ _ _ _ _ _ _ _ _ _
  unfold k0_t32_body
  repeat' with_reducible first
    | exact k_load
    | exact k_store
    | exact k_pure _
    | exact keeps_part228 ..
    | refine k_bind ?_ (fun _ => ?_)
    | split

set_option maxHeartbeats 8000000 in
theorem keeps_t33 : ∀ x0 x1 x2 x3 x4 x5 x6 x7 x8 x9 k acc, K c R (k0_t33_body i m2 h2 m3 h3 m4 h4 m5 h5 m6 h6 m7 h7 m8 h8 m9 h9 m10 h10 m11 h11 m12 h12 m13 h13 m14 h14 m15 h15 m16 h16 m17 h17 x0 x1 x2 x3 x4 x5 x6 x7 x8 x9 k acc) := by
  intro _ _ _ _ _ _ _ _ _ _ _ _
  unfold k0_t33_body
  repeat' with_reducible first
    | exact k_load
    | exact k_store
    | exact k_pure _
    | exact keeps_part229 ..
    | refine k_bind ?_ (fun _ => ?_)
    | split

set_option maxHeartbeats 8000000 in
theorem keeps_part255 : ∀ x0 x1 x2 x3 x4 x5 x6 x7 x8, K c R (k0_part255 i m2 h2 m3 h3 m4 h4 m5 h5 m6 h6 m7 h7 m8 h8 m9 h9 m10 h10 m11 h11 m12 h12 m13 h13 m14 h14 m15 h15 m16 h16 m17 h17 x0 x1 x2 x3 x4 x5 x6 x7 x8) := by
  intro _ _ _ _ _ _ _ _ _
  rw [k0_part255_eq_skeleton]
  unfold k0_part255_skel
  repeat' with_reducible first
    | exact k_load
    | exact k_store
    | exact k_pure _
    | exact keeps_t32 ..
    | exact keeps_t33 ..
    | exact keeps_t34 ..
    | exact keeps_t35 ..
    | refine k_bind ?_ (fun _ => ?_)
    | refine k_for (fun _ _ => ?_)
    | split

set_option maxHeartbeats 8000000 in
theorem keeps_t36 : ∀ x0 x1 x2 x3 x4 x5 x6 x7 k acc, K c R (k0_t36_body i m2 h2 m3 h3 m4 h4 m5 h5 m6 h6 m7 h7 m8 h8 m9 h9 m10 h10 m11 h11 m12 h12 m13 h13 m14 h14 m15 h15 m16 h16 m17 h17 x0 x1 x2 x3 x4 x5 x6 x7 k acc) := by
  intro _ _ _ _ _ _ _ _ _ _
  unfold k0_t36_body
  repeat' with_reducible first
    | exact k_load
    | exact k_store
    | exact k_pure _
    | exact keeps_part230 ..
    | refine k_bind ?_ (fun _ => ?_)
    | split

set_option maxHeartbeats 8000000 in
theorem keeps_t37 : ∀ x0 x1 x2 x3 x4 x5 x6 x7 x8 k acc, K c R (k0_t37_body i m2 h2 m3 h3 m4 h4 m5 h5 m6 h6 m7 h7 m8 h8 m9 h9 m10 h10 m11 h11 m12 h12 m13 h13 m14 h14 m15 h15 m16 h16 m17 h17 x0 x1 x2 x3 x4 x5 x6 x7 x8 k acc) := by
  intro _ _ _ _ _ _ _ _ _ _ _
  unfold k0_t37_body
  repeat' with_reducible first
    | exact k_load
    | exact k_store
    | exact k_pure _
    | exact keeps_part231 ..
    | refine k_bind ?_ (fun _ => ?_)
    | split

set_option maxHeartbeats 8000000 in
theorem keeps_part256 : ∀ x0 x1 x2 x3 x4 x5 x6 x7, K c R (k0_part256 i m2 h2 m3 h3 m4 h4 m5 h5 m6 h6 m7 h7 m8 h8 m9 h9 m10 h10 m11 h11 m12 h12 m13 h13 m14 h14 m15 h15 m16 h16 m17 h17 x0 x1 x2 x3 x4 x5 x6 x7) := by
  intro _ _ _ _ _ _ _ _
  rw [k0_part256_eq_skeleton]
  unfold k0_part256_skel
  repeat' with_reducible first
    | exact k_load
    | exact k_store
    | exact k_pure _
    | exact keeps_t36 ..
    | exact keeps_t37 ..
    | exact keeps_t38 ..
    | exact keeps_t39 ..
    | refine k_bind ?_ (fun _ => ?_)
    | refine k_for (fun _ _ => ?_)
    | split

set_option maxHeartbeats 8000000 in
theorem keeps_t40 : ∀ x0 x1 x2 x3 k acc, K c R (k0_t40_body i m2 h2 m3 h3 m4 h4 m5 h5 m6 h6 m7 h7 m8 h8 m9 h9 m10 h10 m11 h11 m12 h12 m13 h13 m14 h14 m15 h15 m16 h16 m17 h17 x0 x1 x2 x3 k acc) := by
  intro _ _ _ _ _ _
  unfold k0_t40_body
  repeat' with_reducible first
    | exact k_load
    | exact k_store
    | exact k_pure _
    | exact keeps_part232 ..
    | refine k_bind ?_ (fun _ => ?_)
    | split

set_option maxHeartbeats 8000000 in
theorem keeps_t41 : ∀ x0 x1 x2 x3 x4 k acc, K c R (k0_t41_body i m2 h2 m3 h3 m4 h4 m5 h5 m6 h6 m7 h7 m8 h8 m9 h9 m10 h10 m11 h11 m12 h12 m13 h13 m14 h14 m15 h15 m16 h16 m17 h17 x0 x1 x2 x3 x4 k acc) := by
  intro _ _ _ _ _ _ _
  unfold k0_t41_body
  repeat' with_reducible first
    | exact k_load
    | exact k_store
    | exact k_pure _
    | exact keeps_part233 ..
    | refine k_bind ?_ (fun _ => ?_)
    | split

set_option maxHeartbeats 8000000 in
theorem keeps_part257 : ∀ x0 x1 x2 x3, K c R (k0_part257 i m2 h2 m3 h3 m4 h4 m5 h5 m6 h6 m7 h7 m8 h8 m9 h9 m10 h10 m11 h11 m12 h12 m13 h13 m14 h14 m15 h15 m16 h16 m17 h17 x0 x1 x2 x3) := by
  intro _ _ _ _
  rw [k0_part257_eq_skeleton]
  unfold k0_part257_skel
  repeat' with_reducible first
    | exact k_load
    | exact k_store
    | exact k_pure _
    | exact keeps_t40 ..
    | exact keeps_t41 ..
    | exact keeps_t42 ..
    | exact keeps_t43 ..
    | refine k_bind ?_ (fun _ => ?_)
    | refine k_for (fun _ _ => ?_)
    | split

set_option maxHeartbeats 8000000 in
theorem keeps_part258 : ∀ x0 x1, K c R (k0_part258 i m2 h2 m3 h3 m4 h4 m5 h5 m6 h6 m7 h7 m8 h8 m9 h9 m10 h10 m11 h11 m12 h12 m13 h13 m14 h14 m15 h15 m16 h16 m17 h17 x0 x1) := by
  intro _ _
  rw [k0_part258_eq_skeleton]
  unfold k0_part258_skel
  repeat' with_reducible first
    | exact k_load
    | exact k_store
    | exact k_pure _
    | exact keeps_t44 ..
    | exact keeps_t45 ..
    | exact keeps_t46 ..
    | exact keeps_t47 ..
    | refine k_bind ?_ (fun _ => ?_)
    | refine k_for (fun _ _ => ?_)
    | split

set_option maxHeartbeats 8000000 in
theorem keeps_cc0_dsa : K c R (cc0_dsa i m2 h2 m3 h3 m4 h4 m5 h5 m6 h6 m7 h7 m8 h8 m9 h9 m10 h10 m11 h11 m12 h12 m13 h13 m14 h14 m15 h15 m16 h16 m17 h17) := by
  rw [cc0_dsa_eq_skeleton]
  unfold cc0_dsa_skel
  repeat' with_reducible first
    | exact k_load
    | exact k_store
    | exact k_pure _
    | exact keeps_part234 ..
    | exact keeps_part235 ..
    | exact keeps_part236 ..
    | exact keeps_part237 ..
    | exact keeps_part238 ..
    | exact keeps_part239 ..
    | exact keeps_part240 ..
    | exact keeps_part241 ..
    | exact keeps_part242 ..
    | exact keeps_part243 ..
    | exact keeps_part244 ..
    | exact keeps_part245 ..
    | exact keeps_part246 ..
    | exact keeps_part247 ..
    | exact keeps_part248 ..
    | exact keeps_part249 ..
    | exact keeps_part250 ..
    | exact keeps_part251 ..
    | exact keeps_part252 ..
    | exact keeps_part253 ..
    | exact keeps_part254 ..
    | exact keeps_part255 ..
    | exact keeps_part256 ..
    | exact keeps_part257 ..
    | exact keeps_part258 ..
    | refine k_bind ?_ (fun _ => ?_)
    | split

end Cert.Proof.KernelKeeps

end
-- ==== Proof.KernelFrame.lean ====
/- The frame of the sparse-attention kernel: at every point of the grid the body keeps the blocks of its six inputs,
   and leaves the result's block and its nine scratch buffers at some contents (KeepsBody.lean); the pipeline's frame
   theorem takes this to the whole program. -/
module

public import proofs.«01_k».proof.Proof.KeepsBody
public import proofs.«01_k».proof.Proof.Gen.Kernel.Frame
public import proofs.«01_k».proof.Proof.Gen.Kernel.Launch
public import proofs.«01_k».proof.Proof.Gen.Kernel.Points

@[expose] public section

noncomputable section

namespace Cert.Proof.KernelFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open Cert.Kernel Cert.Kernel.Gen Cert.Proof.Keep Cert.Proof.KernelKeeps

variable {F : FTy → Type} [BitOps F]

local notation "𝕄" => MT nD τ sig Unit (Elt F) ℕ (UR sig nD τ) ℕ

/-! ## What the body keeps -/

section Body

variable {c : Dev nD} {cs : CoreSpace} {s : Shape} {e : EltTy} {R S : sProp (MT nD τ sig Unit (Elt F) ℕ (UR sig nD τ) ℕ)} {m : Memref sig .tc cs s e}

instance kreads_owns {X : s.Idx → Elt F e} : KReads (F := F) c (owns (c : Thread nD τ) m fullShare X : sProp 𝕄) m := ⟨reads_owns (c := (c : Thread nD τ)) m⟩
instance kreads_any : KReads (F := F) c (anyOf (c : Thread nD τ) m : sProp 𝕄) m := ⟨reads_any (c := (c : Thread nD τ)) m⟩
instance kwrites_any : KWrites (F := F) c (anyOf (c : Thread nD τ) m : sProp 𝕄) m := ⟨writes_any (c := (c : Thread nD τ)) m⟩
instance kreads_left [h : KReads (F := F) c R m] : KReads (F := F) c (iprop(R ∗ S) : sProp 𝕄) m :=
  ⟨⟨fun r hl => keeps_left (h.reads.keeps r hl)⟩⟩
instance kreads_right [h : KReads (F := F) c S m] : KReads (F := F) c (iprop(R ∗ S) : sProp 𝕄) m :=
  ⟨⟨fun r hl => keeps_right (h.reads.keeps r hl)⟩⟩
instance kwrites_left [h : KWrites (F := F) c R m] : KWrites (F := F) c (iprop(R ∗ S) : sProp 𝕄) m :=
  ⟨⟨fun r w Mk hx hm => keeps_left (h.writes.keeps r w Mk hx hm)⟩⟩
instance kwrites_right [h : KWrites (F := F) c S m] : KWrites (F := F) c (iprop(R ∗ S) : sProp 𝕄) m :=
  ⟨⟨fun r w Mk hx hm => keeps_right (h.writes.keeps r w Mk hx hm)⟩⟩

/-! A scratch buffer at some contents. -/

theorem any_s0 : (anyOf (c : Thread nD τ) (Memref.whole cc0_scratch0 : Memref sig .tc .vmem S4096x512 .i32) : sProp 𝕄)
    = iprop(∃ f : Buf (Elt F) ((c : Thread nD τ).loc cc0_scratch0), ((c : Thread nD τ).loc cc0_scratch0) ↦{fullShare} f) := by
  unfold anyOf
  exact congrArg _ (funext fun f => owns_whole (c : Thread nD τ) cc0_scratch0 fullShare f)

theorem any_s1 : (anyOf (c : Thread nD τ) (Memref.whole cc0_scratch1 : Memref sig .tc .vmem S32x128x512 .i32) : sProp 𝕄)
    = iprop(∃ f : Buf (Elt F) ((c : Thread nD τ).loc cc0_scratch1), ((c : Thread nD τ).loc cc0_scratch1) ↦{fullShare} f) := by
  unfold anyOf
  exact congrArg _ (funext fun f => owns_whole (c : Thread nD τ) cc0_scratch1 fullShare f)

theorem any_s2 : (anyOf (c : Thread nD τ) (Memref.whole cc0_scratch2 : Memref sig .tc .vmem S128x512 .i32) : sProp 𝕄)
    = iprop(∃ f : Buf (Elt F) ((c : Thread nD τ).loc cc0_scratch2), ((c : Thread nD τ).loc cc0_scratch2) ↦{fullShare} f) := by
  unfold anyOf
  exact congrArg _ (funext fun f => owns_whole (c : Thread nD τ) cc0_scratch2 fullShare f)

theorem any_s3 : (anyOf (c : Thread nD τ) (Memref.whole cc0_scratch3 : Memref sig .tc .vmem S4096x512 .f32) : sProp 𝕄)
    = iprop(∃ f : Buf (Elt F) ((c : Thread nD τ).loc cc0_scratch3), ((c : Thread nD τ).loc cc0_scratch3) ↦{fullShare} f) := by
  unfold anyOf
  exact congrArg _ (funext fun f => owns_whole (c : Thread nD τ) cc0_scratch3 fullShare f)

theorem any_s4 : (anyOf (c : Thread nD τ) (Memref.whole cc0_scratch4 : Memref sig .tc .vmem S4096x512 .f32) : sProp 𝕄)
    = iprop(∃ f : Buf (Elt F) ((c : Thread nD τ).loc cc0_scratch4), ((c : Thread nD τ).loc cc0_scratch4) ↦{fullShare} f) := by
  unfold anyOf
  exact congrArg _ (funext fun f => owns_whole (c : Thread nD τ) cc0_scratch4 fullShare f)

theorem any_s5 : (anyOf (c : Thread nD τ) (Memref.whole cc0_scratch5 : Memref sig .tc .vmem S384x512 .f32) : sProp 𝕄)
    = iprop(∃ f : Buf (Elt F) ((c : Thread nD τ).loc cc0_scratch5), ((c : Thread nD τ).loc cc0_scratch5) ↦{fullShare} f) := by
  unfold anyOf
  exact congrArg _ (funext fun f => owns_whole (c : Thread nD τ) cc0_scratch5 fullShare f)

theorem any_s6 : (anyOf (c : Thread nD τ) (Memref.whole cc0_scratch6 : Memref sig .tc .vmem S1x512 .i32) : sProp 𝕄)
    = iprop(∃ f : Buf (Elt F) ((c : Thread nD τ).loc cc0_scratch6), ((c : Thread nD τ).loc cc0_scratch6) ↦{fullShare} f) := by
  unfold anyOf
  exact congrArg _ (funext fun f => owns_whole (c : Thread nD τ) cc0_scratch6 fullShare f)

theorem any_s7 : (anyOf (c : Thread nD τ) (Memref.whole cc0_scratch7 : Memref sig .tc .vmem S1x512 .i32) : sProp 𝕄)
    = iprop(∃ f : Buf (Elt F) ((c : Thread nD τ).loc cc0_scratch7), ((c : Thread nD τ).loc cc0_scratch7) ↦{fullShare} f) := by
  unfold anyOf
  exact congrArg _ (funext fun f => owns_whole (c : Thread nD τ) cc0_scratch7 fullShare f)

theorem any_s8 : (anyOf (c : Thread nD τ) (Memref.whole cc0_scratch8 : Memref sig .tc .smem S1 .i32) : sProp 𝕄)
    = iprop(∃ f : Buf (Elt F) ((c : Thread nD τ).loc cc0_scratch8), ((c : Thread nD τ).loc cc0_scratch8) ↦{fullShare} f) := by
  unfold anyOf
  exact congrArg _ (funext fun f => owns_whole (c : Thread nD τ) cc0_scratch8 fullShare f)

set_option synthInstance.maxHeartbeats 400000 in
set_option synthInstance.maxSize 4096 in
/-- The body keeps its inputs' blocks, the result's block at some contents and each scratch buffer at some contents. -/
theorem body_keeps (i : grid0.Coords)
    (m2 : Memref sig .tc .vmem S1x256x512 .bf16) (h2 : m2.IsWhole)
    (m3 : Memref sig .tc .vmem S1x8x512 .f32) (h3 : m3.IsWhole)
    (m4 : Memref sig .tc .vmem S1x4096x32 .bf16) (h4 : m4.IsWhole)
    (m5 : Memref sig .tc .vmem S1x384x512 .bf16) (h5 : m5.IsWhole)
    (m6 : Memref sig .tc .vmem S1x4096x64 .bf16) (h6 : m6.IsWhole)
    (m7 : Memref sig .tc .vmem S1x64x4096 .bf16) (h7 : m7.IsWhole)
    (m8 : Memref sig .tc .vmem S1x512x384 .bf16) (h8 : m8.IsWhole)
    (m9 : Memref sig .tc .vmem S4096x512 .i32) (h9 : m9.IsWhole)
    (m10 : Memref sig .tc .vmem S32x128x512 .i32) (h10 : m10.IsWhole)
    (m11 : Memref sig .tc .vmem S128x512 .i32) (h11 : m11.IsWhole)
    (m12 : Memref sig .tc .vmem S4096x512 .f32) (h12 : m12.IsWhole)
    (m13 : Memref sig .tc .vmem S4096x512 .f32) (h13 : m13.IsWhole)
    (m14 : Memref sig .tc .vmem S384x512 .f32) (h14 : m14.IsWhole)
    (m15 : Memref sig .tc .vmem S1x512 .i32) (h15 : m15.IsWhole)
    (m16 : Memref sig .tc .vmem S1x512 .i32) (h16 : m16.IsWhole)
    (m17 : Memref sig .tc .smem S1 .i32) (h17 : m17.IsWhole)
    (X2 : S1x256x512.Idx → Elt F .bf16)
    (X3 : S1x8x512.Idx → Elt F .f32)
    (X4 : S1x4096x32.Idx → Elt F .bf16)
    (X5 : S1x384x512.Idx → Elt F .bf16)
    (X6 : S1x4096x64.Idx → Elt F .bf16)
    (X7 : S1x64x4096.Idx → Elt F .bf16)
    : K (F := F) c (iprop(owns (c : Thread nD τ) m2 fullShare X2 ∗ owns (c : Thread nD τ) m3 fullShare X3 ∗ owns (c : Thread nD τ) m4 fullShare X4 ∗ owns (c : Thread nD τ) m5 fullShare X5 ∗ owns (c : Thread nD τ) m6 fullShare X6 ∗ owns (c : Thread nD τ) m7 fullShare X7 ∗ anyOf (c : Thread nD τ) m8 ∗ anyOf (c : Thread nD τ) m9 ∗ anyOf (c : Thread nD τ) m10 ∗ anyOf (c : Thread nD τ) m11 ∗ anyOf (c : Thread nD τ) m12 ∗ anyOf (c : Thread nD τ) m13 ∗ anyOf (c : Thread nD τ) m14 ∗ anyOf (c : Thread nD τ) m15 ∗ anyOf (c : Thread nD τ) m16 ∗ anyOf (c : Thread nD τ) m17) : sProp 𝕄)
      (cc0_dsa i m2 h2 m3 h3 m4 h4 m5 h5 m6 h6 m7 h7 m8 h8 m9 h9 m10 h10 m11 h11 m12 h12 m13 h13 m14 h14 m15 h15 m16 h16 m17 h17) := by
  apply keeps_cc0_dsa

end Body

/-! ## The proof data -/

section Data

variable (m : (ℓ : Loc nD τ sig) → Buf (Elt F) ℓ) (c : Dev nD)

/-- Each input's block is left in place; of the result's block nothing is said. -/
def dat : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
  Φ _ := Pipeline.ΦA spec0 c
  q _ := fullShare
  owed _ := 0

/-- The result's window, of whose block nothing is said. -/
def fgt : Fin cfg0.W → Bool := fun w => match w with
  | ⟨6, _⟩ => true
  | _ => false

theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = false := rfl
theorem fgt_6 : fgt 6 = true := rfl
theorem idle_eq (w : Fin cfg0.W) (i : grid0.Coords) : cfg0.idle w i = false := rfl

abbrev 𝒱₀ : Variants := Variants.none

theorem before0 (t : Fin cfg0.N) (d) : (dat m c).before 0 t d = iblk m c 0 t := before0_0_of m (dat m c) rfl (fun _ => rfl) t d
theorem before1 (t : Fin cfg0.N) (d) : (dat m c).before 1 t d = iblk m c 1 t := before0_1_of m (dat m c) rfl (fun _ => rfl) t d
theorem before2 (t : Fin cfg0.N) (d) : (dat m c).before 2 t d = iblk m c 2 t := before0_2_of m (dat m c) rfl (fun _ => rfl) t d
theorem before3 (t : Fin cfg0.N) (d) : (dat m c).before 3 t d = iblk m c 3 t := before0_3_of m (dat m c) rfl (fun _ => rfl) t d
theorem before4 (t : Fin cfg0.N) (d) : (dat m c).before 4 t d = iblk m c 4 t := before0_4_of m (dat m c) rfl (fun _ => rfl) t d
theorem before5 (t : Fin cfg0.N) (d) : (dat m c).before 5 t d = iblk m c 5 t := before0_5_of m (dat m c) rfl (fun _ => rfl) t d

/-- The pipeline's body at a point is the kernel's body on that point's staging buffers. -/
theorem row (t : Fin cfg0.N) : defs₀ (F := F) .tc cfg0.body (cfg0.bodyArgs t (cfg0.slots t)) = bodyAt0 t := by
  unfold defs₀; rw [Defs.onTc_tc]

theorem body_obligation : BodyObligation (dat m c) (defs₀ (F := F)) 𝒱₀ () Set.univ fgt := fun t => by
  rw [bigSep_W0, bigSep_W0, row]
  rw [show (dat m c).Φ t.castSucc = Pipeline.ΦA spec0 c from rfl, show (dat m c).Φ t.succ = Pipeline.ΦA spec0 c from rfl,
    show (dat m c).owesAt () t.succ = (dat m c).owesAt () t.castSucc from rfl]
  simp only [fgt_0, fgt_1, fgt_2, fgt_3, fgt_4, fgt_5, fgt_6, idle_eq]
  show iprop(Pipeline.ΦA spec0 c ∗ (dat m c).owesAt () t.castSucc
      ∗ (∃ d, owns (c : Thread nD τ) (st0_0 t) fullShare ((dat m c).before 0 t d))
      ∗ (∃ d, owns (c : Thread nD τ) (st0_1 t) fullShare ((dat m c).before 1 t d))
      ∗ (∃ d, owns (c : Thread nD τ) (st0_2 t) fullShare ((dat m c).before 2 t d))
      ∗ (∃ d, owns (c : Thread nD τ) (st0_3 t) fullShare ((dat m c).before 3 t d))
      ∗ (∃ d, owns (c : Thread nD τ) (st0_4 t) fullShare ((dat m c).before 4 t d))
      ∗ (∃ d, owns (c : Thread nD τ) (st0_5 t) fullShare ((dat m c).before 5 t d))
      ∗ (∃ X, owns (c : Thread nD τ) (st0_6 t) fullShare X))
    ⊢ wp frame (wpE (defs₀ (F := F)) 𝒱₀ c none) Set.univ (bodyAt0 t) fun _ =>
      iprop(Pipeline.ΦA spec0 c ∗ (dat m c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare (iblk m c 5 t)
      ∗ (∃ X, owns (c : Thread nD τ) (st0_6 t) fullShare X))
  simp only [before0, before1, before2, before3, before4, before5]
  unfold Pipeline.ΦA
  rw [scopedRest0_eq]
  iintro ⟨⟨⟨S0, S1, S2, S3, S4, S5, S6, S7, S8⟩, HP⟩, HO, ⟨%d0, H0⟩, ⟨%d1, H1⟩, ⟨%d2, H2⟩, ⟨%d3, H3⟩, ⟨%d4, H4⟩, ⟨%d5, H5⟩, H6⟩
  have h := body_keeps (c := c) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _)
    (iblk m c 0 t) (iblk m c 1 t) (iblk m c 2 t) (iblk m c 3 t) (iblk m c 4 t) (iblk m c 5 t)
  unfold K Keeps at h
  rw [any_s0, any_s1, any_s2, any_s3, any_s4, any_s5, any_s6, any_s7, any_s8] at h
  iapply (wp_wand_r frame (wpE (defs₀ (F := F)) 𝒱₀ c none) Set.univ)
  isplitl [S0 S1 S2 S3 S4 S5 S6 S7 S8 H0 H1 H2 H3 H4 H5 H6]
  · iapply h
    isplitl [H0]; · iexact H0
    isplitl [H1]; · iexact H1
    isplitl [H2]; · iexact H2
    isplitl [H3]; · iexact H3
    isplitl [H4]; · iexact H4
    isplitl [H5]; · iexact H5
    isplitl [H6]; · unfold anyOf; iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  · iintro %_ ⟨H0, H1, H2, H3, H4, H5, H6, S0, S1, S2, S3, S4, S5, S6, S7, S8⟩
    isplitl [HP S0 S1 S2 S3 S4 S5 S6 S7 S8]
    · isplitr [HP]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    unfold anyOf; iexact H6

end Data

/-! ## The whole program -/

/-- Every run ends, the six argument arrays unchanged and every semaphore at zero. -/
theorem run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_forget cfgs (fun p c => match p with | ⟨0, _⟩ => dat m c) 0 launch0 defs₀ 𝒱₀ fgt m g main
    (fun c => (body_obligation m c).loose) (fun c w => (dat m c).share_full (fun _ => rfl) w) (fun _ _ => rfl) (V m) (hmain m 𝒱₀) (fun _ _ => rfl) (fun _ _ => rfl)
    _ (fun r h => ⟨fun c => ⟨h.1.arr_in c 0 rfl, h.1.arr_in c 1 rfl, h.1.arr_in c 2 rfl, h.1.arr_in c 3 rfl,
      h.1.arr_in c 4 rfl, h.1.arr_in c 5 rfl⟩, h.2⟩)

end Cert.Proof.KernelFrame

end
-- ==== Proof.MlaOffsets.lean ====
/- Where the kernel's loads and stores lie: the printed offsets and trip counts in closed form. Head `h`'s key block of
   tile `t`, its query block, its value block, its output rows, and tile `t` of a score buffer. A head is taken modulo six
   and a tile modulo eight, so that each offset lies in its buffer without a hypothesis. -/
module

public import proofs.«01_k».proof.Proof.Gen.Kernel2Ideal.Skeleton
public import Mathlib.Tactic.IntervalCases
public import Mathlib.Tactic.FinCases
public import Mathlib.Tactic.NormNum

@[expose] public section

namespace Cert.Proof.Mla

open Idealize.ShloMosaic Idealize.ShloMosaic.TcCoe
open Cert.Kernel2Ideal Cert.Kernel2Ideal.Gen

/-- Head `h`'s keys, tile `t`. -/
def offK (h t : ℕ) : Fin 4 → ℕ := ![0, h % 6, 512 * (t % 8), 0]
/-- Head `h`'s queries. -/
def offQ (h : ℕ) : Fin 3 → ℕ := ![0, 128 * (h % 6), 0]
/-- Head `h`'s values, tile `t`. -/
def offV (h t : ℕ) : Fin 3 → ℕ := ![0, 64 * (h % 6), 512 * (t % 8)]
/-- Tile `t` of a score buffer. -/
def offS (t : ℕ) : Fin 2 → ℕ := ![512 * (t % 8), 0]
/-- Head `h`'s rows of the output scratch. -/
def offO (h : ℕ) : Fin 2 → ℕ := ![64 * (h % 6), 0]

theorem inbK (h t : ℕ) : ∀ a, offK h t a + S1x1x512x128.size a ≤ S1x6x4096x128.size a := by
  have := Nat.mod_lt h (show 6 > 0 by norm_num)
  have := Nat.mod_lt t (show 8 > 0 by norm_num)
  intro a
  fin_cases a
  · exact le_refl 1
  · show h % 6 + 1 ≤ 6; omega
  · show 512 * (t % 8) + 512 ≤ 4096; omega
  · exact le_refl 128
theorem inbQ (h : ℕ) : ∀ a, offQ h a + S1x128x512.size a ≤ S1x768x512.size a := by
  have := Nat.mod_lt h (show 6 > 0 by norm_num)
  intro a
  fin_cases a
  · exact le_refl 1
  · show 128 * (h % 6) + 128 ≤ 768; omega
  · exact le_refl 512
theorem inbV (h t : ℕ) : ∀ a, offV h t a + S1x64x512.size a ≤ S1x384x4096.size a := by
  have := Nat.mod_lt h (show 6 > 0 by norm_num)
  have := Nat.mod_lt t (show 8 > 0 by norm_num)
  intro a
  fin_cases a
  · exact le_refl 1
  · show 64 * (h % 6) + 64 ≤ 384; omega
  · show 512 * (t % 8) + 512 ≤ 4096; omega
theorem inbS (t : ℕ) : ∀ a, offS t a + S512x512.size a ≤ S4096x512.size a := by
  have := Nat.mod_lt t (show 8 > 0 by norm_num)
  intro a
  fin_cases a
  · show 512 * (t % 8) + 512 ≤ 4096; omega
  · exact le_refl 512
theorem inbO (h : ℕ) : ∀ a, offO h a + S64x512.size a ≤ S384x512.size a := by
  have := Nat.mod_lt h (show 6 > 0 by norm_num)
  intro a
  fin_cases a
  · show 64 * (h % 6) + 64 ≤ 384; omega
  · exact le_refl 512

/-- The query tile of a grid point. -/
def jj (i : grid0.Coords) : ℕ := (i 1).val
theorem jj_lt (i : grid0.Coords) : jj i < 8 := (i 1).isLt

theorem trips_t1 (i : grid0.Coords) : (k0_t1_loop i).trips = jj i / 2 := by
  have hj := jj_lt i
  unfold jj at *
  unfold Scf.Loop.trips k0_t1_loop
  generalize (i 1).val = j at *
  interval_cases j <;> rfl

theorem trips_t2 (i : grid0.Coords) : (k0_t2_loop i).trips = 0 := by
  have hj := jj_lt i
  unfold jj at *
  unfold Scf.Loop.trips k0_t2_loop
  generalize (i 1).val = j at *
  interval_cases j <;> rfl

theorem trips_t3 (i : grid0.Coords) : (k0_t3_loop i).trips = jj i % 2 := by
  have hj := jj_lt i
  unfold jj at *
  unfold Scf.Loop.trips k0_t3_loop
  generalize (i 1).val = j at *
  interval_cases j <;> rfl

theorem trips_t4 (i : grid0.Coords) : (k0_t4_loop i).trips = 0 := by
  have hj := jj_lt i
  unfold jj at *
  unfold Scf.Loop.trips k0_t4_loop
  generalize (i 1).val = j at *
  interval_cases j <;> rfl

theorem trips_t5 (i : grid0.Coords) : (k0_t5_loop i).trips = jj i / 2 := by
  have hj := jj_lt i
  unfold jj at *
  unfold Scf.Loop.trips k0_t5_loop
  generalize (i 1).val = j at *
  interval_cases j <;> rfl

theorem trips_t6 (i : grid0.Coords) : (k0_t6_loop i).trips = 0 := by
  have hj := jj_lt i
  unfold jj at *
  unfold Scf.Loop.trips k0_t6_loop
  generalize (i 1).val = j at *
  interval_cases j <;> rfl

theorem trips_t7 (i : grid0.Coords) : (k0_t7_loop i).trips = jj i % 2 := by
  have hj := jj_lt i
  unfold jj at *
  unfold Scf.Loop.trips k0_t7_loop
  generalize (i 1).val = j at *
  interval_cases j <;> rfl

theorem trips_t8 (i : grid0.Coords) : (k0_t8_loop i).trips = 0 := by
  have hj := jj_lt i
  unfold jj at *
  unfold Scf.Loop.trips k0_t8_loop
  generalize (i 1).val = j at *
  interval_cases j <;> rfl

theorem trips_t9 (i : grid0.Coords) : (k0_t9_loop i).trips = jj i / 2 := by
  have hj := jj_lt i
  unfold jj at *
  unfold Scf.Loop.trips k0_t9_loop
  generalize (i 1).val = j at *
  interval_cases j <;> rfl

theorem trips_t10 (i : grid0.Coords) : (k0_t10_loop i).trips = 0 := by
  have hj := jj_lt i
  unfold jj at *
  unfold Scf.Loop.trips k0_t10_loop
  generalize (i 1).val = j at *
  interval_cases j <;> rfl

theorem trips_t11 (i : grid0.Coords) : (k0_t11_loop i).trips = jj i % 2 := by
  have hj := jj_lt i
  unfold jj at *
  unfold Scf.Loop.trips k0_t11_loop
  generalize (i 1).val = j at *
  interval_cases j <;> rfl

theorem trips_t12 (i : grid0.Coords) : (k0_t12_loop i).trips = 0 := by
  have hj := jj_lt i
  unfold jj at *
  unfold Scf.Loop.trips k0_t12_loop
  generalize (i 1).val = j at *
  interval_cases j <;> rfl

theorem trips_t13 (i : grid0.Coords) : (k0_t13_loop i).trips = jj i / 2 := by
  have hj := jj_lt i
  unfold jj at *
  unfold Scf.Loop.trips k0_t13_loop
  generalize (i 1).val = j at *
  interval_cases j <;> rfl

theorem trips_t14 (i : grid0.Coords) : (k0_t14_loop i).trips = 0 := by
  have hj := jj_lt i
  unfold jj at *
  unfold Scf.Loop.trips k0_t14_loop
  generalize (i 1).val = j at *
  interval_cases j <;> rfl

theorem trips_t15 (i : grid0.Coords) : (k0_t15_loop i).trips = jj i % 2 := by
  have hj := jj_lt i
  unfold jj at *
  unfold Scf.Loop.trips k0_t15_loop
  generalize (i 1).val = j at *
  interval_cases j <;> rfl

theorem trips_t16 (i : grid0.Coords) : (k0_t16_loop i).trips = 0 := by
  have hj := jj_lt i
  unfold jj at *
  unfold Scf.Loop.trips k0_t16_loop
  generalize (i 1).val = j at *
  interval_cases j <;> rfl

theorem trips_t17 (i : grid0.Coords) : (k0_t17_loop i).trips = jj i / 2 := by
  have hj := jj_lt i
  unfold jj at *
  unfold Scf.Loop.trips k0_t17_loop
  generalize (i 1).val = j at *
  interval_cases j <;> rfl

theorem trips_t18 (i : grid0.Coords) : (k0_t18_loop i).trips = 0 := by
  have hj := jj_lt i
  unfold jj at *
  unfold Scf.Loop.trips k0_t18_loop
  generalize (i 1).val = j at *
  interval_cases j <;> rfl

theorem trips_t19 (i : grid0.Coords) : (k0_t19_loop i).trips = jj i % 2 := by
  have hj := jj_lt i
  unfold jj at *
  unfold Scf.Loop.trips k0_t19_loop
  generalize (i 1).val = j at *
  interval_cases j <;> rfl

theorem trips_t20 (i : grid0.Coords) : (k0_t20_loop i).trips = 0 := by
  have hj := jj_lt i
  unfold jj at *
  unfold Scf.Loop.trips k0_t20_loop
  generalize (i 1).val = j at *
  interval_cases j <;> rfl

theorem trips_t21 (i : grid0.Coords) : (k0_t21_loop i).trips = jj i / 2 := by
  have hj := jj_lt i
  unfold jj at *
  unfold Scf.Loop.trips k0_t21_loop
  generalize (i 1).val = j at *
  interval_cases j <;> rfl

theorem trips_t22 (i : grid0.Coords) : (k0_t22_loop i).trips = 0 := by
  have hj := jj_lt i
  unfold jj at *
  unfold Scf.Loop.trips k0_t22_loop
  generalize (i 1).val = j at *
  interval_cases j <;> rfl

theorem trips_t23 (i : grid0.Coords) : (k0_t23_loop i).trips = jj i % 2 := by
  have hj := jj_lt i
  unfold jj at *
  unfold Scf.Loop.trips k0_t23_loop
  generalize (i 1).val = j at *
  interval_cases j <;> rfl

theorem trips_t24 (i : grid0.Coords) : (k0_t24_loop i).trips = 0 := by
  have hj := jj_lt i
  unfold jj at *
  unfold Scf.Loop.trips k0_t24_loop
  generalize (i 1).val = j at *
  interval_cases j <;> rfl

theorem trips_t25 (i : grid0.Coords) : (k0_t25_loop i).trips = jj i / 2 := by
  have hj := jj_lt i
  unfold jj at *
  unfold Scf.Loop.trips k0_t25_loop
  generalize (i 1).val = j at *
  interval_cases j <;> rfl

theorem trips_t26 (i : grid0.Coords) : (k0_t26_loop i).trips = 0 := by
  have hj := jj_lt i
  unfold jj at *
  unfold Scf.Loop.trips k0_t26_loop
  generalize (i 1).val = j at *
  interval_cases j <;> rfl

theorem trips_t27 (i : grid0.Coords) : (k0_t27_loop i).trips = jj i % 2 := by
  have hj := jj_lt i
  unfold jj at *
  unfold Scf.Loop.trips k0_t27_loop
  generalize (i 1).val = j at *
  interval_cases j <;> rfl

theorem trips_t28 (i : grid0.Coords) : (k0_t28_loop i).trips = 0 := by
  have hj := jj_lt i
  unfold jj at *
  unfold Scf.Loop.trips k0_t28_loop
  generalize (i 1).val = j at *
  interval_cases j <;> rfl

theorem off1_0 (i : grid0.Coords) (k : Fin (k0_t1_loop i).trips) : k0_off1 i k 0#32 = offK 0 (2 * k.val) := by
  have hj := jj_lt i
  have hk : k.val < jj i / 2 := lt_of_lt_of_eq k.isLt (trips_t1 i)
  have hk' : k.val < 4 := by omega
  unfold k0_off1 Scf.iv
  generalize k.val = n at hk'
  interval_cases n <;> rfl

theorem off1_1 (i : grid0.Coords) (k : Fin (k0_t1_loop i).trips) : k0_off1 i k 1#32 = offK 0 (2 * k.val + 1) := by
  have hj := jj_lt i
  have hk : k.val < jj i / 2 := lt_of_lt_of_eq k.isLt (trips_t1 i)
  have hk' : k.val < 4 := by omega
  unfold k0_off1 Scf.iv
  generalize k.val = n at hk'
  interval_cases n <;> rfl

theorem off2_0 (i : grid0.Coords) (k : Fin (k0_t1_loop i).trips) : k0_off2 i k 0#32 = offS (2 * k.val) := by
  have hj := jj_lt i
  have hk : k.val < jj i / 2 := lt_of_lt_of_eq k.isLt (trips_t1 i)
  have hk' : k.val < 4 := by omega
  unfold k0_off2 Scf.iv
  generalize k.val = n at hk'
  interval_cases n <;> rfl

theorem off2_1 (i : grid0.Coords) (k : Fin (k0_t1_loop i).trips) : k0_off2 i k 1#32 = offS (2 * k.val + 1) := by
  have hj := jj_lt i
  have hk : k.val < jj i / 2 := lt_of_lt_of_eq k.isLt (trips_t1 i)
  have hk' : k.val < 4 := by omega
  unfold k0_off2 Scf.iv
  generalize k.val = n at hk'
  interval_cases n <;> rfl

theorem off5 (i : grid0.Coords) (k : Fin (k0_t3_loop i).trips) : k0_off5 i k = offK 0 (2 * (jj i / 2) + k.val) := by
  have hj := jj_lt i
  have hk : k.val < jj i % 2 := lt_of_lt_of_eq k.isLt (trips_t3 i)
  have hk' : k.val = 0 := by omega
  unfold k0_off5 Scf.iv
  rw [hk']
  unfold jj at *
  generalize (i 1).val = j at hj
  interval_cases j <;> rfl

theorem off6 (i : grid0.Coords) (k : Fin (k0_t3_loop i).trips) : k0_off6 i k = offS (2 * (jj i / 2) + k.val) := by
  have hj := jj_lt i
  have hk : k.val < jj i % 2 := lt_of_lt_of_eq k.isLt (trips_t3 i)
  have hk' : k.val = 0 := by omega
  unfold k0_off6 Scf.iv
  rw [hk']
  unfold jj at *
  generalize (i 1).val = j at hj
  interval_cases j <;> rfl

theorem off11_0 (i : grid0.Coords) (k : Fin (k0_t5_loop i).trips) : k0_off11 i k 0#32 = offK 1 (2 * k.val) := by
  have hj := jj_lt i
  have hk : k.val < jj i / 2 := lt_of_lt_of_eq k.isLt (trips_t5 i)
  have hk' : k.val < 4 := by omega
  unfold k0_off11 Scf.iv
  generalize k.val = n at hk'
  interval_cases n <;> rfl

theorem off11_1 (i : grid0.Coords) (k : Fin (k0_t5_loop i).trips) : k0_off11 i k 1#32 = offK 1 (2 * k.val + 1) := by
  have hj := jj_lt i
  have hk : k.val < jj i / 2 := lt_of_lt_of_eq k.isLt (trips_t5 i)
  have hk' : k.val < 4 := by omega
  unfold k0_off11 Scf.iv
  generalize k.val = n at hk'
  interval_cases n <;> rfl

theorem off12_0 (i : grid0.Coords) (k : Fin (k0_t5_loop i).trips) : k0_off12 i k 0#32 = offS (2 * k.val) := by
  have hj := jj_lt i
  have hk : k.val < jj i / 2 := lt_of_lt_of_eq k.isLt (trips_t5 i)
  have hk' : k.val < 4 := by omega
  unfold k0_off12 Scf.iv
  generalize k.val = n at hk'
  interval_cases n <;> rfl

theorem off12_1 (i : grid0.Coords) (k : Fin (k0_t5_loop i).trips) : k0_off12 i k 1#32 = offS (2 * k.val + 1) := by
  have hj := jj_lt i
  have hk : k.val < jj i / 2 := lt_of_lt_of_eq k.isLt (trips_t5 i)
  have hk' : k.val < 4 := by omega
  unfold k0_off12 Scf.iv
  generalize k.val = n at hk'
  interval_cases n <;> rfl

theorem off13_0 (i : grid0.Coords) (k : Fin (k0_t5_loop i).trips) : k0_off13 i k 0#32 = offV 0 (2 * k.val) := by
  have hj := jj_lt i
  have hk : k.val < jj i / 2 := lt_of_lt_of_eq k.isLt (trips_t5 i)
  have hk' : k.val < 4 := by omega
  unfold k0_off13 Scf.iv
  generalize k.val = n at hk'
  interval_cases n <;> rfl

theorem off13_1 (i : grid0.Coords) (k : Fin (k0_t5_loop i).trips) : k0_off13 i k 1#32 = offV 0 (2 * k.val + 1) := by
  have hj := jj_lt i
  have hk : k.val < jj i / 2 := lt_of_lt_of_eq k.isLt (trips_t5 i)
  have hk' : k.val < 4 := by omega
  unfold k0_off13 Scf.iv
  generalize k.val = n at hk'
  interval_cases n <;> rfl

theorem off17 (i : grid0.Coords) (k : Fin (k0_t7_loop i).trips) : k0_off17 i k = offK 1 (2 * (jj i / 2) + k.val) := by
  have hj := jj_lt i
  have hk : k.val < jj i % 2 := lt_of_lt_of_eq k.isLt (trips_t7 i)
  have hk' : k.val = 0 := by omega
  unfold k0_off17 Scf.iv
  rw [hk']
  unfold jj at *
  generalize (i 1).val = j at hj
  interval_cases j <;> rfl

theorem off18 (i : grid0.Coords) (k : Fin (k0_t7_loop i).trips) : k0_off18 i k = offS (2 * (jj i / 2) + k.val) := by
  have hj := jj_lt i
  have hk : k.val < jj i % 2 := lt_of_lt_of_eq k.isLt (trips_t7 i)
  have hk' : k.val = 0 := by omega
  unfold k0_off18 Scf.iv
  rw [hk']
  unfold jj at *
  generalize (i 1).val = j at hj
  interval_cases j <;> rfl

theorem off19 (i : grid0.Coords) (k : Fin (k0_t7_loop i).trips) : k0_off19 i k = offV 0 (2 * (jj i / 2) + k.val) := by
  have hj := jj_lt i
  have hk : k.val < jj i % 2 := lt_of_lt_of_eq k.isLt (trips_t7 i)
  have hk' : k.val = 0 := by omega
  unfold k0_off19 Scf.iv
  rw [hk']
  unfold jj at *
  generalize (i 1).val = j at hj
  interval_cases j <;> rfl

theorem off25_0 (i : grid0.Coords) (k : Fin (k0_t9_loop i).trips) : k0_off25 i k 0#32 = offK 2 (2 * k.val) := by
  have hj := jj_lt i
  have hk : k.val < jj i / 2 := lt_of_lt_of_eq k.isLt (trips_t9 i)
  have hk' : k.val < 4 := by omega
  unfold k0_off25 Scf.iv
  generalize k.val = n at hk'
  interval_cases n <;> rfl

theorem off25_1 (i : grid0.Coords) (k : Fin (k0_t9_loop i).trips) : k0_off25 i k 1#32 = offK 2 (2 * k.val + 1) := by
  have hj := jj_lt i
  have hk : k.val < jj i / 2 := lt_of_lt_of_eq k.isLt (trips_t9 i)
  have hk' : k.val < 4 := by omega
  unfold k0_off25 Scf.iv
  generalize k.val = n at hk'
  interval_cases n <;> rfl

theorem off26_0 (i : grid0.Coords) (k : Fin (k0_t9_loop i).trips) : k0_off26 i k 0#32 = offS (2 * k.val) := by
  have hj := jj_lt i
  have hk : k.val < jj i / 2 := lt_of_lt_of_eq k.isLt (trips_t9 i)
  have hk' : k.val < 4 := by omega
  unfold k0_off26 Scf.iv
  generalize k.val = n at hk'
  interval_cases n <;> rfl

theorem off26_1 (i : grid0.Coords) (k : Fin (k0_t9_loop i).trips) : k0_off26 i k 1#32 = offS (2 * k.val + 1) := by
  have hj := jj_lt i
  have hk : k.val < jj i / 2 := lt_of_lt_of_eq k.isLt (trips_t9 i)
  have hk' : k.val < 4 := by omega
  unfold k0_off26 Scf.iv
  generalize k.val = n at hk'
  interval_cases n <;> rfl

theorem off27_0 (i : grid0.Coords) (k : Fin (k0_t9_loop i).trips) : k0_off27 i k 0#32 = offV 1 (2 * k.val) := by
  have hj := jj_lt i
  have hk : k.val < jj i / 2 := lt_of_lt_of_eq k.isLt (trips_t9 i)
  have hk' : k.val < 4 := by omega
  unfold k0_off27 Scf.iv
  generalize k.val = n at hk'
  interval_cases n <;> rfl

theorem off27_1 (i : grid0.Coords) (k : Fin (k0_t9_loop i).trips) : k0_off27 i k 1#32 = offV 1 (2 * k.val + 1) := by
  have hj := jj_lt i
  have hk : k.val < jj i / 2 := lt_of_lt_of_eq k.isLt (trips_t9 i)
  have hk' : k.val < 4 := by omega
  unfold k0_off27 Scf.iv
  generalize k.val = n at hk'
  interval_cases n <;> rfl

theorem off31 (i : grid0.Coords) (k : Fin (k0_t11_loop i).trips) : k0_off31 i k = offK 2 (2 * (jj i / 2) + k.val) := by
  have hj := jj_lt i
  have hk : k.val < jj i % 2 := lt_of_lt_of_eq k.isLt (trips_t11 i)
  have hk' : k.val = 0 := by omega
  unfold k0_off31 Scf.iv
  rw [hk']
  unfold jj at *
  generalize (i 1).val = j at hj
  interval_cases j <;> rfl

theorem off32 (i : grid0.Coords) (k : Fin (k0_t11_loop i).trips) : k0_off32 i k = offS (2 * (jj i / 2) + k.val) := by
  have hj := jj_lt i
  have hk : k.val < jj i % 2 := lt_of_lt_of_eq k.isLt (trips_t11 i)
  have hk' : k.val = 0 := by omega
  unfold k0_off32 Scf.iv
  rw [hk']
  unfold jj at *
  generalize (i 1).val = j at hj
  interval_cases j <;> rfl

theorem off33 (i : grid0.Coords) (k : Fin (k0_t11_loop i).trips) : k0_off33 i k = offV 1 (2 * (jj i / 2) + k.val) := by
  have hj := jj_lt i
  have hk : k.val < jj i % 2 := lt_of_lt_of_eq k.isLt (trips_t11 i)
  have hk' : k.val = 0 := by omega
  unfold k0_off33 Scf.iv
  rw [hk']
  unfold jj at *
  generalize (i 1).val = j at hj
  interval_cases j <;> rfl

theorem off39_0 (i : grid0.Coords) (k : Fin (k0_t13_loop i).trips) : k0_off39 i k 0#32 = offK 3 (2 * k.val) := by
  have hj := jj_lt i
  have hk : k.val < jj i / 2 := lt_of_lt_of_eq k.isLt (trips_t13 i)
  have hk' : k.val < 4 := by omega
  unfold k0_off39 Scf.iv
  generalize k.val = n at hk'
  interval_cases n <;> rfl

theorem off39_1 (i : grid0.Coords) (k : Fin (k0_t13_loop i).trips) : k0_off39 i k 1#32 = offK 3 (2 * k.val + 1) := by
  have hj := jj_lt i
  have hk : k.val < jj i / 2 := lt_of_lt_of_eq k.isLt (trips_t13 i)
  have hk' : k.val < 4 := by omega
  unfold k0_off39 Scf.iv
  generalize k.val = n at hk'
  interval_cases n <;> rfl

theorem off40_0 (i : grid0.Coords) (k : Fin (k0_t13_loop i).trips) : k0_off40 i k 0#32 = offS (2 * k.val) := by
  have hj := jj_lt i
  have hk : k.val < jj i / 2 := lt_of_lt_of_eq k.isLt (trips_t13 i)
  have hk' : k.val < 4 := by omega
  unfold k0_off40 Scf.iv
  generalize k.val = n at hk'
  interval_cases n <;> rfl

theorem off40_1 (i : grid0.Coords) (k : Fin (k0_t13_loop i).trips) : k0_off40 i k 1#32 = offS (2 * k.val + 1) := by
  have hj := jj_lt i
  have hk : k.val < jj i / 2 := lt_of_lt_of_eq k.isLt (trips_t13 i)
  have hk' : k.val < 4 := by omega
  unfold k0_off40 Scf.iv
  generalize k.val = n at hk'
  interval_cases n <;> rfl

theorem off41_0 (i : grid0.Coords) (k : Fin (k0_t13_loop i).trips) : k0_off41 i k 0#32 = offV 2 (2 * k.val) := by
  have hj := jj_lt i
  have hk : k.val < jj i / 2 := lt_of_lt_of_eq k.isLt (trips_t13 i)
  have hk' : k.val < 4 := by omega
  unfold k0_off41 Scf.iv
  generalize k.val = n at hk'
  interval_cases n <;> rfl

theorem off41_1 (i : grid0.Coords) (k : Fin (k0_t13_loop i).trips) : k0_off41 i k 1#32 = offV 2 (2 * k.val + 1) := by
  have hj := jj_lt i
  have hk : k.val < jj i / 2 := lt_of_lt_of_eq k.isLt (trips_t13 i)
  have hk' : k.val < 4 := by omega
  unfold k0_off41 Scf.iv
  generalize k.val = n at hk'
  interval_cases n <;> rfl

theorem off45 (i : grid0.Coords) (k : Fin (k0_t15_loop i).trips) : k0_off45 i k = offK 3 (2 * (jj i / 2) + k.val) := by
  have hj := jj_lt i
  have hk : k.val < jj i % 2 := lt_of_lt_of_eq k.isLt (trips_t15 i)
  have hk' : k.val = 0 := by omega
  unfold k0_off45 Scf.iv
  rw [hk']
  unfold jj at *
  generalize (i 1).val = j at hj
  interval_cases j <;> rfl

theorem off46 (i : grid0.Coords) (k : Fin (k0_t15_loop i).trips) : k0_off46 i k = offS (2 * (jj i / 2) + k.val) := by
  have hj := jj_lt i
  have hk : k.val < jj i % 2 := lt_of_lt_of_eq k.isLt (trips_t15 i)
  have hk' : k.val = 0 := by omega
  unfold k0_off46 Scf.iv
  rw [hk']
  unfold jj at *
  generalize (i 1).val = j at hj
  interval_cases j <;> rfl

theorem off47 (i : grid0.Coords) (k : Fin (k0_t15_loop i).trips) : k0_off47 i k = offV 2 (2 * (jj i / 2) + k.val) := by
  have hj := jj_lt i
  have hk : k.val < jj i % 2 := lt_of_lt_of_eq k.isLt (trips_t15 i)
  have hk' : k.val = 0 := by omega
  unfold k0_off47 Scf.iv
  rw [hk']
  unfold jj at *
  generalize (i 1).val = j at hj
  interval_cases j <;> rfl

theorem off53_0 (i : grid0.Coords) (k : Fin (k0_t17_loop i).trips) : k0_off53 i k 0#32 = offK 4 (2 * k.val) := by
  have hj := jj_lt i
  have hk : k.val < jj i / 2 := lt_of_lt_of_eq k.isLt (trips_t17 i)
  have hk' : k.val < 4 := by omega
  unfold k0_off53 Scf.iv
  generalize k.val = n at hk'
  interval_cases n <;> rfl

theorem off53_1 (i : grid0.Coords) (k : Fin (k0_t17_loop i).trips) : k0_off53 i k 1#32 = offK 4 (2 * k.val + 1) := by
  have hj := jj_lt i
  have hk : k.val < jj i / 2 := lt_of_lt_of_eq k.isLt (trips_t17 i)
  have hk' : k.val < 4 := by omega
  unfold k0_off53 Scf.iv
  generalize k.val = n at hk'
  interval_cases n <;> rfl

theorem off54_0 (i : grid0.Coords) (k : Fin (k0_t17_loop i).trips) : k0_off54 i k 0#32 = offS (2 * k.val) := by
  have hj := jj_lt i
  have hk : k.val < jj i / 2 := lt_of_lt_of_eq k.isLt (trips_t17 i)
  have hk' : k.val < 4 := by omega
  unfold k0_off54 Scf.iv
  generalize k.val = n at hk'
  interval_cases n <;> rfl

theorem off54_1 (i : grid0.Coords) (k : Fin (k0_t17_loop i).trips) : k0_off54 i k 1#32 = offS (2 * k.val + 1) := by
  have hj := jj_lt i
  have hk : k.val < jj i / 2 := lt_of_lt_of_eq k.isLt (trips_t17 i)
  have hk' : k.val < 4 := by omega
  unfold k0_off54 Scf.iv
  generalize k.val = n at hk'
  interval_cases n <;> rfl

theorem off55_0 (i : grid0.Coords) (k : Fin (k0_t17_loop i).trips) : k0_off55 i k 0#32 = offV 3 (2 * k.val) := by
  have hj := jj_lt i
  have hk : k.val < jj i / 2 := lt_of_lt_of_eq k.isLt (trips_t17 i)
  have hk' : k.val < 4 := by omega
  unfold k0_off55 Scf.iv
  generalize k.val = n at hk'
  interval_cases n <;> rfl

theorem off55_1 (i : grid0.Coords) (k : Fin (k0_t17_loop i).trips) : k0_off55 i k 1#32 = offV 3 (2 * k.val + 1) := by
  have hj := jj_lt i
  have hk : k.val < jj i / 2 := lt_of_lt_of_eq k.isLt (trips_t17 i)
  have hk' : k.val < 4 := by omega
  unfold k0_off55 Scf.iv
  generalize k.val = n at hk'
  interval_cases n <;> rfl

theorem off59 (i : grid0.Coords) (k : Fin (k0_t19_loop i).trips) : k0_off59 i k = offK 4 (2 * (jj i / 2) + k.val) := by
  have hj := jj_lt i
  have hk : k.val < jj i % 2 := lt_of_lt_of_eq k.isLt (trips_t19 i)
  have hk' : k.val = 0 := by omega
  unfold k0_off59 Scf.iv
  rw [hk']
  unfold jj at *
  generalize (i 1).val = j at hj
  interval_cases j <;> rfl

theorem off60 (i : grid0.Coords) (k : Fin (k0_t19_loop i).trips) : k0_off60 i k = offS (2 * (jj i / 2) + k.val) := by
  have hj := jj_lt i
  have hk : k.val < jj i % 2 := lt_of_lt_of_eq k.isLt (trips_t19 i)
  have hk' : k.val = 0 := by omega
  unfold k0_off60 Scf.iv
  rw [hk']
  unfold jj at *
  generalize (i 1).val = j at hj
  interval_cases j <;> rfl

theorem off61 (i : grid0.Coords) (k : Fin (k0_t19_loop i).trips) : k0_off61 i k = offV 3 (2 * (jj i / 2) + k.val) := by
  have hj := jj_lt i
  have hk : k.val < jj i % 2 := lt_of_lt_of_eq k.isLt (trips_t19 i)
  have hk' : k.val = 0 := by omega
  unfold k0_off61 Scf.iv
  rw [hk']
  unfold jj at *
  generalize (i 1).val = j at hj
  interval_cases j <;> rfl

theorem off67_0 (i : grid0.Coords) (k : Fin (k0_t21_loop i).trips) : k0_off67 i k 0#32 = offK 5 (2 * k.val) := by
  have hj := jj_lt i
  have hk : k.val < jj i / 2 := lt_of_lt_of_eq k.isLt (trips_t21 i)
  have hk' : k.val < 4 := by omega
  unfold k0_off67 Scf.iv
  generalize k.val = n at hk'
  interval_cases n <;> rfl

theorem off67_1 (i : grid0.Coords) (k : Fin (k0_t21_loop i).trips) : k0_off67 i k 1#32 = offK 5 (2 * k.val + 1) := by
  have hj := jj_lt i
  have hk : k.val < jj i / 2 := lt_of_lt_of_eq k.isLt (trips_t21 i)
  have hk' : k.val < 4 := by omega
  unfold k0_off67 Scf.iv
  generalize k.val = n at hk'
  interval_cases n <;> rfl

theorem off68_0 (i : grid0.Coords) (k : Fin (k0_t21_loop i).trips) : k0_off68 i k 0#32 = offS (2 * k.val) := by
  have hj := jj_lt i
  have hk : k.val < jj i / 2 := lt_of_lt_of_eq k.isLt (trips_t21 i)
  have hk' : k.val < 4 := by omega
  unfold k0_off68 Scf.iv
  generalize k.val = n at hk'
  interval_cases n <;> rfl

theorem off68_1 (i : grid0.Coords) (k : Fin (k0_t21_loop i).trips) : k0_off68 i k 1#32 = offS (2 * k.val + 1) := by
  have hj := jj_lt i
  have hk : k.val < jj i / 2 := lt_of_lt_of_eq k.isLt (trips_t21 i)
  have hk' : k.val < 4 := by omega
  unfold k0_off68 Scf.iv
  generalize k.val = n at hk'
  interval_cases n <;> rfl

theorem off69_0 (i : grid0.Coords) (k : Fin (k0_t21_loop i).trips) : k0_off69 i k 0#32 = offV 4 (2 * k.val) := by
  have hj := jj_lt i
  have hk : k.val < jj i / 2 := lt_of_lt_of_eq k.isLt (trips_t21 i)
  have hk' : k.val < 4 := by omega
  unfold k0_off69 Scf.iv
  generalize k.val = n at hk'
  interval_cases n <;> rfl

theorem off69_1 (i : grid0.Coords) (k : Fin (k0_t21_loop i).trips) : k0_off69 i k 1#32 = offV 4 (2 * k.val + 1) := by
  have hj := jj_lt i
  have hk : k.val < jj i / 2 := lt_of_lt_of_eq k.isLt (trips_t21 i)
  have hk' : k.val < 4 := by omega
  unfold k0_off69 Scf.iv
  generalize k.val = n at hk'
  interval_cases n <;> rfl

theorem off73 (i : grid0.Coords) (k : Fin (k0_t23_loop i).trips) : k0_off73 i k = offK 5 (2 * (jj i / 2) + k.val) := by
  have hj := jj_lt i
  have hk : k.val < jj i % 2 := lt_of_lt_of_eq k.isLt (trips_t23 i)
  have hk' : k.val = 0 := by omega
  unfold k0_off73 Scf.iv
  rw [hk']
  unfold jj at *
  generalize (i 1).val = j at hj
  interval_cases j <;> rfl

theorem off74 (i : grid0.Coords) (k : Fin (k0_t23_loop i).trips) : k0_off74 i k = offS (2 * (jj i / 2) + k.val) := by
  have hj := jj_lt i
  have hk : k.val < jj i % 2 := lt_of_lt_of_eq k.isLt (trips_t23 i)
  have hk' : k.val = 0 := by omega
  unfold k0_off74 Scf.iv
  rw [hk']
  unfold jj at *
  generalize (i 1).val = j at hj
  interval_cases j <;> rfl

theorem off75 (i : grid0.Coords) (k : Fin (k0_t23_loop i).trips) : k0_off75 i k = offV 4 (2 * (jj i / 2) + k.val) := by
  have hj := jj_lt i
  have hk : k.val < jj i % 2 := lt_of_lt_of_eq k.isLt (trips_t23 i)
  have hk' : k.val = 0 := by omega
  unfold k0_off75 Scf.iv
  rw [hk']
  unfold jj at *
  generalize (i 1).val = j at hj
  interval_cases j <;> rfl

theorem off81_0 (i : grid0.Coords) (k : Fin (k0_t25_loop i).trips) : k0_off81 i k 0#32 = offS (2 * k.val) := by
  have hj := jj_lt i
  have hk : k.val < jj i / 2 := lt_of_lt_of_eq k.isLt (trips_t25 i)
  have hk' : k.val < 4 := by omega
  unfold k0_off81 Scf.iv
  generalize k.val = n at hk'
  interval_cases n <;> rfl

theorem off81_1 (i : grid0.Coords) (k : Fin (k0_t25_loop i).trips) : k0_off81 i k 1#32 = offS (2 * k.val + 1) := by
  have hj := jj_lt i
  have hk : k.val < jj i / 2 := lt_of_lt_of_eq k.isLt (trips_t25 i)
  have hk' : k.val < 4 := by omega
  unfold k0_off81 Scf.iv
  generalize k.val = n at hk'
  interval_cases n <;> rfl

theorem off82_0 (i : grid0.Coords) (k : Fin (k0_t25_loop i).trips) : k0_off82 i k 0#32 = offV 5 (2 * k.val) := by
  have hj := jj_lt i
  have hk : k.val < jj i / 2 := lt_of_lt_of_eq k.isLt (trips_t25 i)
  have hk' : k.val < 4 := by omega
  unfold k0_off82 Scf.iv
  generalize k.val = n at hk'
  interval_cases n <;> rfl

theorem off82_1 (i : grid0.Coords) (k : Fin (k0_t25_loop i).trips) : k0_off82 i k 1#32 = offV 5 (2 * k.val + 1) := by
  have hj := jj_lt i
  have hk : k.val < jj i / 2 := lt_of_lt_of_eq k.isLt (trips_t25 i)
  have hk' : k.val < 4 := by omega
  unfold k0_off82 Scf.iv
  generalize k.val = n at hk'
  interval_cases n <;> rfl

theorem off85 (i : grid0.Coords) (k : Fin (k0_t27_loop i).trips) : k0_off85 i k = offS (2 * (jj i / 2) + k.val) := by
  have hj := jj_lt i
  have hk : k.val < jj i % 2 := lt_of_lt_of_eq k.isLt (trips_t27 i)
  have hk' : k.val = 0 := by omega
  unfold k0_off85 Scf.iv
  rw [hk']
  unfold jj at *
  generalize (i 1).val = j at hj
  interval_cases j <;> rfl

theorem off86 (i : grid0.Coords) (k : Fin (k0_t27_loop i).trips) : k0_off86 i k = offV 5 (2 * (jj i / 2) + k.val) := by
  have hj := jj_lt i
  have hk : k.val < jj i % 2 := lt_of_lt_of_eq k.isLt (trips_t27 i)
  have hk' : k.val = 0 := by omega
  unfold k0_off86 Scf.iv
  rw [hk']
  unfold jj at *
  generalize (i 1).val = j at hj
  interval_cases j <;> rfl

theorem off9 (i : grid0.Coords) : k0_off9 i = offK 0 (jj i) := by
  have hj := jj_lt i
  unfold k0_off9
  unfold jj at *
  generalize (i 1).val = j at hj
  interval_cases j <;> rfl

theorem off10 (i : grid0.Coords) : k0_off10 i = offS (jj i) := by
  have hj := jj_lt i
  unfold k0_off10
  unfold jj at *
  generalize (i 1).val = j at hj
  interval_cases j <;> rfl

theorem off23 (i : grid0.Coords) : k0_off23 i = offK 1 (jj i) := by
  have hj := jj_lt i
  unfold k0_off23
  unfold jj at *
  generalize (i 1).val = j at hj
  interval_cases j <;> rfl

theorem off24 (i : grid0.Coords) : k0_off24 i = offV 0 (jj i) := by
  have hj := jj_lt i
  unfold k0_off24
  unfold jj at *
  generalize (i 1).val = j at hj
  interval_cases j <;> rfl

theorem off37 (i : grid0.Coords) : k0_off37 i = offK 2 (jj i) := by
  have hj := jj_lt i
  unfold k0_off37
  unfold jj at *
  generalize (i 1).val = j at hj
  interval_cases j <;> rfl

theorem off38 (i : grid0.Coords) : k0_off38 i = offV 1 (jj i) := by
  have hj := jj_lt i
  unfold k0_off38
  unfold jj at *
  generalize (i 1).val = j at hj
  interval_cases j <;> rfl

theorem off51 (i : grid0.Coords) : k0_off51 i = offK 3 (jj i) := by
  have hj := jj_lt i
  unfold k0_off51
  unfold jj at *
  generalize (i 1).val = j at hj
  interval_cases j <;> rfl

theorem off52 (i : grid0.Coords) : k0_off52 i = offV 2 (jj i) := by
  have hj := jj_lt i
  unfold k0_off52
  unfold jj at *
  generalize (i 1).val = j at hj
  interval_cases j <;> rfl

theorem off65 (i : grid0.Coords) : k0_off65 i = offK 4 (jj i) := by
  have hj := jj_lt i
  unfold k0_off65
  unfold jj at *
  generalize (i 1).val = j at hj
  interval_cases j <;> rfl

theorem off66 (i : grid0.Coords) : k0_off66 i = offV 3 (jj i) := by
  have hj := jj_lt i
  unfold k0_off66
  unfold jj at *
  generalize (i 1).val = j at hj
  interval_cases j <;> rfl

theorem off79 (i : grid0.Coords) : k0_off79 i = offK 5 (jj i) := by
  have hj := jj_lt i
  unfold k0_off79
  unfold jj at *
  generalize (i 1).val = j at hj
  interval_cases j <;> rfl

theorem off80 (i : grid0.Coords) : k0_off80 i = offV 4 (jj i) := by
  have hj := jj_lt i
  unfold k0_off80
  unfold jj at *
  generalize (i 1).val = j at hj
  interval_cases j <;> rfl

theorem off89 (i : grid0.Coords) : k0_off89 i = offV 5 (jj i) := by
  have hj := jj_lt i
  unfold k0_off89
  unfold jj at *
  generalize (i 1).val = j at hj
  interval_cases j <;> rfl

end Cert.Proof.Mla

end
-- ==== Proof.MlaSteps.lean ====
/- A small calculus for what the kernel's body computes. The body's buffers are held at known contents: the three it only
   reads at fixed ones, the other four at those of a `State`. `T M X σ p Φ` says that `p`, run from the state `σ`, ends
   with a value and a state that satisfy `Φ`. A load gives the window of the contents it reads, a store puts its payload
   over a window, and a counted loop has an invariant on the carried value and the state. -/
module

public import proofs.«01_k».proof.Proof.MlaOffsets
public import proofs.«01_k».proof.Proof.Keep
public import Idealize.ShloMosaic.Lib.VecWindow
public import Idealize.ShloMosaic.Lib.Pipeline.FrameBody

@[expose] public section

noncomputable section

namespace Cert.Proof.Mla

open Idealize.ShloMosaic Idealize.ShloMosaic.TcCoe
open Idealize.SL
open Idealize.SL.RA Idealize.SL.Sem Idealize.SL.ProofMode
open Idealize.SL.BI (sProp bigSep)
open scoped Idealize.SL.BI
open Idealize.SL.BI.BIBase Idealize.SL.BI.Laws
open Cert.Kernel2Ideal Cert.Kernel2Ideal.Gen
open VecWindow

/-- The body's buffers: queries, keys, values, output block, the two score buffers and the output scratch. -/
structure Mems where
  m2 : Memref sig .tc .vmem S1x768x512 .bf16
  h2 : m2.IsWhole
  m3 : Memref sig .tc .vmem S1x6x4096x128 .bf16
  h3 : m3.IsWhole
  m4 : Memref sig .tc .vmem S1x384x4096 .bf16
  h4 : m4.IsWhole
  m5 : Memref sig .tc .vmem S1x512x384 .bf16
  h5 : m5.IsWhole
  m6 : Memref sig .tc .vmem S4096x512 .f32
  h6 : m6.IsWhole
  m7 : Memref sig .tc .vmem S4096x512 .f32
  h7 : m7.IsWhole
  m8 : Memref sig .tc .vmem S384x512 .f32
  h8 : m8.IsWhole

/-- The contents of the three blocks that are only read: queries, keys, values. -/
structure Ins (F : FTy → Type) where
  q : Vec F S1x768x512 .bf16
  k : Vec F S1x6x4096x128 .bf16
  v : Vec F S1x384x4096 .bf16

/-- The contents of the four buffers that are written: the two score buffers, the output scratch, the output block. -/
structure State (F : FTy → Type) where
  s0 : Vec F S4096x512 .f32
  s1 : Vec F S4096x512 .f32
  ot : Vec F S384x512 .f32
  out : Vec F S1x512x384 .bf16

section Tiles
variable {F : FTy → Type} (X : Ins F)

/-- Head `h`'s keys, tile `t`; -/
def Ins.kblk (h t : ℕ) : Vec F S1x1x512x128 .bf16 := window X.k (offK h t) S1x1x512x128.size (inbK h t)
/-- its queries; -/
def Ins.qblk (h : ℕ) : Vec F S1x128x512 .bf16 := window X.q (offQ h) S1x128x512.size (inbQ h)
/-- its values, tile `t`. -/
def Ins.vblk (h t : ℕ) : Vec F S1x64x512 .bf16 := window X.v (offV h t) S1x64x512.size (inbV h t)
/-- Tile `t` of a score buffer's contents. -/
def rdS (s : Vec F S4096x512 .f32) (t : ℕ) : Vec F S512x512 .f32 := window s (offS t) S512x512.size (inbS t)
/-- The contents with a tile put over. -/
def wrS (s : Vec F S4096x512 .f32) (t : ℕ) (w : Vec F S512x512 .f32) : Vec F S4096x512 .f32 := put s (offS t) S512x512.size w
/-- Head `h`'s rows of the output scratch. -/
def rdO (s : Vec F S384x512 .f32) (h : ℕ) : Vec F S64x512 .f32 := window s (offO h) S64x512.size (inbO h)
/-- The output scratch with a head's rows put over. -/
def wrO (s : Vec F S384x512 .f32) (h : ℕ) (w : Vec F S64x512 .f32) : Vec F S384x512 .f32 := put s (offO h) S64x512.size w

theorem rdS_wrS_same (s : Vec F S4096x512 .f32) (t : ℕ) (w : Vec F S512x512 .f32) : rdS (wrS s t w) t = w :=
  window_put_same s _ _ _ w

theorem rdS_wrS_ne (s : Vec F S4096x512 .f32) {t u : ℕ} (w : Vec F S512x512 .f32) (ht : t < 8) (hu : u < 8) (h : u ≠ t) :
    rdS (wrS s t w) u = rdS s u := by
  refine window_put_of_disjoint s _ _ _ _ _ w (0 : Fin 2) ?_
  show 512 * (u % 8) + 512 ≤ 512 * (t % 8) ∨ 512 * (t % 8) + 512 ≤ 512 * (u % 8)
  omega

theorem rdO_wrO_same (s : Vec F S384x512 .f32) (t : ℕ) (w : Vec F S64x512 .f32) : rdO (wrO s t w) t = w :=
  window_put_same s _ _ _ w

theorem rdO_wrO_ne (s : Vec F S384x512 .f32) {t u : ℕ} (w : Vec F S64x512 .f32) (ht : t < 6) (hu : u < 6) (h : u ≠ t) :
    rdO (wrO s t w) u = rdO s u := by
  refine window_put_of_disjoint s _ _ _ _ _ w (0 : Fin 2) ?_
  show 64 * (u % 6) + 64 ≤ 64 * (t % 6) ∨ 64 * (t % 6) + 64 ≤ 64 * (u % 6)
  omega

end Tiles

variable {F : FTy → Type} [FloatOps F]

/-- The buffers at their contents. -/
def St (c : Dev nD) (M : Mems) (X : Ins F) (σ : State F) : sProp (MT nD τ sig Unit (Elt F) ℕ (UR sig nD τ) ℕ) :=
  iprop(owns (c : Thread nD τ) M.m2 fullShare X.q ∗ owns (c : Thread nD τ) M.m3 fullShare X.k
    ∗ owns (c : Thread nD τ) M.m4 fullShare X.v ∗ owns (c : Thread nD τ) M.m5 fullShare σ.out
    ∗ owns (c : Thread nD τ) M.m6 fullShare σ.s0 ∗ owns (c : Thread nD τ) M.m7 fullShare σ.s1
    ∗ owns (c : Thread nD τ) M.m8 fullShare σ.ot)

/-- `p`, run from `σ`, ends with a value and a state that satisfy `Φ`. -/
def T (c : Dev nD) (M : Mems) (X : Ins F) (σ : State F) {α : Type} (p : Prog (TpuEff nD τ sig (Elt F) Λ₀ .tc) α)
    (Φ : α → State F → Prop) : Prop :=
  St c M X σ ⊢ wp frame (wpE (defs₀ (F := F)) Variants.none (c : Thread nD τ) none) Set.univ p
    (fun a => iprop(∃ σ', ⌜Φ a σ'⌝ ∗ St c M X σ'))

variable {c : Dev nD} {M : Mems} {X : Ins F} {σ : State F} {α β : Type}

theorem t_pure {a : α} {Φ : α → State F → Prop} (h : Φ a σ) : T c M X σ (pure a) Φ := by
  refine Entails.trans ?_ (le_wp_ret frame (wpE (defs₀ (F := F)) Variants.none (c : Thread nD τ) none) Set.univ a _)
  iintro H
  iexists σ
  isplitr
  · ipureintro; exact h
  · iexact H

theorem t_bind {p : Prog (TpuEff nD τ sig (Elt F) Λ₀ .tc) β} {k : β → Prog (TpuEff nD τ sig (Elt F) Λ₀ .tc) α}
    {Φ : α → State F → Prop} (h : T c M X σ p (fun b σ' => T c M X σ' (k b) Φ)) : T c M X σ (p >>= k) Φ := by
  refine exec_bind _ (c : Thread nD τ) none Set.univ p k (Entails.trans h (wp_mono _ _ _ fun b => ?_))
  iintro ⟨%σ', %hk, H⟩
  unfold T at hk
  iapply hk $$ H

theorem t_mono {p : Prog (TpuEff nD τ sig (Elt F) Λ₀ .tc) α} {Φ Ψ : α → State F → Prop} (h : T c M X σ p Φ)
    (hΦ : ∀ a σ', Φ a σ' → Ψ a σ') : T c M X σ p Ψ := by
  refine Entails.trans h (wp_mono _ _ _ fun b => ?_)
  iintro ⟨%σ', %hk, H⟩
  iexists σ'
  isplitr
  · ipureintro; exact hΦ _ _ hk
  · iexact H

/-- A counted loop, by an invariant on the trip, the carried value and the state. -/
theorem t_for {w : Nat} {lb ub st : BitVec w} {hok : Scf.OK lb ub st} {init : α}
    {body : Fin (Scf.trips lb ub st) → α → Prog (TpuEff nD τ sig (Elt F) Λ₀ .tc) α} {Φ : α → State F → Prop}
    (I : ℕ → α → State F → Prop) (h0 : I 0 init σ)
    (hb : ∀ (k : Fin (Scf.trips lb ub st)) (acc : α) (σ' : State F), I k.val acc σ' → T c M X σ' (body k acc) (I (k.val + 1)))
    (hΦ : ∀ acc σ', I (Scf.trips lb ub st) acc σ' → Φ acc σ') : T c M X σ (Scf.for lb ub st hok init body) Φ := by
  refine Entails.trans ?_ (Scf.wp_for _ _ _ lb ub st hok init body
    (fun k acc => iprop(∃ σ', ⌜I k acc σ'⌝ ∗ St c M X σ')) ?_)
  · iintro H
    isplitl [H]
    · iexists σ
      isplitr
      · ipureintro; exact h0
      · iexact H
    · iintro %acc ⟨%σ', %hI, H⟩
      iexists σ'
      isplitr
      · ipureintro; exact hΦ _ _ hI
      · iexact H
  · intro k acc
    iintro ⟨%σ', %hI, H⟩
    have hk := hb k acc σ' hI
    unfold T at hk
    iapply hk $$ H

/-- A loop of no trips. -/
theorem t_for_zero {w : Nat} {lb ub st : BitVec w} {hok : Scf.OK lb ub st} {init : α}
    {body : Fin (Scf.trips lb ub st) → α → Prog (TpuEff nD τ sig (Elt F) Λ₀ .tc) α} {Φ : α → State F → Prop}
    (h0 : Scf.trips lb ub st = 0) (h : Φ init σ) : T c M X σ (Scf.for lb ub st hok init body) Φ :=
  t_for (fun _ acc σ' => acc = init ∧ σ' = σ) ⟨rfl, rfl⟩ (fun k => absurd k.isLt (by omega)) (fun _ _ h' => by rw [h'.1, h'.2]; exact h)

/-- A load of a buffer held at `Y` gives the window of `Y`. -/
theorem owns_load {c : Thread nD τ} {cs : CoreSpace} {s : Shape} {e : EltTy} {m : Memref sig c.2.kind cs s e} {Y : s.Idx → Elt F e}
    {off off' size : Fin s.rank → ℕ} {inb : ∀ a, off a + size a ≤ s.size a} {hl : m.view.LoadsAt (Rect.unit off size inb).toLoadRect}
    (h : off = off') (inb' : ∀ a, off' a + size a ≤ s.size a)
    {Q : ((Rect.unit off size inb).toLoadRect.shape.Idx → Elt F e) → sProp (MT nD τ sig Unit (Elt F) ℕ (UR sig nD τ) ℕ)} :
    (iprop(owns c m fullShare Y ∗ (owns c m fullShare Y -∗ Q (window Y off' size inb'))) : sProp (MT nD τ sig Unit (Elt F) ℕ (UR sig nD τ) ℕ))
      ⊢ wp frame (wpE (defs₀ (F := F)) Variants.none c none) Set.univ (Prog.lift (.load m (Rect.unit off size inb).toLoadRect hl)) Q := by
  unfold Prog.lift owns
  iintro ⟨⟨%f, %hf, H⟩, HQ⟩
  iapply (wp_load Variants.none c none Set.univ (S := m.view.set) (m.view.setOn_subset_set _)) $$ H
  iintro H
  rw [wp_ret]
  imodintro
  rw [View.readAt_unit m.view f inb h inb', hf]
  iapply HQ
  iexists f
  isplitr
  · ipureintro; exact hf
  · iexact H

/-- A whole store into a buffer held at `Y` puts the payload over `Y`. -/
theorem owns_store {c : Thread nD τ} {cs : CoreSpace} {s : Shape} {e : EltTy} {m : Memref sig c.2.kind cs s e} {Y : s.Idx → Elt F e}
    {off off' size : Fin s.rank → ℕ} {inb : ∀ a, off a + size a ≤ s.size a} {w : (Rect.unit off size inb).shape.Idx → Elt F e}
    {hx : (m.access (Rect.unit off size inb)).Stores Finset.univ}
    {hm : (Finset.univ : Finset (Rect.unit off size inb).shape.Idx) = Finset.univ ∨ ∀ a, (Rect.unit off size inb).stride a = 1}
    (h : off = off') {Q : PUnit → sProp (MT nD τ sig Unit (Elt F) ℕ (UR sig nD τ) ℕ)} :
    (iprop(owns c m fullShare Y ∗ (owns c m fullShare (put Y off' size w) -∗ Q ⟨⟩)) : sProp (MT nD τ sig Unit (Elt F) ℕ (UR sig nD τ) ℕ))
      ⊢ wp frame (wpE (defs₀ (F := F)) Variants.none c none) Set.univ (Prog.lift (.store m (Rect.unit off size inb) w Finset.univ hx hm)) Q := by
  unfold Prog.lift owns
  iintro ⟨⟨%f, %hf, H⟩, HQ⟩
  iapply (wp_store Variants.none c none Set.univ (S := m.view.set) (f := f) (w := w) (hx := hx) (hm := hm)
    (((m.access (Rect.unit off size inb)).setOn_subset_set Finset.univ).trans (m.view.set_slice_subset _))) $$ H
  iintro H
  rw [wp_ret]
  imodintro
  iapply HQ
  iexists (m.access (Rect.unit off size inb)).write (Elt F) f w Finset.univ
  isplitr
  · ipureintro
    have e := View.read_writes_cons_put m.view f inb w [] h
    rw [View.writes_nil, hf] at e
    exact e
  · iexact H

/-! ## The rules, buffer by buffer -/

theorem t_load2 {off off' size : Fin S1x768x512.rank → ℕ} {inb : ∀ a, off a + size a ≤ S1x768x512.size a}
    {hl : M.m2.view.LoadsAt (Rect.unit off size inb).toLoadRect}
    {k : ((Rect.unit off size inb).toLoadRect.shape.Idx → Elt F .bf16) → Prog (TpuEff nD τ sig (Elt F) Λ₀ .tc) α} {Φ : α → State F → Prop}
    (h : off = off') (inb' : ∀ a, off' a + size a ≤ S1x768x512.size a) (H : T c M X σ (k (window X.q off' size inb')) Φ) :
    T c M X σ (Prog.lift (.load M.m2 (Rect.unit off size inb).toLoadRect hl) >>= k) Φ := by
  refine t_bind (Entails.trans ?_ (owns_load (Y := X.q) h inb'))
  unfold St
  iintro ⟨H2, H3, H4, H5, H6, H7, H8⟩
  isplitl [H2]
  · iexact H2
  · iintro H2
    iexists σ
    isplitr
    · ipureintro; exact H
    · isplitl [H2]; · iexact H2
      isplitl [H3]; · iexact H3
      isplitl [H4]; · iexact H4
      isplitl [H5]; · iexact H5
      isplitl [H6]; · iexact H6
      isplitl [H7]; · iexact H7
      iexact H8

theorem t_load3 {off off' size : Fin S1x6x4096x128.rank → ℕ} {inb : ∀ a, off a + size a ≤ S1x6x4096x128.size a}
    {hl : M.m3.view.LoadsAt (Rect.unit off size inb).toLoadRect}
    {k : ((Rect.unit off size inb).toLoadRect.shape.Idx → Elt F .bf16) → Prog (TpuEff nD τ sig (Elt F) Λ₀ .tc) α} {Φ : α → State F → Prop}
    (h : off = off') (inb' : ∀ a, off' a + size a ≤ S1x6x4096x128.size a) (H : T c M X σ (k (window X.k off' size inb')) Φ) :
    T c M X σ (Prog.lift (.load M.m3 (Rect.unit off size inb).toLoadRect hl) >>= k) Φ := by
  refine t_bind (Entails.trans ?_ (owns_load (Y := X.k) h inb'))
  unfold St
  iintro ⟨H2, H3, H4, H5, H6, H7, H8⟩
  isplitl [H3]
  · iexact H3
  · iintro H3
    iexists σ
    isplitr
    · ipureintro; exact H
    · isplitl [H2]; · iexact H2
      isplitl [H3]; · iexact H3
      isplitl [H4]; · iexact H4
      isplitl [H5]; · iexact H5
      isplitl [H6]; · iexact H6
      isplitl [H7]; · iexact H7
      iexact H8

theorem t_load4 {off off' size : Fin S1x384x4096.rank → ℕ} {inb : ∀ a, off a + size a ≤ S1x384x4096.size a}
    {hl : M.m4.view.LoadsAt (Rect.unit off size inb).toLoadRect}
    {k : ((Rect.unit off size inb).toLoadRect.shape.Idx → Elt F .bf16) → Prog (TpuEff nD τ sig (Elt F) Λ₀ .tc) α} {Φ : α → State F → Prop}
    (h : off = off') (inb' : ∀ a, off' a + size a ≤ S1x384x4096.size a) (H : T c M X σ (k (window X.v off' size inb')) Φ) :
    T c M X σ (Prog.lift (.load M.m4 (Rect.unit off size inb).toLoadRect hl) >>= k) Φ := by
  refine t_bind (Entails.trans ?_ (owns_load (Y := X.v) h inb'))
  unfold St
  iintro ⟨H2, H3, H4, H5, H6, H7, H8⟩
  isplitl [H4]
  · iexact H4
  · iintro H4
    iexists σ
    isplitr
    · ipureintro; exact H
    · isplitl [H2]; · iexact H2
      isplitl [H3]; · iexact H3
      isplitl [H4]; · iexact H4
      isplitl [H5]; · iexact H5
      isplitl [H6]; · iexact H6
      isplitl [H7]; · iexact H7
      iexact H8

theorem t_load5 {off off' size : Fin S1x512x384.rank → ℕ} {inb : ∀ a, off a + size a ≤ S1x512x384.size a}
    {hl : M.m5.view.LoadsAt (Rect.unit off size inb).toLoadRect}
    {k : ((Rect.unit off size inb).toLoadRect.shape.Idx → Elt F .bf16) → Prog (TpuEff nD τ sig (Elt F) Λ₀ .tc) α} {Φ : α → State F → Prop}
    (h : off = off') (inb' : ∀ a, off' a + size a ≤ S1x512x384.size a) (H : T c M X σ (k (window σ.out off' size inb')) Φ) :
    T c M X σ (Prog.lift (.load M.m5 (Rect.unit off size inb).toLoadRect hl) >>= k) Φ := by
  refine t_bind (Entails.trans ?_ (owns_load (Y := σ.out) h inb'))
  unfold St
  iintro ⟨H2, H3, H4, H5, H6, H7, H8⟩
  isplitl [H5]
  · iexact H5
  · iintro H5
    iexists σ
    isplitr
    · ipureintro; exact H
    · isplitl [H2]; · iexact H2
      isplitl [H3]; · iexact H3
      isplitl [H4]; · iexact H4
      isplitl [H5]; · iexact H5
      isplitl [H6]; · iexact H6
      isplitl [H7]; · iexact H7
      iexact H8

theorem t_load6 {off off' size : Fin S4096x512.rank → ℕ} {inb : ∀ a, off a + size a ≤ S4096x512.size a}
    {hl : M.m6.view.LoadsAt (Rect.unit off size inb).toLoadRect}
    {k : ((Rect.unit off size inb).toLoadRect.shape.Idx → Elt F .f32) → Prog (TpuEff nD τ sig (Elt F) Λ₀ .tc) α} {Φ : α → State F → Prop}
    (h : off = off') (inb' : ∀ a, off' a + size a ≤ S4096x512.size a) (H : T c M X σ (k (window σ.s0 off' size inb')) Φ) :
    T c M X σ (Prog.lift (.load M.m6 (Rect.unit off size inb).toLoadRect hl) >>= k) Φ := by
  refine t_bind (Entails.trans ?_ (owns_load (Y := σ.s0) h inb'))
  unfold St
  iintro ⟨H2, H3, H4, H5, H6, H7, H8⟩
  isplitl [H6]
  · iexact H6
  · iintro H6
    iexists σ
    isplitr
    · ipureintro; exact H
    · isplitl [H2]; · iexact H2
      isplitl [H3]; · iexact H3
      isplitl [H4]; · iexact H4
      isplitl [H5]; · iexact H5
      isplitl [H6]; · iexact H6
      isplitl [H7]; · iexact H7
      iexact H8

theorem t_load7 {off off' size : Fin S4096x512.rank → ℕ} {inb : ∀ a, off a + size a ≤ S4096x512.size a}
    {hl : M.m7.view.LoadsAt (Rect.unit off size inb).toLoadRect}
    {k : ((Rect.unit off size inb).toLoadRect.shape.Idx → Elt F .f32) → Prog (TpuEff nD τ sig (Elt F) Λ₀ .tc) α} {Φ : α → State F → Prop}
    (h : off = off') (inb' : ∀ a, off' a + size a ≤ S4096x512.size a) (H : T c M X σ (k (window σ.s1 off' size inb')) Φ) :
    T c M X σ (Prog.lift (.load M.m7 (Rect.unit off size inb).toLoadRect hl) >>= k) Φ := by
  refine t_bind (Entails.trans ?_ (owns_load (Y := σ.s1) h inb'))
  unfold St
  iintro ⟨H2, H3, H4, H5, H6, H7, H8⟩
  isplitl [H7]
  · iexact H7
  · iintro H7
    iexists σ
    isplitr
    · ipureintro; exact H
    · isplitl [H2]; · iexact H2
      isplitl [H3]; · iexact H3
      isplitl [H4]; · iexact H4
      isplitl [H5]; · iexact H5
      isplitl [H6]; · iexact H6
      isplitl [H7]; · iexact H7
      iexact H8

theorem t_load8 {off off' size : Fin S384x512.rank → ℕ} {inb : ∀ a, off a + size a ≤ S384x512.size a}
    {hl : M.m8.view.LoadsAt (Rect.unit off size inb).toLoadRect}
    {k : ((Rect.unit off size inb).toLoadRect.shape.Idx → Elt F .f32) → Prog (TpuEff nD τ sig (Elt F) Λ₀ .tc) α} {Φ : α → State F → Prop}
    (h : off = off') (inb' : ∀ a, off' a + size a ≤ S384x512.size a) (H : T c M X σ (k (window σ.ot off' size inb')) Φ) :
    T c M X σ (Prog.lift (.load M.m8 (Rect.unit off size inb).toLoadRect hl) >>= k) Φ := by
  refine t_bind (Entails.trans ?_ (owns_load (Y := σ.ot) h inb'))
  unfold St
  iintro ⟨H2, H3, H4, H5, H6, H7, H8⟩
  isplitl [H8]
  · iexact H8
  · iintro H8
    iexists σ
    isplitr
    · ipureintro; exact H
    · isplitl [H2]; · iexact H2
      isplitl [H3]; · iexact H3
      isplitl [H4]; · iexact H4
      isplitl [H5]; · iexact H5
      isplitl [H6]; · iexact H6
      isplitl [H7]; · iexact H7
      iexact H8

theorem t_store5 {off off' size : Fin S1x512x384.rank → ℕ} {inb : ∀ a, off a + size a ≤ S1x512x384.size a}
    {w : (Rect.unit off size inb).shape.Idx → Elt F .bf16}
    {hx : (M.m5.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} {Φ : α → State F → Prop}
    (h : off = off') (H : T c M X {σ with out := put σ.out off' size w} (k ⟨⟩) Φ) :
    T c M X σ (Prog.lift (.store M.m5 (Rect.unit off size inb) w Finset.univ hx hm) >>= k) Φ := by
  refine t_bind (Entails.trans ?_ (owns_store (Y := σ.out) h))
  unfold St
  iintro ⟨H2, H3, H4, H5, H6, H7, H8⟩
  isplitl [H5]
  · iexact H5
  · iintro H5
    iexists {σ with out := put σ.out off' size w}
    isplitr
    · ipureintro; exact H
    · isplitl [H2]; · iexact H2
      isplitl [H3]; · iexact H3
      isplitl [H4]; · iexact H4
      isplitl [H5]; · iexact H5
      isplitl [H6]; · iexact H6
      isplitl [H7]; · iexact H7
      iexact H8

theorem t_store6 {off off' size : Fin S4096x512.rank → ℕ} {inb : ∀ a, off a + size a ≤ S4096x512.size a}
    {w : (Rect.unit off size inb).shape.Idx → Elt F .f32}
    {hx : (M.m6.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} {Φ : α → State F → Prop}
    (h : off = off') (H : T c M X {σ with s0 := put σ.s0 off' size w} (k ⟨⟩) Φ) :
    T c M X σ (Prog.lift (.store M.m6 (Rect.unit off size inb) w Finset.univ hx hm) >>= k) Φ := by
  refine t_bind (Entails.trans ?_ (owns_store (Y := σ.s0) h))
  unfold St
  iintro ⟨H2, H3, H4, H5, H6, H7, H8⟩
  isplitl [H6]
  · iexact H6
  · iintro H6
    iexists {σ with s0 := put σ.s0 off' size w}
    isplitr
    · ipureintro; exact H
    · isplitl [H2]; · iexact H2
      isplitl [H3]; · iexact H3
      isplitl [H4]; · iexact H4
      isplitl [H5]; · iexact H5
      isplitl [H6]; · iexact H6
      isplitl [H7]; · iexact H7
      iexact H8

theorem t_store7 {off off' size : Fin S4096x512.rank → ℕ} {inb : ∀ a, off a + size a ≤ S4096x512.size a}
    {w : (Rect.unit off size inb).shape.Idx → Elt F .f32}
    {hx : (M.m7.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} {Φ : α → State F → Prop}
    (h : off = off') (H : T c M X {σ with s1 := put σ.s1 off' size w} (k ⟨⟩) Φ) :
    T c M X σ (Prog.lift (.store M.m7 (Rect.unit off size inb) w Finset.univ hx hm) >>= k) Φ := by
  refine t_bind (Entails.trans ?_ (owns_store (Y := σ.s1) h))
  unfold St
  iintro ⟨H2, H3, H4, H5, H6, H7, H8⟩
  isplitl [H7]
  · iexact H7
  · iintro H7
    iexists {σ with s1 := put σ.s1 off' size w}
    isplitr
    · ipureintro; exact H
    · isplitl [H2]; · iexact H2
      isplitl [H3]; · iexact H3
      isplitl [H4]; · iexact H4
      isplitl [H5]; · iexact H5
      isplitl [H6]; · iexact H6
      isplitl [H7]; · iexact H7
      iexact H8

theorem t_store8 {off off' size : Fin S384x512.rank → ℕ} {inb : ∀ a, off a + size a ≤ S384x512.size a}
    {w : (Rect.unit off size inb).shape.Idx → Elt F .f32}
    {hx : (M.m8.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} {Φ : α → State F → Prop}
    (h : off = off') (H : T c M X {σ with ot := put σ.ot off' size w} (k ⟨⟩) Φ) :
    T c M X σ (Prog.lift (.store M.m8 (Rect.unit off size inb) w Finset.univ hx hm) >>= k) Φ := by
  refine t_bind (Entails.trans ?_ (owns_store (Y := σ.ot) h))
  unfold St
  iintro ⟨H2, H3, H4, H5, H6, H7, H8⟩
  isplitl [H8]
  · iexact H8
  · iintro H8
    iexists {σ with ot := put σ.ot off' size w}
    isplitr
    · ipureintro; exact H
    · isplitl [H2]; · iexact H2
      isplitl [H3]; · iexact H3
      isplitl [H4]; · iexact H4
      isplitl [H5]; · iexact H5
      isplitl [H6]; · iexact H6
      isplitl [H7]; · iexact H7
      iexact H8

/-! ## The same, at the kernel's own windows -/

theorem ld2 (h : ℕ) {off : Fin S1x768x512.rank → ℕ} {inb : ∀ a, off a + S1x128x512.size a ≤ S1x768x512.size a}
    {hl : M.m2.view.LoadsAt (Rect.unit off S1x128x512.size inb).toLoadRect}
    {k : Vec F S1x128x512 .bf16 → Prog (TpuEff nD τ sig (Elt F) Λ₀ .tc) α} {Φ : α → State F → Prop}
    (h' : off = (offQ h)) (H : T c M X σ (k (X.qblk h)) Φ) :
    T c M X σ (Prog.lift (.load M.m2 (Rect.unit off S1x128x512.size inb).toLoadRect hl) >>= k) Φ :=
  t_load2 h' (inbQ h) H

theorem ld3 (h t : ℕ) {off : Fin S1x6x4096x128.rank → ℕ} {inb : ∀ a, off a + S1x1x512x128.size a ≤ S1x6x4096x128.size a}
    {hl : M.m3.view.LoadsAt (Rect.unit off S1x1x512x128.size inb).toLoadRect}
    {k : Vec F S1x1x512x128 .bf16 → Prog (TpuEff nD τ sig (Elt F) Λ₀ .tc) α} {Φ : α → State F → Prop}
    (h' : off = (offK h t)) (H : T c M X σ (k (X.kblk h t)) Φ) :
    T c M X σ (Prog.lift (.load M.m3 (Rect.unit off S1x1x512x128.size inb).toLoadRect hl) >>= k) Φ :=
  t_load3 h' (inbK h t) H

theorem ld4 (h t : ℕ) {off : Fin S1x384x4096.rank → ℕ} {inb : ∀ a, off a + S1x64x512.size a ≤ S1x384x4096.size a}
    {hl : M.m4.view.LoadsAt (Rect.unit off S1x64x512.size inb).toLoadRect}
    {k : Vec F S1x64x512 .bf16 → Prog (TpuEff nD τ sig (Elt F) Λ₀ .tc) α} {Φ : α → State F → Prop}
    (h' : off = (offV h t)) (H : T c M X σ (k (X.vblk h t)) Φ) :
    T c M X σ (Prog.lift (.load M.m4 (Rect.unit off S1x64x512.size inb).toLoadRect hl) >>= k) Φ :=
  t_load4 h' (inbV h t) H

theorem ld6 (t : ℕ) {off : Fin S4096x512.rank → ℕ} {inb : ∀ a, off a + S512x512.size a ≤ S4096x512.size a}
    {hl : M.m6.view.LoadsAt (Rect.unit off S512x512.size inb).toLoadRect}
    {k : Vec F S512x512 .f32 → Prog (TpuEff nD τ sig (Elt F) Λ₀ .tc) α} {Φ : α → State F → Prop}
    (h' : off = (offS t)) (H : T c M X σ (k (rdS σ.s0 t)) Φ) :
    T c M X σ (Prog.lift (.load M.m6 (Rect.unit off S512x512.size inb).toLoadRect hl) >>= k) Φ :=
  t_load6 h' (inbS t) H

theorem ld7 (t : ℕ) {off : Fin S4096x512.rank → ℕ} {inb : ∀ a, off a + S512x512.size a ≤ S4096x512.size a}
    {hl : M.m7.view.LoadsAt (Rect.unit off S512x512.size inb).toLoadRect}
    {k : Vec F S512x512 .f32 → Prog (TpuEff nD τ sig (Elt F) Λ₀ .tc) α} {Φ : α → State F → Prop}
    (h' : off = (offS t)) (H : T c M X σ (k (rdS σ.s1 t)) Φ) :
    T c M X σ (Prog.lift (.load M.m7 (Rect.unit off S512x512.size inb).toLoadRect hl) >>= k) Φ :=
  t_load7 h' (inbS t) H

theorem st6 (t : ℕ) {off : Fin S4096x512.rank → ℕ} {inb : ∀ a, off a + S512x512.size a ≤ S4096x512.size a}
    {w : Vec F S512x512 .f32} {hx : (M.m6.access (Rect.unit off S512x512.size inb)).Stores Finset.univ}
    {hm : (Finset.univ : Finset (Rect.unit off S512x512.size inb).shape.Idx) = Finset.univ ∨ ∀ a, (Rect.unit off S512x512.size inb).stride a = 1}
    {k : PUnit → Prog (TpuEff nD τ sig (Elt F) Λ₀ .tc) α} {Φ : α → State F → Prop}
    (h' : off = offS t) (H : T c M X {σ with s0 := wrS σ.s0 t w} (k ⟨⟩) Φ) :
    T c M X σ (Prog.lift (.store M.m6 (Rect.unit off S512x512.size inb) w Finset.univ hx hm) >>= k) Φ :=
  t_store6 h' H

theorem st7 (t : ℕ) {off : Fin S4096x512.rank → ℕ} {inb : ∀ a, off a + S512x512.size a ≤ S4096x512.size a}
    {w : Vec F S512x512 .f32} {hx : (M.m7.access (Rect.unit off S512x512.size inb)).Stores Finset.univ}
    {hm : (Finset.univ : Finset (Rect.unit off S512x512.size inb).shape.Idx) = Finset.univ ∨ ∀ a, (Rect.unit off S512x512.size inb).stride a = 1}
    {k : PUnit → Prog (TpuEff nD τ sig (Elt F) Λ₀ .tc) α} {Φ : α → State F → Prop}
    (h' : off = offS t) (H : T c M X {σ with s1 := wrS σ.s1 t w} (k ⟨⟩) Φ) :
    T c M X σ (Prog.lift (.store M.m7 (Rect.unit off S512x512.size inb) w Finset.univ hx hm) >>= k) Φ :=
  t_store7 h' H

theorem st8 (h : ℕ) {off : Fin S384x512.rank → ℕ} {inb : ∀ a, off a + S64x512.size a ≤ S384x512.size a}
    {w : Vec F S64x512 .f32} {hx : (M.m8.access (Rect.unit off S64x512.size inb)).Stores Finset.univ}
    {hm : (Finset.univ : Finset (Rect.unit off S64x512.size inb).shape.Idx) = Finset.univ ∨ ∀ a, (Rect.unit off S64x512.size inb).stride a = 1}
    {k : PUnit → Prog (TpuEff nD τ sig (Elt F) Λ₀ .tc) α} {Φ : α → State F → Prop}
    (h' : off = offO h) (H : T c M X {σ with ot := wrO σ.ot h w} (k ⟨⟩) Φ) :
    T c M X σ (Prog.lift (.store M.m8 (Rect.unit off S64x512.size inb) w Finset.univ hx hm) >>= k) Φ :=
  t_store8 h' H

end Cert.Proof.Mla

end
-- ==== Proof.MlaLoops.lean ====
/- What the kernel's loops compute. Head `h`'s score pass leaves its tiles in a score buffer and carries the running maximum;
   the value pass of the head before it reads that head's tiles and carries the running sum and the running product. -/
module

public import proofs.«01_k».proof.Proof.MlaSteps

@[expose] public section

noncomputable section

namespace Cert.Proof.Mla

open Idealize.ShloMosaic Idealize.ShloMosaic.TcCoe
open Cert.Kernel2Ideal Cert.Kernel2Ideal.Gen

variable {F : FTy → Type} [FloatOps F]

/-- The bias of the diagonal tile: 0 where the key's chunk is not after the query's, −∞ elsewhere. -/
def biasT : FVec F S512x512 .f32 := k0_pay80 k0_pay75 k0_pay76 k0_pay77 k0_pay78 k0_pay79

section Folds
variable (X : Ins F)

/-- The scores of tile `t` of head `h`. -/
def sT (h t : ℕ) : FVec F S512x512 .f32 := k0_pay85 (X.kblk h t) (X.qblk h)
/-- The masked scores of the diagonal tile. -/
def dT (h t : ℕ) : FVec F S512x512 .f32 := k0_pay91 biasT (X.kblk h t) (X.qblk h)
/-- The running maximum, by eight interleaved rows, after `n` tiles. -/
def mF (h : ℕ) : ℕ → FVec F S8x512 .f32
  | 0 => k0_pay81
  | n + 1 => k0_pay86 (mF h n) (X.kblk h n) (X.qblk h)
/-- The maximum over the causal keys, the diagonal tile being tile `t`. -/
def mR (h t : ℕ) : FVec F S1x512 .f32 := k0_pay92 biasT (mF X h t) (X.kblk h t) (X.qblk h)
/-- The running sum of exponentials, by eight interleaved rows, after `n` tiles, with `m` taken off. -/
def lF (m : FVec F S1x512 .f32) (h : ℕ) : ℕ → FVec F S8x512 .f32
  | 0 => k0_pay94
  | n + 1 => k0_pay112 m (lF m h n) (sT X h n)
/-- The running product of values and exponentials after `n` tiles. -/
def aF (m : FVec F S1x512 .f32) (h : ℕ) : ℕ → FVec F S64x512 .f32
  | 0 => k0_pay95
  | n + 1 => k0_pay113 m (aF m h n) (sT X h n) (X.vblk h n)
/-- The attended values of head `h`, the diagonal tile being tile `t`. -/
def oT (h t : ℕ) : FVec F S64x512 .f32 := k0_pay257 (mR X h t) (lF X (mR X h t) h t) (aF X (mR X h t) h t) (dT X h t) (X.vblk h t)

/-- The first `n` tiles of `s` are head `h`'s scores. -/
def Sc (s : Vec F S4096x512 .f32) (h n : ℕ) : Prop := ∀ t < n, rdS s t = sT X h t

theorem Sc.zero (s : Vec F S4096x512 .f32) (h : ℕ) : Sc X s h 0 := fun _ ht => absurd ht (Nat.not_lt_zero _)

theorem Sc.put {s : Vec F S4096x512 .f32} {h n : ℕ} (hs : Sc X s h n) (hn : n < 8) {w : Vec F S512x512 .f32} (hw : w = sT X h n) :
    Sc X (wrS s n w) h (n + 1) := by
  intro t ht
  rcases Nat.lt_succ_iff_lt_or_eq.mp ht with h' | rfl
  · rw [rdS_wrS_ne s w hn (by omega) (by omega)]; exact hs t h'
  · rw [rdS_wrS_same]; exact hw

theorem Sc.diag {s : Vec F S4096x512 .f32} {h n : ℕ} (hs : Sc X s h n) (hn : n < 8) (w : Vec F S512x512 .f32) : Sc X (wrS s n w) h n := by
  intro t ht
  rw [rdS_wrS_ne s w hn (by omega) (by omega)]; exact hs t ht

end Folds

variable {c : Dev nD} {M : Mems} {X : Ins F}

/-- The invariant of the first head's score pass, after `n` tiles: the carried maximum, the tiles stored. -/
def I0 (X : Ins F) (σ0 : State F) (n : ℕ) (acc : FVec F S8x512 .f32) (σ : State F) : Prop :=
  acc = mF X 0 n ∧ Sc X σ.s0 0 n

/-- The invariant of a stage that scores head `h` into the second score buffer and attends with the head before from the first. -/
def IA (X : Ins F) (m : FVec F S1x512 .f32) (h : ℕ) (σ0 : State F) (n : ℕ)
    (acc : FVec F S8x512 .f32 × FVec F S8x512 .f32 × FVec F S64x512 .f32) (σ : State F) : Prop :=
  acc = (mF X (h + 1) n, lF X m h n, aF X m h n) ∧ σ.s0 = σ0.s0 ∧ σ.ot = σ0.ot ∧ Sc X σ.s1 (h + 1) n

/-- The same with the two score buffers exchanged. -/
def IB (X : Ins F) (m : FVec F S1x512 .f32) (h : ℕ) (σ0 : State F) (n : ℕ)
    (acc : FVec F S8x512 .f32 × FVec F S8x512 .f32 × FVec F S64x512 .f32) (σ : State F) : Prop :=
  acc = (mF X (h + 1) n, lF X m h n, aF X m h n) ∧ σ.s1 = σ0.s1 ∧ σ.ot = σ0.ot ∧ Sc X σ.s0 (h + 1) n

/-- The invariant of the last stage, which only attends. -/
def I6 (X : Ins F) (m : FVec F S1x512 .f32) (h : ℕ) (σ0 : State F) (n : ℕ)
    (acc : FVec F S8x512 .f32 × FVec F S64x512 .f32) (σ : State F) : Prop :=
  acc = (lF X m h n, aF X m h n) ∧ σ = σ0

theorem step_t1 (i : grid0.Coords) (arg1 : BitVec 32) (v24 : IVec S512x512 32) (v27 : IVec S512x512 32) (v41 : IVec S512x512 1) (v43 : IVec S512x512 32) (v44 : IVec S512x512 32) (σ0 : State F)
    (k : Fin (k0_t1_loop i).trips) (acc : FVec F S8x512 .f32) (σ : State F) (hI : I0 X σ0 (2 * (k.val)) acc σ) :
    T c M X σ (k0_t1_body i M.m2 M.h2 M.m3 M.h3 M.m4 M.h4 M.m5 M.h5 M.m6 M.h6 M.m7 M.h7 M.m8 M.h8 arg1 v24 v27 v41 v43 v44 k acc) (I0 X σ0 (2 * (k.val + 1))) := by
  have hk : k.val < jj i / 2 := lt_of_lt_of_eq k.isLt (trips_t1 i)
  have hj := jj_lt i
  obtain ⟨rfl, hs⟩ := hI
  unfold k0_t1_body; dsimp only
  refine t_bind ?_
  rw [k0_part1_eq_skeleton]; unfold k0_part1_skel; dsimp only
  refine ld3 0 (2 * k.val) (off1_0 i k) ?_
  refine ld2 0 rfl ?_
  refine ld6 (2 * k.val) (off2_0 i k) ?_
  refine st6 (2 * k.val) (off2_0 i k) ?_
  refine ld3 0 (2 * k.val + 1) (off1_1 i k) ?_
  refine ld2 0 rfl ?_
  refine ld6 (2 * k.val + 1) (off2_1 i k) ?_
  refine st6 (2 * k.val + 1) (off2_1 i k) ?_
  refine t_pure ?_
  dsimp only
  refine t_pure ?_
  exact ⟨rfl, (hs.put X (by omega) rfl).put X (by omega) rfl⟩

theorem step_t3 (i : grid0.Coords) (arg1 : BitVec 32) (v53 : FVec F S512x512 .f32) (v80 : FVec F S8x512 .f32) (v81 : BitVec 32) (v85 : BitVec 32) (σ0 : State F)
    (k : Fin (k0_t3_loop i).trips) (acc : FVec F S8x512 .f32) (σ : State F) (hI : I0 X σ0 (2 * (jj i / 2) + (k.val)) acc σ) :
    T c M X σ (k0_t3_body i M.m2 M.h2 M.m3 M.h3 M.m4 M.h4 M.m5 M.h5 M.m6 M.h6 M.m7 M.h7 M.m8 M.h8 arg1 v53 v80 v81 v85 k acc) (I0 X σ0 (2 * (jj i / 2) + (k.val + 1))) := by
  have hk : k.val < jj i % 2 := lt_of_lt_of_eq k.isLt (trips_t3 i)
  have hj := jj_lt i
  obtain ⟨rfl, hs⟩ := hI
  unfold k0_t3_body; dsimp only
  refine ld3 0 (2 * (jj i / 2) + k.val) (off5 i k) ?_
  refine ld2 0 rfl ?_
  refine ld6 (2 * (jj i / 2) + k.val) (off6 i k) ?_
  refine st6 (2 * (jj i / 2) + k.val) (off6 i k) ?_
  refine t_pure ?_
  exact ⟨rfl, hs.put X (by omega) rfl⟩

theorem step_t5 (i : grid0.Coords) (arg1 : BitVec 32) (v53 : FVec F S512x512 .f32) (v106 : FVec F S1x512 .f32) (v107 : FVec F S8x512 .f32) (v108 : FVec F S8x512 .f32) (v109 : FVec F S64x512 .f32) (v110 : BitVec 32) (v121 : BitVec 1) (v122 : BitVec 32) (c0_i32_46 : BitVec 32) (σ0 : State F) (hr : Sc X σ0.s0 0 (jj i))
    (k : Fin (k0_t5_loop i).trips) (acc : FVec F S8x512 .f32 × FVec F S8x512 .f32 × FVec F S64x512 .f32) (σ : State F) (hI : IA X v106 0 σ0 (2 * (k.val)) acc σ) :
    T c M X σ (k0_t5_body i M.m2 M.h2 M.m3 M.h3 M.m4 M.h4 M.m5 M.h5 M.m6 M.h6 M.m7 M.h7 M.m8 M.h8 arg1 v53 v106 v107 v108 v109 v110 v121 v122 c0_i32_46 k acc) (IA X v106 0 σ0 (2 * (k.val + 1))) := by
  have hk : k.val < jj i / 2 := lt_of_lt_of_eq k.isLt (trips_t5 i)
  have hj := jj_lt i
  obtain ⟨rfl, hrd, hot, hs⟩ := hI
  unfold k0_t5_body; dsimp only
  refine t_bind ?_
  rw [k0_part3_eq_skeleton]; unfold k0_part3_skel; dsimp only
  refine ld3 1 (2 * k.val) (off11_0 i k) ?_
  refine ld2 1 rfl ?_
  refine ld7 (2 * k.val) (off12_0 i k) ?_
  refine st7 (2 * k.val) (off12_0 i k) ?_
  refine ld6 (2 * k.val) (off12_0 i k) ?_
  refine ld4 0 (2 * k.val) (off13_0 i k) ?_
  refine t_pure ?_
  dsimp only
  refine ld3 1 (2 * k.val + 1) (off11_1 i k) ?_
  refine ld2 1 rfl ?_
  refine ld7 (2 * k.val + 1) (off12_1 i k) ?_
  refine st7 (2 * k.val + 1) (off12_1 i k) ?_
  refine ld6 (2 * k.val + 1) (off12_1 i k) ?_
  refine ld4 0 (2 * k.val + 1) (off13_1 i k) ?_
  refine t_pure ?_
  have e0 : rdS σ.s0 (2 * k.val) = sT X 0 (2 * k.val) := by rw [hrd]; exact hr _ (by omega)
  have e1 : rdS σ.s0 (2 * k.val + 1) = sT X 0 (2 * k.val + 1) := by rw [hrd]; exact hr _ (by omega)
  dsimp only
  rw [e0, e1]
  exact ⟨rfl, hrd, hot, (hs.put X (by omega) rfl).put X (by omega) rfl⟩

theorem step_t7 (i : grid0.Coords) (arg1 : BitVec 32) (v53 : FVec F S512x512 .f32) (v106 : FVec F S1x512 .f32) (v107 : FVec F S8x512 .f32) (v108 : FVec F S8x512 .f32) (v109 : FVec F S64x512 .f32) (v110 : BitVec 32) (v121 : BitVec 1) (v122 : BitVec 32) (c0_i32_46 : BitVec 32) (σ0 : State F) (hr : Sc X σ0.s0 0 (jj i))
    (k : Fin (k0_t7_loop i).trips) (acc : FVec F S8x512 .f32 × FVec F S8x512 .f32 × FVec F S64x512 .f32) (σ : State F) (hI : IA X v106 0 σ0 (2 * (jj i / 2) + (k.val)) acc σ) :
    T c M X σ (k0_t7_body i M.m2 M.h2 M.m3 M.h3 M.m4 M.h4 M.m5 M.h5 M.m6 M.h6 M.m7 M.h7 M.m8 M.h8 arg1 v53 v106 v107 v108 v109 v110 v121 v122 c0_i32_46 k acc) (IA X v106 0 σ0 (2 * (jj i / 2) + (k.val + 1))) := by
  have hk : k.val < jj i % 2 := lt_of_lt_of_eq k.isLt (trips_t7 i)
  have hj := jj_lt i
  obtain ⟨rfl, hrd, hot, hs⟩ := hI
  unfold k0_t7_body; dsimp only
  refine ld3 1 (2 * (jj i / 2) + k.val) (off17 i k) ?_
  refine ld2 1 rfl ?_
  refine ld7 (2 * (jj i / 2) + k.val) (off18 i k) ?_
  refine st7 (2 * (jj i / 2) + k.val) (off18 i k) ?_
  refine ld6 (2 * (jj i / 2) + k.val) (off18 i k) ?_
  refine ld4 0 (2 * (jj i / 2) + k.val) (off19 i k) ?_
  refine t_pure ?_
  have e0 : rdS σ.s0 (2 * (jj i / 2) + k.val) = sT X 0 (2 * (jj i / 2) + k.val) := by rw [hrd]; exact hr _ (by omega)
  dsimp only
  rw [e0]
  exact ⟨rfl, hrd, hot, hs.put X (by omega) rfl⟩

theorem step_t9 (i : grid0.Coords) (arg1 : BitVec 32) (v53 : FVec F S512x512 .f32) (v180 : FVec F S1x512 .f32) (v181 : FVec F S8x512 .f32) (v182 : FVec F S8x512 .f32) (v183 : FVec F S64x512 .f32) (v200 : BitVec 32) (c0_i32_83 : BitVec 32) (v201 : BitVec 32) (σ0 : State F) (hr : Sc X σ0.s1 1 (jj i))
    (k : Fin (k0_t9_loop i).trips) (acc : FVec F S8x512 .f32 × FVec F S8x512 .f32 × FVec F S64x512 .f32) (σ : State F) (hI : IB X v180 1 σ0 (2 * (k.val)) acc σ) :
    T c M X σ (k0_t9_body i M.m2 M.h2 M.m3 M.h3 M.m4 M.h4 M.m5 M.h5 M.m6 M.h6 M.m7 M.h7 M.m8 M.h8 arg1 v53 v180 v181 v182 v183 v200 c0_i32_83 v201 k acc) (IB X v180 1 σ0 (2 * (k.val + 1))) := by
  have hk : k.val < jj i / 2 := lt_of_lt_of_eq k.isLt (trips_t9 i)
  have hj := jj_lt i
  obtain ⟨rfl, hrd, hot, hs⟩ := hI
  unfold k0_t9_body; dsimp only
  refine t_bind ?_
  rw [k0_part5_eq_skeleton]; unfold k0_part5_skel; dsimp only
  refine ld3 2 (2 * k.val) (off25_0 i k) ?_
  refine ld2 2 rfl ?_
  refine ld6 (2 * k.val) (off26_0 i k) ?_
  refine st6 (2 * k.val) (off26_0 i k) ?_
  refine ld7 (2 * k.val) (off26_0 i k) ?_
  refine ld4 1 (2 * k.val) (off27_0 i k) ?_
  refine t_pure ?_
  dsimp only
  refine ld3 2 (2 * k.val + 1) (off25_1 i k) ?_
  refine ld2 2 rfl ?_
  refine ld6 (2 * k.val + 1) (off26_1 i k) ?_
  refine st6 (2 * k.val + 1) (off26_1 i k) ?_
  refine ld7 (2 * k.val + 1) (off26_1 i k) ?_
  refine ld4 1 (2 * k.val + 1) (off27_1 i k) ?_
  refine t_pure ?_
  have e0 : rdS σ.s1 (2 * k.val) = sT X 1 (2 * k.val) := by rw [hrd]; exact hr _ (by omega)
  have e1 : rdS σ.s1 (2 * k.val + 1) = sT X 1 (2 * k.val + 1) := by rw [hrd]; exact hr _ (by omega)
  dsimp only
  rw [e0, e1]
  exact ⟨rfl, hrd, hot, (hs.put X (by omega) rfl).put X (by omega) rfl⟩

theorem step_t11 (i : grid0.Coords) (arg1 : BitVec 32) (v53 : FVec F S512x512 .f32) (v180 : FVec F S1x512 .f32) (v181 : FVec F S8x512 .f32) (v182 : FVec F S8x512 .f32) (v183 : FVec F S64x512 .f32) (v200 : BitVec 32) (c0_i32_83 : BitVec 32) (v201 : BitVec 32) (σ0 : State F) (hr : Sc X σ0.s1 1 (jj i))
    (k : Fin (k0_t11_loop i).trips) (acc : FVec F S8x512 .f32 × FVec F S8x512 .f32 × FVec F S64x512 .f32) (σ : State F) (hI : IB X v180 1 σ0 (2 * (jj i / 2) + (k.val)) acc σ) :
    T c M X σ (k0_t11_body i M.m2 M.h2 M.m3 M.h3 M.m4 M.h4 M.m5 M.h5 M.m6 M.h6 M.m7 M.h7 M.m8 M.h8 arg1 v53 v180 v181 v182 v183 v200 c0_i32_83 v201 k acc) (IB X v180 1 σ0 (2 * (jj i / 2) + (k.val + 1))) := by
  have hk : k.val < jj i % 2 := lt_of_lt_of_eq k.isLt (trips_t11 i)
  have hj := jj_lt i
  obtain ⟨rfl, hrd, hot, hs⟩ := hI
  unfold k0_t11_body; dsimp only
  refine ld3 2 (2 * (jj i / 2) + k.val) (off31 i k) ?_
  refine ld2 2 rfl ?_
  refine ld6 (2 * (jj i / 2) + k.val) (off32 i k) ?_
  refine st6 (2 * (jj i / 2) + k.val) (off32 i k) ?_
  refine ld7 (2 * (jj i / 2) + k.val) (off32 i k) ?_
  refine ld4 1 (2 * (jj i / 2) + k.val) (off33 i k) ?_
  refine t_pure ?_
  have e0 : rdS σ.s1 (2 * (jj i / 2) + k.val) = sT X 1 (2 * (jj i / 2) + k.val) := by rw [hrd]; exact hr _ (by omega)
  dsimp only
  rw [e0]
  exact ⟨rfl, hrd, hot, hs.put X (by omega) rfl⟩

theorem step_t13 (i : grid0.Coords) (arg1 : BitVec 32) (v215_2 : FVec F S64x512 .f32) (v217 : BitVec 32) (v231 : FVec F S8x512 .f32) (v236 : FVec F S512x512 .f32) (v239 : FVec F S8x512 .f32) (σ0 : State F) (hr : Sc X σ0.s0 2 (jj i))
    (k : Fin (k0_t13_loop i).trips) (acc : FVec F S8x512 .f32 × FVec F S8x512 .f32 × FVec F S64x512 .f32) (σ : State F) (hI : IA X (k0_pay125 v231) 2 σ0 (2 * (k.val)) acc σ) :
    T c M X σ (k0_t13_body i M.m2 M.h2 M.m3 M.h3 M.m4 M.h4 M.m5 M.h5 M.m6 M.h6 M.m7 M.h7 M.m8 M.h8 arg1 v215_2 v217 v231 v236 v239 k acc) (IA X (k0_pay125 v231) 2 σ0 (2 * (k.val + 1))) := by
  have hk : k.val < jj i / 2 := lt_of_lt_of_eq k.isLt (trips_t13 i)
  have hj := jj_lt i
  obtain ⟨rfl, hrd, hot, hs⟩ := hI
  unfold k0_t13_body; dsimp only
  refine t_bind ?_
  rw [k0_part7_eq_skeleton]; unfold k0_part7_skel; dsimp only
  refine ld3 3 (2 * k.val) (off39_0 i k) ?_
  refine ld2 3 rfl ?_
  refine ld7 (2 * k.val) (off40_0 i k) ?_
  refine st7 (2 * k.val) (off40_0 i k) ?_
  refine ld6 (2 * k.val) (off40_0 i k) ?_
  refine ld4 2 (2 * k.val) (off41_0 i k) ?_
  refine t_pure ?_
  dsimp only
  refine ld3 3 (2 * k.val + 1) (off39_1 i k) ?_
  refine ld2 3 rfl ?_
  refine ld7 (2 * k.val + 1) (off40_1 i k) ?_
  refine st7 (2 * k.val + 1) (off40_1 i k) ?_
  refine ld6 (2 * k.val + 1) (off40_1 i k) ?_
  refine ld4 2 (2 * k.val + 1) (off41_1 i k) ?_
  refine t_pure ?_
  have e0 : rdS σ.s0 (2 * k.val) = sT X 2 (2 * k.val) := by rw [hrd]; exact hr _ (by omega)
  have e1 : rdS σ.s0 (2 * k.val + 1) = sT X 2 (2 * k.val + 1) := by rw [hrd]; exact hr _ (by omega)
  dsimp only
  rw [e0, e1]
  exact ⟨rfl, hrd, hot, (hs.put X (by omega) rfl).put X (by omega) rfl⟩

theorem step_t15 (i : grid0.Coords) (arg1 : BitVec 32) (v53 : FVec F S512x512 .f32) (v254 : FVec F S1x512 .f32) (v274 : BitVec 32) (v279 : BitVec 32) (v280_0 : FVec F S8x512 .f32) (v280_1 : FVec F S8x512 .f32) (v280_2 : FVec F S64x512 .f32) (σ0 : State F) (hr : Sc X σ0.s0 2 (jj i))
    (k : Fin (k0_t15_loop i).trips) (acc : FVec F S8x512 .f32 × FVec F S8x512 .f32 × FVec F S64x512 .f32) (σ : State F) (hI : IA X v254 2 σ0 (2 * (jj i / 2) + (k.val)) acc σ) :
    T c M X σ (k0_t15_body i M.m2 M.h2 M.m3 M.h3 M.m4 M.h4 M.m5 M.h5 M.m6 M.h6 M.m7 M.h7 M.m8 M.h8 arg1 v53 v254 v274 v279 v280_0 v280_1 v280_2 k acc) (IA X v254 2 σ0 (2 * (jj i / 2) + (k.val + 1))) := by
  have hk : k.val < jj i % 2 := lt_of_lt_of_eq k.isLt (trips_t15 i)
  have hj := jj_lt i
  obtain ⟨rfl, hrd, hot, hs⟩ := hI
  unfold k0_t15_body; dsimp only
  refine ld3 3 (2 * (jj i / 2) + k.val) (off45 i k) ?_
  refine ld2 3 rfl ?_
  refine ld7 (2 * (jj i / 2) + k.val) (off46 i k) ?_
  refine st7 (2 * (jj i / 2) + k.val) (off46 i k) ?_
  refine ld6 (2 * (jj i / 2) + k.val) (off46 i k) ?_
  refine ld4 2 (2 * (jj i / 2) + k.val) (off47 i k) ?_
  refine t_pure ?_
  have e0 : rdS σ.s0 (2 * (jj i / 2) + k.val) = sT X 2 (2 * (jj i / 2) + k.val) := by rw [hrd]; exact hr _ (by omega)
  dsimp only
  rw [e0]
  exact ⟨rfl, hrd, hot, hs.put X (by omega) rfl⟩

theorem step_t17 (i : grid0.Coords) (arg1 : BitVec 32) (v305 : FVec F S8x512 .f32) (v313 : FVec F S8x512 .f32) (v319 : FVec F S64x512 .f32) (σ0 : State F) (hr : Sc X σ0.s1 3 (jj i))
    (k : Fin (k0_t17_loop i).trips) (acc : FVec F S8x512 .f32 × FVec F S8x512 .f32 × FVec F S64x512 .f32) (σ : State F) (hI : IB X (k0_pay125 v305) 3 σ0 (2 * (k.val)) acc σ) :
    T c M X σ (k0_t17_body i M.m2 M.h2 M.m3 M.h3 M.m4 M.h4 M.m5 M.h5 M.m6 M.h6 M.m7 M.h7 M.m8 M.h8 arg1 v305 v313 v319 k acc) (IB X (k0_pay125 v305) 3 σ0 (2 * (k.val + 1))) := by
  have hk : k.val < jj i / 2 := lt_of_lt_of_eq k.isLt (trips_t17 i)
  have hj := jj_lt i
  obtain ⟨rfl, hrd, hot, hs⟩ := hI
  unfold k0_t17_body; dsimp only
  refine t_bind ?_
  rw [k0_part9_eq_skeleton]; unfold k0_part9_skel; dsimp only
  refine ld3 4 (2 * k.val) (off53_0 i k) ?_
  refine ld2 4 rfl ?_
  refine ld6 (2 * k.val) (off54_0 i k) ?_
  refine st6 (2 * k.val) (off54_0 i k) ?_
  refine ld7 (2 * k.val) (off54_0 i k) ?_
  refine ld4 3 (2 * k.val) (off55_0 i k) ?_
  refine t_pure ?_
  dsimp only
  refine ld3 4 (2 * k.val + 1) (off53_1 i k) ?_
  refine ld2 4 rfl ?_
  refine ld6 (2 * k.val + 1) (off54_1 i k) ?_
  refine st6 (2 * k.val + 1) (off54_1 i k) ?_
  refine ld7 (2 * k.val + 1) (off54_1 i k) ?_
  refine ld4 3 (2 * k.val + 1) (off55_1 i k) ?_
  refine t_pure ?_
  have e0 : rdS σ.s1 (2 * k.val) = sT X 3 (2 * k.val) := by rw [hrd]; exact hr _ (by omega)
  have e1 : rdS σ.s1 (2 * k.val + 1) = sT X 3 (2 * k.val + 1) := by rw [hrd]; exact hr _ (by omega)
  dsimp only
  rw [e0, e1]
  exact ⟨rfl, hrd, hot, (hs.put X (by omega) rfl).put X (by omega) rfl⟩

theorem step_t19 (i : grid0.Coords) (arg1 : BitVec 32) (v53 : FVec F S512x512 .f32) (v328 : FVec F S1x512 .f32) (v355_0 : FVec F S8x512 .f32) (v355_1 : FVec F S8x512 .f32) (v355_2 : FVec F S64x512 .f32) (v356 : BitVec 32) (v357 : BitVec 32) (c1_i32_157 : BitVec 32) (σ0 : State F) (hr : Sc X σ0.s1 3 (jj i))
    (k : Fin (k0_t19_loop i).trips) (acc : FVec F S8x512 .f32 × FVec F S8x512 .f32 × FVec F S64x512 .f32) (σ : State F) (hI : IB X v328 3 σ0 (2 * (jj i / 2) + (k.val)) acc σ) :
    T c M X σ (k0_t19_body i M.m2 M.h2 M.m3 M.h3 M.m4 M.h4 M.m5 M.h5 M.m6 M.h6 M.m7 M.h7 M.m8 M.h8 arg1 v53 v328 v355_0 v355_1 v355_2 v356 v357 c1_i32_157 k acc) (IB X v328 3 σ0 (2 * (jj i / 2) + (k.val + 1))) := by
  have hk : k.val < jj i % 2 := lt_of_lt_of_eq k.isLt (trips_t19 i)
  have hj := jj_lt i
  obtain ⟨rfl, hrd, hot, hs⟩ := hI
  unfold k0_t19_body; dsimp only
  refine ld3 4 (2 * (jj i / 2) + k.val) (off59 i k) ?_
  refine ld2 4 rfl ?_
  refine ld6 (2 * (jj i / 2) + k.val) (off60 i k) ?_
  refine st6 (2 * (jj i / 2) + k.val) (off60 i k) ?_
  refine ld7 (2 * (jj i / 2) + k.val) (off60 i k) ?_
  refine ld4 3 (2 * (jj i / 2) + k.val) (off61 i k) ?_
  refine t_pure ?_
  have e0 : rdS σ.s1 (2 * (jj i / 2) + k.val) = sT X 3 (2 * (jj i / 2) + k.val) := by rw [hrd]; exact hr _ (by omega)
  dsimp only
  rw [e0]
  exact ⟨rfl, hrd, hot, hs.put X (by omega) rfl⟩

theorem step_t21 (i : grid0.Coords) (arg1 : BitVec 32) (v379 : FVec F S8x512 .f32) (v397 : FVec F S64x512 .f32) (σ0 : State F) (hr : Sc X σ0.s0 4 (jj i))
    (k : Fin (k0_t21_loop i).trips) (acc : FVec F S8x512 .f32 × FVec F S8x512 .f32 × FVec F S64x512 .f32) (σ : State F) (hI : IA X (k0_pay125 v379) 4 σ0 (2 * (k.val)) acc σ) :
    T c M X σ (k0_t21_body i M.m2 M.h2 M.m3 M.h3 M.m4 M.h4 M.m5 M.h5 M.m6 M.h6 M.m7 M.h7 M.m8 M.h8 arg1 v379 v397 k acc) (IA X (k0_pay125 v379) 4 σ0 (2 * (k.val + 1))) := by
  have hk : k.val < jj i / 2 := lt_of_lt_of_eq k.isLt (trips_t21 i)
  have hj := jj_lt i
  obtain ⟨rfl, hrd, hot, hs⟩ := hI
  unfold k0_t21_body; dsimp only
  refine t_bind ?_
  rw [k0_part11_eq_skeleton]; unfold k0_part11_skel; dsimp only
  refine ld3 5 (2 * k.val) (off67_0 i k) ?_
  refine ld2 5 rfl ?_
  refine ld7 (2 * k.val) (off68_0 i k) ?_
  refine st7 (2 * k.val) (off68_0 i k) ?_
  refine ld6 (2 * k.val) (off68_0 i k) ?_
  refine ld4 4 (2 * k.val) (off69_0 i k) ?_
  refine t_pure ?_
  dsimp only
  refine ld3 5 (2 * k.val + 1) (off67_1 i k) ?_
  refine ld2 5 rfl ?_
  refine ld7 (2 * k.val + 1) (off68_1 i k) ?_
  refine st7 (2 * k.val + 1) (off68_1 i k) ?_
  refine ld6 (2 * k.val + 1) (off68_1 i k) ?_
  refine ld4 4 (2 * k.val + 1) (off69_1 i k) ?_
  refine t_pure ?_
  have e0 : rdS σ.s0 (2 * k.val) = sT X 4 (2 * k.val) := by rw [hrd]; exact hr _ (by omega)
  have e1 : rdS σ.s0 (2 * k.val + 1) = sT X 4 (2 * k.val + 1) := by rw [hrd]; exact hr _ (by omega)
  dsimp only
  rw [e0, e1]
  exact ⟨rfl, hrd, hot, (hs.put X (by omega) rfl).put X (by omega) rfl⟩

theorem step_t23 (i : grid0.Coords) (arg1 : BitVec 32) (v379 : FVec F S8x512 .f32) (v397 : FVec F S64x512 .f32) (σ0 : State F) (hr : Sc X σ0.s0 4 (jj i))
    (k : Fin (k0_t23_loop i).trips) (acc : FVec F S8x512 .f32 × FVec F S8x512 .f32 × FVec F S64x512 .f32) (σ : State F) (hI : IA X (k0_pay125 v379) 4 σ0 (2 * (jj i / 2) + (k.val)) acc σ) :
    T c M X σ (k0_t23_body i M.m2 M.h2 M.m3 M.h3 M.m4 M.h4 M.m5 M.h5 M.m6 M.h6 M.m7 M.h7 M.m8 M.h8 arg1 v379 v397 k acc) (IA X (k0_pay125 v379) 4 σ0 (2 * (jj i / 2) + (k.val + 1))) := by
  have hk : k.val < jj i % 2 := lt_of_lt_of_eq k.isLt (trips_t23 i)
  have hj := jj_lt i
  obtain ⟨rfl, hrd, hot, hs⟩ := hI
  unfold k0_t23_body; dsimp only
  refine ld3 5 (2 * (jj i / 2) + k.val) (off73 i k) ?_
  refine ld2 5 rfl ?_
  refine ld7 (2 * (jj i / 2) + k.val) (off74 i k) ?_
  refine st7 (2 * (jj i / 2) + k.val) (off74 i k) ?_
  refine ld6 (2 * (jj i / 2) + k.val) (off74 i k) ?_
  refine ld4 4 (2 * (jj i / 2) + k.val) (off75 i k) ?_
  refine t_pure ?_
  have e0 : rdS σ.s0 (2 * (jj i / 2) + k.val) = sT X 4 (2 * (jj i / 2) + k.val) := by rw [hrd]; exact hr _ (by omega)
  dsimp only
  rw [e0]
  exact ⟨rfl, hrd, hot, hs.put X (by omega) rfl⟩

theorem step_t25 (i : grid0.Coords) (arg1 : BitVec 32) (v476 : FVec F S1x512 .f32) (σ0 : State F) (hr : Sc X σ0.s1 5 (jj i))
    (k : Fin (k0_t25_loop i).trips) (acc : FVec F S8x512 .f32 × FVec F S64x512 .f32) (σ : State F) (hI : I6 X v476 5 σ0 (2 * (k.val)) acc σ) :
    T c M X σ (k0_t25_body i M.m2 M.h2 M.m3 M.h3 M.m4 M.h4 M.m5 M.h5 M.m6 M.h6 M.m7 M.h7 M.m8 M.h8 arg1 v476 k acc) (I6 X v476 5 σ0 (2 * (k.val + 1))) := by
  have hk : k.val < jj i / 2 := lt_of_lt_of_eq k.isLt (trips_t25 i)
  have hj := jj_lt i
  obtain ⟨rfl, rfl⟩ := hI
  unfold k0_t25_body; dsimp only
  refine ld7 (2 * k.val) (off81_0 i k) ?_
  refine ld4 5 (2 * k.val) (off82_0 i k) ?_
  refine ld7 (2 * k.val + 1) (off81_1 i k) ?_
  refine ld4 5 (2 * k.val + 1) (off82_1 i k) ?_
  refine t_pure ?_
  have e0 : rdS σ.s1 (2 * k.val) = sT X 5 (2 * k.val) := hr _ (by omega)
  have e1 : rdS σ.s1 (2 * k.val + 1) = sT X 5 (2 * k.val + 1) := hr _ (by omega)
  skip
  rw [e0, e1]
  exact ⟨rfl, rfl⟩

theorem step_t27 (i : grid0.Coords) (arg1 : BitVec 32) (v476 : FVec F S1x512 .f32) (σ0 : State F) (hr : Sc X σ0.s1 5 (jj i))
    (k : Fin (k0_t27_loop i).trips) (acc : FVec F S8x512 .f32 × FVec F S64x512 .f32) (σ : State F) (hI : I6 X v476 5 σ0 (2 * (jj i / 2) + (k.val)) acc σ) :
    T c M X σ (k0_t27_body i M.m2 M.h2 M.m3 M.h3 M.m4 M.h4 M.m5 M.h5 M.m6 M.h6 M.m7 M.h7 M.m8 M.h8 arg1 v476 k acc) (I6 X v476 5 σ0 (2 * (jj i / 2) + (k.val + 1))) := by
  have hk : k.val < jj i % 2 := lt_of_lt_of_eq k.isLt (trips_t27 i)
  have hj := jj_lt i
  obtain ⟨rfl, rfl⟩ := hI
  unfold k0_t27_body; dsimp only
  refine ld7 (2 * (jj i / 2) + k.val) (off85 i k) ?_
  refine ld4 5 (2 * (jj i / 2) + k.val) (off86 i k) ?_
  refine t_pure ?_
  have e0 : rdS σ.s1 (2 * (jj i / 2) + k.val) = sT X 5 (2 * (jj i / 2) + k.val) := hr _ (by omega)
  skip
  rw [e0]
  exact ⟨rfl, rfl⟩

end Cert.Proof.Mla

end
-- ==== Proof.MlaBody.lean ====
/- What the kernel's body leaves in the output block: head by head, the attended values (MlaLoops.lean), transposed and rounded. -/
module

public import proofs.«01_k».proof.Proof.MlaLoops

@[expose] public section

noncomputable section

namespace Cert.Proof.Mla

open Idealize.ShloMosaic Idealize.ShloMosaic.TcCoe
open Idealize.SL Idealize.SL.Sem
open Cert.Kernel2Ideal Cert.Kernel2Ideal.Gen

variable {F : FTy → Type} [FloatOps F] {c : Dev nD} {M : Mems} {X : Ins F}

/-- The rows of the heads before `n` hold those heads' attended values. -/
def Oc (X : Ins F) (j : ℕ) (s : Vec F S384x512 .f32) (n : ℕ) : Prop := ∀ h < n, rdO s h = oT X h j

theorem Oc.put {j : ℕ} {s : Vec F S384x512 .f32} {n : ℕ} (hs : Oc X j s n) (hn : n < 6) {w : Vec F S64x512 .f32} (hw : w = oT X n j) :
    Oc X j (wrO s n w) (n + 1) := by
  intro t ht
  rcases Nat.lt_succ_iff_lt_or_eq.mp ht with h' | rfl
  · rw [rdO_wrO_ne s w hn (by omega) (by omega)]; exact hs t h'
  · rw [rdO_wrO_same]; exact hw

/-- A counted loop whose trip count is known. -/
theorem t_forn {α : Type} {σ : State F} {w : Nat} {lb ub st : BitVec w} {hok : Scf.OK lb ub st} {init : α}
    {body : Fin (Scf.trips lb ub st) → α → Prog (TpuEff nD τ sig (Elt F) Λ₀ .tc) α} {Φ : α → State F → Prop}
    (n : ℕ) (hn : Scf.trips lb ub st = n) (I : ℕ → α → State F → Prop) (h0 : I 0 init σ)
    (hb : ∀ (k : Fin (Scf.trips lb ub st)) (acc : α) (σ' : State F), I k.val acc σ' → T c M X σ' (body k acc) (I (k.val + 1)))
    (hΦ : ∀ acc σ', I n acc σ' → Φ acc σ') : T c M X σ (Scf.for lb ub st hok init body) Φ :=
  t_for I h0 hb (fun acc σ' h => hΦ acc σ' (hn ▸ h))

/-- Of a state only its contents matter. -/
theorem t_gen {α : Type} {σ : State F} {p : Prog (TpuEff nD τ sig (Elt F) Λ₀ .tc) α} {Φ : α → State F → Prop}
    (h : ∀ τ' : State F, τ'.s0 = σ.s0 → τ'.s1 = σ.s1 → τ'.ot = σ.ot → T c M X τ' p Φ) : T c M X σ p Φ := h σ rfl rfl rfl

/-- A put over the whole shape is its payload. -/
theorem put_full {α : Type} (x : S1x512x384.Idx → α) (w : S1x512x384.Idx → α) : VecWindow.put x ![0, 0, 0] S1x512x384.size w = w := by
  funext y
  have h : ∀ a, (![0, 0, 0] : Fin 3 → ℕ) a ≤ (y a).val ∧ (y a).val < (![0, 0, 0] : Fin 3 → ℕ) a + S1x512x384.size a := by
    intro a
    have := (y a).isLt
    fin_cases a <;> exact ⟨Nat.zero_le _, by simpa using this⟩
  refine (dif_pos h).trans (congrArg w (funext fun a => Fin.ext ?_))
  fin_cases a <;> rfl

/-- A window of the whole shape is the contents. -/
theorem window_full {α : Type} (x : S384x512.Idx → α) (inb : ∀ a, (![0, 0] : Fin 2 → ℕ) a + S384x512.size a ≤ S384x512.size a) :
    VecWindow.window x ![0, 0] S384x512.size inb = x := by
  funext y
  refine congrArg x (funext fun a => Fin.ext ?_)
  show (![0, 0] : Fin 2 → ℕ) a + 1 * (y a).val = (y a).val
  fin_cases a <;> simp

theorem half (i : grid0.Coords) : 2 * (jj i / 2) + jj i % 2 = jj i := Nat.div_add_mod _ _

set_option maxHeartbeats 4000000 in
/-- The body, run on queries, keys and values `X`, leaves the six heads' attended values, transposed and rounded. -/
theorem body_spec (i : grid0.Coords) (σ : State F) :
    T c M X σ (cc0_mla_skel i M.m2 M.h2 M.m3 M.h3 M.m4 M.h4 M.m5 M.h5 M.m6 M.h6 M.m7 M.h7 M.m8 M.h8) (fun _ σ' => ∃ s : Vec F S384x512 .f32, Oc X (jj i) s 6 ∧ σ'.out = k0_pay2 s) := by
  have hj := jj_lt i
  unfold cc0_mla_skel; dsimp only
  refine t_bind ?_
  rw [k0_part13_eq_skeleton]; unfold k0_part13_skel; dsimp only
  refine t_pure ?_
  try dsimp only
  refine t_bind ?_
  rw [k0_part14_eq_skeleton]; unfold k0_part14_skel; dsimp only
  refine t_bind (t_forn (jj i / 2) (trips_t1 i) (fun n => I0 X σ (2 * n)) ⟨rfl, Sc.zero X _ _⟩ (fun k acc σ' h => step_t1 i _ _ _ _ _ _ σ k acc σ' h) ?_)
  rintro acc σ0 ⟨rfl, hs⟩
  try dsimp only
  refine t_bind (t_for_zero (trips_t2 i) ?_)
  try dsimp only
  refine t_pure ?_
  try dsimp only
  refine t_bind ?_
  rw [k0_part15_eq_skeleton]; unfold k0_part15_skel; dsimp only
  refine t_bind (t_forn (jj i % 2) (trips_t3 i) (fun n => I0 X σ (2 * (jj i / 2) + n)) ⟨rfl, hs⟩ (fun k acc σ' h => step_t3 i _ _ _ _ _ σ k acc σ' h) ?_)
  rintro acc σ01 ⟨rfl, hs⟩
  rw [half i] at hs ⊢
  try dsimp only
  refine t_bind (t_for_zero (trips_t4 i) ?_)
  try dsimp only
  refine ld3 0 (jj i) (off9 i) ?_
  refine ld2 0 rfl ?_
  refine ld6 (jj i) (off10 i) ?_
  refine st6 (jj i) (off10 i) ?_
  refine t_gen (fun τ1 e0 e1 eo => ?_)
  dsimp only at e0 e1 eo
  have hr1 : Sc X τ1.s0 0 (jj i) := by rw [e0]; exact hs.diag X hj _
  have hd1 : rdS τ1.s0 (jj i) = dT X 0 (jj i) := by rw [e0]; exact rdS_wrS_same _ _ _
  have ho1 : Oc X (jj i) τ1.ot 0 := fun _ h => absurd h (Nat.not_lt_zero _)
  clear e0 e1 eo hs
  refine t_pure ?_
  try dsimp only
  refine t_bind ?_
  rw [k0_part16_eq_skeleton]; unfold k0_part16_skel; dsimp only
  refine t_bind (t_forn (jj i / 2) (trips_t5 i) (fun n => IA X (mR X 0 (jj i)) 0 τ1 (2 * n)) ⟨rfl, rfl, rfl, Sc.zero X _ _⟩ (fun k acc σ' h => step_t5 i _ _ _ _ _ _ _ _ _ _ τ1 hr1 k acc σ' h) ?_)
  rintro acc σ1 ⟨rfl, hrd, hot, hs⟩
  try dsimp only
  refine t_bind (t_for_zero (trips_t6 i) ?_)
  try dsimp only
  refine t_bind (t_forn (jj i % 2) (trips_t7 i) (fun n => IA X (mR X 0 (jj i)) 0 τ1 (2 * (jj i / 2) + n)) ⟨rfl, hrd, hot, hs⟩ (fun k acc σ' h => step_t7 i _ _ _ _ _ _ _ _ _ _ τ1 hr1 k acc σ' h) ?_)
  clear hrd hot hs
  rintro acc σ11 ⟨rfl, hrd, hot, hs⟩
  rw [half i] at hs ⊢
  try dsimp only
  refine t_bind (t_for_zero (trips_t8 i) ?_)
  try dsimp only
  refine ld3 1 (jj i) (off23 i) ?_
  refine ld2 1 rfl ?_
  refine ld7 (jj i) (off10 i) ?_
  refine st7 (jj i) (off10 i) ?_
  refine ld6 (jj i) (off10 i) ?_
  try dsimp only
  have er : rdS σ11.s0 (jj i) = dT X 0 (jj i) := by rw [hrd]; exact hd1
  rw [er]
  clear er
  refine t_pure ?_
  try dsimp only
  refine t_bind ?_
  rw [k0_part17_eq_skeleton]; unfold k0_part17_skel; dsimp only
  refine ld4 0 (jj i) (off24 i) ?_
  refine t_load8 (off' := ![0, 0]) rfl (by decide) ?_
  refine st8 0 rfl ?_
  refine t_gen (fun τ2 e0 e1 eo => ?_)
  dsimp only at e0 e1 eo
  have hr2 : Sc X τ2.s1 1 (jj i) := by rw [e1]; exact hs.diag X hj _
  have hd2 : rdS τ2.s1 (jj i) = dT X 1 (jj i) := by rw [e1]; exact rdS_wrS_same _ _ _
  have ho2 : Oc X (jj i) τ2.ot 1 := by rw [eo, hot]; exact ho1.put (by omega) rfl
  clear e0 e1 eo hs hrd hot hr1 hd1 ho1
  refine t_pure ?_
  try dsimp only
  refine t_bind ?_
  rw [k0_part18_eq_skeleton]; unfold k0_part18_skel; dsimp only
  refine t_bind (t_forn (jj i / 2) (trips_t9 i) (fun n => IB X (mR X 1 (jj i)) 1 τ2 (2 * n)) ⟨rfl, rfl, rfl, Sc.zero X _ _⟩ (fun k acc σ' h => step_t9 i _ _ _ _ _ _ _ _ _ τ2 hr2 k acc σ' h) ?_)
  rintro acc σ2 ⟨rfl, hrd, hot, hs⟩
  try dsimp only
  refine t_bind (t_for_zero (trips_t10 i) ?_)
  try dsimp only
  refine t_bind (t_forn (jj i % 2) (trips_t11 i) (fun n => IB X (mR X 1 (jj i)) 1 τ2 (2 * (jj i / 2) + n)) ⟨rfl, hrd, hot, hs⟩ (fun k acc σ' h => step_t11 i _ _ _ _ _ _ _ _ _ τ2 hr2 k acc σ' h) ?_)
  clear hrd hot hs
  rintro acc σ21 ⟨rfl, hrd, hot, hs⟩
  rw [half i] at hs ⊢
  try dsimp only
  refine t_bind (t_for_zero (trips_t12 i) ?_)
  try dsimp only
  refine ld3 2 (jj i) (off37 i) ?_
  refine ld2 2 rfl ?_
  refine ld6 (jj i) (off10 i) ?_
  refine st6 (jj i) (off10 i) ?_
  refine ld7 (jj i) (off10 i) ?_
  try dsimp only
  have er : rdS σ21.s1 (jj i) = dT X 1 (jj i) := by rw [hrd]; exact hd2
  rw [er]
  clear er
  refine t_pure ?_
  try dsimp only
  refine t_bind ?_
  rw [k0_part19_eq_skeleton]; unfold k0_part19_skel; dsimp only
  refine ld4 1 (jj i) (off38 i) ?_
  refine t_load8 (off' := ![64, 0]) rfl (by decide) ?_
  refine st8 1 rfl ?_
  refine t_gen (fun τ3 e0 e1 eo => ?_)
  dsimp only at e0 e1 eo
  have hr3 : Sc X τ3.s0 2 (jj i) := by rw [e0]; exact hs.diag X hj _
  have hd3 : rdS τ3.s0 (jj i) = dT X 2 (jj i) := by rw [e0]; exact rdS_wrS_same _ _ _
  have ho3 : Oc X (jj i) τ3.ot 2 := by rw [eo, hot]; exact ho2.put (by omega) rfl
  clear e0 e1 eo hs hrd hot hr2 hd2 ho2
  refine t_bind (t_forn (jj i / 2) (trips_t13 i) (fun n => IA X (mR X 2 (jj i)) 2 τ3 (2 * n)) ⟨rfl, rfl, rfl, Sc.zero X _ _⟩ (fun k acc σ' h => step_t13 i _ _ _ _ _ _ τ3 hr3 k acc σ' h) ?_)
  rintro acc σ3 ⟨rfl, hrd, hot, hs⟩
  try dsimp only
  refine t_pure ?_
  try dsimp only
  refine t_bind ?_
  rw [k0_part20_eq_skeleton]; unfold k0_part20_skel; dsimp only
  refine t_bind (t_for_zero (trips_t14 i) ?_)
  try dsimp only
  refine t_bind (t_forn (jj i % 2) (trips_t15 i) (fun n => IA X (mR X 2 (jj i)) 2 τ3 (2 * (jj i / 2) + n)) ⟨rfl, hrd, hot, hs⟩ (fun k acc σ' h => step_t15 i _ _ _ _ _ _ _ _ τ3 hr3 k acc σ' h) ?_)
  clear hrd hot hs
  rintro acc σ31 ⟨rfl, hrd, hot, hs⟩
  rw [half i] at hs ⊢
  try dsimp only
  refine t_bind (t_for_zero (trips_t16 i) ?_)
  try dsimp only
  refine ld3 3 (jj i) (off51 i) ?_
  refine ld2 3 rfl ?_
  refine ld7 (jj i) (off10 i) ?_
  refine st7 (jj i) (off10 i) ?_
  refine ld6 (jj i) (off10 i) ?_
  try dsimp only
  have er : rdS σ31.s0 (jj i) = dT X 2 (jj i) := by rw [hrd]; exact hd3
  rw [er]
  clear er
  refine ld4 2 (jj i) (off52 i) ?_
  refine t_pure ?_
  try dsimp only
  refine t_bind ?_
  rw [k0_part21_eq_skeleton]; unfold k0_part21_skel; dsimp only
  refine t_load8 (off' := ![128, 0]) rfl (by decide) ?_
  refine st8 2 rfl ?_
  refine t_gen (fun τ4 e0 e1 eo => ?_)
  dsimp only at e0 e1 eo
  have hr4 : Sc X τ4.s1 3 (jj i) := by rw [e1]; exact hs.diag X hj _
  have hd4 : rdS τ4.s1 (jj i) = dT X 3 (jj i) := by rw [e1]; exact rdS_wrS_same _ _ _
  have ho4 : Oc X (jj i) τ4.ot 3 := by rw [eo, hot]; exact ho3.put (by omega) rfl
  clear e0 e1 eo hs hrd hot hr3 hd3 ho3
  refine t_bind (t_forn (jj i / 2) (trips_t17 i) (fun n => IB X (mR X 3 (jj i)) 3 τ4 (2 * n)) ⟨rfl, rfl, rfl, Sc.zero X _ _⟩ (fun k acc σ' h => step_t17 i _ _ _ _ τ4 hr4 k acc σ' h) ?_)
  rintro acc σ4 ⟨rfl, hrd, hot, hs⟩
  try dsimp only
  refine t_bind (t_for_zero (trips_t18 i) ?_)
  try dsimp only
  refine t_pure ?_
  try dsimp only
  refine t_bind ?_
  rw [k0_part22_eq_skeleton]; unfold k0_part22_skel; dsimp only
  refine t_bind (t_forn (jj i % 2) (trips_t19 i) (fun n => IB X (mR X 3 (jj i)) 3 τ4 (2 * (jj i / 2) + n)) ⟨rfl, hrd, hot, hs⟩ (fun k acc σ' h => step_t19 i _ _ _ _ _ _ _ _ _ τ4 hr4 k acc σ' h) ?_)
  clear hrd hot hs
  rintro acc σ41 ⟨rfl, hrd, hot, hs⟩
  rw [half i] at hs ⊢
  try dsimp only
  refine t_bind (t_for_zero (trips_t20 i) ?_)
  try dsimp only
  refine ld3 4 (jj i) (off65 i) ?_
  refine ld2 4 rfl ?_
  refine ld6 (jj i) (off10 i) ?_
  refine st6 (jj i) (off10 i) ?_
  refine ld7 (jj i) (off10 i) ?_
  try dsimp only
  have er : rdS σ41.s1 (jj i) = dT X 3 (jj i) := by rw [hrd]; exact hd4
  rw [er]
  clear er
  refine ld4 3 (jj i) (off66 i) ?_
  refine t_pure ?_
  try dsimp only
  refine t_bind ?_
  rw [k0_part23_eq_skeleton]; unfold k0_part23_skel; dsimp only
  refine t_load8 (off' := ![192, 0]) rfl (by decide) ?_
  refine st8 3 rfl ?_
  refine t_gen (fun τ5 e0 e1 eo => ?_)
  dsimp only at e0 e1 eo
  have hr5 : Sc X τ5.s0 4 (jj i) := by rw [e0]; exact hs.diag X hj _
  have hd5 : rdS τ5.s0 (jj i) = dT X 4 (jj i) := by rw [e0]; exact rdS_wrS_same _ _ _
  have ho5 : Oc X (jj i) τ5.ot 4 := by rw [eo, hot]; exact ho4.put (by omega) rfl
  clear e0 e1 eo hs hrd hot hr4 hd4 ho4
  refine t_bind (t_forn (jj i / 2) (trips_t21 i) (fun n => IA X (mR X 4 (jj i)) 4 τ5 (2 * n)) ⟨rfl, rfl, rfl, Sc.zero X _ _⟩ (fun k acc σ' h => step_t21 i _ _ _ τ5 hr5 k acc σ' h) ?_)
  rintro acc σ5 ⟨rfl, hrd, hot, hs⟩
  try dsimp only
  refine t_bind (t_for_zero (trips_t22 i) ?_)
  try dsimp only
  refine t_bind (t_forn (jj i % 2) (trips_t23 i) (fun n => IA X (mR X 4 (jj i)) 4 τ5 (2 * (jj i / 2) + n)) ⟨rfl, hrd, hot, hs⟩ (fun k acc σ' h => step_t23 i _ _ _ τ5 hr5 k acc σ' h) ?_)
  clear hrd hot hs
  rintro acc σ51 ⟨rfl, hrd, hot, hs⟩
  rw [half i] at hs ⊢
  try dsimp only
  refine t_bind (t_for_zero (trips_t24 i) ?_)
  try dsimp only
  refine t_pure ?_
  try dsimp only
  refine t_bind ?_
  rw [k0_part24_eq_skeleton]; unfold k0_part24_skel; dsimp only
  refine ld3 5 (jj i) (off79 i) ?_
  refine ld2 5 rfl ?_
  refine ld7 (jj i) (off10 i) ?_
  refine st7 (jj i) (off10 i) ?_
  refine ld6 (jj i) (off10 i) ?_
  try dsimp only
  have er : rdS σ51.s0 (jj i) = dT X 4 (jj i) := by rw [hrd]; exact hd5
  rw [er]
  clear er
  refine ld4 4 (jj i) (off80 i) ?_
  refine t_load8 (off' := ![256, 0]) rfl (by decide) ?_
  refine st8 4 rfl ?_
  refine t_gen (fun τ6 e0 e1 eo => ?_)
  dsimp only at e0 e1 eo
  have hr6 : Sc X τ6.s1 5 (jj i) := by rw [e1]; exact hs.diag X hj _
  have hd6 : rdS τ6.s1 (jj i) = dT X 5 (jj i) := by rw [e1]; exact rdS_wrS_same _ _ _
  have ho6 : Oc X (jj i) τ6.ot 5 := by rw [eo, hot]; exact ho5.put (by omega) rfl
  clear e0 e1 eo hs hrd hot hr5 hd5 ho5
  refine t_pure ?_
  try dsimp only
  refine t_bind ?_
  rw [k0_part25_eq_skeleton]; unfold k0_part25_skel; dsimp only
  refine t_bind (t_forn (jj i / 2) (trips_t25 i) (fun n => I6 X (mR X 5 (jj i)) 5 τ6 (2 * n)) ⟨rfl, rfl⟩ (fun k acc σ' h => step_t25 i _ _ τ6 hr6 k acc σ' h) ?_)
  rintro acc σ6 ⟨rfl, hσ⟩
  rw [hσ]; clear hσ
  try dsimp only
  refine t_bind (t_for_zero (trips_t26 i) ?_)
  try dsimp only
  refine t_bind (t_forn (jj i % 2) (trips_t27 i) (fun n => I6 X (mR X 5 (jj i)) 5 τ6 (2 * (jj i / 2) + n)) ⟨rfl, rfl⟩ (fun k acc σ' h => step_t27 i _ _ τ6 hr6 k acc σ' h) ?_)
  rintro acc σ61 ⟨rfl, hσ⟩
  rw [hσ]; clear hσ
  rw [half i]
  try dsimp only
  refine t_bind (t_for_zero (trips_t28 i) ?_)
  try dsimp only
  refine ld7 (jj i) (off10 i) ?_
  try dsimp only
  have er : rdS τ6.s1 (jj i) = dT X 5 (jj i) := hd6
  rw [er]
  clear er
  refine t_pure ?_
  try dsimp only
  refine ld4 5 (jj i) (off89 i) ?_
  refine t_load8 (off' := ![320, 0]) rfl (by decide) ?_
  refine st8 5 rfl ?_
  refine t_load8 (off' := ![0, 0]) rfl (by decide) ?_
  refine t_load5 (off' := ![0, 0, 0]) rfl (by decide) ?_
  refine t_store5 (off' := ![0, 0, 0]) rfl ?_
  refine t_pure ⟨_, ho6.put (by omega) rfl, ?_⟩
  dsimp only
  rw [put_full, window_full]
  rfl

end Cert.Proof.Mla

end
-- ==== Proof.MlaRun.lean ====
/- The dense-attention kernel as a whole program: at every point of the grid the body leaves the three blocks it reads as
   they were and writes the block `outAt` of its result (MlaBody.lean); the pipeline's theorem takes this to the program. -/
module

public import proofs.«01_k».proof.Proof.MlaBody
public import proofs.«01_k».proof.Proof.Gen.Kernel2Ideal.Frame
public import proofs.«01_k».proof.Proof.Gen.Kernel2Ideal.Launch
public import proofs.«01_k».proof.Proof.Gen.Kernel2Ideal.Points

@[expose] public section

noncomputable section

namespace Cert.Proof.Mla

open Idealize.ShloMosaic Idealize.ShloMosaic.TcCoe Idealize.ShloMosaic.Tactic
open Idealize.SL
open Idealize.SL.RA Idealize.SL.Sem Idealize.SL.ProofMode
open Idealize.SL.BI (sProp bigSep)
open scoped Idealize.SL.BI
open Idealize.SL.BI.BIBase Idealize.SL.BI.Laws
open Idealize.ShloMosaic.Pipeline (Dat Cfg Window BodyObligation BodyObligationLoose)
open Cert.Kernel2Ideal Cert.Kernel2Ideal.Gen
open VecWindow

variable {F : FTy → Type} [FloatOps F]

/-! ## The six heads' outputs, one under the other -/

/-- Row `64 h + d` is row `d` of head `h`'s output, for the query tile `j`. -/
def otAll (X : Ins F) (j : ℕ) : Vec F S384x512 .f32 := fun y =>
  oT X ((y 0).val / 64) j (fun | ⟨0, _⟩ => ⟨(y 0).val % 64, Nat.mod_lt _ (by decide)⟩ | ⟨1, _⟩ => ⟨(y 1).val, (y 1).isLt⟩)

/-- Six heads put over the output scratch leave nothing else in it. -/
theorem Oc.eq_all {X : Ins F} {j : ℕ} {s : Vec F S384x512 .f32} (hs : Oc X j s 6) : s = otAll X j := by
  funext y
  have h0 : (y 0).val < 384 := (y 0).isLt
  have h := congrFun (hs ((y 0).val / 64) (by omega))
    (fun | ⟨0, _⟩ => ⟨(y 0).val % 64, Nat.mod_lt _ (by decide)⟩ | ⟨1, _⟩ => ⟨(y 1).val, (y 1).isLt⟩)
  refine Eq.trans ?_ h
  unfold rdO window
  congr 1
  funext a
  match a with
  | ⟨0, _⟩ =>
    refine Fin.ext ?_
    show (y 0).val = 64 * ((y 0).val / 64 % 6) + 1 * ((y 0).val % 64)
    omega
  | ⟨1, _⟩ =>
    refine Fin.ext ?_
    show (y 1).val = 0 + 1 * (y 1).val
    omega

/-! ## The proof data -/

section Data

variable (m : (ℓ : Loc nD τ sig) → Buf (Elt F) ℓ) (c : Dev nD)

/-- The three blocks the body reads at a point. -/
def insAt (t : Fin cfg0.N) : Ins F := ⟨iblk m c 0 t, iblk m c 1 t, iblk m c 2 t⟩

/-- The block of the result it writes there. -/
def outAt (t : Fin cfg0.N) : Vec F S1x512x384 .bf16 := k0_pay2 (otAll (insAt m c t) (jj (grid0.coords t)))

/-- Each input's block is left in place; the result's block is `outAt`. -/
def dat : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem idle_eq (w : Fin cfg0.W) (i : grid0.Coords) : cfg0.idle w i = false := rfl

theorem before0 (t : Fin cfg0.N) (d) : (dat m c).before 0 t d = iblk m c 0 t := before0_0_of m (dat m c) rfl (fun _ => rfl) t d
theorem before1 (t : Fin cfg0.N) (d) : (dat m c).before 1 t d = iblk m c 1 t := before0_1_of m (dat m c) rfl (fun _ => rfl) t d
theorem before2 (t : Fin cfg0.N) (d) : (dat m c).before 2 t d = iblk m c 2 t := before0_2_of m (dat m c) rfl (fun _ => rfl) t d

/-- The pipeline's body at a point is the kernel's body on that point's staging buffers. -/
theorem row (t : Fin cfg0.N) : defs₀ (F := F) .tc cfg0.body (cfg0.bodyArgs t (cfg0.slots t)) = bodyAt0 t := by
  unfold defs₀; rw [Defs.onTc_tc]

/-- The buffers the body holds at a point. -/
def memsAt (t : Fin cfg0.N) : Mems :=
  ⟨st0_0 t, hstage0_0 ((cfg0.slots t 0).cast nbuf0_0), st0_1 t, hstage0_1 ((cfg0.slots t 1).cast nbuf0_1),
    st0_2 t, hstage0_2 ((cfg0.slots t 2).cast nbuf0_2), st0_3 t, hstage0_3 ((cfg0.slots t 3).cast nbuf0_3),
    Memref.whole cc0_scratch0, Memref.isWhole_whole _, Memref.whole cc0_scratch1, Memref.isWhole_whole _,
    Memref.whole cc0_scratch2, Memref.isWhole_whole _⟩

/-- A scratch buffer at its contents. -/
theorem own_s0 (f : Vec F S4096x512 .f32) : (owns (c : Thread nD τ) (Memref.whole cc0_scratch0 : Memref sig .tc .vmem S4096x512 .f32) fullShare f : sProp (MT nD τ sig Unit (Elt F) ℕ (UR sig nD τ) ℕ))
    = (((c : Thread nD τ).loc cc0_scratch0) ↦{fullShare} f) := owns_whole (c : Thread nD τ) cc0_scratch0 fullShare f
theorem own_s1 (f : Vec F S4096x512 .f32) : (owns (c : Thread nD τ) (Memref.whole cc0_scratch1 : Memref sig .tc .vmem S4096x512 .f32) fullShare f : sProp (MT nD τ sig Unit (Elt F) ℕ (UR sig nD τ) ℕ))
    = (((c : Thread nD τ).loc cc0_scratch1) ↦{fullShare} f) := owns_whole (c : Thread nD τ) cc0_scratch1 fullShare f
theorem own_s2 (f : Vec F S384x512 .f32) : (owns (c : Thread nD τ) (Memref.whole cc0_scratch2 : Memref sig .tc .vmem S384x512 .f32) fullShare f : sProp (MT nD τ sig Unit (Elt F) ℕ (UR sig nD τ) ℕ))
    = (((c : Thread nD τ).loc cc0_scratch2) ↦{fullShare} f) := owns_whole (c : Thread nD τ) cc0_scratch2 fullShare f

theorem body_at (t : Fin cfg0.N) (σ : State F) :
    St c (memsAt t) (insAt m c t) σ ⊢ wp frame (wpE (defs₀ (F := F)) Variants.none (c : Thread nD τ) none) Set.univ (bodyAt0 t)
      (fun _ => iprop(∃ σ', ⌜σ'.out = outAt m c t⌝ ∗ St c (memsAt t) (insAt m c t) σ')) := by
  have h := body_spec (c := c) (M := memsAt t) (X := insAt m c t) (grid0.coords t) σ
  unfold T at h
  rw [show (bodyAt0 t : Prog (TpuEff nD τ sig (Elt F) Λ₀ .tc) PUnit) = cc0_mla_skel (grid0.coords t) (memsAt t).m2 (memsAt t).h2 (memsAt t).m3 (memsAt t).h3
      (memsAt t).m4 (memsAt t).h4 (memsAt t).m5 (memsAt t).h5 (memsAt t).m6 (memsAt t).h6 (memsAt t).m7 (memsAt t).h7 (memsAt t).m8 (memsAt t).h8
    from by rw [← cc0_mla_eq_skeleton]; rfl]
  refine Entails.trans h (wp_mono _ _ _ fun _ => ?_)
  iintro ⟨%σ', %hs, H⟩
  iexists σ'
  isplitr
  · ipureintro
    obtain ⟨s, hs, ho⟩ := hs
    rw [ho, hs.eq_all]
    rfl
  · iexact H

theorem body_obligation : BodyObligation (dat m c) (defs₀ (F := F)) Variants.none () Set.univ := fun t => by
  rw [bigSep_W0, bigSep_W0, row]
  rw [show (dat m c).Φ t.castSucc = Pipeline.ΦA spec0 c from rfl, show (dat m c).Φ t.succ = Pipeline.ΦA spec0 c from rfl,
    show (dat m c).owesAt () t.succ = (dat m c).owesAt () t.castSucc from rfl]
  simp only [idle_eq]
  show iprop(Pipeline.ΦA spec0 c ∗ (dat m c).owesAt () t.castSucc
      ∗ (∃ d, owns (c : Thread nD τ) (st0_0 t) fullShare ((dat m c).before 0 t d))
      ∗ (∃ d, owns (c : Thread nD τ) (st0_1 t) fullShare ((dat m c).before 1 t d))
      ∗ (∃ d, owns (c : Thread nD τ) (st0_2 t) fullShare ((dat m c).before 2 t d))
      ∗ (∃ d, owns (c : Thread nD τ) (st0_3 t) fullShare ((dat m c).before 3 t d)))
    ⊢ wp frame (wpE (defs₀ (F := F)) Variants.none c none) Set.univ (bodyAt0 t) fun _ =>
      iprop(Pipeline.ΦA spec0 c ∗ (dat m c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (outAt m c t))
  simp only [before0, before1, before2]
  unfold Pipeline.ΦA
  rw [scopedRest0_eq]
  iintro ⟨⟨⟨⟨%f0, S0⟩, ⟨%f1, S1⟩, ⟨%f2, S2⟩⟩, HP⟩, HO, ⟨%d0, H0⟩, ⟨%d1, H1⟩, ⟨%d2, H2⟩, ⟨%d3, H3⟩⟩
  have h := body_at m c t ⟨f0, f1, f2, (dat m c).before 3 t d3⟩
  unfold St memsAt insAt at h
  dsimp only at h
  simp only [own_s0, own_s1, own_s2] at h
  iapply (wp_wand_r frame (wpE (defs₀ (F := F)) Variants.none c none) Set.univ)
  isplitl [S0 S1 S2 H0 H1 H2 H3]
  · iapply h
    isplitl [H0]; · iexact H0
    isplitl [H1]; · iexact H1
    isplitl [H2]; · iexact H2
    isplitl [H3]; · iexact H3
    isplitl [S0]; · iexact S0
    isplitl [S1]; · iexact S1
    iexact S2
  · iintro %_ ⟨%σ', %ho, H0, H1, H2, H3, S0, S1, S2⟩
    rw [ho]
    isplitl [HP S0 S1 S2]
    · isplitr [HP]
      · isplitl [S0]; · iexists σ'.s0; iexact S0
        isplitl [S1]; · iexists σ'.s1; iexact S1
        iexists σ'.ot; iexact S2
      · iexact HP
    isplitl [HO]; · iexact HO
    isplitl [H0]; · iexact H0
    isplitl [H1]; · iexact H1
    isplitl [H2]; · iexact H2
    iexact H3

/-- The proof data, one for each pipeline of the program. -/
def dats (p : Fin 1) (c : Dev nD) : Dat τ (Elt F) Unit ℕ (UR sig nD τ) ℕ (cfgs p) c := match p with | ⟨0, _⟩ => dat m c

end Data

/-! ## The whole program -/

/-- Every run ends with each array at what the pipeline leaves in it, every semaphore at zero. -/
theorem run_frame (m : (ℓ : Loc nD τ sig) → Buf (Elt F) ℓ) (g : Dev nD → PrngReg) :
    θ_run (defs (F := F)) (onTc (τ := τ) (main (F := F))) ⟨m, fun _ => 0, g⟩ (fun r =>
      Pipeline.FramePost cfgs (dats m) 0 (V m) r ∧ r.2.sem = fun _ => 0) :=
  Pipeline.θ_run_frame cfgs (dats m) 0 launch0 defs₀ Variants.none m g main
    (fun c => (body_obligation m c).loose) (fun c w => (dat m c).share_full (fun _ => rfl) w) (fun _ _ => rfl) (V m) (hmain m Variants.none)
    (fun _ _ => rfl) (fun _ _ => rfl) _ (fun r h => h)

/-- Every run ends, the three argument arrays unchanged, the result array at what the pipeline leaves in it, and every
    semaphore at zero. -/
theorem run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_v15) = (dat m c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_frame m g)

end Cert.Proof.Mla

end
-- ==== Proof.MlaSame.lean ====
/- The dense-attention kernel as printed for the machine's words and as printed for the extended reals are one program: the
   run over any floats is the run of both. -/
module

public import proofs.«01_k».proof.Defs
public import proofs.«01_k».proof.Proof.Gen.Kernel2
public import proofs.«01_k».proof.Proof.MlaRun

@[expose] public section

set_option maxRecDepth 20000

noncomputable section

namespace Cert.Proof.Mla

open Idealize.ShloMosaic Idealize.SL.Sem Idealize.ShloMosaic.TcCoe

local instance : Cert.Kernel2.Facts := Cert.Kernel2.Gen.facts

/-- The two bodies; -/
theorem same_body : (Cert.Kernel2.cc0_mla (F := Bits)) = (Cert.Kernel2Ideal.cc0_mla (F := Bits)) := rfl

/-- the tables of them; -/
theorem same_bodies : (Cert.Kernel2.defs₀ (F := Bits)) = (Cert.Kernel2Ideal.defs₀ (F := Bits)) := by
  unfold Cert.Kernel2.defs₀ Cert.Kernel2Ideal.defs₀
  refine congrArg Defs.onTc ?_
  funext l a
  match l, a with
  | 0, (t, s) =>
    exact congrFun (congrFun (congrFun (congrFun (congrFun (congrFun (congrFun (congrFun (congrFun (congrFun (congrFun (congrFun (congrFun (congrFun (congrFun same_body _) _) _) _) _) _) _) _) _) _) _) _) _) _) _
  | ⟨_ + 1, h⟩, _ => exact absurd h (Nat.not_lt.2 (Nat.le_add_left _ _))

/-- and the tables with the pipeline. -/
theorem same_defs : (Cert.Kernel2.defs (F := Bits)) = (Cert.Kernel2Ideal.defs (F := Bits)) :=
  congrArg (Pipeline.defs (Cert.Kernel2Ideal.pcfgs (F := Bits))) same_bodies

/-- A post of the one's run is a post of the other's. -/
theorem run_words (m : (ℓ : Loc Cert.Kernel2.nD Cert.Kernel2.τ Cert.Kernel2.sig) → Buf (Elt Bits) ℓ) (g : Dev Cert.Kernel2.nD → PrngReg) :
    θ_run (Cert.Kernel2.defs (F := Bits)) (onTc (τ := Cert.Kernel2.τ) (Cert.Kernel2.main (F := Bits))) ⟨m, fun _ => 0, g⟩ (fun r =>
      (∀ c : Dev Cert.Kernel2.nD,
        r.2.mem ((c.tc : Thread Cert.Kernel2.nD Cert.Kernel2.τ).loc Cert.Kernel2.main_arg0) = m ((c.tc : Thread Cert.Kernel2.nD Cert.Kernel2.τ).loc Cert.Kernel2.main_arg0)
        ∧ r.2.mem ((c.tc : Thread Cert.Kernel2.nD Cert.Kernel2.τ).loc Cert.Kernel2.main_arg1) = m ((c.tc : Thread Cert.Kernel2.nD Cert.Kernel2.τ).loc Cert.Kernel2.main_arg1)
        ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0) := by
  rw [same_defs]
  exact (θ_run (Cert.Kernel2Ideal.defs (F := Bits)) _ _).mono (fun _ h => ⟨fun c => (h.1 c).2, h.2⟩) (run (F := Bits) m g)

end Cert.Proof.Mla

end
-- ==== Proof.MlaPay.lean ====
/- What the kernel's operations compute over the extended reals, read at an index. -/
module

public import proofs.«01_k».proof.Proof.MlaLoops
public import Idealize.ShloMosaic.Lib.Pointwise
public import Idealize.ShloMosaic.PureOps.Ideal.Laws

@[expose] public section

set_option maxRecDepth 16384

noncomputable section

namespace Cert.Proof.Mla

open Idealize.ShloMosaic
open Cert.Kernel2Ideal Cert.Kernel2Ideal.Gen

variable (K : Vec Ideal S1x1x512x128 .bf16) (Q : Vec Ideal S1x128x512 .bf16) (V : Vec Ideal S1x64x512 .bf16)

/-- A score is the product of a key's row and a query's column. -/
theorem pay84_apply (r x : Fin 512) :
    k0_pay84 K Q (ix2 r x) = ∑ d : Fin 128, K (ix4 0 0 r d) * Q (ix3 0 d x) := by
  pointwise [k0_pay84]

theorem pay85_apply (r x : Fin 512) : k0_pay85 K Q (ix2 r x) = k0_pay84 K Q (ix2 r x) := by
  pointwise [k0_pay85]

theorem pay90_apply (b : FVec Ideal S512x512 .f32) (r x : Fin 512) : k0_pay90 b K Q (ix2 r x) = k0_pay84 K Q (ix2 r x) + b (ix2 r x) := by
  pointwise [k0_pay90, k0_pay84]

theorem pay91_apply (b : FVec Ideal S512x512 .f32) (r x : Fin 512) : k0_pay91 b K Q (ix2 r x) = k0_pay90 b K Q (ix2 r x) := by
  pointwise [k0_pay91]

/-- The carried maximum takes in a tile's scores. -/
theorem pay86_apply (m : Vec Ideal S8x512 .f32) (a : Fin 8) (x : Fin 512) :
    k0_pay86 m K Q (ix2 a x) = max (m (ix2 a x)) (Finset.fold max (Ideal.ofBits FTy.f32 0xFF800000#32)
      (fun g : Fin 64 => k0_pay84 K Q (ix2 ⟨g.val * 8 + a.val, by omega⟩ x)) Finset.univ) := by
  pointwise [k0_pay86]

theorem pay81_apply (a : Fin 8) (x : Fin 512) : (k0_pay81 : FVec Ideal S8x512 .f32) (ix2 a x) = Ideal.ofBits FTy.f32 0xFF800000#32 := by
  pointwise [k0_pay81]

theorem pay92_apply (b : FVec Ideal S512x512 .f32) (m : Vec Ideal S8x512 .f32) (a : Fin 1) (x : Fin 512) :
    k0_pay92 b m K Q (ix2 a x) = Finset.fold max (Ideal.ofBits FTy.f32 0xFF800000#32)
      (fun y : Fin 8 => max (m (ix2 y x)) (Finset.fold max (Ideal.ofBits FTy.f32 0xFF800000#32)
            (fun g : Fin 64 => k0_pay90 b K Q (ix2 ⟨g.val * 8 + y.val, by omega⟩ x)) Finset.univ)) Finset.univ := by
  pointwise [k0_pay92]

theorem pay111_apply (m : Vec Ideal S1x512 .f32) (s : Vec Ideal S512x512 .f32) (r x : Fin 512) :
    k0_pay111 m s (ix2 r x) = FloatOps.exp2 (φ := .f32) (F := Ideal) (s (ix2 r x) - m (ix2 0 x)) := by
  pointwise [k0_pay111]

theorem pay94_apply (a : Fin 8) (x : Fin 512) : (k0_pay94 : FVec Ideal S8x512 .f32) (ix2 a x) = (0 : EReal) := by
  pointwise [k0_pay94]

theorem pay95_apply (a : Fin 64) (x : Fin 512) : (k0_pay95 : FVec Ideal S64x512 .f32) (ix2 a x) = (0 : EReal) := by
  pointwise [k0_pay95]

theorem pay112_apply (m : Vec Ideal S1x512 .f32) (l : Vec Ideal S8x512 .f32) (s : Vec Ideal S512x512 .f32) (a : Fin 8) (x : Fin 512) :
    k0_pay112 m l s (ix2 a x) = l (ix2 a x) + ∑ g : Fin 64, k0_pay111 m s (ix2 ⟨g.val * 8 + a.val, by omega⟩ x) := by
  pointwise [k0_pay112]

theorem pay113_apply (m : Vec Ideal S1x512 .f32) (o : Vec Ideal S64x512 .f32) (s : Vec Ideal S512x512 .f32) (d : Fin 64) (x : Fin 512) :
    k0_pay113 m o s V (ix2 d x) = o (ix2 d x) + ∑ r : Fin 512, V (ix3 0 d r) * k0_pay111 m s (ix2 r x) := by
  pointwise [k0_pay113]

theorem pay257_apply (m : Vec Ideal S1x512 .f32) (l : Vec Ideal S8x512 .f32) (o : Vec Ideal S64x512 .f32) (s : Vec Ideal S512x512 .f32) (d : Fin 64) (x : Fin 512) :
    k0_pay257 m l o s V (ix2 d x) = Ideal.div (o (ix2 d x) + ∑ r : Fin 512, V (ix3 0 d r) * k0_pay111 m s (ix2 r x))
      (∑ a : Fin 8, (l (ix2 a x) + ∑ g : Fin 64, k0_pay111 m s (ix2 ⟨g.val * 8 + a.val, by omega⟩ x))) := by
  pointwise [k0_pay257, k0_pay111]

theorem pay2_apply (o : Vec Ideal S384x512 .f32) (x : Fin 512) (y : Fin 384) :
    k0_pay2 o (ix3 0 x y) = o (ix2 y x) := by
  pointwise [k0_pay2]

end Cert.Proof.Mla

end
-- ==== Proof.MlaSoftmax.lean ====
/- The mathematics of the comparison, with no program in it. A softmax-weighted sum may take any real number off its
   scores: the weights' quotient by their sum does not change. So a quotient of two sums, of powers of two of scores with
   `m` taken off, is the sum of the values times the quotients of exponentials of the scores times `log 2` with `M` taken
   off. The values are any extended reals; a masked score is −∞ and its weight zero. -/
module

public import Idealize.ShloMosaic.PureOps.Ideal
public import Mathlib.Analysis.SpecialFunctions.Pow.Real
public import Mathlib.Data.EReal.Operations
public import Mathlib.Data.EReal.Inv

@[expose] public section

noncomputable section

namespace Cert.Proof.Mla

open Idealize.ShloMosaic

/-- A finite sum of reals, taken over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor at least zero goes into a sum of any extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A quotient by a real that is not zero is a product with its inverse. -/
theorem div_coe_ne (x : EReal) (c : ℝ) (hc : c ≠ 0) : Ideal.div x (c : EReal) = x * ((c⁻¹ : ℝ) : EReal) := by
  unfold Ideal.div
  rw [if_neg (by exact_mod_cast hc), EReal.coe_inv]

/-- A score's exponential with `m` taken off, zero where masked; -/
theorem exp_masked (b : Prop) [Decidable b] (r M : ℝ) :
    Ideal.exp ((if b then (r : EReal) else ⊥) - (M : EReal)) = ((if b then Real.exp (r - M) else 0 : ℝ) : EReal) := by
  split
  · rw [← EReal.coe_sub]; rfl
  · rw [EReal.bot_sub]; rfl

/-- the same of its power of two. -/
theorem exp2_masked (b : Prop) [Decidable b] (s m : ℝ) :
    Ideal.exp2 ((if b then (s : EReal) else ⊥) - (m : EReal)) = ((if b then Real.exp ((s - m) * Real.log 2) else 0 : ℝ) : EReal) := by
  split
  · rw [← EReal.coe_sub]
    show ((Real.rpow 2 (s - m) : ℝ) : EReal) = _
    rw [show Real.rpow 2 (s - m) = (2 : ℝ) ^ (s - m) from rfl, Real.rpow_def_of_pos (by norm_num), mul_comm]
  · rw [EReal.bot_sub]; rfl

/-- The two softmax-weighted sums agree. -/
theorem softmax_eq {ι : Type} [Fintype ι] (V : ι → EReal) (b : ι → Prop) [DecidablePred b] (s r : ι → ℝ)
    (hs : ∀ i, s i * Real.log 2 = r i) (m M : ℝ) (i₀ : ι) (h₀ : b i₀) :
    Ideal.div (∑ i, V i * Ideal.exp2 ((if b i then (s i : EReal) else ⊥) - (m : EReal)))
        (∑ i, Ideal.exp2 ((if b i then (s i : EReal) else ⊥) - (m : EReal)))
      = ∑ i, V i * Ideal.div (Ideal.exp ((if b i then (r i : EReal) else ⊥) - (M : EReal)))
          (∑ k, Ideal.exp ((if b k then (r k : EReal) else ⊥) - (M : EReal))) := by
  classical
  simp only [exp_masked, exp2_masked, ← coe_sum]
  set p : ι → ℝ := fun i => if b i then Real.exp ((s i - m) * Real.log 2) else 0 with hp
  set c : ℝ := Real.exp (m * Real.log 2 - M) with hc
  have hc0 : 0 < c := Real.exp_pos _
  have hp' : ∀ i, (if b i then Real.exp (r i - M) else 0) = c * p i := by
    intro i
    simp only [hp, hc]
    split
    · rw [← Real.exp_add, ← hs]; congr 1; ring
    · rw [mul_zero]
  have hp0 : ∀ i, 0 ≤ p i := fun i => by simp only [hp]; split; exact (Real.exp_pos _).le; exact le_rfl
  have hL : 0 < ∑ i, p i := by
    refine Finset.sum_pos' (fun i _ => hp0 i) ⟨i₀, Finset.mem_univ _, ?_⟩
    simp only [hp, if_pos h₀]; exact Real.exp_pos _
  simp only [hp', ← Finset.mul_sum]
  rw [div_coe_ne _ _ hL.ne', sum_mul_coe _ _ _ (inv_nonneg.mpr hL.le)]
  refine Finset.sum_congr rfl fun i _ => ?_
  rw [div_coe_ne _ _ (mul_pos hc0 hL).ne', ← EReal.coe_mul, mul_assoc, ← EReal.coe_mul]
  congr 2
  field_simp
  rfl

end Cert.Proof.Mla

end
-- ==== Proof.MlaTile.lean ====
/- What the kernel's folds over tiles compute, over the extended reals. With the queries, keys and values of one head, and one
   query of query tile `j`, the attended values are a quotient of two sums over all 4096 keys: of the values times the powers
   of two of the masked scores with the maximum taken off, and of these powers. The tiles the kernel does not visit hold only
   masked keys, whose scores are −∞ and whose powers are zero. -/
module

public import proofs.«01_k».proof.Proof.MlaPay
public import proofs.«01_k».proof.Proof.MlaSoftmax

@[expose] public section

set_option maxRecDepth 16384

noncomputable section

namespace Cert.Proof.Mla

open Idealize.ShloMosaic
open Cert.Kernel2Ideal Cert.Kernel2Ideal.Gen

theorem ofBits_negInf : Ideal.ofBits .f32 0xFF800000#32 = ⊥ := by simp [Ideal.ofBits, Ideal.ieee]

/-! ## The mask -/

/-- A position's chunk, as the kernel computes it: the quotient by 64, one less where signs differ and a remainder is left. -/
def chunk (n : BitVec 32) : BitVec 32 :=
  Scalar.select (IntOp.andi
      (IntOp.cmpi CmpIPredicate.ne
        (IntOp.subi (BitVec.setWidth 32 (IntOp.cmpi CmpIPredicate.sgt n 0#32)) (BitVec.setWidth 32 (IntOp.cmpi CmpIPredicate.slt n 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector n 64#32) 0#32))
    (IntOp.subi (IntOp.divsi ArithUnit.vector n 64#32) 1#32) (IntOp.divsi ArithUnit.vector n 64#32)

theorem chunk_eq : ∀ n : Fin 512, chunk (BitVec.ofNat 32 n.val) = BitVec.ofNat 32 (n.val / 64) := by decide +kernel

theorem sle_eq : ∀ a b : Fin 8, IntOp.cmpi CmpIPredicate.sle (BitVec.ofNat 32 a.val) (BitVec.ofNat 32 b.val) = if a.val ≤ b.val then 1#1 else 0#1 := by
  decide +kernel

/-- The diagonal tile's bias: nothing where the key's chunk is no later than the query's, −∞ elsewhere. -/
theorem bias_apply (r x : Fin 512) : (biasT : FVec Ideal S512x512 .f32) (ix2 r x) = if r.val / 64 ≤ x.val / 64 then (0 : EReal) else ⊥ := by
  pointwise [biasT, k0_pay80, k0_pay75, k0_pay76, k0_pay77, k0_pay78, k0_pay79]
  show Scalar.select (IntOp.cmpi CmpIPredicate.sle (chunk (BitVec.ofNat 32 r.val)) (chunk (BitVec.ofNat 32 x.val))) (0 : EReal) _ = _
  rw [chunk_eq, chunk_eq, sle_eq ⟨r.val / 64, by omega⟩ ⟨x.val / 64, by omega⟩, ofBits_negInf]
  by_cases h : r.val / 64 ≤ x.val / 64
  · rw [if_pos h, if_pos h]; rfl
  · rw [if_neg h, if_neg h]; rfl

/-! ## Scores, values and weights by key -/

section Keys

variable (X : Ins Ideal) (h j : ℕ) (x : Fin 512)

/-- Head `h`'s score of key `κ`; -/
def score (κ : ℕ) : EReal := k0_pay84 (X.kblk h (κ / 512)) (X.qblk h) (ix2 ⟨κ % 512, Nat.mod_lt _ (by decide)⟩ x)
/-- the same masked; -/
def scM (κ : ℕ) : EReal := if κ / 64 ≤ (512 * j + x.val) / 64 then score X h x κ else ⊥
/-- its value's entry `d`; -/
def valN (d : Fin 64) (κ : ℕ) : EReal := X.vblk h (κ / 512) (ix3 0 d ⟨κ % 512, Nat.mod_lt _ (by decide)⟩)
/-- its weight, `μ` taken off the score. -/
def wt (μ : EReal) (κ : ℕ) : EReal := Ideal.exp2 (scM X h j x κ - μ)

theorem score_tile (t : ℕ) (r : Fin 512) : score X h x (512 * t + r.val) = k0_pay84 (X.kblk h t) (X.qblk h) (ix2 r x) := by
  have h1 : (512 * t + r.val) / 512 = t := by omega
  have h2 : (512 * t + r.val) % 512 = r.val := by omega
  unfold score
  simp only [h1, h2]

theorem valN_tile (d : Fin 64) (t : ℕ) (r : Fin 512) : valN X h d (512 * t + r.val) = X.vblk h t (ix3 0 d r) := by
  have h1 : (512 * t + r.val) / 512 = t := by omega
  have h2 : (512 * t + r.val) % 512 = r.val := by omega
  unfold valN
  simp only [h1, h2]

theorem sT_apply (t : ℕ) (ht : t < j) (r : Fin 512) : sT X h t (ix2 r x) = scM X h j x (512 * t + r.val) := by
  unfold sT scM
  rw [pay85_apply, if_pos (by omega), score_tile]

theorem dT_apply (r : Fin 512) : dT X h j (ix2 r x) = scM X h j x (512 * j + r.val) := by
  unfold dT scM
  rw [pay91_apply, pay90_apply, bias_apply, score_tile]
  by_cases hc : r.val / 64 ≤ x.val / 64
  · rw [if_pos hc, if_pos (by omega), add_zero]
  · rw [if_neg hc, if_neg (by omega), EReal.add_bot]

theorem wt_masked (μ : EReal) (κ : ℕ) (hk : 512 * (j + 1) ≤ κ) : wt X h j x μ κ = 0 := by
  unfold wt scM
  rw [if_neg (by omega), EReal.bot_sub]
  rfl

/-! ## The folds -/

variable (m : FVec Ideal S1x512 .f32)

theorem pay111_sT (t : ℕ) (ht : t < j) (r : Fin 512) : k0_pay111 m (sT X h t) (ix2 r x) = wt X h j x (m (ix2 0 x)) (512 * t + r.val) := by
  rw [pay111_apply, sT_apply X h j x t ht]; rfl

theorem pay111_dT (r : Fin 512) : k0_pay111 m (dT X h j) (ix2 r x) = wt X h j x (m (ix2 0 x)) (512 * j + r.val) := by
  rw [pay111_apply, dT_apply]; rfl

theorem sum_rows (f : ℕ → EReal) (a t : ℕ) :
    (∑ g ∈ Finset.range (64 * t), f (8 * g + a)) + ∑ g : Fin 64, f (512 * t + (g.val * 8 + a)) = ∑ g ∈ Finset.range (64 * (t + 1)), f (8 * g + a) := by
  rw [show 64 * (t + 1) = 64 * t + 64 by ring, Finset.sum_range_add, Finset.sum_range (n := 64)]
  congr 1
  refine Finset.sum_congr rfl fun g _ => ?_
  congr 1; ring

theorem sum_tile (f : ℕ → EReal) (t : ℕ) :
    (∑ κ ∈ Finset.range (512 * t), f κ) + ∑ r : Fin 512, f (512 * t + r.val) = ∑ κ ∈ Finset.range (512 * (t + 1)), f κ := by
  rw [show 512 * (t + 1) = 512 * t + 512 by ring, Finset.sum_range_add, Finset.sum_range (n := 512)]

/-- The eight interleaved rows' sums together are the sum over all. -/
theorem sum_eight (f : ℕ → EReal) (n : ℕ) : ∑ a : Fin 8, ∑ g ∈ Finset.range n, f (8 * g + a.val) = ∑ κ ∈ Finset.range (8 * n), f κ := by
  induction n with
  | zero => simp
  | succ n ih =>
    rw [show 8 * (n + 1) = 8 * n + 8 by ring, Finset.sum_range_add, ← ih, Finset.sum_range (n := 8), ← Finset.sum_add_distrib]
    exact Finset.sum_congr rfl fun a _ => Finset.sum_range_succ _ _

theorem lF_apply (a : Fin 8) : ∀ n ≤ j, lF X m h n (ix2 a x) = ∑ g ∈ Finset.range (64 * n), wt X h j x (m (ix2 0 x)) (8 * g + a.val)
  | 0, _ => by rw [show lF X m h 0 = k0_pay94 from rfl, pay94_apply]; rfl
  | n + 1, hn => by
    rw [show lF X m h (n + 1) = k0_pay112 m (lF X m h n) (sT X h n) from rfl, pay112_apply, lF_apply a n (by omega), ← sum_rows]
    congr 1
    exact Finset.sum_congr rfl fun g _ => pay111_sT X h j x m n (by omega) _

theorem aF_apply (d : Fin 64) : ∀ n ≤ j, aF X m h n (ix2 d x) = ∑ κ ∈ Finset.range (512 * n), valN X h d κ * wt X h j x (m (ix2 0 x)) κ
  | 0, _ => by rw [show aF X m h 0 = k0_pay95 from rfl, pay95_apply]; rfl
  | n + 1, hn => by
    rw [show aF X m h (n + 1) = k0_pay113 m (aF X m h n) (sT X h n) (X.vblk h n) from rfl, pay113_apply, aF_apply d n (by omega), ← sum_tile]
    congr 1
    exact Finset.sum_congr rfl fun r _ => by rw [pay111_sT X h j x m n (by omega), valN_tile]

/-- Sums over the visited keys are sums over all keys. -/
theorem sum_all (f : ℕ → EReal) (hj : j < 8) (hf : ∀ κ, 512 * (j + 1) ≤ κ → f κ = 0) :
    ∑ κ ∈ Finset.range (512 * (j + 1)), f κ = ∑ κ : Fin 4096, f κ.val := by
  rw [← Finset.sum_range]
  refine Finset.sum_subset (fun κ hk => ?_) (fun κ _ hk => hf κ ?_)
  · rw [Finset.mem_range] at hk ⊢; omega
  · rw [Finset.mem_range] at hk; omega

/-- The attended values as one quotient of sums over all the keys. -/
theorem oT_apply (d : Fin 64) (hj : j < 8) : oT X h j (ix2 d x)
    = Ideal.div (∑ κ : Fin 4096, valN X h d κ.val * wt X h j x (mR X h j (ix2 0 x)) κ.val) (∑ κ : Fin 4096, wt X h j x (mR X h j (ix2 0 x)) κ.val) := by
  unfold oT
  rw [pay257_apply, aF_apply X h j x _ d j le_rfl]
  rw [← sum_all j (fun κ => valN X h d κ * wt X h j x (mR X h j (ix2 0 x)) κ) hj (fun κ hk => by rw [wt_masked X h j x _ κ hk, mul_zero]),
    ← sum_all j (fun κ => wt X h j x (mR X h j (ix2 0 x)) κ) hj (fun κ hk => wt_masked X h j x _ κ hk), ← sum_tile,
    show 512 * (j + 1) = 8 * (64 * (j + 1)) by ring, ← sum_eight]
  congr 1
  · congr 1
    exact Finset.sum_congr rfl fun r _ => by rw [pay111_dT, valN_tile]
  · refine Finset.sum_congr rfl fun a _ => ?_
    rw [lF_apply X h j x _ a j le_rfl, ← sum_rows]
    congr 1
    exact Finset.sum_congr rfl fun g _ => pay111_dT X h j x _ _

/-! ## The maximum -/

theorem mF_lt_top (hs : ∀ κ, κ < 4096 → score X h x κ < ⊤) (a : Fin 8) : ∀ n ≤ 8, mF X h n (ix2 a x) < ⊤
  | 0, _ => by rw [show mF X h 0 = k0_pay81 from rfl, pay81_apply, ofBits_negInf]; exact bot_lt_top
  | n + 1, hn => by
    rw [show mF X h (n + 1) = k0_pay86 (mF X h n) (X.kblk h n) (X.qblk h) from rfl, pay86_apply, ofBits_negInf]
    refine max_lt (mF_lt_top hs a n (by omega)) ((Finset.fold_max_lt _).mpr ⟨bot_lt_top, fun g _ => ?_⟩)
    rw [← score_tile]
    exact hs _ (by show 512 * n + (g.val * 8 + a.val) < 4096; omega)

theorem mR_lt_top (hj : j < 8) (hs : ∀ κ, κ < 4096 → score X h x κ < ⊤) : mR X h j (ix2 0 x) < ⊤ := by
  unfold mR
  rw [pay92_apply, ofBits_negInf]
  refine (Finset.fold_max_lt _).mpr ⟨bot_lt_top, fun y _ => max_lt (mF_lt_top X h x hs y j (by omega)) ((Finset.fold_max_lt _).mpr ⟨bot_lt_top, fun g _ => ?_⟩)⟩
  rw [pay90_apply, bias_apply, ← score_tile]
  refine EReal.add_lt_top (hs _ (by show 512 * j + (g.val * 8 + y.val) < 4096; omega)).ne ?_
  split
  · exact EReal.zero_ne_top
  · exact bot_ne_top

theorem mR_gt_bot (hj : j < 8) (hs : ∀ κ, κ < 4096 → ⊥ < score X h x κ) : ⊥ < mR X h j (ix2 0 x) := by
  unfold mR
  rw [pay92_apply, ofBits_negInf]
  refine (Finset.lt_fold_max _).mpr (Or.inr ⟨⟨x.val % 8, by omega⟩, Finset.mem_univ _, lt_max_of_lt_right
    ((Finset.lt_fold_max _).mpr (Or.inr ⟨⟨x.val / 8, by omega⟩, Finset.mem_univ _, ?_⟩))⟩)
  have e : (⟨x.val / 8 * 8 + x.val % 8, by omega⟩ : Fin 512) = x := Fin.ext (by show x.val / 8 * 8 + x.val % 8 = x.val; omega)
  show ⊥ < k0_pay90 biasT (X.kblk h j) (X.qblk h) (ix2 (⟨x.val / 8 * 8 + x.val % 8, by omega⟩ : Fin 512) x)
  rw [e, pay90_apply, bias_apply, ← score_tile, if_pos le_rfl, add_zero]
  exact hs _ (by omega)

end Keys

end Cert.Proof.Mla

end
-- ==== Proof.MlaHost.lean ====
/- The arrays the kernel's launch finds: the queries scaled, padded and laid out with their heads along the rows, the keys
   padded, the values laid out likewise; read at an index, over the extended reals. -/
module

public import proofs.«01_k».proof.Proof.MlaTile
public import proofs.«01_k».proof.Proof.MlaRun
public import Idealize.ShloMosaic.Lib.IdealHost
public import Idealize.ShloMosaic.Lib.StableHlo.Run
public import Idealize.ShloMosaic.Lib.Tactic.CleanTypes

@[expose] public section

set_option maxRecDepth 16384

noncomputable section

namespace Cert.Proof.Mla

open Idealize.ShloMosaic Idealize.ShloMosaic.TcCoe Idealize.ShloMosaic.StableHlo
open Cert.Kernel2Ideal Cert.Kernel2Ideal.Gen

/-! ## Which block each point reads and writes -/

theorem index0 : ∀ t : Fin grid0.N, win0_0.index t 0 = t.val / 8 ∧ win0_0.index t 1 = 0 ∧ win0_0.index t 2 = t.val % 8 := by
  decide +kernel
theorem index1 : ∀ t : Fin grid0.N, win0_1.index t 0 = t.val / 8 ∧ win0_1.index t 1 = 0 ∧ win0_1.index t 2 = 0 ∧ win0_1.index t 3 = 0 := by
  decide +kernel
theorem index2 : ∀ t : Fin grid0.N, win0_2.index t 0 = t.val / 8 ∧ win0_2.index t 1 = 0 ∧ win0_2.index t 2 = 0 := by
  decide +kernel
theorem index3 : ∀ t : Fin grid0.N, win0_3.index t 0 = t.val / 8 ∧ win0_3.index t 1 = t.val % 8 ∧ win0_3.index t 2 = 0 := by
  decide +kernel
theorem jj_at : ∀ t : Fin cfg0.N, jj (grid0.coords t) = t.val % 8 := by
  decide +kernel

section Arrays

variable (m : (ℓ : Loc nD τ sig) → Buf (Elt Ideal) ℓ) (c : Dev nD)

/-- The three arguments. -/
abbrev argQ : FVec Ideal S16x4096x6x96 .f32 := m ((c : Thread nD τ).loc main_arg0)
abbrev argK : FVec Ideal S16x4096x6x96 .f32 := m ((c : Thread nD τ).loc main_arg1)
abbrev argV : FVec Ideal S16x4096x6x64 .f32 := m ((c : Thread nD τ).loc main_arg2)

/-- The scale of the scores, the reference's over `log 2`. -/
abbrev scaleK : EReal := Ideal.div (Ideal.ofBits .f32 0x3DD105EC#32) (Ideal.log (Ideal.ofBits .f32 0x40000000#32))

def v8 : FVec Ideal S16x768x4096 .bf16 := truncf .bf16 (shapeCast S16x768x4096 (transpose S16x6x128x4096 [0, 2, 3, 1]
    (pad S16x4096x6x128 ![0, 0, 0, 0] ![0, 0, 0, 32] ![0, 0, 0, 0] (mulf (argQ m c) (broadcastInDim S16x4096x6x96 ![] bcast_S_S16x4096x6x96
      (id (Host.divf (constant S_ .f32 0x3DD105EC#32) (Host.log (constant S_ .f32 0x40000000#32)))))) (sitofp .f32 (constantI S_ 32 0#32))
      pads_S16x4096x6x96_S16x4096x6x128_000_000_000_0320 h_S_) transposes_S16x4096x6x128_S16x6x128x4096_0_2_3_1)
    shapeCasts_S16x6x128x4096_S16x768x4096) bitsLt_bf16_f32

def v11 : FVec Ideal S16x6x4096x128 .bf16 := truncf .bf16 (transpose S16x6x4096x128 [0, 2, 1, 3]
    (pad S16x4096x6x128 ![0, 0, 0, 0] ![0, 0, 0, 32] ![0, 0, 0, 0] (argK m c) (sitofp .f32 (constantI S_ 32 0#32))
      pads_S16x4096x6x96_S16x4096x6x128_000_000_000_0320 h_S_) transposes_S16x4096x6x128_S16x6x4096x128_0_2_1_3) bitsLt_bf16_f32

def v14 : FVec Ideal S16x384x4096 .bf16 := truncf .bf16 (shapeCast S16x384x4096 (transpose S16x6x64x4096 [0, 2, 3, 1] (argV m c)
    transposes_S16x4096x6x64_S16x6x64x4096_0_2_3_1) shapeCasts_S16x6x64x4096_S16x384x4096) bitsLt_bf16_f32

set_option maxHeartbeats 2000000 in
theorem V_v8 : V m c main_v8 = v8 m c := by
  show StableHlo.after (List.flatten [hostOps0, hostOps0_1, hostOps0_2, hostOps0_3, hostOps0_4]) (fun b => m (c, b)) _ = _
  simp only [hostOps0, hostOps0_1, hostOps0_2, hostOps0_3, hostOps0_4, TRef.binary, TRef.nullary, TRef.ternary, TRef.unary, TRef.toBuf, TRef.ofBuf, cast_eq, List.flatten_cons, List.flatten_nil, List.append_nil, List.cons_append, List.nil_append]
  after_results_simp <;> rfl

set_option maxHeartbeats 2000000 in
theorem V_v11 : V m c main_v11 = v11 m c := by
  show StableHlo.after (List.flatten [hostOps0, hostOps0_1, hostOps0_2, hostOps0_3, hostOps0_4]) (fun b => m (c, b)) _ = _
  simp only [hostOps0, hostOps0_1, hostOps0_2, hostOps0_3, hostOps0_4, TRef.binary, TRef.nullary, TRef.ternary, TRef.unary, TRef.toBuf, TRef.ofBuf, cast_eq, List.flatten_cons, List.flatten_nil, List.append_nil, List.cons_append, List.nil_append]
  after_results_simp <;> rfl

set_option maxHeartbeats 2000000 in
theorem V_v14 : V m c main_v14 = v14 m c := by
  show StableHlo.after (List.flatten [hostOps0, hostOps0_1, hostOps0_2, hostOps0_3, hostOps0_4]) (fun b => m (c, b)) _ = _
  simp only [hostOps0, hostOps0_1, hostOps0_2, hostOps0_3, hostOps0_4, TRef.binary, TRef.nullary, TRef.ternary, TRef.unary, TRef.toBuf, TRef.ofBuf, cast_eq, List.flatten_cons, List.flatten_nil, List.append_nil, List.cons_append, List.nil_append]
  after_results_simp <;> rfl

theorem sitofp_zero_word : (FloatOps.sitofp .f32 (0#32) : Ideal .f32) = 0 := by
  show ((((0#32 : BitVec 32).toInt : ℤ) : ℝ) : EReal) = 0
  simp

theorem v8_apply (b : Fin 16) (p : Fin 768) (i : Fin 4096) : v8 m c (ix3 b p i)
    = if h : p.val % 128 < 96 then argQ m c (ix4 b i ⟨p.val / 128, by omega⟩ ⟨p.val % 128, h⟩) * scaleK else 0 := by
  pointwise [v8]
  split_ifs with h1 h2 h2
  · rfl
  · exact absurd h1.2 h2
  · exact absurd ⟨by omega, h2⟩ h1
  · exact sitofp_zero_word

theorem v11_apply (b : Fin 16) (h : Fin 6) (i : Fin 4096) (d : Fin 128) : v11 m c (ix4 b h i d)
    = if hd : d.val < 96 then argK m c (ix4 b i h ⟨d.val, hd⟩) else 0 := by
  pointwise [v11]
  split_ifs with h1
  · rfl
  · exact sitofp_zero_word

theorem v14_apply (b : Fin 16) (p : Fin 384) (i : Fin 4096) : v14 m c (ix3 b p i)
    = argV m c (ix4 b i ⟨p.val / 64, by omega⟩ ⟨p.val % 64, by omega⟩) := by
  pointwise [v14]

end Arrays

end Cert.Proof.Mla

end
-- ==== Proof.MlaArray.lean ====
/- The kernel's result array at an index, by the blocks its grid points write, and the blocks each point reads, as entries of
   the arrays the launch finds. -/
module

public import proofs.«01_k».proof.Proof.MlaHost

@[expose] public section

set_option maxRecDepth 16384

noncomputable section

namespace Cert.Proof.Mla

open Idealize.ShloMosaic Idealize.ShloMosaic.TcCoe Idealize.ShloMosaic.StableHlo
open Idealize.ShloMosaic.Pipeline (Dat Cfg Window)
open Cert.Kernel2Ideal Cert.Kernel2Ideal.Gen
open VecWindow

theorem N_eq : cfg0.N = 128 := by decide +kernel

/-- The grid point of batch row `b` and query tile `j`. -/
def pt (b : Fin 16) (j : Fin 8) : Fin cfg0.N := ⟨8 * b.val + j.val, by rw [N_eq]; omega⟩

/-! ## Where a point's blocks lie -/

theorem emb0_val (t : Fin grid0.N) (y : S1x768x512.Idx) :
    ((win0_0.rect t).emb y 0).val = t.val / 8 ∧ ((win0_0.rect t).emb y 1).val = (y 1).val ∧ ((win0_0.rect t).emb y 2).val = 512 * (t.val % 8) + (y 2).val := by
  have hi := index0 t
  have h0 : (y 0).val < 1 := (y 0).isLt
  refine ⟨?_, ?_, ?_⟩
  · refine (Window.rect_emb_val win0_0 t y 0).trans ?_
    show win0_0.index t 0 * 1 + (y 0).val = _
    rw [hi.1]; omega
  · refine (Window.rect_emb_val win0_0 t y 1).trans ?_
    show win0_0.index t 1 * 768 + (y 1).val = _
    rw [hi.2.1]; omega
  · refine (Window.rect_emb_val win0_0 t y 2).trans ?_
    show win0_0.index t 2 * 512 + (y 2).val = _
    rw [hi.2.2]; omega

theorem emb1_val (t : Fin grid0.N) (y : S1x6x4096x128.Idx) :
    ((win0_1.rect t).emb y 0).val = t.val / 8 ∧ ((win0_1.rect t).emb y 1).val = (y 1).val ∧ ((win0_1.rect t).emb y 2).val = (y 2).val ∧ ((win0_1.rect t).emb y 3).val = (y 3).val := by
  have hi := index1 t
  have h0 : (y 0).val < 1 := (y 0).isLt
  refine ⟨?_, ?_, ?_, ?_⟩
  · refine (Window.rect_emb_val win0_1 t y 0).trans ?_
    show win0_1.index t 0 * 1 + (y 0).val = _
    rw [hi.1]; omega
  · refine (Window.rect_emb_val win0_1 t y 1).trans ?_
    show win0_1.index t 1 * 6 + (y 1).val = _
    rw [hi.2.1]; omega
  · refine (Window.rect_emb_val win0_1 t y 2).trans ?_
    show win0_1.index t 2 * 4096 + (y 2).val = _
    rw [hi.2.2.1]; omega
  · refine (Window.rect_emb_val win0_1 t y 3).trans ?_
    show win0_1.index t 3 * 128 + (y 3).val = _
    rw [hi.2.2.2]; omega

theorem emb2_val (t : Fin grid0.N) (y : S1x384x4096.Idx) :
    ((win0_2.rect t).emb y 0).val = t.val / 8 ∧ ((win0_2.rect t).emb y 1).val = (y 1).val ∧ ((win0_2.rect t).emb y 2).val = (y 2).val := by
  have hi := index2 t
  have h0 : (y 0).val < 1 := (y 0).isLt
  refine ⟨?_, ?_, ?_⟩
  · refine (Window.rect_emb_val win0_2 t y 0).trans ?_
    show win0_2.index t 0 * 1 + (y 0).val = _
    rw [hi.1]; omega
  · refine (Window.rect_emb_val win0_2 t y 1).trans ?_
    show win0_2.index t 1 * 384 + (y 1).val = _
    rw [hi.2.1]; omega
  · refine (Window.rect_emb_val win0_2 t y 2).trans ?_
    show win0_2.index t 2 * 4096 + (y 2).val = _
    rw [hi.2.2]; omega

theorem emb3_val (t : Fin grid0.N) (y : S1x512x384.Idx) :
    ((win0_3.rect t).emb y 0).val = t.val / 8 ∧ ((win0_3.rect t).emb y 1).val = 512 * (t.val % 8) + (y 1).val ∧ ((win0_3.rect t).emb y 2).val = (y 2).val := by
  have hi := index3 t
  have h0 : (y 0).val < 1 := (y 0).isLt
  refine ⟨?_, ?_, ?_⟩
  · refine (Window.rect_emb_val win0_3 t y 0).trans ?_
    show win0_3.index t 0 * 1 + (y 0).val = _
    rw [hi.1]; omega
  · refine (Window.rect_emb_val win0_3 t y 1).trans ?_
    show win0_3.index t 1 * 512 + (y 1).val = _
    rw [hi.2.1]; omega
  · refine (Window.rect_emb_val win0_3 t y 2).trans ?_
    show win0_3.index t 2 * 384 + (y 2).val = _
    rw [hi.2.2]; omega

theorem pt_div (b : Fin 16) (j : Fin 8) : (pt b j).val / 8 = b.val := by show (8 * b.val + j.val) / 8 = b.val; omega
theorem pt_mod (b : Fin 16) (j : Fin 8) : (pt b j).val % 8 = j.val := by show (8 * b.val + j.val) % 8 = j.val; omega

section Arrays

variable (m : (ℓ : Loc nD τ sig) → Buf (Elt Ideal) ℓ) (c : Dev nD)

/-! ## The blocks read -/

theorem read0 (G : (b : Ref sig .tc) → Buf (Elt Ideal) ((c : Thread nD τ).loc b)) (t : Fin cfg0.N) (y : S1x768x512.Idx) :
    ((cfg0.win 0).blk t).view.read (Elt Ideal) (G (Pipeline.arrRef spec0 0)) y = G main_v8 ((win0_0.rect t).emb y) := rfl

theorem iblk0_read (t : Fin cfg0.N) (y : S1x768x512.Idx) : (insAt m c t).q y = V m c main_v8 ((win0_0.rect t).emb y) := read0 c (V m c) t y

theorem iblk0_apply (b : Fin 16) (j : Fin 8) (p : Fin 768) (x : Fin 512) (i : Fin 4096) (hi : i.val = 512 * j.val + x.val) :
    (insAt m c (pt b j)).q (ix3 0 p x) = v8 m c (ix3 b p i) := by
  obtain ⟨h0, h1, h2⟩ := emb0_val (pt b j) (ix3 0 p x)
  rw [pt_div] at h0
  rw [pt_mod] at h2
  have h2' := h2.trans hi.symm
  clear h2 hi
  refine (iblk0_read m c (pt b j) (ix3 0 p x)).trans ?_
  refine (congrFun (V_v8 m c) _).trans ?_
  refine congrArg (v8 m c) (funext fun a => Fin.ext ?_)
  match a with
  | ⟨0, _⟩ => exact h0
  | ⟨1, _⟩ => exact h1
  | ⟨2, _⟩ => exact h2'

theorem iblk1_apply (b : Fin 16) (j : Fin 8) (h : Fin 6) (κ : Fin 4096) (d : Fin 128) :
    (insAt m c (pt b j)).k (ix4 0 h κ d) = v11 m c (ix4 b h κ d) := by
  obtain ⟨h0, h1, h2, h3⟩ := emb1_val (pt b j) (ix4 0 h κ d)
  rw [pt_div] at h0
  show (V m c main_v11) ((win0_1.rect (pt b j)).emb (ix4 0 h κ d : S1x6x4096x128.Idx)) = _
  rw [V_v11]
  refine congrArg (v11 m c) (funext fun a => Fin.ext ?_)
  match a with
  | ⟨0, _⟩ => exact h0
  | ⟨1, _⟩ => exact h1
  | ⟨2, _⟩ => exact h2
  | ⟨3, _⟩ => exact h3

theorem iblk2_apply (b : Fin 16) (j : Fin 8) (p : Fin 384) (κ : Fin 4096) :
    (insAt m c (pt b j)).v (ix3 0 p κ) = v14 m c (ix3 b p κ) := by
  obtain ⟨h0, h1, h2⟩ := emb2_val (pt b j) (ix3 0 p κ)
  rw [pt_div] at h0
  show (V m c main_v14) ((win0_2.rect (pt b j)).emb (ix3 0 p κ : S1x384x4096.Idx)) = _
  rw [V_v14]
  refine congrArg (v14 m c) (funext fun a => Fin.ext ?_)
  match a with
  | ⟨0, _⟩ => exact h0
  | ⟨1, _⟩ => exact h1
  | ⟨2, _⟩ => exact h2

/-! ## A head's loads of them -/

variable (X : Ins Ideal)

theorem qblk_apply (h : Fin 6) (d : Fin 128) (x : Fin 512) : X.qblk h.val (ix3 0 d x) = X.q (ix3 0 ⟨128 * h.val + d.val, by omega⟩ x) := by
  unfold Ins.qblk window
  congr 1
  funext a
  refine Fin.ext ?_
  match a with
  | ⟨0, _⟩ => rfl
  | ⟨1, _⟩ => show 128 * (h.val % 6) + 1 * d.val = 128 * h.val + d.val; omega
  | ⟨2, _⟩ => show 0 + 1 * x.val = x.val; omega

theorem kblk_apply (h : Fin 6) (κ : Fin 4096) (d : Fin 128) :
    X.kblk h.val (κ.val / 512) (ix4 0 0 ⟨κ.val % 512, Nat.mod_lt _ (by decide)⟩ d) = X.k (ix4 0 h κ d) := by
  unfold Ins.kblk window
  congr 1
  funext a
  refine Fin.ext ?_
  match a with
  | ⟨0, _⟩ => rfl
  | ⟨1, _⟩ => show h.val % 6 + 1 * 0 = h.val; omega
  | ⟨2, _⟩ => show 512 * (κ.val / 512 % 8) + 1 * (κ.val % 512) = κ.val; omega
  | ⟨3, _⟩ => show 0 + 1 * d.val = d.val; omega

theorem vblk_apply (h : Fin 6) (d : Fin 64) (κ : Fin 4096) :
    X.vblk h.val (κ.val / 512) (ix3 0 d ⟨κ.val % 512, Nat.mod_lt _ (by decide)⟩) = X.v (ix3 0 ⟨64 * h.val + d.val, by omega⟩ κ) := by
  unfold Ins.vblk window
  congr 1
  funext a
  refine Fin.ext ?_
  match a with
  | ⟨0, _⟩ => rfl
  | ⟨1, _⟩ => show 64 * (h.val % 6) + 1 * d.val = 64 * h.val + d.val; omega
  | ⟨2, _⟩ => show 512 * (κ.val / 512 % 8) + 1 * (κ.val % 512) = κ.val; omega

/-! ## Scores and values of the arguments -/

/-- The product of a scaled query with a key. -/
theorem score_apply (b : Fin 16) (j : Fin 8) (h : Fin 6) (x : Fin 512) (κ : Fin 4096) :
    score (insAt m c (pt b j)) h.val x κ.val
      = ∑ d : Fin 96, argK m c (ix4 b κ h d) * (argQ m c (ix4 b ⟨512 * j.val + x.val, by omega⟩ h d) * scaleK) := by
  unfold score
  rw [pay84_apply]
  refine (Fin.sum_univ_add (a := 96) (b := 32) _).trans ?_
  rw [Finset.sum_eq_zero (s := (Finset.univ : Finset (Fin 32))), add_zero]
  · refine Finset.sum_congr rfl fun d _ => ?_
    rw [kblk_apply, qblk_apply, iblk0_apply m c b j _ x ⟨512 * j.val + x.val, by omega⟩ rfl, iblk1_apply, v8_apply, v11_apply, dif_pos (show (Fin.castAdd 32 d).val < 96 from d.isLt),
      dif_pos (show (128 * h.val + (Fin.castAdd 32 d).val) % 128 < 96 by have : (Fin.castAdd 32 d).val = d.val := rfl; have := d.isLt; omega)]
    have e1 : (⟨(128 * h.val + (Fin.castAdd 32 d).val) / 128, by have : (Fin.castAdd 32 d).val = d.val := rfl; have := d.isLt; omega⟩ : Fin 6) = h :=
      Fin.ext (by show (128 * h.val + d.val) / 128 = h.val; have := d.isLt; omega)
    have e2 : (⟨(128 * h.val + (Fin.castAdd 32 d).val) % 128, by have : (Fin.castAdd 32 d).val = d.val := rfl; have := d.isLt; omega⟩ : Fin 96) = d :=
      Fin.ext (by show (128 * h.val + d.val) % 128 = d.val; have := d.isLt; omega)
    rw [e1, e2]
    rfl
  · intro d _
    rw [kblk_apply, iblk1_apply, v11_apply, dif_neg (show ¬ (Fin.natAdd 96 d).val < 96 by have : (Fin.natAdd 96 d).val = 96 + d.val := rfl; omega), zero_mul]

theorem valN_apply (b : Fin 16) (j : Fin 8) (h : Fin 6) (d : Fin 64) (κ : Fin 4096) :
    valN (insAt m c (pt b j)) h.val d κ.val = argV m c (ix4 b κ h d) := by
  unfold valN
  rw [vblk_apply, iblk2_apply, v14_apply]
  congr 1
  have e1 : (⟨(64 * h.val + d.val) / 64, by omega⟩ : Fin 6) = h := Fin.ext (by show (64 * h.val + d.val) / 64 = h.val; omega)
  have e2 : (⟨(64 * h.val + d.val) % 64, by omega⟩ : Fin 64) = d := Fin.ext (by show (64 * h.val + d.val) % 64 = d.val; omega)
  rw [e1, e2]

/-! ## The result array -/

/-- Entry by entry, the head's output at the point of its batch row and query tile. -/
def outVal (b : Fin 16) (i : Fin 4096) (p : Fin 384) : EReal :=
  oT (insAt m c (pt b ⟨i.val / 512, by omega⟩)) (p.val / 64) (i.val / 512)
    (ix2 ⟨p.val % 64, Nat.mod_lt _ (by decide)⟩ ⟨i.val % 512, Nat.mod_lt _ (by decide)⟩)

def outArr : FVec Ideal S16x4096x384 .bf16 := fun i => outVal m c (i 0) (i 1) (i 2)

theorem pt_of (t : Fin cfg0.N) (u : Fin 16) (v : Fin 8) (hu : u.val = t.val / 8) (hv : v.val = t.val % 8) : pt u v = t :=
  Fin.ext (by show 8 * u.val + v.val = t.val; omega)

theorem outVal_of (t : Fin cfg0.N) (b : Fin 16) (i : Fin 4096) (p : Fin 384) (x : Fin 512) (q : Fin 384) (h0 : b.val = t.val / 8)
    (h1 : i.val = 512 * (t.val % 8) + x.val) (h2 : p.val = q.val) :
    outVal m c b i p = oT (insAt m c t) (q.val / 64) (t.val % 8) (ix2 ⟨q.val % 64, Nat.mod_lt _ (by decide)⟩ x) := by
  obtain rfl := Fin.ext h2
  have e1 : i.val / 512 = t.val % 8 := by omega
  have e2 : (⟨i.val % 512, Nat.mod_lt _ (by decide)⟩ : Fin 512) = x := Fin.ext (by show i.val % 512 = x.val; omega)
  unfold outVal
  rw [pt_of t _ _ h0 e1, e1, e2]

theorem outAt_apply (t : Fin cfg0.N) (x : Fin 512) (p : Fin 384) : outAt m c t (ix3 0 x p)
    = oT (insAt m c t) (p.val / 64) (t.val % 8) (ix2 ⟨p.val % 64, Nat.mod_lt _ (by decide)⟩ x) := by
  unfold outAt
  rw [pay2_apply, jj_at]
  unfold otAll
  congr 1
  funext a
  match a with
  | ⟨0, _⟩ => rfl
  | ⟨1, _⟩ => rfl

theorem flushed_eq (t : Fin cfg0.N) : (dat m c).flushed 3 t = ((cfg0.win 3).blk t).view.read (Elt Ideal) (outArr m c) := by
  funext y
  have ht : t.val < 128 := N_eq ▸ t.isLt
  obtain ⟨h0, h1, h2⟩ := emb3_val t y
  show outAt m c t y = outArr m c ((win0_3.rect t).emb y)
  have ey : y = ix3 0 (y 1) (y 2) := by
    rw [show (0 : Fin 1) = y 0 from Subsingleton.elim _ _]; exact eq_ix3 y
  have hx : (y 1).val < 512 := (y 1).isLt
  have hp : (y 2).val < 384 := (y 2).isLt
  refine (congrArg (outAt m c t) ey).trans ((outAt_apply m c t ⟨(y 1).val, hx⟩ ⟨(y 2).val, hp⟩).trans ?_)
  exact (outVal_of m c t _ _ _ _ _ h0 h1 h2).symm

theorem mem_blk (t : Fin cfg0.N) (i : S16x4096x384.Idx) (h0 : (i 0).val = t.val / 8) (h1 : (i 1).val / 512 = t.val % 8) :
    i ∈ ((cfg0.win 3).blk t).view.set := by
  show i ∈ ((View.whole main_v15).slice (win0_3.rect t)).set
  rw [View.set_slice_whole, Rect.mem_set_unit]
  have hi := index3 t
  have h2 : (i 2).val < 384 := (i 2).isLt
  intro a
  match a with
  | ⟨0, _⟩ =>
    show win0_3.index t 0 * 1 ≤ (i 0).val ∧ (i 0).val < win0_3.index t 0 * 1 + 1
    rw [hi.1]; omega
  | ⟨1, _⟩ =>
    show win0_3.index t 1 * 512 ≤ (i 1).val ∧ (i 1).val < win0_3.index t 1 * 512 + 512
    rw [hi.2.1]; omega
  | ⟨2, _⟩ =>
    show win0_3.index t 2 * 384 ≤ (i 2).val ∧ (i 2).val < win0_3.index t 2 * 384 + 384
    rw [hi.2.2]; omega

/-- The result array after the run. -/
theorem arr_eq : (dat m c).arrAt 3 cfg0.N = outArr m c :=
  (dat m c).arrAt_eq_of_cover 3 (outArr m c) (fun t _ => flushed_eq m c t) fun i => by
    have h0 : (i 0).val < 16 := (i 0).isLt
    have h1 : (i 1).val < 4096 := (i 1).isLt
    refine ⟨pt ⟨(i 0).val, h0⟩ ⟨(i 1).val / 512, by omega⟩, flush0_3 _, mem_blk _ i ?_ ?_⟩
    · rw [pt_div]
    · rw [pt_mod]

end Arrays

end Cert.Proof.Mla

end
-- ==== Proof.MlaRef.lean ====
/- The reference at an index, over the extended reals: masked scores, their maximum, the softmax's terms and their sum, and the
   attended values. -/
module

public import proofs.«01_k».proof.Proof.Gen.Reference2Ideal.Run
public import Idealize.ShloMosaic.Lib.Pointwise
public import Idealize.ShloMosaic.Lib.IdealHost
public import Idealize.ShloMosaic.Lib.WordArith
public import Idealize.ShloMosaic.Lib.Tactic.CleanTypes

@[expose] public section

set_option maxRecDepth 16384

noncomputable section

namespace Cert.Proof.MlaRef

open Idealize.ShloMosaic Idealize.ShloMosaic.TcCoe
open Cert.Reference2Ideal Cert.Reference2Ideal.Gen

section Ref

variable (m : (ℓ : Loc nD τ sig) → Buf (Elt Ideal) ℓ) (c : Dev nD)

abbrev argQ : FVec Ideal S16x4096x6x96 .f32 := m ((c : Thread nD τ).loc main_arg0)
abbrev argK : FVec Ideal S16x4096x6x96 .f32 := m ((c : Thread nD τ).loc main_arg1)
abbrev argV : FVec Ideal S16x4096x6x64 .f32 := m ((c : Thread nD τ).loc main_arg2)

/-- The first position past each position's chunk. -/
def lim : IVec S4096 32 :=
  muli (addi (select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))) (broadcastInDim S4096 ![] bcast_S_S4096 (constantI S_ 32 1#32)))
    (broadcastInDim S4096 ![] bcast_S_S4096 (constantI S_ 32 64#32))

/-- Which keys a query sees. -/
def seen : IVec S4096x4096 1 := cmpi .slt (broadcastInDim S4096x4096 ![0, 1] bcast_S1x4096_S4096x4096_0_1 (broadcastInDim S1x4096 ![1] bcast_S4096_S1x4096_1 (iotaInDim S4096 32 0)))
  (broadcastInDim S4096x4096 ![0, 1] bcast_S4096x1_S4096x4096_0_1 (broadcastInDim S4096x1 ![0] bcast_S4096_S4096x1_0 lim))

/-- The scores, −∞ where a key isn't seen. -/
def masked : FVec Ideal S16x6x4096x4096 .f32 :=
  select (broadcastInDim S16x6x4096x4096 ![0, 1, 2, 3] bcast_S1x1x4096x4096_S16x6x4096x4096_0_1_2_3 (broadcastInDim S1x1x4096x4096 ![2, 3] bcast_S4096x4096_S1x1x4096x4096_2_3 seen))
    (mulf (Host.dotGeneral dot_S16x4096x6x96_S16x4096x6x96_S16x6x4096x4096_3_3_1_1_02_02 none (argQ m c) (argK m c)) (broadcastInDim S16x6x4096x4096 ![] bcast_S_S16x6x4096x4096 (constant S_ .f32 0x3DD105EC#32)))
    (broadcastInDim S16x6x4096x4096 ![] bcast_S_S16x6x4096x4096 (id (constant S_ .f32 0xFF800000#32)))

def maxes : FVec Ideal S16x6x4096 .f32 := maximumf (broadcastInDim S16x6x4096 ![] bcast_S_S16x6x4096 (constant S_ .f32 0xFF800000#32))
  (Host.reduce FloatOps.maximumf (masked m c) (constant S_ .f32 0xFF800000#32) reducesTo_S16x6x4096x4096_S16x6x4096_d3 h_S_)

def terms : FVec Ideal S16x6x4096x4096 .f32 := Host.exp (subf (masked m c) (broadcastInDim S16x6x4096x4096 ![0, 1, 2, 3] bcast_S16x6x4096x1_S16x6x4096x4096_0_1_2_3
  (broadcastInDim S16x6x4096x1 ![0, 1, 2] bcast_S16x6x4096_S16x6x4096x1_0_1_2 (maxes m c))))

def sums : FVec Ideal S16x6x4096 .f32 := Host.reduceAdd (terms m c) (constant S_ .f32 0x00000000#32) reducesTo_S16x6x4096x4096_S16x6x4096_d3 h_S_

def quots : FVec Ideal S16x6x4096x4096 .f32 := Host.divf (terms m c) (broadcastInDim S16x6x4096x4096 ![0, 1, 2, 3] bcast_S16x6x4096x1_S16x6x4096x4096_0_1_2_3
  (broadcastInDim S16x6x4096x1 ![0, 1, 2] bcast_S16x6x4096_S16x6x4096x1_0_1_2 (sums m c)))

def result : FVec Ideal S16x4096x384 .bf16 := truncf .bf16 (shapeCast S16x4096x384 (transpose S16x4096x6x64 [0, 3, 1, 2]
  (Host.dotGeneral dot_S16x4096x6x64_S16x6x4096x4096_S16x6x64x4096_1_3_3_2_02_01 none (argV m c) (quots m c)) transposes_S16x6x64x4096_S16x4096x6x64_0_3_1_2)
  shapeCasts_S16x4096x6x64_S16x4096x384) bitsLt_bf16_f32

theorem res_eq : Cert.Reference2Ideal.Value.res_main_v30 m c = result m c := by
  unfold Cert.Reference2Ideal.Value.res_main_v30
  rfl

theorem result_apply (b : Fin 16) (i : Fin 4096) (p : Fin 384) : result m c (ix3 b i p)
    = ∑ κ : Fin 4096, argV m c (ix4 b κ ⟨p.val / 64, by omega⟩ ⟨p.val % 64, by omega⟩) * quots m c (ix4 b ⟨p.val / 64, by omega⟩ i κ) := by
  pointwise [result]

theorem quots_apply (b : Fin 16) (h : Fin 6) (i κ : Fin 4096) : quots m c (ix4 b h i κ) = Ideal.div (terms m c (ix4 b h i κ)) (sums m c (ix3 b h i)) := by
  pointwise [quots]

theorem sums_apply (b : Fin 16) (h : Fin 6) (i : Fin 4096) : sums m c (ix3 b h i) = ∑ κ : Fin 4096, terms m c (ix4 b h i κ) := by
  pointwise [sums]

theorem terms_apply (b : Fin 16) (h : Fin 6) (i κ : Fin 4096) : terms m c (ix4 b h i κ) = Ideal.exp (masked m c (ix4 b h i κ) - maxes m c (ix3 b h i)) := by
  pointwise [terms]

theorem ofBits_negInf : Ideal.ofBits .f32 0xFF800000#32 = ⊥ := by simp [Ideal.ofBits, Ideal.ieee]

theorem lift_eq (hr : S16x6x4096x4096.Reduces [3] S16x6x4096) (b : Fin 16) (h : Fin 6) (i κ : Fin 4096) :
    hr.lift (ix3 b h i) κ = ix4 b h i κ := by
  funext a
  match a with
  | ⟨0, _⟩ => rfl
  | ⟨1, _⟩ => rfl
  | ⟨2, _⟩ => rfl
  | ⟨3, _⟩ => rfl

theorem reduceMax_apply (X : FVec Ideal S16x6x4096x4096 .f32) (b : Fin 16) (h : Fin 6) (i : Fin 4096) :
    Host.reduce FloatOps.maximumf X (constant S_ .f32 0xFF800000#32) reducesTo_S16x6x4096x4096_S16x6x4096_d3 h_S_ (ix3 b h i)
      = (Finset.univ : Finset (Fin 4096)).fold max (Ideal.ofBits .f32 0xFF800000#32) fun κ => X (ix4 b h i κ) := by
  have hr : S16x6x4096x4096.Reduces [3] S16x6x4096 := by decide
  have e := Host.reduce_eq_fold_single (α := Ideal .f32) (FloatOps.maximumf : Ideal .f32 → Ideal .f32 → Ideal .f32) X
    (constant S_ .f32 0xFF800000#32) reducesTo_S16x6x4096x4096_S16x6x4096_d3 hr h_S_ (ix3 b h i)
  refine e.trans ?_
  have : (X ∘ hr.lift (ix3 b h i)) = fun κ : Fin 4096 => X (ix4 b h i κ) := funext fun κ => congrArg X (lift_eq hr b h i κ)
  rw [this]
  rfl

theorem maxes_apply (b : Fin 16) (h : Fin 6) (i : Fin 4096) : maxes m c (ix3 b h i) = (Finset.univ : Finset (Fin 4096)).fold max ⊥ fun κ => masked m c (ix4 b h i κ) := by
  unfold maxes
  rw [maximumf_apply, reduceMax_apply]
  show max (Ideal.ofBits .f32 0xFF800000#32) (Finset.fold max (Ideal.ofBits .f32 0xFF800000#32) _ _) = _
  rw [ofBits_negInf, max_eq_right bot_le]

/-- The same on one position's word. -/
def limit (n : BitVec 32) : BitVec 32 :=
  IntOp.muli (IntOp.addi (Scalar.select
      (IntOp.andi
        (IntOp.cmpi CmpIPredicate.ne (if n = 0 then (0 : BitVec 32) else if n.msb = true then -1 else 1)
          (if (64#32 : BitVec 32) = 0 then (0 : BitVec 32) else if (64#32 : BitVec 32).msb = true then -1 else 1))
        (IntOp.cmpi CmpIPredicate.ne (IntOp.remsi ArithUnit.host n 64#32) 0#32))
      (IntOp.subi (IntOp.divsi ArithUnit.host n 64#32) 1#32) (IntOp.divsi ArithUnit.host n 64#32)) 1#32) 64#32

theorem limit_eq : ∀ i : Fin 4096, limit (BitVec.ofNat 32 i.val) = BitVec.ofNat 32 ((i.val / 64 + 1) * 64) := by
  decide +kernel

theorem lim_apply (i : Fin 4096) : lim (ix1 i) = BitVec.ofNat 32 ((i.val / 64 + 1) * 64) := by
  pointwise [lim]
  exact limit_eq i

theorem seen_apply (i κ : Fin 4096) : seen (ix2 i κ) = if κ.val / 64 ≤ i.val / 64 then 1#1 else 0#1 := by
  pointwise [seen]
  rw [lim_apply]
  have e1 : (BitVec.ofNat 32 κ.val).toInt = κ.val := WordArith.toInt_ofNat_small _ (by omega)
  have e2 : (BitVec.ofNat 32 ((i.val / 64 + 1) * 64)).toInt = ((i.val / 64 + 1) * 64 : ℕ) := WordArith.toInt_ofNat_small _ (by omega)
  have e : (BitVec.ofNat 32 κ.val).slt (BitVec.ofNat 32 ((i.val / 64 + 1) * 64)) = decide (κ.val / 64 ≤ i.val / 64) := by
    rw [Bool.eq_iff_iff, BitVec.slt_iff_toInt_lt, e1, e2, decide_eq_true_iff]
    omega
  show BitVec.ofBool ((BitVec.ofNat 32 κ.val).slt (BitVec.ofNat 32 ((i.val / 64 + 1) * 64))) = _
  rw [e]
  by_cases hc : κ.val / 64 ≤ i.val / 64
  · rw [if_pos hc, decide_eq_true hc]; rfl
  · rw [if_neg hc, decide_eq_false hc]; rfl

theorem masked_apply (b : Fin 16) (h : Fin 6) (i κ : Fin 4096) : masked m c (ix4 b h i κ)
    = if κ.val / 64 ≤ i.val / 64 then (∑ d : Fin 96, argQ m c (ix4 b i h d) * argK m c (ix4 b κ h d)) * Ideal.ofBits .f32 0x3DD105EC#32 else ⊥ := by
  pointwise [masked]
  rw [seen_apply]
  by_cases hc : κ.val / 64 ≤ i.val / 64
  · rw [if_pos hc, if_pos hc]; rfl
  · rw [if_neg hc, if_neg hc]; exact ofBits_negInf

end Ref

end Cert.Proof.MlaRef

end
-- ==== Proof.MlaEq.lean ====
/- The kernel's result is the reference's: at each entry, both are the softmax-weighted sum of the values, the kernel's scores
   being the reference's over `log 2` and its exponentials powers of two. -/
module

public import proofs.«01_k».proof.Proof.MlaArray
public import proofs.«01_k».proof.Proof.MlaRef
public import proofs.«01_k».proof.Proof.Gen.Pre_real_qk

@[expose] public section

set_option maxRecDepth 16384

noncomputable section

namespace Cert.Proof.MlaEq

open Idealize.ShloMosaic Idealize.ShloMosaic.TcCoe
open Cert.Proof.Mla

/-! ## The precondition -/

theorem olt_real (a : EReal) (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => exact absurd h (by simp [Ideal.cmp])
  | top => exact absurd h (by simp [Ideal.cmp])
  | coe r => exact ⟨r, rfl⟩

theorem andi_one {a b : BitVec 1} (h : IntOp.andi a b = 1#1) : a = 1#1 ∧ b = 1#1 := by
  revert a b; decide

/-- Queries and keys that meet it are real numbers. -/
theorem real_of_pre [Cert.Pre_real_qk.Facts] (Q K : FVec Ideal Cert.Pre_real_qk.S16x4096x6x96 .f32) (V : FVec Ideal Cert.Pre_real_qk.S16x4096x6x64 .f32)
    (h : Cert.Pre_real_qk.fn Q K V = fun _ => 1#1) : (∀ i, ∃ r : ℝ, Q i = (r : EReal)) ∧ ∀ i, ∃ r : ℝ, K i = (r : EReal) :=
  ⟨fun i => olt_real _ (andi_one (congrFun h i)).1, fun i => olt_real _ (andi_one (congrFun h i)).2⟩

/-! ## The constants -/

/-- The scores' scale. -/
theorem scale_real : ∃ r : ℝ, Ideal.ofBits .f32 0x3DD105EC#32 = (r : EReal) :=
  ⟨_, by simp [Ideal.ofBits, Ideal.ieee, -EReal.coe_mul]; rfl⟩

theorem two_eq : Ideal.ofBits .f32 0x40000000#32 = ((2 : ℝ) : EReal) := by
  simp [Ideal.ofBits, Ideal.ieee, -EReal.coe_mul]
  norm_num

theorem log_two : Ideal.log (Ideal.ofBits .f32 0x40000000#32) = ((Real.log 2 : ℝ) : EReal) := by
  rw [two_eq]
  show (if (2 : ℝ) ≤ 0 then ⊥ else ((Real.log 2 : ℝ) : EReal)) = _
  rw [if_neg (by norm_num)]

theorem log_two_pos : 0 < Real.log 2 := Real.log_pos (by norm_num)

theorem scaleK_eq (r : ℝ) (hr : Ideal.ofBits .f32 0x3DD105EC#32 = (r : EReal)) : scaleK = ((r * (Real.log 2)⁻¹ : ℝ) : EReal) := by
  show Ideal.div _ _ = _
  rw [log_two, hr, div_coe_ne _ _ log_two_pos.ne', EReal.coe_mul]

theorem dot_real {n : ℕ} (a b : Fin n → ℝ) : (∑ d, (a d : EReal) * (b d : EReal)) = ((∑ d, a d * b d : ℝ) : EReal) := by
  simp only [← EReal.coe_mul, coe_sum]

/-! ## The reference's maximum is real -/

theorem fold_max_real (b : Fin 4096 → Prop) [DecidablePred b] (r : Fin 4096 → ℝ) (i₀ : Fin 4096) (h₀ : b i₀) :
    ∃ M : ℝ, ((Finset.univ : Finset (Fin 4096)).fold max ⊥ fun κ => if b κ then (r κ : EReal) else ⊥) = (M : EReal) := by
  have h1 : ((Finset.univ : Finset (Fin 4096)).fold max ⊥ fun κ => if b κ then (r κ : EReal) else ⊥) < ⊤ :=
    (Finset.fold_max_lt _).mpr ⟨bot_lt_top, fun κ _ => by split; exact EReal.coe_lt_top _; exact bot_lt_top⟩
  have h2 : ⊥ < ((Finset.univ : Finset (Fin 4096)).fold max ⊥ fun κ => if b κ then (r κ : EReal) else ⊥) :=
    (Finset.lt_fold_max _).mpr (Or.inr ⟨i₀, Finset.mem_univ _, by rw [if_pos h₀]; exact EReal.bot_lt_coe _⟩)
  exact ⟨_, (EReal.coe_toReal h1.ne h2.ne').symm⟩

section Eq

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)
  (c : Dev Cert.Kernel2Ideal.nD)

theorem val_eq (hQ : MlaRef.argQ m' c = argQ m c) (hK : MlaRef.argK m' c = argK m c) (hV : MlaRef.argV m' c = argV m c)
    (rQ : ∀ i, ∃ r : ℝ, argQ m c i = (r : EReal)) (rK : ∀ i, ∃ r : ℝ, argK m c i = (r : EReal)) (b : Fin 16) (i : Fin 4096) (p : Fin 384) :
    outVal m c b i p = MlaRef.result m' c (ix3 b i p) := by
  choose q hq using rQ
  choose k hk using rK
  obtain ⟨ρ, hρ⟩ := scale_real
  set h : Fin 6 := ⟨p.val / 64, by omega⟩ with hh
  set d : Fin 64 := ⟨p.val % 64, by omega⟩ with hd
  set j : Fin 8 := ⟨i.val / 512, by omega⟩ with hj
  set x : Fin 512 := ⟨i.val % 512, by omega⟩ with hx
  have hi : (⟨512 * j.val + x.val, by omega⟩ : Fin 4096) = i := Fin.ext (by show 512 * (i.val / 512) + i.val % 512 = i.val; omega)
  have hi' : 512 * j.val + x.val = i.val := by show 512 * (i.val / 512) + i.val % 512 = i.val; omega
  set s : Fin 4096 → ℝ := fun κ => ∑ e : Fin 96, k (ix4 b κ h e) * (q (ix4 b i h e) * (ρ * (Real.log 2)⁻¹)) with hs
  set r : Fin 4096 → ℝ := fun κ => (∑ e : Fin 96, q (ix4 b i h e) * k (ix4 b κ h e)) * ρ with hr
  have hsr : ∀ κ, s κ * Real.log 2 = r κ := by
    intro κ
    simp only [hs, hr, Finset.sum_mul]
    refine Finset.sum_congr rfl fun e _ => ?_
    have := log_two_pos.ne'
    field_simp
  have hsc : ∀ κ : Fin 4096, score (insAt m c (pt b j)) h.val x κ.val = (s κ : EReal) := by
    intro κ
    rw [score_apply, hi, scaleK_eq ρ hρ]
    simp only [hq, hk, ← EReal.coe_mul]
    rw [coe_sum]
  have hlt := mR_lt_top (insAt m c (pt b j)) h.val j.val x j.isLt (fun κ hκ => (hsc ⟨κ, hκ⟩).symm ▸ EReal.coe_lt_top _)
  have hgt := mR_gt_bot (insAt m c (pt b j)) h.val j.val x j.isLt (fun κ hκ => (hsc ⟨κ, hκ⟩).symm ▸ EReal.bot_lt_coe _)
  have hμ : mR (insAt m c (pt b j)) h.val j.val (ix2 0 x) = ((mR (insAt m c (pt b j)) h.val j.val (ix2 0 x)).toReal : EReal) :=
    (EReal.coe_toReal hlt.ne hgt.ne').symm
  set μ := (mR (insAt m c (pt b j)) h.val j.val (ix2 0 x)).toReal
  have hw : ∀ κ : Fin 4096, wt (insAt m c (pt b j)) h.val j.val x (mR (insAt m c (pt b j)) h.val j.val (ix2 0 x)) κ.val
      = Ideal.exp2 ((if κ.val / 64 ≤ i.val / 64 then (s κ : EReal) else ⊥) - (μ : EReal)) := by
    intro κ
    unfold wt scM
    rw [hμ, hsc, hi']
  have hm : ∀ κ : Fin 4096, MlaRef.masked m' c (ix4 b h i κ) = if κ.val / 64 ≤ i.val / 64 then (r κ : EReal) else ⊥ := by
    intro κ
    rw [MlaRef.masked_apply, hQ, hK, hρ]
    simp only [hq, hk]
    rw [dot_real, ← EReal.coe_mul]
  obtain ⟨M, hM⟩ := fold_max_real (fun κ => κ.val / 64 ≤ i.val / 64) r i le_rfl
  have hmax : MlaRef.maxes m' c (ix3 b h i) = (M : EReal) := by
    rw [MlaRef.maxes_apply, ← hM]
    simp only [hm]
  have ht : ∀ κ : Fin 4096, MlaRef.terms m' c (ix4 b h i κ) = Ideal.exp ((if κ.val / 64 ≤ i.val / 64 then (r κ : EReal) else ⊥) - (M : EReal)) := by
    intro κ
    rw [MlaRef.terms_apply, hmax, hm]
  rw [MlaRef.result_apply]
  unfold outVal
  rw [show oT (insAt m c (pt b ⟨i.val / 512, by omega⟩)) (p.val / 64) (i.val / 512) (ix2 ⟨p.val % 64, Nat.mod_lt _ (by decide)⟩ ⟨i.val % 512, Nat.mod_lt _ (by decide)⟩)
    = oT (insAt m c (pt b j)) h.val j.val (ix2 d x) from rfl, oT_apply _ _ _ _ _ j.isLt]
  rw [Finset.sum_congr rfl fun κ _ => congrArg₂ (· * ·) (valN_apply m c b j h d κ) (hw κ), Finset.sum_congr rfl fun κ _ => hw κ]
  refine (softmax_eq (fun κ => argV m c (ix4 b κ h d)) (fun κ => κ.val / 64 ≤ i.val / 64) s r hsr μ M i le_rfl).trans ?_
  refine Finset.sum_congr rfl fun κ _ => ?_
  show _ = MlaRef.argV m' c (ix4 b κ h d) * MlaRef.quots m' c (ix4 b h i κ)
  rw [MlaRef.quots_apply, MlaRef.sums_apply, hV]
  simp only [ht]

theorem arr_eq_result (hQ : MlaRef.argQ m' c = argQ m c) (hK : MlaRef.argK m' c = argK m c) (hV : MlaRef.argV m' c = argV m c)
    (rQ : ∀ i, ∃ r : ℝ, argQ m c i = (r : EReal)) (rK : ∀ i, ∃ r : ℝ, argK m c i = (r : EReal)) :
    outArr m c = MlaRef.result m' c := by
  funext y
  refine (val_eq m m' c hQ hK hV rQ rK (y 0) (y 1) (y 2)).trans (congrArg (MlaRef.result m' c) ?_)
  exact (eq_ix3 y).symm

end Eq

end Cert.Proof.MlaEq

end
-- ==== Proof.OutPay.lean ====
/- What the output-projection kernel's body stores, at an index, over the extended reals: the input's entry and three products
   of gated branches with their rows of the weights. -/
module

public import proofs.«01_k».proof.Proof.Gen.Kernel3Ideal.Value
public import Idealize.ShloMosaic.Lib.Pointwise
public import Idealize.ShloMosaic.Lib.ValueIdx
public import Idealize.ShloMosaic.Lib.Pipeline.ValueKit.Basic
public import Idealize.ShloMosaic.Lib.Pipeline.ValueKit.Tiles

@[expose] public section

set_option maxRecDepth 16384

noncomputable section

namespace Cert.Proof.Out

open Idealize.ShloMosaic Idealize.ShloMosaic.TcCoe
open Cert.Kernel3Ideal Cert.Kernel3Ideal.Gen

/-- A gate's SiLU. -/
abbrev silu (g : EReal) : EReal := g * Ideal.logistic g

theorem pay2_apply (v0 : Vec Ideal S1x512x1024 .bf16) (x : Fin 512) (k : Fin 1024) :
    k0_pay2 v0 (ix2 x k) = silu (v0 (ix3 0 x k)) := by
  pointwise [k0_pay2]

theorem pay3_apply (v0 : Vec Ideal S1x512x1024 .bf16) (v17 : Vec Ideal S1x512x384 .bf16) (x : Fin 512) (k : Fin 384) :
    k0_pay3 v0 v17 (ix2 x k) = v17 (ix3 0 x k) * silu (v0 (ix3 0 x ⟨640 + k.val, by omega⟩)) := by
  pointwise [k0_pay3]
  rw [pay2_apply]

theorem pay4_apply (v0 : Vec Ideal S1x512x1024 .bf16) (v5 : Vec Ideal S1x512x384 .bf16) (v11 : Vec Ideal S512x256 .bf16)
    (v23 : Vec Ideal S1x512x1024 .f32) (v25 : Vec Ideal S384x1024 .bf16) (v29 : Vec Ideal S256x1024 .bf16) (x : Fin 512) (n : Fin 1024) :
    k0_pay4 v0 v5 v11 v23 v25 v29 (ix2 x n) = v23 (ix3 0 x n)
      + (∑ k : Fin 384, (v5 (ix3 0 x k) * silu (v0 (ix3 0 x ⟨k.val, by omega⟩))) * v25 (ix2 k n))
      + ∑ k : Fin 256, (v11 (ix2 x k) * silu (v0 (ix3 0 x ⟨384 + k.val, by omega⟩))) * v29 (ix2 k n) := by
  pointwise [k0_pay4]
  simp only [pay2_apply]

theorem pay1_apply (v22 : FVec Ideal S512x384 .bf16) (v32 : FVec Ideal S512x1024 .f32) (v34 : FVec Ideal S384x1024 .bf16) (x : Fin 512) (n : Fin 1024) :
    k0_pay1 v22 v32 v34 (constant S512x1024 .f32 0x00000000#32) (ix3 0 x n) = v32 (ix2 x n) + ∑ k : Fin 384, v22 (ix2 x k) * v34 (ix2 k n) := by
  pointwise [k0_pay1]

end Cert.Proof.Out

end
-- ==== Proof.OutArray.lean ====
/- The output-projection kernel's result array at an index: the arrays its launch finds, the blocks each point reads and
   writes, and the array they make up. -/
module

public import proofs.«01_k».proof.Proof.OutPay
public import Idealize.ShloMosaic.Lib.IdealHost
public import Idealize.ShloMosaic.Lib.StableHlo.Run
public import Idealize.ShloMosaic.Lib.Tactic.CleanTypes

@[expose] public section

set_option maxRecDepth 16384

noncomputable section

namespace Cert.Proof.Out

open Idealize.ShloMosaic Idealize.ShloMosaic.TcCoe Idealize.ShloMosaic.StableHlo
open Idealize.ShloMosaic.Pipeline (Dat Cfg Window)
open Cert.Kernel3Ideal Cert.Kernel3Ideal.Gen

/-! ## Which block each point reads and writes -/

theorem N_eq : cfg0.N = 128 := by decide +kernel

/-- A window that follows the batch row and the token tile. -/
theorem index0 : ∀ t : Fin grid0.N, win0_0.index t 0 = t.val / 8 ∧ win0_0.index t 1 = t.val % 8 ∧ win0_0.index t 2 = 0 := by decide +kernel
theorem index1 : ∀ t : Fin grid0.N, win0_1.index t 0 = t.val / 8 ∧ win0_1.index t 1 = t.val % 8 ∧ win0_1.index t 2 = 0 := by decide +kernel
theorem index2 : ∀ t : Fin grid0.N, win0_2.index t 0 = t.val / 8 ∧ win0_2.index t 1 = t.val % 8 ∧ win0_2.index t 2 = 0 := by decide +kernel
theorem index3 : ∀ t : Fin grid0.N, win0_3.index t 0 = t.val % 8 ∧ win0_3.index t 1 = t.val / 8 := by decide +kernel
theorem index4 : ∀ t : Fin grid0.N, win0_4.index t 0 = t.val / 8 ∧ win0_4.index t 1 = t.val % 8 ∧ win0_4.index t 2 = 0 := by decide +kernel
theorem index5 : ∀ t : Fin grid0.N, win0_5.index t 0 = 0 ∧ win0_5.index t 1 = 0 := by decide +kernel
theorem index6 : ∀ t : Fin grid0.N, win0_6.index t 0 = t.val / 8 ∧ win0_6.index t 1 = t.val % 8 ∧ win0_6.index t 2 = 0 := by decide +kernel

section Arrays

variable (m : (ℓ : Loc nD τ sig) → Buf (Elt Ideal) ℓ) (c : Dev nD)

/-! ## The arrays the launch finds -/

abbrev argX : FVec Ideal S16x4096x1024 .f32 := m ((c : Thread nD τ).loc main_arg0)
abbrev gateA : FVec Ideal S16x4096x384 .f32 := m ((c : Thread nD τ).loc main_arg1)
abbrev gateB : FVec Ideal S16x4096x256 .f32 := m ((c : Thread nD τ).loc main_arg2)
abbrev gateC : FVec Ideal S16x4096x384 .f32 := m ((c : Thread nD τ).loc main_arg3)
abbrev argA : FVec Ideal S16x4096x384 .f32 := m ((c : Thread nD τ).loc main_arg4)
abbrev argB : FVec Ideal S16x4096x256 .f32 := m ((c : Thread nD τ).loc main_arg5)
abbrev argC : FVec Ideal S16x4096x384 .f32 := m ((c : Thread nD τ).loc main_arg6)
abbrev argW : FVec Ideal S1024x1024 .f32 := m ((c : Thread nD τ).loc main_arg7)

def v1 : FVec Ideal S16x4096x1024 .bf16 := truncf .bf16 (concatenate S16x4096x1024 2 [⟨S16x4096x384, gateA m c⟩, ⟨S16x4096x256, gateB m c⟩, ⟨S16x4096x384, gateC m c⟩]
  concatenates_S16x4096x384_S16x4096x256_S16x4096x384_S16x4096x1024_d2) bitsLt_bf16_f32
def v4 : FVec Ideal S4096x4096 .bf16 := truncf .bf16 (shapeCast S4096x4096 (transpose S4096x16x256 [1, 0, 2] (argB m c)
  transposes_S16x4096x256_S4096x16x256_1_0_2) shapeCasts_S4096x16x256_S4096x4096) bitsLt_bf16_f32

theorem V_v1 : V m c main_v1 = v1 m c := by
  show StableHlo.after hostOps0 (fun b => m (c, b)) _ = _
  simp only [hostOps0]
  after_results_simp <;> (try dsimp only [Matrix.cons_val]) <;> (try after_results_simp) <;> rfl
theorem V_v4 : V m c main_v4 = v4 m c := by
  show StableHlo.after hostOps0 (fun b => m (c, b)) _ = _
  simp only [hostOps0]
  after_results_simp <;> rfl
theorem V_v5 : V m c main_v5 = argA m c := by
  show StableHlo.after hostOps0 (fun b => m (c, b)) _ = _
  simp only [hostOps0]
  after_results_simp <;> rfl
theorem V_v6 : V m c main_v6 = argC m c := by
  show StableHlo.after hostOps0 (fun b => m (c, b)) _ = _
  simp only [hostOps0]
  after_results_simp <;> rfl
theorem V_v7 : V m c main_v7 = argW m c := by
  show StableHlo.after hostOps0 (fun b => m (c, b)) _ = _
  simp only [hostOps0]
  after_results_simp <;> rfl

theorem v4_apply (s : Fin 4096) (p : Fin 4096) : v4 m c (ix2 s p) = argB m c (ix3 ⟨p.val / 256, by omega⟩ s ⟨p.val % 256, by omega⟩) := by
  pointwise [v4]

theorem v1_A (b : Fin 16) (s : Fin 4096) (k : Fin 384) : v1 m c (ix3 b s ⟨k.val, by omega⟩) = gateA m c (ix3 b s k) := by
  have := k.isLt
  pointwise [v1]
theorem v1_B (b : Fin 16) (s : Fin 4096) (k : Fin 256) : v1 m c (ix3 b s ⟨384 + k.val, by omega⟩) = gateB m c (ix3 b s k) := by
  have := k.isLt
  pointwise [v1]
theorem v1_C (b : Fin 16) (s : Fin 4096) (k : Fin 384) : v1 m c (ix3 b s ⟨640 + k.val, by omega⟩) = gateC m c (ix3 b s k) := by
  have := k.isLt
  pointwise [v1]
  rw [dif_neg (by omega), dif_neg (by omega)]
  exact congrArg (gateC m c) (congrArg (ix3 b s) (Fin.ext (by show 640 + k.val - 384 - 256 = k.val; omega)))

/-! ## The blocks read -/

theorem emb0_val (t : Fin grid0.N) (y : S1x512x1024.Idx) :
    ((win0_0.rect t).emb y 0).val = t.val / 8 ∧ ((win0_0.rect t).emb y 1).val = 512 * (t.val % 8) + (y 1).val ∧ ((win0_0.rect t).emb y 2).val = (y 2).val := by
  have hi := index0 t
  have h0 : (y 0).val < 1 := (y 0).isLt
  refine ⟨?_, ?_, ?_⟩
  · refine (Window.rect_emb_val win0_0 t y 0).trans ?_
    show win0_0.index t 0 * 1 + (y 0).val = _
    rw [hi.1]; omega
  · refine (Window.rect_emb_val win0_0 t y 1).trans ?_
    show win0_0.index t 1 * 512 + (y 1).val = _
    rw [hi.2.1]; omega
  · refine (Window.rect_emb_val win0_0 t y 2).trans ?_
    show win0_0.index t 2 * 1024 + (y 2).val = _
    rw [hi.2.2]; omega

theorem emb1_val (t : Fin grid0.N) (y : S1x512x1024.Idx) :
    ((win0_1.rect t).emb y 0).val = t.val / 8 ∧ ((win0_1.rect t).emb y 1).val = 512 * (t.val % 8) + (y 1).val ∧ ((win0_1.rect t).emb y 2).val = (y 2).val := by
  have hi := index1 t
  have h0 : (y 0).val < 1 := (y 0).isLt
  refine ⟨?_, ?_, ?_⟩
  · refine (Window.rect_emb_val win0_1 t y 0).trans ?_
    show win0_1.index t 0 * 1 + (y 0).val = _
    rw [hi.1]; omega
  · refine (Window.rect_emb_val win0_1 t y 1).trans ?_
    show win0_1.index t 1 * 512 + (y 1).val = _
    rw [hi.2.1]; omega
  · refine (Window.rect_emb_val win0_1 t y 2).trans ?_
    show win0_1.index t 2 * 1024 + (y 2).val = _
    rw [hi.2.2]; omega

theorem emb2_val (t : Fin grid0.N) (y : S1x512x384.Idx) :
    ((win0_2.rect t).emb y 0).val = t.val / 8 ∧ ((win0_2.rect t).emb y 1).val = 512 * (t.val % 8) + (y 1).val ∧ ((win0_2.rect t).emb y 2).val = (y 2).val := by
  have hi := index2 t
  have h0 : (y 0).val < 1 := (y 0).isLt
  refine ⟨?_, ?_, ?_⟩
  · refine (Window.rect_emb_val win0_2 t y 0).trans ?_
    show win0_2.index t 0 * 1 + (y 0).val = _
    rw [hi.1]; omega
  · refine (Window.rect_emb_val win0_2 t y 1).trans ?_
    show win0_2.index t 1 * 512 + (y 1).val = _
    rw [hi.2.1]; omega
  · refine (Window.rect_emb_val win0_2 t y 2).trans ?_
    show win0_2.index t 2 * 384 + (y 2).val = _
    rw [hi.2.2]; omega

theorem emb3_val (t : Fin grid0.N) (y : S512x256.Idx) :
    ((win0_3.rect t).emb y 0).val = 512 * (t.val % 8) + (y 0).val ∧ ((win0_3.rect t).emb y 1).val = 256 * (t.val / 8) + (y 1).val := by
  have hi := index3 t
  refine ⟨?_, ?_⟩
  · refine (Window.rect_emb_val win0_3 t y 0).trans ?_
    show win0_3.index t 0 * 512 + (y 0).val = _
    rw [hi.1]; omega
  · refine (Window.rect_emb_val win0_3 t y 1).trans ?_
    show win0_3.index t 1 * 256 + (y 1).val = _
    rw [hi.2]; omega

theorem emb4_val (t : Fin grid0.N) (y : S1x512x384.Idx) :
    ((win0_4.rect t).emb y 0).val = t.val / 8 ∧ ((win0_4.rect t).emb y 1).val = 512 * (t.val % 8) + (y 1).val ∧ ((win0_4.rect t).emb y 2).val = (y 2).val := by
  have hi := index4 t
  have h0 : (y 0).val < 1 := (y 0).isLt
  refine ⟨?_, ?_, ?_⟩
  · refine (Window.rect_emb_val win0_4 t y 0).trans ?_
    show win0_4.index t 0 * 1 + (y 0).val = _
    rw [hi.1]; omega
  · refine (Window.rect_emb_val win0_4 t y 1).trans ?_
    show win0_4.index t 1 * 512 + (y 1).val = _
    rw [hi.2.1]; omega
  · refine (Window.rect_emb_val win0_4 t y 2).trans ?_
    show win0_4.index t 2 * 384 + (y 2).val = _
    rw [hi.2.2]; omega

theorem emb5_val (t : Fin grid0.N) (y : S1024x1024.Idx) :
    ((win0_5.rect t).emb y 0).val = (y 0).val ∧ ((win0_5.rect t).emb y 1).val = (y 1).val := by
  have hi := index5 t
  refine ⟨?_, ?_⟩
  · refine (Window.rect_emb_val win0_5 t y 0).trans ?_
    show win0_5.index t 0 * 1024 + (y 0).val = _
    rw [hi.1]; omega
  · refine (Window.rect_emb_val win0_5 t y 1).trans ?_
    show win0_5.index t 1 * 1024 + (y 1).val = _
    rw [hi.2]; omega

theorem emb6_val (t : Fin grid0.N) (y : S1x512x1024.Idx) :
    ((win0_6.rect t).emb y 0).val = t.val / 8 ∧ ((win0_6.rect t).emb y 1).val = 512 * (t.val % 8) + (y 1).val ∧ ((win0_6.rect t).emb y 2).val = (y 2).val := by
  have hi := index6 t
  have h0 : (y 0).val < 1 := (y 0).isLt
  refine ⟨?_, ?_, ?_⟩
  · refine (Window.rect_emb_val win0_6 t y 0).trans ?_
    show win0_6.index t 0 * 1 + (y 0).val = _
    rw [hi.1]; omega
  · refine (Window.rect_emb_val win0_6 t y 1).trans ?_
    show win0_6.index t 1 * 512 + (y 1).val = _
    rw [hi.2.1]; omega
  · refine (Window.rect_emb_val win0_6 t y 2).trans ?_
    show win0_6.index t 2 * 1024 + (y 2).val = _
    rw [hi.2.2]; omega

theorem read0 (G : (b : Ref sig .tc) → Buf (Elt Ideal) ((c : Thread nD τ).loc b)) (t : Fin cfg0.N) (y : S1x512x1024.Idx) :
    ((cfg0.win 0).blk t).view.read (Elt Ideal) (G (Pipeline.arrRef spec0 0)) y = G main_arg0 ((win0_0.rect t).emb y) := rfl

theorem iblk0_apply (t : Fin cfg0.N) (x : Fin 512) (k : Fin 1024) (b : Fin 16) (s : Fin 4096) (hb : b.val = t.val / 8)
    (hs : s.val = 512 * (t.val % 8) + x.val) : iblk m c 0 t (ix3 0 x k) = argX m c (ix3 b s k) := by
  obtain ⟨h0, h1, h2⟩ := emb0_val t (ix3 0 x k)
  have h0' := h0.trans hb.symm
  have h1' := h1.trans hs.symm
  clear h0 h1 hb hs
  refine (read0 c (V m c) t (ix3 0 x k)).trans ((congrFun (V_main_arg0 m c) _).trans (congrArg (argX m c) (funext fun a => Fin.ext ?_)))
  match a with
  | ⟨0, _⟩ => exact h0'
  | ⟨1, _⟩ => exact h1'
  | ⟨2, _⟩ => exact h2

theorem read1 (G : (b : Ref sig .tc) → Buf (Elt Ideal) ((c : Thread nD τ).loc b)) (t : Fin cfg0.N) (y : S1x512x1024.Idx) :
    ((cfg0.win 1).blk t).view.read (Elt Ideal) (G (Pipeline.arrRef spec0 1)) y = G main_v1 ((win0_1.rect t).emb y) := rfl

theorem iblk1_apply (t : Fin cfg0.N) (x : Fin 512) (k : Fin 1024) (b : Fin 16) (s : Fin 4096) (hb : b.val = t.val / 8)
    (hs : s.val = 512 * (t.val % 8) + x.val) : iblk m c 1 t (ix3 0 x k) = v1 m c (ix3 b s k) := by
  obtain ⟨h0, h1, h2⟩ := emb1_val t (ix3 0 x k)
  have h0' := h0.trans hb.symm
  have h1' := h1.trans hs.symm
  clear h0 h1 hb hs
  refine (read1 c (V m c) t (ix3 0 x k)).trans ((congrFun (V_v1 m c) _).trans (congrArg (v1 m c) (funext fun a => Fin.ext ?_)))
  match a with
  | ⟨0, _⟩ => exact h0'
  | ⟨1, _⟩ => exact h1'
  | ⟨2, _⟩ => exact h2

theorem read2 (G : (b : Ref sig .tc) → Buf (Elt Ideal) ((c : Thread nD τ).loc b)) (t : Fin cfg0.N) (y : S1x512x384.Idx) :
    ((cfg0.win 2).blk t).view.read (Elt Ideal) (G (Pipeline.arrRef spec0 2)) y = G main_v5 ((win0_2.rect t).emb y) := rfl

theorem iblk2_apply (t : Fin cfg0.N) (x : Fin 512) (k : Fin 384) (b : Fin 16) (s : Fin 4096) (hb : b.val = t.val / 8)
    (hs : s.val = 512 * (t.val % 8) + x.val) : iblk m c 2 t (ix3 0 x k) = argA m c (ix3 b s k) := by
  obtain ⟨h0, h1, h2⟩ := emb2_val t (ix3 0 x k)
  have h0' := h0.trans hb.symm
  have h1' := h1.trans hs.symm
  clear h0 h1 hb hs
  refine (read2 c (V m c) t (ix3 0 x k)).trans ((congrFun (V_v5 m c) _).trans (congrArg (argA m c) (funext fun a => Fin.ext ?_)))
  match a with
  | ⟨0, _⟩ => exact h0'
  | ⟨1, _⟩ => exact h1'
  | ⟨2, _⟩ => exact h2

theorem read3 (G : (b : Ref sig .tc) → Buf (Elt Ideal) ((c : Thread nD τ).loc b)) (t : Fin cfg0.N) (y : S512x256.Idx) :
    ((cfg0.win 3).blk t).view.read (Elt Ideal) (G (Pipeline.arrRef spec0 3)) y = G main_v4 ((win0_3.rect t).emb y) := rfl

theorem iblk3_apply (t : Fin cfg0.N) (x : Fin 512) (k : Fin 256) (b : Fin 16) (s : Fin 4096) (hb : b.val = t.val / 8)
    (hs : s.val = 512 * (t.val % 8) + x.val) : iblk m c 3 t (ix2 x k) = argB m c (ix3 b s k) := by
  obtain ⟨h0, h1⟩ := emb3_val t (ix2 x k)
  have h0' := h0.trans hs.symm
  have h1' : ((win0_3.rect t).emb (ix2 x k) 1).val = 256 * b.val + k.val := h1.trans (by rw [hb]; rfl)
  clear h0 h1 hb hs
  have e : (win0_3.rect t).emb (ix2 x k) = ix2 s ⟨256 * b.val + k.val, by omega⟩ := funext fun a => Fin.ext <| by
    match a with
    | ⟨0, _⟩ => exact h0'
    | ⟨1, _⟩ => exact h1'
  refine (read3 c (V m c) t (ix2 x k)).trans ((congrFun (V_v4 m c) _).trans ((congrArg (v4 m c) e).trans ((v4_apply m c _ _).trans ?_)))
  have e1 : (⟨(256 * b.val + k.val) / 256, by omega⟩ : Fin 16) = b := Fin.ext (by show (256 * b.val + k.val) / 256 = b.val; omega)
  have e2 : (⟨(256 * b.val + k.val) % 256, by omega⟩ : Fin 256) = k := Fin.ext (by show (256 * b.val + k.val) % 256 = k.val; omega)
  show argB m c (ix3 ⟨(256 * b.val + k.val) / 256, _⟩ s ⟨(256 * b.val + k.val) % 256, _⟩) = _
  rw [e1, e2]

theorem read4 (G : (b : Ref sig .tc) → Buf (Elt Ideal) ((c : Thread nD τ).loc b)) (t : Fin cfg0.N) (y : S1x512x384.Idx) :
    ((cfg0.win 4).blk t).view.read (Elt Ideal) (G (Pipeline.arrRef spec0 4)) y = G main_v6 ((win0_4.rect t).emb y) := rfl

theorem iblk4_apply (t : Fin cfg0.N) (x : Fin 512) (k : Fin 384) (b : Fin 16) (s : Fin 4096) (hb : b.val = t.val / 8)
    (hs : s.val = 512 * (t.val % 8) + x.val) : iblk m c 4 t (ix3 0 x k) = argC m c (ix3 b s k) := by
  obtain ⟨h0, h1, h2⟩ := emb4_val t (ix3 0 x k)
  have h0' := h0.trans hb.symm
  have h1' := h1.trans hs.symm
  clear h0 h1 hb hs
  refine (read4 c (V m c) t (ix3 0 x k)).trans ((congrFun (V_v6 m c) _).trans (congrArg (argC m c) (funext fun a => Fin.ext ?_)))
  match a with
  | ⟨0, _⟩ => exact h0'
  | ⟨1, _⟩ => exact h1'
  | ⟨2, _⟩ => exact h2

theorem read5 (G : (b : Ref sig .tc) → Buf (Elt Ideal) ((c : Thread nD τ).loc b)) (t : Fin cfg0.N) (y : S1024x1024.Idx) :
    ((cfg0.win 5).blk t).view.read (Elt Ideal) (G (Pipeline.arrRef spec0 5)) y = G main_v7 ((win0_5.rect t).emb y) := rfl

theorem iblk5_apply (t : Fin cfg0.N) (k n : Fin 1024) : iblk m c 5 t (ix2 k n) = argW m c (ix2 k n) := by
  obtain ⟨h0, h1⟩ := emb5_val t (ix2 k n)
  refine (read5 c (V m c) t (ix2 k n)).trans ((congrFun (V_v7 m c) _).trans (congrArg (argW m c) (funext fun a => Fin.ext ?_)))
  match a with
  | ⟨0, _⟩ => exact h0
  | ⟨1, _⟩ => exact h1

/-! ## The result array -/

/-- The layer's input plus the three gated branches' products with their rows of the weights. -/
def outVal (b : Fin 16) (s : Fin 4096) (n : Fin 1024) : EReal :=
  argX m c (ix3 b s n)
    + (∑ k : Fin 384, (argA m c (ix3 b s k) * silu (gateA m c (ix3 b s k))) * argW m c (ix2 ⟨k.val, by omega⟩ n))
    + (∑ k : Fin 256, (argB m c (ix3 b s k) * silu (gateB m c (ix3 b s k))) * argW m c (ix2 ⟨384 + k.val, by omega⟩ n))
    + ∑ k : Fin 384, (argC m c (ix3 b s k) * silu (gateC m c (ix3 b s k))) * argW m c (ix2 ⟨640 + k.val, by omega⟩ n)

def outArr : FVec Ideal S16x4096x1024 .f32 := fun i => outVal m c (i 0) (i 1) (i 2)

/-- What the body leaves in the result's buffer. -/
theorem out_apply (x0 : Vec Ideal S1x512x1024 .f32) (x1 : Vec Ideal S1x512x1024 .bf16) (x2 : Vec Ideal S1x512x384 .bf16) (x3 : Vec Ideal S512x256 .bf16)
    (x4 : Vec Ideal S1x512x384 .bf16) (x5 : Vec Ideal S1024x1024 .bf16) (x : Fin 512) (n : Fin 1024) :
    out0_6 x0 x1 x2 x3 x4 x5 (ix3 0 x n) = x0 (ix3 0 x n)
      + (∑ k : Fin 384, (x2 (ix3 0 x k) * silu (x1 (ix3 0 x ⟨k.val, by omega⟩))) * x5 (ix2 ⟨k.val, by omega⟩ n))
      + (∑ k : Fin 256, (x3 (ix2 x k) * silu (x1 (ix3 0 x ⟨384 + k.val, by omega⟩))) * x5 (ix2 ⟨384 + k.val, by omega⟩ n))
      + ∑ k : Fin 384, (x4 (ix3 0 x k) * silu (x1 (ix3 0 x ⟨640 + k.val, by omega⟩))) * x5 (ix2 ⟨640 + k.val, by omega⟩ n) := by
  unfold out0_6
  rw [View.canon_cons_unit_lit _ _ _ (by decide), View.ld_unit_lit _ x1 (by decide), View.ld_unit_lit _ x4 (by decide), View.ld_unit_lit _ x2 (by decide),
    View.ld_unit_lit _ x3 (by decide), View.ld_unit_lit _ x0 (by decide), pay1_apply, pay4_apply]
  have e3 (k : Fin 384) : View.ld x5 r0_3 (ix2 k n) = x5 (ix2 ⟨k.val, by omega⟩ n) := by
    rw [View.ld_apply]
    refine congrArg x5 (funext fun a => Fin.ext ?_)
    match a with
    | ⟨0, _⟩ => show 0 + 1 * k.val = k.val; omega
    | ⟨1, _⟩ => show 0 + 1 * n.val = n.val; omega
  have e4 (k : Fin 256) : View.ld x5 r0_4 (ix2 k n) = x5 (ix2 ⟨384 + k.val, by omega⟩ n) := by
    rw [View.ld_apply]
    refine congrArg x5 (funext fun a => Fin.ext ?_)
    match a with
    | ⟨0, _⟩ => show 384 + 1 * k.val = 384 + k.val; omega
    | ⟨1, _⟩ => show 0 + 1 * n.val = n.val; omega
  have e5 (k : Fin 384) : k0_pay5 (View.ld x5 r0_5) (ix2 k n) = x5 (ix2 ⟨640 + k.val, by omega⟩ n) := by
    pointwise [k0_pay5]
  simp only [e3, e4, e5, pay3_apply]

/-- What the body leaves at a point, an entry of the result array. -/
theorem out_block (t : Fin cfg0.N) (x : Fin 512) (b : Fin 16) (s : Fin 4096) (n n' : Fin 1024) (hb : b.val = t.val / 8)
    (hs : s.val = 512 * (t.val % 8) + x.val) (hn : n'.val = n.val) :
    out0_6 (iblk m c 0 t) (iblk m c 1 t) (iblk m c 2 t) (iblk m c 3 t) (iblk m c 4 t) (iblk m c 5 t) (ix3 0 x n) = outVal m c b s n' := by
  obtain rfl := Fin.ext hn
  refine (out_apply _ _ _ _ _ _ _ _).trans ?_
  unfold outVal
  simp only [iblk0_apply m c t x _ b s hb hs, iblk1_apply m c t x _ b s hb hs, iblk2_apply m c t x _ b s hb hs, iblk3_apply m c t x _ b s hb hs,
    iblk4_apply m c t x _ b s hb hs, iblk5_apply, v1_A, v1_B, v1_C]

theorem flushed_eq (t : Fin cfg0.N) : (dats m 0 c).flushed 6 t = ((cfg0.win 6).blk t).view.read (Elt Ideal) (outArr m c) := by
  rw [Value.flushed6]
  funext y
  obtain ⟨h0, h1, h2⟩ := emb6_val t y
  have hx : (y 1).val < 512 := (y 1).isLt
  have hn : (y 2).val < 1024 := (y 2).isLt
  have ey : y = ix3 0 ⟨(y 1).val, hx⟩ ⟨(y 2).val, hn⟩ := by
    rw [show (0 : Fin 1) = y 0 from Subsingleton.elim _ _]; exact eq_ix3 y
  show (out0_6 (iblk m c 0 t) (iblk m c 1 t) (iblk m c 2 t) (iblk m c 3 t) (iblk m c 4 t) (iblk m c 5 t) y : EReal)
    = outVal m c ((win0_6.rect t).emb y 0) ((win0_6.rect t).emb y 1) ((win0_6.rect t).emb y 2)
  exact (congrArg (out0_6 _ _ _ _ _ _) ey).trans (out_block m c t ⟨(y 1).val, hx⟩ _ _ ⟨(y 2).val, hn⟩ _ h0 h1 h2)

theorem mem_blk (t : Fin cfg0.N) (i : S16x4096x1024.Idx) (h0 : (i 0).val = t.val / 8) (h1 : (i 1).val / 512 = t.val % 8) :
    i ∈ ((cfg0.win 6).blk t).view.set := by
  show i ∈ ((View.whole main_v8).slice (win0_6.rect t)).set
  rw [View.set_slice_whole, Rect.mem_set_unit]
  have hi := index6 t
  have h2 : (i 2).val < 1024 := (i 2).isLt
  intro a
  match a with
  | ⟨0, _⟩ =>
    show win0_6.index t 0 * 1 ≤ (i 0).val ∧ (i 0).val < win0_6.index t 0 * 1 + 1
    rw [hi.1]; omega
  | ⟨1, _⟩ =>
    show win0_6.index t 1 * 512 ≤ (i 1).val ∧ (i 1).val < win0_6.index t 1 * 512 + 512
    rw [hi.2.1]; omega
  | ⟨2, _⟩ =>
    show win0_6.index t 2 * 1024 ≤ (i 2).val ∧ (i 2).val < win0_6.index t 2 * 1024 + 1024
    rw [hi.2.2]; omega

/-- The result array after the run. -/
theorem arr_eq : (dats m 0 c).arrAt 6 cfg0.N = outArr m c :=
  (dats m 0 c).arrAt_eq_of_cover 6 (outArr m c) (fun t _ => flushed_eq m c t) fun i => by
    have h0 : (i 0).val < 16 := (i 0).isLt
    have h1 : (i 1).val < 4096 := (i 1).isLt
    refine ⟨⟨8 * (i 0).val + (i 1).val / 512, by rw [N_eq]; omega⟩, flush0_6 _, mem_blk _ i ?_ ?_⟩
    · show (i 0).val = (8 * (i 0).val + (i 1).val / 512) / 8; omega
    · show (i 1).val / 512 = (8 * (i 0).val + (i 1).val / 512) % 8; omega

end Arrays

end Cert.Proof.Out

end
-- ==== Proof.OutRef.lean ====
/- The reference of the output projection at an index, over the extended reals, and that the kernel's array is it. -/
module

public import proofs.«01_k».proof.Proof.OutArray
public import proofs.«01_k».proof.Proof.Gen.Reference3Ideal.Run

@[expose] public section

set_option maxRecDepth 16384

noncomputable section

namespace Cert.Proof.OutRef

open Idealize.ShloMosaic Idealize.ShloMosaic.TcCoe
open Cert.Reference3Ideal Cert.Reference3Ideal.Gen

section Ref

variable (m : (ℓ : Loc nD τ sig) → Buf (Elt Ideal) ℓ) (c : Dev nD)

abbrev argX : FVec Ideal S16x4096x1024 .f32 := m ((c : Thread nD τ).loc main_arg0)
abbrev gateA : FVec Ideal S16x4096x384 .f32 := m ((c : Thread nD τ).loc main_arg1)
abbrev gateB : FVec Ideal S16x4096x256 .f32 := m ((c : Thread nD τ).loc main_arg2)
abbrev gateC : FVec Ideal S16x4096x384 .f32 := m ((c : Thread nD τ).loc main_arg3)
abbrev argA : FVec Ideal S16x4096x384 .f32 := m ((c : Thread nD τ).loc main_arg4)
abbrev argB : FVec Ideal S16x4096x256 .f32 := m ((c : Thread nD τ).loc main_arg5)
abbrev argC : FVec Ideal S16x4096x384 .f32 := m ((c : Thread nD τ).loc main_arg6)
abbrev argW : FVec Ideal S1024x1024 .f32 := m ((c : Thread nD τ).loc main_arg7)

/-- A branch of 384 features times the SiLU of its gate. -/
def gated384 (a g : FVec Ideal S16x4096x384 .f32) : FVec Ideal S16x4096x384 .f32 :=
  mulf a (mulf g (Host.divf (broadcastInDim S16x4096x384 ![] bcast_S_S16x4096x384 (constant S_ .f32 0x3F800000#32))
    (addf (broadcastInDim S16x4096x384 ![] bcast_S_S16x4096x384 (constant S_ .f32 0x3F800000#32)) (Host.exp (Host.negf g)))))

/-- A branch of 256 features times the SiLU of its gate. -/
def gated256 (a g : FVec Ideal S16x4096x256 .f32) : FVec Ideal S16x4096x256 .f32 :=
  mulf a (mulf g (Host.divf (broadcastInDim S16x4096x256 ![] bcast_S_S16x4096x256 (constant S_ .f32 0x3F800000#32))
    (addf (broadcastInDim S16x4096x256 ![] bcast_S_S16x4096x256 (constant S_ .f32 0x3F800000#32)) (Host.exp (Host.negf g)))))

/-- The three gated branches side by side. -/
def mixed : FVec Ideal S16x4096x1024 .f32 := concatenate S16x4096x1024 2 [⟨S16x4096x384, gated384 (argA m c) (gateA m c)⟩,
  ⟨S16x4096x256, gated256 (argB m c) (gateB m c)⟩, ⟨S16x4096x384, gated384 (argC m c) (gateC m c)⟩]
  concatenates_S16x4096x384_S16x4096x256_S16x4096x384_S16x4096x1024_d2

def result : FVec Ideal S16x4096x1024 .f32 := addf (argX m c) (Host.dotGeneral dot_S16x4096x1024_S1024x1024_S16x4096x1024_2_0_01_1_n_n none (mixed m c) (argW m c))

theorem gated384_apply (a g : FVec Ideal S16x4096x384 .f32) (b : Fin 16) (s : Fin 4096) (k : Fin 384) :
    gated384 a g (ix3 b s k) = a (ix3 b s k) * Out.silu (g (ix3 b s k)) := by
  pointwise [gated384]
  rfl

theorem gated256_apply (a g : FVec Ideal S16x4096x256 .f32) (b : Fin 16) (s : Fin 4096) (k : Fin 256) :
    gated256 a g (ix3 b s k) = a (ix3 b s k) * Out.silu (g (ix3 b s k)) := by
  pointwise [gated256]
  rfl

theorem mixed_A (b : Fin 16) (s : Fin 4096) (k : Fin 384) : mixed m c (ix3 b s ⟨k.val, by omega⟩) = gated384 (argA m c) (gateA m c) (ix3 b s k) := by
  have := k.isLt
  pointwise [mixed]
theorem mixed_B (b : Fin 16) (s : Fin 4096) (k : Fin 256) : mixed m c (ix3 b s ⟨384 + k.val, by omega⟩) = gated256 (argB m c) (gateB m c) (ix3 b s k) := by
  have := k.isLt
  pointwise [mixed]
theorem mixed_C (b : Fin 16) (s : Fin 4096) (k : Fin 384) : mixed m c (ix3 b s ⟨640 + k.val, by omega⟩) = gated384 (argC m c) (gateC m c) (ix3 b s k) := by
  have := k.isLt
  pointwise [mixed]
  rw [dif_neg (by omega), dif_neg (by omega)]
  exact congrArg (gated384 (argC m c) (gateC m c)) (congrArg (ix3 b s) (Fin.ext (by show 640 + k.val - 384 - 256 = k.val; omega)))

theorem result_apply (b : Fin 16) (s : Fin 4096) (n : Fin 1024) : result m c (ix3 b s n)
    = argX m c (ix3 b s n) + ∑ k : Fin 1024, mixed m c (ix3 b s k) * argW m c (ix2 k n) := by
  pointwise [result]

end Ref

/-- A sum over the 1024 features is the sums over the three branches' features, in the kernel's order. -/
theorem sum_three (x : EReal) (f : Fin 1024 → EReal) : x + (∑ k : Fin 384, f ⟨k.val, by omega⟩) + (∑ k : Fin 256, f ⟨384 + k.val, by omega⟩)
    + (∑ k : Fin 384, f ⟨640 + k.val, by omega⟩) = x + ∑ k, f k := by
  rw [add_assoc, add_assoc]
  congr 1
  rw [show (∑ k, f k) = _ from Fin.sum_univ_add (a := 384) (b := 640) f, show (∑ k : Fin 640, f (Fin.natAdd 384 k)) = _ from Fin.sum_univ_add (a := 256) (b := 384) _]
  congr 2

section Eq

variable (m : (ℓ : Loc Kernel3Ideal.nD Kernel3Ideal.τ Kernel3Ideal.sig) → Buf (Elt Ideal) ℓ) (m' : (ℓ : Loc nD τ sig) → Buf (Elt Ideal) ℓ) (c : Dev nD)

/-- The kernel's array is the reference's, of the same arguments. -/
theorem arr_eq_result (hX : argX m' c = Out.argX m c) (hga : gateA m' c = Out.gateA m c) (hgb : gateB m' c = Out.gateB m c) (hgc : gateC m' c = Out.gateC m c)
    (hA : argA m' c = Out.argA m c) (hB : argB m' c = Out.argB m c) (hC : argC m' c = Out.argC m c) (hW : argW m' c = Out.argW m c) :
    Out.outArr m c = result m' c := by
  have key (b : Fin 16) (s : Fin 4096) (n : Fin 1024) : Out.outVal m c b s n = result m' c (ix3 b s n) := by
    rw [result_apply, ← sum_three]
    simp only [mixed_A, mixed_B, mixed_C, gated384_apply, gated256_apply, hX, hga, hgb, hgc, hA, hB, hC, hW]
    rfl
  funext i
  exact (key (i 0) (i 1) (i 2)).trans (congrArg (result m' c) (eq_ix3 i).symm)

end Eq

end Cert.Proof.OutRef

end
-- ==== Proof.PrepMath.lean ====
/- The mathematics of the preparation, over the extended reals: the root-mean-square norm of a row and the rotary
   position of a row, as functions of the row. -/
module

public import Idealize.ShloMosaic.PureOps.Ideal

@[expose] public section

noncomputable section

namespace Cert.Proof.PrepMath

open Idealize.ShloMosaic

/-- The norm's small addend, as both programs' float word denotes it. -/
abbrev eps : EReal := Ideal.ofBits .f32 0x358637BD#32

/-- A row divided by the root of its mean square and multiplied by its gains; `N` is the row's length. -/
def rms {n : ℕ} (N : EReal) (f g : Fin n → EReal) : Fin n → EReal :=
  fun j => f j * Ideal.rsqrt (Ideal.div (∑ k, f k * f k) N + eps) * g j

/-- A row's two halves turned by the position's angles. -/
def rope {d : ℕ} (half : ℕ) (hd : d = half + half) (f : Fin d → EReal) (c s : Fin half → EReal) : Fin d → EReal :=
  fun j => if h : j.val < half then
      f j * c ⟨j.val, h⟩ - f ⟨half + j.val, by omega⟩ * s ⟨j.val, h⟩
    else
      f j * c ⟨j.val - half, by omega⟩ + f ⟨j.val - half, by omega⟩ * s ⟨j.val - half, by omega⟩

/-- A head of 64 entries, 32 rotary entries and zeros up to 128. -/
def padded (a : Fin 64 → EReal) (b : Fin 32 → EReal) : Fin 128 → EReal :=
  fun j => if h : j.val < 64 then a ⟨j.val, h⟩ else if h' : j.val < 96 then b ⟨j.val - 64, by omega⟩ else 0

/-- The norm's factor of a latent key: the squares of its 64 own entries and of the 32 shared ones. -/
def factor (n : Fin 64 → EReal) (p : Fin 32 → EReal) : EReal :=
  Ideal.rsqrt ((∑ k, n k * n k + ∑ k, p k * p k) * ((1 / 96 : ℝ) : EReal) + eps)

end Cert.Proof.PrepMath

end
-- ==== Proof.PrepSpec.lean ====
/- What the preparation computes, as functions of its eleven arguments: the normed token, its input projection, and the
   eleven results, each at an index. -/
module

public import proofs.«01_k».proof.Proof.PrepMath

@[expose] public section

noncomputable section

namespace Cert.Proof.PrepSpec

open Idealize.ShloMosaic Cert.Proof.PrepMath

/-- The eleven arguments. A weight's column is any natural number, past its last one zero. -/
structure Args where
  X : Fin 16 → Fin 4096 → Fin 1024 → EReal
  ng : Fin 1024 → EReal
  W : Fin 1024 → ℕ → EReal
  aq : Fin 64 → EReal
  ak : Fin 64 → EReal
  ql : Fin 256 → EReal
  kvl : Fin 128 → EReal
  uq : Fin 256 → ℕ → EReal
  ukv : Fin 128 → ℕ → EReal
  gq : Fin 96 → EReal
  gk : Fin 96 → EReal

/-- A function of the first `n` numbers, zero past them. -/
def ext {n : ℕ} (f : Fin n → EReal) (k : ℕ) : EReal := if h : k < n then f ⟨k, h⟩ else 0

theorem ext_of_lt {n : ℕ} (f : Fin n → EReal) (k : ℕ) (h : k < n) : ext f k = f ⟨k, h⟩ := dif_pos h

section

variable (A : Args) (b : Fin 16) (s : Fin 4096)

/-- The normed token. -/
def tok : Fin 1024 → EReal := rms (Ideal.ofBits .f32 0x44800000#32) (A.X b s) A.ng

/-- The input projection's column `n`. -/
def pr (n : ℕ) : EReal := ∑ d, tok A b s d * A.W d n

/-- The angle of frequency `i` at a position, of a row of `N` entries. -/
def ang (N : EReal) (i : ℕ) : EReal :=
  (((s.val : ℤ) : ℝ) : EReal) * Ideal.pow (Ideal.ofBits .f32 0x461C4000#32) (Ideal.div (-(((i : ℤ) : ℝ) : EReal) * Ideal.ofBits .f32 0x40000000#32) N)

def cosA (i : Fin 32) : EReal := Ideal.cos (ang s (Ideal.ofBits .f32 0x42800000#32) i.val)
def sinA (i : Fin 32) : EReal := Ideal.sin (ang s (Ideal.ofBits .f32 0x42800000#32) i.val)
def cosI (i : Fin 16) : EReal := Ideal.cos (ang s (Ideal.ofBits .f32 0x42000000#32) i.val)
def sinI (i : Fin 16) : EReal := Ideal.sin (ang s (Ideal.ofBits .f32 0x42000000#32) i.val)

/-- A column of the gates. -/
def gateCol (n : ℕ) : ℕ := if n < 384 then 808 + n else if n < 640 then 1064 + n else 1480 + n

/-- A head of 64 entries, normed and turned. -/
def headVal (off : ℕ) (g : Fin 64 → EReal) : Fin 64 → EReal :=
  rope 32 rfl (rms (Ideal.ofBits .f32 0x42800000#32) (fun k => pr A b s (off + k.val)) g) (cosA s) (sinA s)

/-- A head of 32 entries, turned. -/
def indexVal (off : ℕ) : Fin 32 → EReal := rope 16 rfl (fun k => pr A b s (off + k.val)) (cosI s) (sinI s)

/-- The latent query and its up-projection. -/
def latQ : Fin 256 → EReal := rms (Ideal.ofBits .f32 0x43800000#32) (fun k => pr A b s (1704 + k.val)) A.ql
def upQ (n : ℕ) : EReal := ∑ r, latQ A b s r * A.uq r n

/-- The latent key and value and their up-projection. -/
def latKv : Fin 128 → EReal := rms (Ideal.ofBits .f32 0x43000000#32) (fun k => pr A b s (1960 + k.val)) A.kvl
def upKv (n : ℕ) : EReal := ∑ r, latKv A b s r * A.ukv r n

/-- A latent query's head, normed. -/
def normQ (h : ℕ) : Fin 96 → EReal := rms (Ideal.ofBits .f32 0x42C00000#32) (fun k => upQ A b s (96 * h + k.val)) A.gq

/-- A latent query's head, its last 32 entries turned, padded. -/
def queryC (h : ℕ) : Fin 128 → EReal :=
  padded (fun k => normQ A b s h ⟨k.val, by omega⟩) (rope 16 rfl (fun k => normQ A b s h ⟨64 + k.val, by omega⟩) (cosI s) (sinI s))

/-- A latent key's head: 64 entries of its own and the 32 shared ones, normed, the shared ones turned, padded. -/
def keyC (h : ℕ) : Fin 128 → EReal :=
  padded (fun k => upKv A b s (128 * h + k.val) * factor (fun k => upKv A b s (128 * h + k.val)) (fun k => pr A b s (2088 + k.val)) * A.gk ⟨k.val, by omega⟩)
    (rope 16 rfl (fun k => pr A b s (2088 + k.val) * factor (fun k => upKv A b s (128 * h + k.val)) (fun k => pr A b s (2088 + k.val)) * A.gk ⟨64 + k.val, by omega⟩)
      (cosI s) (sinI s))

/-- The scores' two scales. -/
abbrev scaleA : EReal := (((Real.sqrt 64 * Real.log 2)⁻¹ : ℝ) : EReal)
abbrev scaleC : EReal := (((Real.sqrt 96 * Real.log 2)⁻¹ : ℝ) : EReal)

/-! ## The eleven results -/

def res0 (n : Fin 1024) : EReal := pr A b s (gateCol n.val)
def res1 (j : Fin 256) : EReal := pr A b s (1192 + j.val)
def res2 (p : Fin 384) : EReal := headVal A b s (64 * (p.val / 64)) A.aq ⟨p.val % 64, by omega⟩ * scaleA
def res3 (j : Fin 64) : EReal := headVal A b s 384 A.ak j
def res4 (j : Fin 64) : EReal := pr A b s (448 + j.val)
def res5 (p : Fin 256) : EReal := indexVal A b s (512 + 32 * (p.val / 32)) ⟨p.val % 32, by omega⟩
def res6 (j : Fin 32) : EReal := indexVal A b s 768 j
def res7 (j : Fin 8) : EReal := pr A b s (800 + j.val) * Ideal.ofBits .f32 0x3D800000#32
def res8 (p : Fin 768) : EReal := queryC A b s (p.val / 128) ⟨p.val % 128, by omega⟩ * scaleC
def res9 (h : Fin 6) (j : Fin 128) : EReal := keyC A b s h.val j
def res10 (p : Fin 384) : EReal := upKv A b s (128 * (p.val / 64) + 64 + p.val % 64)

end

end Cert.Proof.PrepSpec

end
-- ==== Proof.PrepHost.lean ====
/- The arrays the preparation's launch finds: its weights, gains and rotary table laid out by the host, at an index, over
   the extended reals. -/
module

public import proofs.«01_k».proof.Proof.PrepSpec
public import proofs.«01_k».proof.Proof.Gen.Kernel4Ideal.Value
public import Idealize.ShloMosaic.Lib.Pointwise
public import Idealize.ShloMosaic.Lib.IdealHost
public import Idealize.ShloMosaic.Lib.StableHlo.Run
public import Idealize.ShloMosaic.Lib.Tactic.CleanTypes

@[expose] public section

set_option maxRecDepth 16384

noncomputable section

namespace Cert.Proof.Prep

open Idealize.ShloMosaic Idealize.ShloMosaic.TcCoe Idealize.ShloMosaic.StableHlo
open Cert.Kernel4Ideal Cert.Kernel4Ideal.Gen
open Cert.Proof.PrepSpec

/-- The eleven arguments as functions of their indices. -/
def argsOf (x : FVec Ideal S16x4096x1024 .f32) (ng : FVec Ideal S1024 .f32) (w : FVec Ideal S1024x2504 .f32) (aq ak : FVec Ideal S64 .f32)
    (ql : FVec Ideal S256 .f32) (kvl : FVec Ideal S128 .f32) (uq : FVec Ideal S256x576 .f32) (ukv : FVec Ideal S128x768 .f32)
    (mq mk : FVec Ideal S96 .f32) : Args where
  X b s k := x (ix3 b s k)
  ng k := ng (ix1 k)
  W d := ext fun n : Fin 2504 => w (ix2 d n)
  aq k := aq (ix1 k)
  ak k := ak (ix1 k)
  ql k := ql (ix1 k)
  kvl k := kvl (ix1 k)
  uq r := ext fun n : Fin 576 => uq (ix2 r n)
  ukv r := ext fun n : Fin 768 => ukv (ix2 r n)
  gq k := mq (ix1 k)
  gk k := mk (ix1 k)

/-! ## The laid out arrays, as functions of the arguments -/

section Layout

def wn (w : FVec Ideal S1024x2504 .f32) : FVec Ideal S1024x1280 .bf16 := truncf .bf16 (concatenate S1024x1280 1
  [⟨S1024x384, extractStridedSlice S1024x384 ![0, 808] w slices_S1024x2504_S1024x384_0_808⟩,
   ⟨S1024x256, extractStridedSlice S1024x256 ![0, 1448] w slices_S1024x2504_S1024x256_0_1448⟩,
   ⟨S1024x384, extractStridedSlice S1024x384 ![0, 2120] w slices_S1024x2504_S1024x384_0_2120⟩,
   ⟨S1024x256, extractStridedSlice S1024x256 ![0, 1192] w slices_S1024x2504_S1024x256_0_1192⟩]
  concatenates_S1024x384_S1024x256_S1024x384_S1024x256_S1024x1280_d1) bitsLt_bf16_f32

def wtRows (w : FVec Ideal S1024x2504 .f32) : FVec Ideal S1024x1232 .f32 := concatenate S1024x1232 1
  [⟨S1024x384, extractStridedSlice S1024x384 ![0, 0] w slices_S1024x2504_S1024x384_0_0⟩,
   ⟨S1024x64, extractStridedSlice S1024x64 ![0, 384] w slices_S1024x2504_S1024x64_0_384⟩,
   ⟨S1024x64, extractStridedSlice S1024x64 ![0, 448] w slices_S1024x2504_S1024x64_0_448⟩,
   ⟨S1024x256, extractStridedSlice S1024x256 ![0, 512] w slices_S1024x2504_S1024x256_0_512⟩,
   ⟨S1024x32, extractStridedSlice S1024x32 ![0, 768] w slices_S1024x2504_S1024x32_0_768⟩,
   ⟨S1024x256, extractStridedSlice S1024x256 ![0, 1704] w slices_S1024x2504_S1024x256_0_1704⟩,
   ⟨S1024x128, extractStridedSlice S1024x128 ![0, 1960] w slices_S1024x2504_S1024x128_0_1960⟩,
   ⟨S1024x32, extractStridedSlice S1024x32 ![0, 2088] w slices_S1024x2504_S1024x32_0_2088⟩,
   ⟨S1024x8, extractStridedSlice S1024x8 ![0, 800] w slices_S1024x2504_S1024x8_0_800⟩,
   ⟨S1024x8, broadcastInDim S1024x8 ![] bcast_S_S1024x8 (constant S_ .f32 0x00000000#32)⟩]
  concatenates_S1024x384_S1024x64_S1024x64_S1024x256_S1024x32_S1024x256_S1024x128_S1024x32_S1024x8_S1024x8_S1024x1232_d1

def wt (w : FVec Ideal S1024x2504 .f32) : FVec Ideal S1232x1024 .bf16 :=
  truncf .bf16 (transpose S1232x1024 [1, 0] (wtRows w) transposes_S1024x1232_S1232x1024_1_0) bitsLt_bf16_f32

def gains (aq ak : FVec Ideal S64 .f32) (ql : FVec Ideal S256 .f32) (kvl : FVec Ideal S128 .f32) (mq mk : FVec Ideal S96 .f32) : FVec Ideal S704x1 .f32 :=
  broadcastInDim S704x1 ![0] bcast_S704_S704x1_0 (concatenate S704 0
    [⟨S64, aq⟩, ⟨S64, ak⟩, ⟨S256, ql⟩, ⟨S128, kvl⟩, ⟨S96, mq⟩, ⟨S96, mk⟩] concatenates_S64_S64_S256_S128_S96_S96_S704_d0)

def wuq (uq : FVec Ideal S256x576 .f32) : FVec Ideal S768x256 .bf16 := truncf .bf16 (shapeCast S768x256 (pad S6x128x256 ![0, 0, 0] ![0, 32, 0] ![0, 0, 0]
  (shapeCast S6x96x256 (transpose S576x256 [1, 0] uq transposes_S256x576_S576x256_1_0) shapeCasts_S576x256_S6x96x256)
  (sitofp .f32 (constantI S_ 32 0#32)) pads_S6x96x256_S6x128x256_000_0320_000 h_S_) shapeCasts_S6x128x256_S768x256) bitsLt_bf16_f32

def wukv (ukv : FVec Ideal S128x768 .f32) : FVec Ideal S768x128 .bf16 :=
  truncf .bf16 (transpose S768x128 [1, 0] ukv transposes_S128x768_S768x128_1_0) bitsLt_bf16_f32

def ngRow (ng : FVec Ideal S1024 .f32) : FVec Ideal S1x1024 .f32 := broadcastInDim S1x1024 ![1] bcast_S1024_S1x1024_1 ng

/-- The angles of a head of 64 entries and of one of 32, a row per position. -/
def ang64 : FVec Ideal S4096x32 .f32 := mulf
  (broadcastInDim S4096x32 ![0, 1] bcast_S4096x1_S4096x32_0_1 (broadcastInDim S4096x1 ![0] bcast_S4096_S4096x1_0 (sitofp .f32 (iotaInDim S4096 32 0))))
  (broadcastInDim S4096x32 ![0, 1] bcast_S1x32_S4096x32_0_1 (broadcastInDim S1x32 ![1] bcast_S32_S1x32_1
    (Host.powf (broadcastInDim S32 ![] bcast_S_S32 (constant S_ .f32 0x461C4000#32))
      (Host.divf (mulf (Host.negf (sitofp .f32 (iotaInDim S32 32 0))) (broadcastInDim S32 ![] bcast_S_S32 (constant S_ .f32 0x40000000#32)))
        (broadcastInDim S32 ![] bcast_S_S32 (constant S_ .f32 0x42800000#32))))))
def ang32 : FVec Ideal S4096x16 .f32 := mulf
  (broadcastInDim S4096x16 ![0, 1] bcast_S4096x1_S4096x16_0_1 (broadcastInDim S4096x1 ![0] bcast_S4096_S4096x1_0 (sitofp .f32 (iotaInDim S4096 32 0))))
  (broadcastInDim S4096x16 ![0, 1] bcast_S1x16_S4096x16_0_1 (broadcastInDim S1x16 ![1] bcast_S16_S1x16_1
    (Host.powf (broadcastInDim S16 ![] bcast_S_S16 (constant S_ .f32 0x461C4000#32))
      (Host.divf (mulf (Host.negf (sitofp .f32 (iotaInDim S16 32 0))) (broadcastInDim S16 ![] bcast_S_S16 (constant S_ .f32 0x40000000#32)))
        (broadcastInDim S16 ![] bcast_S_S16 (constant S_ .f32 0x42000000#32))))))

def table : FVec Ideal S96x4096 .f32 := concatenate S96x4096 0
  [⟨S32x4096, transpose S32x4096 [1, 0] (Host.cos ang64) transposes_S4096x32_S32x4096_1_0⟩,
   ⟨S32x4096, transpose S32x4096 [1, 0] (Host.sin ang64) transposes_S4096x32_S32x4096_1_0⟩,
   ⟨S16x4096, transpose S16x4096 [1, 0] (Host.cos ang32) transposes_S4096x16_S16x4096_1_0⟩,
   ⟨S16x4096, transpose S16x4096 [1, 0] (Host.sin ang32) transposes_S4096x16_S16x4096_1_0⟩]
  concatenates_S32x4096_S32x4096_S16x4096_S16x4096_S96x4096_d0

end Layout

theorem iota_real (n : ℕ) (h : n < 2 ^ 31) : (FloatOps.sitofp .f32 (BitVec.ofNat 32 n) : Ideal .f32) = (((n : ℤ) : ℝ) : EReal) := by
  show ((((BitVec.ofNat 32 n).toInt : ℤ) : ℝ) : EReal) = _
  congr 2
  rw [BitVec.toInt_ofNat', Int.bmod_eq_of_le] <;> omega

theorem ang64_apply (s : Fin 4096) (i : Fin 32) : ang64 (ix2 s i) = ang s (Ideal.ofBits .f32 0x42800000#32) i.val := by
  pointwise [ang64]
  rw [iota_real _ (by omega), iota_real _ (by omega)]
  rfl
theorem ang32_apply (s : Fin 4096) (i : Fin 16) : ang32 (ix2 s i) = ang s (Ideal.ofBits .f32 0x42000000#32) i.val := by
  pointwise [ang32]
  rw [iota_real _ (by omega), iota_real _ (by omega)]
  rfl

theorem table_cosA (s : Fin 4096) (i : Fin 32) : table (ix2 ⟨i.val, by omega⟩ s) = cosA s i := by
  have := i.isLt
  pointwise [table]
  try rw [dif_pos (by omega)]
  rw [ang64_apply]
  exact congrArg Ideal.cos (congrArg (ang s _) (by omega))
theorem table_sinA (s : Fin 4096) (i : Fin 32) : table (ix2 ⟨32 + i.val, by omega⟩ s) = sinA s i := by
  have := i.isLt
  pointwise [table]
  repeat rw [dif_neg (by omega)]
  try rw [dif_pos (by omega)]
  rw [ang64_apply]
  exact congrArg Ideal.sin (congrArg (ang s _) (by omega))
theorem table_cosI (s : Fin 4096) (i : Fin 16) : table (ix2 ⟨64 + i.val, by omega⟩ s) = cosI s i := by
  have := i.isLt
  pointwise [table]
  repeat rw [dif_neg (by omega)]
  try rw [dif_pos (by omega)]
  rw [ang32_apply]
  exact congrArg Ideal.cos (congrArg (ang s _) (by dsimp only; omega))
theorem table_sinI (s : Fin 4096) (i : Fin 16) : table (ix2 ⟨80 + i.val, by omega⟩ s) = sinI s i := by
  have := i.isLt
  pointwise [table]
  repeat rw [dif_neg (by omega)]
  try rw [dif_pos (by omega)]
  rw [ang32_apply]
  exact congrArg Ideal.sin (congrArg (ang s _) (by dsimp only; omega))

section Gains

variable (aq ak : FVec Ideal S64 .f32) (ql : FVec Ideal S256 .f32) (kvl : FVec Ideal S128 .f32) (mq mk : FVec Ideal S96 .f32)

theorem gains_aq (k : Fin 64) : gains aq ak ql kvl mq mk (ix2 ⟨k.val, by omega⟩ 0) = aq (ix1 k) := by
  have := k.isLt
  pointwise [gains]
theorem gains_ak (k : Fin 64) : gains aq ak ql kvl mq mk (ix2 ⟨64 + k.val, by omega⟩ 0) = ak (ix1 k) := by
  have := k.isLt
  pointwise [gains]
theorem gains_ql (k : Fin 256) : gains aq ak ql kvl mq mk (ix2 ⟨128 + k.val, by omega⟩ 0) = ql (ix1 k) := by
  have := k.isLt
  pointwise [gains]
  repeat rw [dif_neg (by omega)]
  try rw [dif_pos (by omega)]
  exact congrArg ql (congrArg ix1 (Fin.ext (by dsimp only; omega)))
theorem gains_kvl (k : Fin 128) : gains aq ak ql kvl mq mk (ix2 ⟨384 + k.val, by omega⟩ 0) = kvl (ix1 k) := by
  have := k.isLt
  pointwise [gains]
  repeat rw [dif_neg (by omega)]
  try rw [dif_pos (by omega)]
  exact congrArg kvl (congrArg ix1 (Fin.ext (by dsimp only; omega)))
theorem gains_mq (k : Fin 96) : gains aq ak ql kvl mq mk (ix2 ⟨512 + k.val, by omega⟩ 0) = mq (ix1 k) := by
  have := k.isLt
  pointwise [gains]
  repeat rw [dif_neg (by omega)]
  try rw [dif_pos (by omega)]
  exact congrArg mq (congrArg ix1 (Fin.ext (by dsimp only; omega)))
theorem gains_mk (k : Fin 96) : gains aq ak ql kvl mq mk (ix2 ⟨608 + k.val, by omega⟩ 0) = mk (ix1 k) := by
  have := k.isLt
  pointwise [gains]
  repeat rw [dif_neg (by omega)]
  try rw [dif_pos (by omega)]
  exact congrArg mk (congrArg ix1 (Fin.ext (by dsimp only; omega)))

end Gains

theorem wukv_apply (ukv : FVec Ideal S128x768 .f32) (n : Fin 768) (r : Fin 128) : wukv ukv (ix2 n r) = ukv (ix2 r n) := by
  pointwise [wukv]
theorem ngRow_apply (ng : FVec Ideal S1024 .f32) (k : Fin 1024) : ngRow ng (ix2 0 k) = ng (ix1 k) := by
  pointwise [ngRow]
theorem wuq_apply (uq : FVec Ideal S256x576 .f32) (h : Fin 6) (k : Fin 96) (r : Fin 256) :
    wuq uq (ix2 ⟨128 * h.val + k.val, by omega⟩ r) = uq (ix2 r ⟨96 * h.val + k.val, by omega⟩) := by
  pointwise [wuq]
  rw [dif_pos (by omega)]
  exact congrArg uq (congrArg (ix2 r) (Fin.ext (by dsimp only; omega)))
theorem wn_apply (w : FVec Ideal S1024x2504 .f32) (d : Fin 1024) (n : Fin 1280) :
    wn w (ix2 d n) = w (ix2 d ⟨if n.val < 1024 then gateCol n.val else 168 + n.val, by unfold gateCol; split_ifs <;> omega⟩) := by
  pointwise [wn]
  split_ifs <;> exact congrArg w (congrArg (ix2 d) (Fin.ext (by dsimp only; unfold gateCol; split_ifs <;> omega)))
theorem wt_apply (w : FVec Ideal S1024x2504 .f32) (d : Fin 1024) (n : Fin 1232) (hn : n.val < 1224) :
    wt w (ix2 n d) = w (ix2 d ⟨if n.val < 800 then n.val else if n.val < 1216 then n.val + 904 else n.val - 416, by split_ifs <;> omega⟩) := by
  pointwise [wt, wtRows]
  split_ifs <;> first
    | exact congrArg w (congrArg (ix2 d) (Fin.ext (by dsimp only; split_ifs <;> omega)))
    | (exfalso; omega)

/-! ## The launch finds these -/

section Found

variable (m : (ℓ : Loc nD τ sig) → Buf (Elt Ideal) ℓ) (c : Dev nD)

abbrev arg0 : FVec Ideal S16x4096x1024 .f32 := m ((c : Thread nD τ).loc main_arg0)
abbrev arg1 : FVec Ideal S1024 .f32 := m ((c : Thread nD τ).loc main_arg1)
abbrev arg2 : FVec Ideal S1024x2504 .f32 := m ((c : Thread nD τ).loc main_arg2)
abbrev arg3 : FVec Ideal S64 .f32 := m ((c : Thread nD τ).loc main_arg3)
abbrev arg4 : FVec Ideal S64 .f32 := m ((c : Thread nD τ).loc main_arg4)
abbrev arg5 : FVec Ideal S256 .f32 := m ((c : Thread nD τ).loc main_arg5)
abbrev arg6 : FVec Ideal S128 .f32 := m ((c : Thread nD τ).loc main_arg6)
abbrev arg7 : FVec Ideal S256x576 .f32 := m ((c : Thread nD τ).loc main_arg7)
abbrev arg8 : FVec Ideal S128x768 .f32 := m ((c : Thread nD τ).loc main_arg8)
abbrev arg9 : FVec Ideal S96 .f32 := m ((c : Thread nD τ).loc main_arg9)
abbrev arg10 : FVec Ideal S96 .f32 := m ((c : Thread nD τ).loc main_arg10)

/-- The launch's arguments. -/
abbrev args : Args := argsOf (arg0 m c) (arg1 m c) (arg2 m c) (arg3 m c) (arg4 m c) (arg5 m c) (arg6 m c) (arg7 m c) (arg8 m c) (arg9 m c) (arg10 m c)

set_option maxHeartbeats 2000000 in
theorem V_v28 : V m c main_v28 = ngRow (arg1 m c) := by
  show StableHlo.after (List.flatten [hostOps0, hostOps0_1, hostOps0_2]) (fun b => m (c, b)) _ = _
  simp only [hostOps0, hostOps0_1, hostOps0_2, TRef.binary, TRef.nullary, TRef.ternary, TRef.unary, TRef.toBuf, TRef.ofBuf, cast_eq, List.flatten_cons, List.flatten_nil, List.append_nil, List.cons_append, List.nil_append]
  after_results_simp <;> (try dsimp only [Matrix.cons_val]) <;> (try after_results_simp) <;> rfl

set_option maxHeartbeats 2000000 in
theorem V_v14 : V m c main_v14 = wn (arg2 m c) := by
  show StableHlo.after (List.flatten [hostOps0, hostOps0_1, hostOps0_2]) (fun b => m (c, b)) _ = _
  simp only [hostOps0, hostOps0_1, hostOps0_2, TRef.binary, TRef.nullary, TRef.ternary, TRef.unary, TRef.toBuf, TRef.ofBuf, cast_eq, List.flatten_cons, List.flatten_nil, List.append_nil, List.cons_append, List.nil_append]
  after_results_simp <;> (try dsimp only [Matrix.cons_val]) <;> (try after_results_simp) <;> rfl

set_option maxHeartbeats 2000000 in
theorem V_v18 : V m c main_v18 = wt (arg2 m c) := by
  show StableHlo.after (List.flatten [hostOps0, hostOps0_1, hostOps0_2]) (fun b => m (c, b)) _ = _
  simp only [hostOps0, hostOps0_1, hostOps0_2, TRef.binary, TRef.nullary, TRef.ternary, TRef.unary, TRef.toBuf, TRef.ofBuf, cast_eq, List.flatten_cons, List.flatten_nil, List.append_nil, List.cons_append, List.nil_append]
  after_results_simp <;> (try dsimp only [Matrix.cons_val]) <;> (try after_results_simp) <;> rfl

set_option maxHeartbeats 2000000 in
theorem V_v20 : V m c main_v20 = gains (arg3 m c) (arg4 m c) (arg5 m c) (arg6 m c) (arg9 m c) (arg10 m c) := by
  show StableHlo.after (List.flatten [hostOps0, hostOps0_1, hostOps0_2]) (fun b => m (c, b)) _ = _
  simp only [hostOps0, hostOps0_1, hostOps0_2, TRef.binary, TRef.nullary, TRef.ternary, TRef.unary, TRef.toBuf, TRef.ofBuf, cast_eq, List.flatten_cons, List.flatten_nil, List.append_nil, List.cons_append, List.nil_append]
  after_results_simp <;> (try dsimp only [Matrix.cons_val]) <;> (try after_results_simp) <;> rfl

set_option maxHeartbeats 2000000 in
theorem V_v65 : V m c main_v65 = table := by
  show StableHlo.after (List.flatten [hostOps0, hostOps0_1, hostOps0_2]) (fun b => m (c, b)) _ = _
  simp only [hostOps0, hostOps0_1, hostOps0_2, TRef.binary, TRef.nullary, TRef.ternary, TRef.unary, TRef.toBuf, TRef.ofBuf, cast_eq, List.flatten_cons, List.flatten_nil, List.append_nil, List.cons_append, List.nil_append]
  after_results_simp <;> (try dsimp only [Matrix.cons_val]) <;> (try after_results_simp) <;> rfl

set_option maxHeartbeats 2000000 in
theorem V_v25 : V m c main_v25 = wuq (arg7 m c) := by
  show StableHlo.after (List.flatten [hostOps0, hostOps0_1, hostOps0_2]) (fun b => m (c, b)) _ = _
  simp only [hostOps0, hostOps0_1, hostOps0_2, TRef.binary, TRef.nullary, TRef.ternary, TRef.unary, TRef.toBuf, TRef.ofBuf, cast_eq, List.flatten_cons, List.flatten_nil, List.append_nil, List.cons_append, List.nil_append]
  after_results_simp <;> (try dsimp only [Matrix.cons_val]) <;> (try after_results_simp) <;> rfl

set_option maxHeartbeats 2000000 in
theorem V_v27 : V m c main_v27 = wukv (arg8 m c) := by
  show StableHlo.after (List.flatten [hostOps0, hostOps0_1, hostOps0_2]) (fun b => m (c, b)) _ = _
  simp only [hostOps0, hostOps0_1, hostOps0_2, TRef.binary, TRef.nullary, TRef.ternary, TRef.unary, TRef.toBuf, TRef.ofBuf, cast_eq, List.flatten_cons, List.flatten_nil, List.append_nil, List.cons_append, List.nil_append]
  after_results_simp <;> (try dsimp only [Matrix.cons_val]) <;> (try after_results_simp) <;> rfl

end Found

end Cert.Proof.Prep

end
-- ==== Proof.PrepRef.lean ====
/- The reference of the preparation at an index, over the extended reals: the projection, the normed rows and the angles. -/
module

public import proofs.«01_k».proof.Proof.PrepHost
public import proofs.«01_k».proof.Proof.Gen.Reference4Ideal.Run

@[expose] public section

set_option maxRecDepth 16384

noncomputable section

namespace Cert.Proof.PrepRef

open Idealize.ShloMosaic Idealize.ShloMosaic.TcCoe
open Cert.Reference4Ideal Cert.Reference4Ideal.Gen Cert.Reference4Ideal.Value
open Cert.Proof.PrepMath Cert.Proof.PrepSpec
open Cert.Proof.Prep (iota_real argsOf)

variable (V : Valuation τ sig (Elt Ideal))

abbrev arg0 : FVec Ideal S16x4096x1024 .f32 := V (Proc.devRef .tc main_arg0)
abbrev arg1 : FVec Ideal S1024 .f32 := V (Proc.devRef .tc main_arg1)
abbrev arg2 : FVec Ideal S1024x2504 .f32 := V (Proc.devRef .tc main_arg2)
abbrev arg3 : FVec Ideal S64 .f32 := V (Proc.devRef .tc main_arg3)
abbrev arg4 : FVec Ideal S64 .f32 := V (Proc.devRef .tc main_arg4)
abbrev arg5 : FVec Ideal S256 .f32 := V (Proc.devRef .tc main_arg5)
abbrev arg6 : FVec Ideal S128 .f32 := V (Proc.devRef .tc main_arg6)
abbrev arg7 : FVec Ideal S256x576 .f32 := V (Proc.devRef .tc main_arg7)
abbrev arg8 : FVec Ideal S128x768 .f32 := V (Proc.devRef .tc main_arg8)
abbrev arg9 : FVec Ideal S96 .f32 := V (Proc.devRef .tc main_arg9)
abbrev arg10 : FVec Ideal S96 .f32 := V (Proc.devRef .tc main_arg10)

/-- The eleven arguments. -/
abbrev args : Args := argsOf (arg0 V) (arg1 V) (arg2 V) (arg3 V) (arg4 V) (arg5 V) (arg6 V) (arg7 V) (arg8 V) (arg9 V) (arg10 V)

theorem args_W (d : Fin 1024) (n : Fin 2504) : (args V).W d n.val = arg2 V (ix2 d n) := ext_of_lt (fun n : Fin 2504 => arg2 V (ix2 d n)) _ n.isLt
theorem args_uq (d : Fin 256) (n : Fin 576) : (args V).uq d n.val = arg7 V (ix2 d n) := ext_of_lt (fun n : Fin 576 => arg7 V (ix2 d n)) _ n.isLt
theorem args_ukv (d : Fin 128) (n : Fin 768) : (args V).ukv d n.val = arg8 V (ix2 d n) := ext_of_lt (fun n : Fin 768 => arg8 V (ix2 d n)) _ n.isLt

/-! ## The projection -/

theorem v14_apply (b : Fin 16) (s : Fin 4096) (n : Fin 2504) : res_main_v14 V (ix3 b s n) = pr (args V) b s n.val := by
  unfold pr tok
  simp only [args_W]
  pointwise [res_main_v14, rms]
  rfl

theorem v14_at (b : Fin 16) (s : Fin 4096) (n : Fin 2504) (v : ℕ) (h : n.val = v) : res_main_v14 V (ix3 b s n) = pr (args V) b s v :=
  (v14_apply V b s n).trans (congrArg (pr (args V) b s) h)

theorem v24_apply (b : Fin 16) (s : Fin 4096) (k : Fin 256) : res_main_v24 V (ix3 b s k) = pr (args V) b s (1704 + k.val) := by
  refine Eq.trans ?_ (v14_apply V b s ⟨1704 + k.val, by omega⟩)
  pointwise [res_main_v24]
theorem v25_apply (b : Fin 16) (s : Fin 4096) (k : Fin 128) : res_main_v25 V (ix3 b s k) = pr (args V) b s (1960 + k.val) := by
  refine Eq.trans ?_ (v14_apply V b s ⟨1960 + k.val, by omega⟩)
  pointwise [res_main_v25]
theorem v28_apply (b : Fin 16) (s : Fin 4096) (h : Fin 6) (k : Fin 64) : res_main_v28 V (ix4 b s h k) = pr (args V) b s (64 * h.val + k.val) := by
  refine Eq.trans ?_ (v14_apply V b s ⟨64 * h.val + k.val, by omega⟩)
  pointwise [res_main_v28]
  exact congrArg (fun x => res_main_v14 V (ix3 b s x)) (Fin.ext (by dsimp only; omega))
theorem v77_apply (b : Fin 16) (s : Fin 4096) (k : Fin 64) : res_main_v77 V (ix4 b s 0 k) = pr (args V) b s (384 + k.val) := by
  refine Eq.trans ?_ (v14_apply V b s ⟨384 + k.val, by omega⟩)
  pointwise [res_main_v77]
theorem v127_apply (b : Fin 16) (s : Fin 4096) (h : Fin 8) (k : Fin 32) : res_main_v127 V (ix4 b s h k) = pr (args V) b s (512 + 32 * h.val + k.val) := by
  refine Eq.trans ?_ (v14_apply V b s ⟨512 + 32 * h.val + k.val, by omega⟩)
  pointwise [res_main_v127]
  exact congrArg (fun x => res_main_v14 V (ix3 b s x)) (Fin.ext (by dsimp only; omega))
theorem v163_apply (b : Fin 16) (s : Fin 4096) (k : Fin 32) : res_main_v163 V (ix4 b s 0 k) = pr (args V) b s (768 + k.val) := by
  refine Eq.trans ?_ (v14_apply V b s ⟨768 + k.val, by omega⟩)
  pointwise [res_main_v163]

/-! ## The normed rows -/

theorem v41_apply (b : Fin 16) (s : Fin 4096) (h : Fin 6) (j : Fin 64) : res_main_v41 V (ix4 b s h j)
    = rms (Ideal.ofBits .f32 0x42800000#32) (fun k : Fin 64 => pr (args V) b s (64 * h.val + k.val)) (args V).aq j := by
  simp only [← v28_apply]
  pointwise [res_main_v41, rms]
  rfl
theorem v90_apply (b : Fin 16) (s : Fin 4096) (j : Fin 64) : res_main_v90 V (ix4 b s 0 j)
    = rms (Ideal.ofBits .f32 0x42800000#32) (fun k : Fin 64 => pr (args V) b s (384 + k.val)) (args V).ak j := by
  simp only [← v77_apply]
  pointwise [res_main_v90, rms]
  rfl
theorem v216_apply (b : Fin 16) (s : Fin 4096) (h : Fin 6) (k : Fin 96) : res_main_v216 V (ix4 b s h k) = upQ (args V) b s (96 * h.val + k.val) := by
  unfold upQ latQ
  have e (r : Fin 256) : (args V).uq r (96 * h.val + k.val) = arg7 V (ix2 r ⟨h.val * 96 + k.val, by omega⟩) :=
    (congrArg ((args V).uq r) (by dsimp only; omega)).trans (args_uq V r ⟨h.val * 96 + k.val, by omega⟩)
  simp only [e, ← v24_apply]
  pointwise [res_main_v216, rms]
  rfl
theorem v231_apply (b : Fin 16) (s : Fin 4096) (h : Fin 6) (k : Fin 128) : res_main_v231 V (ix4 b s h k) = upKv (args V) b s (128 * h.val + k.val) := by
  unfold upKv latKv
  have e (r : Fin 128) : (args V).ukv r (128 * h.val + k.val) = arg8 V (ix2 r ⟨h.val * 128 + k.val, by omega⟩) :=
    (congrArg ((args V).ukv r) (by dsimp only; omega)).trans (args_ukv V r ⟨h.val * 128 + k.val, by omega⟩)
  simp only [e, ← v25_apply]
  pointwise [res_main_v231, rms]
  rfl
theorem v249_apply (b : Fin 16) (s : Fin 4096) (h : Fin 6) (j : Fin 96) : res_main_v249 V (ix4 b s h j) = normQ (args V) b s h.val j := by
  unfold normQ
  simp only [← v216_apply]
  pointwise [res_main_v249, rms]
  rfl

/-- A latent key's 96 entries before the norm. -/
def catK (A : Args) (b : Fin 16) (s : Fin 4096) (h : ℕ) (k : Fin 96) : EReal :=
  if k.val < 64 then upKv A b s (128 * h + k.val) else pr A b s (2088 + (k.val - 64))

theorem v236_apply (b : Fin 16) (s : Fin 4096) (h : Fin 6) (k : Fin 96) : res_main_v236 V (ix4 b s h k) = catK (args V) b s h.val k := by
  unfold catK
  by_cases hk : k.val < 64
  · rw [if_pos hk]
    refine Eq.trans ?_ (v231_apply V b s h ⟨k.val, by omega⟩)
    pointwise [res_main_v236]
    rw [dif_pos hk]
  · rw [if_neg hk]
    refine Eq.trans ?_ (v14_apply V b s ⟨2088 + (k.val - 64), by omega⟩)
    pointwise [res_main_v236]
    rw [dif_neg hk]
theorem v262_apply (b : Fin 16) (s : Fin 4096) (h : Fin 6) (j : Fin 96) : res_main_v262 V (ix4 b s h j)
    = rms (Ideal.ofBits .f32 0x42C00000#32) (catK (args V) b s h.val) (args V).gk j := by
  have e : catK (args V) b s h.val = fun k => res_main_v236 V (ix4 b s h k) := funext fun k => (v236_apply V b s h k).symm
  rw [e]
  pointwise [res_main_v262, rms]
  rfl

/-! ## The angles -/

theorem v55_apply (s : Fin 4096) (i : Fin 32) : res_main_v55 V (ix2 s i) = ang s (Ideal.ofBits .f32 0x42800000#32) i.val := by
  pointwise [res_main_v55, res_main_v0]
  rw [iota_real _ (by omega), iota_real _ (by omega)]
  rfl
theorem v104_apply (s : Fin 4096) (i : Fin 32) : res_main_v104 V (ix2 s i) = ang s (Ideal.ofBits .f32 0x42800000#32) i.val := by
  pointwise [res_main_v104, res_main_v0]
  rw [iota_real _ (by omega), iota_real _ (by omega)]
  rfl
theorem v141_apply (s : Fin 4096) (i : Fin 16) : res_main_v141 V (ix2 s i) = ang s (Ideal.ofBits .f32 0x42000000#32) i.val := by
  pointwise [res_main_v141, res_main_v0]
  rw [iota_real _ (by omega), iota_real _ (by omega)]
  rfl
theorem v177_apply (s : Fin 4096) (i : Fin 16) : res_main_v177 V (ix2 s i) = ang s (Ideal.ofBits .f32 0x42000000#32) i.val := by
  pointwise [res_main_v177, res_main_v0]
  rw [iota_real _ (by omega), iota_real _ (by omega)]
  rfl
theorem v278_apply (s : Fin 4096) (i : Fin 16) : res_main_v278 V (ix2 s i) = ang s (Ideal.ofBits .f32 0x42000000#32) i.val := by
  pointwise [res_main_v278, res_main_v0]
  rw [iota_real _ (by omega), iota_real _ (by omega)]
  rfl
theorem v316_apply (s : Fin 4096) (i : Fin 16) : res_main_v316 V (ix2 s i) = ang s (Ideal.ofBits .f32 0x42000000#32) i.val := by
  pointwise [res_main_v316, res_main_v0]
  rw [iota_real _ (by omega), iota_real _ (by omega)]
  rfl
theorem v57_apply (s : Fin 4096) (i : Fin 32) : res_main_v57 V (ix3 s 0 i) = cosA s i := by
  unfold cosA
  rw [← v55_apply V s i]
  pointwise [res_main_v57]
theorem v59_apply (s : Fin 4096) (i : Fin 32) : res_main_v59 V (ix3 s 0 i) = sinA s i := by
  unfold sinA
  rw [← v55_apply V s i]
  pointwise [res_main_v59]
theorem v106_apply (s : Fin 4096) (i : Fin 32) : res_main_v106 V (ix3 s 0 i) = cosA s i := by
  unfold cosA
  rw [← v104_apply V s i]
  pointwise [res_main_v106]
theorem v108_apply (s : Fin 4096) (i : Fin 32) : res_main_v108 V (ix3 s 0 i) = sinA s i := by
  unfold sinA
  rw [← v104_apply V s i]
  pointwise [res_main_v108]
theorem v143_apply (s : Fin 4096) (i : Fin 16) : res_main_v143 V (ix3 s 0 i) = cosI s i := by
  unfold cosI
  rw [← v141_apply V s i]
  pointwise [res_main_v143]
theorem v145_apply (s : Fin 4096) (i : Fin 16) : res_main_v145 V (ix3 s 0 i) = sinI s i := by
  unfold sinI
  rw [← v141_apply V s i]
  pointwise [res_main_v145]
theorem v179_apply (s : Fin 4096) (i : Fin 16) : res_main_v179 V (ix3 s 0 i) = cosI s i := by
  unfold cosI
  rw [← v177_apply V s i]
  pointwise [res_main_v179]
theorem v181_apply (s : Fin 4096) (i : Fin 16) : res_main_v181 V (ix3 s 0 i) = sinI s i := by
  unfold sinI
  rw [← v177_apply V s i]
  pointwise [res_main_v181]
theorem v280_apply (s : Fin 4096) (i : Fin 16) : res_main_v280 V (ix3 s 0 i) = cosI s i := by
  unfold cosI
  rw [← v278_apply V s i]
  pointwise [res_main_v280]
theorem v282_apply (s : Fin 4096) (i : Fin 16) : res_main_v282 V (ix3 s 0 i) = sinI s i := by
  unfold sinI
  rw [← v278_apply V s i]
  pointwise [res_main_v282]
theorem v318_apply (s : Fin 4096) (i : Fin 16) : res_main_v318 V (ix3 s 0 i) = cosI s i := by
  unfold cosI
  rw [← v316_apply V s i]
  pointwise [res_main_v318]
theorem v320_apply (s : Fin 4096) (i : Fin 16) : res_main_v320 V (ix3 s 0 i) = sinI s i := by
  unfold sinI
  rw [← v316_apply V s i]
  pointwise [res_main_v320]

end Cert.Proof.PrepRef

end
-- ==== Proof.PrepVec.lean ====
/- What the preparation kernel's body computes for one head, named as whole-vector operations, and that every store of the
   body is one of them: the stores of the heads differ in the rows they read and in nothing else. -/
module

public import proofs.«01_k».proof.Proof.PrepMath
public import proofs.«01_k».proof.Proof.Gen.Kernel4Ideal.Value
public import Idealize.ShloMosaic.Lib.Pointwise
public import Idealize.ShloMosaic.Lib.ValueIdx
public import Idealize.ShloMosaic.Lib.Pipeline.ValueKit.Basic
public import Idealize.ShloMosaic.Lib.Pipeline.ValueKit.Tiles

@[expose] public section

set_option maxRecDepth 16384

noncomputable section

namespace Cert.Proof.Prep

open Idealize.ShloMosaic Idealize.ShloMosaic.TcCoe
open Cert.Kernel4Ideal Cert.Kernel4Ideal.Gen
open Cert.Proof.PrepMath

/-- The norm of 64 rows down every column. -/
def norm64 (x : FVec Ideal S64x512 .f32) (g : FVec Ideal S64x1 .f32) : FVec Ideal S64x512 .f32 :=
  mulf (mulf x (broadcastTo S64x512 (rsqrt (addf (divf (shapeCast S1x512
    (multiReduction .add [0] S512 (mulf x x) 0x00000000#32 reduces_S64x512_S512 (.inl rfl) rfl) shapeCasts_S512_S1x512)
      (broadcast S1x512 (Scalar.ofBits .f32 0x42800000#32))) (broadcast S1x512 (Scalar.ofBits .f32 0x358637BD#32))))
      broadcasts_S1x512_S64x512)) (broadcastTo S64x512 g broadcasts_S64x1_S64x512)

/-- The norm of 96 rows down every column. -/
def norm96 (x : FVec Ideal S96x512 .f32) (g : FVec Ideal S96x1 .f32) : FVec Ideal S96x512 .f32 :=
  mulf (mulf x (broadcastTo S96x512 (rsqrt (addf (divf (shapeCast S1x512
    (multiReduction .add [0] S512 (mulf x x) 0x00000000#32 reduces_S96x512_S512 (.inl rfl) rfl) shapeCasts_S512_S1x512)
      (broadcast S1x512 (Scalar.ofBits .f32 0x42C00000#32))) (broadcast S1x512 (Scalar.ofBits .f32 0x358637BD#32))))
      broadcasts_S1x512_S96x512)) (broadcastTo S96x512 g broadcasts_S96x1_S96x512)

/-- The rotary position of 64 rows. -/
def rot64 (x : FVec Ideal S64x512 .f32) (c s : FVec Ideal S32x512 .f32) : FVec Ideal S64x512 .f32 :=
  concatenate S64x512 0
    [⟨S32x512, subf (mulf (extractStridedSlice S32x512 ![0, 0] x slices_S64x512_o0_0_S32x512) c)
        (mulf (extractStridedSlice S32x512 ![32, 0] x slices_S64x512_o32_0_S32x512) s)⟩,
     ⟨S32x512, addf (mulf (extractStridedSlice S32x512 ![32, 0] x slices_S64x512_o32_0_S32x512) c)
        (mulf (extractStridedSlice S32x512 ![0, 0] x slices_S64x512_o0_0_S32x512) s)⟩]
    concatenates_S32x512_S32x512_S64x512_d0

/-- The rotary position of 32 rows. -/
def rot32 (x : FVec Ideal S32x512 .f32) (c s : FVec Ideal S16x512 .f32) : FVec Ideal S32x512 .f32 :=
  concatenate S32x512 0
    [⟨S16x512, subf (mulf (extractStridedSlice S16x512 ![0, 0] x slices_S32x512_o0_0_S16x512) c)
        (mulf (extractStridedSlice S16x512 ![16, 0] x slices_S32x512_o16_0_S16x512) s)⟩,
     ⟨S16x512, addf (mulf (extractStridedSlice S16x512 ![16, 0] x slices_S32x512_o16_0_S16x512) c)
        (mulf (extractStridedSlice S16x512 ![0, 0] x slices_S32x512_o0_0_S16x512) s)⟩]
    concatenates_S16x512_S16x512_S32x512_d0

/-- A head of the sparse attention's queries. -/
def headA (x : FVec Ideal S64x512 .f32) (g : FVec Ideal S64x1 .f32) (c s : FVec Ideal S32x512 .f32) : FVec Ideal S1x64x512 .bf16 :=
  shapeCast S1x64x512 (truncf .bf16 (mulf (rot64 (norm64 x g) c s) (broadcast S64x512 (Named.named κ "scale_a" 0x3E38AA3B#32)))
    bitsLt_bf16_f32) shapeCasts_S64x512_S1x64x512

/-- The sparse attention's keys, a row per position. -/
def keyA (x : FVec Ideal S64x512 .f32) (g : FVec Ideal S64x1 .f32) (c s : FVec Ideal S32x512 .f32) : FVec Ideal S1x512x64 .bf16 :=
  shapeCast S1x512x64 (truncf .bf16 (extractStridedSlice S512x64 ![0, 0] (transpose S512x128 [1, 0]
    (concatenate S128x512 0 [⟨S64x512, rot64 (norm64 x g) c s⟩, ⟨S64x512, broadcast S64x512 (Scalar.ofBits .f32 0x00000000#32)⟩]
      concatenates_S64x512_S64x512_S128x512_d0) transposes_S128x512_p1_0_S512x128) slices_S512x128_o0_0_S512x64)
    bitsLt_bf16_f32) shapeCasts_S512x64_S1x512x64

/-- A head of the indexer's queries. -/
def headI (x : FVec Ideal S32x512 .f32) (c s : FVec Ideal S16x512 .f32) : FVec Ideal S1x32x512 .bf16 :=
  shapeCast S1x32x512 (truncf .bf16 (rot32 x c s) bitsLt_bf16_f32) shapeCasts_S32x512_S1x32x512

/-- The indexer's keys, a row per position. -/
def keyI (x : FVec Ideal S32x512 .f32) (c s : FVec Ideal S16x512 .f32) : FVec Ideal S1x512x32 .bf16 :=
  shapeCast S1x512x32 (truncf .bf16 (extractStridedSlice S512x32 ![0, 0] (transpose S512x128 [1, 0]
    (concatenate S128x512 0 [⟨S32x512, rot32 x c s⟩, ⟨S96x512, broadcast S96x512 (Scalar.ofBits .f32 0x00000000#32)⟩]
      concatenates_S32x512_S96x512_S128x512_d0) transposes_S128x512_p1_0_S512x128) slices_S512x128_o0_0_S512x32)
    bitsLt_bf16_f32) shapeCasts_S512x32_S1x512x32

/-- A head of 64 rows, 32 rotary rows and 32 rows of zeros. -/
def side (a : FVec Ideal S64x512 .f32) (b : FVec Ideal S32x512 .f32) (c s : FVec Ideal S16x512 .f32) : FVec Ideal S128x512 .f32 :=
  concatenate S128x512 0 [⟨S64x512, a⟩, ⟨S32x512, rot32 b c s⟩, ⟨S32x512, broadcast S32x512 (Scalar.ofBits .f32 0x00000000#32)⟩]
    concatenates_S64x512_S32x512_S32x512_S128x512_d0

/-- A head of the latent attention's queries. -/
def headC (x : FVec Ideal S96x512 .f32) (g : FVec Ideal S96x1 .f32) (c s : FVec Ideal S16x512 .f32) : FVec Ideal S1x128x512 .bf16 :=
  shapeCast S1x128x512 (truncf .bf16 (mulf (side
      (extractStridedSlice S64x512 ![0, 0] (norm96 x g) slices_S96x512_o0_0_S64x512)
      (extractStridedSlice S32x512 ![64, 0] (norm96 x g) slices_S96x512_o64_0_S32x512) c s)
    (broadcast S128x512 (Named.named κ "scale_c" 0x3E16C740#32))) bitsLt_bf16_f32) shapeCasts_S128x512_S1x128x512

/-- The norm's factor of a latent key head, from its 64 rows and the sum of squares of the 32 shared rows. -/
def factorK (n : FVec Ideal S64x512 .f32) (e : FVec Ideal S1x512 .f32) : FVec Ideal S1x512 .f32 :=
  rsqrt (addf (mulf (addf (shapeCast S1x512
    (multiReduction .add [0] S512 (mulf n n) 0x00000000#32 reduces_S64x512_S512 (.inl rfl) rfl) shapeCasts_S512_S1x512) e)
      (broadcast S1x512 (Named.named κ "inv_qk" 0x3C2AAAAB#32))) (broadcast S1x512 (Scalar.ofBits .f32 0x358637BD#32)))

/-- A head of the latent attention's keys, a row per position. -/
def headK (n : FVec Ideal S64x512 .f32) (p : FVec Ideal S32x512 .f32) (e : FVec Ideal S1x512 .f32) (g : FVec Ideal S96x1 .f32)
    (c s : FVec Ideal S16x512 .f32) : FVec Ideal S1x1x512x128 .bf16 :=
  shapeCast S1x1x512x128 (truncf .bf16 (transpose S512x128 [1, 0] (side
      (mulf (mulf n (broadcastTo S64x512 (factorK n e) broadcasts_S1x512_S64x512))
        (broadcastTo S64x512 (extractStridedSlice S64x1 ![0, 0] g slices_S96x1_o0_0_S64x1) broadcasts_S64x1_S64x512))
      (mulf (mulf p (broadcastTo S32x512 (factorK n e) broadcasts_S1x512_S32x512))
        (broadcastTo S32x512 (extractStridedSlice S32x1 ![64, 0] g slices_S96x1_o64_0_S32x1) broadcasts_S32x1_S32x512)) c s)
    transposes_S128x512_p1_0_S512x128) bitsLt_bf16_f32) shapeCasts_S512x128_S1x1x512x128

/-- A head of the latent attention's values. -/
def headV (x : FVec Ideal S64x512 .f32) : FVec Ideal S1x64x512 .bf16 :=
  shapeCast S1x64x512 (truncf .bf16 x bitsLt_bf16_f32) shapeCasts_S64x512_S1x64x512

/-! ## The stores, one by one -/

theorem store10_5 (c : FVec Ideal S32x512 .f32) (s : FVec Ideal S32x512 .f32) (pa : FVec Ideal S512x512 .f32) (g : FVec Ideal S64x1 .f32) :
    k0_pay25 c s pa g = headA (extractStridedSlice S64x512 ![320, 0] pa slices_S512x512_o320_0_S64x512) g c s := rfl

theorem store10_4 (c : FVec Ideal S32x512 .f32) (s : FVec Ideal S32x512 .f32) (pa : FVec Ideal S512x512 .f32) (g : FVec Ideal S64x1 .f32) :
    k0_pay24 (k0_pay21 c s pa g) (k0_pay22 c pa g) (k0_pay23 s pa g) = headA (extractStridedSlice S64x512 ![256, 0] pa slices_S512x512_o256_0_S64x512) g c s := rfl

theorem store10_3 (c : FVec Ideal S32x512 .f32) (s : FVec Ideal S32x512 .f32) (pa : FVec Ideal S512x512 .f32) (g : FVec Ideal S64x1 .f32) :
    k0_pay17 c s pa g = headA (extractStridedSlice S64x512 ![192, 0] pa slices_S512x512_o192_0_S64x512) g c s := rfl

theorem store10_2 (c : FVec Ideal S32x512 .f32) (s : FVec Ideal S32x512 .f32) (pa : FVec Ideal S512x512 .f32) (g : FVec Ideal S64x1 .f32) :
    k0_pay16 c s pa g = headA (extractStridedSlice S64x512 ![128, 0] pa slices_S512x512_o128_0_S64x512) g c s := rfl

theorem store10_1 (h : FVec Ideal S512x1024 .bf16) (c : FVec Ideal S32x512 .f32) (s : FVec Ideal S32x512 .f32) (g : FVec Ideal S64x1 .f32) (wa : Vec Ideal S512x1024 .bf16) :
    k0_pay15 c s g (k0_pay13 h wa) (k0_pay14 h wa) = headA (extractStridedSlice S64x512 ![64, 0] (k0_pay10 h wa) slices_S512x512_o64_0_S64x512) g c s := rfl

theorem store10_0 (h : FVec Ideal S512x1024 .bf16) (c : FVec Ideal S32x512 .f32) (s : FVec Ideal S32x512 .f32) (wa : Vec Ideal S512x1024 .bf16) (ga : Vec Ideal S64x1 .f32) :
    k0_pay12 h c s wa ga = headA (extractStridedSlice S64x512 ![0, 0] (k0_pay10 h wa) slices_S512x512_o0_0_S64x512) (k0_pay11 ga) c s := rfl

theorem store11_0 (c : FVec Ideal S32x512 .f32) (s : FVec Ideal S32x512 .f32) (pa : FVec Ideal S512x512 .f32) (ga : Vec Ideal S64x1 .f32) :
    k0_pay30 c s (k0_pay26 pa) (k0_pay27 ga) (k0_pay28 pa) (k0_pay29 (F := Ideal)) = keyA (extractStridedSlice S64x512 ![384, 0] pa slices_S512x512_o384_0_S64x512) (k0_pay27 ga) c s := rfl

theorem store13_7 (c' : FVec Ideal S16x512 .f32) (s' : FVec Ideal S16x512 .f32) (pb : FVec Ideal S288x512 .f32) :
    k0_pay49 (k0_pay46 c' s' pb) (k0_pay47 c' pb) (k0_pay48 s' pb) = headI (extractStridedSlice S32x512 ![224, 0] pb slices_S288x512_o224_0_S32x512) c' s' := rfl

theorem store13_6 (c' : FVec Ideal S16x512 .f32) (s' : FVec Ideal S16x512 .f32) (pb : FVec Ideal S288x512 .f32) :
    k0_pay42 c' s' pb = headI (extractStridedSlice S32x512 ![192, 0] pb slices_S288x512_o192_0_S32x512) c' s' := rfl

theorem store13_5 (c' : FVec Ideal S16x512 .f32) (s' : FVec Ideal S16x512 .f32) (pb : FVec Ideal S288x512 .f32) :
    k0_pay41 c' s' pb = headI (extractStridedSlice S32x512 ![160, 0] pb slices_S288x512_o160_0_S32x512) c' s' := rfl

theorem store13_4 (c' : FVec Ideal S16x512 .f32) (s' : FVec Ideal S16x512 .f32) (pb : FVec Ideal S288x512 .f32) :
    k0_pay40 c' s' (k0_pay38 pb) (k0_pay39 pb) = headI (extractStridedSlice S32x512 ![128, 0] pb slices_S288x512_o128_0_S32x512) c' s' := rfl

theorem store13_3 (c' : FVec Ideal S16x512 .f32) (s' : FVec Ideal S16x512 .f32) (pb : FVec Ideal S288x512 .f32) :
    k0_pay37 c' s' pb = headI (extractStridedSlice S32x512 ![96, 0] pb slices_S288x512_o96_0_S32x512) c' s' := rfl

theorem store13_2 (c' : FVec Ideal S16x512 .f32) (s' : FVec Ideal S16x512 .f32) (pb : FVec Ideal S288x512 .f32) :
    k0_pay36 c' s' pb = headI (extractStridedSlice S32x512 ![64, 0] pb slices_S288x512_o64_0_S32x512) c' s' := rfl

theorem store13_1 (c' : FVec Ideal S16x512 .f32) (s' : FVec Ideal S16x512 .f32) (pb : FVec Ideal S288x512 .f32) :
    k0_pay35 c' s' pb = headI (extractStridedSlice S32x512 ![32, 0] pb slices_S288x512_o32_0_S32x512) c' s' := rfl

theorem store13_0 (h : FVec Ideal S512x1024 .bf16) (c' : FVec Ideal S16x512 .f32) (s' : FVec Ideal S16x512 .f32) (wb : Vec Ideal S288x1024 .bf16) :
    k0_pay34 (k0_pay33 h c' s' wb) = headI (extractStridedSlice S32x512 ![0, 0] (k0_pay32 h wb) slices_S288x512_o0_0_S32x512) c' s' := rfl

theorem store14_0 (c' : FVec Ideal S16x512 .f32) (s' : FVec Ideal S16x512 .f32) (pb : FVec Ideal S288x512 .f32) :
    k0_pay50 c' s' pb = keyI (extractStridedSlice S32x512 ![256, 0] pb slices_S288x512_o256_0_S32x512) c' s' := rfl

theorem store16_5 (c' : FVec Ideal S16x512 .f32) (s' : FVec Ideal S16x512 .f32) (q : FVec Ideal S768x512 .f32) (g' : FVec Ideal S96x1 .f32) :
    k0_pay77 c' s' (k0_pay58 (F := Ideal)) (k0_pay71 q g') (k0_pay73 q g') (k0_pay74 q g') (k0_pay75 c' q g') (k0_pay76 s' q g') = headC (extractStridedSlice S96x512 ![640, 0] q slices_S768x512_o640_0_S96x512) g' c' s' := rfl

theorem store16_4 (c' : FVec Ideal S16x512 .f32) (s' : FVec Ideal S16x512 .f32) (q : FVec Ideal S768x512 .f32) (g' : FVec Ideal S96x1 .f32) :
    k0_pay69 c' s' g' (k0_pay58 (F := Ideal)) (k0_pay68 q) = headC (extractStridedSlice S96x512 ![512, 0] q slices_S768x512_o512_0_S96x512) g' c' s' := rfl

theorem store16_3 (c' : FVec Ideal S16x512 .f32) (s' : FVec Ideal S16x512 .f32) (q : FVec Ideal S768x512 .f32) (g' : FVec Ideal S96x1 .f32) :
    k0_pay67 c' s' q g' (k0_pay58 (F := Ideal)) = headC (extractStridedSlice S96x512 ![384, 0] q slices_S768x512_o384_0_S96x512) g' c' s' := rfl

theorem store16_2 (c' : FVec Ideal S16x512 .f32) (s' : FVec Ideal S16x512 .f32) (q : FVec Ideal S768x512 .f32) (g' : FVec Ideal S96x1 .f32) :
    k0_pay66 c' s' (k0_pay58 (F := Ideal)) (k0_pay63 q g') (k0_pay64 q g') (k0_pay65 q g') = headC (extractStridedSlice S96x512 ![256, 0] q slices_S768x512_o256_0_S96x512) g' c' s' := rfl

theorem store16_1 (c' : FVec Ideal S16x512 .f32) (s' : FVec Ideal S16x512 .f32) (q : FVec Ideal S768x512 .f32) (g' : FVec Ideal S96x1 .f32) :
    k0_pay61 c' s' q g' (k0_pay58 (F := Ideal)) = headC (extractStridedSlice S96x512 ![128, 0] q slices_S768x512_o128_0_S96x512) g' c' s' := rfl

theorem store16_0 (c' : FVec Ideal S16x512 .f32) (s' : FVec Ideal S16x512 .f32) (q0 : FVec Ideal S256x512 .f32) (q1 : FVec Ideal S256x1 .f32) (q2 : FVec Ideal S1x512 .f32) (q3 : Ideal .f32) (wq : Vec Ideal S768x256 .bf16) (gq : Vec Ideal S96x1 .f32) :
    k0_pay60 (k0_pay59 c' s' q0 q1 q2 q3 wq gq) = headC (extractStridedSlice S96x512 ![0, 0] (k0_pay56 q0 q1 q2 q3 wq) slices_S768x512_o0_0_S96x512) (k0_pay57 gq) c' s' := rfl

theorem store17_5 (c' : FVec Ideal S16x512 .f32) (s' : FVec Ideal S16x512 .f32) (g' : FVec Ideal S96x1 .f32) (kv : FVec Ideal S768x512 .f32) (pe : FVec Ideal S32x512 .f32) (ps : FVec Ideal S1x512 .f32) :
    k0_pay110 c' s' (k0_pay58 (F := Ideal)) kv pe ps g' = headK (extractStridedSlice S64x512 ![640, 0] kv slices_S768x512_o640_0_S64x512) pe ps g' c' s' := rfl

theorem store17_4 (c' : FVec Ideal S16x512 .f32) (s' : FVec Ideal S16x512 .f32) (g' : FVec Ideal S96x1 .f32) (kv : FVec Ideal S768x512 .f32) (pe : FVec Ideal S32x512 .f32) (ps : FVec Ideal S1x512 .f32) :
    k0_pay108 (k0_pay107 c' s' (k0_pay58 (F := Ideal)) kv pe ps g') = headK (extractStridedSlice S64x512 ![512, 0] kv slices_S768x512_o512_0_S64x512) pe ps g' c' s' := rfl

theorem store17_3 (c' : FVec Ideal S16x512 .f32) (s' : FVec Ideal S16x512 .f32) (g' : FVec Ideal S96x1 .f32) (kv : FVec Ideal S768x512 .f32) (pe : FVec Ideal S32x512 .f32) (ps : FVec Ideal S1x512 .f32) :
    k0_pay105 (k0_pay58 (F := Ideal)) (k0_pay99 kv ps g') (k0_pay103 c' s' kv pe ps g') (k0_pay104 c' s' kv pe ps g') = headK (extractStridedSlice S64x512 ![384, 0] kv slices_S768x512_o384_0_S64x512) pe ps g' c' s' := rfl

theorem store17_2 (c' : FVec Ideal S16x512 .f32) (s' : FVec Ideal S16x512 .f32) (g' : FVec Ideal S96x1 .f32) (kv : FVec Ideal S768x512 .f32) (pe : FVec Ideal S32x512 .f32) (ps : FVec Ideal S1x512 .f32) :
    k0_pay95 c' s' (k0_pay58 (F := Ideal)) (k0_pay93 kv ps g') (k0_pay94 kv pe ps g') = headK (extractStridedSlice S64x512 ![256, 0] kv slices_S768x512_o256_0_S64x512) pe ps g' c' s' := rfl

theorem store17_1 (c' : FVec Ideal S16x512 .f32) (s' : FVec Ideal S16x512 .f32) (g' : FVec Ideal S96x1 .f32) (kv : FVec Ideal S768x512 .f32) (pe : FVec Ideal S32x512 .f32) (ps : FVec Ideal S1x512 .f32) :
    k0_pay89 c' s' (k0_pay58 (F := Ideal)) pe g' (k0_pay87 kv ps) (k0_pay88 kv ps) = headK (extractStridedSlice S64x512 ![128, 0] kv slices_S768x512_o128_0_S64x512) pe ps g' c' s' := rfl

theorem store17_0 (c' : FVec Ideal S16x512 .f32) (s' : FVec Ideal S16x512 .f32) (pc : FVec Ideal S432x512 .f32) (g' : FVec Ideal S96x1 .f32) (pe : FVec Ideal S32x512 .f32) (gv : Vec Ideal S128x1 .f32) (wk : Vec Ideal S768x128 .bf16) :
    k0_pay84 c' s' (k0_pay58 (F := Ideal)) pe g' (k0_pay82 pc gv wk) (k0_pay83 pc gv wk) (Named.named κ "inv_qk" 0x3C2AAAAB#32) = headK (extractStridedSlice S64x512 ![0, 0] (k0_pay78 pc gv wk) slices_S768x512_o0_0_S64x512) pe (k0_pay80 pc) g' c' s' := rfl

section Stores

variable (x0 : Vec Ideal S1x512x1024 .f32) (x1 : Vec Ideal S1x1024 .f32) (x2 : Vec Ideal S1024x1280 .bf16) (x3 : Vec Ideal S1232x1024 .bf16)
  (x4 : Vec Ideal S704x1 .f32) (x5 : Vec Ideal S96x512 .f32) (x6 : Vec Ideal S768x256 .bf16) (x7 : Vec Ideal S768x128 .bf16)

/-- The normalised input block. -/
abbrev vH : FVec Ideal S512x1024 .bf16 := k0_pay112 x0 x1 x2 x3 x4 x5 x6 x7
abbrev vC64 : FVec Ideal S32x512 .f32 := k0_pay113 x0 x1 x2 x3 x4 x5 x6 x7
abbrev vS64 : FVec Ideal S32x512 .f32 := k0_pay114 x0 x1 x2 x3 x4 x5 x6 x7
abbrev vC32 : FVec Ideal S16x512 .f32 := k0_pay115 x0 x1 x2 x3 x4 x5 x6 x7
abbrev vS32 : FVec Ideal S16x512 .f32 := k0_pay116 x0 x1 x2 x3 x4 x5 x6 x7
/-- The three blocks of the projection laid out a column per position. -/
abbrev vPa : FVec Ideal S512x512 .f32 := k0_pay117 x0 x1 x2 x3 x4 x5 x6 x7
abbrev vPb : FVec Ideal S288x512 .f32 := k0_pay119 x0 x1 x2 x3 x4 x5 x6 x7
abbrev vPc : FVec Ideal S432x512 .f32 := k0_pay120 x0 x1 x2 x3 x4 x5 x6 x7
/-- The latent queries of all heads. -/
abbrev vQ : FVec Ideal S768x512 .f32 := k0_pay124 x0 x1 x2 x3 x4 x5 x6 x7
/-- The latent keys and values of all heads. -/
abbrev vKv : FVec Ideal S768x512 .f32 := k0_pay127 x0 x1 x2 x3 x4 x5 x6 x7
abbrev vPe : FVec Ideal S32x512 .f32 := k0_pay128 x0 x1 x2 x3 x4 x5 x6 x7
abbrev vPs : FVec Ideal S1x512 .f32 := k0_pay129 x0 x1 x2 x3 x4 x5 x6 x7
abbrev vGq : FVec Ideal S64x1 .f32 := k0_pay118 x0 x1 x2 x3 x4 x5 x6 x7
abbrev vGmq : FVec Ideal S96x1 .f32 := k0_pay125 x0 x1 x2 x3 x4 x5 x6 x7
abbrev vGmk : FVec Ideal S96x1 .f32 := k0_pay130 x0 x1 x2 x3 x4 x5 x6 x7

/-- The six heads of the sparse attention's queries. -/
theorem out10_eq : out0_10 x0 x1 x2 x3 x4 x5 x6 x7 = View.canon [⟨r0_15, headA (extractStridedSlice S64x512 ![320, 0] (vPa x0 x1 x2 x3 x4 x5 x6 x7) slices_S512x512_o320_0_S64x512) (vGq x0 x1 x2 x3 x4 x5 x6 x7) (vC64 x0 x1 x2 x3 x4 x5 x6 x7) (vS64 x0 x1 x2 x3 x4 x5 x6 x7)⟩,
      ⟨r0_14, headA (extractStridedSlice S64x512 ![256, 0] (vPa x0 x1 x2 x3 x4 x5 x6 x7) slices_S512x512_o256_0_S64x512) (vGq x0 x1 x2 x3 x4 x5 x6 x7) (vC64 x0 x1 x2 x3 x4 x5 x6 x7) (vS64 x0 x1 x2 x3 x4 x5 x6 x7)⟩,
      ⟨r0_13, headA (extractStridedSlice S64x512 ![192, 0] (vPa x0 x1 x2 x3 x4 x5 x6 x7) slices_S512x512_o192_0_S64x512) (vGq x0 x1 x2 x3 x4 x5 x6 x7) (vC64 x0 x1 x2 x3 x4 x5 x6 x7) (vS64 x0 x1 x2 x3 x4 x5 x6 x7)⟩,
      ⟨r0_12, headA (extractStridedSlice S64x512 ![128, 0] (vPa x0 x1 x2 x3 x4 x5 x6 x7) slices_S512x512_o128_0_S64x512) (vGq x0 x1 x2 x3 x4 x5 x6 x7) (vC64 x0 x1 x2 x3 x4 x5 x6 x7) (vS64 x0 x1 x2 x3 x4 x5 x6 x7)⟩,
      ⟨r0_11, headA (extractStridedSlice S64x512 ![64, 0] (vPa x0 x1 x2 x3 x4 x5 x6 x7) slices_S512x512_o64_0_S64x512) (vGq x0 x1 x2 x3 x4 x5 x6 x7) (vC64 x0 x1 x2 x3 x4 x5 x6 x7) (vS64 x0 x1 x2 x3 x4 x5 x6 x7)⟩,
      ⟨r0_10, headA (extractStridedSlice S64x512 ![0, 0] (vPa x0 x1 x2 x3 x4 x5 x6 x7) slices_S512x512_o0_0_S64x512) (vGq x0 x1 x2 x3 x4 x5 x6 x7) (vC64 x0 x1 x2 x3 x4 x5 x6 x7) (vS64 x0 x1 x2 x3 x4 x5 x6 x7)⟩] := by
  rw [out0_10, store10_5, store10_4, store10_3, store10_2, store10_1, store10_0]
  try rfl

/-- The sparse attention's keys. -/
theorem out11_eq : out0_11 x0 x1 x2 x3 x4 x5 x6 x7 = View.canon [⟨r0_17, keyA (extractStridedSlice S64x512 ![384, 0] (vPa x0 x1 x2 x3 x4 x5 x6 x7) slices_S512x512_o384_0_S64x512) (k0_pay27 (View.ld x4 r0_16)) (vC64 x0 x1 x2 x3 x4 x5 x6 x7) (vS64 x0 x1 x2 x3 x4 x5 x6 x7)⟩] := by
  rw [out0_11, store11_0]
  try rfl

/-- The sparse attention's values. -/
theorem out12_eq : out0_12 x0 x1 x2 x3 x4 x5 x6 x7 = View.canon [⟨r0_18, headV (extractStridedSlice S64x512 ![448, 0] (vPa x0 x1 x2 x3 x4 x5 x6 x7) slices_S512x512_o448_0_S64x512)⟩] := rfl

/-- The eight heads of the indexer's queries. -/
theorem out13_eq : out0_13 x0 x1 x2 x3 x4 x5 x6 x7 = View.canon [⟨r0_27, headI (extractStridedSlice S32x512 ![224, 0] (vPb x0 x1 x2 x3 x4 x5 x6 x7) slices_S288x512_o224_0_S32x512) (vC32 x0 x1 x2 x3 x4 x5 x6 x7) (vS32 x0 x1 x2 x3 x4 x5 x6 x7)⟩,
      ⟨r0_26, headI (extractStridedSlice S32x512 ![192, 0] (vPb x0 x1 x2 x3 x4 x5 x6 x7) slices_S288x512_o192_0_S32x512) (vC32 x0 x1 x2 x3 x4 x5 x6 x7) (vS32 x0 x1 x2 x3 x4 x5 x6 x7)⟩,
      ⟨r0_25, headI (extractStridedSlice S32x512 ![160, 0] (vPb x0 x1 x2 x3 x4 x5 x6 x7) slices_S288x512_o160_0_S32x512) (vC32 x0 x1 x2 x3 x4 x5 x6 x7) (vS32 x0 x1 x2 x3 x4 x5 x6 x7)⟩,
      ⟨r0_24, headI (extractStridedSlice S32x512 ![128, 0] (vPb x0 x1 x2 x3 x4 x5 x6 x7) slices_S288x512_o128_0_S32x512) (vC32 x0 x1 x2 x3 x4 x5 x6 x7) (vS32 x0 x1 x2 x3 x4 x5 x6 x7)⟩,
      ⟨r0_23, headI (extractStridedSlice S32x512 ![96, 0] (vPb x0 x1 x2 x3 x4 x5 x6 x7) slices_S288x512_o96_0_S32x512) (vC32 x0 x1 x2 x3 x4 x5 x6 x7) (vS32 x0 x1 x2 x3 x4 x5 x6 x7)⟩,
      ⟨r0_22, headI (extractStridedSlice S32x512 ![64, 0] (vPb x0 x1 x2 x3 x4 x5 x6 x7) slices_S288x512_o64_0_S32x512) (vC32 x0 x1 x2 x3 x4 x5 x6 x7) (vS32 x0 x1 x2 x3 x4 x5 x6 x7)⟩,
      ⟨r0_21, headI (extractStridedSlice S32x512 ![32, 0] (vPb x0 x1 x2 x3 x4 x5 x6 x7) slices_S288x512_o32_0_S32x512) (vC32 x0 x1 x2 x3 x4 x5 x6 x7) (vS32 x0 x1 x2 x3 x4 x5 x6 x7)⟩,
      ⟨r0_20, headI (extractStridedSlice S32x512 ![0, 0] (vPb x0 x1 x2 x3 x4 x5 x6 x7) slices_S288x512_o0_0_S32x512) (vC32 x0 x1 x2 x3 x4 x5 x6 x7) (vS32 x0 x1 x2 x3 x4 x5 x6 x7)⟩] := by
  rw [out0_13, store13_7, store13_6, store13_5, store13_4, store13_3, store13_2, store13_1, store13_0]
  try rfl

/-- The indexer's keys. -/
theorem out14_eq : out0_14 x0 x1 x2 x3 x4 x5 x6 x7 = View.canon [⟨r0_28, keyI (extractStridedSlice S32x512 ![256, 0] (vPb x0 x1 x2 x3 x4 x5 x6 x7) slices_S288x512_o256_0_S32x512) (vC32 x0 x1 x2 x3 x4 x5 x6 x7) (vS32 x0 x1 x2 x3 x4 x5 x6 x7)⟩] := by
  rw [out0_14, store14_0]
  try rfl

/-- The six heads of the latent attention's queries. -/
theorem out16_eq : out0_16 x0 x1 x2 x3 x4 x5 x6 x7 = View.canon [⟨r0_39, headC (extractStridedSlice S96x512 ![640, 0] (vQ x0 x1 x2 x3 x4 x5 x6 x7) slices_S768x512_o640_0_S96x512) (vGmq x0 x1 x2 x3 x4 x5 x6 x7) (vC32 x0 x1 x2 x3 x4 x5 x6 x7) (vS32 x0 x1 x2 x3 x4 x5 x6 x7)⟩,
      ⟨r0_38, headC (extractStridedSlice S96x512 ![512, 0] (vQ x0 x1 x2 x3 x4 x5 x6 x7) slices_S768x512_o512_0_S96x512) (vGmq x0 x1 x2 x3 x4 x5 x6 x7) (vC32 x0 x1 x2 x3 x4 x5 x6 x7) (vS32 x0 x1 x2 x3 x4 x5 x6 x7)⟩,
      ⟨r0_37, headC (extractStridedSlice S96x512 ![384, 0] (vQ x0 x1 x2 x3 x4 x5 x6 x7) slices_S768x512_o384_0_S96x512) (vGmq x0 x1 x2 x3 x4 x5 x6 x7) (vC32 x0 x1 x2 x3 x4 x5 x6 x7) (vS32 x0 x1 x2 x3 x4 x5 x6 x7)⟩,
      ⟨r0_36, headC (extractStridedSlice S96x512 ![256, 0] (vQ x0 x1 x2 x3 x4 x5 x6 x7) slices_S768x512_o256_0_S96x512) (vGmq x0 x1 x2 x3 x4 x5 x6 x7) (vC32 x0 x1 x2 x3 x4 x5 x6 x7) (vS32 x0 x1 x2 x3 x4 x5 x6 x7)⟩,
      ⟨r0_35, headC (extractStridedSlice S96x512 ![128, 0] (vQ x0 x1 x2 x3 x4 x5 x6 x7) slices_S768x512_o128_0_S96x512) (vGmq x0 x1 x2 x3 x4 x5 x6 x7) (vC32 x0 x1 x2 x3 x4 x5 x6 x7) (vS32 x0 x1 x2 x3 x4 x5 x6 x7)⟩,
      ⟨r0_34, headC (extractStridedSlice S96x512 ![0, 0] (vQ x0 x1 x2 x3 x4 x5 x6 x7) slices_S768x512_o0_0_S96x512) (vGmq x0 x1 x2 x3 x4 x5 x6 x7) (vC32 x0 x1 x2 x3 x4 x5 x6 x7) (vS32 x0 x1 x2 x3 x4 x5 x6 x7)⟩] := by
  rw [out0_16, show k0_pay126 x0 x1 x2 x3 x4 x5 x6 x7 = k0_pay58 (F := Ideal) from rfl, store16_5, store16_4, store16_3, store16_2, store16_1, store16_0]
  try rfl

/-- The six heads of the latent attention's keys. -/
theorem out17_eq : out0_17 x0 x1 x2 x3 x4 x5 x6 x7 = View.canon [⟨r0_48, headK (extractStridedSlice S64x512 ![640, 0] (vKv x0 x1 x2 x3 x4 x5 x6 x7) slices_S768x512_o640_0_S64x512) (vPe x0 x1 x2 x3 x4 x5 x6 x7) (vPs x0 x1 x2 x3 x4 x5 x6 x7) (vGmk x0 x1 x2 x3 x4 x5 x6 x7) (vC32 x0 x1 x2 x3 x4 x5 x6 x7) (vS32 x0 x1 x2 x3 x4 x5 x6 x7)⟩,
      ⟨r0_47, headK (extractStridedSlice S64x512 ![512, 0] (vKv x0 x1 x2 x3 x4 x5 x6 x7) slices_S768x512_o512_0_S64x512) (vPe x0 x1 x2 x3 x4 x5 x6 x7) (vPs x0 x1 x2 x3 x4 x5 x6 x7) (vGmk x0 x1 x2 x3 x4 x5 x6 x7) (vC32 x0 x1 x2 x3 x4 x5 x6 x7) (vS32 x0 x1 x2 x3 x4 x5 x6 x7)⟩,
      ⟨r0_46, headK (extractStridedSlice S64x512 ![384, 0] (vKv x0 x1 x2 x3 x4 x5 x6 x7) slices_S768x512_o384_0_S64x512) (vPe x0 x1 x2 x3 x4 x5 x6 x7) (vPs x0 x1 x2 x3 x4 x5 x6 x7) (vGmk x0 x1 x2 x3 x4 x5 x6 x7) (vC32 x0 x1 x2 x3 x4 x5 x6 x7) (vS32 x0 x1 x2 x3 x4 x5 x6 x7)⟩,
      ⟨r0_45, headK (extractStridedSlice S64x512 ![256, 0] (vKv x0 x1 x2 x3 x4 x5 x6 x7) slices_S768x512_o256_0_S64x512) (vPe x0 x1 x2 x3 x4 x5 x6 x7) (vPs x0 x1 x2 x3 x4 x5 x6 x7) (vGmk x0 x1 x2 x3 x4 x5 x6 x7) (vC32 x0 x1 x2 x3 x4 x5 x6 x7) (vS32 x0 x1 x2 x3 x4 x5 x6 x7)⟩,
      ⟨r0_44, headK (extractStridedSlice S64x512 ![128, 0] (vKv x0 x1 x2 x3 x4 x5 x6 x7) slices_S768x512_o128_0_S64x512) (vPe x0 x1 x2 x3 x4 x5 x6 x7) (vPs x0 x1 x2 x3 x4 x5 x6 x7) (vGmk x0 x1 x2 x3 x4 x5 x6 x7) (vC32 x0 x1 x2 x3 x4 x5 x6 x7) (vS32 x0 x1 x2 x3 x4 x5 x6 x7)⟩,
      ⟨r0_43, headK (extractStridedSlice S64x512 ![0, 0] (vKv x0 x1 x2 x3 x4 x5 x6 x7) slices_S768x512_o0_0_S64x512) (vPe x0 x1 x2 x3 x4 x5 x6 x7) (vPs x0 x1 x2 x3 x4 x5 x6 x7) (vGmk x0 x1 x2 x3 x4 x5 x6 x7) (vC32 x0 x1 x2 x3 x4 x5 x6 x7) (vS32 x0 x1 x2 x3 x4 x5 x6 x7)⟩] := by
  rw [out0_17, show k0_pay126 x0 x1 x2 x3 x4 x5 x6 x7 = k0_pay58 (F := Ideal) from rfl, store17_5, store17_4, store17_3, store17_2, store17_1, store17_0]
  try rfl

/-- The six heads of the latent attention's values. -/
theorem out18_eq : out0_18 x0 x1 x2 x3 x4 x5 x6 x7 = View.canon [⟨r0_15, headV (extractStridedSlice S64x512 ![704, 0] (vKv x0 x1 x2 x3 x4 x5 x6 x7) slices_S768x512_o704_0_S64x512)⟩,
      ⟨r0_14, headV (extractStridedSlice S64x512 ![576, 0] (vKv x0 x1 x2 x3 x4 x5 x6 x7) slices_S768x512_o576_0_S64x512)⟩,
      ⟨r0_13, headV (extractStridedSlice S64x512 ![448, 0] (vKv x0 x1 x2 x3 x4 x5 x6 x7) slices_S768x512_o448_0_S64x512)⟩,
      ⟨r0_12, headV (extractStridedSlice S64x512 ![320, 0] (vKv x0 x1 x2 x3 x4 x5 x6 x7) slices_S768x512_o320_0_S64x512)⟩,
      ⟨r0_11, headV (extractStridedSlice S64x512 ![192, 0] (vKv x0 x1 x2 x3 x4 x5 x6 x7) slices_S768x512_o192_0_S64x512)⟩,
      ⟨r0_10, headV (extractStridedSlice S64x512 ![64, 0] (vKv x0 x1 x2 x3 x4 x5 x6 x7) slices_S768x512_o64_0_S64x512)⟩] := rfl

end Stores

end Cert.Proof.Prep

end
-- ==== Proof.PrepPay.lean ====
/- The heads the preparation kernel's body stores, at an index, over the extended reals. -/
module

public import proofs.«01_k».proof.Proof.PrepVec

@[expose] public section

set_option maxRecDepth 16384

noncomputable section

namespace Cert.Proof.Prep

open Idealize.ShloMosaic Idealize.ShloMosaic.TcCoe
open Cert.Kernel4Ideal Cert.Kernel4Ideal.Gen
open Cert.Proof.PrepMath

theorem norm64_apply (x : FVec Ideal S64x512 .f32) (g : FVec Ideal S64x1 .f32) (j : Fin 64) (t : Fin 512) :
    norm64 x g (ix2 j t) = rms (Ideal.ofBits .f32 0x42800000#32) (fun k => x (ix2 k t)) (fun k => g (ix2 k 0)) j := by
  pointwise [norm64, rms]

theorem norm96_apply (x : FVec Ideal S96x512 .f32) (g : FVec Ideal S96x1 .f32) (j : Fin 96) (t : Fin 512) :
    norm96 x g (ix2 j t) = rms (Ideal.ofBits .f32 0x42C00000#32) (fun k => x (ix2 k t)) (fun k => g (ix2 k 0)) j := by
  pointwise [norm96, rms]

theorem rot64_apply (x : FVec Ideal S64x512 .f32) (c s : FVec Ideal S32x512 .f32) (j : Fin 64) (t : Fin 512) :
    rot64 x c s (ix2 j t) = rope 32 rfl (fun k => x (ix2 k t)) (fun k => c (ix2 k t)) (fun k => s (ix2 k t)) j := by
  unfold rope
  by_cases h : j.val < 32
  · rw [dif_pos h]
    pointwise [rot64]
    rw [dif_pos h]
  · rw [dif_neg h]
    pointwise [rot64]
    rw [dif_neg h]
    have e : (⟨32 + (j.val - 32), by omega⟩ : Fin 64) = j := Fin.ext (by show 32 + (j.val - 32) = j.val; omega)
    rw [e]

theorem rot32_apply (x : FVec Ideal S32x512 .f32) (c s : FVec Ideal S16x512 .f32) (j : Fin 32) (t : Fin 512) :
    rot32 x c s (ix2 j t) = rope 16 rfl (fun k => x (ix2 k t)) (fun k => c (ix2 k t)) (fun k => s (ix2 k t)) j := by
  unfold rope
  by_cases h : j.val < 16
  · rw [dif_pos h]
    pointwise [rot32]
    rw [dif_pos h]
  · rw [dif_neg h]
    pointwise [rot32]
    rw [dif_neg h]
    have e : (⟨16 + (j.val - 16), by omega⟩ : Fin 32) = j := Fin.ext (by show 16 + (j.val - 16) = j.val; omega)
    rw [e]

theorem headA_apply (x : FVec Ideal S64x512 .f32) (g : FVec Ideal S64x1 .f32) (c s : FVec Ideal S32x512 .f32) (j : Fin 64) (t : Fin 512) :
    headA x g c s (ix3 0 j t) = rope 32 rfl (rms (Ideal.ofBits .f32 0x42800000#32) (fun k => x (ix2 k t)) (fun k => g (ix2 k 0)))
      (fun k => c (ix2 k t)) (fun k => s (ix2 k t)) j * (((Real.sqrt 64 * Real.log 2)⁻¹ : ℝ) : EReal) := by
  pointwise [headA]
  rw [rot64_apply]
  simp only [norm64_apply]
  rfl

theorem keyA_apply (x : FVec Ideal S64x512 .f32) (g : FVec Ideal S64x1 .f32) (c s : FVec Ideal S32x512 .f32) (j : Fin 64) (t : Fin 512) :
    keyA x g c s (ix3 0 t j) = rope 32 rfl (rms (Ideal.ofBits .f32 0x42800000#32) (fun k => x (ix2 k t)) (fun k => g (ix2 k 0)))
      (fun k => c (ix2 k t)) (fun k => s (ix2 k t)) j := by
  have hj := j.isLt
  pointwise [keyA]
  rw [rot64_apply]
  simp only [norm64_apply]

theorem headI_apply (x : FVec Ideal S32x512 .f32) (c s : FVec Ideal S16x512 .f32) (j : Fin 32) (t : Fin 512) :
    headI x c s (ix3 0 j t) = rope 16 rfl (fun k => x (ix2 k t)) (fun k => c (ix2 k t)) (fun k => s (ix2 k t)) j := by
  pointwise [headI]
  rw [rot32_apply]

theorem keyI_apply (x : FVec Ideal S32x512 .f32) (c s : FVec Ideal S16x512 .f32) (j : Fin 32) (t : Fin 512) :
    keyI x c s (ix3 0 t j) = rope 16 rfl (fun k => x (ix2 k t)) (fun k => c (ix2 k t)) (fun k => s (ix2 k t)) j := by
  have hj := j.isLt
  pointwise [keyI]
  rw [rot32_apply]

theorem headV_apply (x : FVec Ideal S64x512 .f32) (j : Fin 64) (t : Fin 512) : headV x (ix3 0 j t) = x (ix2 j t) := by
  pointwise [headV]

theorem side_apply (a : FVec Ideal S64x512 .f32) (b : FVec Ideal S32x512 .f32) (c s : FVec Ideal S16x512 .f32) (j : Fin 128) (t : Fin 512) :
    side a b c s (ix2 j t) = padded (fun k => a (ix2 k t))
      (rope 16 rfl (fun k => b (ix2 k t)) (fun k => c (ix2 k t)) (fun k => s (ix2 k t))) j := by
  unfold padded
  by_cases h : j.val < 64
  · rw [dif_pos h]
    pointwise [side]
    rw [dif_pos h]
  · rw [dif_neg h]
    by_cases h' : j.val < 96
    · rw [dif_pos h', ← rot32_apply]
      pointwise [side]
      rw [dif_neg h, dif_pos (by omega)]
    · rw [dif_neg h']
      pointwise [side]
      rw [dif_neg h, dif_neg (by omega)]

theorem headC_apply (x : FVec Ideal S96x512 .f32) (g : FVec Ideal S96x1 .f32) (c s : FVec Ideal S16x512 .f32) (j : Fin 128) (t : Fin 512) :
    headC x g c s (ix3 0 j t) = padded
      (fun k => rms (Ideal.ofBits .f32 0x42C00000#32) (fun k => x (ix2 k t)) (fun k => g (ix2 k 0)) ⟨k.val, by omega⟩)
      (rope 16 rfl (fun k => rms (Ideal.ofBits .f32 0x42C00000#32) (fun k => x (ix2 k t)) (fun k => g (ix2 k 0)) ⟨64 + k.val, by omega⟩)
        (fun k => c (ix2 k t)) (fun k => s (ix2 k t))) j * (((Real.sqrt 96 * Real.log 2)⁻¹ : ℝ) : EReal) := by
  pointwise [headC]
  rw [side_apply]
  pointwise
  simp only [norm96_apply]
  rfl

theorem factorK_apply (n : FVec Ideal S64x512 .f32) (e : FVec Ideal S1x512 .f32) (t : Fin 512) :
    factorK n e (ix2 0 t) = Ideal.rsqrt ((∑ k : Fin 64, n (ix2 k t) * n (ix2 k t) + e (ix2 0 t)) * ((1 / 96 : ℝ) : EReal) + eps) := by
  pointwise [factorK]
  rfl

theorem headK_apply (n : FVec Ideal S64x512 .f32) (p : FVec Ideal S32x512 .f32) (e : FVec Ideal S1x512 .f32) (g : FVec Ideal S96x1 .f32)
    (c s : FVec Ideal S16x512 .f32) (t : Fin 512) (j : Fin 128) (he : e (ix2 0 t) = ∑ k : Fin 32, p (ix2 k t) * p (ix2 k t)) :
    headK n p e g c s (ix4 0 0 t j) = padded
      (fun k => n (ix2 k t) * factor (fun k => n (ix2 k t)) (fun k => p (ix2 k t)) * g (ix2 ⟨k.val, by omega⟩ 0))
      (rope 16 rfl (fun k => p (ix2 k t) * factor (fun k => n (ix2 k t)) (fun k => p (ix2 k t)) * g (ix2 ⟨64 + k.val, by omega⟩ 0))
        (fun k => c (ix2 k t)) (fun k => s (ix2 k t))) j := by
  pointwise [headK]
  rw [side_apply]
  pointwise
  simp only [factorK_apply, he]
  rfl

end Cert.Proof.Prep

end
-- ==== Proof.PrepStack.lean ====
/- Several stores side by side in one result buffer, read back at an index: the store the index falls in. -/
module

public import proofs.«01_k».proof.Proof.Gen.Kernel4Ideal.Value
public import Idealize.ShloMosaic.Lib.Pointwise
public import Idealize.ShloMosaic.Lib.Pipeline.ValueKit.Basic
public import Idealize.ShloMosaic.Lib.Pipeline.ValueKit.Tiles

@[expose] public section

set_option maxRecDepth 16384

noncomputable section

namespace Cert.Proof.Prep

open Idealize.ShloMosaic Idealize.ShloMosaic.TcCoe
open Cert.Kernel4Ideal Cert.Kernel4Ideal.Gen

/-- 6 heads of 64 rows stacked. -/
theorem stackA {e : EltTy} (F : Fin 6 → S1x64x512.Idx → Elt Ideal e) (p : Fin 384) (t : Fin 512) :
    View.canon (Val := Elt Ideal) (s := S1x384x512) (e := e) [⟨r0_15, F 5⟩, ⟨r0_14, F 4⟩, ⟨r0_13, F 3⟩, ⟨r0_12, F 2⟩, ⟨r0_11, F 1⟩, ⟨r0_10, F 0⟩] (ix3 0 p t)
      = F ⟨p.val / 64, by omega⟩ (ix3 0 ⟨p.val % 64, by omega⟩ t) := by
  have one (h : Fin 6) (off : Fin 3 → ℕ) (hoff : off = ![0, 64 * h.val, 0]) (inb) (x : S1x64x512.Idx) :
      F h x = (fun y : S1x384x512.Idx => F ⟨(y 1).val / 64, by have : (y 1).val < 384 := (y 1).isLt; omega⟩
        (ix3 0 ⟨(y 1).val % 64, Nat.mod_lt _ (by omega)⟩ (y 2))) ((Rect.unit (s := S1x384x512) off S1x64x512.size inb).emb x) := by
    subst hoff
    have h1 : (((Rect.unit (s := S1x384x512) ![0, 64 * h.val, 0] S1x64x512.size inb).emb x) 1).val = 64 * h.val + 1 * (x 1).val := rfl
    have h2 : (((Rect.unit (s := S1x384x512) ![0, 64 * h.val, 0] S1x64x512.size inb).emb x) 2).val = 0 + 1 * (x 2).val := rfl
    have hx0 : (x 0).val < 1 := (x 0).isLt
    have hx1 : (x 1).val < 64 := (x 1).isLt
    have e1 : h = ⟨(((Rect.unit (s := S1x384x512) ![0, 64 * h.val, 0] S1x64x512.size inb).emb x) 1).val / 64, by rw [h1]; omega⟩ :=
      Fin.ext (by show h.val = _ / 64; rw [h1]; omega)
    have e2 : x = ix3 0 ⟨(((Rect.unit (s := S1x384x512) ![0, 64 * h.val, 0] S1x64x512.size inb).emb x) 1).val % 64, Nat.mod_lt _ (by omega)⟩
        (((Rect.unit (s := S1x384x512) ![0, 64 * h.val, 0] S1x64x512.size inb).emb x) 2) := funext fun a => Fin.ext <| by
      match a with
      | ⟨0, _⟩ => show (x 0).val = 0; omega
      | ⟨1, _⟩ => show (x 1).val = _ % 64; rw [h1]; omega
      | ⟨2, _⟩ => refine Eq.trans ?_ h2.symm; show (x 2).val = _; omega
    exact congr (congrArg F e1) e2
  refine View.canon_apply_of_pieces (fun y : S1x384x512.Idx => F ⟨(y 1).val / 64, by have : (y 1).val < 384 := (y 1).isLt; omega⟩
    (ix3 0 ⟨(y 1).val % 64, Nat.mod_lt _ (by omega)⟩ (y 2))) _ ?_ (ix3 0 p t) ?_
  · intro q hq
    simp only [List.mem_cons, List.not_mem_nil, or_false] at hq
    obtain rfl | rfl | rfl | rfl | rfl | rfl := hq
    · exact one 5 ![0, 320, 0] rfl inb_S1x384x512_S1x64x512_0_320_0
    · exact one 4 ![0, 256, 0] rfl inb_S1x384x512_S1x64x512_0_256_0
    · exact one 3 ![0, 192, 0] rfl inb_S1x384x512_S1x64x512_0_192_0
    · exact one 2 ![0, 128, 0] rfl inb_S1x384x512_S1x64x512_0_128_0
    · exact one 1 ![0, 64, 0] rfl inb_S1x384x512_S1x64x512_0_64_0
    · exact one 0 ![0, 0, 0] rfl inb_S1x384x512_S1x64x512_0_0_0
  · have inSet (k : ℕ) (inb) (h0 : k ≤ p.val) (h1 : p.val < k + 64) : ix3 0 p t ∈ (Rect.unit (s := S1x384x512) ![0, k, 0] S1x64x512.size inb).set := by
      rw [Rect.mem_set_unit]
      have ht := t.isLt
      intro a
      match a with
      | ⟨0, _⟩ => exact ⟨Nat.le_refl _, Nat.one_pos⟩
      | ⟨1, _⟩ => exact ⟨h0, h1⟩
      | ⟨2, _⟩ => exact ⟨Nat.zero_le _, by show t.val < 0 + 512; omega⟩
    have hp := p.isLt
    have hc : (0 ≤ p.val ∧ p.val < 0 + 64) ∨ (64 ≤ p.val ∧ p.val < 64 + 64) ∨ (128 ≤ p.val ∧ p.val < 128 + 64) ∨ (192 ≤ p.val ∧ p.val < 192 + 64) ∨ (256 ≤ p.val ∧ p.val < 256 + 64) ∨ (320 ≤ p.val ∧ p.val < 320 + 64) := by omega
    obtain ⟨h0, h1⟩ | ⟨h0, h1⟩ | ⟨h0, h1⟩ | ⟨h0, h1⟩ | ⟨h0, h1⟩ | ⟨h0, h1⟩ := hc
    · exact ⟨⟨r0_10, F 0⟩, .tail _ (.tail _ (.tail _ (.tail _ (.tail _ (.head _))))), inSet 0 inb_S1x384x512_S1x64x512_0_0_0 h0 h1⟩
    · exact ⟨⟨r0_11, F 1⟩, .tail _ (.tail _ (.tail _ (.tail _ (.head _)))), inSet 64 inb_S1x384x512_S1x64x512_0_64_0 h0 h1⟩
    · exact ⟨⟨r0_12, F 2⟩, .tail _ (.tail _ (.tail _ (.head _))), inSet 128 inb_S1x384x512_S1x64x512_0_128_0 h0 h1⟩
    · exact ⟨⟨r0_13, F 3⟩, .tail _ (.tail _ (.head _)), inSet 192 inb_S1x384x512_S1x64x512_0_192_0 h0 h1⟩
    · exact ⟨⟨r0_14, F 4⟩, .tail _ (.head _), inSet 256 inb_S1x384x512_S1x64x512_0_256_0 h0 h1⟩
    · exact ⟨⟨r0_15, F 5⟩, .head _, inSet 320 inb_S1x384x512_S1x64x512_0_320_0 h0 h1⟩

/-- 8 heads of 32 rows stacked. -/
theorem stackI {e : EltTy} (F : Fin 8 → S1x32x512.Idx → Elt Ideal e) (p : Fin 256) (t : Fin 512) :
    View.canon (Val := Elt Ideal) (s := S1x256x512) (e := e) [⟨r0_27, F 7⟩, ⟨r0_26, F 6⟩, ⟨r0_25, F 5⟩, ⟨r0_24, F 4⟩, ⟨r0_23, F 3⟩, ⟨r0_22, F 2⟩, ⟨r0_21, F 1⟩, ⟨r0_20, F 0⟩] (ix3 0 p t)
      = F ⟨p.val / 32, by omega⟩ (ix3 0 ⟨p.val % 32, by omega⟩ t) := by
  have one (h : Fin 8) (off : Fin 3 → ℕ) (hoff : off = ![0, 32 * h.val, 0]) (inb) (x : S1x32x512.Idx) :
      F h x = (fun y : S1x256x512.Idx => F ⟨(y 1).val / 32, by have : (y 1).val < 256 := (y 1).isLt; omega⟩
        (ix3 0 ⟨(y 1).val % 32, Nat.mod_lt _ (by omega)⟩ (y 2))) ((Rect.unit (s := S1x256x512) off S1x32x512.size inb).emb x) := by
    subst hoff
    have h1 : (((Rect.unit (s := S1x256x512) ![0, 32 * h.val, 0] S1x32x512.size inb).emb x) 1).val = 32 * h.val + 1 * (x 1).val := rfl
    have h2 : (((Rect.unit (s := S1x256x512) ![0, 32 * h.val, 0] S1x32x512.size inb).emb x) 2).val = 0 + 1 * (x 2).val := rfl
    have hx0 : (x 0).val < 1 := (x 0).isLt
    have hx1 : (x 1).val < 32 := (x 1).isLt
    have e1 : h = ⟨(((Rect.unit (s := S1x256x512) ![0, 32 * h.val, 0] S1x32x512.size inb).emb x) 1).val / 32, by rw [h1]; omega⟩ :=
      Fin.ext (by show h.val = _ / 32; rw [h1]; omega)
    have e2 : x = ix3 0 ⟨(((Rect.unit (s := S1x256x512) ![0, 32 * h.val, 0] S1x32x512.size inb).emb x) 1).val % 32, Nat.mod_lt _ (by omega)⟩
        (((Rect.unit (s := S1x256x512) ![0, 32 * h.val, 0] S1x32x512.size inb).emb x) 2) := funext fun a => Fin.ext <| by
      match a with
      | ⟨0, _⟩ => show (x 0).val = 0; omega
      | ⟨1, _⟩ => show (x 1).val = _ % 32; rw [h1]; omega
      | ⟨2, _⟩ => refine Eq.trans ?_ h2.symm; show (x 2).val = _; omega
    exact congr (congrArg F e1) e2
  refine View.canon_apply_of_pieces (fun y : S1x256x512.Idx => F ⟨(y 1).val / 32, by have : (y 1).val < 256 := (y 1).isLt; omega⟩
    (ix3 0 ⟨(y 1).val % 32, Nat.mod_lt _ (by omega)⟩ (y 2))) _ ?_ (ix3 0 p t) ?_
  · intro q hq
    simp only [List.mem_cons, List.not_mem_nil, or_false] at hq
    obtain rfl | rfl | rfl | rfl | rfl | rfl | rfl | rfl := hq
    · exact one 7 ![0, 224, 0] rfl inb_S1x256x512_S1x32x512_0_224_0
    · exact one 6 ![0, 192, 0] rfl inb_S1x256x512_S1x32x512_0_192_0
    · exact one 5 ![0, 160, 0] rfl inb_S1x256x512_S1x32x512_0_160_0
    · exact one 4 ![0, 128, 0] rfl inb_S1x256x512_S1x32x512_0_128_0
    · exact one 3 ![0, 96, 0] rfl inb_S1x256x512_S1x32x512_0_96_0
    · exact one 2 ![0, 64, 0] rfl inb_S1x256x512_S1x32x512_0_64_0
    · exact one 1 ![0, 32, 0] rfl inb_S1x256x512_S1x32x512_0_32_0
    · exact one 0 ![0, 0, 0] rfl inb_S1x256x512_S1x32x512_0_0_0
  · have inSet (k : ℕ) (inb) (h0 : k ≤ p.val) (h1 : p.val < k + 32) : ix3 0 p t ∈ (Rect.unit (s := S1x256x512) ![0, k, 0] S1x32x512.size inb).set := by
      rw [Rect.mem_set_unit]
      have ht := t.isLt
      intro a
      match a with
      | ⟨0, _⟩ => exact ⟨Nat.le_refl _, Nat.one_pos⟩
      | ⟨1, _⟩ => exact ⟨h0, h1⟩
      | ⟨2, _⟩ => exact ⟨Nat.zero_le _, by show t.val < 0 + 512; omega⟩
    have hp := p.isLt
    have hc : (0 ≤ p.val ∧ p.val < 0 + 32) ∨ (32 ≤ p.val ∧ p.val < 32 + 32) ∨ (64 ≤ p.val ∧ p.val < 64 + 32) ∨ (96 ≤ p.val ∧ p.val < 96 + 32) ∨ (128 ≤ p.val ∧ p.val < 128 + 32) ∨ (160 ≤ p.val ∧ p.val < 160 + 32) ∨ (192 ≤ p.val ∧ p.val < 192 + 32) ∨ (224 ≤ p.val ∧ p.val < 224 + 32) := by omega
    obtain ⟨h0, h1⟩ | ⟨h0, h1⟩ | ⟨h0, h1⟩ | ⟨h0, h1⟩ | ⟨h0, h1⟩ | ⟨h0, h1⟩ | ⟨h0, h1⟩ | ⟨h0, h1⟩ := hc
    · exact ⟨⟨r0_20, F 0⟩, .tail _ (.tail _ (.tail _ (.tail _ (.tail _ (.tail _ (.tail _ (.head _))))))), inSet 0 inb_S1x256x512_S1x32x512_0_0_0 h0 h1⟩
    · exact ⟨⟨r0_21, F 1⟩, .tail _ (.tail _ (.tail _ (.tail _ (.tail _ (.tail _ (.head _)))))), inSet 32 inb_S1x256x512_S1x32x512_0_32_0 h0 h1⟩
    · exact ⟨⟨r0_22, F 2⟩, .tail _ (.tail _ (.tail _ (.tail _ (.tail _ (.head _))))), inSet 64 inb_S1x256x512_S1x32x512_0_64_0 h0 h1⟩
    · exact ⟨⟨r0_23, F 3⟩, .tail _ (.tail _ (.tail _ (.tail _ (.head _)))), inSet 96 inb_S1x256x512_S1x32x512_0_96_0 h0 h1⟩
    · exact ⟨⟨r0_24, F 4⟩, .tail _ (.tail _ (.tail _ (.head _))), inSet 128 inb_S1x256x512_S1x32x512_0_128_0 h0 h1⟩
    · exact ⟨⟨r0_25, F 5⟩, .tail _ (.tail _ (.head _)), inSet 160 inb_S1x256x512_S1x32x512_0_160_0 h0 h1⟩
    · exact ⟨⟨r0_26, F 6⟩, .tail _ (.head _), inSet 192 inb_S1x256x512_S1x32x512_0_192_0 h0 h1⟩
    · exact ⟨⟨r0_27, F 7⟩, .head _, inSet 224 inb_S1x256x512_S1x32x512_0_224_0 h0 h1⟩

/-- 6 heads of 128 rows stacked. -/
theorem stackC {e : EltTy} (F : Fin 6 → S1x128x512.Idx → Elt Ideal e) (p : Fin 768) (t : Fin 512) :
    View.canon (Val := Elt Ideal) (s := S1x768x512) (e := e) [⟨r0_39, F 5⟩, ⟨r0_38, F 4⟩, ⟨r0_37, F 3⟩, ⟨r0_36, F 2⟩, ⟨r0_35, F 1⟩, ⟨r0_34, F 0⟩] (ix3 0 p t)
      = F ⟨p.val / 128, by omega⟩ (ix3 0 ⟨p.val % 128, by omega⟩ t) := by
  have one (h : Fin 6) (off : Fin 3 → ℕ) (hoff : off = ![0, 128 * h.val, 0]) (inb) (x : S1x128x512.Idx) :
      F h x = (fun y : S1x768x512.Idx => F ⟨(y 1).val / 128, by have : (y 1).val < 768 := (y 1).isLt; omega⟩
        (ix3 0 ⟨(y 1).val % 128, Nat.mod_lt _ (by omega)⟩ (y 2))) ((Rect.unit (s := S1x768x512) off S1x128x512.size inb).emb x) := by
    subst hoff
    have h1 : (((Rect.unit (s := S1x768x512) ![0, 128 * h.val, 0] S1x128x512.size inb).emb x) 1).val = 128 * h.val + 1 * (x 1).val := rfl
    have h2 : (((Rect.unit (s := S1x768x512) ![0, 128 * h.val, 0] S1x128x512.size inb).emb x) 2).val = 0 + 1 * (x 2).val := rfl
    have hx0 : (x 0).val < 1 := (x 0).isLt
    have hx1 : (x 1).val < 128 := (x 1).isLt
    have e1 : h = ⟨(((Rect.unit (s := S1x768x512) ![0, 128 * h.val, 0] S1x128x512.size inb).emb x) 1).val / 128, by rw [h1]; omega⟩ :=
      Fin.ext (by show h.val = _ / 128; rw [h1]; omega)
    have e2 : x = ix3 0 ⟨(((Rect.unit (s := S1x768x512) ![0, 128 * h.val, 0] S1x128x512.size inb).emb x) 1).val % 128, Nat.mod_lt _ (by omega)⟩
        (((Rect.unit (s := S1x768x512) ![0, 128 * h.val, 0] S1x128x512.size inb).emb x) 2) := funext fun a => Fin.ext <| by
      match a with
      | ⟨0, _⟩ => show (x 0).val = 0; omega
      | ⟨1, _⟩ => show (x 1).val = _ % 128; rw [h1]; omega
      | ⟨2, _⟩ => refine Eq.trans ?_ h2.symm; show (x 2).val = _; omega
    exact congr (congrArg F e1) e2
  refine View.canon_apply_of_pieces (fun y : S1x768x512.Idx => F ⟨(y 1).val / 128, by have : (y 1).val < 768 := (y 1).isLt; omega⟩
    (ix3 0 ⟨(y 1).val % 128, Nat.mod_lt _ (by omega)⟩ (y 2))) _ ?_ (ix3 0 p t) ?_
  · intro q hq
    simp only [List.mem_cons, List.not_mem_nil, or_false] at hq
    obtain rfl | rfl | rfl | rfl | rfl | rfl := hq
    · exact one 5 ![0, 640, 0] rfl inb_S1x768x512_S1x128x512_0_640_0
    · exact one 4 ![0, 512, 0] rfl inb_S1x768x512_S1x128x512_0_512_0
    · exact one 3 ![0, 384, 0] rfl inb_S1x768x512_S1x128x512_0_384_0
    · exact one 2 ![0, 256, 0] rfl inb_S1x768x512_S1x128x512_0_256_0
    · exact one 1 ![0, 128, 0] rfl inb_S1x768x512_S1x128x512_0_128_0
    · exact one 0 ![0, 0, 0] rfl inb_S1x768x512_S1x128x512_0_0_0
  · have inSet (k : ℕ) (inb) (h0 : k ≤ p.val) (h1 : p.val < k + 128) : ix3 0 p t ∈ (Rect.unit (s := S1x768x512) ![0, k, 0] S1x128x512.size inb).set := by
      rw [Rect.mem_set_unit]
      have ht := t.isLt
      intro a
      match a with
      | ⟨0, _⟩ => exact ⟨Nat.le_refl _, Nat.one_pos⟩
      | ⟨1, _⟩ => exact ⟨h0, h1⟩
      | ⟨2, _⟩ => exact ⟨Nat.zero_le _, by show t.val < 0 + 512; omega⟩
    have hp := p.isLt
    have hc : (0 ≤ p.val ∧ p.val < 0 + 128) ∨ (128 ≤ p.val ∧ p.val < 128 + 128) ∨ (256 ≤ p.val ∧ p.val < 256 + 128) ∨ (384 ≤ p.val ∧ p.val < 384 + 128) ∨ (512 ≤ p.val ∧ p.val < 512 + 128) ∨ (640 ≤ p.val ∧ p.val < 640 + 128) := by omega
    obtain ⟨h0, h1⟩ | ⟨h0, h1⟩ | ⟨h0, h1⟩ | ⟨h0, h1⟩ | ⟨h0, h1⟩ | ⟨h0, h1⟩ := hc
    · exact ⟨⟨r0_34, F 0⟩, .tail _ (.tail _ (.tail _ (.tail _ (.tail _ (.head _))))), inSet 0 inb_S1x768x512_S1x128x512_0_0_0 h0 h1⟩
    · exact ⟨⟨r0_35, F 1⟩, .tail _ (.tail _ (.tail _ (.tail _ (.head _)))), inSet 128 inb_S1x768x512_S1x128x512_0_128_0 h0 h1⟩
    · exact ⟨⟨r0_36, F 2⟩, .tail _ (.tail _ (.tail _ (.head _))), inSet 256 inb_S1x768x512_S1x128x512_0_256_0 h0 h1⟩
    · exact ⟨⟨r0_37, F 3⟩, .tail _ (.tail _ (.head _)), inSet 384 inb_S1x768x512_S1x128x512_0_384_0 h0 h1⟩
    · exact ⟨⟨r0_38, F 4⟩, .tail _ (.head _), inSet 512 inb_S1x768x512_S1x128x512_0_512_0 h0 h1⟩
    · exact ⟨⟨r0_39, F 5⟩, .head _, inSet 640 inb_S1x768x512_S1x128x512_0_640_0 h0 h1⟩

/-- Six heads of keys, one per head index. -/
theorem stackK {e : EltTy} (F : Fin 6 → S1x1x512x128.Idx → Elt Ideal e) (h : Fin 6) (t : Fin 512) (j : Fin 128) :
    View.canon (Val := Elt Ideal) (s := S1x6x512x128) (e := e) [⟨r0_48, F 5⟩, ⟨r0_47, F 4⟩, ⟨r0_46, F 3⟩, ⟨r0_45, F 2⟩, ⟨r0_44, F 1⟩, ⟨r0_43, F 0⟩] (ix4 0 h t j) = F h (ix4 0 0 t j) := by
  have one (h : Fin 6) (off : Fin 4 → ℕ) (hoff : off = ![0, h.val, 0, 0]) (inb) (x : S1x1x512x128.Idx) :
      F h x = (fun y : S1x6x512x128.Idx => F (y 1) (ix4 0 0 (y 2) (y 3))) ((Rect.unit (s := S1x6x512x128) off S1x1x512x128.size inb).emb x) := by
    subst hoff
    have h1 : (((Rect.unit (s := S1x6x512x128) ![0, h.val, 0, 0] S1x1x512x128.size inb).emb x) 1).val = h.val + 1 * (x 1).val := rfl
    have h2 : (((Rect.unit (s := S1x6x512x128) ![0, h.val, 0, 0] S1x1x512x128.size inb).emb x) 2).val = 0 + 1 * (x 2).val := rfl
    have h3 : (((Rect.unit (s := S1x6x512x128) ![0, h.val, 0, 0] S1x1x512x128.size inb).emb x) 3).val = 0 + 1 * (x 3).val := rfl
    have hx0 : (x 0).val < 1 := (x 0).isLt
    have hx1 : (x 1).val < 1 := (x 1).isLt
    have e1 : h = ((Rect.unit (s := S1x6x512x128) ![0, h.val, 0, 0] S1x1x512x128.size inb).emb x) 1 := Fin.ext (by rw [h1]; omega)
    have e2 : x = ix4 0 0 (((Rect.unit (s := S1x6x512x128) ![0, h.val, 0, 0] S1x1x512x128.size inb).emb x) 2)
        (((Rect.unit (s := S1x6x512x128) ![0, h.val, 0, 0] S1x1x512x128.size inb).emb x) 3) := funext fun a => Fin.ext <| by
      match a with
      | ⟨0, _⟩ => show (x 0).val = 0; omega
      | ⟨1, _⟩ => show (x 1).val = 0; omega
      | ⟨2, _⟩ => refine Eq.trans ?_ h2.symm; show (x 2).val = _; omega
      | ⟨3, _⟩ => refine Eq.trans ?_ h3.symm; show (x 3).val = _; omega
    exact congr (congrArg F e1) e2
  refine View.canon_apply_of_pieces (fun y : S1x6x512x128.Idx => F (y 1) (ix4 0 0 (y 2) (y 3))) _ ?_ (ix4 0 h t j) ?_
  · intro q hq
    simp only [List.mem_cons, List.not_mem_nil, or_false] at hq
    obtain rfl | rfl | rfl | rfl | rfl | rfl := hq
    · exact one 5 ![0, 5, 0, 0] rfl inb_S1x6x512x128_S1x1x512x128_0_5_0_0
    · exact one 4 ![0, 4, 0, 0] rfl inb_S1x6x512x128_S1x1x512x128_0_4_0_0
    · exact one 3 ![0, 3, 0, 0] rfl inb_S1x6x512x128_S1x1x512x128_0_3_0_0
    · exact one 2 ![0, 2, 0, 0] rfl inb_S1x6x512x128_S1x1x512x128_0_2_0_0
    · exact one 1 ![0, 1, 0, 0] rfl inb_S1x6x512x128_S1x1x512x128_0_1_0_0
    · exact one 0 ![0, 0, 0, 0] rfl inb_S1x6x512x128_S1x1x512x128_0_0_0_0
  · have inSet (k : ℕ) (inb) (hk : h.val = k) : ix4 0 h t j ∈ (Rect.unit (s := S1x6x512x128) ![0, k, 0, 0] S1x1x512x128.size inb).set := by
      rw [Rect.mem_set_unit]
      have ht := t.isLt
      have hj := j.isLt
      intro a
      match a with
      | ⟨0, _⟩ => exact ⟨Nat.le_refl _, Nat.one_pos⟩
      | ⟨1, _⟩ => exact ⟨hk.ge, by show h.val < k + 1; omega⟩
      | ⟨2, _⟩ => exact ⟨Nat.zero_le _, by show t.val < 0 + 512; omega⟩
      | ⟨3, _⟩ => exact ⟨Nat.zero_le _, by show j.val < 0 + 128; omega⟩
    have hc : h.val = 0 ∨ h.val = 1 ∨ h.val = 2 ∨ h.val = 3 ∨ h.val = 4 ∨ h.val = 5 := by omega
    obtain hk | hk | hk | hk | hk | hk := hc
    · exact ⟨⟨r0_43, F 0⟩, .tail _ (.tail _ (.tail _ (.tail _ (.tail _ (.head _))))), inSet 0 inb_S1x6x512x128_S1x1x512x128_0_0_0_0 hk⟩
    · exact ⟨⟨r0_44, F 1⟩, .tail _ (.tail _ (.tail _ (.tail _ (.head _)))), inSet 1 inb_S1x6x512x128_S1x1x512x128_0_1_0_0 hk⟩
    · exact ⟨⟨r0_45, F 2⟩, .tail _ (.tail _ (.tail _ (.head _))), inSet 2 inb_S1x6x512x128_S1x1x512x128_0_2_0_0 hk⟩
    · exact ⟨⟨r0_46, F 3⟩, .tail _ (.tail _ (.head _)), inSet 3 inb_S1x6x512x128_S1x1x512x128_0_3_0_0 hk⟩
    · exact ⟨⟨r0_47, F 4⟩, .tail _ (.head _), inSet 4 inb_S1x6x512x128_S1x1x512x128_0_4_0_0 hk⟩
    · exact ⟨⟨r0_48, F 5⟩, .head _, inSet 5 inb_S1x6x512x128_S1x1x512x128_0_5_0_0 hk⟩

/-- Six things by number. -/
def pick6 {α : Type} (f0 f1 f2 f3 f4 f5 : α) : Fin 6 → α
  | ⟨0, _⟩ => f0
  | ⟨1, _⟩ => f1
  | ⟨2, _⟩ => f2
  | ⟨3, _⟩ => f3
  | ⟨4, _⟩ => f4
  | ⟨5, _⟩ => f5

/-- Eight things by number. -/
def pick8 {α : Type} (f0 f1 f2 f3 f4 f5 f6 f7 : α) : Fin 8 → α
  | ⟨0, _⟩ => f0
  | ⟨1, _⟩ => f1
  | ⟨2, _⟩ => f2
  | ⟨3, _⟩ => f3
  | ⟨4, _⟩ => f4
  | ⟨5, _⟩ => f5
  | ⟨6, _⟩ => f6
  | ⟨7, _⟩ => f7

theorem stackA6 {e : EltTy} (f0 f1 f2 f3 f4 f5 : S1x64x512.Idx → Elt Ideal e) (G : Fin 6 → Fin 64 → Elt Ideal e) (t : Fin 512)
    (g0 : ∀ j, f0 (ix3 0 j t) = G 0 j) (g1 : ∀ j, f1 (ix3 0 j t) = G 1 j) (g2 : ∀ j, f2 (ix3 0 j t) = G 2 j) (g3 : ∀ j, f3 (ix3 0 j t) = G 3 j) (g4 : ∀ j, f4 (ix3 0 j t) = G 4 j) (g5 : ∀ j, f5 (ix3 0 j t) = G 5 j) (p : Fin 384) :
    View.canon (Val := Elt Ideal) (s := S1x384x512) (e := e) [⟨r0_15, f5⟩, ⟨r0_14, f4⟩, ⟨r0_13, f3⟩, ⟨r0_12, f2⟩, ⟨r0_11, f1⟩, ⟨r0_10, f0⟩] (ix3 0 p t) = G ⟨p.val / 64, by omega⟩ ⟨p.val % 64, by omega⟩ := by
  refine (stackA (pick6 f0 f1 f2 f3 f4 f5) p t).trans ?_
  have all (h : Fin 6) (j : Fin 64) : pick6 f0 f1 f2 f3 f4 f5 h (ix3 0 j t) = G h j := by
    match h with
    | ⟨0, _⟩ => exact g0 _
    | ⟨1, _⟩ => exact g1 _
    | ⟨2, _⟩ => exact g2 _
    | ⟨3, _⟩ => exact g3 _
    | ⟨4, _⟩ => exact g4 _
    | ⟨5, _⟩ => exact g5 _
  exact all _ _

theorem stackI8 {e : EltTy} (f0 f1 f2 f3 f4 f5 f6 f7 : S1x32x512.Idx → Elt Ideal e) (G : Fin 8 → Fin 32 → Elt Ideal e) (t : Fin 512)
    (g0 : ∀ j, f0 (ix3 0 j t) = G 0 j) (g1 : ∀ j, f1 (ix3 0 j t) = G 1 j) (g2 : ∀ j, f2 (ix3 0 j t) = G 2 j) (g3 : ∀ j, f3 (ix3 0 j t) = G 3 j) (g4 : ∀ j, f4 (ix3 0 j t) = G 4 j) (g5 : ∀ j, f5 (ix3 0 j t) = G 5 j) (g6 : ∀ j, f6 (ix3 0 j t) = G 6 j) (g7 : ∀ j, f7 (ix3 0 j t) = G 7 j) (p : Fin 256) :
    View.canon (Val := Elt Ideal) (s := S1x256x512) (e := e) [⟨r0_27, f7⟩, ⟨r0_26, f6⟩, ⟨r0_25, f5⟩, ⟨r0_24, f4⟩, ⟨r0_23, f3⟩, ⟨r0_22, f2⟩, ⟨r0_21, f1⟩, ⟨r0_20, f0⟩] (ix3 0 p t) = G ⟨p.val / 32, by omega⟩ ⟨p.val % 32, by omega⟩ := by
  refine (stackI (pick8 f0 f1 f2 f3 f4 f5 f6 f7) p t).trans ?_
  have all (h : Fin 8) (j : Fin 32) : pick8 f0 f1 f2 f3 f4 f5 f6 f7 h (ix3 0 j t) = G h j := by
    match h with
    | ⟨0, _⟩ => exact g0 _
    | ⟨1, _⟩ => exact g1 _
    | ⟨2, _⟩ => exact g2 _
    | ⟨3, _⟩ => exact g3 _
    | ⟨4, _⟩ => exact g4 _
    | ⟨5, _⟩ => exact g5 _
    | ⟨6, _⟩ => exact g6 _
    | ⟨7, _⟩ => exact g7 _
  exact all _ _

theorem stackC6 {e : EltTy} (f0 f1 f2 f3 f4 f5 : S1x128x512.Idx → Elt Ideal e) (G : Fin 6 → Fin 128 → Elt Ideal e) (t : Fin 512)
    (g0 : ∀ j, f0 (ix3 0 j t) = G 0 j) (g1 : ∀ j, f1 (ix3 0 j t) = G 1 j) (g2 : ∀ j, f2 (ix3 0 j t) = G 2 j) (g3 : ∀ j, f3 (ix3 0 j t) = G 3 j) (g4 : ∀ j, f4 (ix3 0 j t) = G 4 j) (g5 : ∀ j, f5 (ix3 0 j t) = G 5 j) (p : Fin 768) :
    View.canon (Val := Elt Ideal) (s := S1x768x512) (e := e) [⟨r0_39, f5⟩, ⟨r0_38, f4⟩, ⟨r0_37, f3⟩, ⟨r0_36, f2⟩, ⟨r0_35, f1⟩, ⟨r0_34, f0⟩] (ix3 0 p t) = G ⟨p.val / 128, by omega⟩ ⟨p.val % 128, by omega⟩ := by
  refine (stackC (pick6 f0 f1 f2 f3 f4 f5) p t).trans ?_
  have all (h : Fin 6) (j : Fin 128) : pick6 f0 f1 f2 f3 f4 f5 h (ix3 0 j t) = G h j := by
    match h with
    | ⟨0, _⟩ => exact g0 _
    | ⟨1, _⟩ => exact g1 _
    | ⟨2, _⟩ => exact g2 _
    | ⟨3, _⟩ => exact g3 _
    | ⟨4, _⟩ => exact g4 _
    | ⟨5, _⟩ => exact g5 _
  exact all _ _

theorem stackK6 {e : EltTy} (f0 f1 f2 f3 f4 f5 : S1x1x512x128.Idx → Elt Ideal e) (G : Fin 6 → Fin 128 → Elt Ideal e) (t : Fin 512)
    (g0 : ∀ j, f0 (ix4 0 0 t j) = G 0 j) (g1 : ∀ j, f1 (ix4 0 0 t j) = G 1 j) (g2 : ∀ j, f2 (ix4 0 0 t j) = G 2 j) (g3 : ∀ j, f3 (ix4 0 0 t j) = G 3 j) (g4 : ∀ j, f4 (ix4 0 0 t j) = G 4 j) (g5 : ∀ j, f5 (ix4 0 0 t j) = G 5 j) (h : Fin 6) (j : Fin 128) :
    View.canon (Val := Elt Ideal) (s := S1x6x512x128) (e := e) [⟨r0_48, f5⟩, ⟨r0_47, f4⟩, ⟨r0_46, f3⟩, ⟨r0_45, f2⟩, ⟨r0_44, f1⟩, ⟨r0_43, f0⟩] (ix4 0 h t j) = G h j := by
  refine (stackK (pick6 f0 f1 f2 f3 f4 f5) h t j).trans ?_
  have all (h : Fin 6) (j : Fin 128) : pick6 f0 f1 f2 f3 f4 f5 h (ix4 0 0 t j) = G h j := by
    match h with
    | ⟨0, _⟩ => exact g0 _
    | ⟨1, _⟩ => exact g1 _
    | ⟨2, _⟩ => exact g2 _
    | ⟨3, _⟩ => exact g3 _
    | ⟨4, _⟩ => exact g4 _
    | ⟨5, _⟩ => exact g5 _
  exact all _ _

end Cert.Proof.Prep

end
-- ==== Proof.PrepBlock.lean ====
/- What the preparation's body leaves in its result buffers, at an index, when its input buffers hold a tile of the
   launch's arrays: the specification's results at the tile's tokens. -/
module

public import proofs.«01_k».proof.Proof.PrepPay
public import proofs.«01_k».proof.Proof.PrepSpec
public import proofs.«01_k».proof.Proof.PrepStack
public import Idealize.ShloMosaic.Lib.Pipeline.ValueKit.Basic
public import Idealize.ShloMosaic.Lib.Pipeline.ValueKit.Tiles

@[expose] public section

set_option maxRecDepth 16384

noncomputable section

namespace Cert.Proof.Prep

open Idealize.ShloMosaic Idealize.ShloMosaic.TcCoe
open Cert.Kernel4Ideal Cert.Kernel4Ideal.Gen
open Cert.Proof.PrepMath Cert.Proof.PrepSpec

/-- The column of the input weights a row of the transposed weights holds. -/
def rowCol (r : ℕ) : ℕ := if r < 800 then r else if r < 1216 then r + 904 else r - 416

/-- The input buffers hold what token `s` of sequence `b`, the tile's token `t`, reads. -/
structure Reads (A : Args) (b : Fin 16) (s : Fin 4096) (t : Fin 512) (x0 : Vec Ideal S1x512x1024 .f32) (x1 : Vec Ideal S1x1024 .f32)
    (x2 : Vec Ideal S1024x1280 .bf16) (x3 : Vec Ideal S1232x1024 .bf16) (x4 : Vec Ideal S704x1 .f32) (x5 : Vec Ideal S96x512 .f32)
    (x6 : Vec Ideal S768x256 .bf16) (x7 : Vec Ideal S768x128 .bf16) : Prop where
  tok : ∀ k, x0 (ix3 0 t k) = A.X b s k
  ng : ∀ k, x1 (ix2 0 k) = A.ng k
  wn : ∀ d n, x2 (ix2 d n) = A.W d (if n.val < 1024 then gateCol n.val else 168 + n.val)
  wt : ∀ r d, r.val < 1224 → x3 (ix2 r d) = A.W d (rowCol r.val)
  aq : ∀ k : Fin 64, x4 (ix2 ⟨k.val, by omega⟩ 0) = A.aq k
  ak : ∀ k : Fin 64, x4 (ix2 ⟨64 + k.val, by omega⟩ 0) = A.ak k
  ql : ∀ k : Fin 256, x4 (ix2 ⟨128 + k.val, by omega⟩ 0) = A.ql k
  kvl : ∀ k : Fin 128, x4 (ix2 ⟨384 + k.val, by omega⟩ 0) = A.kvl k
  gq : ∀ k : Fin 96, x4 (ix2 ⟨512 + k.val, by omega⟩ 0) = A.gq k
  gk : ∀ k : Fin 96, x4 (ix2 ⟨608 + k.val, by omega⟩ 0) = A.gk k
  cosA : ∀ i : Fin 32, x5 (ix2 ⟨i.val, by omega⟩ t) = cosA s i
  sinA : ∀ i : Fin 32, x5 (ix2 ⟨32 + i.val, by omega⟩ t) = sinA s i
  cosI : ∀ i : Fin 16, x5 (ix2 ⟨64 + i.val, by omega⟩ t) = cosI s i
  sinI : ∀ i : Fin 16, x5 (ix2 ⟨80 + i.val, by omega⟩ t) = sinI s i
  uq : ∀ (h : Fin 6) (k : Fin 96) r, x6 (ix2 ⟨128 * h.val + k.val, by omega⟩ r) = A.uq r (96 * h.val + k.val)
  ukv : ∀ n r, x7 (ix2 n r) = A.ukv r n.val

/-! ## The body's intermediate values, at an index -/

theorem pay2_apply (x : Vec Ideal S1x512x1024 .f32) (g : Vec Ideal S1x1024 .f32) (t : Fin 512) (d : Fin 1024) :
    k0_pay2 x g (ix2 t d) = rms (Ideal.ofBits .f32 0x44800000#32) (fun k => x (ix3 0 t k)) (fun k => g (ix2 0 k)) d := by
  pointwise [k0_pay2, rms]
theorem pay3_apply (x : Vec Ideal S1x512x1024 .f32) (g : Vec Ideal S1x1024 .f32) (w : Vec Ideal S1024x1280 .bf16) (t : Fin 512) (n : Fin 1280) :
    k0_pay3 x g w (ix2 t n) = ∑ d : Fin 1024, k0_pay2 x g (ix2 t d) * w (ix2 d n) := by
  pointwise [k0_pay3]
theorem pay4_apply (x : Vec Ideal S1x512x1024 .f32) (g : Vec Ideal S1x1024 .f32) (w : Vec Ideal S1024x1280 .bf16) (t : Fin 512) (n : Fin 1024) :
    k0_pay4 x g w (ix3 0 t n) = k0_pay3 x g w (ix2 t ⟨n.val, by omega⟩) := by
  pointwise [k0_pay4]
theorem pay5_apply (x : Vec Ideal S1x512x1024 .f32) (g : Vec Ideal S1x1024 .f32) (w : Vec Ideal S1024x1280 .bf16) (t : Fin 512) (n : Fin 256) :
    k0_pay5 x g w (ix2 t n) = k0_pay3 x g w (ix2 t ⟨1024 + n.val, by omega⟩) := by
  pointwise [k0_pay5]
theorem pay10_apply (h : FVec Ideal S512x1024 .bf16) (w : Vec Ideal S512x1024 .bf16) (j t : Fin 512) :
    k0_pay10 h w (ix2 j t) = ∑ d : Fin 1024, w (ix2 j d) * h (ix2 t d) := by
  pointwise [k0_pay10]
theorem pay32_apply (h : FVec Ideal S512x1024 .bf16) (w : Vec Ideal S288x1024 .bf16) (j : Fin 288) (t : Fin 512) :
    k0_pay32 h w (ix2 j t) = ∑ d : Fin 1024, w (ix2 j d) * h (ix2 t d) := by
  pointwise [k0_pay32]
theorem pay51_apply (h : FVec Ideal S512x1024 .bf16) (w : Vec Ideal S432x1024 .bf16) (j : Fin 432) (t : Fin 512) :
    k0_pay51 h w (ix2 j t) = ∑ d : Fin 1024, w (ix2 j d) * h (ix2 t d) := by
  pointwise [k0_pay51]
theorem pay52_apply (h : FVec Ideal S512x1024 .bf16) (w : Vec Ideal S432x1024 .bf16) (j : Fin 8) (t : Fin 512) :
    k0_pay52 h w (ix3 0 j t) = k0_pay51 h w (ix2 ⟨416 + j.val, by omega⟩ t) * Ideal.ofBits .f32 0x3D800000#32 := by
  pointwise [k0_pay52]
theorem pay53_apply (h : FVec Ideal S512x1024 .bf16) (w : Vec Ideal S432x1024 .bf16) (j : Fin 256) (t : Fin 512) :
    k0_pay53 h w (ix2 j t) = k0_pay51 h w (ix2 ⟨j.val, by omega⟩ t) := by
  pointwise [k0_pay53]
theorem pay55_apply (h : FVec Ideal S512x1024 .bf16) (w : Vec Ideal S432x1024 .bf16) (t : Fin 512) :
    k0_pay55 h w (ix2 0 t) = ∑ j : Fin 256, k0_pay53 h w (ix2 j t) * k0_pay53 h w (ix2 j t) := by
  pointwise [k0_pay55]
theorem pay56_apply (x : FVec Ideal S256x512 .f32) (g : FVec Ideal S256x1 .f32) (e : FVec Ideal S1x512 .f32) (n : Ideal .f32) (w : Vec Ideal S768x256 .bf16)
    (j : Fin 768) (t : Fin 512) : k0_pay56 x g e n w (ix2 j t)
    = ∑ r : Fin 256, w (ix2 j r) * (x (ix2 r t) * Ideal.rsqrt (Ideal.div (e (ix2 0 t)) n + eps) * g (ix2 r 0)) := by
  pointwise [k0_pay56]
theorem pay78_apply (p : FVec Ideal S432x512 .f32) (g : Vec Ideal S128x1 .f32) (w : Vec Ideal S768x128 .bf16)
    (j : Fin 768) (t : Fin 512) : k0_pay78 p g w (ix2 j t)
    = ∑ r : Fin 128, w (ix2 j r) * rms (Ideal.ofBits .f32 0x43000000#32) (fun k : Fin 128 => p (ix2 ⟨256 + k.val, by omega⟩ t)) (fun k => g (ix2 k 0)) r := by
  pointwise [k0_pay78, rms]
theorem pay79_apply (p : FVec Ideal S432x512 .f32) (j : Fin 32) (t : Fin 512) : k0_pay79 p (ix2 j t) = p (ix2 ⟨384 + j.val, by omega⟩ t) := by
  pointwise [k0_pay79]
theorem pay80_apply (p : FVec Ideal S432x512 .f32) (t : Fin 512) : k0_pay80 p (ix2 0 t) = ∑ j : Fin 32, k0_pay79 p (ix2 j t) * k0_pay79 p (ix2 j t) := by
  pointwise [k0_pay80]

/-! ## Rows cut out of a block -/

theorem slice512 (x : FVec Ideal S512x512 .f32) (o : ℕ) (hs : S512x512.Slices ![o, 0] S64x512) (j : Fin 64) (t : Fin 512) (r : Fin 512)
    (hr : r.val = o + j.val) : extractStridedSlice S64x512 ![o, 0] x hs (ix2 j t) = x (ix2 r t) :=
  congrArg x (funext fun a => Fin.ext (match a with
    | ⟨0, _⟩ => hr.symm
    | ⟨1, _⟩ => Nat.zero_add _))
theorem slice288 (x : FVec Ideal S288x512 .f32) (o : ℕ) (hs : S288x512.Slices ![o, 0] S32x512) (j : Fin 32) (t : Fin 512) (r : Fin 288)
    (hr : r.val = o + j.val) : extractStridedSlice S32x512 ![o, 0] x hs (ix2 j t) = x (ix2 r t) :=
  congrArg x (funext fun a => Fin.ext (match a with
    | ⟨0, _⟩ => hr.symm
    | ⟨1, _⟩ => Nat.zero_add _))
theorem slice768q (x : FVec Ideal S768x512 .f32) (o : ℕ) (hs : S768x512.Slices ![o, 0] S96x512) (j : Fin 96) (t : Fin 512) (r : Fin 768)
    (hr : r.val = o + j.val) : extractStridedSlice S96x512 ![o, 0] x hs (ix2 j t) = x (ix2 r t) :=
  congrArg x (funext fun a => Fin.ext (match a with
    | ⟨0, _⟩ => hr.symm
    | ⟨1, _⟩ => Nat.zero_add _))
theorem slice768k (x : FVec Ideal S768x512 .f32) (o : ℕ) (hs : S768x512.Slices ![o, 0] S64x512) (j : Fin 64) (t : Fin 512) (r : Fin 768)
    (hr : r.val = o + j.val) : extractStridedSlice S64x512 ![o, 0] x hs (ix2 j t) = x (ix2 r t) :=
  congrArg x (funext fun a => Fin.ext (match a with
    | ⟨0, _⟩ => hr.symm
    | ⟨1, _⟩ => Nat.zero_add _))

section Block

variable {A : Args} {b : Fin 16} {s : Fin 4096} {t : Fin 512} {x0 : Vec Ideal S1x512x1024 .f32} {x1 : Vec Ideal S1x1024 .f32}
  {x2 : Vec Ideal S1024x1280 .bf16} {x3 : Vec Ideal S1232x1024 .bf16} {x4 : Vec Ideal S704x1 .f32} {x5 : Vec Ideal S96x512 .f32}
  {x6 : Vec Ideal S768x256 .bf16} {x7 : Vec Ideal S768x128 .bf16}

theorem tok_apply (H : Reads A b s t x0 x1 x2 x3 x4 x5 x6 x7) (d : Fin 1024) : k0_pay2 (View.ld x0 r0_0) (View.ld x1 r0_1) (ix2 t d) = tok A b s d := by
  rw [View.ld_unit_lit _ x0 (by decide), View.ld_unit_lit _ x1 (by decide), pay2_apply]
  unfold tok
  simp only [H.tok, H.ng]

theorem gate_apply (H : Reads A b s t x0 x1 x2 x3 x4 x5 x6 x7) (n : Fin 1280) (v : ℕ) (hv : v = if n.val < 1024 then gateCol n.val else 168 + n.val) :
    k0_pay3 (View.ld x0 r0_0) (View.ld x1 r0_1) (View.ld x2 r0_2) (ix2 t n) = pr A b s v := by
  subst hv
  rw [pay3_apply]
  unfold pr
  refine Finset.sum_congr rfl fun d _ => ?_
  rw [tok_apply H, View.ld_unit_lit _ x2 (by decide), H.wn]

theorem vPa_apply (H : Reads A b s t x0 x1 x2 x3 x4 x5 x6 x7) (j : Fin 512) : vPa x0 x1 x2 x3 x4 x5 x6 x7 (ix2 j t) = pr A b s (j.val) := by
  have hj' := j.isLt
  refine (pay10_apply _ _ j t).trans ?_
  unfold pr
  refine Finset.sum_congr rfl fun d _ => ?_
  have e : View.ld x3 r0_8 (ix2 j d) = x3 (ix2 ⟨0 + j.val, by omega⟩ d) := congrArg x3 (funext fun a => Fin.ext (match a with
    | ⟨0, _⟩ => (by show 0 + 1 * j.val = 0 + j.val; omega)
    | ⟨1, _⟩ => (by show 0 + 1 * d.val = d.val; omega)))
  have et : k0_pay112 x0 x1 x2 x3 x4 x5 x6 x7 (ix2 t d) = tok A b s d := tok_apply H d
  rw [e, H.wt _ _ (by dsimp only; omega), et, mul_comm]
  congr 2; unfold rowCol; dsimp only; split_ifs <;> omega

theorem vPb_apply (H : Reads A b s t x0 x1 x2 x3 x4 x5 x6 x7) (j : Fin 288) : vPb x0 x1 x2 x3 x4 x5 x6 x7 (ix2 j t) = pr A b s (512 + j.val) := by
  have hj' := j.isLt
  refine (pay32_apply _ _ j t).trans ?_
  unfold pr
  refine Finset.sum_congr rfl fun d _ => ?_
  have e : View.ld x3 r0_19 (ix2 j d) = x3 (ix2 ⟨512 + j.val, by omega⟩ d) := congrArg x3 (funext fun a => Fin.ext (match a with
    | ⟨0, _⟩ => (by show 512 + 1 * j.val = 512 + j.val; omega)
    | ⟨1, _⟩ => (by show 0 + 1 * d.val = d.val; omega)))
  have et : k0_pay112 x0 x1 x2 x3 x4 x5 x6 x7 (ix2 t d) = tok A b s d := tok_apply H d
  rw [e, H.wt _ _ (by dsimp only; omega), et, mul_comm]
  congr 2; unfold rowCol; dsimp only; split_ifs <;> omega

theorem vPc_apply (H : Reads A b s t x0 x1 x2 x3 x4 x5 x6 x7) (j : Fin 432) (hj : j.val < 424) : vPc x0 x1 x2 x3 x4 x5 x6 x7 (ix2 j t) = pr A b s (rowCol (800 + j.val)) := by
  have hj' := j.isLt
  refine (pay51_apply _ _ j t).trans ?_
  unfold pr
  refine Finset.sum_congr rfl fun d _ => ?_
  have e : View.ld x3 r0_29 (ix2 j d) = x3 (ix2 ⟨800 + j.val, by omega⟩ d) := congrArg x3 (funext fun a => Fin.ext (match a with
    | ⟨0, _⟩ => (by show 800 + 1 * j.val = 800 + j.val; omega)
    | ⟨1, _⟩ => (by show 0 + 1 * d.val = d.val; omega)))
  have et : k0_pay112 x0 x1 x2 x3 x4 x5 x6 x7 (ix2 t d) = tok A b s d := tok_apply H d
  rw [e, H.wt _ _ (by dsimp only; omega), et, mul_comm]

theorem vGq_apply (H : Reads A b s t x0 x1 x2 x3 x4 x5 x6 x7) (k : Fin 64) : vGq x0 x1 x2 x3 x4 x5 x6 x7 (ix2 k 0) = A.aq k := by
  refine Eq.trans ?_ (H.aq k)
  pointwise [k0_pay118, k0_pay11]

theorem gK_apply (H : Reads A b s t x0 x1 x2 x3 x4 x5 x6 x7) (k : Fin 64) : k0_pay27 (View.ld x4 r0_16) (ix2 k 0) = A.ak k := by
  refine Eq.trans ?_ (H.ak k)
  pointwise [k0_pay27]

theorem gQl_apply (H : Reads A b s t x0 x1 x2 x3 x4 x5 x6 x7) (k : Fin 256) : k0_pay122 x0 x1 x2 x3 x4 x5 x6 x7 (ix2 k 0) = A.ql k := by
  refine Eq.trans ?_ (H.ql k)
  pointwise [k0_pay122, k0_pay54]

theorem gKvl_apply (H : Reads A b s t x0 x1 x2 x3 x4 x5 x6 x7) (k : Fin 128) : View.ld x4 r0_40 (ix2 k 0) = A.kvl k := by
  refine Eq.trans ?_ (H.kvl k)
  pointwise [View.ld]

theorem vGmq_apply (H : Reads A b s t x0 x1 x2 x3 x4 x5 x6 x7) (k : Fin 96) : vGmq x0 x1 x2 x3 x4 x5 x6 x7 (ix2 k 0) = A.gq k := by
  refine Eq.trans ?_ (H.gq k)
  pointwise [k0_pay125, k0_pay57]

theorem vGmk_apply (H : Reads A b s t x0 x1 x2 x3 x4 x5 x6 x7) (k : Fin 96) : vGmk x0 x1 x2 x3 x4 x5 x6 x7 (ix2 k 0) = A.gk k := by
  refine Eq.trans ?_ (H.gk k)
  pointwise [k0_pay130, k0_pay81]

theorem vC64_apply (H : Reads A b s t x0 x1 x2 x3 x4 x5 x6 x7) (i : Fin 32) : vC64 x0 x1 x2 x3 x4 x5 x6 x7 (ix2 i t) = cosA s i := by
  refine Eq.trans ?_ (H.cosA i)
  pointwise [k0_pay113, k0_pay6]

theorem vS64_apply (H : Reads A b s t x0 x1 x2 x3 x4 x5 x6 x7) (i : Fin 32) : vS64 x0 x1 x2 x3 x4 x5 x6 x7 (ix2 i t) = sinA s i := by
  refine Eq.trans ?_ (H.sinA i)
  pointwise [k0_pay114, k0_pay7]

theorem vC32_apply (H : Reads A b s t x0 x1 x2 x3 x4 x5 x6 x7) (i : Fin 16) : vC32 x0 x1 x2 x3 x4 x5 x6 x7 (ix2 i t) = cosI s i := by
  refine Eq.trans ?_ (H.cosI i)
  pointwise [k0_pay115, k0_pay8]

theorem vS32_apply (H : Reads A b s t x0 x1 x2 x3 x4 x5 x6 x7) (i : Fin 16) : vS32 x0 x1 x2 x3 x4 x5 x6 x7 (ix2 i t) = sinI s i := by
  refine Eq.trans ?_ (H.sinI i)
  pointwise [k0_pay116, k0_pay9]

theorem vQ_apply (H : Reads A b s t x0 x1 x2 x3 x4 x5 x6 x7) (h : Fin 6) (k : Fin 96) (r : Fin 768) (hr : r.val = 128 * h.val + k.val) :
    vQ x0 x1 x2 x3 x4 x5 x6 x7 (ix2 r t) = upQ A b s (96 * h.val + k.val) := by
  have er : r = ⟨128 * h.val + k.val, by omega⟩ := Fin.ext hr
  rw [er]
  refine (pay56_apply _ _ _ _ _ _ t).trans ?_
  have hx (j : Fin 256) : k0_pay121 x0 x1 x2 x3 x4 x5 x6 x7 (ix2 j t) = pr A b s (1704 + j.val) := by
    refine (pay53_apply _ _ j t).trans ((vPc_apply H _ (by dsimp only; omega)).trans (congrArg (pr A b s) ?_))
    unfold rowCol; dsimp only; split_ifs <;> omega
  have he : k0_pay123 x0 x1 x2 x3 x4 x5 x6 x7 (ix2 0 t) = ∑ j : Fin 256, pr A b s (1704 + j.val) * pr A b s (1704 + j.val) := by
    refine (pay55_apply _ _ t).trans (Finset.sum_congr rfl fun j _ => ?_)
    have := hx j
    exact congr (congrArg _ this) this
  unfold upQ
  refine Finset.sum_congr rfl fun d _ => ?_
  rw [View.ld_unit_lit _ x6 (by decide), H.uq, hx, he, gQl_apply H, mul_comm]
  rfl

theorem vKv_apply (H : Reads A b s t x0 x1 x2 x3 x4 x5 x6 x7) (n : Fin 768) (v : ℕ) (hv : v = n.val) : vKv x0 x1 x2 x3 x4 x5 x6 x7 (ix2 n t) = upKv A b s v := by
  subst hv
  refine (pay78_apply _ _ _ _ t).trans ?_
  unfold upKv
  refine Finset.sum_congr rfl fun d _ => ?_
  rw [View.ld_unit_lit _ x7 (by decide), H.ukv, mul_comm]
  unfold latKv
  congr 2
  · funext k
    refine (vPc_apply H _ (by dsimp only; omega)).trans (congrArg (pr A b s) ?_)
    unfold rowCol; dsimp only; split_ifs <;> omega
  · funext k
    exact gKvl_apply H k

theorem vPe_apply (H : Reads A b s t x0 x1 x2 x3 x4 x5 x6 x7) (k : Fin 32) : vPe x0 x1 x2 x3 x4 x5 x6 x7 (ix2 k t) = pr A b s (2088 + k.val) := by
  refine (pay79_apply _ k t).trans ((vPc_apply H _ (by dsimp only; omega)).trans (congrArg (pr A b s) ?_))
  unfold rowCol; dsimp only; split_ifs <;> omega

/-! ## The result buffers -/

theorem block0 (H : Reads A b s t x0 x1 x2 x3 x4 x5 x6 x7) (n : Fin 1024) : out0_8 x0 x1 x2 x3 x4 x5 x6 x7 (ix3 0 t n) = res0 A b s n := by
  unfold out0_8
  rw [View.canon_cons_unit_lit _ _ _ (by decide), pay4_apply]
  exact gate_apply H _ _ (by dsimp only; rw [if_pos n.isLt])

theorem block1 (H : Reads A b s t x0 x1 x2 x3 x4 x5 x6 x7) (n : Fin 256) : out0_9 x0 x1 x2 x3 x4 x5 x6 x7 (ix2 t n) = res1 A b s n := by
  unfold out0_9
  rw [View.canon_cons_unit_lit _ _ _ (by decide), pay5_apply]
  exact gate_apply H _ _ (by dsimp only; rw [if_neg (by omega)]; omega)

theorem block2_head (H : Reads A b s t x0 x1 x2 x3 x4 x5 x6 x7) (h o : ℕ) (ho : o = 64 * h) (hb : 64 * h + 64 ≤ 512) (hs : S512x512.Slices ![o, 0] S64x512) (j : Fin 64) :
    headA (extractStridedSlice S64x512 ![o, 0] (vPa x0 x1 x2 x3 x4 x5 x6 x7) hs) (vGq x0 x1 x2 x3 x4 x5 x6 x7) (vC64 x0 x1 x2 x3 x4 x5 x6 x7) (vS64 x0 x1 x2 x3 x4 x5 x6 x7) (ix3 0 j t)
      = headVal A b s (64 * h) A.aq j * scaleA := by
  subst ho
  refine (headA_apply _ _ _ _ _ t).trans ?_
  unfold headVal
  simp only [vC64_apply H, vS64_apply H, vGq_apply H]
  congr 3
  funext k
  exact (slice512 _ _ _ k t ⟨64 * h + k.val, by omega⟩ rfl).trans (vPa_apply H _)

theorem block2 (H : Reads A b s t x0 x1 x2 x3 x4 x5 x6 x7) (p : Fin 384) : out0_10 x0 x1 x2 x3 x4 x5 x6 x7 (ix3 0 p t) = res2 A b s p := by
  rw [out10_eq]
  exact stackA6 (e := .bf16) _ _ _ _ _ _ (fun h j => headVal A b s (64 * h.val) A.aq j * scaleA) t
    (block2_head H 0 _ rfl (by omega) _) (block2_head H 1 _ rfl (by omega) _) (block2_head H 2 _ rfl (by omega) _)
    (block2_head H 3 _ rfl (by omega) _) (block2_head H 4 _ rfl (by omega) _) (block2_head H 5 _ rfl (by omega) _) p

theorem block3 (H : Reads A b s t x0 x1 x2 x3 x4 x5 x6 x7) (j : Fin 64) : out0_11 x0 x1 x2 x3 x4 x5 x6 x7 (ix3 0 t j) = res3 A b s j := by
  rw [out11_eq, View.canon_cons_unit_lit _ _ _ (by decide)]
  refine (keyA_apply _ _ _ _ _ t).trans ?_
  unfold res3 headVal
  simp only [vC64_apply H, vS64_apply H, gK_apply H]
  congr 2
  funext k
  exact (slice512 _ _ _ k t ⟨384 + k.val, by omega⟩ rfl).trans (vPa_apply H _)

theorem block4 (H : Reads A b s t x0 x1 x2 x3 x4 x5 x6 x7) (j : Fin 64) : out0_12 x0 x1 x2 x3 x4 x5 x6 x7 (ix3 0 j t) = res4 A b s j := by
  rw [out12_eq, View.canon_cons_unit_lit _ _ _ (by decide)]
  exact (headV_apply _ _ t).trans ((slice512 _ _ _ j t ⟨448 + j.val, by omega⟩ rfl).trans (vPa_apply H _))

theorem block5_head (H : Reads A b s t x0 x1 x2 x3 x4 x5 x6 x7) (h o : ℕ) (ho : o = 32 * h) (hb : 32 * h + 32 ≤ 288) (hs : S288x512.Slices ![o, 0] S32x512) (j : Fin 32) :
    headI (extractStridedSlice S32x512 ![o, 0] (vPb x0 x1 x2 x3 x4 x5 x6 x7) hs) (vC32 x0 x1 x2 x3 x4 x5 x6 x7) (vS32 x0 x1 x2 x3 x4 x5 x6 x7) (ix3 0 j t) = indexVal A b s (512 + 32 * h) j := by
  subst ho
  refine (headI_apply _ _ _ _ t).trans ?_
  unfold indexVal
  simp only [vC32_apply H, vS32_apply H]
  congr 1
  funext k
  exact (slice288 _ _ _ k t ⟨32 * h + k.val, by omega⟩ rfl).trans ((vPb_apply H _).trans (congrArg (pr A b s) (by dsimp only; omega)))

theorem block5 (H : Reads A b s t x0 x1 x2 x3 x4 x5 x6 x7) (p : Fin 256) : out0_13 x0 x1 x2 x3 x4 x5 x6 x7 (ix3 0 p t) = res5 A b s p := by
  rw [out13_eq]
  exact stackI8 (e := .bf16) _ _ _ _ _ _ _ _ (fun h j => indexVal A b s (512 + 32 * h.val) j) t
    (block5_head H 0 _ rfl (by omega) _) (block5_head H 1 _ rfl (by omega) _) (block5_head H 2 _ rfl (by omega) _) (block5_head H 3 _ rfl (by omega) _) (block5_head H 4 _ rfl (by omega) _) (block5_head H 5 _ rfl (by omega) _) (block5_head H 6 _ rfl (by omega) _) (block5_head H 7 _ rfl (by omega) _) p

theorem block6 (H : Reads A b s t x0 x1 x2 x3 x4 x5 x6 x7) (j : Fin 32) : out0_14 x0 x1 x2 x3 x4 x5 x6 x7 (ix3 0 t j) = res6 A b s j := by
  rw [out14_eq, View.canon_cons_unit_lit _ _ _ (by decide)]
  refine (keyI_apply _ _ _ _ t).trans ?_
  unfold res6 indexVal
  simp only [vC32_apply H, vS32_apply H]
  congr 1
  funext k
  exact (slice288 _ _ _ k t ⟨256 + k.val, by omega⟩ rfl).trans ((vPb_apply H _).trans (congrArg (pr A b s) (by dsimp only; omega)))

theorem block7 (H : Reads A b s t x0 x1 x2 x3 x4 x5 x6 x7) (j : Fin 8) : out0_15 x0 x1 x2 x3 x4 x5 x6 x7 (ix3 0 j t) = res7 A b s j := by
  unfold out0_15
  rw [View.canon_cons_unit_lit _ _ _ (by decide), pay52_apply]
  unfold res7
  congr 1
  refine (vPc_apply H _ (by dsimp only; omega)).trans (congrArg (pr A b s) ?_)
  unfold rowCol; dsimp only; split_ifs <;> omega

theorem block8_head (H : Reads A b s t x0 x1 x2 x3 x4 x5 x6 x7) (h o : ℕ) (ho : o = 128 * h) (hb : h < 6) (hs : S768x512.Slices ![o, 0] S96x512) (j : Fin 128) :
    headC (extractStridedSlice S96x512 ![o, 0] (vQ x0 x1 x2 x3 x4 x5 x6 x7) hs) (vGmq x0 x1 x2 x3 x4 x5 x6 x7) (vC32 x0 x1 x2 x3 x4 x5 x6 x7) (vS32 x0 x1 x2 x3 x4 x5 x6 x7) (ix3 0 j t) = queryC A b s h j * scaleC := by
  subst ho
  refine (headC_apply _ _ _ _ _ t).trans ?_
  have e (k : Fin 96) : extractStridedSlice S96x512 ![128 * h, 0] (vQ x0 x1 x2 x3 x4 x5 x6 x7) hs (ix2 k t) = upQ A b s (96 * h + k.val) :=
    (slice768q _ _ _ k t ⟨128 * h + k.val, by omega⟩ rfl).trans (vQ_apply H ⟨h, hb⟩ k _ rfl)
  unfold queryC normQ
  simp only [vC32_apply H, vS32_apply H, vGmq_apply H, e]

theorem block8 (H : Reads A b s t x0 x1 x2 x3 x4 x5 x6 x7) (p : Fin 768) : out0_16 x0 x1 x2 x3 x4 x5 x6 x7 (ix3 0 p t) = res8 A b s p := by
  rw [out16_eq]
  exact stackC6 (e := .bf16) _ _ _ _ _ _ (fun h j => queryC A b s h.val j * scaleC) t
    (block8_head H 0 _ rfl (by omega) _) (block8_head H 1 _ rfl (by omega) _) (block8_head H 2 _ rfl (by omega) _) (block8_head H 3 _ rfl (by omega) _) (block8_head H 4 _ rfl (by omega) _) (block8_head H 5 _ rfl (by omega) _) p

theorem block9_head (H : Reads A b s t x0 x1 x2 x3 x4 x5 x6 x7) (h o : ℕ) (ho : o = 128 * h) (hb : h < 6) (hs : S768x512.Slices ![o, 0] S64x512) (j : Fin 128) :
    headK (extractStridedSlice S64x512 ![o, 0] (vKv x0 x1 x2 x3 x4 x5 x6 x7) hs) (vPe x0 x1 x2 x3 x4 x5 x6 x7) (vPs x0 x1 x2 x3 x4 x5 x6 x7) (vGmk x0 x1 x2 x3 x4 x5 x6 x7) (vC32 x0 x1 x2 x3 x4 x5 x6 x7) (vS32 x0 x1 x2 x3 x4 x5 x6 x7) (ix4 0 0 t j) = keyC A b s h j := by
  subst ho
  refine (headK_apply _ _ _ _ _ _ t j (pay80_apply _ t)).trans ?_
  have e (k : Fin 64) : extractStridedSlice S64x512 ![128 * h, 0] (vKv x0 x1 x2 x3 x4 x5 x6 x7) hs (ix2 k t) = upKv A b s (128 * h + k.val) :=
    (slice768k _ _ _ k t ⟨128 * h + k.val, by omega⟩ rfl).trans (vKv_apply H _ _ rfl)
  have ep (k : Fin 32) : k0_pay79 (k0_pay120 x0 x1 x2 x3 x4 x5 x6 x7) (ix2 k t) = pr A b s (2088 + k.val) := vPe_apply H k
  unfold keyC
  simp only [vC32_apply H, vS32_apply H, vGmk_apply H, e, ep]

theorem block9 (H : Reads A b s t x0 x1 x2 x3 x4 x5 x6 x7) (h : Fin 6) (j : Fin 128) : out0_17 x0 x1 x2 x3 x4 x5 x6 x7 (ix4 0 h t j) = res9 A b s h j := by
  rw [out17_eq]
  exact stackK6 (e := .bf16) _ _ _ _ _ _ (fun h j => keyC A b s h.val j) t
    (block9_head H 0 _ rfl (by omega) _) (block9_head H 1 _ rfl (by omega) _) (block9_head H 2 _ rfl (by omega) _) (block9_head H 3 _ rfl (by omega) _) (block9_head H 4 _ rfl (by omega) _) (block9_head H 5 _ rfl (by omega) _) h j

theorem block10_head (H : Reads A b s t x0 x1 x2 x3 x4 x5 x6 x7) (h o : ℕ) (ho : o = 128 * h + 64) (hb : h < 6) (hs : S768x512.Slices ![o, 0] S64x512) (j : Fin 64) :
    headV (extractStridedSlice S64x512 ![o, 0] (vKv x0 x1 x2 x3 x4 x5 x6 x7) hs) (ix3 0 j t) = upKv A b s (128 * h + 64 + j.val) := by
  subst ho
  exact (headV_apply _ _ t).trans ((slice768k _ _ _ _ t ⟨128 * h + 64 + j.val, by omega⟩ rfl).trans (vKv_apply H _ _ rfl))

theorem block10 (H : Reads A b s t x0 x1 x2 x3 x4 x5 x6 x7) (p : Fin 384) : out0_18 x0 x1 x2 x3 x4 x5 x6 x7 (ix3 0 p t) = res10 A b s p := by
  rw [out18_eq]
  exact stackA6 (e := .bf16) _ _ _ _ _ _ (fun h j => upKv A b s (128 * h.val + 64 + j.val)) t
    (block10_head H 0 _ rfl (by omega) _) (block10_head H 1 _ rfl (by omega) _) (block10_head H 2 _ rfl (by omega) _) (block10_head H 3 _ rfl (by omega) _) (block10_head H 4 _ rfl (by omega) _) (block10_head H 5 _ rfl (by omega) _) p

end Block

end Cert.Proof.Prep

end
-- ==== Proof.PrepArray.lean ====
/- The preparation kernel's result arrays at an index: the blocks each point reads and writes, and the arrays they make up. -/
module

public import proofs.«01_k».proof.Proof.PrepHost
public import proofs.«01_k».proof.Proof.PrepBlock

@[expose] public section

set_option maxRecDepth 16384

noncomputable section

namespace Cert.Proof.Prep

open Idealize.ShloMosaic Idealize.ShloMosaic.TcCoe Idealize.ShloMosaic.StableHlo
open Idealize.ShloMosaic.Pipeline (Dat Cfg Window)
open Cert.Kernel4Ideal Cert.Kernel4Ideal.Gen
open Cert.Proof.PrepSpec

/-! ## Which block each point reads and writes -/

theorem N_eq : cfg0.N = 128 := by decide +kernel

theorem index0 : ∀ t : Fin grid0.N, win0_0.index t 0 = t.val / 8 ∧ win0_0.index t 1 = t.val % 8 ∧ win0_0.index t 2 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = t.val % 8 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = t.val / 8 ∧ win0_8.index t 1 = t.val % 8 ∧ win0_8.index t 2 = 0 := by decide +kernel
theorem index9 : ∀ t : Fin grid0.N, win0_9.index t 0 = t.val % 8 ∧ win0_9.index t 1 = t.val / 8 := by decide +kernel
theorem index10 : ∀ t : Fin grid0.N, win0_10.index t 0 = t.val / 8 ∧ win0_10.index t 1 = 0 ∧ win0_10.index t 2 = t.val % 8 := by decide +kernel
theorem index11 : ∀ t : Fin grid0.N, win0_11.index t 0 = t.val / 8 ∧ win0_11.index t 1 = t.val % 8 ∧ win0_11.index t 2 = 0 := by decide +kernel
theorem index12 : ∀ t : Fin grid0.N, win0_12.index t 0 = t.val / 8 ∧ win0_12.index t 1 = 0 ∧ win0_12.index t 2 = t.val % 8 := by decide +kernel
theorem index13 : ∀ t : Fin grid0.N, win0_13.index t 0 = t.val / 8 ∧ win0_13.index t 1 = 0 ∧ win0_13.index t 2 = t.val % 8 := by decide +kernel
theorem index14 : ∀ t : Fin grid0.N, win0_14.index t 0 = t.val / 8 ∧ win0_14.index t 1 = t.val % 8 ∧ win0_14.index t 2 = 0 := by decide +kernel
theorem index15 : ∀ t : Fin grid0.N, win0_15.index t 0 = t.val / 8 ∧ win0_15.index t 1 = 0 ∧ win0_15.index t 2 = t.val % 8 := by decide +kernel
theorem index16 : ∀ t : Fin grid0.N, win0_16.index t 0 = t.val / 8 ∧ win0_16.index t 1 = 0 ∧ win0_16.index t 2 = t.val % 8 := by decide +kernel
theorem index17 : ∀ t : Fin grid0.N, win0_17.index t 0 = t.val / 8 ∧ win0_17.index t 1 = 0 ∧ win0_17.index t 2 = t.val % 8 ∧ win0_17.index t 3 = 0 := by decide +kernel
theorem index18 : ∀ t : Fin grid0.N, win0_18.index t 0 = t.val / 8 ∧ win0_18.index t 1 = 0 ∧ win0_18.index t 2 = t.val % 8 := by decide +kernel

theorem emb0_val (t : Fin grid0.N) (y : S1x512x1024.Idx) :
    ((win0_0.rect t).emb y 0).val = t.val / 8 ∧ ((win0_0.rect t).emb y 1).val = 512 * (t.val % 8) + (y 1).val ∧ ((win0_0.rect t).emb y 2).val = (y 2).val := by
  have hi := index0 t
  have h0 : (y 0).val < 1 := (y 0).isLt
  refine ⟨?_, ?_, ?_⟩
  · refine (Window.rect_emb_val win0_0 t y 0).trans ?_
    show win0_0.index t 0 * 1 + (y 0).val = _
    rw [hi.1]; omega
  · refine (Window.rect_emb_val win0_0 t y 1).trans ?_
    show win0_0.index t 1 * 512 + (y 1).val = _
    rw [hi.2.1]; omega
  · refine (Window.rect_emb_val win0_0 t y 2).trans ?_
    show win0_0.index t 2 * 1024 + (y 2).val = _
    rw [hi.2.2]; omega

theorem emb1_val (t : Fin grid0.N) (y : S1x1024.Idx) :
    ((win0_1.rect t).emb y 0).val = (y 0).val ∧ ((win0_1.rect t).emb y 1).val = (y 1).val := by
  have hi := index1 t
  refine ⟨?_, ?_⟩
  · refine (Window.rect_emb_val win0_1 t y 0).trans ?_
    show win0_1.index t 0 * 1 + (y 0).val = _
    rw [hi.1]; omega
  · refine (Window.rect_emb_val win0_1 t y 1).trans ?_
    show win0_1.index t 1 * 1024 + (y 1).val = _
    rw [hi.2]; omega

theorem emb2_val (t : Fin grid0.N) (y : S1024x1280.Idx) :
    ((win0_2.rect t).emb y 0).val = (y 0).val ∧ ((win0_2.rect t).emb y 1).val = (y 1).val := by
  have hi := index2 t
  refine ⟨?_, ?_⟩
  · refine (Window.rect_emb_val win0_2 t y 0).trans ?_
    show win0_2.index t 0 * 1024 + (y 0).val = _
    rw [hi.1]; omega
  · refine (Window.rect_emb_val win0_2 t y 1).trans ?_
    show win0_2.index t 1 * 1280 + (y 1).val = _
    rw [hi.2]; omega

theorem emb3_val (t : Fin grid0.N) (y : S1232x1024.Idx) :
    ((win0_3.rect t).emb y 0).val = (y 0).val ∧ ((win0_3.rect t).emb y 1).val = (y 1).val := by
  have hi := index3 t
  refine ⟨?_, ?_⟩
  · refine (Window.rect_emb_val win0_3 t y 0).trans ?_
    show win0_3.index t 0 * 1232 + (y 0).val = _
    rw [hi.1]; omega
  · refine (Window.rect_emb_val win0_3 t y 1).trans ?_
    show win0_3.index t 1 * 1024 + (y 1).val = _
    rw [hi.2]; omega

theorem emb4_val (t : Fin grid0.N) (y : S704x1.Idx) :
    ((win0_4.rect t).emb y 0).val = (y 0).val ∧ ((win0_4.rect t).emb y 1).val = (y 1).val := by
  have hi := index4 t
  refine ⟨?_, ?_⟩
  · refine (Window.rect_emb_val win0_4 t y 0).trans ?_
    show win0_4.index t 0 * 704 + (y 0).val = _
    rw [hi.1]; omega
  · refine (Window.rect_emb_val win0_4 t y 1).trans ?_
    show win0_4.index t 1 * 1 + (y 1).val = _
    rw [hi.2]; omega

theorem emb5_val (t : Fin grid0.N) (y : S96x512.Idx) :
    ((win0_5.rect t).emb y 0).val = (y 0).val ∧ ((win0_5.rect t).emb y 1).val = 512 * (t.val % 8) + (y 1).val := by
  have hi := index5 t
  refine ⟨?_, ?_⟩
  · refine (Window.rect_emb_val win0_5 t y 0).trans ?_
    show win0_5.index t 0 * 96 + (y 0).val = _
    rw [hi.1]; omega
  · refine (Window.rect_emb_val win0_5 t y 1).trans ?_
    show win0_5.index t 1 * 512 + (y 1).val = _
    rw [hi.2]; omega

theorem emb6_val (t : Fin grid0.N) (y : S768x256.Idx) :
    ((win0_6.rect t).emb y 0).val = (y 0).val ∧ ((win0_6.rect t).emb y 1).val = (y 1).val := by
  have hi := index6 t
  refine ⟨?_, ?_⟩
  · refine (Window.rect_emb_val win0_6 t y 0).trans ?_
    show win0_6.index t 0 * 768 + (y 0).val = _
    rw [hi.1]; omega
  · refine (Window.rect_emb_val win0_6 t y 1).trans ?_
    show win0_6.index t 1 * 256 + (y 1).val = _
    rw [hi.2]; omega

theorem emb7_val (t : Fin grid0.N) (y : S768x128.Idx) :
    ((win0_7.rect t).emb y 0).val = (y 0).val ∧ ((win0_7.rect t).emb y 1).val = (y 1).val := by
  have hi := index7 t
  refine ⟨?_, ?_⟩
  · refine (Window.rect_emb_val win0_7 t y 0).trans ?_
    show win0_7.index t 0 * 768 + (y 0).val = _
    rw [hi.1]; omega
  · refine (Window.rect_emb_val win0_7 t y 1).trans ?_
    show win0_7.index t 1 * 128 + (y 1).val = _
    rw [hi.2]; omega

theorem emb8_val (t : Fin grid0.N) (y : S1x512x1024.Idx) :
    ((win0_8.rect t).emb y 0).val = t.val / 8 ∧ ((win0_8.rect t).emb y 1).val = 512 * (t.val % 8) + (y 1).val ∧ ((win0_8.rect t).emb y 2).val = (y 2).val := by
  have hi := index8 t
  have h0 : (y 0).val < 1 := (y 0).isLt
  refine ⟨?_, ?_, ?_⟩
  · refine (Window.rect_emb_val win0_8 t y 0).trans ?_
    show win0_8.index t 0 * 1 + (y 0).val = _
    rw [hi.1]; omega
  · refine (Window.rect_emb_val win0_8 t y 1).trans ?_
    show win0_8.index t 1 * 512 + (y 1).val = _
    rw [hi.2.1]; omega
  · refine (Window.rect_emb_val win0_8 t y 2).trans ?_
    show win0_8.index t 2 * 1024 + (y 2).val = _
    rw [hi.2.2]; omega

theorem emb9_val (t : Fin grid0.N) (y : S512x256.Idx) :
    ((win0_9.rect t).emb y 0).val = 512 * (t.val % 8) + (y 0).val ∧ ((win0_9.rect t).emb y 1).val = 256 * (t.val / 8) + (y 1).val := by
  have hi := index9 t
  refine ⟨?_, ?_⟩
  · refine (Window.rect_emb_val win0_9 t y 0).trans ?_
    show win0_9.index t 0 * 512 + (y 0).val = _
    rw [hi.1]; omega
  · refine (Window.rect_emb_val win0_9 t y 1).trans ?_
    show win0_9.index t 1 * 256 + (y 1).val = _
    rw [hi.2]; omega

theorem emb10_val (t : Fin grid0.N) (y : S1x384x512.Idx) :
    ((win0_10.rect t).emb y 0).val = t.val / 8 ∧ ((win0_10.rect t).emb y 1).val = (y 1).val ∧ ((win0_10.rect t).emb y 2).val = 512 * (t.val % 8) + (y 2).val := by
  have hi := index10 t
  have h0 : (y 0).val < 1 := (y 0).isLt
  refine ⟨?_, ?_, ?_⟩
  · refine (Window.rect_emb_val win0_10 t y 0).trans ?_
    show win0_10.index t 0 * 1 + (y 0).val = _
    rw [hi.1]; omega
  · refine (Window.rect_emb_val win0_10 t y 1).trans ?_
    show win0_10.index t 1 * 384 + (y 1).val = _
    rw [hi.2.1]; omega
  · refine (Window.rect_emb_val win0_10 t y 2).trans ?_
    show win0_10.index t 2 * 512 + (y 2).val = _
    rw [hi.2.2]; omega

theorem emb11_val (t : Fin grid0.N) (y : S1x512x64.Idx) :
    ((win0_11.rect t).emb y 0).val = t.val / 8 ∧ ((win0_11.rect t).emb y 1).val = 512 * (t.val % 8) + (y 1).val ∧ ((win0_11.rect t).emb y 2).val = (y 2).val := by
  have hi := index11 t
  have h0 : (y 0).val < 1 := (y 0).isLt
  refine ⟨?_, ?_, ?_⟩
  · refine (Window.rect_emb_val win0_11 t y 0).trans ?_
    show win0_11.index t 0 * 1 + (y 0).val = _
    rw [hi.1]; omega
  · refine (Window.rect_emb_val win0_11 t y 1).trans ?_
    show win0_11.index t 1 * 512 + (y 1).val = _
    rw [hi.2.1]; omega
  · refine (Window.rect_emb_val win0_11 t y 2).trans ?_
    show win0_11.index t 2 * 64 + (y 2).val = _
    rw [hi.2.2]; omega

theorem emb12_val (t : Fin grid0.N) (y : S1x64x512.Idx) :
    ((win0_12.rect t).emb y 0).val = t.val / 8 ∧ ((win0_12.rect t).emb y 1).val = (y 1).val ∧ ((win0_12.rect t).emb y 2).val = 512 * (t.val % 8) + (y 2).val := by
  have hi := index12 t
  have h0 : (y 0).val < 1 := (y 0).isLt
  refine ⟨?_, ?_, ?_⟩
  · refine (Window.rect_emb_val win0_12 t y 0).trans ?_
    show win0_12.index t 0 * 1 + (y 0).val = _
    rw [hi.1]; omega
  · refine (Window.rect_emb_val win0_12 t y 1).trans ?_
    show win0_12.index t 1 * 64 + (y 1).val = _
    rw [hi.2.1]; omega
  · refine (Window.rect_emb_val win0_12 t y 2).trans ?_
    show win0_12.index t 2 * 512 + (y 2).val = _
    rw [hi.2.2]; omega

theorem emb13_val (t : Fin grid0.N) (y : S1x256x512.Idx) :
    ((win0_13.rect t).emb y 0).val = t.val / 8 ∧ ((win0_13.rect t).emb y 1).val = (y 1).val ∧ ((win0_13.rect t).emb y 2).val = 512 * (t.val % 8) + (y 2).val := by
  have hi := index13 t
  have h0 : (y 0).val < 1 := (y 0).isLt
  refine ⟨?_, ?_, ?_⟩
  · refine (Window.rect_emb_val win0_13 t y 0).trans ?_
    show win0_13.index t 0 * 1 + (y 0).val = _
    rw [hi.1]; omega
  · refine (Window.rect_emb_val win0_13 t y 1).trans ?_
    show win0_13.index t 1 * 256 + (y 1).val = _
    rw [hi.2.1]; omega
  · refine (Window.rect_emb_val win0_13 t y 2).trans ?_
    show win0_13.index t 2 * 512 + (y 2).val = _
    rw [hi.2.2]; omega

theorem emb14_val (t : Fin grid0.N) (y : S1x512x32.Idx) :
    ((win0_14.rect t).emb y 0).val = t.val / 8 ∧ ((win0_14.rect t).emb y 1).val = 512 * (t.val % 8) + (y 1).val ∧ ((win0_14.rect t).emb y 2).val = (y 2).val := by
  have hi := index14 t
  have h0 : (y 0).val < 1 := (y 0).isLt
  refine ⟨?_, ?_, ?_⟩
  · refine (Window.rect_emb_val win0_14 t y 0).trans ?_
    show win0_14.index t 0 * 1 + (y 0).val = _
    rw [hi.1]; omega
  · refine (Window.rect_emb_val win0_14 t y 1).trans ?_
    show win0_14.index t 1 * 512 + (y 1).val = _
    rw [hi.2.1]; omega
  · refine (Window.rect_emb_val win0_14 t y 2).trans ?_
    show win0_14.index t 2 * 32 + (y 2).val = _
    rw [hi.2.2]; omega

theorem emb15_val (t : Fin grid0.N) (y : S1x8x512.Idx) :
    ((win0_15.rect t).emb y 0).val = t.val / 8 ∧ ((win0_15.rect t).emb y 1).val = (y 1).val ∧ ((win0_15.rect t).emb y 2).val = 512 * (t.val % 8) + (y 2).val := by
  have hi := index15 t
  have h0 : (y 0).val < 1 := (y 0).isLt
  refine ⟨?_, ?_, ?_⟩
  · refine (Window.rect_emb_val win0_15 t y 0).trans ?_
    show win0_15.index t 0 * 1 + (y 0).val = _
    rw [hi.1]; omega
  · refine (Window.rect_emb_val win0_15 t y 1).trans ?_
    show win0_15.index t 1 * 8 + (y 1).val = _
    rw [hi.2.1]; omega
  · refine (Window.rect_emb_val win0_15 t y 2).trans ?_
    show win0_15.index t 2 * 512 + (y 2).val = _
    rw [hi.2.2]; omega

theorem emb16_val (t : Fin grid0.N) (y : S1x768x512.Idx) :
    ((win0_16.rect t).emb y 0).val = t.val / 8 ∧ ((win0_16.rect t).emb y 1).val = (y 1).val ∧ ((win0_16.rect t).emb y 2).val = 512 * (t.val % 8) + (y 2).val := by
  have hi := index16 t
  have h0 : (y 0).val < 1 := (y 0).isLt
  refine ⟨?_, ?_, ?_⟩
  · refine (Window.rect_emb_val win0_16 t y 0).trans ?_
    show win0_16.index t 0 * 1 + (y 0).val = _
    rw [hi.1]; omega
  · refine (Window.rect_emb_val win0_16 t y 1).trans ?_
    show win0_16.index t 1 * 768 + (y 1).val = _
    rw [hi.2.1]; omega
  · refine (Window.rect_emb_val win0_16 t y 2).trans ?_
    show win0_16.index t 2 * 512 + (y 2).val = _
    rw [hi.2.2]; omega

theorem emb17_val (t : Fin grid0.N) (y : S1x6x512x128.Idx) :
    ((win0_17.rect t).emb y 0).val = t.val / 8 ∧ ((win0_17.rect t).emb y 1).val = (y 1).val ∧ ((win0_17.rect t).emb y 2).val = 512 * (t.val % 8) + (y 2).val ∧ ((win0_17.rect t).emb y 3).val = (y 3).val := by
  have hi := index17 t
  have h0 : (y 0).val < 1 := (y 0).isLt
  refine ⟨?_, ?_, ?_, ?_⟩
  · refine (Window.rect_emb_val win0_17 t y 0).trans ?_
    show win0_17.index t 0 * 1 + (y 0).val = _
    rw [hi.1]; omega
  · refine (Window.rect_emb_val win0_17 t y 1).trans ?_
    show win0_17.index t 1 * 6 + (y 1).val = _
    rw [hi.2.1]; omega
  · refine (Window.rect_emb_val win0_17 t y 2).trans ?_
    show win0_17.index t 2 * 512 + (y 2).val = _
    rw [hi.2.2.1]; omega
  · refine (Window.rect_emb_val win0_17 t y 3).trans ?_
    show win0_17.index t 3 * 128 + (y 3).val = _
    rw [hi.2.2.2]; omega

theorem emb18_val (t : Fin grid0.N) (y : S1x384x512.Idx) :
    ((win0_18.rect t).emb y 0).val = t.val / 8 ∧ ((win0_18.rect t).emb y 1).val = (y 1).val ∧ ((win0_18.rect t).emb y 2).val = 512 * (t.val % 8) + (y 2).val := by
  have hi := index18 t
  have h0 : (y 0).val < 1 := (y 0).isLt
  refine ⟨?_, ?_, ?_⟩
  · refine (Window.rect_emb_val win0_18 t y 0).trans ?_
    show win0_18.index t 0 * 1 + (y 0).val = _
    rw [hi.1]; omega
  · refine (Window.rect_emb_val win0_18 t y 1).trans ?_
    show win0_18.index t 1 * 384 + (y 1).val = _
    rw [hi.2.1]; omega
  · refine (Window.rect_emb_val win0_18 t y 2).trans ?_
    show win0_18.index t 2 * 512 + (y 2).val = _
    rw [hi.2.2]; omega

/-! ## The result arrays -/

section Results

variable (A : Args)

def arr0 : FVec Ideal S16x4096x1024 .bf16 := fun i => res0 A (i 0) (i 1) (i 2)
def arr1 : FVec Ideal S4096x4096 .f32 := fun i => res1 A ⟨(i 1).val / 256, by have : (i 1).val < 4096 := (i 1).isLt; omega⟩ (i 0) ⟨(i 1).val % 256, Nat.mod_lt _ (by omega)⟩
def arr2 : FVec Ideal S16x384x4096 .bf16 := fun i => res2 A (i 0) (i 2) (i 1)
def arr3 : FVec Ideal S16x4096x64 .bf16 := fun i => res3 A (i 0) (i 1) (i 2)
def arr4 : FVec Ideal S16x64x4096 .bf16 := fun i => res4 A (i 0) (i 2) (i 1)
def arr5 : FVec Ideal S16x256x4096 .bf16 := fun i => res5 A (i 0) (i 2) (i 1)
def arr6 : FVec Ideal S16x4096x32 .bf16 := fun i => res6 A (i 0) (i 1) (i 2)
def arr7 : FVec Ideal S16x8x4096 .f32 := fun i => res7 A (i 0) (i 2) (i 1)
def arr8 : FVec Ideal S16x768x4096 .bf16 := fun i => res8 A (i 0) (i 2) (i 1)
def arr9 : FVec Ideal S16x6x4096x128 .bf16 := fun i => res9 A (i 0) (i 2) (i 1) (i 3)
def arr10 : FVec Ideal S16x384x4096 .bf16 := fun i => res10 A (i 0) (i 2) (i 1)

end Results

section Arrays

variable (m : (ℓ : Loc nD τ sig) → Buf (Elt Ideal) ℓ) (c : Dev nD)

/-! ## The blocks read -/

theorem read0 (G : (b : Ref sig .tc) → Buf (Elt Ideal) ((c : Thread nD τ).loc b)) (t : Fin cfg0.N) (y : S1x512x1024.Idx) :
    ((cfg0.win 0).blk t).view.read (Elt Ideal) (G (Pipeline.arrRef spec0 0)) y = G main_arg0 ((win0_0.rect t).emb y) := rfl

theorem iblk0_apply (t : Fin cfg0.N) (x : Fin 512) (k : Fin 1024) (b : Fin 16) (s : Fin 4096) (hb : b.val = t.val / 8) (hs : s.val = 512 * (t.val % 8) + x.val) :
    iblk m c 0 t (ix3 0 x k) = (arg0 m c) (ix3 b s k) := by
  obtain ⟨h0, h1, h2⟩ := emb0_val t (ix3 0 x k)
  have h0' := h0.trans hb.symm
  have h1' := h1.trans hs.symm
  clear h0 h1 hb hs
  refine (read0 c (V m c) t (ix3 0 x k)).trans ((congrFun (V_main_arg0 m c) _).trans (congrArg (arg0 m c) (funext fun a => Fin.ext ?_)))
  match a with
  | ⟨0, _⟩ => exact h0'
  | ⟨1, _⟩ => exact h1'
  | ⟨2, _⟩ => exact h2

theorem read1 (G : (b : Ref sig .tc) → Buf (Elt Ideal) ((c : Thread nD τ).loc b)) (t : Fin cfg0.N) (y : S1x1024.Idx) :
    ((cfg0.win 1).blk t).view.read (Elt Ideal) (G (Pipeline.arrRef spec0 1)) y = G main_v28 ((win0_1.rect t).emb y) := rfl

theorem iblk1_apply (t : Fin cfg0.N) (j : Fin 1) (k : Fin 1024) :
    iblk m c 1 t (ix2 j k) = (ngRow (arg1 m c)) (ix2 j k) := by
  obtain ⟨h0, h1⟩ := emb1_val t (ix2 j k)
  refine (read1 c (V m c) t (ix2 j k)).trans ((congrFun (V_v28 m c) _).trans (congrArg (ngRow (arg1 m c)) (funext fun a => Fin.ext ?_)))
  match a with
  | ⟨0, _⟩ => exact h0
  | ⟨1, _⟩ => exact h1

theorem read2 (G : (b : Ref sig .tc) → Buf (Elt Ideal) ((c : Thread nD τ).loc b)) (t : Fin cfg0.N) (y : S1024x1280.Idx) :
    ((cfg0.win 2).blk t).view.read (Elt Ideal) (G (Pipeline.arrRef spec0 2)) y = G main_v14 ((win0_2.rect t).emb y) := rfl

theorem iblk2_apply (t : Fin cfg0.N) (j : Fin 1024) (k : Fin 1280) :
    iblk m c 2 t (ix2 j k) = (wn (arg2 m c)) (ix2 j k) := by
  obtain ⟨h0, h1⟩ := emb2_val t (ix2 j k)
  refine (read2 c (V m c) t (ix2 j k)).trans ((congrFun (V_v14 m c) _).trans (congrArg (wn (arg2 m c)) (funext fun a => Fin.ext ?_)))
  match a with
  | ⟨0, _⟩ => exact h0
  | ⟨1, _⟩ => exact h1

theorem read3 (G : (b : Ref sig .tc) → Buf (Elt Ideal) ((c : Thread nD τ).loc b)) (t : Fin cfg0.N) (y : S1232x1024.Idx) :
    ((cfg0.win 3).blk t).view.read (Elt Ideal) (G (Pipeline.arrRef spec0 3)) y = G main_v18 ((win0_3.rect t).emb y) := rfl

theorem iblk3_apply (t : Fin cfg0.N) (j : Fin 1232) (k : Fin 1024) :
    iblk m c 3 t (ix2 j k) = (wt (arg2 m c)) (ix2 j k) := by
  obtain ⟨h0, h1⟩ := emb3_val t (ix2 j k)
  refine (read3 c (V m c) t (ix2 j k)).trans ((congrFun (V_v18 m c) _).trans (congrArg (wt (arg2 m c)) (funext fun a => Fin.ext ?_)))
  match a with
  | ⟨0, _⟩ => exact h0
  | ⟨1, _⟩ => exact h1

theorem read4 (G : (b : Ref sig .tc) → Buf (Elt Ideal) ((c : Thread nD τ).loc b)) (t : Fin cfg0.N) (y : S704x1.Idx) :
    ((cfg0.win 4).blk t).view.read (Elt Ideal) (G (Pipeline.arrRef spec0 4)) y = G main_v20 ((win0_4.rect t).emb y) := rfl

theorem iblk4_apply (t : Fin cfg0.N) (j : Fin 704) (k : Fin 1) :
    iblk m c 4 t (ix2 j k) = (gains (arg3 m c) (arg4 m c) (arg5 m c) (arg6 m c) (arg9 m c) (arg10 m c)) (ix2 j k) := by
  obtain ⟨h0, h1⟩ := emb4_val t (ix2 j k)
  refine (read4 c (V m c) t (ix2 j k)).trans ((congrFun (V_v20 m c) _).trans (congrArg (gains (arg3 m c) (arg4 m c) (arg5 m c) (arg6 m c) (arg9 m c) (arg10 m c)) (funext fun a => Fin.ext ?_)))
  match a with
  | ⟨0, _⟩ => exact h0
  | ⟨1, _⟩ => exact h1

theorem read5 (G : (b : Ref sig .tc) → Buf (Elt Ideal) ((c : Thread nD τ).loc b)) (t : Fin cfg0.N) (y : S96x512.Idx) :
    ((cfg0.win 5).blk t).view.read (Elt Ideal) (G (Pipeline.arrRef spec0 5)) y = G main_v65 ((win0_5.rect t).emb y) := rfl

theorem iblk5_apply (t : Fin cfg0.N) (j : Fin 96) (x : Fin 512) (s : Fin 4096) (hs : s.val = 512 * (t.val % 8) + x.val) :
    iblk m c 5 t (ix2 j x) = table (ix2 j s) := by
  obtain ⟨h0, h1⟩ := emb5_val t (ix2 j x)
  have h1' := h1.trans hs.symm
  clear h1 hs
  refine (read5 c (V m c) t (ix2 j x)).trans ((congrFun (V_v65 m c) _).trans (congrArg table (funext fun a => Fin.ext ?_)))
  match a with
  | ⟨0, _⟩ => exact h0
  | ⟨1, _⟩ => exact h1'

theorem read6 (G : (b : Ref sig .tc) → Buf (Elt Ideal) ((c : Thread nD τ).loc b)) (t : Fin cfg0.N) (y : S768x256.Idx) :
    ((cfg0.win 6).blk t).view.read (Elt Ideal) (G (Pipeline.arrRef spec0 6)) y = G main_v25 ((win0_6.rect t).emb y) := rfl

theorem iblk6_apply (t : Fin cfg0.N) (j : Fin 768) (k : Fin 256) :
    iblk m c 6 t (ix2 j k) = (wuq (arg7 m c)) (ix2 j k) := by
  obtain ⟨h0, h1⟩ := emb6_val t (ix2 j k)
  refine (read6 c (V m c) t (ix2 j k)).trans ((congrFun (V_v25 m c) _).trans (congrArg (wuq (arg7 m c)) (funext fun a => Fin.ext ?_)))
  match a with
  | ⟨0, _⟩ => exact h0
  | ⟨1, _⟩ => exact h1

theorem read7 (G : (b : Ref sig .tc) → Buf (Elt Ideal) ((c : Thread nD τ).loc b)) (t : Fin cfg0.N) (y : S768x128.Idx) :
    ((cfg0.win 7).blk t).view.read (Elt Ideal) (G (Pipeline.arrRef spec0 7)) y = G main_v27 ((win0_7.rect t).emb y) := rfl

theorem iblk7_apply (t : Fin cfg0.N) (j : Fin 768) (k : Fin 128) :
    iblk m c 7 t (ix2 j k) = (wukv (arg8 m c)) (ix2 j k) := by
  obtain ⟨h0, h1⟩ := emb7_val t (ix2 j k)
  refine (read7 c (V m c) t (ix2 j k)).trans ((congrFun (V_v27 m c) _).trans (congrArg (wukv (arg8 m c)) (funext fun a => Fin.ext ?_)))
  match a with
  | ⟨0, _⟩ => exact h0
  | ⟨1, _⟩ => exact h1

theorem reads (t : Fin cfg0.N) (x : Fin 512) (b : Fin 16) (s : Fin 4096) (hb : b.val = t.val / 8) (hs : s.val = 512 * (t.val % 8) + x.val) :
    Reads (args m c) b s x (iblk m c 0 t) (iblk m c 1 t) (iblk m c 2 t) (iblk m c 3 t) (iblk m c 4 t) (iblk m c 5 t) (iblk m c 6 t) (iblk m c 7 t) where
  tok k := iblk0_apply m c t x k b s hb hs
  ng k := (iblk1_apply m c t 0 k).trans (ngRow_apply _ k)
  wn d n := (iblk2_apply m c t d n).trans ((wn_apply _ d n).trans (ext_of_lt (fun n : Fin 2504 => arg2 m c (ix2 d n)) (if n.val < 1024 then gateCol n.val else 168 + n.val) (by unfold gateCol; split_ifs <;> omega)).symm)
  wt r d hr := (iblk3_apply m c t r d).trans ((wt_apply _ d r hr).trans (ext_of_lt (fun n : Fin 2504 => arg2 m c (ix2 d n)) (rowCol r.val) (by unfold rowCol; split_ifs <;> omega)).symm)
  aq k := (iblk4_apply m c t _ 0).trans (gains_aq _ _ _ _ _ _ k)
  ak k := (iblk4_apply m c t _ 0).trans (gains_ak _ _ _ _ _ _ k)
  ql k := (iblk4_apply m c t _ 0).trans (gains_ql _ _ _ _ _ _ k)
  kvl k := (iblk4_apply m c t _ 0).trans (gains_kvl _ _ _ _ _ _ k)
  gq k := (iblk4_apply m c t _ 0).trans (gains_mq _ _ _ _ _ _ k)
  gk k := (iblk4_apply m c t _ 0).trans (gains_mk _ _ _ _ _ _ k)
  cosA i := (iblk5_apply m c t _ x s hs).trans (table_cosA s i)
  sinA i := (iblk5_apply m c t _ x s hs).trans (table_sinA s i)
  cosI i := (iblk5_apply m c t _ x s hs).trans (table_cosI s i)
  sinI i := (iblk5_apply m c t _ x s hs).trans (table_sinI s i)
  uq h k r := (iblk6_apply m c t _ r).trans ((wuq_apply _ h k r).trans (ext_of_lt (fun n : Fin 576 => arg7 m c (ix2 r n)) (96 * h.val + k.val) (by omega)).symm)
  ukv n r := (iblk7_apply m c t n r).trans ((wukv_apply _ n r).trans (ext_of_lt (fun k : Fin 768 => arg8 m c (ix2 r k)) _ n.isLt).symm)

/-! ## The blocks written, and the arrays they make up -/

theorem flushed8_eq (t : Fin cfg0.N) : (dats m 0 c).flushed 8 t = ((cfg0.win 8).blk t).view.read (Elt Ideal) (arr0 (args m c)) := by
  rw [Value.flushed8]
  funext y
  obtain ⟨h0, h1, h2⟩ := emb8_val t y
  have hx : (y 1).val < 512 := (y 1).isLt
  have hf2 : (y 2).val < 1024 := (y 2).isLt
  have ey : y = ix3 0 ⟨(y 1).val, hx⟩ ⟨(y 2).val, hf2⟩ := by
    rw [show (0 : Fin 1) = y 0 from Subsingleton.elim _ _]; exact eq_ix3 y
  show (out0_8 (iblk m c 0 t) (iblk m c 1 t) (iblk m c 2 t) (iblk m c 3 t) (iblk m c 4 t) (iblk m c 5 t) (iblk m c 6 t) (iblk m c 7 t) y : EReal)
    = res0 (args m c) ((win0_8.rect t).emb y 0) ((win0_8.rect t).emb y 1) ((win0_8.rect t).emb y 2)
  have e2 : ((win0_8.rect t).emb y 2) = ⟨(y 2).val, hf2⟩ := Fin.ext h2
  rw [e2]
  exact (congrArg (out0_8 _ _ _ _ _ _ _ _) ey).trans (block0 (reads m c t ⟨(y 1).val, hx⟩ _ _ h0 h1) ⟨(y 2).val, hf2⟩)

theorem mem_blk8 (t : Fin cfg0.N) (i : S16x4096x1024.Idx) (h0 : (i 0).val = t.val / 8) (h1 : (i 1).val / 512 = t.val % 8) : i ∈ ((cfg0.win 8).blk t).view.set := by
  show i ∈ ((View.whole main_v66_0).slice (win0_8.rect t)).set
  rw [View.set_slice_whole, Rect.mem_set_unit]
  have hi := index8 t
  have g2 : (i 2).val < 1024 := (i 2).isLt
  intro a
  match a with
  | ⟨0, _⟩ =>
    show win0_8.index t 0 * 1 ≤ (i 0).val ∧ (i 0).val < win0_8.index t 0 * 1 + 1
    rw [hi.1]; omega
  | ⟨1, _⟩ =>
    show win0_8.index t 1 * 512 ≤ (i 1).val ∧ (i 1).val < win0_8.index t 1 * 512 + 512
    rw [hi.2.1]; omega
  | ⟨2, _⟩ =>
    show win0_8.index t 2 * 1024 ≤ (i 2).val ∧ (i 2).val < win0_8.index t 2 * 1024 + 1024
    rw [hi.2.2]; omega

theorem arr8_eq : (dats m 0 c).arrAt 8 cfg0.N = arr0 (args m c) :=
  (dats m 0 c).arrAt_eq_of_cover 8 (arr0 (args m c)) (fun t _ => flushed8_eq m c t) fun i => by
    have h0 : (i 0).val < 16 := (i 0).isLt
    have h1 : (i 1).val < 4096 := (i 1).isLt
    refine ⟨⟨8 * ((i 0).val) + (i 1).val / 512, by rw [N_eq]; omega⟩, flush0_8 _, mem_blk8 _ i ?_ ?_⟩
    · show (i 0).val = (8 * ((i 0).val) + (i 1).val / 512) / 8; omega
    · show (i 1).val / 512 = (8 * ((i 0).val) + (i 1).val / 512) % 8; omega

theorem flushed9_eq (t : Fin cfg0.N) : (dats m 0 c).flushed 9 t = ((cfg0.win 9).blk t).view.read (Elt Ideal) (arr1 (args m c)) := by
  rw [Value.flushed9]
  funext y
  obtain ⟨h0, h1⟩ := emb9_val t y
  have hx : (y 0).val < 512 := (y 0).isLt
  have hj : (y 1).val < 256 := (y 1).isLt
  have ht : t.val < 128 := t.isLt
  have ey : y = ix2 ⟨(y 0).val, hx⟩ ⟨(y 1).val, hj⟩ := eq_ix2 y
  show (out0_9 (iblk m c 0 t) (iblk m c 1 t) (iblk m c 2 t) (iblk m c 3 t) (iblk m c 4 t) (iblk m c 5 t) (iblk m c 6 t) (iblk m c 7 t) y : EReal)
    = res1 (args m c) ⟨((win0_9.rect t).emb y 1).val / 256, _⟩ ((win0_9.rect t).emb y 0) ⟨((win0_9.rect t).emb y 1).val % 256, _⟩
  refine (congrArg (out0_9 _ _ _ _ _ _ _ _) ey).trans ((block1 (reads m c t ⟨(y 0).val, hx⟩ ⟨((win0_9.rect t).emb y 1).val / 256, by omega⟩ _
    (by show ((win0_9.rect t).emb y 1).val / 256 = _; omega) h0) _).trans ?_)
  exact congrArg (res1 (args m c) _ _) (Fin.ext (by show (y 1).val = ((win0_9.rect t).emb y 1).val % 256; omega))

theorem mem_blk9 (t : Fin cfg0.N) (i : S4096x4096.Idx) (h0 : (i 0).val / 512 = t.val % 8) (h1 : (i 1).val / 256 = t.val / 8) : i ∈ ((cfg0.win 9).blk t).view.set := by
  show i ∈ ((View.whole main_v66_1).slice (win0_9.rect t)).set
  rw [View.set_slice_whole, Rect.mem_set_unit]
  have hi := index9 t
  intro a
  match a with
  | ⟨0, _⟩ =>
    show win0_9.index t 0 * 512 ≤ (i 0).val ∧ (i 0).val < win0_9.index t 0 * 512 + 512
    rw [hi.1]; omega
  | ⟨1, _⟩ =>
    show win0_9.index t 1 * 256 ≤ (i 1).val ∧ (i 1).val < win0_9.index t 1 * 256 + 256
    rw [hi.2]; omega

theorem arr9_eq : (dats m 0 c).arrAt 9 cfg0.N = arr1 (args m c) :=
  (dats m 0 c).arrAt_eq_of_cover 9 (arr1 (args m c)) (fun t _ => flushed9_eq m c t) fun i => by
    have h0 : (i 1).val < 4096 := (i 1).isLt
    have h1 : (i 0).val < 4096 := (i 0).isLt
    refine ⟨⟨8 * ((i 1).val / 256) + (i 0).val / 512, by rw [N_eq]; omega⟩, flush0_9 _, mem_blk9 _ i ?_ ?_⟩
    · show (i 0).val / 512 = (8 * ((i 1).val / 256) + (i 0).val / 512) % 8; omega
    · show (i 1).val / 256 = (8 * ((i 1).val / 256) + (i 0).val / 512) / 8; omega

theorem flushed10_eq (t : Fin cfg0.N) : (dats m 0 c).flushed 10 t = ((cfg0.win 10).blk t).view.read (Elt Ideal) (arr2 (args m c)) := by
  rw [Value.flushed10]
  funext y
  obtain ⟨h0, h1, h2⟩ := emb10_val t y
  have hx : (y 2).val < 512 := (y 2).isLt
  have hf1 : (y 1).val < 384 := (y 1).isLt
  have ey : y = ix3 0 ⟨(y 1).val, hf1⟩ ⟨(y 2).val, hx⟩ := by
    rw [show (0 : Fin 1) = y 0 from Subsingleton.elim _ _]; exact eq_ix3 y
  show (out0_10 (iblk m c 0 t) (iblk m c 1 t) (iblk m c 2 t) (iblk m c 3 t) (iblk m c 4 t) (iblk m c 5 t) (iblk m c 6 t) (iblk m c 7 t) y : EReal)
    = res2 (args m c) ((win0_10.rect t).emb y 0) ((win0_10.rect t).emb y 2) ((win0_10.rect t).emb y 1)
  have e1 : ((win0_10.rect t).emb y 1) = ⟨(y 1).val, hf1⟩ := Fin.ext h1
  rw [e1]
  exact (congrArg (out0_10 _ _ _ _ _ _ _ _) ey).trans (block2 (reads m c t ⟨(y 2).val, hx⟩ _ _ h0 h2) ⟨(y 1).val, hf1⟩)

theorem mem_blk10 (t : Fin cfg0.N) (i : S16x384x4096.Idx) (h0 : (i 0).val = t.val / 8) (h1 : (i 2).val / 512 = t.val % 8) : i ∈ ((cfg0.win 10).blk t).view.set := by
  show i ∈ ((View.whole main_v66_2).slice (win0_10.rect t)).set
  rw [View.set_slice_whole, Rect.mem_set_unit]
  have hi := index10 t
  have g1 : (i 1).val < 384 := (i 1).isLt
  intro a
  match a with
  | ⟨0, _⟩ =>
    show win0_10.index t 0 * 1 ≤ (i 0).val ∧ (i 0).val < win0_10.index t 0 * 1 + 1
    rw [hi.1]; omega
  | ⟨1, _⟩ =>
    show win0_10.index t 1 * 384 ≤ (i 1).val ∧ (i 1).val < win0_10.index t 1 * 384 + 384
    rw [hi.2.1]; omega
  | ⟨2, _⟩ =>
    show win0_10.index t 2 * 512 ≤ (i 2).val ∧ (i 2).val < win0_10.index t 2 * 512 + 512
    rw [hi.2.2]; omega

theorem arr10_eq : (dats m 0 c).arrAt 10 cfg0.N = arr2 (args m c) :=
  (dats m 0 c).arrAt_eq_of_cover 10 (arr2 (args m c)) (fun t _ => flushed10_eq m c t) fun i => by
    have h0 : (i 0).val < 16 := (i 0).isLt
    have h1 : (i 2).val < 4096 := (i 2).isLt
    refine ⟨⟨8 * ((i 0).val) + (i 2).val / 512, by rw [N_eq]; omega⟩, flush0_10 _, mem_blk10 _ i ?_ ?_⟩
    · show (i 0).val = (8 * ((i 0).val) + (i 2).val / 512) / 8; omega
    · show (i 2).val / 512 = (8 * ((i 0).val) + (i 2).val / 512) % 8; omega

theorem flushed11_eq (t : Fin cfg0.N) : (dats m 0 c).flushed 11 t = ((cfg0.win 11).blk t).view.read (Elt Ideal) (arr3 (args m c)) := by
  rw [Value.flushed11]
  funext y
  obtain ⟨h0, h1, h2⟩ := emb11_val t y
  have hx : (y 1).val < 512 := (y 1).isLt
  have hf2 : (y 2).val < 64 := (y 2).isLt
  have ey : y = ix3 0 ⟨(y 1).val, hx⟩ ⟨(y 2).val, hf2⟩ := by
    rw [show (0 : Fin 1) = y 0 from Subsingleton.elim _ _]; exact eq_ix3 y
  show (out0_11 (iblk m c 0 t) (iblk m c 1 t) (iblk m c 2 t) (iblk m c 3 t) (iblk m c 4 t) (iblk m c 5 t) (iblk m c 6 t) (iblk m c 7 t) y : EReal)
    = res3 (args m c) ((win0_11.rect t).emb y 0) ((win0_11.rect t).emb y 1) ((win0_11.rect t).emb y 2)
  have e2 : ((win0_11.rect t).emb y 2) = ⟨(y 2).val, hf2⟩ := Fin.ext h2
  rw [e2]
  exact (congrArg (out0_11 _ _ _ _ _ _ _ _) ey).trans (block3 (reads m c t ⟨(y 1).val, hx⟩ _ _ h0 h1) ⟨(y 2).val, hf2⟩)

theorem mem_blk11 (t : Fin cfg0.N) (i : S16x4096x64.Idx) (h0 : (i 0).val = t.val / 8) (h1 : (i 1).val / 512 = t.val % 8) : i ∈ ((cfg0.win 11).blk t).view.set := by
  show i ∈ ((View.whole main_v66_3).slice (win0_11.rect t)).set
  rw [View.set_slice_whole, Rect.mem_set_unit]
  have hi := index11 t
  have g2 : (i 2).val < 64 := (i 2).isLt
  intro a
  match a with
  | ⟨0, _⟩ =>
    show win0_11.index t 0 * 1 ≤ (i 0).val ∧ (i 0).val < win0_11.index t 0 * 1 + 1
    rw [hi.1]; omega
  | ⟨1, _⟩ =>
    show win0_11.index t 1 * 512 ≤ (i 1).val ∧ (i 1).val < win0_11.index t 1 * 512 + 512
    rw [hi.2.1]; omega
  | ⟨2, _⟩ =>
    show win0_11.index t 2 * 64 ≤ (i 2).val ∧ (i 2).val < win0_11.index t 2 * 64 + 64
    rw [hi.2.2]; omega

theorem arr11_eq : (dats m 0 c).arrAt 11 cfg0.N = arr3 (args m c) :=
  (dats m 0 c).arrAt_eq_of_cover 11 (arr3 (args m c)) (fun t _ => flushed11_eq m c t) fun i => by
    have h0 : (i 0).val < 16 := (i 0).isLt
    have h1 : (i 1).val < 4096 := (i 1).isLt
    refine ⟨⟨8 * ((i 0).val) + (i 1).val / 512, by rw [N_eq]; omega⟩, flush0_11 _, mem_blk11 _ i ?_ ?_⟩
    · show (i 0).val = (8 * ((i 0).val) + (i 1).val / 512) / 8; omega
    · show (i 1).val / 512 = (8 * ((i 0).val) + (i 1).val / 512) % 8; omega

theorem flushed12_eq (t : Fin cfg0.N) : (dats m 0 c).flushed 12 t = ((cfg0.win 12).blk t).view.read (Elt Ideal) (arr4 (args m c)) := by
  rw [Value.flushed12]
  funext y
  obtain ⟨h0, h1, h2⟩ := emb12_val t y
  have hx : (y 2).val < 512 := (y 2).isLt
  have hf1 : (y 1).val < 64 := (y 1).isLt
  have ey : y = ix3 0 ⟨(y 1).val, hf1⟩ ⟨(y 2).val, hx⟩ := by
    rw [show (0 : Fin 1) = y 0 from Subsingleton.elim _ _]; exact eq_ix3 y
  show (out0_12 (iblk m c 0 t) (iblk m c 1 t) (iblk m c 2 t) (iblk m c 3 t) (iblk m c 4 t) (iblk m c 5 t) (iblk m c 6 t) (iblk m c 7 t) y : EReal)
    = res4 (args m c) ((win0_12.rect t).emb y 0) ((win0_12.rect t).emb y 2) ((win0_12.rect t).emb y 1)
  have e1 : ((win0_12.rect t).emb y 1) = ⟨(y 1).val, hf1⟩ := Fin.ext h1
  rw [e1]
  exact (congrArg (out0_12 _ _ _ _ _ _ _ _) ey).trans (block4 (reads m c t ⟨(y 2).val, hx⟩ _ _ h0 h2) ⟨(y 1).val, hf1⟩)

theorem mem_blk12 (t : Fin cfg0.N) (i : S16x64x4096.Idx) (h0 : (i 0).val = t.val / 8) (h1 : (i 2).val / 512 = t.val % 8) : i ∈ ((cfg0.win 12).blk t).view.set := by
  show i ∈ ((View.whole main_v66_4).slice (win0_12.rect t)).set
  rw [View.set_slice_whole, Rect.mem_set_unit]
  have hi := index12 t
  have g1 : (i 1).val < 64 := (i 1).isLt
  intro a
  match a with
  | ⟨0, _⟩ =>
    show win0_12.index t 0 * 1 ≤ (i 0).val ∧ (i 0).val < win0_12.index t 0 * 1 + 1
    rw [hi.1]; omega
  | ⟨1, _⟩ =>
    show win0_12.index t 1 * 64 ≤ (i 1).val ∧ (i 1).val < win0_12.index t 1 * 64 + 64
    rw [hi.2.1]; omega
  | ⟨2, _⟩ =>
    show win0_12.index t 2 * 512 ≤ (i 2).val ∧ (i 2).val < win0_12.index t 2 * 512 + 512
    rw [hi.2.2]; omega

theorem arr12_eq : (dats m 0 c).arrAt 12 cfg0.N = arr4 (args m c) :=
  (dats m 0 c).arrAt_eq_of_cover 12 (arr4 (args m c)) (fun t _ => flushed12_eq m c t) fun i => by
    have h0 : (i 0).val < 16 := (i 0).isLt
    have h1 : (i 2).val < 4096 := (i 2).isLt
    refine ⟨⟨8 * ((i 0).val) + (i 2).val / 512, by rw [N_eq]; omega⟩, flush0_12 _, mem_blk12 _ i ?_ ?_⟩
    · show (i 0).val = (8 * ((i 0).val) + (i 2).val / 512) / 8; omega
    · show (i 2).val / 512 = (8 * ((i 0).val) + (i 2).val / 512) % 8; omega

theorem flushed13_eq (t : Fin cfg0.N) : (dats m 0 c).flushed 13 t = ((cfg0.win 13).blk t).view.read (Elt Ideal) (arr5 (args m c)) := by
  rw [Value.flushed13]
  funext y
  obtain ⟨h0, h1, h2⟩ := emb13_val t y
  have hx : (y 2).val < 512 := (y 2).isLt
  have hf1 : (y 1).val < 256 := (y 1).isLt
  have ey : y = ix3 0 ⟨(y 1).val, hf1⟩ ⟨(y 2).val, hx⟩ := by
    rw [show (0 : Fin 1) = y 0 from Subsingleton.elim _ _]; exact eq_ix3 y
  show (out0_13 (iblk m c 0 t) (iblk m c 1 t) (iblk m c 2 t) (iblk m c 3 t) (iblk m c 4 t) (iblk m c 5 t) (iblk m c 6 t) (iblk m c 7 t) y : EReal)
    = res5 (args m c) ((win0_13.rect t).emb y 0) ((win0_13.rect t).emb y 2) ((win0_13.rect t).emb y 1)
  have e1 : ((win0_13.rect t).emb y 1) = ⟨(y 1).val, hf1⟩ := Fin.ext h1
  rw [e1]
  exact (congrArg (out0_13 _ _ _ _ _ _ _ _) ey).trans (block5 (reads m c t ⟨(y 2).val, hx⟩ _ _ h0 h2) ⟨(y 1).val, hf1⟩)

theorem mem_blk13 (t : Fin cfg0.N) (i : S16x256x4096.Idx) (h0 : (i 0).val = t.val / 8) (h1 : (i 2).val / 512 = t.val % 8) : i ∈ ((cfg0.win 13).blk t).view.set := by
  show i ∈ ((View.whole main_v66_5).slice (win0_13.rect t)).set
  rw [View.set_slice_whole, Rect.mem_set_unit]
  have hi := index13 t
  have g1 : (i 1).val < 256 := (i 1).isLt
  intro a
  match a with
  | ⟨0, _⟩ =>
    show win0_13.index t 0 * 1 ≤ (i 0).val ∧ (i 0).val < win0_13.index t 0 * 1 + 1
    rw [hi.1]; omega
  | ⟨1, _⟩ =>
    show win0_13.index t 1 * 256 ≤ (i 1).val ∧ (i 1).val < win0_13.index t 1 * 256 + 256
    rw [hi.2.1]; omega
  | ⟨2, _⟩ =>
    show win0_13.index t 2 * 512 ≤ (i 2).val ∧ (i 2).val < win0_13.index t 2 * 512 + 512
    rw [hi.2.2]; omega

theorem arr13_eq : (dats m 0 c).arrAt 13 cfg0.N = arr5 (args m c) :=
  (dats m 0 c).arrAt_eq_of_cover 13 (arr5 (args m c)) (fun t _ => flushed13_eq m c t) fun i => by
    have h0 : (i 0).val < 16 := (i 0).isLt
    have h1 : (i 2).val < 4096 := (i 2).isLt
    refine ⟨⟨8 * ((i 0).val) + (i 2).val / 512, by rw [N_eq]; omega⟩, flush0_13 _, mem_blk13 _ i ?_ ?_⟩
    · show (i 0).val = (8 * ((i 0).val) + (i 2).val / 512) / 8; omega
    · show (i 2).val / 512 = (8 * ((i 0).val) + (i 2).val / 512) % 8; omega

theorem flushed14_eq (t : Fin cfg0.N) : (dats m 0 c).flushed 14 t = ((cfg0.win 14).blk t).view.read (Elt Ideal) (arr6 (args m c)) := by
  rw [Value.flushed14]
  funext y
  obtain ⟨h0, h1, h2⟩ := emb14_val t y
  have hx : (y 1).val < 512 := (y 1).isLt
  have hf2 : (y 2).val < 32 := (y 2).isLt
  have ey : y = ix3 0 ⟨(y 1).val, hx⟩ ⟨(y 2).val, hf2⟩ := by
    rw [show (0 : Fin 1) = y 0 from Subsingleton.elim _ _]; exact eq_ix3 y
  show (out0_14 (iblk m c 0 t) (iblk m c 1 t) (iblk m c 2 t) (iblk m c 3 t) (iblk m c 4 t) (iblk m c 5 t) (iblk m c 6 t) (iblk m c 7 t) y : EReal)
    = res6 (args m c) ((win0_14.rect t).emb y 0) ((win0_14.rect t).emb y 1) ((win0_14.rect t).emb y 2)
  have e2 : ((win0_14.rect t).emb y 2) = ⟨(y 2).val, hf2⟩ := Fin.ext h2
  rw [e2]
  exact (congrArg (out0_14 _ _ _ _ _ _ _ _) ey).trans (block6 (reads m c t ⟨(y 1).val, hx⟩ _ _ h0 h1) ⟨(y 2).val, hf2⟩)

theorem mem_blk14 (t : Fin cfg0.N) (i : S16x4096x32.Idx) (h0 : (i 0).val = t.val / 8) (h1 : (i 1).val / 512 = t.val % 8) : i ∈ ((cfg0.win 14).blk t).view.set := by
  show i ∈ ((View.whole main_v66_6).slice (win0_14.rect t)).set
  rw [View.set_slice_whole, Rect.mem_set_unit]
  have hi := index14 t
  have g2 : (i 2).val < 32 := (i 2).isLt
  intro a
  match a with
  | ⟨0, _⟩ =>
    show win0_14.index t 0 * 1 ≤ (i 0).val ∧ (i 0).val < win0_14.index t 0 * 1 + 1
    rw [hi.1]; omega
  | ⟨1, _⟩ =>
    show win0_14.index t 1 * 512 ≤ (i 1).val ∧ (i 1).val < win0_14.index t 1 * 512 + 512
    rw [hi.2.1]; omega
  | ⟨2, _⟩ =>
    show win0_14.index t 2 * 32 ≤ (i 2).val ∧ (i 2).val < win0_14.index t 2 * 32 + 32
    rw [hi.2.2]; omega

theorem arr14_eq : (dats m 0 c).arrAt 14 cfg0.N = arr6 (args m c) :=
  (dats m 0 c).arrAt_eq_of_cover 14 (arr6 (args m c)) (fun t _ => flushed14_eq m c t) fun i => by
    have h0 : (i 0).val < 16 := (i 0).isLt
    have h1 : (i 1).val < 4096 := (i 1).isLt
    refine ⟨⟨8 * ((i 0).val) + (i 1).val / 512, by rw [N_eq]; omega⟩, flush0_14 _, mem_blk14 _ i ?_ ?_⟩
    · show (i 0).val = (8 * ((i 0).val) + (i 1).val / 512) / 8; omega
    · show (i 1).val / 512 = (8 * ((i 0).val) + (i 1).val / 512) % 8; omega

theorem flushed15_eq (t : Fin cfg0.N) : (dats m 0 c).flushed 15 t = ((cfg0.win 15).blk t).view.read (Elt Ideal) (arr7 (args m c)) := by
  rw [Value.flushed15]
  funext y
  obtain ⟨h0, h1, h2⟩ := emb15_val t y
  have hx : (y 2).val < 512 := (y 2).isLt
  have hf1 : (y 1).val < 8 := (y 1).isLt
  have ey : y = ix3 0 ⟨(y 1).val, hf1⟩ ⟨(y 2).val, hx⟩ := by
    rw [show (0 : Fin 1) = y 0 from Subsingleton.elim _ _]; exact eq_ix3 y
  show (out0_15 (iblk m c 0 t) (iblk m c 1 t) (iblk m c 2 t) (iblk m c 3 t) (iblk m c 4 t) (iblk m c 5 t) (iblk m c 6 t) (iblk m c 7 t) y : EReal)
    = res7 (args m c) ((win0_15.rect t).emb y 0) ((win0_15.rect t).emb y 2) ((win0_15.rect t).emb y 1)
  have e1 : ((win0_15.rect t).emb y 1) = ⟨(y 1).val, hf1⟩ := Fin.ext h1
  rw [e1]
  exact (congrArg (out0_15 _ _ _ _ _ _ _ _) ey).trans (block7 (reads m c t ⟨(y 2).val, hx⟩ _ _ h0 h2) ⟨(y 1).val, hf1⟩)

theorem mem_blk15 (t : Fin cfg0.N) (i : S16x8x4096.Idx) (h0 : (i 0).val = t.val / 8) (h1 : (i 2).val / 512 = t.val % 8) : i ∈ ((cfg0.win 15).blk t).view.set := by
  show i ∈ ((View.whole main_v66_7).slice (win0_15.rect t)).set
  rw [View.set_slice_whole, Rect.mem_set_unit]
  have hi := index15 t
  have g1 : (i 1).val < 8 := (i 1).isLt
  intro a
  match a with
  | ⟨0, _⟩ =>
    show win0_15.index t 0 * 1 ≤ (i 0).val ∧ (i 0).val < win0_15.index t 0 * 1 + 1
    rw [hi.1]; omega
  | ⟨1, _⟩ =>
    show win0_15.index t 1 * 8 ≤ (i 1).val ∧ (i 1).val < win0_15.index t 1 * 8 + 8
    rw [hi.2.1]; omega
  | ⟨2, _⟩ =>
    show win0_15.index t 2 * 512 ≤ (i 2).val ∧ (i 2).val < win0_15.index t 2 * 512 + 512
    rw [hi.2.2]; omega

theorem arr15_eq : (dats m 0 c).arrAt 15 cfg0.N = arr7 (args m c) :=
  (dats m 0 c).arrAt_eq_of_cover 15 (arr7 (args m c)) (fun t _ => flushed15_eq m c t) fun i => by
    have h0 : (i 0).val < 16 := (i 0).isLt
    have h1 : (i 2).val < 4096 := (i 2).isLt
    refine ⟨⟨8 * ((i 0).val) + (i 2).val / 512, by rw [N_eq]; omega⟩, flush0_15 _, mem_blk15 _ i ?_ ?_⟩
    · show (i 0).val = (8 * ((i 0).val) + (i 2).val / 512) / 8; omega
    · show (i 2).val / 512 = (8 * ((i 0).val) + (i 2).val / 512) % 8; omega

theorem flushed16_eq (t : Fin cfg0.N) : (dats m 0 c).flushed 16 t = ((cfg0.win 16).blk t).view.read (Elt Ideal) (arr8 (args m c)) := by
  rw [Value.flushed16]
  funext y
  obtain ⟨h0, h1, h2⟩ := emb16_val t y
  have hx : (y 2).val < 512 := (y 2).isLt
  have hf1 : (y 1).val < 768 := (y 1).isLt
  have ey : y = ix3 0 ⟨(y 1).val, hf1⟩ ⟨(y 2).val, hx⟩ := by
    rw [show (0 : Fin 1) = y 0 from Subsingleton.elim _ _]; exact eq_ix3 y
  show (out0_16 (iblk m c 0 t) (iblk m c 1 t) (iblk m c 2 t) (iblk m c 3 t) (iblk m c 4 t) (iblk m c 5 t) (iblk m c 6 t) (iblk m c 7 t) y : EReal)
    = res8 (args m c) ((win0_16.rect t).emb y 0) ((win0_16.rect t).emb y 2) ((win0_16.rect t).emb y 1)
  have e1 : ((win0_16.rect t).emb y 1) = ⟨(y 1).val, hf1⟩ := Fin.ext h1
  rw [e1]
  exact (congrArg (out0_16 _ _ _ _ _ _ _ _) ey).trans (block8 (reads m c t ⟨(y 2).val, hx⟩ _ _ h0 h2) ⟨(y 1).val, hf1⟩)

theorem mem_blk16 (t : Fin cfg0.N) (i : S16x768x4096.Idx) (h0 : (i 0).val = t.val / 8) (h1 : (i 2).val / 512 = t.val % 8) : i ∈ ((cfg0.win 16).blk t).view.set := by
  show i ∈ ((View.whole main_v66_8).slice (win0_16.rect t)).set
  rw [View.set_slice_whole, Rect.mem_set_unit]
  have hi := index16 t
  have g1 : (i 1).val < 768 := (i 1).isLt
  intro a
  match a with
  | ⟨0, _⟩ =>
    show win0_16.index t 0 * 1 ≤ (i 0).val ∧ (i 0).val < win0_16.index t 0 * 1 + 1
    rw [hi.1]; omega
  | ⟨1, _⟩ =>
    show win0_16.index t 1 * 768 ≤ (i 1).val ∧ (i 1).val < win0_16.index t 1 * 768 + 768
    rw [hi.2.1]; omega
  | ⟨2, _⟩ =>
    show win0_16.index t 2 * 512 ≤ (i 2).val ∧ (i 2).val < win0_16.index t 2 * 512 + 512
    rw [hi.2.2]; omega

theorem arr16_eq : (dats m 0 c).arrAt 16 cfg0.N = arr8 (args m c) :=
  (dats m 0 c).arrAt_eq_of_cover 16 (arr8 (args m c)) (fun t _ => flushed16_eq m c t) fun i => by
    have h0 : (i 0).val < 16 := (i 0).isLt
    have h1 : (i 2).val < 4096 := (i 2).isLt
    refine ⟨⟨8 * ((i 0).val) + (i 2).val / 512, by rw [N_eq]; omega⟩, flush0_16 _, mem_blk16 _ i ?_ ?_⟩
    · show (i 0).val = (8 * ((i 0).val) + (i 2).val / 512) / 8; omega
    · show (i 2).val / 512 = (8 * ((i 0).val) + (i 2).val / 512) % 8; omega

theorem flushed17_eq (t : Fin cfg0.N) : (dats m 0 c).flushed 17 t = ((cfg0.win 17).blk t).view.read (Elt Ideal) (arr9 (args m c)) := by
  rw [Value.flushed17]
  funext y
  obtain ⟨h0, h1, h2, h3⟩ := emb17_val t y
  have hx : (y 2).val < 512 := (y 2).isLt
  have hf1 : (y 1).val < 6 := (y 1).isLt
  have hf3 : (y 3).val < 128 := (y 3).isLt
  have ey : y = ix4 0 ⟨(y 1).val, hf1⟩ ⟨(y 2).val, hx⟩ ⟨(y 3).val, hf3⟩ := by
    rw [show (0 : Fin 1) = y 0 from Subsingleton.elim _ _]; exact eq_ix4 y
  show (out0_17 (iblk m c 0 t) (iblk m c 1 t) (iblk m c 2 t) (iblk m c 3 t) (iblk m c 4 t) (iblk m c 5 t) (iblk m c 6 t) (iblk m c 7 t) y : EReal)
    = res9 (args m c) ((win0_17.rect t).emb y 0) ((win0_17.rect t).emb y 2) ((win0_17.rect t).emb y 1) ((win0_17.rect t).emb y 3)
  have e1 : ((win0_17.rect t).emb y 1) = ⟨(y 1).val, hf1⟩ := Fin.ext h1
  have e3 : ((win0_17.rect t).emb y 3) = ⟨(y 3).val, hf3⟩ := Fin.ext h3
  rw [e1, e3]
  exact (congrArg (out0_17 _ _ _ _ _ _ _ _) ey).trans (block9 (reads m c t ⟨(y 2).val, hx⟩ _ _ h0 h2) ⟨(y 1).val, hf1⟩ ⟨(y 3).val, hf3⟩)

theorem mem_blk17 (t : Fin cfg0.N) (i : S16x6x4096x128.Idx) (h0 : (i 0).val = t.val / 8) (h1 : (i 2).val / 512 = t.val % 8) : i ∈ ((cfg0.win 17).blk t).view.set := by
  show i ∈ ((View.whole main_v66_9).slice (win0_17.rect t)).set
  rw [View.set_slice_whole, Rect.mem_set_unit]
  have hi := index17 t
  have g1 : (i 1).val < 6 := (i 1).isLt
  have g3 : (i 3).val < 128 := (i 3).isLt
  intro a
  match a with
  | ⟨0, _⟩ =>
    show win0_17.index t 0 * 1 ≤ (i 0).val ∧ (i 0).val < win0_17.index t 0 * 1 + 1
    rw [hi.1]; omega
  | ⟨1, _⟩ =>
    show win0_17.index t 1 * 6 ≤ (i 1).val ∧ (i 1).val < win0_17.index t 1 * 6 + 6
    rw [hi.2.1]; omega
  | ⟨2, _⟩ =>
    show win0_17.index t 2 * 512 ≤ (i 2).val ∧ (i 2).val < win0_17.index t 2 * 512 + 512
    rw [hi.2.2.1]; omega
  | ⟨3, _⟩ =>
    show win0_17.index t 3 * 128 ≤ (i 3).val ∧ (i 3).val < win0_17.index t 3 * 128 + 128
    rw [hi.2.2.2]; omega

theorem arr17_eq : (dats m 0 c).arrAt 17 cfg0.N = arr9 (args m c) :=
  (dats m 0 c).arrAt_eq_of_cover 17 (arr9 (args m c)) (fun t _ => flushed17_eq m c t) fun i => by
    have h0 : (i 0).val < 16 := (i 0).isLt
    have h1 : (i 2).val < 4096 := (i 2).isLt
    refine ⟨⟨8 * ((i 0).val) + (i 2).val / 512, by rw [N_eq]; omega⟩, flush0_17 _, mem_blk17 _ i ?_ ?_⟩
    · show (i 0).val = (8 * ((i 0).val) + (i 2).val / 512) / 8; omega
    · show (i 2).val / 512 = (8 * ((i 0).val) + (i 2).val / 512) % 8; omega

theorem flushed18_eq (t : Fin cfg0.N) : (dats m 0 c).flushed 18 t = ((cfg0.win 18).blk t).view.read (Elt Ideal) (arr10 (args m c)) := by
  rw [Value.flushed18]
  funext y
  obtain ⟨h0, h1, h2⟩ := emb18_val t y
  have hx : (y 2).val < 512 := (y 2).isLt
  have hf1 : (y 1).val < 384 := (y 1).isLt
  have ey : y = ix3 0 ⟨(y 1).val, hf1⟩ ⟨(y 2).val, hx⟩ := by
    rw [show (0 : Fin 1) = y 0 from Subsingleton.elim _ _]; exact eq_ix3 y
  show (out0_18 (iblk m c 0 t) (iblk m c 1 t) (iblk m c 2 t) (iblk m c 3 t) (iblk m c 4 t) (iblk m c 5 t) (iblk m c 6 t) (iblk m c 7 t) y : EReal)
    = res10 (args m c) ((win0_18.rect t).emb y 0) ((win0_18.rect t).emb y 2) ((win0_18.rect t).emb y 1)
  have e1 : ((win0_18.rect t).emb y 1) = ⟨(y 1).val, hf1⟩ := Fin.ext h1
  rw [e1]
  exact (congrArg (out0_18 _ _ _ _ _ _ _ _) ey).trans (block10 (reads m c t ⟨(y 2).val, hx⟩ _ _ h0 h2) ⟨(y 1).val, hf1⟩)

theorem mem_blk18 (t : Fin cfg0.N) (i : S16x384x4096.Idx) (h0 : (i 0).val = t.val / 8) (h1 : (i 2).val / 512 = t.val % 8) : i ∈ ((cfg0.win 18).blk t).view.set := by
  show i ∈ ((View.whole main_v66_10).slice (win0_18.rect t)).set
  rw [View.set_slice_whole, Rect.mem_set_unit]
  have hi := index18 t
  have g1 : (i 1).val < 384 := (i 1).isLt
  intro a
  match a with
  | ⟨0, _⟩ =>
    show win0_18.index t 0 * 1 ≤ (i 0).val ∧ (i 0).val < win0_18.index t 0 * 1 + 1
    rw [hi.1]; omega
  | ⟨1, _⟩ =>
    show win0_18.index t 1 * 384 ≤ (i 1).val ∧ (i 1).val < win0_18.index t 1 * 384 + 384
    rw [hi.2.1]; omega
  | ⟨2, _⟩ =>
    show win0_18.index t 2 * 512 ≤ (i 2).val ∧ (i 2).val < win0_18.index t 2 * 512 + 512
    rw [hi.2.2]; omega

theorem arr18_eq : (dats m 0 c).arrAt 18 cfg0.N = arr10 (args m c) :=
  (dats m 0 c).arrAt_eq_of_cover 18 (arr10 (args m c)) (fun t _ => flushed18_eq m c t) fun i => by
    have h0 : (i 0).val < 16 := (i 0).isLt
    have h1 : (i 2).val < 4096 := (i 2).isLt
    refine ⟨⟨8 * ((i 0).val) + (i 2).val / 512, by rw [N_eq]; omega⟩, flush0_18 _, mem_blk18 _ i ?_ ?_⟩
    · show (i 0).val = (8 * ((i 0).val) + (i 2).val / 512) / 8; omega
    · show (i 2).val / 512 = (8 * ((i 0).val) + (i 2).val / 512) % 8; omega

end Arrays

end Cert.Proof.Prep

end
-- ==== Proof.PrepRefOut.lean ====
/- The preparation's reference: its eleven results at an index, and that they are the arrays the kernel's results are. -/
module

public import proofs.«01_k».proof.Proof.PrepRef
public import proofs.«01_k».proof.Proof.PrepArray
public import Idealize.ShloMosaic.PureOps.Ideal

@[expose] public section

set_option maxRecDepth 16384

noncomputable section

namespace Cert.Proof.PrepRef

open Idealize.ShloMosaic Idealize.ShloMosaic.TcCoe
open Cert.Reference4Ideal Cert.Reference4Ideal.Gen Cert.Reference4Ideal.Value
open Cert.Proof.PrepMath Cert.Proof.PrepSpec
open Cert.Proof.Prep (iota_real argsOf arr0 arr1 arr2 arr3 arr4 arr5 arr6 arr7 arr8 arr9 arr10)

/-! ## Turned rows -/

/-- The two halves of 6 heads of 64 entries, turned by the position's angles. -/
def turn6x32 (lo hi : FVec Ideal S16x4096x6x32 .f32) (cs sn : FVec Ideal S4096x1x32 .f32) : FVec Ideal S16x4096x6x64 .f32 :=
  concatenate S16x4096x6x64 3 [⟨S16x4096x6x32, subf (mulf lo (broadcastInDim S16x4096x6x32 ![0, 1, 2, 3] bcast_S1x4096x1x32_S16x4096x6x32_0_1_2_3 (broadcastInDim S1x4096x1x32 ![1, 2, 3] bcast_S4096x1x32_S1x4096x1x32_1_2_3 cs))) (mulf hi (broadcastInDim S16x4096x6x32 ![0, 1, 2, 3] bcast_S1x4096x1x32_S16x4096x6x32_0_1_2_3 (broadcastInDim S1x4096x1x32 ![1, 2, 3] bcast_S4096x1x32_S1x4096x1x32_1_2_3 sn)))⟩,
    ⟨S16x4096x6x32, addf (mulf hi (broadcastInDim S16x4096x6x32 ![0, 1, 2, 3] bcast_S1x4096x1x32_S16x4096x6x32_0_1_2_3 (broadcastInDim S1x4096x1x32 ![1, 2, 3] bcast_S4096x1x32_S1x4096x1x32_1_2_3 cs))) (mulf lo (broadcastInDim S16x4096x6x32 ![0, 1, 2, 3] bcast_S1x4096x1x32_S16x4096x6x32_0_1_2_3 (broadcastInDim S1x4096x1x32 ![1, 2, 3] bcast_S4096x1x32_S1x4096x1x32_1_2_3 sn)))⟩]
  concatenates_S16x4096x6x32_S16x4096x6x32_S16x4096x6x64_d3

theorem turn6x32_apply (lo hi : FVec Ideal S16x4096x6x32 .f32) (cs sn : FVec Ideal S4096x1x32 .f32) (b : Fin 16) (s : Fin 4096) (h : Fin 6) (j : Fin 64)
    (f : Fin 64 → EReal) (hl : ∀ k : Fin 32, lo (ix4 b s h k) = f ⟨k.val, by omega⟩) (hh : ∀ k : Fin 32, hi (ix4 b s h k) = f ⟨32 + k.val, by omega⟩) :
    turn6x32 lo hi cs sn (ix4 b s h j) = rope 32 rfl f (fun i => cs (ix3 s 0 i)) (fun i => sn (ix3 s 0 i)) j := by
  unfold rope
  by_cases hj : j.val < 32
  · rw [dif_pos hj]
    pointwise [turn6x32]
    rw [dif_pos hj, hl, hh]
  · rw [dif_neg hj]
    pointwise [turn6x32]
    have hh' : hi (ix4 b s h ⟨j.val - 32, by omega⟩) = f j := (hh _).trans (congrArg f (Fin.ext (by dsimp only; omega)))
    rw [dif_neg hj, hl, hh']

/-- The two halves of 1 heads of 64 entries, turned by the position's angles. -/
def turn1x32 (lo hi : FVec Ideal S16x4096x1x32 .f32) (cs sn : FVec Ideal S4096x1x32 .f32) : FVec Ideal S16x4096x1x64 .f32 :=
  concatenate S16x4096x1x64 3 [⟨S16x4096x1x32, subf (mulf lo (broadcastInDim S16x4096x1x32 ![0, 1, 2, 3] bcast_S1x4096x1x32_S16x4096x1x32_0_1_2_3 (broadcastInDim S1x4096x1x32 ![1, 2, 3] bcast_S4096x1x32_S1x4096x1x32_1_2_3 cs))) (mulf hi (broadcastInDim S16x4096x1x32 ![0, 1, 2, 3] bcast_S1x4096x1x32_S16x4096x1x32_0_1_2_3 (broadcastInDim S1x4096x1x32 ![1, 2, 3] bcast_S4096x1x32_S1x4096x1x32_1_2_3 sn)))⟩,
    ⟨S16x4096x1x32, addf (mulf hi (broadcastInDim S16x4096x1x32 ![0, 1, 2, 3] bcast_S1x4096x1x32_S16x4096x1x32_0_1_2_3 (broadcastInDim S1x4096x1x32 ![1, 2, 3] bcast_S4096x1x32_S1x4096x1x32_1_2_3 cs))) (mulf lo (broadcastInDim S16x4096x1x32 ![0, 1, 2, 3] bcast_S1x4096x1x32_S16x4096x1x32_0_1_2_3 (broadcastInDim S1x4096x1x32 ![1, 2, 3] bcast_S4096x1x32_S1x4096x1x32_1_2_3 sn)))⟩]
  concatenates_S16x4096x1x32_S16x4096x1x32_S16x4096x1x64_d3

theorem turn1x32_apply (lo hi : FVec Ideal S16x4096x1x32 .f32) (cs sn : FVec Ideal S4096x1x32 .f32) (b : Fin 16) (s : Fin 4096) (j : Fin 64)
    (f : Fin 64 → EReal) (hl : ∀ k : Fin 32, lo (ix4 b s 0 k) = f ⟨k.val, by omega⟩) (hh : ∀ k : Fin 32, hi (ix4 b s 0 k) = f ⟨32 + k.val, by omega⟩) :
    turn1x32 lo hi cs sn (ix4 b s 0 j) = rope 32 rfl f (fun i => cs (ix3 s 0 i)) (fun i => sn (ix3 s 0 i)) j := by
  unfold rope
  by_cases hj : j.val < 32
  · rw [dif_pos hj]
    pointwise [turn1x32]
    rw [dif_pos hj, hl, hh]
  · rw [dif_neg hj]
    pointwise [turn1x32]
    have hh' : hi (ix4 b s 0 ⟨j.val - 32, by omega⟩) = f j := (hh _).trans (congrArg f (Fin.ext (by dsimp only; omega)))
    rw [dif_neg hj, hl, hh']

/-- The two halves of 8 heads of 32 entries, turned by the position's angles. -/
def turn8x16 (lo hi : FVec Ideal S16x4096x8x16 .f32) (cs sn : FVec Ideal S4096x1x16 .f32) : FVec Ideal S16x4096x8x32 .f32 :=
  concatenate S16x4096x8x32 3 [⟨S16x4096x8x16, subf (mulf lo (broadcastInDim S16x4096x8x16 ![0, 1, 2, 3] bcast_S1x4096x1x16_S16x4096x8x16_0_1_2_3 (broadcastInDim S1x4096x1x16 ![1, 2, 3] bcast_S4096x1x16_S1x4096x1x16_1_2_3 cs))) (mulf hi (broadcastInDim S16x4096x8x16 ![0, 1, 2, 3] bcast_S1x4096x1x16_S16x4096x8x16_0_1_2_3 (broadcastInDim S1x4096x1x16 ![1, 2, 3] bcast_S4096x1x16_S1x4096x1x16_1_2_3 sn)))⟩,
    ⟨S16x4096x8x16, addf (mulf hi (broadcastInDim S16x4096x8x16 ![0, 1, 2, 3] bcast_S1x4096x1x16_S16x4096x8x16_0_1_2_3 (broadcastInDim S1x4096x1x16 ![1, 2, 3] bcast_S4096x1x16_S1x4096x1x16_1_2_3 cs))) (mulf lo (broadcastInDim S16x4096x8x16 ![0, 1, 2, 3] bcast_S1x4096x1x16_S16x4096x8x16_0_1_2_3 (broadcastInDim S1x4096x1x16 ![1, 2, 3] bcast_S4096x1x16_S1x4096x1x16_1_2_3 sn)))⟩]
  concatenates_S16x4096x8x16_S16x4096x8x16_S16x4096x8x32_d3

theorem turn8x16_apply (lo hi : FVec Ideal S16x4096x8x16 .f32) (cs sn : FVec Ideal S4096x1x16 .f32) (b : Fin 16) (s : Fin 4096) (h : Fin 8) (j : Fin 32)
    (f : Fin 32 → EReal) (hl : ∀ k : Fin 16, lo (ix4 b s h k) = f ⟨k.val, by omega⟩) (hh : ∀ k : Fin 16, hi (ix4 b s h k) = f ⟨16 + k.val, by omega⟩) :
    turn8x16 lo hi cs sn (ix4 b s h j) = rope 16 rfl f (fun i => cs (ix3 s 0 i)) (fun i => sn (ix3 s 0 i)) j := by
  unfold rope
  by_cases hj : j.val < 16
  · rw [dif_pos hj]
    pointwise [turn8x16]
    rw [dif_pos hj, hl, hh]
  · rw [dif_neg hj]
    pointwise [turn8x16]
    have hh' : hi (ix4 b s h ⟨j.val - 16, by omega⟩) = f j := (hh _).trans (congrArg f (Fin.ext (by dsimp only; omega)))
    rw [dif_neg hj, hl, hh']

/-- The two halves of 1 heads of 32 entries, turned by the position's angles. -/
def turn1x16 (lo hi : FVec Ideal S16x4096x1x16 .f32) (cs sn : FVec Ideal S4096x1x16 .f32) : FVec Ideal S16x4096x1x32 .f32 :=
  concatenate S16x4096x1x32 3 [⟨S16x4096x1x16, subf (mulf lo (broadcastInDim S16x4096x1x16 ![0, 1, 2, 3] bcast_S1x4096x1x16_S16x4096x1x16_0_1_2_3 (broadcastInDim S1x4096x1x16 ![1, 2, 3] bcast_S4096x1x16_S1x4096x1x16_1_2_3 cs))) (mulf hi (broadcastInDim S16x4096x1x16 ![0, 1, 2, 3] bcast_S1x4096x1x16_S16x4096x1x16_0_1_2_3 (broadcastInDim S1x4096x1x16 ![1, 2, 3] bcast_S4096x1x16_S1x4096x1x16_1_2_3 sn)))⟩,
    ⟨S16x4096x1x16, addf (mulf hi (broadcastInDim S16x4096x1x16 ![0, 1, 2, 3] bcast_S1x4096x1x16_S16x4096x1x16_0_1_2_3 (broadcastInDim S1x4096x1x16 ![1, 2, 3] bcast_S4096x1x16_S1x4096x1x16_1_2_3 cs))) (mulf lo (broadcastInDim S16x4096x1x16 ![0, 1, 2, 3] bcast_S1x4096x1x16_S16x4096x1x16_0_1_2_3 (broadcastInDim S1x4096x1x16 ![1, 2, 3] bcast_S4096x1x16_S1x4096x1x16_1_2_3 sn)))⟩]
  concatenates_S16x4096x1x16_S16x4096x1x16_S16x4096x1x32_d3

theorem turn1x16_apply (lo hi : FVec Ideal S16x4096x1x16 .f32) (cs sn : FVec Ideal S4096x1x16 .f32) (b : Fin 16) (s : Fin 4096) (j : Fin 32)
    (f : Fin 32 → EReal) (hl : ∀ k : Fin 16, lo (ix4 b s 0 k) = f ⟨k.val, by omega⟩) (hh : ∀ k : Fin 16, hi (ix4 b s 0 k) = f ⟨16 + k.val, by omega⟩) :
    turn1x16 lo hi cs sn (ix4 b s 0 j) = rope 16 rfl f (fun i => cs (ix3 s 0 i)) (fun i => sn (ix3 s 0 i)) j := by
  unfold rope
  by_cases hj : j.val < 16
  · rw [dif_pos hj]
    pointwise [turn1x16]
    rw [dif_pos hj, hl, hh]
  · rw [dif_neg hj]
    pointwise [turn1x16]
    have hh' : hi (ix4 b s 0 ⟨j.val - 16, by omega⟩) = f j := (hh _).trans (congrArg f (Fin.ext (by dsimp only; omega)))
    rw [dif_neg hj, hl, hh']

/-- The two halves of 6 heads of 32 entries, turned by the position's angles. -/
def turn6x16 (lo hi : FVec Ideal S16x4096x6x16 .f32) (cs sn : FVec Ideal S4096x1x16 .f32) : FVec Ideal S16x4096x6x32 .f32 :=
  concatenate S16x4096x6x32 3 [⟨S16x4096x6x16, subf (mulf lo (broadcastInDim S16x4096x6x16 ![0, 1, 2, 3] bcast_S1x4096x1x16_S16x4096x6x16_0_1_2_3 (broadcastInDim S1x4096x1x16 ![1, 2, 3] bcast_S4096x1x16_S1x4096x1x16_1_2_3 cs))) (mulf hi (broadcastInDim S16x4096x6x16 ![0, 1, 2, 3] bcast_S1x4096x1x16_S16x4096x6x16_0_1_2_3 (broadcastInDim S1x4096x1x16 ![1, 2, 3] bcast_S4096x1x16_S1x4096x1x16_1_2_3 sn)))⟩,
    ⟨S16x4096x6x16, addf (mulf hi (broadcastInDim S16x4096x6x16 ![0, 1, 2, 3] bcast_S1x4096x1x16_S16x4096x6x16_0_1_2_3 (broadcastInDim S1x4096x1x16 ![1, 2, 3] bcast_S4096x1x16_S1x4096x1x16_1_2_3 cs))) (mulf lo (broadcastInDim S16x4096x6x16 ![0, 1, 2, 3] bcast_S1x4096x1x16_S16x4096x6x16_0_1_2_3 (broadcastInDim S1x4096x1x16 ![1, 2, 3] bcast_S4096x1x16_S1x4096x1x16_1_2_3 sn)))⟩]
  concatenates_S16x4096x6x16_S16x4096x6x16_S16x4096x6x32_d3

theorem turn6x16_apply (lo hi : FVec Ideal S16x4096x6x16 .f32) (cs sn : FVec Ideal S4096x1x16 .f32) (b : Fin 16) (s : Fin 4096) (h : Fin 6) (j : Fin 32)
    (f : Fin 32 → EReal) (hl : ∀ k : Fin 16, lo (ix4 b s h k) = f ⟨k.val, by omega⟩) (hh : ∀ k : Fin 16, hi (ix4 b s h k) = f ⟨16 + k.val, by omega⟩) :
    turn6x16 lo hi cs sn (ix4 b s h j) = rope 16 rfl f (fun i => cs (ix3 s 0 i)) (fun i => sn (ix3 s 0 i)) j := by
  unfold rope
  by_cases hj : j.val < 16
  · rw [dif_pos hj]
    pointwise [turn6x16]
    rw [dif_pos hj, hl, hh]
  · rw [dif_neg hj]
    pointwise [turn6x16]
    have hh' : hi (ix4 b s h ⟨j.val - 16, by omega⟩) = f j := (hh _).trans (congrArg f (Fin.ext (by dsimp only; omega)))
    rw [dif_neg hj, hl, hh']

/-! ## The scales -/

theorem sqrt_scale (r : ℝ) (w : BitVec 32) (hr : 0 < r) (hw : Ideal.ofBits .f32 w = ((r : ℝ) : EReal)) (x : EReal) :
    Ideal.div x (Ideal.sqrt (Ideal.ofBits .f32 w) * Ideal.log (Ideal.ofBits .f32 0x40000000#32)) = x * (((Real.sqrt r * Real.log 2)⁻¹ : ℝ) : EReal) := by
  have h2 : Ideal.ofBits .f32 0x40000000#32 = ((2 : ℝ) : EReal) := by
    simp [Ideal.ofBits, Ideal.ieee, -EReal.coe_mul]
    norm_num
  rw [hw, h2, Ideal.sqrt_coe, Ideal.log_coe, if_neg (by linarith), if_neg (by norm_num), ← EReal.coe_mul, Ideal.div_coe, one_div]
  exact (mul_pos (Real.sqrt_pos.mpr hr) (Real.log_pos (by norm_num))).ne'

theorem sitofp_zero : (FloatOps.sitofp .f32 (0#32) : Ideal .f32) = 0 := by
  show ((((0#32 : BitVec 32).toInt : ℤ) : ℝ) : EReal) = 0
  simp

theorem word64 : Ideal.ofBits .f32 0x42800000#32 = ((64 : ℝ) : EReal) := by
    simp [Ideal.ofBits, Ideal.ieee, -EReal.coe_mul]
    norm_num

theorem word96 : Ideal.ofBits .f32 0x42C00000#32 = ((96 : ℝ) : EReal) := by
    simp [Ideal.ofBits, Ideal.ieee, -EReal.coe_mul]
    norm_num

/-! ## The results -/

variable (V : Valuation τ sig (Elt Ideal))

def out0 : FVec Ideal S16x4096x1024 .bf16 := truncf .bf16 (concatenate S16x4096x1024 2 [⟨S16x4096x384, extractStridedSlice S16x4096x384 ![0, 0, 808] (res_main_v14 V) slices_S16x4096x2504_S16x4096x384_0_0_808⟩,
    ⟨S16x4096x256, extractStridedSlice S16x4096x256 ![0, 0, 1448] (res_main_v14 V) slices_S16x4096x2504_S16x4096x256_0_0_1448⟩,
    ⟨S16x4096x384, extractStridedSlice S16x4096x384 ![0, 0, 2120] (res_main_v14 V) slices_S16x4096x2504_S16x4096x384_0_0_2120⟩]
    concatenates_S16x4096x384_S16x4096x256_S16x4096x384_S16x4096x1024_d2) bitsLt_bf16_f32
def out1 : FVec Ideal S4096x4096 .f32 := shapeCast _ (transpose S4096x16x256 [1, 0, 2] (extractStridedSlice S16x4096x256 ![0, 0, 1192] (res_main_v14 V) slices_S16x4096x2504_S16x4096x256_0_0_1192) transposes_S16x4096x256_S4096x16x256_1_0_2) shapeCasts_S4096x16x256_S4096x4096
def out2 : FVec Ideal S16x384x4096 .bf16 := truncf .bf16 (transpose S16x384x4096 [0, 2, 1] (shapeCast S16x4096x384 (Host.divf (turn6x32 (res_main_v60 V) (res_main_v61 V) (res_main_v57 V) (res_main_v59 V))
    (broadcastInDim S16x4096x6x64 ![] bcast_S_S16x4096x6x64 (mulf (Host.sqrt (constant S_ .f32 0x42800000#32)) (Host.log (constant S_ .f32 0x40000000#32))))) shapeCasts_S16x4096x6x64_S16x4096x384) transposes_S16x4096x384_S16x384x4096_0_2_1) bitsLt_bf16_f32
def out3 : FVec Ideal S16x4096x64 .bf16 := truncf .bf16 (shapeCast S16x4096x64 (turn1x32 (res_main_v109 V) (res_main_v110 V) (res_main_v106 V) (res_main_v108 V)) shapeCasts_S16x4096x1x64_S16x4096x64) bitsLt_bf16_f32
def out4 : FVec Ideal S16x64x4096 .bf16 := truncf .bf16 (transpose S16x64x4096 [0, 2, 1] (extractStridedSlice S16x4096x64 ![0, 0, 448] (res_main_v14 V) slices_S16x4096x2504_S16x4096x64_0_0_448) transposes_S16x4096x64_S16x64x4096_0_2_1) bitsLt_bf16_f32
def out5 : FVec Ideal S16x256x4096 .bf16 := truncf .bf16 (transpose S16x256x4096 [0, 2, 1] (shapeCast S16x4096x256 (turn8x16 (res_main_v146 V) (res_main_v147 V) (res_main_v143 V) (res_main_v145 V)) shapeCasts_S16x4096x8x32_S16x4096x256) transposes_S16x4096x256_S16x256x4096_0_2_1) bitsLt_bf16_f32
def out6 : FVec Ideal S16x4096x32 .bf16 := truncf .bf16 (shapeCast S16x4096x32 (turn1x16 (res_main_v182 V) (res_main_v183 V) (res_main_v179 V) (res_main_v181 V)) shapeCasts_S16x4096x1x32_S16x4096x32) bitsLt_bf16_f32
def out7 : FVec Ideal S16x8x4096 .f32 := transpose S16x8x4096 [0, 2, 1] (mulf (extractStridedSlice S16x4096x8 ![0, 0, 800] (res_main_v14 V) slices_S16x4096x2504_S16x4096x8_0_0_800) (broadcastInDim S16x4096x8 ![] bcast_S_S16x4096x8 (constant S_ .f32 0x3D800000#32))) transposes_S16x4096x8_S16x8x4096_0_2_1
def out8 : FVec Ideal S16x768x4096 .bf16 := truncf .bf16 (transpose S16x768x4096 [0, 2, 1] (shapeCast S16x4096x768 (pad S16x4096x6x128 ![0, 0, 0, 0] ![0, 0, 0, 32] ![0, 0, 0, 0] (Host.divf (concatenate S16x4096x6x96 3 [⟨S16x4096x6x64, extractStridedSlice S16x4096x6x64 ![0, 0, 0, 0] (res_main_v249 V) slices_S16x4096x6x96_S16x4096x6x64_0_0_0_0⟩, ⟨S16x4096x6x32, turn6x16 (res_main_v283 V) (res_main_v284 V) (res_main_v280 V) (res_main_v282 V)⟩]
    concatenates_S16x4096x6x64_S16x4096x6x32_S16x4096x6x96_d3) (broadcastInDim S16x4096x6x96 ![] bcast_S_S16x4096x6x96 (mulf (Host.sqrt (constant S_ .f32 0x42C00000#32)) (Host.log (constant S_ .f32 0x40000000#32))))) (sitofp .f32 (constantI S_ 32 0#32)) pads_S16x4096x6x96_S16x4096x6x128_000_000_000_0320 h_S_) shapeCasts_S16x4096x6x128_S16x4096x768) transposes_S16x4096x768_S16x768x4096_0_2_1) bitsLt_bf16_f32
def out9 : FVec Ideal S16x6x4096x128 .bf16 := truncf .bf16 (transpose S16x6x4096x128 [0, 2, 1, 3] (pad S16x4096x6x128 ![0, 0, 0, 0] ![0, 0, 0, 32] ![0, 0, 0, 0] (concatenate S16x4096x6x96 3 [⟨S16x4096x6x64, extractStridedSlice S16x4096x6x64 ![0, 0, 0, 0] (res_main_v262 V) slices_S16x4096x6x96_S16x4096x6x64_0_0_0_0⟩, ⟨S16x4096x6x32, turn6x16 (res_main_v321 V) (res_main_v322 V) (res_main_v318 V) (res_main_v320 V)⟩]
    concatenates_S16x4096x6x64_S16x4096x6x32_S16x4096x6x96_d3) (sitofp .f32 (constantI S_ 32 0#32)) pads_S16x4096x6x96_S16x4096x6x128_000_000_000_0320 h_S_) transposes_S16x4096x6x128_S16x6x4096x128_0_2_1_3) bitsLt_bf16_f32
def out10 : FVec Ideal S16x384x4096 .bf16 := truncf .bf16 (transpose S16x384x4096 [0, 2, 1] (shapeCast S16x4096x384 (extractStridedSlice S16x4096x6x64 ![0, 0, 0, 64] (res_main_v231 V) slices_S16x4096x6x128_S16x4096x6x64_0_0_0_64) shapeCasts_S16x4096x6x64_S16x4096x384) transposes_S16x4096x384_S16x384x4096_0_2_1) bitsLt_bf16_f32

theorem out0_apply (b : Fin 16) (s : Fin 4096) (n : Fin 1024) : out0 V (ix3 b s n) = res0 (args V) b s n := by
  have hn := n.isLt
  unfold res0
  refine Eq.trans ?_ (v14_apply V b s ⟨gateCol n.val, by unfold gateCol; split_ifs <;> omega⟩)
  pointwise [out0]
  split_ifs <;> exact congrArg (fun x => res_main_v14 V (ix3 b s x)) (Fin.ext (by dsimp only; unfold gateCol; split_ifs <;> omega))
theorem out1_apply (s : Fin 4096) (p : Fin 4096) : out1 V (ix2 s p) = res1 (args V) ⟨p.val / 256, by omega⟩ s ⟨p.val % 256, by omega⟩ := by
  unfold res1
  refine Eq.trans ?_ (v14_apply V ⟨p.val / 256, by omega⟩ s ⟨1192 + p.val % 256, by omega⟩)
  pointwise [out1]
theorem out2_apply (b : Fin 16) (p : Fin 384) (s : Fin 4096) : out2 V (ix3 b p s) = res2 (args V) b s p := by
  unfold res2 headVal
  have e (h : Fin 6) (j : Fin 64) := turn6x32_apply (res_main_v60 V) (res_main_v61 V) (res_main_v57 V) (res_main_v59 V) b s h j
    (rms (Ideal.ofBits .f32 0x42800000#32) (fun k : Fin 64 => pr (args V) b s (64 * h.val + k.val)) (args V).aq)
    (fun k => by refine Eq.trans ?_ (v41_apply V b s h _); pointwise [res_main_v60])
    (fun k => by refine Eq.trans ?_ (v41_apply V b s h _); pointwise [res_main_v61])
  simp only [v57_apply, v59_apply] at e
  refine Eq.trans ?_ (congrArg (· * scaleA) (e ⟨p.val / 64, by omega⟩ ⟨p.val % 64, by omega⟩))
  refine Eq.trans ?_ (sqrt_scale 64 0x42800000#32 (by norm_num) word64 _)
  pointwise [out2]
theorem out3_apply (b : Fin 16) (s : Fin 4096) (j : Fin 64) : out3 V (ix3 b s j) = res3 (args V) b s j := by
  unfold res3 headVal
  have e := turn1x32_apply (res_main_v109 V) (res_main_v110 V) (res_main_v106 V) (res_main_v108 V) b s j
    (rms (Ideal.ofBits .f32 0x42800000#32) (fun k : Fin 64 => pr (args V) b s (384 + k.val)) (args V).ak)
    (fun k => by refine Eq.trans ?_ (v90_apply V b s _); pointwise [res_main_v109])
    (fun k => by refine Eq.trans ?_ (v90_apply V b s _); pointwise [res_main_v110])
  simp only [v106_apply, v108_apply] at e
  refine Eq.trans ?_ e
  pointwise [out3]
theorem out4_apply (b : Fin 16) (j : Fin 64) (s : Fin 4096) : out4 V (ix3 b j s) = res4 (args V) b s j := by
  unfold res4
  refine Eq.trans ?_ (v14_apply V b s ⟨448 + j.val, by omega⟩)
  pointwise [out4]
theorem out5_apply (b : Fin 16) (p : Fin 256) (s : Fin 4096) : out5 V (ix3 b p s) = res5 (args V) b s p := by
  unfold res5 indexVal
  have e (h : Fin 8) (j : Fin 32) := turn8x16_apply (res_main_v146 V) (res_main_v147 V) (res_main_v143 V) (res_main_v145 V) b s h j
    (fun k : Fin 32 => pr (args V) b s (512 + 32 * h.val + k.val))
    (fun k => by refine Eq.trans ?_ (v127_apply V b s h _); pointwise [res_main_v146])
    (fun k => by refine Eq.trans ?_ (v127_apply V b s h _); pointwise [res_main_v147])
  simp only [v143_apply, v145_apply] at e
  refine Eq.trans ?_ (e ⟨p.val / 32, by omega⟩ ⟨p.val % 32, by omega⟩)
  pointwise [out5]
theorem out6_apply (b : Fin 16) (s : Fin 4096) (j : Fin 32) : out6 V (ix3 b s j) = res6 (args V) b s j := by
  unfold res6 indexVal
  have e := turn1x16_apply (res_main_v182 V) (res_main_v183 V) (res_main_v179 V) (res_main_v181 V) b s j
    (fun k : Fin 32 => pr (args V) b s (768 + k.val))
    (fun k => by refine Eq.trans ?_ (v163_apply V b s _); pointwise [res_main_v182])
    (fun k => by refine Eq.trans ?_ (v163_apply V b s _); pointwise [res_main_v183])
  simp only [v179_apply, v181_apply] at e
  refine Eq.trans ?_ e
  pointwise [out6]
theorem out7_apply (b : Fin 16) (j : Fin 8) (s : Fin 4096) : out7 V (ix3 b j s) = res7 (args V) b s j := by
  unfold res7
  refine Eq.trans ?_ (congrArg (· * Ideal.ofBits .f32 0x3D800000#32) (v14_apply V b s ⟨800 + j.val, by omega⟩))
  pointwise [out7]
theorem out8_apply (b : Fin 16) (p : Fin 768) (s : Fin 4096) : out8 V (ix3 b p s) = res8 (args V) b s p := by
  unfold res8 queryC padded
  have e (h : Fin 6) (j : Fin 32) := turn6x16_apply (res_main_v283 V) (res_main_v284 V) (res_main_v280 V) (res_main_v282 V) b s h j
    (fun k : Fin 32 => normQ (args V) b s h.val ⟨64 + k.val, by omega⟩)
    (fun k => by refine Eq.trans ?_ (v249_apply V b s h _); pointwise [res_main_v283, res_main_v264])
    (fun k => by refine Eq.trans ?_ (v249_apply V b s h _); pointwise [res_main_v284, res_main_v264])
  simp only [v280_apply, v282_apply] at e
  by_cases h1 : p.val % 128 < 64
  · rw [dif_pos h1]
    refine Eq.trans ?_ (congrArg (· * scaleC) (v249_apply V b s ⟨p.val / 128, by omega⟩ ⟨p.val % 128, by omega⟩))
    refine Eq.trans ?_ (sqrt_scale 96 0x42C00000#32 (by norm_num) word96 _)
    pointwise [out8]
    rw [dif_pos (by omega), dif_pos (by omega)]
  · rw [dif_neg h1]
    by_cases h2 : p.val % 128 < 96
    · rw [dif_pos h2]
      refine Eq.trans ?_ (congrArg (· * scaleC) (e ⟨p.val / 128, by omega⟩ ⟨p.val % 128 - 64, by omega⟩))
      refine Eq.trans ?_ (sqrt_scale 96 0x42C00000#32 (by norm_num) word96 _)
      pointwise [out8]
      rw [dif_pos (by omega), dif_neg (by omega)]
    · rw [dif_neg h2, zero_mul]
      pointwise [out8]
      rw [dif_neg (by omega)]
      exact sitofp_zero

/-- The norm's factor of a latent key, the squares summed in two pieces. -/
theorem factor_eq (A : Args) (b : Fin 16) (s : Fin 4096) (h : ℕ) :
    Ideal.rsqrt (Ideal.div (∑ k, catK A b s h k * catK A b s h k) (Ideal.ofBits .f32 0x42C00000#32) + eps)
      = factor (fun k => upKv A b s (128 * h + k.val)) (fun k => pr A b s (2088 + k.val)) := by
  unfold factor
  rw [word96, Ideal.div_coe (by norm_num), show (∑ k, catK A b s h k * catK A b s h k) = _ from Fin.sum_univ_add (a := 64) (b := 32) (fun k : Fin 96 => catK A b s h k * catK A b s h k)]
  have e1 (k : Fin 64) : catK A b s h (Fin.castAdd 32 k) = upKv A b s (128 * h + k.val) := if_pos k.isLt
  have e2 (k : Fin 32) : catK A b s h (Fin.natAdd 64 k) = pr A b s (2088 + k.val) :=
    (if_neg (by show ¬ 64 + k.val < 64; omega)).trans (congrArg (pr A b s) (by show 2088 + (64 + k.val - 64) = _; omega))
  have s1 : (∑ k : Fin 64, catK A b s h (Fin.castAdd 32 k) * catK A b s h (Fin.castAdd 32 k)) = ∑ k : Fin 64, upKv A b s (128 * h + k.val) * upKv A b s (128 * h + k.val) :=
    Finset.sum_congr rfl fun k _ => by rw [e1]
  have s2 : (∑ k : Fin 32, catK A b s h (Fin.natAdd 64 k) * catK A b s h (Fin.natAdd 64 k)) = ∑ k : Fin 32, pr A b s (2088 + k.val) * pr A b s (2088 + k.val) :=
    Finset.sum_congr rfl fun k _ => by rw [e2]
  exact congrArg (fun x => Ideal.rsqrt (x * ((1 / 96 : ℝ) : EReal) + eps)) (congr (congrArg (· + ·) s1) s2)

theorem v262_own (b : Fin 16) (s : Fin 4096) (h : Fin 6) (k : Fin 64) : res_main_v262 V (ix4 b s h ⟨k.val, by omega⟩)
    = upKv (args V) b s (128 * h.val + k.val) * factor (fun k => upKv (args V) b s (128 * h.val + k.val)) (fun k => pr (args V) b s (2088 + k.val)) * (args V).gk ⟨k.val, by omega⟩ := by
  refine (v262_apply V b s h _).trans ?_
  unfold rms
  rw [factor_eq]
  exact congrArg (· * _ * _) (if_pos k.isLt)
theorem v262_shared (b : Fin 16) (s : Fin 4096) (h : Fin 6) (k : Fin 32) : res_main_v262 V (ix4 b s h ⟨64 + k.val, by omega⟩)
    = pr (args V) b s (2088 + k.val) * factor (fun k => upKv (args V) b s (128 * h.val + k.val)) (fun k => pr (args V) b s (2088 + k.val)) * (args V).gk ⟨64 + k.val, by omega⟩ := by
  refine (v262_apply V b s h _).trans ?_
  unfold rms
  rw [factor_eq]
  exact congrArg (· * _ * _) ((if_neg (by dsimp only; omega)).trans (congrArg (pr (args V) b s) (by dsimp only; omega)))

theorem out9_apply (b : Fin 16) (h : Fin 6) (s : Fin 4096) (j : Fin 128) : out9 V (ix4 b h s j) = res9 (args V) b s h j := by
  unfold res9 keyC padded
  have e (j : Fin 32) := turn6x16_apply (res_main_v321 V) (res_main_v322 V) (res_main_v318 V) (res_main_v320 V) b s h j
    (fun k : Fin 32 => pr (args V) b s (2088 + k.val) * factor (fun k => upKv (args V) b s (128 * h.val + k.val)) (fun k => pr (args V) b s (2088 + k.val)) * (args V).gk ⟨64 + k.val, by omega⟩)
    (fun k => by refine Eq.trans ?_ (v262_shared V b s h _); pointwise [res_main_v321, res_main_v302])
    (fun k => by refine Eq.trans ?_ (v262_shared V b s h _); pointwise [res_main_v322, res_main_v302])
  simp only [v318_apply, v320_apply] at e
  by_cases h1 : j.val < 64
  · rw [dif_pos h1]
    refine Eq.trans ?_ (v262_own V b s h ⟨j.val, h1⟩)
    pointwise [out9]
    rw [dif_pos (by omega), dif_pos (by omega)]
  · rw [dif_neg h1]
    by_cases h2 : j.val < 96
    · rw [dif_pos h2]
      refine Eq.trans ?_ (e ⟨j.val - 64, by omega⟩)
      pointwise [out9]
      rw [dif_pos (by omega), dif_neg (by omega)]
    · rw [dif_neg h2]
      pointwise [out9]
      rw [dif_neg (by omega)]
      exact sitofp_zero
theorem out10_apply (b : Fin 16) (p : Fin 384) (s : Fin 4096) : out10 V (ix3 b p s) = res10 (args V) b s p := by
  unfold res10
  refine Eq.trans ?_ ((v231_apply V b s ⟨p.val / 64, by omega⟩ ⟨64 + p.val % 64, by omega⟩).trans (congrArg (upKv (args V) b s) (by dsimp only; omega)))
  pointwise [out10]

/-! ## The kernel's arrays are the results -/

theorem arr0_eq : arr0 (args V) = out0 V := by
  funext i
  exact (out0_apply V (i 0) (i 1) (i 2)).symm.trans (congrArg (out0 V) (eq_ix3 i).symm)
theorem arr1_eq : arr1 (args V) = out1 V := by
  funext i
  exact (out1_apply V (i 0) (i 1)).symm.trans (congrArg (out1 V) (eq_ix2 i).symm)
theorem arr2_eq : arr2 (args V) = out2 V := by
  funext i
  exact (out2_apply V (i 0) (i 1) (i 2)).symm.trans (congrArg (out2 V) (eq_ix3 i).symm)
theorem arr3_eq : arr3 (args V) = out3 V := by
  funext i
  exact (out3_apply V (i 0) (i 1) (i 2)).symm.trans (congrArg (out3 V) (eq_ix3 i).symm)
theorem arr4_eq : arr4 (args V) = out4 V := by
  funext i
  exact (out4_apply V (i 0) (i 1) (i 2)).symm.trans (congrArg (out4 V) (eq_ix3 i).symm)
theorem arr5_eq : arr5 (args V) = out5 V := by
  funext i
  exact (out5_apply V (i 0) (i 1) (i 2)).symm.trans (congrArg (out5 V) (eq_ix3 i).symm)
theorem arr6_eq : arr6 (args V) = out6 V := by
  funext i
  exact (out6_apply V (i 0) (i 1) (i 2)).symm.trans (congrArg (out6 V) (eq_ix3 i).symm)
theorem arr7_eq : arr7 (args V) = out7 V := by
  funext i
  exact (out7_apply V (i 0) (i 1) (i 2)).symm.trans (congrArg (out7 V) (eq_ix3 i).symm)
theorem arr8_eq : arr8 (args V) = out8 V := by
  funext i
  exact (out8_apply V (i 0) (i 1) (i 2)).symm.trans (congrArg (out8 V) (eq_ix3 i).symm)
theorem arr9_eq : arr9 (args V) = out9 V := by
  funext i
  exact (out9_apply V (i 0) (i 1) (i 2) (i 3)).symm.trans (congrArg (out9 V) (eq_ix4 i).symm)
theorem arr10_eq : arr10 (args V) = out10 V := by
  funext i
  exact (out10_apply V (i 0) (i 1) (i 2)).symm.trans (congrArg (out10 V) (eq_ix3 i).symm)

end Cert.Proof.PrepRef

end
-- ==== Proof.PrepEq.lean ====
/- The preparation: of equal arguments the kernel's result arrays are the reference's results. -/
module

public import proofs.«01_k».proof.Proof.PrepRefOut

@[expose] public section

set_option maxRecDepth 16384

noncomputable section

namespace Cert.Proof.PrepRef

open Idealize.ShloMosaic Idealize.ShloMosaic.TcCoe Idealize.SL.Sem
open Cert.Reference4Ideal Cert.Reference4Ideal.Gen Cert.Reference4Ideal.Value
open Cert.Proof.PrepSpec
open Cert.Proof.Prep (arr0 arr1 arr2 arr3 arr4 arr5 arr6 arr7 arr8 arr9 arr10)

section Same

variable (m : (ℓ : Loc Kernel4Ideal.nD Kernel4Ideal.τ Kernel4Ideal.sig) → Buf (Elt Ideal) ℓ) (m' : (ℓ : Loc nD τ sig) → Buf (Elt Ideal) ℓ) (c : Dev nD)

/-- Equal arguments are equal functions of their indices. -/
theorem args_eq (h0 : arg0 (StableHlo.launchContents m' c) = Prep.arg0 m c) (h1 : arg1 (StableHlo.launchContents m' c) = Prep.arg1 m c) (h2 : arg2 (StableHlo.launchContents m' c) = Prep.arg2 m c) (h3 : arg3 (StableHlo.launchContents m' c) = Prep.arg3 m c) (h4 : arg4 (StableHlo.launchContents m' c) = Prep.arg4 m c) (h5 : arg5 (StableHlo.launchContents m' c) = Prep.arg5 m c) (h6 : arg6 (StableHlo.launchContents m' c) = Prep.arg6 m c) (h7 : arg7 (StableHlo.launchContents m' c) = Prep.arg7 m c) (h8 : arg8 (StableHlo.launchContents m' c) = Prep.arg8 m c) (h9 : arg9 (StableHlo.launchContents m' c) = Prep.arg9 m c) (h10 : arg10 (StableHlo.launchContents m' c) = Prep.arg10 m c) :
    args (StableHlo.launchContents m' c) = Prep.args m c := by
  unfold args Prep.args
  rw [h0, h1, h2, h3, h4, h5, h6, h7, h8, h9, h10]

end Same

/-- The reference's run: its results are these arrays of its arguments, and its arguments stay. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c : Thread nD τ).loc main_v350) = arr0 (args (StableHlo.launchContents m c))
      ∧ r.2.mem ((c : Thread nD τ).loc main_v352) = arr1 (args (StableHlo.launchContents m c))
      ∧ r.2.mem ((c : Thread nD τ).loc main_v355) = arr2 (args (StableHlo.launchContents m c))
      ∧ r.2.mem ((c : Thread nD τ).loc main_v356) = arr3 (args (StableHlo.launchContents m c))
      ∧ r.2.mem ((c : Thread nD τ).loc main_v358) = arr4 (args (StableHlo.launchContents m c))
      ∧ r.2.mem ((c : Thread nD τ).loc main_v361) = arr5 (args (StableHlo.launchContents m c))
      ∧ r.2.mem ((c : Thread nD τ).loc main_v362) = arr6 (args (StableHlo.launchContents m c))
      ∧ r.2.mem ((c : Thread nD τ).loc main_v363) = arr7 (args (StableHlo.launchContents m c))
      ∧ r.2.mem ((c : Thread nD τ).loc main_v367) = arr8 (args (StableHlo.launchContents m c))
      ∧ r.2.mem ((c : Thread nD τ).loc main_v370) = arr9 (args (StableHlo.launchContents m c))
      ∧ r.2.mem ((c : Thread nD τ).loc main_v373) = arr10 (args (StableHlo.launchContents m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => by
    obtain ⟨h0, h1, h2, h3, h4, h5, h6, h7, h8, h9, h10, hargs⟩ := h c
    exact ⟨h0.trans (arr0_eq (StableHlo.launchContents m c)).symm,
      h1.trans (arr1_eq (StableHlo.launchContents m c)).symm,
      h2.trans (arr2_eq (StableHlo.launchContents m c)).symm,
      h3.trans (arr3_eq (StableHlo.launchContents m c)).symm,
      h4.trans (arr4_eq (StableHlo.launchContents m c)).symm,
      h5.trans (arr5_eq (StableHlo.launchContents m c)).symm,
      h6.trans (arr6_eq (StableHlo.launchContents m c)).symm,
      h7.trans (arr7_eq (StableHlo.launchContents m c)).symm,
      h8.trans (arr8_eq (StableHlo.launchContents m c)).symm,
      h9.trans (arr9_eq (StableHlo.launchContents m c)).symm,
      h10.trans (arr10_eq (StableHlo.launchContents m c)).symm, hargs⟩)
    (Cert.Reference4Ideal.Value.run (F := Ideal) m g)

end Cert.Proof.PrepRef

end
-- ==== Proof.PrepRun.lean ====
/- The preparation: the kernel's run, its eleven results stated as arrays of its arguments. -/
module

public import proofs.«01_k».proof.Proof.PrepArray
public import proofs.«01_k».proof.Proof.Gen.Kernel4Ideal.Value

@[expose] public section

set_option maxRecDepth 16384

noncomputable section

namespace Cert.Proof.Prep

open Idealize.ShloMosaic Idealize.ShloMosaic.TcCoe Idealize.SL.Sem
open Cert.Kernel4Ideal Cert.Kernel4Ideal.Gen Cert.Kernel4Ideal.Value

set_option maxHeartbeats 2000000 in
/-- The kernel's run: its results are these arrays of its arguments, and its arguments stay. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c : Thread nD τ).loc main_v66_0) = arr0 (args m c)
      ∧ r.2.mem ((c : Thread nD τ).loc main_v66_1) = arr1 (args m c)
      ∧ r.2.mem ((c : Thread nD τ).loc main_v66_2) = arr2 (args m c)
      ∧ r.2.mem ((c : Thread nD τ).loc main_v66_3) = arr3 (args m c)
      ∧ r.2.mem ((c : Thread nD τ).loc main_v66_4) = arr4 (args m c)
      ∧ r.2.mem ((c : Thread nD τ).loc main_v66_5) = arr5 (args m c)
      ∧ r.2.mem ((c : Thread nD τ).loc main_v66_6) = arr6 (args m c)
      ∧ r.2.mem ((c : Thread nD τ).loc main_v66_7) = arr7 (args m c)
      ∧ r.2.mem ((c : Thread nD τ).loc main_v66_8) = arr8 (args m c)
      ∧ r.2.mem ((c : Thread nD τ).loc main_v66_9) = arr9 (args m c)
      ∧ r.2.mem ((c : Thread nD τ).loc main_v66_10) = arr10 (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => by
    obtain ⟨h0, h1, h2, h3, h4, h5, h6, h7, h8, h9, h10, ha⟩ := h c
    have e0 := arr8_eq m c
    have k0 := h0.trans e0
    clear h0 e0
    have e1 := arr9_eq m c
    have k1 := h1.trans e1
    clear h1 e1
    have e2 := arr10_eq m c
    have k2 := h2.trans e2
    clear h2 e2
    have e3 := arr11_eq m c
    have k3 := h3.trans e3
    clear h3 e3
    have e4 := arr12_eq m c
    have k4 := h4.trans e4
    clear h4 e4
    have e5 := arr13_eq m c
    have k5 := h5.trans e5
    clear h5 e5
    have e6 := arr14_eq m c
    have k6 := h6.trans e6
    clear h6 e6
    have e7 := arr15_eq m c
    have k7 := h7.trans e7
    clear h7 e7
    have e8 := arr16_eq m c
    have k8 := h8.trans e8
    clear h8 e8
    have e9 := arr17_eq m c
    have k9 := h9.trans e9
    clear h9 e9
    have e10 := arr18_eq m c
    have k10 := h10.trans e10
    clear h10 e10
    exact ⟨k0, k1, k2, k3, k4, k5, k6, k7, k8, k9, k10, ha⟩) (run_blocks (F := Ideal) m g)

end Cert.Proof.Prep

end

end
-- ==== Proof.lean ====
/- The proof of the certificate's claim: the sparse-attention kernel's frame (Proof/KernelFrame.lean); of the dense attention,
   the output projection and the preparation the kernel's run (Proof/MlaRun.lean, Proof/OutArray.lean, Proof/PrepRun.lean),
   the reference's, and that over the extended reals their results are equal (Proof/MlaEq.lean, Proof/OutRef.lean,
   Proof/PrepEq.lean). -/
module

public import proofs.«01_k».proof.Defs
public import proofs.«01_k».proof.Proof.Gen.Kernel
public import proofs.«01_k».proof.Proof.KernelFrame
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2
public import proofs.«01_k».proof.Proof.Gen.Reference2Ideal
public import proofs.«01_k».proof.Proof.Gen.Reference2Ideal.Run
public import proofs.«01_k».proof.Proof.Gen.Pre_real_qk
public import proofs.«01_k».proof.Proof.Gen.Kernel3.Frame
public import proofs.«01_k».proof.Proof.Gen.Kernel3Ideal.Value
public import proofs.«01_k».proof.Proof.Gen.Reference3
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4
public import proofs.«01_k».proof.Proof.Gen.Reference4Ideal.Run
public import proofs.«01_k».proof.Proof.MlaSame
public import proofs.«01_k».proof.Proof.MlaEq
public import proofs.«01_k».proof.Proof.OutRef
public import proofs.«01_k».proof.Proof.PrepEq
public import proofs.«01_k».proof.Proof.PrepRun

@[expose] public section

noncomputable section

namespace Cert.Proof

open Idealize.ShloMosaic Idealize.SL.Sem

theorem frame_kernel : Cert.quiescent_Kernel (hKernel := Cert.Kernel.Gen.facts) := fun m g _ =>
  KernelFrame.run (F := Bits) m g

/-! ## The dense attention -/

theorem frame_kernel2 : Cert.quiescent_Kernel2 (hKernel2 := Cert.Kernel2.Gen.facts) := fun m g _ =>
  Mla.run_words m g

theorem frame_kernel2Ideal : Cert.quiescent_Kernel2Ideal (hKernel2Ideal := Cert.Kernel2Ideal.Gen.facts) := fun m g _ =>
  (θ_run Cert.Kernel2Ideal.defs _ _).mono (fun _ h => ⟨fun c => (h.1 c).2, h.2⟩) (Mla.run (F := Ideal) m g)

theorem frame_reference2Ideal : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

theorem frame_reference2 : Cert.quiescent_Reference2 (hReference2 := Cert.Reference2.Gen.facts) := fun m g _ =>
  (θ_run Cert.Reference2Ideal.defs _ _).mono (fun r h => ⟨fun c => (h c).2, sem_eq_zero_of_no_sems (by decide) r.2⟩)
    (Cert.Reference2Ideal.Value.run (F := Bits) m g)

/-- The kernel's result and the reference's are one array. -/
theorem algebraic2 : Cert.algebraic_Kernel2Ideal_Reference2Ideal_pre_real_qk (hKernel2Ideal := Cert.Kernel2Ideal.Gen.facts)
    (hReference2Ideal := Cert.Reference2Ideal.Gen.facts) (hPre_real_qk := Cert.Pre_real_qk.Gen.facts) := fun m g m' g' hpre hargs =>
  ⟨fun c => Mla.outArr m c,
    (θ_run Cert.Kernel2Ideal.defs _ _).mono (fun _ h c => ⟨(h.1 c).1.trans (Mla.arr_eq m c), (h.1 c).2⟩) (Mla.run (F := Ideal) m g),
    (θ_run Cert.Reference2Ideal.defs _ _).mono (fun _ h c => by
      haveI := Cert.Pre_real_qk.Gen.facts
      obtain ⟨rQ, rK⟩ := MlaEq.real_of_pre _ _ _ (hpre c)
      exact ⟨(h c).1.trans ((MlaRef.res_eq m' c).trans (MlaEq.arr_eq_result m m' c (hargs c).1 (hargs c).2.1 (hargs c).2.2 rQ rK).symm), (h c).2⟩)
      (Cert.Reference2Ideal.Value.run (F := Ideal) m' g')⟩

/-! ## The output projection -/

theorem frame_kernel3 : Cert.quiescent_Kernel3 (hKernel3 := Cert.Kernel3.Gen.facts) := fun m g _ =>
  Cert.Kernel3.Gen.frame (F := Bits) m g

theorem frame_kernel3Ideal : Cert.quiescent_Kernel3Ideal (hKernel3Ideal := Cert.Kernel3Ideal.Gen.facts) := fun m g _ =>
  Cert.Kernel3Ideal.Gen.frame (F := Ideal) m g

theorem frame_reference3Ideal : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

theorem frame_reference3 : Cert.quiescent_Reference3 (hReference3 := Cert.Reference3.Gen.facts) := fun m g _ =>
  (θ_run Cert.Reference3Ideal.defs _ _).mono (fun r h => ⟨fun c => (h c).2, sem_eq_zero_of_no_sems (by decide) r.2⟩)
    (Cert.Reference3Ideal.Value.run (F := Bits) m g)

/-- The kernel's result and the reference's are one array. -/
theorem algebraic3 : Cert.algebraic_Kernel3Ideal_Reference3Ideal (hKernel3Ideal := Cert.Kernel3Ideal.Gen.facts)
    (hReference3Ideal := Cert.Reference3Ideal.Gen.facts) := fun m g m' g' _ hargs =>
  ⟨fun c => Out.outArr m c,
    (θ_run Cert.Kernel3Ideal.defs _ _).mono (fun _ h c => ⟨(h c).1.trans (Out.arr_eq m c), (h c).2⟩) (Cert.Kernel3Ideal.Value.run_blocks (F := Ideal) m g),
    (θ_run Cert.Reference3Ideal.defs _ _).mono (fun _ h c => by
      obtain ⟨h0, h1, h2, h3, h4, h5, h6, h7⟩ := hargs c
      exact ⟨(h c).1.trans (OutRef.arr_eq_result m m' c h0 h1 h2 h3 h4 h5 h6 h7).symm, (h c).2⟩)
      (Cert.Reference3Ideal.Value.run (F := Ideal) m' g')⟩

/-! ## The preparation -/

theorem frame_kernel4 : Cert.quiescent_Kernel4 (hKernel4 := Cert.Kernel4.Gen.facts) := fun m g _ =>
  Cert.Kernel4.Gen.frame (F := Bits) m g

theorem frame_kernel4Ideal : Cert.quiescent_Kernel4Ideal (hKernel4Ideal := Cert.Kernel4Ideal.Gen.facts) := fun m g _ =>
  Cert.Kernel4Ideal.Gen.frame (F := Ideal) m g

theorem frame_reference4Ideal : Cert.quiescent_Reference4Ideal (hReference4Ideal := Cert.Reference4Ideal.Gen.facts) := fun m g _ =>
  (θ_run Cert.Reference4Ideal.defs _ _).mono (fun r h => ⟨fun c => (h c).2.2.2.2.2.2.2.2.2.2.2, sem_eq_zero_of_no_sems (by decide) r.2⟩)
    (Cert.Reference4Ideal.Value.run (F := Ideal) m g)

theorem frame_reference4 : Cert.quiescent_Reference4 (hReference4 := Cert.Reference4.Gen.facts) := fun m g _ =>
  (θ_run Cert.Reference4Ideal.defs _ _).mono (fun r h => ⟨fun c => (h c).2.2.2.2.2.2.2.2.2.2.2, sem_eq_zero_of_no_sems (by decide) r.2⟩)
    (Cert.Reference4Ideal.Value.run (F := Bits) m g)

/-- The three named constants are the reals they are the words of. -/
theorem preserves4 : Cert.preserves_Kernel4_Kernel4Ideal :=
  ⟨IdealRules.named_const.statement Cert.Kernel4Ideal.κ "scale_a" .f32 0x3E38AA3B#32 _ rfl,
    IdealRules.named_const.statement Cert.Kernel4Ideal.κ "scale_c" .f32 0x3E16C740#32 _ rfl,
    IdealRules.named_const.statement Cert.Kernel4Ideal.κ "inv_qk" .f32 0x3C2AAAAB#32 _ rfl⟩

/-- The kernel's eleven results and the reference's are the same arrays. -/
theorem algebraic4 : Cert.algebraic_Kernel4Ideal_Reference4Ideal (hKernel4Ideal := Cert.Kernel4Ideal.Gen.facts)
    (hReference4Ideal := Cert.Reference4Ideal.Gen.facts) := fun m g m' g' _ hargs =>
  ⟨fun c => Prep.arr0 (Prep.args m c),
    fun c => Prep.arr1 (Prep.args m c),
    fun c => Prep.arr2 (Prep.args m c),
    fun c => Prep.arr3 (Prep.args m c),
    fun c => Prep.arr4 (Prep.args m c),
    fun c => Prep.arr5 (Prep.args m c),
    fun c => Prep.arr6 (Prep.args m c),
    fun c => Prep.arr7 (Prep.args m c),
    fun c => Prep.arr8 (Prep.args m c),
    fun c => Prep.arr9 (Prep.args m c),
    fun c => Prep.arr10 (Prep.args m c),
    Prep.run m g,
    (θ_run Cert.Reference4Ideal.defs _ _).mono (fun _ h c => by
      obtain ⟨a0, a1, a2, a3, a4, a5, a6, a7, a8, a9, a10⟩ := hargs c
      have h := h c
      rw [PrepRef.args_eq m m' c a0 a1 a2 a3 a4 a5 a6 a7 a8 a9 a10] at h
      exact h)
      (PrepRef.run m' g')⟩

theorem claim : Cert.Claim :=
  ⟨Cert.Kernel.Gen.facts, Cert.Kernel2.Gen.facts, Cert.Kernel2Ideal.Gen.facts, Cert.Reference2Ideal.Gen.facts, Cert.Reference2.Gen.facts,
    Cert.Kernel3.Gen.facts, Cert.Kernel3Ideal.Gen.facts, Cert.Reference3Ideal.Gen.facts, Cert.Reference3.Gen.facts,
    Cert.Kernel4.Gen.facts, Cert.Kernel4Ideal.Gen.facts, Cert.Reference4Ideal.Gen.facts, Cert.Reference4.Gen.facts,
    Cert.Pre_real_qk.Gen.facts, frame_kernel, frame_kernel2, frame_kernel2Ideal, fun m g _ => frame_kernel2Ideal m g trivial,
    frame_reference2Ideal, fun m g _ => frame_reference2Ideal m g trivial, frame_reference2,
    frame_kernel3, frame_kernel3Ideal, frame_reference3Ideal, frame_reference3,
    frame_kernel4, frame_kernel4Ideal, frame_reference4Ideal, frame_reference4,
    trivial, trivial, algebraic2, trivial, trivial, algebraic3, preserves4, trivial, algebraic4⟩

end Cert.Proof

end
